-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  IdealRules.bf16_pair.BufferStatement Cert.KernelIdeal.S128x2x128 Cert.KernelIdeal.S128x1x128
  ∧ IdealRules.bf16_pair.Statement Cert.KernelIdeal.S128x2x128 Cert.KernelIdeal.S128x1x128
  ∧ IdealRules.bf16_pair.SelectZeroStatement Cert.KernelIdeal.S128x128
  ∧ IdealRules.bf16_pair.Statement Cert.KernelIdeal.S160x128 Cert.KernelIdeal.S80x128
  ∧ IdealRules.bf16_pair.Statement Cert.KernelIdeal.S80x2x128 Cert.KernelIdeal.S80x1x128
  ∧ IdealRules.bf16_pair.Statement Cert.KernelIdeal.S1x256x2x128 Cert.KernelIdeal.S1x256x1x128
  ∧ IdealRules.bf16_pair.Statement Cert.KernelIdeal.S512x128 Cert.KernelIdeal.S256x128
  ∧ IdealRules.named_const.Statement Cert.KernelIdeal.κ "neg_log2e" .f32 0xBFB8AA3B#32 ((-((Real.log 2)⁻¹) : ℝ) : EReal)
  ∧ IdealRules.bf16_pair.Statement Cert.KernelIdeal.S16x2x128 Cert.KernelIdeal.S16x1x128
  ∧ IdealRules.bf16_pair.Statement Cert.KernelIdeal.S32x128 Cert.KernelIdeal.S16x128
  ∧ IdealRules.named_const.Statement Cert.KernelIdeal.κ "scale_log2e" .f32 0x3E0293EE#32 (((11863283 / 134217728) * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "masked" .f32 0xF149F2CA#32 ⊥
  ∧ IdealRules.named_const.Statement Cert.KernelIdeal.κ "scale" .f32 0x3DB504F3#32 ((11863283 / 134217728 : ℝ) : EReal)

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v12_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S2x512x16x128 : Shape := ⟨4, ![2, 512, 16, 128]⟩
abbrev S2x512x8x128 : Shape := ⟨4, ![2, 512, 8, 128]⟩
abbrev S20x8x128 : Shape := ⟨3, ![20, 8, 128]⟩
abbrev S2x4096x8x128 : Shape := ⟨4, ![2, 4096, 8, 128]⟩
abbrev S2x4096x8 : Shape := ⟨3, ![2, 4096, 8]⟩
abbrev S2 : Shape := ⟨1, ![2]⟩
abbrev S2x512x16 : Shape := ⟨3, ![2, 512, 16]⟩
abbrev S2x16x512 : Shape := ⟨3, ![2, 16, 512]⟩
abbrev S_ : Shape := ⟨0, ![]⟩

class Facts : Prop where
  bcast_S_S2x4096x8 : S_.BroadcastsInDim S2x4096x8 (![] : Fin 0 → Fin S2x4096x8.rank)
  bcast_S_S2x512x16 : S_.BroadcastsInDim S2x512x16 (![] : Fin 0 → Fin S2x512x16.rank)
  bcast_S_S2x16x512 : S_.BroadcastsInDim S2x16x512 (![] : Fin 0 → Fin S2x16x512.rank)
  bcast_S_S2 : S_.BroadcastsInDim S2 (![] : Fin 0 → Fin S2.rank)

variable [Facts]

def fn {F : FTy → Type} [FloatOps F] (main_arg0 : FVec F S2x512x16x128 .bf16) (main_arg1 : FVec F S2x512x8x128 .bf16) (main_arg2 : FVec F S2x512x8x128 .bf16) (main_arg3 : FVec F S20x8x128 .bf16) (main_arg4 : FVec F S20x8x128 .bf16) (main_arg5 : FVec F S2x4096x8x128 .fp8e4m3) (main_arg6 : FVec F S2x4096x8 .f32) (main_arg7 : FVec F S2x4096x8x128 .fp8e4m3) (main_arg8 : FVec F S2x4096x8 .f32) (main_arg9 : IVec S2 32) (main_arg10 : FVec F S2x512x16x128 .fp8e5m2) (main_arg11 : FVec F S2x512x16 .f32) (main_arg12 : FVec F S2x16x512 .f32) (main_arg13 : FVec F S2x512x16x128 .bf16) : IVec S2x4096x8 1 × IVec S2x4096x8 1 × IVec S2x512x16 1 × IVec S2x512x16 1 × IVec S2x16x512 1 × IVec S2x16x512 1 × IVec S2 1 :=
  let main_cst : FVec F S_ .f32 := constant S_ .f32 0x00000000#32
  let main_v0 : FVec F S2x4096x8 .f32 := broadcastInDim S2x4096x8 ![] bcast_S_S2x4096x8 main_cst
  let main_v1 : IVec S2x4096x8 1 := cmpf .ogt main_arg6 main_v0
  let main_cst_0 : FVec F S_ .f32 := constant S_ .f32 0x7F800000#32
  let main_v2 : FVec F S2x4096x8 .f32 := broadcastInDim S2x4096x8 ![] bcast_S_S2x4096x8 main_cst_0
  let main_v3 : IVec S2x4096x8 1 := cmpf .olt main_arg6 main_v2
  let main_cst_1 : FVec F S_ .f32 := constant S_ .f32 0x00000000#32
  let main_v4 : FVec F S2x512x16 .f32 := broadcastInDim S2x512x16 ![] bcast_S_S2x512x16 main_cst_1
  let main_v5 : IVec S2x512x16 1 := cmpf .oge main_arg11 main_v4
  let main_cst_2 : FVec F S_ .f32 := constant S_ .f32 0x7F800000#32
  let main_v6 : FVec F S2x512x16 .f32 := broadcastInDim S2x512x16 ![] bcast_S_S2x512x16 main_cst_2
  let main_v7 : IVec S2x512x16 1 := cmpf .olt main_arg11 main_v6
  let main_cst_3 : FVec F S_ .f32 := constant S_ .f32 0xFF800000#32
  let main_v8 : FVec F S2x16x512 .f32 := broadcastInDim S2x16x512 ![] bcast_S_S2x16x512 main_cst_3
  let main_v9 : IVec S2x16x512 1 := cmpf .ogt main_arg12 main_v8
  let main_cst_4 : FVec F S_ .f32 := constant S_ .f32 0x7F800000#32
  let main_v10 : FVec F S2x16x512 .f32 := broadcastInDim S2x16x512 ![] bcast_S_S2x16x512 main_cst_4
  let main_v11 : IVec S2x16x512 1 := cmpf .olt main_arg12 main_v10
  let main_c : IVec S_ 32 := constantI S_ 32 2147483136#32
  let main_v12 : IVec S2 32 := broadcastInDim S2 ![] bcast_S_S2 main_c
  let main_v13 : IVec S2 1 := cmpi .sle main_arg9 main_v12
  (main_v1, main_v3, main_v5, main_v7, main_v9, main_v11, main_v13)
-- ==== Kernel.lean ====
abbrev S2x512x16x128 : Shape := ⟨4, ![2, 512, 16, 128]⟩
abbrev S2x512x8x128 : Shape := ⟨4, ![2, 512, 8, 128]⟩
abbrev S20x8x128 : Shape := ⟨3, ![20, 8, 128]⟩
abbrev S2x4096x8x128 : Shape := ⟨4, ![2, 4096, 8, 128]⟩
abbrev S2x4096x8 : Shape := ⟨3, ![2, 4096, 8]⟩
abbrev S2 : Shape := ⟨1, ![2]⟩
abbrev S2x512x16 : Shape := ⟨3, ![2, 512, 16]⟩
abbrev S2x16x512 : Shape := ⟨3, ![2, 16, 512]⟩
abbrev S2x8192x128 : Shape := ⟨3, ![2, 8192, 128]⟩
abbrev S2x4096x128 : Shape := ⟨3, ![2, 4096, 128]⟩
abbrev S160x128 : Shape := ⟨2, ![160, 128]⟩
abbrev S2x32768x128 : Shape := ⟨3, ![2, 32768, 128]⟩
abbrev S2x8x4096 : Shape := ⟨3, ![2, 8, 4096]⟩
abbrev S2x20x16x512 : Shape := ⟨4, ![2, 20, 16, 512]⟩
abbrev S1x8192x128 : Shape := ⟨3, ![1, 8192, 128]⟩
abbrev S1x4096x128 : Shape := ⟨3, ![1, 4096, 128]⟩
abbrev S1 : Shape := ⟨1, ![1]⟩
abbrev S1x8x512 : Shape := ⟨3, ![1, 8, 512]⟩
abbrev S1x16x512 : Shape := ⟨3, ![1, 16, 512]⟩
abbrev S1x20x16x512 : Shape := ⟨4, ![1, 20, 16, 512]⟩
abbrev S8x256x1024 : Shape := ⟨3, ![8, 256, 1024]⟩
abbrev S8x128x1024 : Shape := ⟨3, ![8, 128, 1024]⟩
abbrev S8x1x1024 : Shape := ⟨3, ![8, 1, 1024]⟩
abbrev S128x128 : Shape := ⟨2, ![128, 128]⟩
abbrev S8x32x128 : Shape := ⟨3, ![8, 32, 128]⟩
abbrev S512x128 : Shape := ⟨2, ![512, 128]⟩
abbrev S128x512 : Shape := ⟨2, ![128, 512]⟩
abbrev S256x128 : Shape := ⟨2, ![256, 128]⟩
abbrev S80x128 : Shape := ⟨2, ![80, 128]⟩
abbrev S128x256 : Shape := ⟨2, ![128, 256]⟩
abbrev S32x1024 : Shape := ⟨2, ![32, 1024]⟩
abbrev S8192x128 : Shape := ⟨2, ![8192, 128]⟩
abbrev S512x16x128 : Shape := ⟨3, ![512, 16, 128]⟩
abbrev S512x1x128 : Shape := ⟨3, ![512, 1, 128]⟩
abbrev S1024x128 : Shape := ⟨2, ![1024, 128]⟩
abbrev S128x1024 : Shape := ⟨2, ![128, 1024]⟩
abbrev S1x128x1024 : Shape := ⟨3, ![1, 128, 1024]⟩
abbrev S4096x128 : Shape := ⟨2, ![4096, 128]⟩
abbrev S1x4096x2x128 : Shape := ⟨4, ![1, 4096, 2, 128]⟩
abbrev S1x256x2x128 : Shape := ⟨4, ![1, 256, 2, 128]⟩
abbrev S1x256x1x128 : Shape := ⟨4, ![1, 256, 1, 128]⟩
abbrev S1024 : Shape := ⟨1, ![1024]⟩
abbrev S1x1024 : Shape := ⟨2, ![1, 1024]⟩
abbrev S1x1x1024 : Shape := ⟨3, ![1, 1, 1024]⟩
abbrev S1x1x512 : Shape := ⟨3, ![1, 1, 512]⟩
abbrev S1x512 : Shape := ⟨2, ![1, 512]⟩
abbrev S1x128 : Shape := ⟨2, ![1, 128]⟩
abbrev S16x128 : Shape := ⟨2, ![16, 128]⟩
abbrev S32x128 : Shape := ⟨2, ![32, 128]⟩
abbrev S20x128 : Shape := ⟨2, ![20, 128]⟩
abbrev S1x20x1x128 : Shape := ⟨4, ![1, 20, 1, 128]⟩
abbrev S1x32x128 : Shape := ⟨3, ![1, 32, 128]⟩
abbrev S128x32 : Shape := ⟨2, ![128, 32]⟩
abbrev S2048x128 : Shape := ⟨2, ![2048, 128]⟩
abbrev S1x2048x2x128 : Shape := ⟨4, ![1, 2048, 2, 128]⟩
abbrev S1x256 : Shape := ⟨2, ![1, 256]⟩
abbrev S1x128x256 : Shape := ⟨3, ![1, 128, 256]⟩
abbrev S256x256 : Shape := ⟨2, ![256, 256]⟩
abbrev S384x128 : Shape := ⟨2, ![384, 128]⟩
abbrev S384x256 : Shape := ⟨2, ![384, 256]⟩
abbrev S128x384 : Shape := ⟨2, ![128, 384]⟩
abbrev S512x256 : Shape := ⟨2, ![512, 256]⟩
abbrev S8x512 : Shape := ⟨2, ![8, 512]⟩
abbrev S512x8x128 : Shape := ⟨3, ![512, 8, 128]⟩
abbrev S1x256x256 : Shape := ⟨3, ![1, 256, 256]⟩
abbrev S1x1x256 : Shape := ⟨3, ![1, 1, 256]⟩

abbrev nBuf : Space → Nat
  | .hbm => 29
  | .vmem => 43
  | .smem => 1
  | _ => 0

abbrev bufTy : (tb : Table) → Fin (tcTables nBuf tb) → BufTy
  | .hbm, ⟨0, _⟩ => ⟨S2x512x16x128, .bf16⟩
  | .hbm, ⟨1, _⟩ => ⟨S2x512x8x128, .bf16⟩
  | .hbm, ⟨2, _⟩ => ⟨S2x512x8x128, .bf16⟩
  | .hbm, ⟨3, _⟩ => ⟨S20x8x128, .bf16⟩
  | .hbm, ⟨4, _⟩ => ⟨S20x8x128, .bf16⟩
  | .hbm, ⟨5, _⟩ => ⟨S2x4096x8x128, .fp8e4m3⟩
  | .hbm, ⟨6, _⟩ => ⟨S2x4096x8, .f32⟩
  | .hbm, ⟨7, _⟩ => ⟨S2x4096x8x128, .fp8e4m3⟩
  | .hbm, ⟨8, _⟩ => ⟨S2x4096x8, .f32⟩
  | .hbm, ⟨9, _⟩ => ⟨S2x512x16x128, .fp8e5m2⟩
  | .hbm, ⟨10, _⟩ => ⟨S2x512x16, .f32⟩
  | .hbm, ⟨11, _⟩ => ⟨S2x16x512, .f32⟩
  | .hbm, ⟨12, _⟩ => ⟨S2x512x16x128, .bf16⟩
  | .hbm, ⟨13, _⟩ => ⟨S2x8192x128, .bf16⟩
  | .hbm, ⟨14, _⟩ => ⟨S2x8192x128, .bf16⟩
  | .hbm, ⟨15, _⟩ => ⟨S2x8192x128, .fp8e5m2⟩
  | .hbm, ⟨16, _⟩ => ⟨S2x4096x128, .bf16⟩
  | .hbm, ⟨17, _⟩ => ⟨S2x4096x128, .bf16⟩
  | .hbm, ⟨18, _⟩ => ⟨S160x128, .bf16⟩
  | .hbm, ⟨19, _⟩ => ⟨S160x128, .bf16⟩
  | .hbm, ⟨20, _⟩ => ⟨S2x32768x128, .fp8e4m3⟩
  | .hbm, ⟨21, _⟩ => ⟨S2x32768x128, .fp8e4m3⟩
  | .hbm, ⟨22, _⟩ => ⟨S2x8x4096, .f32⟩
  | .hbm, ⟨23, _⟩ => ⟨S2x8x4096, .f32⟩
  | .hbm, ⟨24, _⟩ => ⟨S2x16x512, .f32⟩
  | .hbm, ⟨25, _⟩ => ⟨S2x8192x128, .bf16⟩
  | .hbm, ⟨26, _⟩ => ⟨S2x20x16x512, .f32⟩
  | .hbm, ⟨27, _⟩ => ⟨S160x128, .bf16⟩
  | .hbm, ⟨28, _⟩ => ⟨S160x128, .bf16⟩
  | .local _ .vmem, ⟨0, _⟩ => ⟨S1x8192x128, .bf16⟩
  | .local _ .vmem, ⟨1, _⟩ => ⟨S1x8192x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .fp8e5m2⟩
  | .local _ .vmem, ⟨5, _⟩ => ⟨S1x8192x128, .fp8e5m2⟩
  | .local _ .vmem, ⟨6, _⟩ => ⟨S1x4096x128, .bf16⟩
  | .local _ .vmem, ⟨7, _⟩ => ⟨S1x4096x128, .bf16⟩
  | .local _ .vmem, ⟨8, _⟩ => ⟨S1x4096x128, .bf16⟩
  | .local _ .vmem, ⟨9, _⟩ => ⟨S1x4096x128, .bf16⟩
  | .local _ .vmem, ⟨10, _⟩ => ⟨S160x128, .bf16⟩
  | .local _ .vmem, ⟨11, _⟩ => ⟨S160x128, .bf16⟩
  | .local _ .vmem, ⟨12, _⟩ => ⟨S1x4096x128, .fp8e4m3⟩
  | .local _ .vmem, ⟨13, _⟩ => ⟨S1x4096x128, .fp8e4m3⟩
  | .local _ .vmem, ⟨14, _⟩ => ⟨S1x4096x128, .fp8e4m3⟩
  | .local _ .vmem, ⟨15, _⟩ => ⟨S1x4096x128, .fp8e4m3⟩
  | .local _ .vmem, ⟨16, _⟩ => ⟨S1x8x512, .f32⟩
  | .local _ .vmem, ⟨17, _⟩ => ⟨S1x8x512, .f32⟩
  | .local _ .vmem, ⟨18, _⟩ => ⟨S1x8x512, .f32⟩
  | .local _ .vmem, ⟨19, _⟩ => ⟨S1x8x512, .f32⟩
  | .local _ .vmem, ⟨20, _⟩ => ⟨S1x16x512, .f32⟩
  | .local _ .vmem, ⟨21, _⟩ => ⟨S1x16x512, .f32⟩
  | .local _ .vmem, ⟨22, _⟩ => ⟨S1x16x512, .f32⟩
  | .local _ .vmem, ⟨23, _⟩ => ⟨S1x16x512, .f32⟩
  | .local _ .vmem, ⟨24, _⟩ => ⟨S1x8192x128, .bf16⟩
  | .local _ .vmem, ⟨25, _⟩ => ⟨S1x8192x128, .bf16⟩
  | .local _ .vmem, ⟨26, _⟩ => ⟨S1x20x16x512, .f32⟩
  | .local _ .vmem, ⟨27, _⟩ => ⟨S1x20x16x512, .f32⟩
  | .local _ .vmem, ⟨28, _⟩ => ⟨S160x128, .bf16⟩
  | .local _ .vmem, ⟨29, _⟩ => ⟨S160x128, .bf16⟩
  | .local _ .vmem, ⟨30, _⟩ => ⟨S8x256x1024, .bf16⟩
  | .local _ .vmem, ⟨31, _⟩ => ⟨S8x128x1024, .fp8e5m2⟩
  | .local _ .vmem, ⟨32, _⟩ => ⟨S8x128x1024, .bf16⟩
  | .local _ .vmem, ⟨33, _⟩ => ⟨S8x128x1024, .f32⟩
  | .local _ .vmem, ⟨34, _⟩ => ⟨S8x1x1024, .f32⟩
  | .local _ .vmem, ⟨35, _⟩ => ⟨S8x1x1024, .f32⟩
  | .local _ .vmem, ⟨36, _⟩ => ⟨S128x128, .i32⟩
  | .local _ .vmem, ⟨37, _⟩ => ⟨S128x128, .i32⟩
  | .local _ .vmem, ⟨38, _⟩ => ⟨S8x32x128, .f32⟩
  | .local _ .vmem, ⟨39, _⟩ => ⟨S8x32x128, .f32⟩
  | .local _ .vmem, ⟨40, _⟩ => ⟨S512x128, .bf16⟩
  | .local _ .vmem, ⟨41, _⟩ => ⟨S128x512, .f32⟩
  | .local _ .vmem, ⟨42, _⟩ => ⟨S256x128, .f32⟩
  | .local _ .smem, ⟨0, _⟩ => ⟨S2, .i32⟩
  | _, _ => ⟨S2x512x16x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg10 : Ref sig .tc := ⟨.hbm, 9, rfl⟩
abbrev main_arg11 : Ref sig .tc := ⟨.hbm, 10, rfl⟩
abbrev main_arg12 : Ref sig .tc := ⟨.hbm, 11, rfl⟩
abbrev main_arg13 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12_0 : Ref sig .tc := ⟨.hbm, 25, rfl⟩
abbrev main_v12_1 : Ref sig .tc := ⟨.hbm, 26, rfl⟩
abbrev main_v12_2 : Ref sig .tc := ⟨.hbm, 27, rfl⟩
abbrev main_v12_3 : Ref sig .tc := ⟨.hbm, 28, rfl⟩
abbrev main_arg9 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg16_0 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_scratch4 : Ref sig .tc := ⟨.vmem, 34, rfl⟩
abbrev cc0_scratch5 : Ref sig .tc := ⟨.vmem, 35, rfl⟩
abbrev cc0_scratch6 : Ref sig .tc := ⟨.vmem, 36, rfl⟩
abbrev cc0_scratch7 : Ref sig .tc := ⟨.vmem, 37, rfl⟩
abbrev cc0_scratch8 : Ref sig .tc := ⟨.vmem, 38, rfl⟩
abbrev cc0_scratch9 : Ref sig .tc := ⟨.vmem, 39, rfl⟩
abbrev cc0_scratch10 : Ref sig .tc := ⟨.vmem, 40, rfl⟩
abbrev cc0_scratch11 : Ref sig .tc := ⟨.vmem, 41, rfl⟩
abbrev cc0_scratch12 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem16_0 : DmaSem sig := 29

abbrev nD : Nat := 1
abbrev τ : Topo := Topo.v7x

variable {F : FTy → Type} [BitOps F]

abbrev grid0 : Pipeline.Grid := ⟨2, ![2, 8], ![false, false]⟩

abbrev pre0 : Pipeline.Prefetch sig := ⟨1, ![main_arg9.idx], fun | 0 => main_arg9.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond4 (i : grid0.Coords) : BitVec 1 :=
  let arg1 : BitVec 32 := BitVec.ofNat 32 (i 1).val
  let c7_i32 : BitVec 32 := 7#32
  let v9 : BitVec 1 := Scalar.cmpi .eq arg1 c7_i32
  let v10 : BitVec 32 := Scalar.extui v9
  let c0_i32_6 : BitVec 32 := 0#32
  let v11 : BitVec 1 := Scalar.cmpi .ne v10 c0_i32_6
  v11

def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_4 : BitVec 32 := 0#32
  let v4 : BitVec 1 := Scalar.cmpi .ne v3 c0_i32_4
  v4

def k0_cond5 (i : grid0.Coords) : BitVec 1 :=
  let arg0 : BitVec 32 := BitVec.ofNat 32 (i 0).val
  let c1_i32 : BitVec 32 := 1#32
  let v348 : BitVec 1 := Scalar.cmpi .eq arg0 c1_i32
  let v349 : BitVec 32 := Scalar.extui v348
  let c0_i32_155 : BitVec 32 := 0#32
  let v350 : BitVec 1 := Scalar.cmpi .ne v349 c0_i32_155
  v350

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (k0_off1_inb : ∀ i : grid0.Coords, ∀ a, (k0_off1 i) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S2) ![v0.toNat] S1.size (k0_off1_inb i)) numel1_S1
  let c512_i32 : BitVec 32 := 512#32
  let v2 : BitVec 32 := Scalar.addi v1 c512_i32
  let c1_i32 : BitVec 32 := 1#32
  let v3 : BitVec 32 := Scalar.subi v2 c1_i32
  let c512_i32_0 : BitVec 32 := 512#32
  let v4 : BitVec 32 := Scalar.divsi v3 c512_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c512_i32_0 c0_i32_2
  let v11 : BitVec 32 := Scalar.extui v10
  let c0_i32_3 : BitVec 32 := 0#32
  let v12 : BitVec 1 := Scalar.cmpi .slt c512_i32_0 c0_i32_3
  let v13 : BitVec 32 := Scalar.extui v12
  let v14 : BitVec 32 := Scalar.subi v11 v13
  let v15 : BitVec 1 := Scalar.cmpi .ne v9 v14
  let v16 : BitVec 32 := Scalar.remsi v3 c512_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.subi v20 c1_i32_6
  let c0_i32_7 : BitVec 32 := 0#32
  let v22 : BitVec 32 := Scalar.maxsi v21 c0_i32_7
  let v23 : BitVec 32 := Scalar.minsi arg1 v22
  let c0_i32_8 : BitVec 32 := 0#32
  let c0_i32_9 : BitVec 32 := 0#32
  ![arg0.toNat, v23.toNat, c0_i32_8.toNat]

def cc0_transform_8 (k0_off1_inb : ∀ i : grid0.Coords, ∀ a, (k0_off1 i) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S2) ![v0.toNat] S1.size (k0_off1_inb i)) numel1_S1
  let c512_i32 : BitVec 32 := 512#32
  let v2 : BitVec 32 := Scalar.addi v1 c512_i32
  let c1_i32 : BitVec 32 := 1#32
  let v3 : BitVec 32 := Scalar.subi v2 c1_i32
  let c512_i32_0 : BitVec 32 := 512#32
  let v4 : BitVec 32 := Scalar.divsi v3 c512_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c512_i32_0 c0_i32_2
  let v11 : BitVec 32 := Scalar.extui v10
  let c0_i32_3 : BitVec 32 := 0#32
  let v12 : BitVec 1 := Scalar.cmpi .slt c512_i32_0 c0_i32_3
  let v13 : BitVec 32 := Scalar.extui v12
  let v14 : BitVec 32 := Scalar.subi v11 v13
  let v15 : BitVec 1 := Scalar.cmpi .ne v9 v14
  let v16 : BitVec 32 := Scalar.remsi v3 c512_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.subi v20 c1_i32_6
  let c0_i32_7 : BitVec 32 := 0#32
  let v22 : BitVec 32 := Scalar.maxsi v21 c0_i32_7
  let v23 : BitVec 32 := Scalar.minsi arg1 v22
  let c0_i32_8 : BitVec 32 := 0#32
  let c0_i32_9 : BitVec 32 := 0#32
  ![arg0.toNat, v23.toNat, c0_i32_8.toNat]

def cc0_transform_9 (k0_off1_inb : ∀ i : grid0.Coords, ∀ a, (k0_off1 i) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S2) ![v0.toNat] S1.size (k0_off1_inb i)) numel1_S1
  let c512_i32 : BitVec 32 := 512#32
  let v2 : BitVec 32 := Scalar.addi v1 c512_i32
  let c1_i32 : BitVec 32 := 1#32
  let v3 : BitVec 32 := Scalar.subi v2 c1_i32
  let c512_i32_0 : BitVec 32 := 512#32
  let v4 : BitVec 32 := Scalar.divsi v3 c512_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c512_i32_0 c0_i32_2
  let v11 : BitVec 32 := Scalar.extui v10
  let c0_i32_3 : BitVec 32 := 0#32
  let v12 : BitVec 1 := Scalar.cmpi .slt c512_i32_0 c0_i32_3
  let v13 : BitVec 32 := Scalar.extui v12
  let v14 : BitVec 32 := Scalar.subi v11 v13
  let v15 : BitVec 1 := Scalar.cmpi .ne v9 v14
  let v16 : BitVec 32 := Scalar.remsi v3 c512_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.subi v20 c1_i32_6
  let c0_i32_7 : BitVec 32 := 0#32
  let v22 : BitVec 32 := Scalar.maxsi v21 c0_i32_7
  let v23 : BitVec 32 := Scalar.minsi arg1 v22
  let c0_i32_8 : BitVec 32 := 0#32
  let c0_i32_9 : BitVec 32 := 0#32
  ![arg0.toNat, c0_i32_8.toNat, v23.toNat]

def cc0_transform_10 (k0_off1_inb : ∀ i : grid0.Coords, ∀ a, (k0_off1 i) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S2) ![v0.toNat] S1.size (k0_off1_inb i)) numel1_S1
  let c512_i32 : BitVec 32 := 512#32
  let v2 : BitVec 32 := Scalar.addi v1 c512_i32
  let c1_i32 : BitVec 32 := 1#32
  let v3 : BitVec 32 := Scalar.subi v2 c1_i32
  let c512_i32_0 : BitVec 32 := 512#32
  let v4 : BitVec 32 := Scalar.divsi v3 c512_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c512_i32_0 c0_i32_2
  let v11 : BitVec 32 := Scalar.extui v10
  let c0_i32_3 : BitVec 32 := 0#32
  let v12 : BitVec 1 := Scalar.cmpi .slt c512_i32_0 c0_i32_3
  let v13 : BitVec 32 := Scalar.extui v12
  let v14 : BitVec 32 := Scalar.subi v11 v13
  let v15 : BitVec 1 := Scalar.cmpi .ne v9 v14
  let v16 : BitVec 32 := Scalar.remsi v3 c512_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.subi v20 c1_i32_6
  let c0_i32_7 : BitVec 32 := 0#32
  let v22 : BitVec 32 := Scalar.maxsi v21 c0_i32_7
  let v23 : BitVec 32 := Scalar.minsi arg1 v22
  let c0_i32_8 : BitVec 32 := 0#32
  let c0_i32_9 : BitVec 32 := 0#32
  ![arg0.toNat, c0_i32_8.toNat, v23.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x128 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S160x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S160x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x4096x128 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4096x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x16x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x16x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x8192x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x20x16x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 1 → Memref sig .tc .vmem S160x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S160x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]
-- ==== KernelIdeal.lean ====
abbrev S128x2x128 : Shape := ⟨3, ![128, 2, 128]⟩
abbrev S128x1x128 : Shape := ⟨3, ![128, 1, 128]⟩
abbrev S80x2x128 : Shape := ⟨3, ![80, 2, 128]⟩
abbrev S80x1x128 : Shape := ⟨3, ![80, 1, 128]⟩
abbrev S16x2x128 : Shape := ⟨3, ![16, 2, 128]⟩
abbrev S16x1x128 : Shape := ⟨3, ![16, 1, 128]⟩
  | .local _ .vmem, ⟨36, _⟩ => ⟨S128x2x128, .bf16⟩
  | .local _ .vmem, ⟨37, _⟩ => ⟨S128x2x128, .bf16⟩
variable {F : FTy → Type} [FloatOps F] [Named F]
def κ : String → Option EReal := fun
  | "log2e" => some (((Real.log 2)⁻¹ : ℝ) : EReal)
  | "masked" => some ⊥
  | "neg_log2e" => some ((-((Real.log 2)⁻¹) : ℝ) : EReal)
  | "scale" => some ((11863283 / 134217728 : ℝ) : EReal)
  | "scale_log2e" => some (((11863283 / 134217728) * (Real.log 2)⁻¹ : ℝ) : EReal)
  | _ => none
-- ==== ReferenceIdeal.lean ====
abbrev S2x512x16x128 : Shape := ⟨4, ![2, 512, 16, 128]⟩
abbrev S2x512x8x128 : Shape := ⟨4, ![2, 512, 8, 128]⟩
abbrev S20x8x128 : Shape := ⟨3, ![20, 8, 128]⟩
abbrev S2x4096x8x128 : Shape := ⟨4, ![2, 4096, 8, 128]⟩
abbrev S2x4096x8 : Shape := ⟨3, ![2, 4096, 8]⟩
abbrev S2 : Shape := ⟨1, ![2]⟩
abbrev S2x512x16 : Shape := ⟨3, ![2, 512, 16]⟩
abbrev S2x16x512 : Shape := ⟨3, ![2, 16, 512]⟩
abbrev S2x512x16x1 : Shape := ⟨4, ![2, 512, 16, 1]⟩
abbrev S_ : Shape := ⟨0, ![]⟩
abbrev S2x512x8x2x128 : Shape := ⟨5, ![2, 512, 8, 2, 128]⟩
abbrev S2x8x2x512x1 : Shape := ⟨5, ![2, 8, 2, 512, 1]⟩
abbrev S8x20x2x512x2 : Shape := ⟨5, ![8, 20, 2, 512, 2]⟩
abbrev S2x8x2x512x20 : Shape := ⟨5, ![2, 8, 2, 512, 20]⟩
abbrev S8x128x2x2x512 : Shape := ⟨5, ![8, 128, 2, 2, 512]⟩
abbrev S2x8x512x512x2 : Shape := ⟨5, ![2, 8, 512, 512, 2]⟩
abbrev S2x8x2x512x512 : Shape := ⟨5, ![2, 8, 2, 512, 512]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S2x8x128x2x512 : Shape := ⟨5, ![2, 8, 128, 2, 512]⟩
abbrev S2x8x4096 : Shape := ⟨3, ![2, 8, 4096]⟩
abbrev S2x8x1x1x4096 : Shape := ⟨5, ![2, 8, 1, 1, 4096]⟩
abbrev S4096 : Shape := ⟨1, ![4096]⟩
abbrev S1x4096 : Shape := ⟨2, ![1, 4096]⟩
abbrev S2x1 : Shape := ⟨2, ![2, 1]⟩
abbrev S2x4096 : Shape := ⟨2, ![2, 4096]⟩
abbrev S2x1x1x1x4096 : Shape := ⟨5, ![2, 1, 1, 1, 4096]⟩
abbrev S2x8x4096x512x2 : Shape := ⟨5, ![2, 8, 4096, 512, 2]⟩
abbrev S2x8x2x512x4096 : Shape := ⟨5, ![2, 8, 2, 512, 4096]⟩
abbrev S2x8192x128 : Shape := ⟨3, ![2, 8192, 128]⟩

abbrev nBuf : Space → Nat
  | .hbm => 127
  | .vmem => 6
  | .smem => 0
  | _ => 0

abbrev bufTy : (tb : Table) → Fin (tcTables nBuf tb) → BufTy
  | .hbm, ⟨0, _⟩ => ⟨S2x512x16x128, .bf16⟩
  | .hbm, ⟨1, _⟩ => ⟨S2x512x8x128, .bf16⟩
  | .hbm, ⟨2, _⟩ => ⟨S2x512x8x128, .bf16⟩
  | .hbm, ⟨3, _⟩ => ⟨S20x8x128, .bf16⟩
  | .hbm, ⟨4, _⟩ => ⟨S20x8x128, .bf16⟩
  | .hbm, ⟨5, _⟩ => ⟨S2x4096x8x128, .fp8e4m3⟩
  | .hbm, ⟨6, _⟩ => ⟨S2x4096x8, .f32⟩
  | .hbm, ⟨7, _⟩ => ⟨S2x4096x8x128, .fp8e4m3⟩
  | .hbm, ⟨8, _⟩ => ⟨S2x4096x8, .f32⟩
  | .hbm, ⟨9, _⟩ => ⟨S2, .i32⟩
  | .hbm, ⟨10, _⟩ => ⟨S2x512x16x128, .fp8e5m2⟩
  | .hbm, ⟨11, _⟩ => ⟨S2x512x16, .f32⟩
  | .hbm, ⟨12, _⟩ => ⟨S2x16x512, .f32⟩
  | .hbm, ⟨13, _⟩ => ⟨S2x512x16x128, .bf16⟩
  | .hbm, ⟨14, _⟩ => ⟨S2x512x16x128, .bf16⟩
  | .hbm, ⟨15, _⟩ => ⟨S2x4096x8x128, .bf16⟩
  | .hbm, ⟨16, _⟩ => ⟨S2x4096x8x128, .bf16⟩
  | .hbm, ⟨17, _⟩ => ⟨S2x512x16x128, .f32⟩
  | .hbm, ⟨18, _⟩ => ⟨S2x512x16x1, .f32⟩
  | .hbm, ⟨19, _⟩ => ⟨S2x512x16x128, .f32⟩
  | .hbm, ⟨20, _⟩ => ⟨S2x512x16x128, .f32⟩
  | .hbm, ⟨21, _⟩ => ⟨S2x512x16x128, .f32⟩
  | .hbm, ⟨22, _⟩ => ⟨S2x512x16x128, .f32⟩
  | .hbm, ⟨23, _⟩ => ⟨S_, .f32⟩
  | .hbm, ⟨24, _⟩ => ⟨S2x512x16, .f32⟩
  | .hbm, ⟨25, _⟩ => ⟨S2x512x8x2x128, .bf16⟩
  | .hbm, ⟨26, _⟩ => ⟨S2x512x8x2x128, .bf16⟩
  | .hbm, ⟨27, _⟩ => ⟨S2x16x512, .f32⟩
  | .hbm, ⟨28, _⟩ => ⟨S2x8x2x512x1, .f32⟩
  | .hbm, ⟨29, _⟩ => ⟨S2x16x512, .f32⟩
  | .hbm, ⟨30, _⟩ => ⟨S2x8x2x512x1, .f32⟩
  | .hbm, ⟨31, _⟩ => ⟨S2x8x2x512x1, .f32⟩
  | .hbm, ⟨32, _⟩ => ⟨S8x20x2x512x2, .f32⟩
  | .hbm, ⟨33, _⟩ => ⟨S2x8x2x512x20, .f32⟩
  | .hbm, ⟨34, _⟩ => ⟨S_, .f32⟩
  | .hbm, ⟨35, _⟩ => ⟨S2x8x2x512x20, .f32⟩
  | .hbm, ⟨36, _⟩ => ⟨S2x8x2x512x20, .f32⟩
  | .hbm, ⟨37, _⟩ => ⟨S2x8x2x512x20, .f32⟩
  | .hbm, ⟨38, _⟩ => ⟨S2x8x2x512x20, .f32⟩
  | .hbm, ⟨39, _⟩ => ⟨S2x8x2x512x20, .f32⟩
  | .hbm, ⟨40, _⟩ => ⟨S8x20x2x512x2, .f32⟩
  | .hbm, ⟨41, _⟩ => ⟨S2x8x2x512x20, .f32⟩
  | .hbm, ⟨42, _⟩ => ⟨S2x8x2x512x20, .f32⟩
  | .hbm, ⟨43, _⟩ => ⟨S2x8x2x512x20, .f32⟩
  | .hbm, ⟨44, _⟩ => ⟨S2x8x2x512x20, .f32⟩
  | .hbm, ⟨45, _⟩ => ⟨S2x8x2x512x20, .f32⟩
  | .hbm, ⟨46, _⟩ => ⟨S2x8x2x512x20, .f32⟩
  | .hbm, ⟨47, _⟩ => ⟨S2x8x2x512x20, .bf16⟩
  | .hbm, ⟨48, _⟩ => ⟨S8x128x2x2x512, .f32⟩
  | .hbm, ⟨49, _⟩ => ⟨S2x512x8x2x128, .f32⟩
  | .hbm, ⟨50, _⟩ => ⟨S2x8x512x512x2, .f32⟩
  | .hbm, ⟨51, _⟩ => ⟨S2x8x2x512x512, .f32⟩
  | .hbm, ⟨52, _⟩ => ⟨S_, .f32⟩
  | .hbm, ⟨53, _⟩ => ⟨S2x8x2x512x512, .f32⟩
  | .hbm, ⟨54, _⟩ => ⟨S2x8x2x512x512, .f32⟩
  | .hbm, ⟨55, _⟩ => ⟨S512, .i32⟩
  | .hbm, ⟨56, _⟩ => ⟨S512x1, .i32⟩
  | .hbm, ⟨57, _⟩ => ⟨S512, .i32⟩
  | .hbm, ⟨58, _⟩ => ⟨S1x512, .i32⟩
  | .hbm, ⟨59, _⟩ => ⟨S512x512, .i32⟩
  | .hbm, ⟨60, _⟩ => ⟨S512x512, .i32⟩
  | .hbm, ⟨61, _⟩ => ⟨S512x512, .i1⟩
  | .hbm, ⟨62, _⟩ => ⟨S_, .f32⟩
  | .hbm, ⟨63, _⟩ => ⟨S_, .f32⟩
  | .hbm, ⟨64, _⟩ => ⟨S2x8x2x512x512, .i1⟩
  | .hbm, ⟨65, _⟩ => ⟨S2x8x2x512x512, .f32⟩
  | .hbm, ⟨66, _⟩ => ⟨S2x8x2x512x512, .f32⟩
  | .hbm, ⟨67, _⟩ => ⟨S2x8x2x512x512, .f32⟩
  | .hbm, ⟨68, _⟩ => ⟨S2x8x2x512x512, .f32⟩
  | .hbm, ⟨69, _⟩ => ⟨S2x8x2x512x512, .f32⟩
  | .hbm, ⟨70, _⟩ => ⟨S2x8x512x512x2, .f32⟩
  | .hbm, ⟨71, _⟩ => ⟨S2x8x2x512x512, .f32⟩
  | .hbm, ⟨72, _⟩ => ⟨S2x8x2x512x512, .f32⟩
  | .hbm, ⟨73, _⟩ => ⟨S2x8x2x512x512, .f32⟩
  | .hbm, ⟨74, _⟩ => ⟨S2x8x2x512x512, .f32⟩
  | .hbm, ⟨75, _⟩ => ⟨S2x8x2x512x512, .f32⟩
  | .hbm, ⟨76, _⟩ => ⟨S2x8x2x512x512, .f32⟩
  | .hbm, ⟨77, _⟩ => ⟨S2x8x2x512x512, .bf16⟩
  | .hbm, ⟨78, _⟩ => ⟨S2x8x128x2x512, .f32⟩
  | .hbm, ⟨79, _⟩ => ⟨S2x512x8x2x128, .f32⟩
  | .hbm, ⟨80, _⟩ => ⟨S2x8x4096, .f32⟩
  | .hbm, ⟨81, _⟩ => ⟨S2x8x1x1x4096, .f32⟩
  | .hbm, ⟨82, _⟩ => ⟨S2x8x4096, .f32⟩
  | .hbm, ⟨83, _⟩ => ⟨S2x8x1x1x4096, .f32⟩
  | .hbm, ⟨84, _⟩ => ⟨S4096, .i32⟩
  | .hbm, ⟨85, _⟩ => ⟨S1x4096, .i32⟩
  | .hbm, ⟨86, _⟩ => ⟨S2x1, .i32⟩
  | .hbm, ⟨87, _⟩ => ⟨S2x4096, .i32⟩
  | .hbm, ⟨88, _⟩ => ⟨S2x4096, .i32⟩
  | .hbm, ⟨89, _⟩ => ⟨S2x4096, .i1⟩
  | .hbm, ⟨90, _⟩ => ⟨S2x1x1x1x4096, .i1⟩
  | .hbm, ⟨91, _⟩ => ⟨S2x8x4096x512x2, .f32⟩
  | .hbm, ⟨92, _⟩ => ⟨S2x8x2x512x4096, .f32⟩
  | .hbm, ⟨93, _⟩ => ⟨S_, .f32⟩
  | .hbm, ⟨94, _⟩ => ⟨S2x8x2x512x4096, .f32⟩
  | .hbm, ⟨95, _⟩ => ⟨S2x8x2x512x4096, .f32⟩
  | .hbm, ⟨96, _⟩ => ⟨S2x8x2x512x4096, .f32⟩
  | .hbm, ⟨97, _⟩ => ⟨S2x8x2x512x4096, .f32⟩
  | .hbm, ⟨98, _⟩ => ⟨S_, .f32⟩
  | .hbm, ⟨99, _⟩ => ⟨S_, .f32⟩
  | .hbm, ⟨100, _⟩ => ⟨S2x8x2x512x4096, .i1⟩
  | .hbm, ⟨101, _⟩ => ⟨S2x8x2x512x4096, .f32⟩
  | .hbm, ⟨102, _⟩ => ⟨S2x8x2x512x4096, .f32⟩
  | .hbm, ⟨103, _⟩ => ⟨S2x8x2x512x4096, .f32⟩
  | .hbm, ⟨104, _⟩ => ⟨S2x8x2x512x4096, .f32⟩
  | .hbm, ⟨105, _⟩ => ⟨S2x8x2x512x4096, .f32⟩
  | .hbm, ⟨106, _⟩ => ⟨S2x8x4096x512x2, .f32⟩
  | .hbm, ⟨107, _⟩ => ⟨S2x8x2x512x4096, .f32⟩
  | .hbm, ⟨108, _⟩ => ⟨S2x8x2x512x4096, .f32⟩
  | .hbm, ⟨109, _⟩ => ⟨S2x8x2x512x4096, .f32⟩
  | .hbm, ⟨110, _⟩ => ⟨S2x8x2x512x4096, .f32⟩
  | .hbm, ⟨111, _⟩ => ⟨S2x8x2x512x4096, .f32⟩
  | .hbm, ⟨112, _⟩ => ⟨S2x8x2x512x4096, .f32⟩
  | .hbm, ⟨113, _⟩ => ⟨S2x8x2x512x4096, .f32⟩
  | .hbm, ⟨114, _⟩ => ⟨S2x8x2x512x4096, .f32⟩
  | .hbm, ⟨115, _⟩ => ⟨S2x8x2x512x4096, .f32⟩
  | .hbm, ⟨116, _⟩ => ⟨S2x8x2x512x4096, .f32⟩
  | .hbm, ⟨117, _⟩ => ⟨S2x8x2x512x4096, .bf16⟩
  | .hbm, ⟨118, _⟩ => ⟨S2x8x128x2x512, .f32⟩
  | .hbm, ⟨119, _⟩ => ⟨S2x512x8x2x128, .f32⟩
  | .hbm, ⟨120, _⟩ => ⟨S2x512x8x2x128, .f32⟩
  | .hbm, ⟨121, _⟩ => ⟨S2x512x8x2x128, .f32⟩
  | .hbm, ⟨122, _⟩ => ⟨S_, .f32⟩
  | .hbm, ⟨123, _⟩ => ⟨S2x512x8x2x128, .f32⟩
  | .hbm, ⟨124, _⟩ => ⟨S2x512x8x2x128, .f32⟩
  | .hbm, ⟨125, _⟩ => ⟨S2x512x8x2x128, .bf16⟩
  | .hbm, ⟨126, _⟩ => ⟨S2x8192x128, .bf16⟩
  | .local _ .vmem, ⟨0, _⟩ => ⟨S2x512x16x128, .fp8e5m2⟩
  | .local _ .vmem, ⟨1, _⟩ => ⟨S2x4096x8x128, .fp8e4m3⟩
  | .local _ .vmem, ⟨2, _⟩ => ⟨S2x4096x8x128, .fp8e4m3⟩
  | .local _ .vmem, ⟨3, _⟩ => ⟨S2x512x16x128, .bf16⟩
  | .local _ .vmem, ⟨4, _⟩ => ⟨S2x4096x8x128, .bf16⟩
  | .local _ .vmem, ⟨5, _⟩ => ⟨S2x4096x8x128, .bf16⟩
  | _, _ => ⟨S2x512x16x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_v0_2 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_0 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_1 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_2 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_3 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_4 : Ref sig .tc := ⟨.hbm, 98, rfl⟩
abbrev main_call1_v0 : Ref sig .tc := ⟨.hbm, 99, rfl⟩
abbrev main_call1_v1 : Ref sig .tc := ⟨.hbm, 100, rfl⟩
abbrev main_call1_v2 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_cst_5 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

def κ : String → Option EReal := fun
  | "scale" => some ((11863283 / 134217728 : ℝ) : EReal)
  | _ => none

abbrev grid0 : Pipeline.Grid := .none

abbrev stage0_0 : Fin 1 → Memref sig .tc .vmem S2x512x16x128 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x4096x8x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x4096x8x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x16x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x4096x8x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x4096x8x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Kernel.Base.lean ====
module

public import proofs.«01_k».proof.Proof.Gen.Kernel.Launch
public import proofs.«01_k».proof.Proof.Gen.Kernel.Skeleton
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S2 .i32 := Memref.whole main_arg9
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of (hO : Ok m) {c : Dev nD} (dat : Dat τ (Elt F) Unit ℕ (UR sig nD τ) ℕ (cfgM m hO) c) (hA : dat.A 9 = V m c (Pipeline.arrRef spec0 9))
    (hafter : ∀ t, dat.after 9 t = iblk m hO c 9 t) (t : Fin (cfgM m hO).N) (d) : dat.before 9 t d = iblk m hO c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of (hO : Ok m) {c : Dev nD} (dat : Dat τ (Elt F) Unit ℕ (UR sig nD τ) ℕ (cfgM m hO) c) (hA : dat.A 10 = V m c (Pipeline.arrRef spec0 10))
    (hafter : ∀ t, dat.after 10 t = iblk m hO c 10 t) (t : Fin (cfgM m hO).N) (d) : dat.before 10 t d = iblk m hO c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of (hO : Ok m) {c : Dev nD} (dat : Dat τ (Elt F) Unit ℕ (UR sig nD τ) ℕ (cfgM m hO) c) (hA : dat.A 11 = V m c (Pipeline.arrRef spec0 11))
    (hafter : ∀ t, dat.after 11 t = iblk m hO c 11 t) (t : Fin (cfgM m hO).N) (d) : dat.before 11 t d = iblk m hO c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of (hO : Ok m) {c : Dev nD} (dat : Dat τ (Elt F) Unit ℕ (UR sig nD τ) ℕ (cfgM m hO) c) (hA : dat.A 12 = V m c (Pipeline.arrRef spec0 12))
    (hafter : ∀ t, dat.after 12 t = iblk m hO c 12 t) (t : Fin (cfgM m hO).N) (d) : dat.before 12 t d = iblk m hO c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1020000 in
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c),
      ((h c).2 main_arg8 (by decide : main_arg8 ∈ Pipeline.restRefs sig spec0)).trans (V_main_arg8 m c),
      ((h c).2 main_arg9 (by decide : main_arg9 ∈ Pipeline.restRefs sig spec0)).trans (V_main_arg9 m c),
      ((h c).2 main_arg10 (by decide : main_arg10 ∈ Pipeline.restRefs sig spec0)).trans (V_main_arg10 m c),
      ((h c).2 main_arg11 (by decide : main_arg11 ∈ Pipeline.restRefs sig spec0)).trans (V_main_arg11 m c),
      (Pipeline.RDat.FramePost.arr_in h c 12 rfl).trans ((hA c 12).trans (V_main_arg12 m c)),
      ((h c).2 main_arg13 (by decide : main_arg13 ∈ Pipeline.restRefs sig spec0)).trans (V_main_arg13 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 8) — by arithmetic of the point. -/
theorem hcond0_0 : ∀ t : Fin grid0.N, cond0_0 (grid0.coords t) ↔ t.val % 8 = 0 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_0, k0_cond1, e0, e1]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 0).val) 0#32)) 0#32) = 1#1
/-- It holds at the points before point 8 — by arithmetic of the point. -/
theorem hcond0_1 : ∀ t : Fin grid0.N, cond0_1 (grid0.coords t) ↔ t.val < 8 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_1, e0, e1]
    word_cmp
   : ∀ t : Fin grid0.N, cond0_1 (grid0.coords t) ↔ t.val < 8)

/-- The condition of the body's `scf.if` 2: over WORDS the body reads from its tables or input SMEM windows
    (`v1`), so no function of the point — a case variable: a hypothesis of each run, a `by_cases`
    of the obligation and an `if` of `outsAt`, stated over the argument blocks' words there. -/
abbrev cond0_2 (i : grid0.Coords) (v1 : BitVec 32) : Prop := (Scalar.cmpi .ne (Scalar.extui (Scalar.cmpi .slt (Scalar.muli (BitVec.ofNat 32 (i 1).val) 512#32) v1)) 0#32) = 1#1

/-- The condition of the body's `scf.if` 3 (`k0_h4`), from the grid coordinates (the skeleton's scalar
    chain substituted). -/
abbrev cond0_3 (i : grid0.Coords) : Prop := k0_cond4 i = 1#1
/-- It holds at the points ≡ 7 (mod 8) — by arithmetic of the point. -/
theorem hcond0_3 : ∀ t : Fin grid0.N, cond0_3 (grid0.coords t) ↔ t.val % 8 = 7 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_3, k0_cond4, e0, e1]
    word_cmp
   : ∀ t : Fin grid0.N, cond0_3 (grid0.coords t) ↔ t.val % 8 = 7)

/-- The condition of the body's `scf.if` 4 (`k0_h5`), from the grid coordinates (the skeleton's scalar
    chain substituted). -/
abbrev cond0_4 (i : grid0.Coords) : Prop := k0_cond5 i = 1#1
/-- It holds at the points from point 8 on — by arithmetic of the point. -/
theorem hcond0_4 : ∀ t : Fin grid0.N, cond0_4 (grid0.coords t) ↔ 8 ≤ t.val :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_4, k0_cond5, e0, e1]
    word_cmp
   : ∀ t : Fin grid0.N, cond0_4 (grid0.coords t) ↔ 8 ≤ t.val)

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  (fun _ => rfl : ∀ t : Fin grid0.N, idle0 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 2 (grid0.coords t) = false)
/-- Window 3 is never idle (an input). -/
theorem liveAt0_3 (hO : Ok m) : ∀ t : Fin (cfgM m hO).N, (cfgM m hO).idle 3 (grid0.coords t) = false :=
  (fun _ => rfl : ∀ t : Fin grid0.N, idle0 3 (grid0.coords t) = false)
/-- Window 4 is never idle (an input). -/
theorem liveAt0_4 (hO : Ok m) : ∀ t : Fin (cfgM m hO).N, (cfgM m hO).idle 4 (grid0.coords t) = false :=
  (fun _ => rfl : ∀ t : Fin grid0.N, idle0 4 (grid0.coords t) = false)
/-- Window 5 is never idle (an input). -/
theorem liveAt0_5 (hO : Ok m) : ∀ t : Fin (cfgM m hO).N, (cfgM m hO).idle 5 (grid0.coords t) = false :=
  (fun _ => rfl : ∀ t : Fin grid0.N, idle0 5 (grid0.coords t) = false)
/-- Window 6 is never idle (an input). -/
theorem liveAt0_6 (hO : Ok m) : ∀ t : Fin (cfgM m hO).N, (cfgM m hO).idle 6 (grid0.coords t) = false :=
  (fun _ => rfl : ∀ t : Fin grid0.N, idle0 6 (grid0.coords t) = false)
/-- Window 7 is never idle (an input). -/
theorem liveAt0_7 (hO : Ok m) : ∀ t : Fin (cfgM m hO).N, (cfgM m hO).idle 7 (grid0.coords t) = false :=
  (fun _ => rfl : ∀ t : Fin grid0.N, idle0 7 (grid0.coords t) = false)
/-- Window 8 is never idle (an input). -/
theorem liveAt0_8 (hO : Ok m) : ∀ t : Fin (cfgM m hO).N, (cfgM m hO).idle 8 (grid0.coords t) = false :=
  (fun _ => rfl : ∀ t : Fin grid0.N, idle0 8 (grid0.coords t) = false)
/-- Window 9 is never idle (an input). -/
theorem liveAt0_9 (hO : Ok m) : ∀ t : Fin (cfgM m hO).N, (cfgM m hO).idle 9 (grid0.coords t) = false :=
  (fun _ => rfl : ∀ t : Fin grid0.N, idle0 9 (grid0.coords t) = false)
/-- Window 10 is never idle (an input). -/
theorem liveAt0_10 (hO : Ok m) : ∀ t : Fin (cfgM m hO).N, (cfgM m hO).idle 10 (grid0.coords t) = false :=
  (fun _ => rfl : ∀ t : Fin grid0.N, idle0 10 (grid0.coords t) = false)
/-- Window 11 is never idle (an input). -/
theorem liveAt0_11 (hO : Ok m) : ∀ t : Fin (cfgM m hO).N, (cfgM m hO).idle 11 (grid0.coords t) = false :=
  (fun _ => rfl : ∀ t : Fin grid0.N, idle0 11 (grid0.coords t) = false)
/-- Window 12 is never idle (an input). -/
theorem liveAt0_12 (hO : Ok m) : ∀ t : Fin (cfgM m hO).N, (cfgM m hO).idle 12 (grid0.coords t) = false :=
  (fun _ => rfl : ∀ t : Fin grid0.N, idle0 12 (grid0.coords t) = false)
/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x8192x128 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x8192x128 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x8192x128 .fp8e5m2 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x4096x128 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x4096x128 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S160x128 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S160x128 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x4096x128 .fp8e4m3 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x4096x128 .fp8e4m3 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x8x512 .f32 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S1x8x512 .f32 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S1x16x512 .f32 := spec0_11.stage ((cfgM m hO).slots t 11)
abbrev hs0_11 (hO : Ok m) (t : Fin (cfgM m hO).N) : (ms0_11 m hO t).IsWhole := hstage0_11 (((cfgM m hO).slots t 11).cast nbuf0_11)
abbrev ms0_12 (hO : Ok m) (t : Fin (cfgM m hO).N) : Memref sig .tc .vmem S1x16x512 .f32 := spec0_12.stage ((cfgM m hO).slots t 12)
abbrev hs0_12 (hO : Ok m) (t : Fin (cfgM m hO).N) : (ms0_12 m hO t).IsWhole := hstage0_12 (((cfgM m hO).slots t 12).cast nbuf0_12)
abbrev ms0_13 (hO : Ok m) (t : Fin (cfgM m hO).N) : Memref sig .tc .vmem S1x8192x128 .bf16 := spec0_13.stage ((cfgM m hO).slots t 13)
abbrev hs0_13 (hO : Ok m) (t : Fin (cfgM m hO).N) : (ms0_13 m hO t).IsWhole := hstage0_13 (((cfgM m hO).slots t 13).cast nbuf0_13)
abbrev ms0_14 (hO : Ok m) (t : Fin (cfgM m hO).N) : Memref sig .tc .vmem S1x20x16x512 .f32 := spec0_14.stage ((cfgM m hO).slots t 14)
abbrev hs0_14 (hO : Ok m) (t : Fin (cfgM m hO).N) : (ms0_14 m hO t).IsWhole := hstage0_14 (((cfgM m hO).slots t 14).cast nbuf0_14)
abbrev ms0_15 (hO : Ok m) (t : Fin (cfgM m hO).N) : Memref sig .tc .vmem S160x128 .bf16 := spec0_15.stage ((cfgM m hO).slots t 15)
abbrev hs0_15 (hO : Ok m) (t : Fin (cfgM m hO).N) : (ms0_15 m hO t).IsWhole := hstage0_15 (((cfgM m hO).slots t 15).cast nbuf0_15)
abbrev ms0_16 (hO : Ok m) (t : Fin (cfgM m hO).N) : Memref sig .tc .vmem S160x128 .bf16 := spec0_16.stage ((cfgM m hO).slots t 16)
abbrev hs0_16 (hO : Ok m) (t : Fin (cfgM m hO).N) : (ms0_16 m hO t).IsWhole := hstage0_16 (((cfgM m hO).slots t 16).cast nbuf0_16)
/-- The scratch operands: whole scoped buffers of the kernel's own, passed beside the windows. -/
abbrev scM0_0 : Memref sig .tc .vmem S8x256x1024 .bf16 := Memref.whole cc0_scratch0
abbrev scM0_1 : Memref sig .tc .vmem S8x128x1024 .fp8e5m2 := Memref.whole cc0_scratch1
abbrev scM0_2 : Memref sig .tc .vmem S8x128x1024 .bf16 := Memref.whole cc0_scratch2
abbrev scM0_3 : Memref sig .tc .vmem S8x128x1024 .f32 := Memref.whole cc0_scratch3
abbrev scM0_4 : Memref sig .tc .vmem S8x1x1024 .f32 := Memref.whole cc0_scratch4
abbrev scM0_5 : Memref sig .tc .vmem S8x1x1024 .f32 := Memref.whole cc0_scratch5
abbrev scM0_6 : Memref sig .tc .vmem S128x128 .i32 := Memref.whole cc0_scratch6
abbrev scM0_7 : Memref sig .tc .vmem S128x128 .i32 := Memref.whole cc0_scratch7
abbrev scM0_8 : Memref sig .tc .vmem S8x32x128 .f32 := Memref.whole cc0_scratch8
abbrev scM0_9 : Memref sig .tc .vmem S8x32x128 .f32 := Memref.whole cc0_scratch9
abbrev scM0_10 : Memref sig .tc .vmem S512x128 .bf16 := Memref.whole cc0_scratch10
abbrev scM0_11 : Memref sig .tc .vmem S128x512 .f32 := Memref.whole cc0_scratch11
abbrev scM0_12 : Memref sig .tc .vmem S256x128 .f32 := Memref.whole cc0_scratch12
/-- The scratch `arg20` the kernel carries between points, as a view: what it holds is stated through it. -/
abbrev VS0_0 : View sig .tc .vmem S8x256x1024 .bf16 := scM0_0.view
/-- The scratch `arg21` the kernel carries between points, as a view: what it holds is stated through it. -/
abbrev VS0_1 : View sig .tc .vmem S8x128x1024 .fp8e5m2 := scM0_1.view
/-- The scratch `arg23` the kernel carries between points, as a view: what it holds is stated through it. -/
abbrev VS0_3 : View sig .tc .vmem S8x128x1024 .f32 := scM0_3.view
/-- The scratch `arg24` the kernel carries between points, as a view: what it holds is stated through it. -/
abbrev VS0_4 : View sig .tc .vmem S8x1x1024 .f32 := scM0_4.view
/-- The scratch `arg26` the kernel carries between points, as a view: what it holds is stated through it. -/
abbrev VS0_6 : View sig .tc .vmem S128x128 .i32 := scM0_6.view
/-- The scratch `arg27` the kernel carries between points, as a view: what it holds is stated through it. -/
abbrev VS0_7 : View sig .tc .vmem S128x128 .i32 := scM0_7.view
/-- The scratch `arg28` the kernel carries between points, as a view: what it holds is stated through it. -/
abbrev VS0_8 : View sig .tc .vmem S8x32x128 .f32 := scM0_8.view
/-- The scratch `arg29` the kernel carries between points, as a view: what it holds is stated through it. -/
abbrev VS0_9 : View sig .tc .vmem S8x32x128 .f32 := scM0_9.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d)) ∗ (∃ r, prngReg c r)) := by
  unfold Pipeline.ΦA; rw [scopedRest0_eq]; simp only [scM0_0, scM0_1, scM0_2, scM0_3, scM0_4, scM0_5, scM0_6, scM0_7, scM0_8, scM0_9, scM0_10, scM0_11, scM0_12, owns_whole]; try rfl

end Cert.Kernel.Gen

end
-- ==== Proof.Kernel.Blocks.lean ====
module

public import proofs.«01_k».proof.Proof.Kernel.Base

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (i : grid0.Coords) (arg2 : Memref sig .tc .smem S2 .i32) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x8192x128 .fp8e5m2) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S160x128 .bf16) (harg8 : arg8.IsWhole) (arg9 : Memref sig .tc .vmem S160x128 .bf16) (harg9 : arg9.IsWhole) (arg10 : Memref sig .tc .vmem S1x4096x128 .fp8e4m3) (harg10 : arg10.IsWhole) (arg11 : Memref sig .tc .vmem S1x4096x128 .fp8e4m3) (harg11 : arg11.IsWhole) (arg12 : Memref sig .tc .vmem S1x8x512 .f32) (harg12 : arg12.IsWhole) (arg13 : Memref sig .tc .vmem S1x8x512 .f32) (harg13 : arg13.IsWhole) (arg14 : Memref sig .tc .vmem S1x16x512 .f32) (harg14 : arg14.IsWhole) (arg15 : Memref sig .tc .vmem S1x16x512 .f32) (harg15 : arg15.IsWhole) (arg16 : Memref sig .tc .vmem S1x8192x128 .bf16) (harg16 : arg16.IsWhole) (arg17 : Memref sig .tc .vmem S1x20x16x512 .f32) (harg17 : arg17.IsWhole) (arg18 : Memref sig .tc .vmem S160x128 .bf16) (harg18 : arg18.IsWhole) (arg19 : Memref sig .tc .vmem S160x128 .bf16) (harg19 : arg19.IsWhole) (arg20 : Memref sig .tc .vmem S8x256x1024 .bf16) (harg20 : arg20.IsWhole) (arg21 : Memref sig .tc .vmem S8x128x1024 .fp8e5m2) (harg21 : arg21.IsWhole) (arg22 : Memref sig .tc .vmem S8x128x1024 .bf16) (harg22 : arg22.IsWhole) (arg23 : Memref sig .tc .vmem S8x128x1024 .f32) (harg23 : arg23.IsWhole) (arg24 : Memref sig .tc .vmem S8x1x1024 .f32) (harg24 : arg24.IsWhole) (arg25 : Memref sig .tc .vmem S8x1x1024 .f32) (harg25 : arg25.IsWhole) (arg26 : Memref sig .tc .vmem S128x128 .i32) (harg26 : arg26.IsWhole) (arg27 : Memref sig .tc .vmem S128x128 .i32) (harg27 : arg27.IsWhole) (arg28 : Memref sig .tc .vmem S8x32x128 .f32) (harg28 : arg28.IsWhole) (arg29 : Memref sig .tc .vmem S8x32x128 .f32) (harg29 : arg29.IsWhole) (arg30 : Memref sig .tc .vmem S512x128 .bf16) (harg30 : arg30.IsWhole) (arg31 : Memref sig .tc .vmem S128x512 .f32) (harg31 : arg31.IsWhole) (arg32 : Memref sig .tc .vmem S256x128 .f32) (harg32 : arg32.IsWhole)

/-- The initialisation of the kernel’s first point (prefix keys and values copied, the prefix sums cleared), then `jp`. -/
noncomputable def initB (i : grid0.Coords) (arg2 : Memref sig .tc .smem S2 .i32) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x8192x128 .fp8e5m2) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S160x128 .bf16) (harg8 : arg8.IsWhole) (arg9 : Memref sig .tc .vmem S160x128 .bf16) (harg9 : arg9.IsWhole) (arg10 : Memref sig .tc .vmem S1x4096x128 .fp8e4m3) (harg10 : arg10.IsWhole) (arg11 : Memref sig .tc .vmem S1x4096x128 .fp8e4m3) (harg11 : arg11.IsWhole) (arg12 : Memref sig .tc .vmem S1x8x512 .f32) (harg12 : arg12.IsWhole) (arg13 : Memref sig .tc .vmem S1x8x512 .f32) (harg13 : arg13.IsWhole) (arg14 : Memref sig .tc .vmem S1x16x512 .f32) (harg14 : arg14.IsWhole) (arg15 : Memref sig .tc .vmem S1x16x512 .f32) (harg15 : arg15.IsWhole) (arg16 : Memref sig .tc .vmem S1x8192x128 .bf16) (harg16 : arg16.IsWhole) (arg17 : Memref sig .tc .vmem S1x20x16x512 .f32) (harg17 : arg17.IsWhole) (arg18 : Memref sig .tc .vmem S160x128 .bf16) (harg18 : arg18.IsWhole) (arg19 : Memref sig .tc .vmem S160x128 .bf16) (harg19 : arg19.IsWhole) (arg20 : Memref sig .tc .vmem S8x256x1024 .bf16) (harg20 : arg20.IsWhole) (arg21 : Memref sig .tc .vmem S8x128x1024 .fp8e5m2) (harg21 : arg21.IsWhole) (arg22 : Memref sig .tc .vmem S8x128x1024 .bf16) (harg22 : arg22.IsWhole) (arg23 : Memref sig .tc .vmem S8x128x1024 .f32) (harg23 : arg23.IsWhole) (arg24 : Memref sig .tc .vmem S8x1x1024 .f32) (harg24 : arg24.IsWhole) (arg25 : Memref sig .tc .vmem S8x1x1024 .f32) (harg25 : arg25.IsWhole) (arg26 : Memref sig .tc .vmem S128x128 .i32) (harg26 : arg26.IsWhole) (arg27 : Memref sig .tc .vmem S128x128 .i32) (harg27 : arg27.IsWhole) (arg28 : Memref sig .tc .vmem S8x32x128 .f32) (harg28 : arg28.IsWhole) (arg29 : Memref sig .tc .vmem S8x32x128 .f32) (harg29 : arg29.IsWhole) (arg30 : Memref sig .tc .vmem S512x128 .bf16) (harg30 : arg30.IsWhole) (arg31 : Memref sig .tc .vmem S128x512 .f32) (harg31 : arg31.IsWhole) (arg32 : Memref sig .tc .vmem S256x128 .f32) (harg32 : arg32.IsWhole) {α : Type} (jp : PUnit.{1} → Prog (TpuEff nD τ sig (Elt F) Λ₀ .tc) α) : Prog (TpuEff nD τ sig (Elt F) Λ₀ .tc) α := do
  let v3564 : Vec F S128x128 .i32 ← Prog.lift (.load arg26 (Rect.unit (s := S128x128) ![0, 0] S128x128.size inb_S128x128_S128x128_0_0).toLoadRect (View.loadsAt_vmem h_S128x128))
  Prog.lift (.store arg26 (Rect.unit (s := S128x128) ![0, 0] S128x128.size inb_S128x128_S128x128_0_0) k0_pay3 Finset.univ (View.stores_vmem_bits_univ h_S128x128 rfl) (.inl rfl))
  let v3568 : Vec F S128x128 .i32 ← Prog.lift (.load arg27 (Rect.unit (s := S128x128) ![0, 0] S128x128.size inb_S128x128_S128x128_0_0).toLoadRect (View.loadsAt_vmem h_S128x128))
  Prog.lift (.store arg27 (Rect.unit (s := S128x128) ![0, 0] S128x128.size inb_S128x128_S128x128_0_0) k0_pay4 Finset.univ (View.stores_vmem_bits_univ h_S128x128 rfl) (.inl rfl))
  let v3571 : Vec F S160x128 .bf16 ← Prog.lift (.load arg8 (Rect.unit (s := S160x128) ![0, 0] S160x128.size inb_S160x128_S160x128_0_0).toLoadRect (View.loadsAt_vmem h_S160x128))
  let v3574 : Vec F S80x128 .i32 ← Prog.lift (.load arg26 (Rect.unit (s := S128x128) ![0, 0] S80x128.size inb_S128x128_S80x128_0_0).toLoadRect (View.loadsAt_vmem h_S80x128))
  Prog.lift (.store arg26 (Rect.unit (s := S128x128) ![0, 0] S80x128.size inb_S128x128_S80x128_0_0) (k0_pay5 v3571) Finset.univ (View.stores_vmem_bits_univ h_S80x128 rfl) (.inl rfl))
  let v3577 : Vec F S160x128 .bf16 ← Prog.lift (.load arg9 (Rect.unit (s := S160x128) ![0, 0] S160x128.size inb_S160x128_S160x128_0_0).toLoadRect (View.loadsAt_vmem h_S160x128))
  let v3580 : Vec F S80x128 .i32 ← Prog.lift (.load arg27 (Rect.unit (s := S128x128) ![0, 0] S80x128.size inb_S128x128_S80x128_0_0).toLoadRect (View.loadsAt_vmem h_S80x128))
  Prog.lift (.store arg27 (Rect.unit (s := S128x128) ![0, 0] S80x128.size inb_S128x128_S80x128_0_0) (k0_pay6 v3577) Finset.univ (View.stores_vmem_bits_univ h_S80x128 rfl) (.inl rfl))
  let v3584 : Vec F S8x32x128 .f32 ← Prog.lift (.load arg28 (Rect.unit (s := S8x32x128) ![0, 0, 0] S8x32x128.size inb_S8x32x128_S8x32x128_0_0_0).toLoadRect (View.loadsAt_vmem h_S8x32x128))
  Prog.lift (.store arg28 (Rect.unit (s := S8x32x128) ![0, 0, 0] S8x32x128.size inb_S8x32x128_S8x32x128_0_0_0) (k0_pay7 (F := F)) Finset.univ (View.stores_vmem_bits_univ h_S8x32x128 rfl) (.inl rfl))
  let v3588 : Vec F S8x32x128 .f32 ← Prog.lift (.load arg29 (Rect.unit (s := S8x32x128) ![0, 0, 0] S8x32x128.size inb_S8x32x128_S8x32x128_0_0_0).toLoadRect (View.loadsAt_vmem h_S8x32x128))
  Prog.lift (.store arg29 (Rect.unit (s := S8x32x128) ![0, 0, 0] S8x32x128.size inb_S8x32x128_S8x32x128_0_0_0) (k0_pay8 (F := F)) Finset.univ (View.stores_vmem_bits_univ h_S8x32x128 rfl) (.inl rfl))
  jp ⟨⟩

/-- The prologue’s first operations after the initialisation. -/
noncomputable def proHead (i : grid0.Coords) (arg2 : Memref sig .tc .smem S2 .i32) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x8192x128 .fp8e5m2) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S160x128 .bf16) (harg8 : arg8.IsWhole) (arg9 : Memref sig .tc .vmem S160x128 .bf16) (harg9 : arg9.IsWhole) (arg10 : Memref sig .tc .vmem S1x4096x128 .fp8e4m3) (harg10 : arg10.IsWhole) (arg11 : Memref sig .tc .vmem S1x4096x128 .fp8e4m3) (harg11 : arg11.IsWhole) (arg12 : Memref sig .tc .vmem S1x8x512 .f32) (harg12 : arg12.IsWhole) (arg13 : Memref sig .tc .vmem S1x8x512 .f32) (harg13 : arg13.IsWhole) (arg14 : Memref sig .tc .vmem S1x16x512 .f32) (harg14 : arg14.IsWhole) (arg15 : Memref sig .tc .vmem S1x16x512 .f32) (harg15 : arg15.IsWhole) (arg16 : Memref sig .tc .vmem S1x8192x128 .bf16) (harg16 : arg16.IsWhole) (arg17 : Memref sig .tc .vmem S1x20x16x512 .f32) (harg17 : arg17.IsWhole) (arg18 : Memref sig .tc .vmem S160x128 .bf16) (harg18 : arg18.IsWhole) (arg19 : Memref sig .tc .vmem S160x128 .bf16) (harg19 : arg19.IsWhole) (arg20 : Memref sig .tc .vmem S8x256x1024 .bf16) (harg20 : arg20.IsWhole) (arg21 : Memref sig .tc .vmem S8x128x1024 .fp8e5m2) (harg21 : arg21.IsWhole) (arg22 : Memref sig .tc .vmem S8x128x1024 .bf16) (harg22 : arg22.IsWhole) (arg23 : Memref sig .tc .vmem S8x128x1024 .f32) (harg23 : arg23.IsWhole) (arg24 : Memref sig .tc .vmem S8x1x1024 .f32) (harg24 : arg24.IsWhole) (arg25 : Memref sig .tc .vmem S8x1x1024 .f32) (harg25 : arg25.IsWhole) (arg26 : Memref sig .tc .vmem S128x128 .i32) (harg26 : arg26.IsWhole) (arg27 : Memref sig .tc .vmem S128x128 .i32) (harg27 : arg27.IsWhole) (arg28 : Memref sig .tc .vmem S8x32x128 .f32) (harg28 : arg28.IsWhole) (arg29 : Memref sig .tc .vmem S8x32x128 .f32) (harg29 : arg29.IsWhole) (arg30 : Memref sig .tc .vmem S512x128 .bf16) (harg30 : arg30.IsWhole) (arg31 : Memref sig .tc .vmem S128x512 .f32) (harg31 : arg31.IsWhole) (arg32 : Memref sig .tc .vmem S256x128 .f32) (harg32 : arg32.IsWhole) : Prog (TpuEff nD τ sig (Elt F) Λ₀ .tc) (Σ' (v19 : IVec S128x256 1) (v22 : IVec S32x1024 1) (v31 : FVec F S512x128 .fp8e5m2) (v33 : FVec F S512x128 .fp8e5m2) (v44 : FVec F S1024x128 .bf16) (v55 : FVec F S128x1024 .bf16), FVec F S128x1024 .fp8e5m2) := do
  let v23 : Vec F S1x8192x128 .fp8e5m2 ← Prog.lift (.load arg5 (Rect.unit (s := S1x8192x128) ![0, 0, 0] S1x8192x128.size inb_S1x8192x128_S1x8192x128_0_0_0).toLoadRect (View.loadsAt_vmem h_S1x8192x128))
  let v56 : Vec F S1x128x1024 .bf16 ← Prog.lift (.load arg22 (Rect.unit (s := S8x128x1024) ![0, 0, 0] S1x128x1024.size inb_S8x128x1024_S1x128x1024_0_0_0).toLoadRect (View.loadsAt_vmem h_S1x128x1024))
  Prog.lift (.store arg22 (Rect.unit (s := S8x128x1024) ![0, 0, 0] S1x128x1024.size inb_S8x128x1024_S1x128x1024_0_0_0) (k0_pay18 v23) Finset.univ (View.stores_vmem h_S1x128x1024 (harg22.storeExact_slice rfl _ packedbf16_S8x128x1024_S1x128x1024_0_0_0) (fun _ => rfl)) (.inl rfl))
  pure ⟨k0_pay9, k0_pay10, k0_pay12 v23, k0_pay13 v23, k0_pay16 v23, k0_pay17 v23, k0_pay19 v23⟩

/-- The first part of the prologue after the initialisation. -/
noncomputable def proRest : Prog (TpuEff nD τ sig (Elt F) Λ₀ .tc) (Σ' (v19 : IVec S128x256 1) (v22 : IVec S32x1024 1) (v2251 : FVec F S1024x128 .bf16) (v2262 : FVec F S128x1024 .bf16) (v2300 : FVec F S1024x128 .bf16) (v2311 : FVec F S128x1024 .bf16) (v2349 : FVec F S1x1024 .f32) (v2378 : FVec F S1x1024 .f32) (v2383 : FVec F S1x1024 .f32) (v2393 : FVec F S1x1024 .f32) (v2396 : IVec S128x1024 32) (v2426 : FVec F S128x1024 .f32), BitVec 32) := do
  let arg0 : BitVec 32 := BitVec.ofNat 32 (i 0).val
  let ⟨v19, v22, v31, v33, v44, v55, v59⟩ : Σ' (v19 : IVec S128x256 1) (v22 : IVec S32x1024 1) (v31 : FVec F S512x128 .fp8e5m2) (v33 : FVec F S512x128 .fp8e5m2) (v44 : FVec F S1024x128 .bf16) (v55 : FVec F S128x1024 .bf16), FVec F S128x1024 .fp8e5m2 ← proHead i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32
  let ⟨v93, v96, v97, v98, v99, v100, v101, v102, v103⟩ : Σ' (v93 : FVec F S1024x128 .bf16) (v96 : FVec F S128x128 .bf16) (v97 : FVec F S128x128 .bf16) (v98 : FVec F S128x128 .bf16) (v99 : FVec F S128x128 .bf16) (v100 : FVec F S128x128 .bf16) (v101 : FVec F S128x128 .bf16) (v102 : FVec F S128x128 .bf16), FVec F S128x128 .bf16 ← k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v59
  let ⟨v104, v142⟩ : Σ' (v104 : FVec F S128x1024 .bf16), FVec F S1x1024 .f32 ← k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v55 v96 v97 v98 v99 v100 v101 v102 v103
  let ⟨v171, v176, v184, v185, v186, v187, v188⟩ : Σ' (v171 : FVec F S1x1024 .f32) (v176 : FVec F S1x1024 .f32) (v184 : FVec F S1x1024 .f32) (v185 : FVec F S1x1024 .f32) (v186 : FVec F S1x1024 .f32) (v187 : IVec S128x1024 32), IVec S128x1024 32 ← k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32
  let v230 : FVec F S128x1024 .f32 ← k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v184 v185 v186 v187 v188
  let ⟨v245, v261, v265, v267, v268⟩ : Σ' (v245 : FVec F S32x128 .bf16) (v261 : FVec F S32x1024 .f32) (v265 : FVec F S32x1024 .f32) (v267 : FVec F S32x1024 .f32), FVec F S20x128 .f32 ← k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v22 v55 v104 v142 v171 v176 v230
  let v296 : FVec F S20x128 .f32 ← k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v267 v268
  let v327_raw : Vec F S1x256x2x128 .bf16 ← k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v44 v93 v171 v245 v261 v265 v267 v296
  let ⟨v339, v355, v356, v367⟩ : Σ' (v339 : FVec F S512x128 .bf16) (v355 : FVec F S512x128 .bf16) (v356 : FVec F S128x512 .bf16), FVec F S128x256 .f32 ← k0_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v19 v104 v176 v327_raw
  let v410 : FVec F S128x256 .f32 ← k0_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v19 v55 v104 v142 v176 v339 v355 v356 v367
  let ⟨v451, v452⟩ : Σ' (v451 : FVec F S512x256 .f32), FVec F S128x256 .f32 ← k0_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v19 v55 v104 v142 v176 v339 v355 v356 v410
  let ⟨v481, v492, v496⟩ : Σ' (v481 : FVec F S1024x128 .bf16) (v492 : FVec F S128x1024 .bf16), FVec F S128x1024 .fp8e5m2 ← k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v19 v31 v33 v55 v142 v355 v356 v451 v452
  let ⟨v530, v541⟩ : Σ' (v530 : FVec F S1024x128 .bf16), FVec F S128x1024 .bf16 ← k0_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v496
  let v579 : FVec F S1x1024 .f32 ← k0_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v492
  let ⟨v608, v613, v621, v622, v623, v626, c0_i32_239⟩ : Σ' (v608 : FVec F S1x1024 .f32) (v613 : FVec F S1x1024 .f32) (v621 : FVec F S1x1024 .f32) (v622 : FVec F S1x1024 .f32) (v623 : FVec F S1x1024 .f32) (v626 : IVec S128x1024 32), BitVec 32 ← k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32
  let v667 : FVec F S128x1024 .f32 ← k0_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v541 v621 v622 v623 v626 c0_i32_239
  let ⟨v682, v698, v702, v704, v705, v706⟩ : Σ' (v682 : FVec F S32x128 .bf16) (v698 : FVec F S32x1024 .f32) (v702 : FVec F S32x1024 .f32) (v704 : FVec F S32x1024 .f32) (v705 : FVec F S20x128 .f32), Vec F S1x20x1x128 .f32 ← k0_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v22 v492 v541 v579 v608 v613 v667
  let v733 : FVec F S20x128 .f32 ← k0_part18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v704 v705 v706
  let v765 : IVec S256x128 32 ← k0_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v481 v530 v608 v682 v698 v702 v704 v733
  let ⟨v776, v792, v793, v804, v805, v806⟩ : Σ' (v776 : FVec F S512x128 .bf16) (v792 : FVec F S512x128 .bf16) (v793 : FVec F S128x512 .bf16) (v804 : FVec F S128x256 .f32) (v805 : FVec F S128x128 .bf16), FVec F S128x256 .bf16 ← k0_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v19 v492 v541 v613 v765
  let v847 : FVec F S128x256 .f32 ← k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v19 v492 v541 v579 v613 v776 v792 v793 v804 v805 v806
  let ⟨v888, v889, v890⟩ : Σ' (v888 : FVec F S512x256 .f32) (v889 : FVec F S128x256 .f32), FVec F S128x256 .f32 ← k0_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v19 v492 v541 v579 v613 v776 v792 v793 v847
  let ⟨v916, v918, v929, v931, v932, v933, v934, v935, v936, v937, v938⟩ : Σ' (v916 : FVec F S512x128 .fp8e5m2) (v918 : FVec F S512x128 .fp8e5m2) (v929 : FVec F S1024x128 .bf16) (v931 : FVec F S128x512 .bf16) (v932 : FVec F S128x128 .bf16) (v933 : FVec F S128x128 .bf16) (v934 : FVec F S128x128 .bf16) (v935 : FVec F S128x128 .bf16) (v936 : FVec F S128x128 .bf16) (v937 : FVec F S128x128 .bf16), FVec F S128x128 .bf16 ← k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v19 v492 v579 v792 v793 v888 v889 v890
  let ⟨v940, v963, v969, v978⟩ : Σ' (v940 : FVec F S128x1024 .bf16) (v963 : FVec F S512x128 .bf16) (v969 : FVec F S512x128 .bf16), FVec F S1024x128 .bf16 ← k0_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v931 v932 v933 v934 v935 v936 v937 v938
  let ⟨v989, v1025⟩ : Σ' (v989 : FVec F S128x1024 .bf16), FVec F S128x1024 .f32 ← k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v940 v963 v969
  let ⟨v1027, v1056, v1061, v1062, v1064⟩ : Σ' (v1027 : FVec F S1x1024 .f32) (v1056 : FVec F S1x1024 .f32) (v1061 : FVec F S1x1024 .f32) (v1062 : FVec F S1x1024 .bf16), FVec F S1x1024 .f32 ← k0_part26 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1025
  let ⟨v1071, v1074, v1104, v1109, v1110⟩ : Σ' (v1071 : FVec F S1x1024 .f32) (v1074 : IVec S128x1024 32) (v1104 : FVec F S128x1024 .f32) (v1109 : IVec S128x1024 1), IVec S128x1024 32 ← k0_part27 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1062 v1064
  let ⟨v1130, v1138, v1146, cst_473⟩ : Σ' (v1130 : FVec F S32x128 .bf16) (v1138 : FVec F S32x128 .bf16) (v1146 : FVec F S32x1024 .f32), FVec F S32x1024 .f32 ← k0_part28 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v22 v989 v1061 v1071 v1074 v1104 v1109 v1110
  let ⟨v1150, v1152⟩ : Σ' (v1150 : FVec F S32x1024 .f32), FVec F S32x1024 .f32 ← k0_part29 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v940 v1027 v1056 v1138 v1146 cst_473
  let ⟨v1205, v1206⟩ : Σ' (v1205 : FVec F S128x1024 .f32), Vec F S1x128x1024 .f32 ← k0_part30 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v929 v978 v1056 v1130 v1146 v1150 v1152
  let ⟨v1224, v1240, v1241, v1244⟩ : Σ' (v1224 : FVec F S512x128 .bf16) (v1240 : FVec F S512x128 .bf16) (v1241 : FVec F S128x512 .bf16), FVec F S128x256 .f32 ← k0_part31 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v989 v1205 v1206
  let v1289 : FVec F S256x256 .f32 ← k0_part32 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v19 v940 v989 v1027 v1061 v1224 v1240 v1241 v1244
  let v1329 : FVec F S128x256 .bf16 ← k0_part33 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v19 v940 v989 v1027 v1061 v1224 v1240 v1241 v1289
  let ⟨v1366, v1377⟩ : Σ' (v1366 : FVec F S1024x128 .bf16), FVec F S128x1024 .bf16 ← k0_part34 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v19 v916 v918 v940 v1027 v1061 v1224 v1240 v1241 v1329
  let ⟨v1415, v1416, v1417⟩ : Σ' (v1415 : FVec F S1024x128 .bf16) (v1416 : FVec F S128x512 .bf16), FVec F S128x512 .bf16 ← k0_part35 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1377
  let ⟨v1426, v1464⟩ : Σ' (v1426 : FVec F S128x1024 .bf16), FVec F S1x1024 .f32 ← k0_part36 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1377 v1416 v1417
  let ⟨v1493, v1498, v1499, v1501, v1502, v1503⟩ : Σ' (v1493 : FVec F S1x1024 .f32) (v1498 : FVec F S1x1024 .f32) (v1499 : FVec F S1x1024 .bf16) (v1501 : FVec F S1x1024 .f32) (v1502 : FVec F S1x1024 .bf16), FVec F S1x1024 .f32 ← k0_part37 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1464
  let ⟨v1508, v1541, v1549⟩ : Σ' (v1508 : FVec F S1x1024 .f32) (v1541 : FVec F S128x1024 .f32), IVec S128x1024 1 ← k0_part38 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1499 v1501 v1502 v1503
  let ⟨v1567, v1583, v1584, v1585⟩ : Σ' (v1567 : FVec F S32x128 .bf16) (v1583 : FVec F S32x1024 .f32) (v1584 : FVec F S32x1024 .f32), FVec F S32x1024 .f32 ← k0_part39 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v22 v1377 v1426 v1464 v1498 v1508 v1541 v1549
  let ⟨v1587, v1589, v1614⟩ : Σ' (v1587 : FVec F S32x1024 .f32) (v1589 : FVec F S32x1024 .f32), FVec F S20x128 .f32 ← k0_part40 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1493 v1583 v1584 v1585
  let v1645 : FVec F S1x128x1024 .f32 ← k0_part41 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1366 v1415 v1493 v1567 v1583 v1587 v1589 v1614
  let ⟨v1661, v1677, v1678, v1681, v1682⟩ : Σ' (v1661 : FVec F S512x128 .bf16) (v1677 : FVec F S512x128 .bf16) (v1678 : FVec F S128x512 .bf16) (v1681 : FVec F S128x256 .f32), FVec F S128x256 .f32 ← k0_part42 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1426 v1645
  let v1726 : FVec F S256x256 .f32 ← k0_part43 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v19 v1377 v1426 v1464 v1498 v1661 v1677 v1678 v1681 v1682
  let v1767 : FVec F S512x256 .f32 ← k0_part44 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v19 v1377 v1426 v1464 v1498 v1661 v1677 v1678 v1726
  let ⟨v1801, v1803, v1804, v1805, v1806, v1807, v1808, v1809, v1810, v1811, v1812, v1813⟩ : Σ' (v1801 : FVec F S512x128 .fp8e5m2) (v1803 : FVec F S512x128 .fp8e5m2) (v1804 : FVec F S512x128 .bf16) (v1805 : FVec F S512x128 .bf16) (v1806 : FVec F S128x128 .bf16) (v1807 : FVec F S128x128 .bf16) (v1808 : FVec F S128x128 .bf16) (v1809 : FVec F S128x128 .bf16) (v1810 : FVec F S128x128 .bf16) (v1811 : FVec F S128x128 .bf16) (v1812 : FVec F S128x128 .bf16), FVec F S128x128 .bf16 ← k0_part45 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v19 v1377 v1464 v1498 v1677 v1678 v1767
  let ⟨v1814, v1825, v1848, v1853⟩ : Σ' (v1814 : FVec F S1024x128 .bf16) (v1825 : FVec F S128x1024 .bf16) (v1848 : FVec F S512x128 .bf16), IVec S256x128 32 ← k0_part46 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1804 v1805 v1806 v1807 v1808 v1809 v1810 v1811 v1812 v1813
  let ⟨v1863, v1874, v1897, v1898, v1899, v1900, v1901⟩ : Σ' (v1863 : FVec F S1024x128 .bf16) (v1874 : FVec F S128x1024 .bf16) (v1897 : FVec F S128x512 .bf16) (v1898 : FVec F S128x512 .bf16) (v1899 : FVec F S128x128 .bf16) (v1900 : FVec F S128x128 .bf16), FVec F S128x128 .bf16 ← k0_part47 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1848 v1853
  let ⟨v1912, v1928, v1941⟩ : Σ' (v1912 : FVec F S1x1024 .f32) (v1928 : FVec F S1x1024 .f32), FVec F S1x1024 .f32 ← k0_part48 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1825 v1897 v1898 v1899 v1900 v1901
  let ⟨v1946, v1956, v1959, v1978, v1986, v1988⟩ : Σ' (v1946 : FVec F S1x1024 .f32) (v1956 : FVec F S1x1024 .f32) (v1959 : IVec S128x1024 32) (v1978 : FVec F S128x1024 .f32) (v1986 : IVec S128x1024 1), FVec F S128x1024 .f32 ← k0_part49 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1928 v1941
  let ⟨v2015, v2023, v2024⟩ : Σ' (v2015 : FVec F S32x128 .bf16) (v2023 : FVec F S32x128 .bf16), FVec F S32x1024 .f32 ← k0_part50 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1874 v1956 v1959 v1978 v1986 v1988
  let ⟨v2031, v2035, v2037, v2057⟩ : Σ' (v2031 : FVec F S32x1024 .f32) (v2035 : FVec F S32x1024 .f32) (v2037 : FVec F S32x1024 .f32), FVec F S1x20x1x128 .f32 ← k0_part51 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v22 v1825 v1912 v1941 v1946 v2023 v2024
  let v2084 : FVec F S32x128 .f32 ← k0_part52 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1814 v1863 v1941 v2031 v2037 v2057
  let ⟨v2109, v2119, v2121⟩ : Σ' (v2109 : FVec F S512x128 .bf16) (v2119 : IVec S256x128 32), IVec S256x128 32 ← k0_part53 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2015 v2035 v2084
  let ⟨v2125, v2126, v2162, v2165⟩ : Σ' (v2125 : FVec F S512x128 .bf16) (v2126 : FVec F S128x512 .bf16) (v2162 : FVec F S256x256 .f32), FVec F S128x256 .f32 ← k0_part54 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v19 v1825 v1874 v1912 v1946 v2109 v2119 v2121
  let ⟨v2206, v2207, v2208, cst_970⟩ : Σ' (v2206 : FVec F S128x256 .f32) (v2207 : FVec F S128x384 .bf16) (v2208 : FVec F S384x256 .bf16), FVec F S128x256 .f32 ← k0_part55 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v19 v1825 v1874 v1912 v1946 v2109 v2125 v2126 v2162 v2165
  let ⟨v2242, v2251, v2252⟩ : Σ' (v2242 : FVec F S512x128 .bf16) (v2251 : FVec F S1024x128 .bf16), FVec F S128x512 .bf16 ← k0_part56 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v19 v1801 v1803 v1825 v1874 v1912 v1946 v2109 v2125 v2126 v2206 v2207 v2208 cst_970
  let ⟨v2262, v2285, v2291, v2292⟩ : Σ' (v2262 : FVec F S128x1024 .bf16) (v2285 : FVec F S512x128 .bf16) (v2291 : FVec F S512x128 .bf16), FVec F S128x128 .bf16 ← k0_part57 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2242 v2252
  let ⟨v2300, v2311, v2334, v2335, v2336, v2337, v2338, v2339, v2340⟩ : Σ' (v2300 : FVec F S1024x128 .bf16) (v2311 : FVec F S128x1024 .bf16) (v2334 : FVec F S128x512 .bf16) (v2335 : FVec F S128x512 .bf16) (v2336 : FVec F S128x128 .bf16) (v2337 : FVec F S128x128 .bf16) (v2338 : FVec F S128x128 .bf16) (v2339 : FVec F S128x128 .bf16), FVec F S128x128 .bf16 ← k0_part58 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2285 v2291 v2292
  let ⟨v2349, v2365, v2378⟩ : Σ' (v2349 : FVec F S1x1024 .f32) (v2365 : FVec F S1x1024 .f32), FVec F S1x1024 .f32 ← k0_part59 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2262 v2334 v2335 v2336 v2337 v2338 v2339 v2340
  let ⟨v2383, v2393, v2396, v2426, c5_i32_1044⟩ : Σ' (v2383 : FVec F S1x1024 .f32) (v2393 : FVec F S1x1024 .f32) (v2396 : IVec S128x1024 32) (v2426 : FVec F S128x1024 .f32), BitVec 32 ← k0_part60 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2365 v2378
  pure ⟨v19, v22, v2251, v2262, v2300, v2311, v2349, v2378, v2383, v2393, v2396, v2426, c5_i32_1044⟩

/-- The prologue of a batch after the initialisation, then `jp`. -/
noncomputable def proB (jp : PUnit.{1} → Prog (TpuEff nD τ sig (Elt F) Λ₀ .tc) PUnit.{1}) : Prog (TpuEff nD τ sig (Elt F) Λ₀ .tc) PUnit.{1} := do
  let arg0 : BitVec 32 := BitVec.ofNat 32 (i 0).val
  let ⟨v19, v22, v2251, v2262, v2300, v2311, v2349, v2378, v2383, v2393, v2396, v2426, c5_i32_1044⟩ : Σ' (v19 : IVec S128x256 1) (v22 : IVec S32x1024 1) (v2251 : FVec F S1024x128 .bf16) (v2262 : FVec F S128x1024 .bf16) (v2300 : FVec F S1024x128 .bf16) (v2311 : FVec F S128x1024 .bf16) (v2349 : FVec F S1x1024 .f32) (v2378 : FVec F S1x1024 .f32) (v2383 : FVec F S1x1024 .f32) (v2393 : FVec F S1x1024 .f32) (v2396 : IVec S128x1024 32) (v2426 : FVec F S128x1024 .f32), BitVec 32 ← proRest i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32
  let ⟨v3147, v3234, v3447, v3448, v3546, v3547⟩ : Σ' (v3147 : FVec F S128x1024 .bf16) (v3234 : FVec F S1x1024 .f32) (v3447 : FVec F S512x128 .bf16) (v3448 : FVec F S128x512 .bf16) (v3546 : FVec F S128x256 .f32), FVec F S384x256 .f32 ← k0_part90 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v19 v22 v2251 v2262 v2300 v2311 v2349 v2378 v2383 v2393 v2396 v2426 c5_i32_1044
  let v3555 : Vec F S1x128x256 .f32 ← Prog.lift (.load arg23 (Rect.unit (s := S8x128x1024) ![7, 0, 768] S1x128x256.size inb_S8x128x1024_S1x128x256_7_0_768).toLoadRect (View.loadsAt_vmem h_S1x128x256))
  let v3560 : Vec F S1x128x256 .f32 ← Prog.lift (.load arg23 (Rect.unit (s := S8x128x1024) ![7, 0, 768] S1x128x256.size inb_S8x128x1024_S1x128x256_7_0_768).toLoadRect (View.loadsAt_vmem h_S1x128x256))
  Prog.lift (.store arg23 (Rect.unit (s := S8x128x1024) ![7, 0, 768] S1x128x256.size inb_S8x128x1024_S1x128x256_7_0_768) (k0_pay1 v3147 v3234 v3447 v3448 v3546 v3547 v3555) Finset.univ (View.stores_vmem_bits_univ h_S1x128x256 rfl) (.inl rfl))
  jp ⟨⟩

/-- The whole prologue, then `jp`. -/
noncomputable def proA (jp : PUnit.{1} → Prog (TpuEff nD τ sig (Elt F) Λ₀ .tc) PUnit.{1}) : Prog (TpuEff nD τ sig (Elt F) Λ₀ .tc) PUnit.{1} := do
  let ⟨v19, v22, v2251, v2262, v2300, v2311, v2349, v2378, v2383, v2393, v2396, v2426, c5_i32_1044⟩ : Σ' (v19 : IVec S128x256 1) (v22 : IVec S32x1024 1) (v2251 : FVec F S1024x128 .bf16) (v2262 : FVec F S128x1024 .bf16) (v2300 : FVec F S1024x128 .bf16) (v2311 : FVec F S128x1024 .bf16) (v2349 : FVec F S1x1024 .f32) (v2378 : FVec F S1x1024 .f32) (v2383 : FVec F S1x1024 .f32) (v2393 : FVec F S1x1024 .f32) (v2396 : IVec S128x1024 32) (v2426 : FVec F S128x1024 .f32), BitVec 32 ← k0_part89 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 (BitVec.ofNat 32 (i 0).val)
  let ⟨v3147, v3234, v3447, v3448, v3546, v3547⟩ : Σ' (v3147 : FVec F S128x1024 .bf16) (v3234 : FVec F S1x1024 .f32) (v3447 : FVec F S512x128 .bf16) (v3448 : FVec F S128x512 .bf16) (v3546 : FVec F S128x256 .f32), FVec F S384x256 .f32 ← k0_part90 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v19 v22 v2251 v2262 v2300 v2311 v2349 v2378 v2383 v2393 v2396 v2426 c5_i32_1044
  let v3555 : Vec F S1x128x256 .f32 ← Prog.lift (.load arg23 (Rect.unit (s := S8x128x1024) ![7, 0, 768] S1x128x256.size inb_S8x128x1024_S1x128x256_7_0_768).toLoadRect (View.loadsAt_vmem h_S1x128x256))
  let v3560 : Vec F S1x128x256 .f32 ← Prog.lift (.load arg23 (Rect.unit (s := S8x128x1024) ![7, 0, 768] S1x128x256.size inb_S8x128x1024_S1x128x256_7_0_768).toLoadRect (View.loadsAt_vmem h_S1x128x256))
  Prog.lift (.store arg23 (Rect.unit (s := S8x128x1024) ![7, 0, 768] S1x128x256.size inb_S8x128x1024_S1x128x256_7_0_768) (k0_pay1 v3147 v3234 v3447 v3448 v3546 v3547 v3555) Finset.univ (View.stores_vmem_bits_univ h_S1x128x256 rfl) (.inl rfl))
  jp ⟨⟩

/-- One chunk of the context, then `jp`. -/
noncomputable def ctxB (v1 : Elt F .i32) (jp : PUnit.{1} → Prog (TpuEff nD τ sig (Elt F) Λ₀ .tc) PUnit.{1}) : Prog (TpuEff nD τ sig (Elt F) Λ₀ .tc) PUnit.{1} := do
  let arg1 : BitVec 32 := BitVec.ofNat 32 (i 1).val
  let ⟨v1450, v1461, v1533, v1535⟩ : Σ' (v1450 : FVec F S128x512 .bf16) (v1461 : FVec F S512x256 .f32) (v1533 : FVec F S512x256 .f32), FVec F S512x256 .f32 ← k0_part133 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg1 v1
  let v1537 : Vec F S1x1x256 .f32 ← Prog.lift (.load arg24 (Rect.unit (s := S8x1x1024) ![7, 0, 768] S1x1x256.size inb_S8x1x1024_S1x1x256_7_0_768).toLoadRect (View.loadsAt_vmem h_S1x1x256))
  let v1542 : Vec F S1x128x256 .f32 ← Prog.lift (.load arg23 (Rect.unit (s := S8x128x1024) ![7, 0, 768] S1x128x256.size inb_S8x128x1024_S1x128x256_7_0_768).toLoadRect (View.loadsAt_vmem h_S1x128x256))
  let v1547 : Vec F S1x128x256 .f32 ← Prog.lift (.load arg23 (Rect.unit (s := S8x128x1024) ![7, 0, 768] S1x128x256.size inb_S8x128x1024_S1x128x256_7_0_768).toLoadRect (View.loadsAt_vmem h_S1x128x256))
  Prog.lift (.store arg23 (Rect.unit (s := S8x128x1024) ![7, 0, 768] S1x128x256.size inb_S8x128x1024_S1x128x256_7_0_768) (k0_pay2 v1450 v1461 v1533 v1535 v1537 v1542) Finset.univ (View.stores_vmem_bits_univ h_S1x128x256 rfl) (.inl rfl))
  jp ⟨⟩

/-- The write-out of a batch’s query gradient, then `jp`. -/
noncomputable def epiB (jp : PUnit.{1} → Prog (TpuEff nD τ sig (Elt F) Λ₀ .tc) PUnit.{1}) : Prog (TpuEff nD τ sig (Elt F) Λ₀ .tc) PUnit.{1} := do
  let arg0 : BitVec 32 := BitVec.ofNat 32 (i 0).val
  let v49 : IVec S256x128 32 ← k0_part138 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32
  let ⟨v77, v88, c_m65536_i32_36⟩ : Σ' (v77 : IVec S256x128 32) (v88 : IVec S256x128 32), BitVec 32 ← k0_part139 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v49
  let ⟨v111, v119, v124, v128_raw⟩ : Σ' (v111 : IVec S256x128 32) (v119 : IVec S256x128 32) (v124 : IVec S256x128 32), Vec F S1x256x2x128 .bf16 ← k0_part140 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v77 v88 c_m65536_i32_36
  let ⟨v153, v161, v166⟩ : Σ' (v153 : IVec S256x128 32) (v161 : IVec S256x128 32), IVec S256x128 32 ← k0_part141 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v111 v119 v124 v128_raw
  let ⟨v195, v203, c65535_i32_85⟩ : Σ' (v195 : IVec S256x128 32) (v203 : IVec S256x128 32), BitVec 32 ← k0_part142 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v153 v161 v166
  let ⟨v229, v237, v238, v239⟩ : Σ' (v229 : FVec F S128x1024 .f32) (v237 : IVec S256x128 32) (v238 : FVec F S128x128 .f32), FVec F S128x128 .f32 ← k0_part143 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v195 v203 c65535_i32_85
  let ⟨v271, v272, v273, v274⟩ : Σ' (v271 : FVec F S128x1024 .f32) (v272 : FVec F S128x128 .f32) (v273 : FVec F S128x128 .f32), FVec F S128x128 .f32 ← k0_part144 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v229 v237 v238 v239
  let ⟨v307, v309, cst_141⟩ : Σ' (v307 : FVec F S128x1024 .f32) (v309 : FVec F S1x1024 .f32), F .f32 ← k0_part145 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v271 v272 v273 v274
  let ⟨v349, c0_i32_155⟩ : Σ' (v349 : BitVec 32), BitVec 32 ← k0_part146 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg0 v307 v309 cst_141
  jp ⟨⟩

/-- The write-out of the prefix gradients, then `jp`. -/
noncomputable def preB (jp : PUnit.{1} → Prog (TpuEff nD τ sig (Elt F) Λ₀ .tc) PUnit.{1}) : Prog (TpuEff nD τ sig (Elt F) Λ₀ .tc) PUnit.{1} := do
  let v379 : Vec F S1x32x128 .f32 ← k0_part134 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32
  k0_part135 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v379
  let v438 : Vec F S1x32x128 .f32 ← k0_part136 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32
  k0_part137 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v438
  jp ⟨⟩

/-- From the write-out on. -/
noncomputable def fromEpi : Prog (TpuEff nD τ sig (Elt F) Λ₀ .tc) PUnit.{1} :=
  if k0_cond4 i = 1#1 then epiB i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 (fun _ => if k0_cond5 i = 1#1 then preB i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 (fun _ => pure ⟨⟩) else pure ⟨⟩) else pure ⟨⟩

/-- From the chunk on. -/
noncomputable def fromCtx (v1 : Elt F .i32) : Prog (TpuEff nD τ sig (Elt F) Λ₀ .tc) PUnit.{1} :=
  if cond0_2 i v1 then ctxB i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1 (fun _ => fromEpi i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) else fromEpi i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32

set_option maxHeartbeats 2000000 in
set_option maxRecDepth 65536 in
/-- The kernel body, cut where its conditionals end. -/
theorem body_eq : cc0_prefix_attention_backward (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 =
    (smemLoad arg2 (Rect.unit (s := S2) (k0_off1 i) S1.size (k0_off1_inb i)) numel1_S1 rfl >>= fun v1 =>
      if k0_cond1 i = 1#1 then proA i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 (fun _ => fromCtx i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1) else fromCtx i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1) := by
  rw [cc0_prefix_attention_backward_eq_skeleton]; rfl

/-- The initialisation hands its continuation on. -/
theorem initB_bind {α β : Type} (jp : PUnit.{1} → Prog (TpuEff nD τ sig (Elt F) Λ₀ .tc) α) (k : α → Prog (TpuEff nD τ sig (Elt F) Λ₀ .tc) β) :
    initB i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 jp >>= k = initB i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 (fun u => jp u >>= k) := by
  unfold initB; simp only [bind_assoc]

set_option maxHeartbeats 2000000 in
/-- The prologue, cut where the initialisation ends. -/
theorem proA_eq (jp : PUnit.{1} → Prog (TpuEff nD τ sig (Elt F) Λ₀ .tc) PUnit.{1}) : proA i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 jp =
    if cond0_1 i then initB i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 (fun _ => proB i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 jp) else proB i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 jp := by
  have h : k0_part1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 (BitVec.ofNat 32 (i 0).val) = if cond0_1 i then initB i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 (fun _ => proHead i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) else proHead i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 := by
    rw [k0_part1_eq_skeleton]; rfl
  have h' : k0_part89 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 (BitVec.ofNat 32 (i 0).val) = if cond0_1 i then initB i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 (fun _ => proRest i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) else proRest i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 := by
    rw [k0_part89_eq_skeleton]; unfold k0_part89_skel
    rw [h]
    by_cases hc : cond0_1 i
    · rw [if_pos hc, if_pos hc, initB_bind]; rfl
    · rw [if_neg hc, if_neg hc]; rfl
  unfold proA
  rw [h']
  by_cases hc : cond0_1 i
  · rw [if_pos hc, if_pos hc, initB_bind]; rfl
  · rw [if_neg hc, if_neg hc]; rfl

end Cert.Kernel.Gen

end
-- ==== Proof.Kernel.Inv.lean ====
module

public import proofs.«01_k».proof.Proof.Kernel.Blocks

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-- What the body holds between its blocks when nothing is named: the inputs at their blocks, every output and every scratch buffer at
    some contents, the table. -/
abbrev Inv (c : Dev nD) (arg3 : Memref sig .tc .vmem S1x8192x128 .bf16) (arg4 : Memref sig .tc .vmem S1x8192x128 .bf16) (arg5 : Memref sig .tc .vmem S1x8192x128 .fp8e5m2) (arg6 : Memref sig .tc .vmem S1x4096x128 .bf16) (arg7 : Memref sig .tc .vmem S1x4096x128 .bf16) (arg8 : Memref sig .tc .vmem S160x128 .bf16) (arg9 : Memref sig .tc .vmem S160x128 .bf16) (arg10 : Memref sig .tc .vmem S1x4096x128 .fp8e4m3) (arg11 : Memref sig .tc .vmem S1x4096x128 .fp8e4m3) (arg12 : Memref sig .tc .vmem S1x8x512 .f32) (arg13 : Memref sig .tc .vmem S1x8x512 .f32) (arg14 : Memref sig .tc .vmem S1x16x512 .f32) (arg15 : Memref sig .tc .vmem S1x16x512 .f32) (arg16 : Memref sig .tc .vmem S1x8192x128 .bf16) (arg17 : Memref sig .tc .vmem S1x20x16x512 .f32) (arg18 : Memref sig .tc .vmem S160x128 .bf16) (arg19 : Memref sig .tc .vmem S160x128 .bf16) (arg20 : Memref sig .tc .vmem S8x256x1024 .bf16) (arg21 : Memref sig .tc .vmem S8x128x1024 .fp8e5m2) (arg22 : Memref sig .tc .vmem S8x128x1024 .bf16) (arg23 : Memref sig .tc .vmem S8x128x1024 .f32) (arg24 : Memref sig .tc .vmem S8x1x1024 .f32) (arg25 : Memref sig .tc .vmem S8x1x1024 .f32) (arg26 : Memref sig .tc .vmem S128x128 .i32) (arg27 : Memref sig .tc .vmem S128x128 .i32) (arg28 : Memref sig .tc .vmem S8x32x128 .f32) (arg29 : Memref sig .tc .vmem S8x32x128 .f32) (arg30 : Memref sig .tc .vmem S512x128 .bf16) (arg31 : Memref sig .tc .vmem S128x512 .f32) (arg32 : Memref sig .tc .vmem S256x128 .f32) (x0 : Vec F S1x8192x128 .bf16) (x1 : Vec F S1x8192x128 .bf16) (x2 : Vec F S1x8192x128 .fp8e5m2) (x3 : Vec F S1x4096x128 .bf16) (x4 : Vec F S1x4096x128 .bf16) (x5 : Vec F S160x128 .bf16) (x6 : Vec F S160x128 .bf16) (x7 : Vec F S1x4096x128 .fp8e4m3) (x8 : Vec F S1x4096x128 .fp8e4m3) (x9 : Vec F S1x8x512 .f32) (x10 : Vec F S1x8x512 .f32) (x11 : Vec F S1x16x512 .f32) (x12 : Vec F S1x16x512 .f32) (xt0 : TbBuf0 (F := F) c tbM0_0) : sProp 𝕄 :=
  iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ tbPt0 c tbM0_0 xt0)

end Cert.Kernel.Gen

end
-- ==== Proof.Kernel.InvRuns1.lean ====
module

public import proofs.«01_k».proof.Proof.Kernel.Inv

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 4000000 in
/-- One chunk of the context keeps what the body holds. -/
theorem inv_ctxB (c : Dev nD) (i : grid0.Coords) (arg3 : Memref sig .tc .vmem S1x8192x128 .bf16) (harg3 : arg3.IsWhole) (arg4 : Memref sig .tc .vmem S1x8192x128 .bf16) (harg4 : arg4.IsWhole) (arg5 : Memref sig .tc .vmem S1x8192x128 .fp8e5m2) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S160x128 .bf16) (harg8 : arg8.IsWhole) (arg9 : Memref sig .tc .vmem S160x128 .bf16) (harg9 : arg9.IsWhole) (arg10 : Memref sig .tc .vmem S1x4096x128 .fp8e4m3) (harg10 : arg10.IsWhole) (arg11 : Memref sig .tc .vmem S1x4096x128 .fp8e4m3) (harg11 : arg11.IsWhole) (arg12 : Memref sig .tc .vmem S1x8x512 .f32) (harg12 : arg12.IsWhole) (arg13 : Memref sig .tc .vmem S1x8x512 .f32) (harg13 : arg13.IsWhole) (arg14 : Memref sig .tc .vmem S1x16x512 .f32) (harg14 : arg14.IsWhole) (arg15 : Memref sig .tc .vmem S1x16x512 .f32) (harg15 : arg15.IsWhole) (arg16 : Memref sig .tc .vmem S1x8192x128 .bf16) (harg16 : arg16.IsWhole) (arg17 : Memref sig .tc .vmem S1x20x16x512 .f32) (harg17 : arg17.IsWhole) (arg18 : Memref sig .tc .vmem S160x128 .bf16) (harg18 : arg18.IsWhole) (arg19 : Memref sig .tc .vmem S160x128 .bf16) (harg19 : arg19.IsWhole) (arg20 : Memref sig .tc .vmem S8x256x1024 .bf16) (harg20 : arg20.IsWhole) (arg21 : Memref sig .tc .vmem S8x128x1024 .fp8e5m2) (harg21 : arg21.IsWhole) (arg22 : Memref sig .tc .vmem S8x128x1024 .bf16) (harg22 : arg22.IsWhole) (arg23 : Memref sig .tc .vmem S8x128x1024 .f32) (harg23 : arg23.IsWhole) (arg24 : Memref sig .tc .vmem S8x1x1024 .f32) (harg24 : arg24.IsWhole) (arg25 : Memref sig .tc .vmem S8x1x1024 .f32) (harg25 : arg25.IsWhole) (arg26 : Memref sig .tc .vmem S128x128 .i32) (harg26 : arg26.IsWhole) (arg27 : Memref sig .tc .vmem S128x128 .i32) (harg27 : arg27.IsWhole) (arg28 : Memref sig .tc .vmem S8x32x128 .f32) (harg28 : arg28.IsWhole) (arg29 : Memref sig .tc .vmem S8x32x128 .f32) (harg29 : arg29.IsWhole) (arg30 : Memref sig .tc .vmem S512x128 .bf16) (harg30 : arg30.IsWhole) (arg31 : Memref sig .tc .vmem S128x512 .f32) (harg31 : arg31.IsWhole) (arg32 : Memref sig .tc .vmem S256x128 .f32) (harg32 : arg32.IsWhole) (x0 : Vec F S1x8192x128 .bf16) (x1 : Vec F S1x8192x128 .bf16) (x2 : Vec F S1x8192x128 .fp8e5m2) (x3 : Vec F S1x4096x128 .bf16) (x4 : Vec F S1x4096x128 .bf16) (x5 : Vec F S160x128 .bf16) (x6 : Vec F S160x128 .bf16) (x7 : Vec F S1x4096x128 .fp8e4m3) (x8 : Vec F S1x4096x128 .fp8e4m3) (x9 : Vec F S1x8x512 .f32) (x10 : Vec F S1x8x512 .f32) (x11 : Vec F S1x16x512 .f32) (x12 : Vec F S1x16x512 .f32) (xt0 : TbBuf0 (F := F) c tbM0_0) (E : Set ℕ) (K : PUnit.{1} → sProp 𝕄) (v1 : Elt F .i32) (jp : PUnit.{1} → Prog (TpuEff nD τ sig (Elt F) Λ₀ .tc) PUnit.{1}) :
    iprop(Inv c arg3 arg4 arg5 arg6 arg7 arg8 arg9 arg10 arg11 arg12 arg13 arg14 arg15 arg16 arg17 arg18 arg19 arg20 arg21 arg22 arg23 arg24 arg25 arg26 arg27 arg28 arg29 arg30 arg31 arg32 x0 x1 x2 x3 x4 x5 x6 x7 x8 x9 x10 x11 x12 xt0 ∗ (Inv c arg3 arg4 arg5 arg6 arg7 arg8 arg9 arg10 arg11 arg12 arg13 arg14 arg15 arg16 arg17 arg18 arg19 arg20 arg21 arg22 arg23 arg24 arg25 arg26 arg27 arg28 arg29 arg30 arg31 arg32 x0 x1 x2 x3 x4 x5 x6 x7 x8 x9 x10 x11 x12 xt0 -∗ wp frame (wpE (defs₀ (F := F)) Variants.none c none) E (jp ⟨⟩) K))
      ⊢ wp frame (wpE (defs₀ (F := F)) Variants.none c none) E (ctxB i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1 jp) K := by
  unfold ctxB Inv owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, HT0⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12
  sl_exec (disch := fail)
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; · ipureintro; exact harg13.read_unread _
    iexact H10
  isplitl [H11]
  · iexists _; isplitr; · ipureintro; exact harg14.read_unread _
    iexact H11
  isplitl [H12]
  · iexists _; isplitr; · ipureintro; exact harg15.read_unread _
    iexact H12
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _, _; isplitr; swap; · iexact H26
    ipureintro; rfl
  isplitl [H27]
  · iexists _, _; isplitr; swap; · iexact H27
    ipureintro; rfl
  isplitl [H28]
  · iexists _, _; isplitr; swap; · iexact H28
    ipureintro; rfl
  isplitl [H29]
  · iexists _, _; isplitr; swap; · iexact H29
    ipureintro; rfl
  iexact HT0

set_option maxHeartbeats 4000000 in
/-- The write-out of the query gradient keeps what the body holds. -/
theorem inv_epiB (c : Dev nD) (i : grid0.Coords) (arg3 : Memref sig .tc .vmem S1x8192x128 .bf16) (harg3 : arg3.IsWhole) (arg4 : Memref sig .tc .vmem S1x8192x128 .bf16) (harg4 : arg4.IsWhole) (arg5 : Memref sig .tc .vmem S1x8192x128 .fp8e5m2) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S160x128 .bf16) (harg8 : arg8.IsWhole) (arg9 : Memref sig .tc .vmem S160x128 .bf16) (harg9 : arg9.IsWhole) (arg10 : Memref sig .tc .vmem S1x4096x128 .fp8e4m3) (harg10 : arg10.IsWhole) (arg11 : Memref sig .tc .vmem S1x4096x128 .fp8e4m3) (harg11 : arg11.IsWhole) (arg12 : Memref sig .tc .vmem S1x8x512 .f32) (harg12 : arg12.IsWhole) (arg13 : Memref sig .tc .vmem S1x8x512 .f32) (harg13 : arg13.IsWhole) (arg14 : Memref sig .tc .vmem S1x16x512 .f32) (harg14 : arg14.IsWhole) (arg15 : Memref sig .tc .vmem S1x16x512 .f32) (harg15 : arg15.IsWhole) (arg16 : Memref sig .tc .vmem S1x8192x128 .bf16) (harg16 : arg16.IsWhole) (arg17 : Memref sig .tc .vmem S1x20x16x512 .f32) (harg17 : arg17.IsWhole) (arg18 : Memref sig .tc .vmem S160x128 .bf16) (harg18 : arg18.IsWhole) (arg19 : Memref sig .tc .vmem S160x128 .bf16) (harg19 : arg19.IsWhole) (arg20 : Memref sig .tc .vmem S8x256x1024 .bf16) (harg20 : arg20.IsWhole) (arg21 : Memref sig .tc .vmem S8x128x1024 .fp8e5m2) (harg21 : arg21.IsWhole) (arg22 : Memref sig .tc .vmem S8x128x1024 .bf16) (harg22 : arg22.IsWhole) (arg23 : Memref sig .tc .vmem S8x128x1024 .f32) (harg23 : arg23.IsWhole) (arg24 : Memref sig .tc .vmem S8x1x1024 .f32) (harg24 : arg24.IsWhole) (arg25 : Memref sig .tc .vmem S8x1x1024 .f32) (harg25 : arg25.IsWhole) (arg26 : Memref sig .tc .vmem S128x128 .i32) (harg26 : arg26.IsWhole) (arg27 : Memref sig .tc .vmem S128x128 .i32) (harg27 : arg27.IsWhole) (arg28 : Memref sig .tc .vmem S8x32x128 .f32) (harg28 : arg28.IsWhole) (arg29 : Memref sig .tc .vmem S8x32x128 .f32) (harg29 : arg29.IsWhole) (arg30 : Memref sig .tc .vmem S512x128 .bf16) (harg30 : arg30.IsWhole) (arg31 : Memref sig .tc .vmem S128x512 .f32) (harg31 : arg31.IsWhole) (arg32 : Memref sig .tc .vmem S256x128 .f32) (harg32 : arg32.IsWhole) (x0 : Vec F S1x8192x128 .bf16) (x1 : Vec F S1x8192x128 .bf16) (x2 : Vec F S1x8192x128 .fp8e5m2) (x3 : Vec F S1x4096x128 .bf16) (x4 : Vec F S1x4096x128 .bf16) (x5 : Vec F S160x128 .bf16) (x6 : Vec F S160x128 .bf16) (x7 : Vec F S1x4096x128 .fp8e4m3) (x8 : Vec F S1x4096x128 .fp8e4m3) (x9 : Vec F S1x8x512 .f32) (x10 : Vec F S1x8x512 .f32) (x11 : Vec F S1x16x512 .f32) (x12 : Vec F S1x16x512 .f32) (xt0 : TbBuf0 (F := F) c tbM0_0) (E : Set ℕ) (K : PUnit.{1} → sProp 𝕄) (jp : PUnit.{1} → Prog (TpuEff nD τ sig (Elt F) Λ₀ .tc) PUnit.{1}) :
    iprop(Inv c arg3 arg4 arg5 arg6 arg7 arg8 arg9 arg10 arg11 arg12 arg13 arg14 arg15 arg16 arg17 arg18 arg19 arg20 arg21 arg22 arg23 arg24 arg25 arg26 arg27 arg28 arg29 arg30 arg31 arg32 x0 x1 x2 x3 x4 x5 x6 x7 x8 x9 x10 x11 x12 xt0 ∗ (Inv c arg3 arg4 arg5 arg6 arg7 arg8 arg9 arg10 arg11 arg12 arg13 arg14 arg15 arg16 arg17 arg18 arg19 arg20 arg21 arg22 arg23 arg24 arg25 arg26 arg27 arg28 arg29 arg30 arg31 arg32 x0 x1 x2 x3 x4 x5 x6 x7 x8 x9 x10 x11 x12 xt0 -∗ wp frame (wpE (defs₀ (F := F)) Variants.none c none) E (jp ⟨⟩) K))
      ⊢ wp frame (wpE (defs₀ (F := F)) Variants.none c none) E (epiB i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 jp) K := by
  unfold epiB Inv owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, HT0⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12
  sl_exec (disch := fail)
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; · ipureintro; exact harg13.read_unread _
    iexact H10
  isplitl [H11]
  · iexists _; isplitr; · ipureintro; exact harg14.read_unread _
    iexact H11
  isplitl [H12]
  · iexists _; isplitr; · ipureintro; exact harg15.read_unread _
    iexact H12
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _, _; isplitr; swap; · iexact H26
    ipureintro; rfl
  isplitl [H27]
  · iexists _, _; isplitr; swap; · iexact H27
    ipureintro; rfl
  isplitl [H28]
  · iexists _, _; isplitr; swap; · iexact H28
    ipureintro; rfl
  isplitl [H29]
  · iexists _, _; isplitr; swap; · iexact H29
    ipureintro; rfl
  iexact HT0

set_option maxHeartbeats 4000000 in
/-- The write-out of the prefix gradients keeps what the body holds. -/
theorem inv_preB (c : Dev nD) (i : grid0.Coords) (arg3 : Memref sig .tc .vmem S1x8192x128 .bf16) (harg3 : arg3.IsWhole) (arg4 : Memref sig .tc .vmem S1x8192x128 .bf16) (harg4 : arg4.IsWhole) (arg5 : Memref sig .tc .vmem S1x8192x128 .fp8e5m2) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S160x128 .bf16) (harg8 : arg8.IsWhole) (arg9 : Memref sig .tc .vmem S160x128 .bf16) (harg9 : arg9.IsWhole) (arg10 : Memref sig .tc .vmem S1x4096x128 .fp8e4m3) (harg10 : arg10.IsWhole) (arg11 : Memref sig .tc .vmem S1x4096x128 .fp8e4m3) (harg11 : arg11.IsWhole) (arg12 : Memref sig .tc .vmem S1x8x512 .f32) (harg12 : arg12.IsWhole) (arg13 : Memref sig .tc .vmem S1x8x512 .f32) (harg13 : arg13.IsWhole) (arg14 : Memref sig .tc .vmem S1x16x512 .f32) (harg14 : arg14.IsWhole) (arg15 : Memref sig .tc .vmem S1x16x512 .f32) (harg15 : arg15.IsWhole) (arg16 : Memref sig .tc .vmem S1x8192x128 .bf16) (harg16 : arg16.IsWhole) (arg17 : Memref sig .tc .vmem S1x20x16x512 .f32) (harg17 : arg17.IsWhole) (arg18 : Memref sig .tc .vmem S160x128 .bf16) (harg18 : arg18.IsWhole) (arg19 : Memref sig .tc .vmem S160x128 .bf16) (harg19 : arg19.IsWhole) (arg20 : Memref sig .tc .vmem S8x256x1024 .bf16) (harg20 : arg20.IsWhole) (arg21 : Memref sig .tc .vmem S8x128x1024 .fp8e5m2) (harg21 : arg21.IsWhole) (arg22 : Memref sig .tc .vmem S8x128x1024 .bf16) (harg22 : arg22.IsWhole) (arg23 : Memref sig .tc .vmem S8x128x1024 .f32) (harg23 : arg23.IsWhole) (arg24 : Memref sig .tc .vmem S8x1x1024 .f32) (harg24 : arg24.IsWhole) (arg25 : Memref sig .tc .vmem S8x1x1024 .f32) (harg25 : arg25.IsWhole) (arg26 : Memref sig .tc .vmem S128x128 .i32) (harg26 : arg26.IsWhole) (arg27 : Memref sig .tc .vmem S128x128 .i32) (harg27 : arg27.IsWhole) (arg28 : Memref sig .tc .vmem S8x32x128 .f32) (harg28 : arg28.IsWhole) (arg29 : Memref sig .tc .vmem S8x32x128 .f32) (harg29 : arg29.IsWhole) (arg30 : Memref sig .tc .vmem S512x128 .bf16) (harg30 : arg30.IsWhole) (arg31 : Memref sig .tc .vmem S128x512 .f32) (harg31 : arg31.IsWhole) (arg32 : Memref sig .tc .vmem S256x128 .f32) (harg32 : arg32.IsWhole) (x0 : Vec F S1x8192x128 .bf16) (x1 : Vec F S1x8192x128 .bf16) (x2 : Vec F S1x8192x128 .fp8e5m2) (x3 : Vec F S1x4096x128 .bf16) (x4 : Vec F S1x4096x128 .bf16) (x5 : Vec F S160x128 .bf16) (x6 : Vec F S160x128 .bf16) (x7 : Vec F S1x4096x128 .fp8e4m3) (x8 : Vec F S1x4096x128 .fp8e4m3) (x9 : Vec F S1x8x512 .f32) (x10 : Vec F S1x8x512 .f32) (x11 : Vec F S1x16x512 .f32) (x12 : Vec F S1x16x512 .f32) (xt0 : TbBuf0 (F := F) c tbM0_0) (E : Set ℕ) (K : PUnit.{1} → sProp 𝕄) (jp : PUnit.{1} → Prog (TpuEff nD τ sig (Elt F) Λ₀ .tc) PUnit.{1}) :
    iprop(Inv c arg3 arg4 arg5 arg6 arg7 arg8 arg9 arg10 arg11 arg12 arg13 arg14 arg15 arg16 arg17 arg18 arg19 arg20 arg21 arg22 arg23 arg24 arg25 arg26 arg27 arg28 arg29 arg30 arg31 arg32 x0 x1 x2 x3 x4 x5 x6 x7 x8 x9 x10 x11 x12 xt0 ∗ (Inv c arg3 arg4 arg5 arg6 arg7 arg8 arg9 arg10 arg11 arg12 arg13 arg14 arg15 arg16 arg17 arg18 arg19 arg20 arg21 arg22 arg23 arg24 arg25 arg26 arg27 arg28 arg29 arg30 arg31 arg32 x0 x1 x2 x3 x4 x5 x6 x7 x8 x9 x10 x11 x12 xt0 -∗ wp frame (wpE (defs₀ (F := F)) Variants.none c none) E (jp ⟨⟩) K))
      ⊢ wp frame (wpE (defs₀ (F := F)) Variants.none c none) E (preB i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 jp) K := by
  unfold preB Inv owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, HT0⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12
  sl_exec (disch := fail)
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; · ipureintro; exact harg13.read_unread _
    iexact H10
  isplitl [H11]
  · iexists _; isplitr; · ipureintro; exact harg14.read_unread _
    iexact H11
  isplitl [H12]
  · iexists _; isplitr; · ipureintro; exact harg15.read_unread _
    iexact H12
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _, _; isplitr; swap; · iexact H26
    ipureintro; rfl
  isplitl [H27]
  · iexists _, _; isplitr; swap; · iexact H27
    ipureintro; rfl
  isplitl [H28]
  · iexists _, _; isplitr; swap; · iexact H28
    ipureintro; rfl
  isplitl [H29]
  · iexists _, _; isplitr; swap; · iexact H29
    ipureintro; rfl
  iexact HT0

end Cert.Kernel.Gen

end
-- ==== Proof.Kernel.InvRuns2.lean ====
module

public import proofs.«01_k».proof.Proof.Kernel.Inv

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 4000000 in
/-- The initialisation keeps what the body holds. -/
theorem inv_initB (c : Dev nD) (i : grid0.Coords) (arg3 : Memref sig .tc .vmem S1x8192x128 .bf16) (harg3 : arg3.IsWhole) (arg4 : Memref sig .tc .vmem S1x8192x128 .bf16) (harg4 : arg4.IsWhole) (arg5 : Memref sig .tc .vmem S1x8192x128 .fp8e5m2) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S160x128 .bf16) (harg8 : arg8.IsWhole) (arg9 : Memref sig .tc .vmem S160x128 .bf16) (harg9 : arg9.IsWhole) (arg10 : Memref sig .tc .vmem S1x4096x128 .fp8e4m3) (harg10 : arg10.IsWhole) (arg11 : Memref sig .tc .vmem S1x4096x128 .fp8e4m3) (harg11 : arg11.IsWhole) (arg12 : Memref sig .tc .vmem S1x8x512 .f32) (harg12 : arg12.IsWhole) (arg13 : Memref sig .tc .vmem S1x8x512 .f32) (harg13 : arg13.IsWhole) (arg14 : Memref sig .tc .vmem S1x16x512 .f32) (harg14 : arg14.IsWhole) (arg15 : Memref sig .tc .vmem S1x16x512 .f32) (harg15 : arg15.IsWhole) (arg16 : Memref sig .tc .vmem S1x8192x128 .bf16) (harg16 : arg16.IsWhole) (arg17 : Memref sig .tc .vmem S1x20x16x512 .f32) (harg17 : arg17.IsWhole) (arg18 : Memref sig .tc .vmem S160x128 .bf16) (harg18 : arg18.IsWhole) (arg19 : Memref sig .tc .vmem S160x128 .bf16) (harg19 : arg19.IsWhole) (arg20 : Memref sig .tc .vmem S8x256x1024 .bf16) (harg20 : arg20.IsWhole) (arg21 : Memref sig .tc .vmem S8x128x1024 .fp8e5m2) (harg21 : arg21.IsWhole) (arg22 : Memref sig .tc .vmem S8x128x1024 .bf16) (harg22 : arg22.IsWhole) (arg23 : Memref sig .tc .vmem S8x128x1024 .f32) (harg23 : arg23.IsWhole) (arg24 : Memref sig .tc .vmem S8x1x1024 .f32) (harg24 : arg24.IsWhole) (arg25 : Memref sig .tc .vmem S8x1x1024 .f32) (harg25 : arg25.IsWhole) (arg26 : Memref sig .tc .vmem S128x128 .i32) (harg26 : arg26.IsWhole) (arg27 : Memref sig .tc .vmem S128x128 .i32) (harg27 : arg27.IsWhole) (arg28 : Memref sig .tc .vmem S8x32x128 .f32) (harg28 : arg28.IsWhole) (arg29 : Memref sig .tc .vmem S8x32x128 .f32) (harg29 : arg29.IsWhole) (arg30 : Memref sig .tc .vmem S512x128 .bf16) (harg30 : arg30.IsWhole) (arg31 : Memref sig .tc .vmem S128x512 .f32) (harg31 : arg31.IsWhole) (arg32 : Memref sig .tc .vmem S256x128 .f32) (harg32 : arg32.IsWhole) (x0 : Vec F S1x8192x128 .bf16) (x1 : Vec F S1x8192x128 .bf16) (x2 : Vec F S1x8192x128 .fp8e5m2) (x3 : Vec F S1x4096x128 .bf16) (x4 : Vec F S1x4096x128 .bf16) (x5 : Vec F S160x128 .bf16) (x6 : Vec F S160x128 .bf16) (x7 : Vec F S1x4096x128 .fp8e4m3) (x8 : Vec F S1x4096x128 .fp8e4m3) (x9 : Vec F S1x8x512 .f32) (x10 : Vec F S1x8x512 .f32) (x11 : Vec F S1x16x512 .f32) (x12 : Vec F S1x16x512 .f32) (xt0 : TbBuf0 (F := F) c tbM0_0) (E : Set ℕ) {α : Type} (K : α → sProp 𝕄) (jp : PUnit.{1} → Prog (TpuEff nD τ sig (Elt F) Λ₀ .tc) α) :
    iprop(Inv c arg3 arg4 arg5 arg6 arg7 arg8 arg9 arg10 arg11 arg12 arg13 arg14 arg15 arg16 arg17 arg18 arg19 arg20 arg21 arg22 arg23 arg24 arg25 arg26 arg27 arg28 arg29 arg30 arg31 arg32 x0 x1 x2 x3 x4 x5 x6 x7 x8 x9 x10 x11 x12 xt0 ∗ (Inv c arg3 arg4 arg5 arg6 arg7 arg8 arg9 arg10 arg11 arg12 arg13 arg14 arg15 arg16 arg17 arg18 arg19 arg20 arg21 arg22 arg23 arg24 arg25 arg26 arg27 arg28 arg29 arg30 arg31 arg32 x0 x1 x2 x3 x4 x5 x6 x7 x8 x9 x10 x11 x12 xt0 -∗ wp frame (wpE (defs₀ (F := F)) Variants.none c none) E (jp ⟨⟩) K))
      ⊢ wp frame (wpE (defs₀ (F := F)) Variants.none c none) E (initB i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 jp) K := by
  unfold initB Inv owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, HT0⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12
  sl_exec (disch := fail)
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; · ipureintro; exact harg13.read_unread _
    iexact H10
  isplitl [H11]
  · iexists _; isplitr; · ipureintro; exact harg14.read_unread _
    iexact H11
  isplitl [H12]
  · iexists _; isplitr; · ipureintro; exact harg15.read_unread _
    iexact H12
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _, _; isplitr; swap; · iexact H26
    ipureintro; rfl
  isplitl [H27]
  · iexists _, _; isplitr; swap; · iexact H27
    ipureintro; rfl
  isplitl [H28]
  · iexists _, _; isplitr; swap; · iexact H28
    ipureintro; rfl
  isplitl [H29]
  · iexists _, _; isplitr; swap; · iexact H29
    ipureintro; rfl
  iexact HT0

set_option maxHeartbeats 4000000 in
/-- The prologue of a batch keeps what the body holds. -/
theorem inv_proB (c : Dev nD) (i : grid0.Coords) (arg3 : Memref sig .tc .vmem S1x8192x128 .bf16) (harg3 : arg3.IsWhole) (arg4 : Memref sig .tc .vmem S1x8192x128 .bf16) (harg4 : arg4.IsWhole) (arg5 : Memref sig .tc .vmem S1x8192x128 .fp8e5m2) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S160x128 .bf16) (harg8 : arg8.IsWhole) (arg9 : Memref sig .tc .vmem S160x128 .bf16) (harg9 : arg9.IsWhole) (arg10 : Memref sig .tc .vmem S1x4096x128 .fp8e4m3) (harg10 : arg10.IsWhole) (arg11 : Memref sig .tc .vmem S1x4096x128 .fp8e4m3) (harg11 : arg11.IsWhole) (arg12 : Memref sig .tc .vmem S1x8x512 .f32) (harg12 : arg12.IsWhole) (arg13 : Memref sig .tc .vmem S1x8x512 .f32) (harg13 : arg13.IsWhole) (arg14 : Memref sig .tc .vmem S1x16x512 .f32) (harg14 : arg14.IsWhole) (arg15 : Memref sig .tc .vmem S1x16x512 .f32) (harg15 : arg15.IsWhole) (arg16 : Memref sig .tc .vmem S1x8192x128 .bf16) (harg16 : arg16.IsWhole) (arg17 : Memref sig .tc .vmem S1x20x16x512 .f32) (harg17 : arg17.IsWhole) (arg18 : Memref sig .tc .vmem S160x128 .bf16) (harg18 : arg18.IsWhole) (arg19 : Memref sig .tc .vmem S160x128 .bf16) (harg19 : arg19.IsWhole) (arg20 : Memref sig .tc .vmem S8x256x1024 .bf16) (harg20 : arg20.IsWhole) (arg21 : Memref sig .tc .vmem S8x128x1024 .fp8e5m2) (harg21 : arg21.IsWhole) (arg22 : Memref sig .tc .vmem S8x128x1024 .bf16) (harg22 : arg22.IsWhole) (arg23 : Memref sig .tc .vmem S8x128x1024 .f32) (harg23 : arg23.IsWhole) (arg24 : Memref sig .tc .vmem S8x1x1024 .f32) (harg24 : arg24.IsWhole) (arg25 : Memref sig .tc .vmem S8x1x1024 .f32) (harg25 : arg25.IsWhole) (arg26 : Memref sig .tc .vmem S128x128 .i32) (harg26 : arg26.IsWhole) (arg27 : Memref sig .tc .vmem S128x128 .i32) (harg27 : arg27.IsWhole) (arg28 : Memref sig .tc .vmem S8x32x128 .f32) (harg28 : arg28.IsWhole) (arg29 : Memref sig .tc .vmem S8x32x128 .f32) (harg29 : arg29.IsWhole) (arg30 : Memref sig .tc .vmem S512x128 .bf16) (harg30 : arg30.IsWhole) (arg31 : Memref sig .tc .vmem S128x512 .f32) (harg31 : arg31.IsWhole) (arg32 : Memref sig .tc .vmem S256x128 .f32) (harg32 : arg32.IsWhole) (x0 : Vec F S1x8192x128 .bf16) (x1 : Vec F S1x8192x128 .bf16) (x2 : Vec F S1x8192x128 .fp8e5m2) (x3 : Vec F S1x4096x128 .bf16) (x4 : Vec F S1x4096x128 .bf16) (x5 : Vec F S160x128 .bf16) (x6 : Vec F S160x128 .bf16) (x7 : Vec F S1x4096x128 .fp8e4m3) (x8 : Vec F S1x4096x128 .fp8e4m3) (x9 : Vec F S1x8x512 .f32) (x10 : Vec F S1x8x512 .f32) (x11 : Vec F S1x16x512 .f32) (x12 : Vec F S1x16x512 .f32) (xt0 : TbBuf0 (F := F) c tbM0_0) (E : Set ℕ) (K : PUnit.{1} → sProp 𝕄) (jp : PUnit.{1} → Prog (TpuEff nD τ sig (Elt F) Λ₀ .tc) PUnit.{1}) :
    iprop(Inv c arg3 arg4 arg5 arg6 arg7 arg8 arg9 arg10 arg11 arg12 arg13 arg14 arg15 arg16 arg17 arg18 arg19 arg20 arg21 arg22 arg23 arg24 arg25 arg26 arg27 arg28 arg29 arg30 arg31 arg32 x0 x1 x2 x3 x4 x5 x6 x7 x8 x9 x10 x11 x12 xt0 ∗ (Inv c arg3 arg4 arg5 arg6 arg7 arg8 arg9 arg10 arg11 arg12 arg13 arg14 arg15 arg16 arg17 arg18 arg19 arg20 arg21 arg22 arg23 arg24 arg25 arg26 arg27 arg28 arg29 arg30 arg31 arg32 x0 x1 x2 x3 x4 x5 x6 x7 x8 x9 x10 x11 x12 xt0 -∗ wp frame (wpE (defs₀ (F := F)) Variants.none c none) E (jp ⟨⟩) K))
      ⊢ wp frame (wpE (defs₀ (F := F)) Variants.none c none) E (proB i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 jp) K := by
  unfold proB Inv owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, HT0⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12
  sl_exec (disch := fail)
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; · ipureintro; exact harg13.read_unread _
    iexact H10
  isplitl [H11]
  · iexists _; isplitr; · ipureintro; exact harg14.read_unread _
    iexact H11
  isplitl [H12]
  · iexists _; isplitr; · ipureintro; exact harg15.read_unread _
    iexact H12
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _, _; isplitr; swap; · iexact H26
    ipureintro; rfl
  isplitl [H27]
  · iexists _, _; isplitr; swap; · iexact H27
    ipureintro; rfl
  isplitl [H28]
  · iexists _, _; isplitr; swap; · iexact H28
    ipureintro; rfl
  isplitl [H29]
  · iexists _, _; isplitr; swap; · iexact H29
    ipureintro; rfl
  iexact HT0

end Cert.Kernel.Gen

end
-- ==== Proof.Kernel.Frame.lean ====
module

public import proofs.«01_k».proof.Proof.Kernel.InvRuns1
public import proofs.«01_k».proof.Proof.Kernel.InvRuns2
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

section body

/-- The read of the context length keeps the table. -/
theorem wp_table (c : Dev nD) (i : grid0.Coords) (xt0 : TbBuf0 (F := F) c tbM0_0) (E : Set ℕ) (K : PUnit.{1} → sProp 𝕄) (k : Elt F .i32 → Prog (TpuEff nD τ sig (Elt F) Λ₀ .tc) PUnit.{1}) :
    iprop(tbPt0 c tbM0_0 xt0 ∗ (∀ v, tbPt0 c tbM0_0 xt0 -∗ wp frame (wpE (defs₀ (F := F)) Variants.none c none) E (k v) K))
      ⊢ wp frame (wpE (defs₀ (F := F)) Variants.none c none) E (smemLoad tbM0_0 (Rect.unit (s := S2) (k0_off1 i) S1.size (k0_off1_inb i)) numel1_S1 rfl >>= k) K := by
  iintro ⟨HT0, Hk⟩
  sl_exec (disch := fail)
  iapply Hk
  iexact HT0

set_option maxHeartbeats 2000000 in
/-- The write-outs keep what the body holds. -/
theorem inv_fromEpi (c : Dev nD) (i : grid0.Coords) (arg3 : Memref sig .tc .vmem S1x8192x128 .bf16) (harg3 : arg3.IsWhole) (arg4 : Memref sig .tc .vmem S1x8192x128 .bf16) (harg4 : arg4.IsWhole) (arg5 : Memref sig .tc .vmem S1x8192x128 .fp8e5m2) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S160x128 .bf16) (harg8 : arg8.IsWhole) (arg9 : Memref sig .tc .vmem S160x128 .bf16) (harg9 : arg9.IsWhole) (arg10 : Memref sig .tc .vmem S1x4096x128 .fp8e4m3) (harg10 : arg10.IsWhole) (arg11 : Memref sig .tc .vmem S1x4096x128 .fp8e4m3) (harg11 : arg11.IsWhole) (arg12 : Memref sig .tc .vmem S1x8x512 .f32) (harg12 : arg12.IsWhole) (arg13 : Memref sig .tc .vmem S1x8x512 .f32) (harg13 : arg13.IsWhole) (arg14 : Memref sig .tc .vmem S1x16x512 .f32) (harg14 : arg14.IsWhole) (arg15 : Memref sig .tc .vmem S1x16x512 .f32) (harg15 : arg15.IsWhole) (arg16 : Memref sig .tc .vmem S1x8192x128 .bf16) (harg16 : arg16.IsWhole) (arg17 : Memref sig .tc .vmem S1x20x16x512 .f32) (harg17 : arg17.IsWhole) (arg18 : Memref sig .tc .vmem S160x128 .bf16) (harg18 : arg18.IsWhole) (arg19 : Memref sig .tc .vmem S160x128 .bf16) (harg19 : arg19.IsWhole) (arg20 : Memref sig .tc .vmem S8x256x1024 .bf16) (harg20 : arg20.IsWhole) (arg21 : Memref sig .tc .vmem S8x128x1024 .fp8e5m2) (harg21 : arg21.IsWhole) (arg22 : Memref sig .tc .vmem S8x128x1024 .bf16) (harg22 : arg22.IsWhole) (arg23 : Memref sig .tc .vmem S8x128x1024 .f32) (harg23 : arg23.IsWhole) (arg24 : Memref sig .tc .vmem S8x1x1024 .f32) (harg24 : arg24.IsWhole) (arg25 : Memref sig .tc .vmem S8x1x1024 .f32) (harg25 : arg25.IsWhole) (arg26 : Memref sig .tc .vmem S128x128 .i32) (harg26 : arg26.IsWhole) (arg27 : Memref sig .tc .vmem S128x128 .i32) (harg27 : arg27.IsWhole) (arg28 : Memref sig .tc .vmem S8x32x128 .f32) (harg28 : arg28.IsWhole) (arg29 : Memref sig .tc .vmem S8x32x128 .f32) (harg29 : arg29.IsWhole) (arg30 : Memref sig .tc .vmem S512x128 .bf16) (harg30 : arg30.IsWhole) (arg31 : Memref sig .tc .vmem S128x512 .f32) (harg31 : arg31.IsWhole) (arg32 : Memref sig .tc .vmem S256x128 .f32) (harg32 : arg32.IsWhole) (x0 : Vec F S1x8192x128 .bf16) (x1 : Vec F S1x8192x128 .bf16) (x2 : Vec F S1x8192x128 .fp8e5m2) (x3 : Vec F S1x4096x128 .bf16) (x4 : Vec F S1x4096x128 .bf16) (x5 : Vec F S160x128 .bf16) (x6 : Vec F S160x128 .bf16) (x7 : Vec F S1x4096x128 .fp8e4m3) (x8 : Vec F S1x4096x128 .fp8e4m3) (x9 : Vec F S1x8x512 .f32) (x10 : Vec F S1x8x512 .f32) (x11 : Vec F S1x16x512 .f32) (x12 : Vec F S1x16x512 .f32) (xt0 : TbBuf0 (F := F) c tbM0_0) (E : Set ℕ) (K : PUnit.{1} → sProp 𝕄) :
    iprop(Inv c arg3 arg4 arg5 arg6 arg7 arg8 arg9 arg10 arg11 arg12 arg13 arg14 arg15 arg16 arg17 arg18 arg19 arg20 arg21 arg22 arg23 arg24 arg25 arg26 arg27 arg28 arg29 arg30 arg31 arg32 x0 x1 x2 x3 x4 x5 x6 x7 x8 x9 x10 x11 x12 xt0 ∗ (Inv c arg3 arg4 arg5 arg6 arg7 arg8 arg9 arg10 arg11 arg12 arg13 arg14 arg15 arg16 arg17 arg18 arg19 arg20 arg21 arg22 arg23 arg24 arg25 arg26 arg27 arg28 arg29 arg30 arg31 arg32 x0 x1 x2 x3 x4 x5 x6 x7 x8 x9 x10 x11 x12 xt0 -∗ K ⟨⟩)) ⊢ wp frame (wpE (defs₀ (F := F)) Variants.none c none) E (fromEpi i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) K := by
  unfold fromEpi
  by_cases h : k0_cond4 i = 1#1
  · rw [if_pos h]
    iintro ⟨HI, Hk⟩
    iapply (inv_epiB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 xt0 E K  _)
    isplitl [HI]
    · iexact HI
    iintro HI
    by_cases h' : k0_cond5 i = 1#1
    · rw [if_pos h']
      iapply (inv_preB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 xt0 E K  _)
      isplitl [HI]
      · iexact HI
      iintro HI
      sl_step
      iapply Hk
      iexact HI
    · rw [if_neg h']
      sl_step
      iapply Hk
      iexact HI
  · rw [if_neg h]
    iintro ⟨HI, Hk⟩
    sl_step
    iapply Hk
    iexact HI

set_option maxHeartbeats 2000000 in
/-- The chunk and the write-outs keep what the body holds. -/
theorem inv_fromCtx (c : Dev nD) (i : grid0.Coords) (arg3 : Memref sig .tc .vmem S1x8192x128 .bf16) (harg3 : arg3.IsWhole) (arg4 : Memref sig .tc .vmem S1x8192x128 .bf16) (harg4 : arg4.IsWhole) (arg5 : Memref sig .tc .vmem S1x8192x128 .fp8e5m2) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S160x128 .bf16) (harg8 : arg8.IsWhole) (arg9 : Memref sig .tc .vmem S160x128 .bf16) (harg9 : arg9.IsWhole) (arg10 : Memref sig .tc .vmem S1x4096x128 .fp8e4m3) (harg10 : arg10.IsWhole) (arg11 : Memref sig .tc .vmem S1x4096x128 .fp8e4m3) (harg11 : arg11.IsWhole) (arg12 : Memref sig .tc .vmem S1x8x512 .f32) (harg12 : arg12.IsWhole) (arg13 : Memref sig .tc .vmem S1x8x512 .f32) (harg13 : arg13.IsWhole) (arg14 : Memref sig .tc .vmem S1x16x512 .f32) (harg14 : arg14.IsWhole) (arg15 : Memref sig .tc .vmem S1x16x512 .f32) (harg15 : arg15.IsWhole) (arg16 : Memref sig .tc .vmem S1x8192x128 .bf16) (harg16 : arg16.IsWhole) (arg17 : Memref sig .tc .vmem S1x20x16x512 .f32) (harg17 : arg17.IsWhole) (arg18 : Memref sig .tc .vmem S160x128 .bf16) (harg18 : arg18.IsWhole) (arg19 : Memref sig .tc .vmem S160x128 .bf16) (harg19 : arg19.IsWhole) (arg20 : Memref sig .tc .vmem S8x256x1024 .bf16) (harg20 : arg20.IsWhole) (arg21 : Memref sig .tc .vmem S8x128x1024 .fp8e5m2) (harg21 : arg21.IsWhole) (arg22 : Memref sig .tc .vmem S8x128x1024 .bf16) (harg22 : arg22.IsWhole) (arg23 : Memref sig .tc .vmem S8x128x1024 .f32) (harg23 : arg23.IsWhole) (arg24 : Memref sig .tc .vmem S8x1x1024 .f32) (harg24 : arg24.IsWhole) (arg25 : Memref sig .tc .vmem S8x1x1024 .f32) (harg25 : arg25.IsWhole) (arg26 : Memref sig .tc .vmem S128x128 .i32) (harg26 : arg26.IsWhole) (arg27 : Memref sig .tc .vmem S128x128 .i32) (harg27 : arg27.IsWhole) (arg28 : Memref sig .tc .vmem S8x32x128 .f32) (harg28 : arg28.IsWhole) (arg29 : Memref sig .tc .vmem S8x32x128 .f32) (harg29 : arg29.IsWhole) (arg30 : Memref sig .tc .vmem S512x128 .bf16) (harg30 : arg30.IsWhole) (arg31 : Memref sig .tc .vmem S128x512 .f32) (harg31 : arg31.IsWhole) (arg32 : Memref sig .tc .vmem S256x128 .f32) (harg32 : arg32.IsWhole) (x0 : Vec F S1x8192x128 .bf16) (x1 : Vec F S1x8192x128 .bf16) (x2 : Vec F S1x8192x128 .fp8e5m2) (x3 : Vec F S1x4096x128 .bf16) (x4 : Vec F S1x4096x128 .bf16) (x5 : Vec F S160x128 .bf16) (x6 : Vec F S160x128 .bf16) (x7 : Vec F S1x4096x128 .fp8e4m3) (x8 : Vec F S1x4096x128 .fp8e4m3) (x9 : Vec F S1x8x512 .f32) (x10 : Vec F S1x8x512 .f32) (x11 : Vec F S1x16x512 .f32) (x12 : Vec F S1x16x512 .f32) (xt0 : TbBuf0 (F := F) c tbM0_0) (E : Set ℕ) (K : PUnit.{1} → sProp 𝕄) (v1 : Elt F .i32) :
    iprop(Inv c arg3 arg4 arg5 arg6 arg7 arg8 arg9 arg10 arg11 arg12 arg13 arg14 arg15 arg16 arg17 arg18 arg19 arg20 arg21 arg22 arg23 arg24 arg25 arg26 arg27 arg28 arg29 arg30 arg31 arg32 x0 x1 x2 x3 x4 x5 x6 x7 x8 x9 x10 x11 x12 xt0 ∗ (Inv c arg3 arg4 arg5 arg6 arg7 arg8 arg9 arg10 arg11 arg12 arg13 arg14 arg15 arg16 arg17 arg18 arg19 arg20 arg21 arg22 arg23 arg24 arg25 arg26 arg27 arg28 arg29 arg30 arg31 arg32 x0 x1 x2 x3 x4 x5 x6 x7 x8 x9 x10 x11 x12 xt0 -∗ K ⟨⟩)) ⊢ wp frame (wpE (defs₀ (F := F)) Variants.none c none) E (fromCtx i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1) K := by
  unfold fromCtx
  by_cases h : cond0_2 i v1
  · rw [if_pos h]
    iintro ⟨HI, Hk⟩
    iapply (inv_ctxB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 xt0 E K v1 _)
    isplitl [HI]
    · iexact HI
    iintro HI
    iapply (inv_fromEpi c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 xt0 E K)
    isplitl [HI]
    · iexact HI
    iexact Hk
  · rw [if_neg h]
    exact inv_fromEpi c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 xt0 E K

set_option maxHeartbeats 2000000 in
/-- What follows the read of the context length keeps what the body holds. -/
theorem inv_rest (c : Dev nD) (i : grid0.Coords) (arg3 : Memref sig .tc .vmem S1x8192x128 .bf16) (harg3 : arg3.IsWhole) (arg4 : Memref sig .tc .vmem S1x8192x128 .bf16) (harg4 : arg4.IsWhole) (arg5 : Memref sig .tc .vmem S1x8192x128 .fp8e5m2) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S160x128 .bf16) (harg8 : arg8.IsWhole) (arg9 : Memref sig .tc .vmem S160x128 .bf16) (harg9 : arg9.IsWhole) (arg10 : Memref sig .tc .vmem S1x4096x128 .fp8e4m3) (harg10 : arg10.IsWhole) (arg11 : Memref sig .tc .vmem S1x4096x128 .fp8e4m3) (harg11 : arg11.IsWhole) (arg12 : Memref sig .tc .vmem S1x8x512 .f32) (harg12 : arg12.IsWhole) (arg13 : Memref sig .tc .vmem S1x8x512 .f32) (harg13 : arg13.IsWhole) (arg14 : Memref sig .tc .vmem S1x16x512 .f32) (harg14 : arg14.IsWhole) (arg15 : Memref sig .tc .vmem S1x16x512 .f32) (harg15 : arg15.IsWhole) (arg16 : Memref sig .tc .vmem S1x8192x128 .bf16) (harg16 : arg16.IsWhole) (arg17 : Memref sig .tc .vmem S1x20x16x512 .f32) (harg17 : arg17.IsWhole) (arg18 : Memref sig .tc .vmem S160x128 .bf16) (harg18 : arg18.IsWhole) (arg19 : Memref sig .tc .vmem S160x128 .bf16) (harg19 : arg19.IsWhole) (arg20 : Memref sig .tc .vmem S8x256x1024 .bf16) (harg20 : arg20.IsWhole) (arg21 : Memref sig .tc .vmem S8x128x1024 .fp8e5m2) (harg21 : arg21.IsWhole) (arg22 : Memref sig .tc .vmem S8x128x1024 .bf16) (harg22 : arg22.IsWhole) (arg23 : Memref sig .tc .vmem S8x128x1024 .f32) (harg23 : arg23.IsWhole) (arg24 : Memref sig .tc .vmem S8x1x1024 .f32) (harg24 : arg24.IsWhole) (arg25 : Memref sig .tc .vmem S8x1x1024 .f32) (harg25 : arg25.IsWhole) (arg26 : Memref sig .tc .vmem S128x128 .i32) (harg26 : arg26.IsWhole) (arg27 : Memref sig .tc .vmem S128x128 .i32) (harg27 : arg27.IsWhole) (arg28 : Memref sig .tc .vmem S8x32x128 .f32) (harg28 : arg28.IsWhole) (arg29 : Memref sig .tc .vmem S8x32x128 .f32) (harg29 : arg29.IsWhole) (arg30 : Memref sig .tc .vmem S512x128 .bf16) (harg30 : arg30.IsWhole) (arg31 : Memref sig .tc .vmem S128x512 .f32) (harg31 : arg31.IsWhole) (arg32 : Memref sig .tc .vmem S256x128 .f32) (harg32 : arg32.IsWhole) (x0 : Vec F S1x8192x128 .bf16) (x1 : Vec F S1x8192x128 .bf16) (x2 : Vec F S1x8192x128 .fp8e5m2) (x3 : Vec F S1x4096x128 .bf16) (x4 : Vec F S1x4096x128 .bf16) (x5 : Vec F S160x128 .bf16) (x6 : Vec F S160x128 .bf16) (x7 : Vec F S1x4096x128 .fp8e4m3) (x8 : Vec F S1x4096x128 .fp8e4m3) (x9 : Vec F S1x8x512 .f32) (x10 : Vec F S1x8x512 .f32) (x11 : Vec F S1x16x512 .f32) (x12 : Vec F S1x16x512 .f32) (xt0 : TbBuf0 (F := F) c tbM0_0) (E : Set ℕ) (K : PUnit.{1} → sProp 𝕄) (v1 : Elt F .i32) :
    iprop(Inv c arg3 arg4 arg5 arg6 arg7 arg8 arg9 arg10 arg11 arg12 arg13 arg14 arg15 arg16 arg17 arg18 arg19 arg20 arg21 arg22 arg23 arg24 arg25 arg26 arg27 arg28 arg29 arg30 arg31 arg32 x0 x1 x2 x3 x4 x5 x6 x7 x8 x9 x10 x11 x12 xt0 ∗ (Inv c arg3 arg4 arg5 arg6 arg7 arg8 arg9 arg10 arg11 arg12 arg13 arg14 arg15 arg16 arg17 arg18 arg19 arg20 arg21 arg22 arg23 arg24 arg25 arg26 arg27 arg28 arg29 arg30 arg31 arg32 x0 x1 x2 x3 x4 x5 x6 x7 x8 x9 x10 x11 x12 xt0 -∗ K ⟨⟩)) ⊢ wp frame (wpE (defs₀ (F := F)) Variants.none c none) E (if k0_cond1 i = 1#1 then proA i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 (fun _ => fromCtx i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1) else fromCtx i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1) K := by
  iintro ⟨HI, Hk⟩
  by_cases h : k0_cond1 i = 1#1
  · rw [if_pos h, proA_eq]
    by_cases h' : cond0_1 i
    · rw [if_pos h']
      iapply (inv_initB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 xt0 E K  _)
      isplitl [HI]
      · iexact HI
      iintro HI
      iapply (inv_proB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 xt0 E K  _)
      isplitl [HI]
      · iexact HI
      iintro HI
      iapply (inv_fromCtx c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 xt0 E K _)
      isplitl [HI]
      · iexact HI
      iexact Hk
    · rw [if_neg h']
      iapply (inv_proB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 xt0 E K  _)
      isplitl [HI]
      · iexact HI
      iintro HI
      iapply (inv_fromCtx c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 xt0 E K _)
      isplitl [HI]
      · iexact HI
      iexact Hk
  · rw [if_neg h]
    iapply (inv_fromCtx c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 xt0 E K _)
    isplitl [HI]
    · iexact HI
    iexact Hk

set_option maxHeartbeats 2000000 in
/-- The body keeps what it holds: the inputs at their blocks, the outputs and the scratch at some contents, the table. -/
theorem inv_body (c : Dev nD) (i : grid0.Coords) (arg3 : Memref sig .tc .vmem S1x8192x128 .bf16) (harg3 : arg3.IsWhole) (arg4 : Memref sig .tc .vmem S1x8192x128 .bf16) (harg4 : arg4.IsWhole) (arg5 : Memref sig .tc .vmem S1x8192x128 .fp8e5m2) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S160x128 .bf16) (harg8 : arg8.IsWhole) (arg9 : Memref sig .tc .vmem S160x128 .bf16) (harg9 : arg9.IsWhole) (arg10 : Memref sig .tc .vmem S1x4096x128 .fp8e4m3) (harg10 : arg10.IsWhole) (arg11 : Memref sig .tc .vmem S1x4096x128 .fp8e4m3) (harg11 : arg11.IsWhole) (arg12 : Memref sig .tc .vmem S1x8x512 .f32) (harg12 : arg12.IsWhole) (arg13 : Memref sig .tc .vmem S1x8x512 .f32) (harg13 : arg13.IsWhole) (arg14 : Memref sig .tc .vmem S1x16x512 .f32) (harg14 : arg14.IsWhole) (arg15 : Memref sig .tc .vmem S1x16x512 .f32) (harg15 : arg15.IsWhole) (arg16 : Memref sig .tc .vmem S1x8192x128 .bf16) (harg16 : arg16.IsWhole) (arg17 : Memref sig .tc .vmem S1x20x16x512 .f32) (harg17 : arg17.IsWhole) (arg18 : Memref sig .tc .vmem S160x128 .bf16) (harg18 : arg18.IsWhole) (arg19 : Memref sig .tc .vmem S160x128 .bf16) (harg19 : arg19.IsWhole) (arg20 : Memref sig .tc .vmem S8x256x1024 .bf16) (harg20 : arg20.IsWhole) (arg21 : Memref sig .tc .vmem S8x128x1024 .fp8e5m2) (harg21 : arg21.IsWhole) (arg22 : Memref sig .tc .vmem S8x128x1024 .bf16) (harg22 : arg22.IsWhole) (arg23 : Memref sig .tc .vmem S8x128x1024 .f32) (harg23 : arg23.IsWhole) (arg24 : Memref sig .tc .vmem S8x1x1024 .f32) (harg24 : arg24.IsWhole) (arg25 : Memref sig .tc .vmem S8x1x1024 .f32) (harg25 : arg25.IsWhole) (arg26 : Memref sig .tc .vmem S128x128 .i32) (harg26 : arg26.IsWhole) (arg27 : Memref sig .tc .vmem S128x128 .i32) (harg27 : arg27.IsWhole) (arg28 : Memref sig .tc .vmem S8x32x128 .f32) (harg28 : arg28.IsWhole) (arg29 : Memref sig .tc .vmem S8x32x128 .f32) (harg29 : arg29.IsWhole) (arg30 : Memref sig .tc .vmem S512x128 .bf16) (harg30 : arg30.IsWhole) (arg31 : Memref sig .tc .vmem S128x512 .f32) (harg31 : arg31.IsWhole) (arg32 : Memref sig .tc .vmem S256x128 .f32) (harg32 : arg32.IsWhole) (x0 : Vec F S1x8192x128 .bf16) (x1 : Vec F S1x8192x128 .bf16) (x2 : Vec F S1x8192x128 .fp8e5m2) (x3 : Vec F S1x4096x128 .bf16) (x4 : Vec F S1x4096x128 .bf16) (x5 : Vec F S160x128 .bf16) (x6 : Vec F S160x128 .bf16) (x7 : Vec F S1x4096x128 .fp8e4m3) (x8 : Vec F S1x4096x128 .fp8e4m3) (x9 : Vec F S1x8x512 .f32) (x10 : Vec F S1x8x512 .f32) (x11 : Vec F S1x16x512 .f32) (x12 : Vec F S1x16x512 .f32) (xt0 : TbBuf0 (F := F) c tbM0_0) (E : Set ℕ) (K : PUnit.{1} → sProp 𝕄) :
    iprop(Inv c arg3 arg4 arg5 arg6 arg7 arg8 arg9 arg10 arg11 arg12 arg13 arg14 arg15 arg16 arg17 arg18 arg19 arg20 arg21 arg22 arg23 arg24 arg25 arg26 arg27 arg28 arg29 arg30 arg31 arg32 x0 x1 x2 x3 x4 x5 x6 x7 x8 x9 x10 x11 x12 xt0 ∗ (Inv c arg3 arg4 arg5 arg6 arg7 arg8 arg9 arg10 arg11 arg12 arg13 arg14 arg15 arg16 arg17 arg18 arg19 arg20 arg21 arg22 arg23 arg24 arg25 arg26 arg27 arg28 arg29 arg30 arg31 arg32 x0 x1 x2 x3 x4 x5 x6 x7 x8 x9 x10 x11 x12 xt0 -∗ K ⟨⟩)) ⊢ wp frame (wpE (defs₀ (F := F)) Variants.none c none) E (cc0_prefix_attention_backward i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) K := by
  rw [body_eq]
  iintro ⟨⟨H0, H1, H2, H3, H4, H5, H6, H7, H8, H9, H10, H11, H12, H13, H14, H15, H16, H17, H18, H19, H20, H21, H22, H23, H24, H25, H26, H27, H28, H29, HT0⟩, Hk⟩
  iapply (wp_table c i xt0 E K _)
  isplitl [HT0]
  · iexact HT0
  iintro %v1 HT0
  iapply (inv_rest c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 xt0 E K _)
  isplitl [H0 H1 H2 H3 H4 H5 H6 H7 H8 H9 H10 H11 H12 H13 H14 H15 H16 H17 H18 H19 H20 H21 H22 H23 H24 H25 H26 H27 H28 H29 HT0]
  · unfold Inv

    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    isplitl [H21]
    · iexact H21
    isplitl [H22]
    · iexact H22
    isplitl [H23]
    · iexact H23
    isplitl [H24]
    · iexact H24
    isplitl [H25]
    · iexact H25
    isplitl [H26]
    · iexact H26
    isplitl [H27]
    · iexact H27
    isplitl [H28]
    · iexact H28
    isplitl [H29]
    · iexact H29
    iexact HT0
  iexact Hk
end body

/-- The output windows: nothing the frame says reads what the kernel leaves in them. -/
def forgets0 : Fin 17 → Bool := fun w => w.val == 13 || w.val == 14 || w.val == 15 || w.val == 16

/-- The pipeline’s proof data for the frame: the arrays as the region finds them; after each point each input’s buffer at its block, the
    outputs not named; every scratch buffer at some contents, and the table. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, h⟩ => Pipeline.Dat.unnamed (cfg := (cfgM m hO)) ⟨13, h⟩ t
    | ⟨14, h⟩ => Pipeline.Dat.unnamed (cfg := (cfgM m hO)) ⟨14, h⟩ t
    | ⟨15, h⟩ => Pipeline.Dat.unnamed (cfg := (cfgM m hO)) ⟨15, h⟩ t
    | ⟨16, h⟩ => Pipeline.Dat.unnamed (cfg := (cfgM m hO)) ⟨16, h⟩ t
    | ⟨_ + 17, h⟩ => absurd h (Nat.not_lt.2 (Nat.le_add_left _ _))
  Φ t := iprop(Pipeline.ΦA spec0 c ∗ Pipeline.ΦT pre0 (tbl m) c)
  q _ := fullShare
  owed _ := 0

/-- The proof data’s arrays are the contents at the region’s entry. -/
theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem leaves0_0 (hO : Ok m) (c : Dev nD) (t : Fin (cfgM m hO).N) : (dats m hO 0 c).leavesExact 0 t = owns (c : Thread nD τ) (ms0_0 m hO t) fullShare (iblk m hO c 0 t) := by
  rw [show (dats m hO 0 c).leavesExact 0 t = owns (c : Thread nD τ) (ms0_0 m hO t) fullShare ((dats m hO 0 c).after 0 t) from by
    unfold Dat.leavesExact; rw [liveAt0_0 m hO t]; try rfl, after0_0]
theorem after0_1 (hO : Ok m) (c : Dev nD) (t : Fin (cfgM m hO).N) : (dats m hO 0 c).after 1 t = iblk m hO c 1 t := by dsimp only [dats]; try rfl
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem leaves0_1 (hO : Ok m) (c : Dev nD) (t : Fin (cfgM m hO).N) : (dats m hO 0 c).leavesExact 1 t = owns (c : Thread nD τ) (ms0_1 m hO t) fullShare (iblk m hO c 1 t) := by
  rw [show (dats m hO 0 c).leavesExact 1 t = owns (c : Thread nD τ) (ms0_1 m hO t) fullShare ((dats m hO 0 c).after 1 t) from by
    unfold Dat.leavesExact; rw [liveAt0_1 m hO t]; try rfl, after0_1]
theorem after0_2 (hO : Ok m) (c : Dev nD) (t : Fin (cfgM m hO).N) : (dats m hO 0 c).after 2 t = iblk m hO c 2 t := by dsimp only [dats]; try rfl
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem leaves0_2 (hO : Ok m) (c : Dev nD) (t : Fin (cfgM m hO).N) : (dats m hO 0 c).leavesExact 2 t = owns (c : Thread nD τ) (ms0_2 m hO t) fullShare (iblk m hO c 2 t) := by
  rw [show (dats m hO 0 c).leavesExact 2 t = owns (c : Thread nD τ) (ms0_2 m hO t) fullShare ((dats m hO 0 c).after 2 t) from by
    unfold Dat.leavesExact; rw [liveAt0_2 m hO t]; try rfl, after0_2]
theorem after0_3 (hO : Ok m) (c : Dev nD) (t : Fin (cfgM m hO).N) : (dats m hO 0 c).after 3 t = iblk m hO c 3 t := by dsimp only [dats]; try rfl
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem leaves0_3 (hO : Ok m) (c : Dev nD) (t : Fin (cfgM m hO).N) : (dats m hO 0 c).leavesExact 3 t = owns (c : Thread nD τ) (ms0_3 m hO t) fullShare (iblk m hO c 3 t) := by
  rw [show (dats m hO 0 c).leavesExact 3 t = owns (c : Thread nD τ) (ms0_3 m hO t) fullShare ((dats m hO 0 c).after 3 t) from by
    unfold Dat.leavesExact; rw [liveAt0_3 m hO t]; try rfl, after0_3]
theorem after0_4 (hO : Ok m) (c : Dev nD) (t : Fin (cfgM m hO).N) : (dats m hO 0 c).after 4 t = iblk m hO c 4 t := by dsimp only [dats]; try rfl
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem leaves0_4 (hO : Ok m) (c : Dev nD) (t : Fin (cfgM m hO).N) : (dats m hO 0 c).leavesExact 4 t = owns (c : Thread nD τ) (ms0_4 m hO t) fullShare (iblk m hO c 4 t) := by
  rw [show (dats m hO 0 c).leavesExact 4 t = owns (c : Thread nD τ) (ms0_4 m hO t) fullShare ((dats m hO 0 c).after 4 t) from by
    unfold Dat.leavesExact; rw [liveAt0_4 m hO t]; try rfl, after0_4]
theorem after0_5 (hO : Ok m) (c : Dev nD) (t : Fin (cfgM m hO).N) : (dats m hO 0 c).after 5 t = iblk m hO c 5 t := by dsimp only [dats]; try rfl
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem leaves0_5 (hO : Ok m) (c : Dev nD) (t : Fin (cfgM m hO).N) : (dats m hO 0 c).leavesExact 5 t = owns (c : Thread nD τ) (ms0_5 m hO t) fullShare (iblk m hO c 5 t) := by
  rw [show (dats m hO 0 c).leavesExact 5 t = owns (c : Thread nD τ) (ms0_5 m hO t) fullShare ((dats m hO 0 c).after 5 t) from by
    unfold Dat.leavesExact; rw [liveAt0_5 m hO t]; try rfl, after0_5]
theorem after0_6 (hO : Ok m) (c : Dev nD) (t : Fin (cfgM m hO).N) : (dats m hO 0 c).after 6 t = iblk m hO c 6 t := by dsimp only [dats]; try rfl
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem leaves0_6 (hO : Ok m) (c : Dev nD) (t : Fin (cfgM m hO).N) : (dats m hO 0 c).leavesExact 6 t = owns (c : Thread nD τ) (ms0_6 m hO t) fullShare (iblk m hO c 6 t) := by
  rw [show (dats m hO 0 c).leavesExact 6 t = owns (c : Thread nD τ) (ms0_6 m hO t) fullShare ((dats m hO 0 c).after 6 t) from by
    unfold Dat.leavesExact; rw [liveAt0_6 m hO t]; try rfl, after0_6]
theorem after0_7 (hO : Ok m) (c : Dev nD) (t : Fin (cfgM m hO).N) : (dats m hO 0 c).after 7 t = iblk m hO c 7 t := by dsimp only [dats]; try rfl
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem leaves0_7 (hO : Ok m) (c : Dev nD) (t : Fin (cfgM m hO).N) : (dats m hO 0 c).leavesExact 7 t = owns (c : Thread nD τ) (ms0_7 m hO t) fullShare (iblk m hO c 7 t) := by
  rw [show (dats m hO 0 c).leavesExact 7 t = owns (c : Thread nD τ) (ms0_7 m hO t) fullShare ((dats m hO 0 c).after 7 t) from by
    unfold Dat.leavesExact; rw [liveAt0_7 m hO t]; try rfl, after0_7]
theorem after0_8 (hO : Ok m) (c : Dev nD) (t : Fin (cfgM m hO).N) : (dats m hO 0 c).after 8 t = iblk m hO c 8 t := by dsimp only [dats]; try rfl
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem leaves0_8 (hO : Ok m) (c : Dev nD) (t : Fin (cfgM m hO).N) : (dats m hO 0 c).leavesExact 8 t = owns (c : Thread nD τ) (ms0_8 m hO t) fullShare (iblk m hO c 8 t) := by
  rw [show (dats m hO 0 c).leavesExact 8 t = owns (c : Thread nD τ) (ms0_8 m hO t) fullShare ((dats m hO 0 c).after 8 t) from by
    unfold Dat.leavesExact; rw [liveAt0_8 m hO t]; try rfl, after0_8]
theorem after0_9 (hO : Ok m) (c : Dev nD) (t : Fin (cfgM m hO).N) : (dats m hO 0 c).after 9 t = iblk m hO c 9 t := by dsimp only [dats]; try rfl
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d
theorem leaves0_9 (hO : Ok m) (c : Dev nD) (t : Fin (cfgM m hO).N) : (dats m hO 0 c).leavesExact 9 t = owns (c : Thread nD τ) (ms0_9 m hO t) fullShare (iblk m hO c 9 t) := by
  rw [show (dats m hO 0 c).leavesExact 9 t = owns (c : Thread nD τ) (ms0_9 m hO t) fullShare ((dats m hO 0 c).after 9 t) from by
    unfold Dat.leavesExact; rw [liveAt0_9 m hO t]; try rfl, after0_9]
theorem after0_10 (hO : Ok m) (c : Dev nD) (t : Fin (cfgM m hO).N) : (dats m hO 0 c).after 10 t = iblk m hO c 10 t := by dsimp only [dats]; try rfl
theorem before0_10 (hO : Ok m) (c : Dev nD) (t : Fin (cfgM m hO).N) (d) : (dats m hO 0 c).before 10 t d = iblk m hO c 10 t :=
  before0_10_of m hO (dats m hO 0 c) (A_eq m hO c 10) (after0_10 m hO c) t d
theorem leaves0_10 (hO : Ok m) (c : Dev nD) (t : Fin (cfgM m hO).N) : (dats m hO 0 c).leavesExact 10 t = owns (c : Thread nD τ) (ms0_10 m hO t) fullShare (iblk m hO c 10 t) := by
  rw [show (dats m hO 0 c).leavesExact 10 t = owns (c : Thread nD τ) (ms0_10 m hO t) fullShare ((dats m hO 0 c).after 10 t) from by
    unfold Dat.leavesExact; rw [liveAt0_10 m hO t]; try rfl, after0_10]
theorem after0_11 (hO : Ok m) (c : Dev nD) (t : Fin (cfgM m hO).N) : (dats m hO 0 c).after 11 t = iblk m hO c 11 t := by dsimp only [dats]; try rfl
theorem before0_11 (hO : Ok m) (c : Dev nD) (t : Fin (cfgM m hO).N) (d) : (dats m hO 0 c).before 11 t d = iblk m hO c 11 t :=
  before0_11_of m hO (dats m hO 0 c) (A_eq m hO c 11) (after0_11 m hO c) t d
theorem leaves0_11 (hO : Ok m) (c : Dev nD) (t : Fin (cfgM m hO).N) : (dats m hO 0 c).leavesExact 11 t = owns (c : Thread nD τ) (ms0_11 m hO t) fullShare (iblk m hO c 11 t) := by
  rw [show (dats m hO 0 c).leavesExact 11 t = owns (c : Thread nD τ) (ms0_11 m hO t) fullShare ((dats m hO 0 c).after 11 t) from by
    unfold Dat.leavesExact; rw [liveAt0_11 m hO t]; try rfl, after0_11]
theorem after0_12 (hO : Ok m) (c : Dev nD) (t : Fin (cfgM m hO).N) : (dats m hO 0 c).after 12 t = iblk m hO c 12 t := by dsimp only [dats]; try rfl
theorem before0_12 (hO : Ok m) (c : Dev nD) (t : Fin (cfgM m hO).N) (d) : (dats m hO 0 c).before 12 t d = iblk m hO c 12 t :=
  before0_12_of m hO (dats m hO 0 c) (A_eq m hO c 12) (after0_12 m hO c) t d
theorem leaves0_12 (hO : Ok m) (c : Dev nD) (t : Fin (cfgM m hO).N) : (dats m hO 0 c).leavesExact 12 t = owns (c : Thread nD τ) (ms0_12 m hO t) fullShare (iblk m hO c 12 t) := by
  rw [show (dats m hO 0 c).leavesExact 12 t = owns (c : Thread nD τ) (ms0_12 m hO t) fullShare ((dats m hO 0 c).after 12 t) from by
    unfold Dat.leavesExact; rw [liveAt0_12 m hO t]; try rfl, after0_12]
/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_prefix_attention_backward (grid0.coords t) (Memref.whole main_arg9) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13)) (spec0_14.stage ((cfg0 a).slots t 14)) (hstage0_14 (((cfg0 a).slots t 14).cast nbuf0_14)) (spec0_15.stage ((cfg0 a).slots t 15)) (hstage0_15 (((cfg0 a).slots t 15).cast nbuf0_15)) (spec0_16.stage ((cfg0 a).slots t 16)) (hstage0_16 (((cfg0 a).slots t 16).cast nbuf0_16)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _)

/-- What the body is called with at a point, window by window, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare d)
    ∗ (∃ d, owns (c : Thread nD τ) (ms0_14 m hO t) fullShare d)
    ∗ (∃ d, owns (c : Thread nD τ) (ms0_15 m hO t) fullShare d)
    ∗ (∃ d, owns (c : Thread nD τ) (ms0_16 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t
    ∗ (dats m hO 0 c).leavesExact 8 t
    ∗ (dats m hO 0 c).leavesExact 9 t
    ∗ (dats m hO 0 c).leavesExact 10 t
    ∗ (dats m hO 0 c).leavesExact 11 t
    ∗ (dats m hO 0 c).leavesExact 12 t
    ∗ (∃ d, owns (c : Thread nD τ) (ms0_13 m hO t) fullShare d)
    ∗ (∃ d, owns (c : Thread nD τ) (ms0_14 m hO t) fullShare d)
    ∗ (∃ d, owns (c : Thread nD τ) (ms0_15 m hO t) fullShare d)
    ∗ (∃ d, owns (c : Thread nD τ) (ms0_16 m hO t) fullShare d))

set_option maxHeartbeats 4000000 in
/-- The body at any point keeps the frame’s data. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10, before0_11, before0_12]
  rw [leaves0_0, leaves0_1, leaves0_2, leaves0_3, leaves0_4, leaves0_5, leaves0_6, leaves0_7, leaves0_8, leaves0_9, leaves0_10, leaves0_11, leaves0_12]
  rw [show (dats m hO 0 c).owesAt () t.succ = (dats m hO 0 c).owesAt () t.castSucc from rfl]
  rw [show (dats m hO 0 c).Φ t.succ = iprop(Pipeline.ΦA spec0 c ∗ Pipeline.ΦT pre0 (tbl m) c) from rfl,
    show (dats m hO 0 c).Φ t.castSucc = iprop(Pipeline.ΦA spec0 c ∗ Pipeline.ΦT pre0 (tbl m) c) from rfl, PhiT0_eq, PhiA0_eq]
  iintro ⟨⟨⟨⟨HS0, HS1, HS2, HS3, HS4, HS5, HS6, HS7, HS8, HS9, HS10, HS11, HS12⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (inv_body c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (tbl m 0) Set.univ _)
  isplitl [H0 H1 H2 H3 H4 H5 H6 H7 H8 H9 H10 H11 H12 H13 H14 H15 H16 HS0 HS1 HS2 HS3 HS4 HS5 HS6 HS7 HS8 HS9 HS10 HS11 HS12 HT0]
  · unfold Inv
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexists _; iexact H13
    isplitl [H14]
    · iexists _; iexact H14
    isplitl [H15]
    · iexists _; iexact H15
    isplitl [H16]
    · iexists _; iexact H16
    isplitl [HS0]
    · iexact HS0
    isplitl [HS1]
    · iexact HS1
    isplitl [HS2]
    · iexact HS2
    isplitl [HS3]
    · iexact HS3
    isplitl [HS4]
    · iexact HS4
    isplitl [HS5]
    · iexact HS5
    isplitl [HS6]
    · iexact HS6
    isplitl [HS7]
    · iexact HS7
    isplitl [HS8]
    · iexact HS8
    isplitl [HS9]
    · iexact HS9
    isplitl [HS10]
    · iexact HS10
    isplitl [HS11]
    · iexact HS11
    isplitl [HS12]
    · iexact HS12
    iexact HT0
  unfold Inv
  iintro ⟨H0, H1, H2, H3, H4, H5, H6, H7, H8, H9, H10, H11, H12, H13, H14, H15, H16, HS0, HS1, HS2, HS3, HS4, HS5, HS6, HS7, HS8, HS9, HS10, HS11, HS12, HT0⟩
  isplitl [HS0 HS1 HS2 HS3 HS4 HS5 HS6 HS7 HS8 HS9 HS10 HS11 HS12 Hg HT0]
  · isplitl [HS0 HS1 HS2 HS3 HS4 HS5 HS6 HS7 HS8 HS9 HS10 HS11 HS12 Hg]
    · isplitl [HS0 HS1 HS2 HS3 HS4 HS5 HS6 HS7 HS8 HS9 HS10 HS11 HS12]
      · isplitl [HS0]
        · iexact HS0
        isplitl [HS1]
        · iexact HS1
        isplitl [HS2]
        · iexact HS2
        isplitl [HS3]
        · iexact HS3
        isplitl [HS4]
        · iexact HS4
        isplitl [HS5]
        · iexact HS5
        isplitl [HS6]
        · iexact HS6
        isplitl [HS7]
        · iexact HS7
        isplitl [HS8]
        · iexact HS8
        isplitl [HS9]
        · iexact HS9
        isplitl [HS10]
        · iexact HS10
        isplitl [HS11]
        · iexact HS11
        iexact HS12
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-- What the launch hands the region is the invariant before the first point, -/
theorem hin (hO : Ok m) (c : Dev nD) : iprop(Pipeline.ΦA spec0 c ∗ Pipeline.ΦT pre0 (tbl m) c) ⊢ (dats m hO 0 c).Φ 0 :=
  Idealize.SL.BI.Entails.refl _

/-- and the invariant after the last point gives the scratch back. -/
theorem hout (hO : Ok m) (c : Dev nD) : (dats m hO 0 c).Φ (Fin.last (cfgM m hO).N) ⊢ Pipeline.ΦA spec0 c := by
  rw [show (dats m hO 0 c).Φ (Fin.last (cfgM m hO).N) = iprop(Pipeline.ΦA spec0 c ∗ Pipeline.ΦT pre0 (tbl m) c) from rfl]
  iintro ⟨HA, -⟩
  iexact HA

/-! ## The run and the frame -/

-- `θ_run_frameP_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_track_forget (Q' := _) pcfgs (fun _ => adm m hO) (dats m hO) (0 : Fin 1) launch0 defs₀ Variants.none forgets0 m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hin := hin m hO) (hout := hout m hO)

/-- At the compiled mesh, for any values, from any memory with zero counters: every weakly fair execution of @main on the
    TensorCores terminates, and every final state has every INPUT array of the pipeline unchanged, nothing stated of the
    FORGOTTEN outputs (windows 13, 14, 15, 16) (Lib/Pipeline/Frame.lean `RDat.FramePost` over the proof data with those windows
    forgotten, Dat.lean `Dat.toRForget`), and every other unscoped buffer at its region-entry contents. -/
theorem run_main (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ hO (fun c => (dats m hO 0 c).toRForget forgets0) (A_eq m hO) (run_main m ρ hO)

/-- The frame: every fair execution ends, the argument arrays as they were and every semaphore counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ hO) ((θ_run defs _ _).mono (fun _ h => h.2) (run_main_quiescent m ρ hO))

end Cert.Kernel.Gen

end
-- ==== Proof.Kernel.Tables.lean ====
module

public import proofs.«01_k».proof.Proof.Kernel.Base
public import Idealize.ShloMosaic.Lib.Affine

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-- A chunk index clamped between zero and the grid's own coordinate is at most the coordinate. -/
theorem toNat_clamp_le (n : ℕ) (hn : n < 8) (x : BitVec 32) : (Scalar.minsi (BitVec.ofNat 32 n) (Scalar.maxsi x 0#32)).toNat ≤ n := by
  have h0 : 0 ≤ (Scalar.maxsi x 0#32).toInt := by
    unfold Scalar.maxsi IntOp.maxsi
    split
    · rename_i h; rw [BitVec.slt_iff_toInt_lt] at h; simpa using h.le
    · rename_i h; rw [BitVec.slt_iff_toInt_lt] at h; simpa using h
  have hn' : (BitVec.ofNat 32 n).toNat = n := by rw [BitVec.toNat_ofNat]; omega
  have hi : (BitVec.ofNat 32 n).toInt = n := by rw [BitVec.toInt_eq_toNat_of_lt (by rw [hn']; omega), hn']
  generalize Scalar.maxsi x 0#32 = y at h0 ⊢
  unfold Scalar.minsi IntOp.minsi
  split
  · rw [hn']
  · rename_i h
    rw [BitVec.slt_iff_toInt_lt, hi, BitVec.toInt_eq_toNat_cond] at h
    rw [BitVec.toInt_eq_toNat_cond] at h0
    split at h <;> omega

theorem toNat_coord0 (i : grid0.Coords) : (BitVec.ofNat 32 (i 0).val).toNat < 2 := by
  have : (i 0).val < 2 := (i 0).isLt
  rw [BitVec.toNat_ofNat]; omega

theorem coord1_lt (i : grid0.Coords) : (i 1).val < 8 := (i 1).isLt

/-- A block of packed bytes whose rows are a multiple of the packing is moved by whole words. -/
theorem words_ctx (ix : Fin 3 → ℕ) (h : ∀ a, (ix a + 1) * S1x4096x128.size a ≤ S2x32768x128.size a) :
    (Rect.block (s := S2x32768x128) S1x4096x128.size ix h).WholeWords (EltTy.packing .fp8e4m3) :=
  Affine.block_words_dvd (of_decide_eq_true rfl) (by decide)

/-- Whatever the context lengths, every block the table's windows read is inside its array. -/
theorem ok_all (m : (ℓ : Loc nD τ sig) → Buf (Elt F) ℓ) : Ok m := by
  refine ⟨fun i => ?_, fun i => ?_, fun i => ?_, fun i => ?_⟩
  · have h0 := toNat_coord0 i
    have h1 := fun x => (toNat_clamp_le (i 1).val (coord1_lt i) x).trans_lt (coord1_lt i)
    have h : ∀ a, (cc0_transform_7 k0_off1_inb numel1_S1 (tbl m) i a + 1) * S1x4096x128.size a ≤ S2x32768x128.size a := by
      intro a
      unfold cc0_transform_7

      fin_cases a
      · change (_ + 1) * 1 ≤ 2; exact Nat.mul_le_mul_right 1 h0
      · change (_ + 1) * 4096 ≤ 32768; exact Nat.mul_le_mul_right 4096 (h1 _)
      · change (_ + 1) * 128 ≤ 128; simp
    exact ⟨h, .inr (words_ctx _ h)⟩
  · have h0 := toNat_coord0 i
    have h1 := fun x => (toNat_clamp_le (i 1).val (coord1_lt i) x).trans_lt (coord1_lt i)
    have h : ∀ a, (cc0_transform_8 k0_off1_inb numel1_S1 (tbl m) i a + 1) * S1x4096x128.size a ≤ S2x32768x128.size a := by
      intro a
      unfold cc0_transform_8

      fin_cases a
      · change (_ + 1) * 1 ≤ 2; exact Nat.mul_le_mul_right 1 h0
      · change (_ + 1) * 4096 ≤ 32768; exact Nat.mul_le_mul_right 4096 (h1 _)
      · change (_ + 1) * 128 ≤ 128; simp
    exact ⟨h, .inr (words_ctx _ h)⟩
  · have h0 := toNat_coord0 i
    have h1 := fun x => (toNat_clamp_le (i 1).val (coord1_lt i) x).trans_lt (coord1_lt i)
    have h : ∀ a, (cc0_transform_9 k0_off1_inb numel1_S1 (tbl m) i a + 1) * S1x8x512.size a ≤ S2x8x4096.size a := by
      intro a
      unfold cc0_transform_9

      fin_cases a
      · change (_ + 1) * 1 ≤ 2; exact Nat.mul_le_mul_right 1 h0
      · change (_ + 1) * 8 ≤ 8; simp
      · change (_ + 1) * 512 ≤ 4096; exact Nat.mul_le_mul_right 512 (h1 _)
    exact ⟨h, .inl rfl⟩
  · have h0 := toNat_coord0 i
    have h1 := fun x => (toNat_clamp_le (i 1).val (coord1_lt i) x).trans_lt (coord1_lt i)
    have h : ∀ a, (cc0_transform_10 k0_off1_inb numel1_S1 (tbl m) i a + 1) * S1x8x512.size a ≤ S2x8x4096.size a := by
      intro a
      unfold cc0_transform_10

      fin_cases a
      · change (_ + 1) * 1 ≤ 2; exact Nat.mul_le_mul_right 1 h0
      · change (_ + 1) * 8 ≤ 8; simp
      · change (_ + 1) * 512 ≤ 4096; exact Nat.mul_le_mul_right 512 (h1 _)
    exact ⟨h, .inl rfl⟩

end Cert.Kernel.Gen

end
-- ==== Proof.KernelIdeal.Base.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S2 .i32 := Memref.whole main_arg9
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of (hO : Ok m) {c : Dev nD} (dat : Dat τ (Elt F) Unit ℕ (UR sig nD τ) ℕ (cfgM m hO) c) (hA : dat.A 9 = V m c (Pipeline.arrRef spec0 9))
    (hafter : ∀ t, dat.after 9 t = iblk m hO c 9 t) (t : Fin (cfgM m hO).N) (d) : dat.before 9 t d = iblk m hO c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of (hO : Ok m) {c : Dev nD} (dat : Dat τ (Elt F) Unit ℕ (UR sig nD τ) ℕ (cfgM m hO) c) (hA : dat.A 10 = V m c (Pipeline.arrRef spec0 10))
    (hafter : ∀ t, dat.after 10 t = iblk m hO c 10 t) (t : Fin (cfgM m hO).N) (d) : dat.before 10 t d = iblk m hO c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of (hO : Ok m) {c : Dev nD} (dat : Dat τ (Elt F) Unit ℕ (UR sig nD τ) ℕ (cfgM m hO) c) (hA : dat.A 11 = V m c (Pipeline.arrRef spec0 11))
    (hafter : ∀ t, dat.after 11 t = iblk m hO c 11 t) (t : Fin (cfgM m hO).N) (d) : dat.before 11 t d = iblk m hO c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of (hO : Ok m) {c : Dev nD} (dat : Dat τ (Elt F) Unit ℕ (UR sig nD τ) ℕ (cfgM m hO) c) (hA : dat.A 12 = V m c (Pipeline.arrRef spec0 12))
    (hafter : ∀ t, dat.after 12 t = iblk m hO c 12 t) (t : Fin (cfgM m hO).N) (d) : dat.before 12 t d = iblk m hO c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1020000 in
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c),
      ((h c).2 main_arg8 (by decide : main_arg8 ∈ Pipeline.restRefs sig spec0)).trans (V_main_arg8 m c),
      ((h c).2 main_arg9 (by decide : main_arg9 ∈ Pipeline.restRefs sig spec0)).trans (V_main_arg9 m c),
      ((h c).2 main_arg10 (by decide : main_arg10 ∈ Pipeline.restRefs sig spec0)).trans (V_main_arg10 m c),
      ((h c).2 main_arg11 (by decide : main_arg11 ∈ Pipeline.restRefs sig spec0)).trans (V_main_arg11 m c),
      (Pipeline.RDat.FramePost.arr_in h c 12 rfl).trans ((hA c 12).trans (V_main_arg12 m c)),
      ((h c).2 main_arg13 (by decide : main_arg13 ∈ Pipeline.restRefs sig spec0)).trans (V_main_arg13 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 8) — by arithmetic of the point. -/
theorem hcond0_0 : ∀ t : Fin grid0.N, cond0_0 (grid0.coords t) ↔ t.val % 8 = 0 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_0, k0_cond1, e0, e1]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 0).val) 0#32)) 0#32) = 1#1
/-- It holds at the points before point 8 — by arithmetic of the point. -/
theorem hcond0_1 : ∀ t : Fin grid0.N, cond0_1 (grid0.coords t) ↔ t.val < 8 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_1, e0, e1]
    word_cmp
   : ∀ t : Fin grid0.N, cond0_1 (grid0.coords t) ↔ t.val < 8)

/-- The condition of the body's `scf.if` 2: over WORDS the body reads from its tables or input SMEM windows
    (`v1`), so no function of the point — a case variable: a hypothesis of each run, a `by_cases`
    of the obligation and an `if` of `outsAt`, stated over the argument blocks' words there. -/
abbrev cond0_2 (i : grid0.Coords) (v1 : BitVec 32) : Prop := (Scalar.cmpi .ne (Scalar.extui (Scalar.cmpi .slt (Scalar.muli (BitVec.ofNat 32 (i 1).val) 512#32) v1)) 0#32) = 1#1

/-- The condition of the body's `scf.if` 3 (`k0_h4`), from the grid coordinates (the skeleton's scalar
    chain substituted). -/
abbrev cond0_3 (i : grid0.Coords) : Prop := k0_cond4 i = 1#1
/-- It holds at the points ≡ 7 (mod 8) — by arithmetic of the point. -/
theorem hcond0_3 : ∀ t : Fin grid0.N, cond0_3 (grid0.coords t) ↔ t.val % 8 = 7 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_3, k0_cond4, e0, e1]
    word_cmp
   : ∀ t : Fin grid0.N, cond0_3 (grid0.coords t) ↔ t.val % 8 = 7)

/-- The condition of the body's `scf.if` 4 (`k0_h5`), from the grid coordinates (the skeleton's scalar
    chain substituted). -/
abbrev cond0_4 (i : grid0.Coords) : Prop := k0_cond5 i = 1#1
/-- It holds at the points from point 8 on — by arithmetic of the point. -/
theorem hcond0_4 : ∀ t : Fin grid0.N, cond0_4 (grid0.coords t) ↔ 8 ≤ t.val :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_4, k0_cond5, e0, e1]
    word_cmp
   : ∀ t : Fin grid0.N, cond0_4 (grid0.coords t) ↔ 8 ≤ t.val)

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  (fun _ => rfl : ∀ t : Fin grid0.N, idle0 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 2 (grid0.coords t) = false)
/-- Window 3 is never idle (an input). -/
theorem liveAt0_3 (hO : Ok m) : ∀ t : Fin (cfgM m hO).N, (cfgM m hO).idle 3 (grid0.coords t) = false :=
  (fun _ => rfl : ∀ t : Fin grid0.N, idle0 3 (grid0.coords t) = false)
/-- Window 4 is never idle (an input). -/
theorem liveAt0_4 (hO : Ok m) : ∀ t : Fin (cfgM m hO).N, (cfgM m hO).idle 4 (grid0.coords t) = false :=
  (fun _ => rfl : ∀ t : Fin grid0.N, idle0 4 (grid0.coords t) = false)
/-- Window 5 is never idle (an input). -/
theorem liveAt0_5 (hO : Ok m) : ∀ t : Fin (cfgM m hO).N, (cfgM m hO).idle 5 (grid0.coords t) = false :=
  (fun _ => rfl : ∀ t : Fin grid0.N, idle0 5 (grid0.coords t) = false)
/-- Window 6 is never idle (an input). -/
theorem liveAt0_6 (hO : Ok m) : ∀ t : Fin (cfgM m hO).N, (cfgM m hO).idle 6 (grid0.coords t) = false :=
  (fun _ => rfl : ∀ t : Fin grid0.N, idle0 6 (grid0.coords t) = false)
/-- Window 7 is never idle (an input). -/
theorem liveAt0_7 (hO : Ok m) : ∀ t : Fin (cfgM m hO).N, (cfgM m hO).idle 7 (grid0.coords t) = false :=
  (fun _ => rfl : ∀ t : Fin grid0.N, idle0 7 (grid0.coords t) = false)
/-- Window 8 is never idle (an input). -/
theorem liveAt0_8 (hO : Ok m) : ∀ t : Fin (cfgM m hO).N, (cfgM m hO).idle 8 (grid0.coords t) = false :=
  (fun _ => rfl : ∀ t : Fin grid0.N, idle0 8 (grid0.coords t) = false)
/-- Window 9 is never idle (an input). -/
theorem liveAt0_9 (hO : Ok m) : ∀ t : Fin (cfgM m hO).N, (cfgM m hO).idle 9 (grid0.coords t) = false :=
  (fun _ => rfl : ∀ t : Fin grid0.N, idle0 9 (grid0.coords t) = false)
/-- Window 10 is never idle (an input). -/
theorem liveAt0_10 (hO : Ok m) : ∀ t : Fin (cfgM m hO).N, (cfgM m hO).idle 10 (grid0.coords t) = false :=
  (fun _ => rfl : ∀ t : Fin grid0.N, idle0 10 (grid0.coords t) = false)
/-- Window 11 is never idle (an input). -/
theorem liveAt0_11 (hO : Ok m) : ∀ t : Fin (cfgM m hO).N, (cfgM m hO).idle 11 (grid0.coords t) = false :=
  (fun _ => rfl : ∀ t : Fin grid0.N, idle0 11 (grid0.coords t) = false)
/-- Window 12 is never idle (an input). -/
theorem liveAt0_12 (hO : Ok m) : ∀ t : Fin (cfgM m hO).N, (cfgM m hO).idle 12 (grid0.coords t) = false :=
  (fun _ => rfl : ∀ t : Fin grid0.N, idle0 12 (grid0.coords t) = false)
/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x8192x128 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x8192x128 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x8192x128 .fp8e5m2 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x4096x128 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x4096x128 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S160x128 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S160x128 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x4096x128 .fp8e4m3 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x4096x128 .fp8e4m3 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x8x512 .f32 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S1x8x512 .f32 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S1x16x512 .f32 := spec0_11.stage ((cfgM m hO).slots t 11)
abbrev hs0_11 (hO : Ok m) (t : Fin (cfgM m hO).N) : (ms0_11 m hO t).IsWhole := hstage0_11 (((cfgM m hO).slots t 11).cast nbuf0_11)
abbrev ms0_12 (hO : Ok m) (t : Fin (cfgM m hO).N) : Memref sig .tc .vmem S1x16x512 .f32 := spec0_12.stage ((cfgM m hO).slots t 12)
abbrev hs0_12 (hO : Ok m) (t : Fin (cfgM m hO).N) : (ms0_12 m hO t).IsWhole := hstage0_12 (((cfgM m hO).slots t 12).cast nbuf0_12)
abbrev ms0_13 (hO : Ok m) (t : Fin (cfgM m hO).N) : Memref sig .tc .vmem S1x8192x128 .bf16 := spec0_13.stage ((cfgM m hO).slots t 13)
abbrev hs0_13 (hO : Ok m) (t : Fin (cfgM m hO).N) : (ms0_13 m hO t).IsWhole := hstage0_13 (((cfgM m hO).slots t 13).cast nbuf0_13)
abbrev ms0_14 (hO : Ok m) (t : Fin (cfgM m hO).N) : Memref sig .tc .vmem S1x20x16x512 .f32 := spec0_14.stage ((cfgM m hO).slots t 14)
abbrev hs0_14 (hO : Ok m) (t : Fin (cfgM m hO).N) : (ms0_14 m hO t).IsWhole := hstage0_14 (((cfgM m hO).slots t 14).cast nbuf0_14)
abbrev ms0_15 (hO : Ok m) (t : Fin (cfgM m hO).N) : Memref sig .tc .vmem S160x128 .bf16 := spec0_15.stage ((cfgM m hO).slots t 15)
abbrev hs0_15 (hO : Ok m) (t : Fin (cfgM m hO).N) : (ms0_15 m hO t).IsWhole := hstage0_15 (((cfgM m hO).slots t 15).cast nbuf0_15)
abbrev ms0_16 (hO : Ok m) (t : Fin (cfgM m hO).N) : Memref sig .tc .vmem S160x128 .bf16 := spec0_16.stage ((cfgM m hO).slots t 16)
abbrev hs0_16 (hO : Ok m) (t : Fin (cfgM m hO).N) : (ms0_16 m hO t).IsWhole := hstage0_16 (((cfgM m hO).slots t 16).cast nbuf0_16)
/-- The scratch operands: whole scoped buffers of the kernel's own, passed beside the windows. -/
abbrev scM0_0 : Memref sig .tc .vmem S8x256x1024 .bf16 := Memref.whole cc0_scratch0
abbrev scM0_1 : Memref sig .tc .vmem S8x128x1024 .fp8e5m2 := Memref.whole cc0_scratch1
abbrev scM0_2 : Memref sig .tc .vmem S8x128x1024 .bf16 := Memref.whole cc0_scratch2
abbrev scM0_3 : Memref sig .tc .vmem S8x128x1024 .f32 := Memref.whole cc0_scratch3
abbrev scM0_4 : Memref sig .tc .vmem S8x1x1024 .f32 := Memref.whole cc0_scratch4
abbrev scM0_5 : Memref sig .tc .vmem S8x1x1024 .f32 := Memref.whole cc0_scratch5
abbrev scM0_6 : Memref sig .tc .vmem S128x2x128 .bf16 := Memref.whole cc0_scratch6
abbrev scM0_7 : Memref sig .tc .vmem S128x2x128 .bf16 := Memref.whole cc0_scratch7
abbrev scM0_8 : Memref sig .tc .vmem S8x32x128 .f32 := Memref.whole cc0_scratch8
abbrev scM0_9 : Memref sig .tc .vmem S8x32x128 .f32 := Memref.whole cc0_scratch9
abbrev scM0_10 : Memref sig .tc .vmem S512x128 .bf16 := Memref.whole cc0_scratch10
abbrev scM0_11 : Memref sig .tc .vmem S128x512 .f32 := Memref.whole cc0_scratch11
abbrev scM0_12 : Memref sig .tc .vmem S256x128 .f32 := Memref.whole cc0_scratch12
/-- The scratch `arg20` the kernel carries between points, as a view: what it holds is stated through it. -/
abbrev VS0_0 : View sig .tc .vmem S8x256x1024 .bf16 := scM0_0.view
/-- The scratch `arg21` the kernel carries between points, as a view: what it holds is stated through it. -/
abbrev VS0_1 : View sig .tc .vmem S8x128x1024 .fp8e5m2 := scM0_1.view
/-- The scratch `arg23` the kernel carries between points, as a view: what it holds is stated through it. -/
abbrev VS0_3 : View sig .tc .vmem S8x128x1024 .f32 := scM0_3.view
/-- The scratch `arg24` the kernel carries between points, as a view: what it holds is stated through it. -/
abbrev VS0_4 : View sig .tc .vmem S8x1x1024 .f32 := scM0_4.view
/-- The scratch `arg26` the kernel carries between points, as a view: what it holds is stated through it. -/
abbrev VS0_6 : View sig .tc .vmem S128x2x128 .bf16 := scM0_6.view
/-- The scratch `arg27` the kernel carries between points, as a view: what it holds is stated through it. -/
abbrev VS0_7 : View sig .tc .vmem S128x2x128 .bf16 := scM0_7.view
/-- The scratch `arg28` the kernel carries between points, as a view: what it holds is stated through it. -/
abbrev VS0_8 : View sig .tc .vmem S8x32x128 .f32 := scM0_8.view
/-- The scratch `arg29` the kernel carries between points, as a view: what it holds is stated through it. -/
abbrev VS0_9 : View sig .tc .vmem S8x32x128 .f32 := scM0_9.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d)) ∗ (∃ r, prngReg c r)) := by
  unfold Pipeline.ΦA; rw [scopedRest0_eq]; simp only [scM0_0, scM0_1, scM0_2, scM0_3, scM0_4, scM0_5, scM0_6, scM0_7, scM0_8, scM0_9, scM0_10, scM0_11, scM0_12, owns_whole]; try rfl

end Cert.KernelIdeal.Gen

end
-- ==== Proof.KernelIdeal.Blocks.lean ====
module

public import proofs.«01_k».proof.Proof.KernelIdeal.Base

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (i : grid0.Coords) (arg2 : Memref sig .tc .smem S2 .i32) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x8192x128 .fp8e5m2) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S160x128 .bf16) (harg8 : arg8.IsWhole) (arg9 : Memref sig .tc .vmem S160x128 .bf16) (harg9 : arg9.IsWhole) (arg10 : Memref sig .tc .vmem S1x4096x128 .fp8e4m3) (harg10 : arg10.IsWhole) (arg11 : Memref sig .tc .vmem S1x4096x128 .fp8e4m3) (harg11 : arg11.IsWhole) (arg12 : Memref sig .tc .vmem S1x8x512 .f32) (harg12 : arg12.IsWhole) (arg13 : Memref sig .tc .vmem S1x8x512 .f32) (harg13 : arg13.IsWhole) (arg14 : Memref sig .tc .vmem S1x16x512 .f32) (harg14 : arg14.IsWhole) (arg15 : Memref sig .tc .vmem S1x16x512 .f32) (harg15 : arg15.IsWhole) (arg16 : Memref sig .tc .vmem S1x8192x128 .bf16) (harg16 : arg16.IsWhole) (arg17 : Memref sig .tc .vmem S1x20x16x512 .f32) (harg17 : arg17.IsWhole) (arg18 : Memref sig .tc .vmem S160x128 .bf16) (harg18 : arg18.IsWhole) (arg19 : Memref sig .tc .vmem S160x128 .bf16) (harg19 : arg19.IsWhole) (arg20 : Memref sig .tc .vmem S8x256x1024 .bf16) (harg20 : arg20.IsWhole) (arg21 : Memref sig .tc .vmem S8x128x1024 .fp8e5m2) (harg21 : arg21.IsWhole) (arg22 : Memref sig .tc .vmem S8x128x1024 .bf16) (harg22 : arg22.IsWhole) (arg23 : Memref sig .tc .vmem S8x128x1024 .f32) (harg23 : arg23.IsWhole) (arg24 : Memref sig .tc .vmem S8x1x1024 .f32) (harg24 : arg24.IsWhole) (arg25 : Memref sig .tc .vmem S8x1x1024 .f32) (harg25 : arg25.IsWhole) (arg26 : Memref sig .tc .vmem S128x2x128 .bf16) (harg26 : arg26.IsWhole) (arg27 : Memref sig .tc .vmem S128x2x128 .bf16) (harg27 : arg27.IsWhole) (arg28 : Memref sig .tc .vmem S8x32x128 .f32) (harg28 : arg28.IsWhole) (arg29 : Memref sig .tc .vmem S8x32x128 .f32) (harg29 : arg29.IsWhole) (arg30 : Memref sig .tc .vmem S512x128 .bf16) (harg30 : arg30.IsWhole) (arg31 : Memref sig .tc .vmem S128x512 .f32) (harg31 : arg31.IsWhole) (arg32 : Memref sig .tc .vmem S256x128 .f32) (harg32 : arg32.IsWhole)

/-- The initialisation of the kernel’s first point (prefix keys and values copied, the prefix sums cleared), then `jp`. -/
noncomputable def initB (i : grid0.Coords) (arg2 : Memref sig .tc .smem S2 .i32) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x8192x128 .fp8e5m2) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S160x128 .bf16) (harg8 : arg8.IsWhole) (arg9 : Memref sig .tc .vmem S160x128 .bf16) (harg9 : arg9.IsWhole) (arg10 : Memref sig .tc .vmem S1x4096x128 .fp8e4m3) (harg10 : arg10.IsWhole) (arg11 : Memref sig .tc .vmem S1x4096x128 .fp8e4m3) (harg11 : arg11.IsWhole) (arg12 : Memref sig .tc .vmem S1x8x512 .f32) (harg12 : arg12.IsWhole) (arg13 : Memref sig .tc .vmem S1x8x512 .f32) (harg13 : arg13.IsWhole) (arg14 : Memref sig .tc .vmem S1x16x512 .f32) (harg14 : arg14.IsWhole) (arg15 : Memref sig .tc .vmem S1x16x512 .f32) (harg15 : arg15.IsWhole) (arg16 : Memref sig .tc .vmem S1x8192x128 .bf16) (harg16 : arg16.IsWhole) (arg17 : Memref sig .tc .vmem S1x20x16x512 .f32) (harg17 : arg17.IsWhole) (arg18 : Memref sig .tc .vmem S160x128 .bf16) (harg18 : arg18.IsWhole) (arg19 : Memref sig .tc .vmem S160x128 .bf16) (harg19 : arg19.IsWhole) (arg20 : Memref sig .tc .vmem S8x256x1024 .bf16) (harg20 : arg20.IsWhole) (arg21 : Memref sig .tc .vmem S8x128x1024 .fp8e5m2) (harg21 : arg21.IsWhole) (arg22 : Memref sig .tc .vmem S8x128x1024 .bf16) (harg22 : arg22.IsWhole) (arg23 : Memref sig .tc .vmem S8x128x1024 .f32) (harg23 : arg23.IsWhole) (arg24 : Memref sig .tc .vmem S8x1x1024 .f32) (harg24 : arg24.IsWhole) (arg25 : Memref sig .tc .vmem S8x1x1024 .f32) (harg25 : arg25.IsWhole) (arg26 : Memref sig .tc .vmem S128x2x128 .bf16) (harg26 : arg26.IsWhole) (arg27 : Memref sig .tc .vmem S128x2x128 .bf16) (harg27 : arg27.IsWhole) (arg28 : Memref sig .tc .vmem S8x32x128 .f32) (harg28 : arg28.IsWhole) (arg29 : Memref sig .tc .vmem S8x32x128 .f32) (harg29 : arg29.IsWhole) (arg30 : Memref sig .tc .vmem S512x128 .bf16) (harg30 : arg30.IsWhole) (arg31 : Memref sig .tc .vmem S128x512 .f32) (harg31 : arg31.IsWhole) (arg32 : Memref sig .tc .vmem S256x128 .f32) (harg32 : arg32.IsWhole) {α : Type} (jp : PUnit.{1} → Prog (TpuEff nD τ sig (Elt F) Λ₀ .tc) α) : Prog (TpuEff nD τ sig (Elt F) Λ₀ .tc) α := do
  let v3583 : FVec F S8x32x128 .f32 ← k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32
  let v3584 : Vec F S8x32x128 .f32 ← Prog.lift (.load arg28 (Rect.unit (s := S8x32x128) ![0, 0, 0] S8x32x128.size inb_S8x32x128_S8x32x128_0_0_0).toLoadRect (View.loadsAt_vmem h_S8x32x128))
  Prog.lift (.store arg28 (Rect.unit (s := S8x32x128) ![0, 0, 0] S8x32x128.size inb_S8x32x128_S8x32x128_0_0_0) (k0_pay9 v3583) Finset.univ (View.stores_vmem_bits_univ h_S8x32x128 rfl) (.inl rfl))
  let v3588 : Vec F S8x32x128 .f32 ← Prog.lift (.load arg29 (Rect.unit (s := S8x32x128) ![0, 0, 0] S8x32x128.size inb_S8x32x128_S8x32x128_0_0_0).toLoadRect (View.loadsAt_vmem h_S8x32x128))
  Prog.lift (.store arg29 (Rect.unit (s := S8x32x128) ![0, 0, 0] S8x32x128.size inb_S8x32x128_S8x32x128_0_0_0) (k0_pay10 (F := F)) Finset.univ (View.stores_vmem_bits_univ h_S8x32x128 rfl) (.inl rfl))
  jp ⟨⟩

/-- The prologue’s first operations after the initialisation. -/
noncomputable def proHead (i : grid0.Coords) (arg2 : Memref sig .tc .smem S2 .i32) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x8192x128 .fp8e5m2) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S160x128 .bf16) (harg8 : arg8.IsWhole) (arg9 : Memref sig .tc .vmem S160x128 .bf16) (harg9 : arg9.IsWhole) (arg10 : Memref sig .tc .vmem S1x4096x128 .fp8e4m3) (harg10 : arg10.IsWhole) (arg11 : Memref sig .tc .vmem S1x4096x128 .fp8e4m3) (harg11 : arg11.IsWhole) (arg12 : Memref sig .tc .vmem S1x8x512 .f32) (harg12 : arg12.IsWhole) (arg13 : Memref sig .tc .vmem S1x8x512 .f32) (harg13 : arg13.IsWhole) (arg14 : Memref sig .tc .vmem S1x16x512 .f32) (harg14 : arg14.IsWhole) (arg15 : Memref sig .tc .vmem S1x16x512 .f32) (harg15 : arg15.IsWhole) (arg16 : Memref sig .tc .vmem S1x8192x128 .bf16) (harg16 : arg16.IsWhole) (arg17 : Memref sig .tc .vmem S1x20x16x512 .f32) (harg17 : arg17.IsWhole) (arg18 : Memref sig .tc .vmem S160x128 .bf16) (harg18 : arg18.IsWhole) (arg19 : Memref sig .tc .vmem S160x128 .bf16) (harg19 : arg19.IsWhole) (arg20 : Memref sig .tc .vmem S8x256x1024 .bf16) (harg20 : arg20.IsWhole) (arg21 : Memref sig .tc .vmem S8x128x1024 .fp8e5m2) (harg21 : arg21.IsWhole) (arg22 : Memref sig .tc .vmem S8x128x1024 .bf16) (harg22 : arg22.IsWhole) (arg23 : Memref sig .tc .vmem S8x128x1024 .f32) (harg23 : arg23.IsWhole) (arg24 : Memref sig .tc .vmem S8x1x1024 .f32) (harg24 : arg24.IsWhole) (arg25 : Memref sig .tc .vmem S8x1x1024 .f32) (harg25 : arg25.IsWhole) (arg26 : Memref sig .tc .vmem S128x2x128 .bf16) (harg26 : arg26.IsWhole) (arg27 : Memref sig .tc .vmem S128x2x128 .bf16) (harg27 : arg27.IsWhole) (arg28 : Memref sig .tc .vmem S8x32x128 .f32) (harg28 : arg28.IsWhole) (arg29 : Memref sig .tc .vmem S8x32x128 .f32) (harg29 : arg29.IsWhole) (arg30 : Memref sig .tc .vmem S512x128 .bf16) (harg30 : arg30.IsWhole) (arg31 : Memref sig .tc .vmem S128x512 .f32) (harg31 : arg31.IsWhole) (arg32 : Memref sig .tc .vmem S256x128 .f32) (harg32 : arg32.IsWhole) : Prog (TpuEff nD τ sig (Elt F) Λ₀ .tc) (Σ' (v19 : IVec S128x256 1) (v22 : IVec S32x1024 1) (v31 : FVec F S512x128 .fp8e5m2) (v33 : FVec F S512x128 .fp8e5m2) (v44 : FVec F S1024x128 .bf16) (v55 : FVec F S128x1024 .bf16), FVec F S128x1024 .fp8e5m2) := do
  let v23 : Vec F S1x8192x128 .fp8e5m2 ← Prog.lift (.load arg5 (Rect.unit (s := S1x8192x128) ![0, 0, 0] S1x8192x128.size inb_S1x8192x128_S1x8192x128_0_0_0).toLoadRect (View.loadsAt_vmem h_S1x8192x128))
  let v56 : Vec F S1x128x1024 .bf16 ← Prog.lift (.load arg22 (Rect.unit (s := S8x128x1024) ![0, 0, 0] S1x128x1024.size inb_S8x128x1024_S1x128x1024_0_0_0).toLoadRect (View.loadsAt_vmem h_S1x128x1024))
  Prog.lift (.store arg22 (Rect.unit (s := S8x128x1024) ![0, 0, 0] S1x128x1024.size inb_S8x128x1024_S1x128x1024_0_0_0) (k0_pay20 v23) Finset.univ (View.stores_vmem h_S1x128x1024 (harg22.storeExact_slice rfl _ packedbf16_S8x128x1024_S1x128x1024_0_0_0) (fun _ => rfl)) (.inl rfl))
  pure ⟨k0_pay11, k0_pay12, k0_pay14 v23, k0_pay15 v23, k0_pay18 v23, k0_pay19 v23, k0_pay21 v23⟩

/-- The first part of the prologue after the initialisation. -/
noncomputable def proRest : Prog (TpuEff nD τ sig (Elt F) Λ₀ .tc) (Σ' (v19 : IVec S128x256 1) (v22 : IVec S32x1024 1) (v2251 : FVec F S1024x128 .bf16) (v2262 : FVec F S128x1024 .bf16) (v2300 : FVec F S1024x128 .bf16) (v2311 : FVec F S128x1024 .bf16) (v2349 : FVec F S1x1024 .f32) (v2378 : FVec F S1x1024 .f32) (v2383 : FVec F S1x1024 .f32) (v2393 : FVec F S1x1024 .f32) (v2396 : IVec S128x1024 32) (v2426 : FVec F S128x1024 .f32) (v2428 : IVec S128x1024 1), IVec S128x1024 32) := do
  let arg0 : BitVec 32 := BitVec.ofNat 32 (i 0).val
  let ⟨v19, v22, v31, v33, v44, v55, v59⟩ : Σ' (v19 : IVec S128x256 1) (v22 : IVec S32x1024 1) (v31 : FVec F S512x128 .fp8e5m2) (v33 : FVec F S512x128 .fp8e5m2) (v44 : FVec F S1024x128 .bf16) (v55 : FVec F S128x1024 .bf16), FVec F S128x1024 .fp8e5m2 ← proHead i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32
  let ⟨v93, v104⟩ : Σ' (v93 : FVec F S1024x128 .bf16), FVec F S128x1024 .bf16 ← k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v59
  let ⟨v142, v147⟩ : Σ' (v142 : FVec F S1x1024 .f32), FVec F S1x512 .f32 ← k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v55
  let ⟨v171, v176, v184, v185, v186, v189, v191⟩ : Σ' (v171 : FVec F S1x1024 .f32) (v176 : FVec F S1x1024 .f32) (v184 : FVec F S1x1024 .f32) (v185 : FVec F S1x1024 .f32) (v186 : FVec F S1x1024 .f32) (v189 : IVec S128x1024 32), IVec S128x1024 1 ← k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v147
  let v234 : FVec F S128x1024 .bf16 ← k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v104 v184 v185 v186 v189 v191
  let ⟨v245, v261, v265, v267, v268, v269⟩ : Σ' (v245 : FVec F S32x128 .bf16) (v261 : FVec F S32x1024 .f32) (v265 : FVec F S32x1024 .f32) (v267 : FVec F S32x1024 .f32) (v268 : FVec F S20x128 .f32), Vec F S1x20x1x128 .f32 ← k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v22 v55 v104 v142 v171 v176 v234
  let v296 : FVec F S20x128 .f32 ← k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v267 v268 v269
  let ⟨v327_lo, v327_hi⟩ : Σ' (v327_lo : FVec F S256x128 .bf16), FVec F S256x128 .bf16 ← k0_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v44 v93 v171 v245 v261 v265 v267 v296
  let ⟨v339, v355, v356, v367⟩ : Σ' (v339 : FVec F S512x128 .bf16) (v355 : FVec F S512x128 .bf16) (v356 : FVec F S128x512 .bf16), FVec F S128x256 .f32 ← k0_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v19 v104 v176 v327_lo v327_hi
  let v410 : FVec F S128x256 .f32 ← k0_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v19 v55 v104 v142 v176 v339 v355 v356 v367
  let ⟨v451, v452⟩ : Σ' (v451 : FVec F S512x256 .f32), FVec F S128x256 .f32 ← k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v19 v55 v104 v142 v176 v339 v355 v356 v410
  let ⟨v481, v492, v496⟩ : Σ' (v481 : FVec F S1024x128 .bf16) (v492 : FVec F S128x1024 .bf16), FVec F S128x1024 .fp8e5m2 ← k0_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v19 v31 v33 v55 v142 v355 v356 v451 v452
  let ⟨v530, v541⟩ : Σ' (v530 : FVec F S1024x128 .bf16), FVec F S128x1024 .bf16 ← k0_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v496
  let ⟨v579, v584⟩ : Σ' (v579 : FVec F S1x1024 .f32), FVec F S1x512 .f32 ← k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v492
  let ⟨v608, v613, v621, v622, v623, v626, v628, v629⟩ : Σ' (v608 : FVec F S1x1024 .f32) (v613 : FVec F S1x1024 .f32) (v621 : FVec F S1x1024 .f32) (v622 : FVec F S1x1024 .f32) (v623 : FVec F S1x1024 .f32) (v626 : IVec S128x1024 32) (v628 : IVec S128x1024 1), IVec S128x1024 32 ← k0_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v584
  let v671 : FVec F S128x1024 .bf16 ← k0_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v541 v621 v622 v623 v626 v628 v629
  let ⟨v682, v698, v702, v704, v708⟩ : Σ' (v682 : FVec F S32x128 .bf16) (v698 : FVec F S32x1024 .f32) (v702 : FVec F S32x1024 .f32) (v704 : FVec F S32x1024 .f32), FVec F S1x20x1x128 .f32 ← k0_part18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v22 v492 v541 v579 v608 v613 v671
  let v733 : FVec F S20x128 .f32 ← k0_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v704 v708
  let v765_hi : FVec F S256x128 .bf16 ← k0_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v481 v530 v608 v682 v698 v702 v704 v733
  let ⟨v776, v792, v793, v804, v805, v806⟩ : Σ' (v776 : FVec F S512x128 .bf16) (v792 : FVec F S512x128 .bf16) (v793 : FVec F S128x512 .bf16) (v804 : FVec F S128x256 .f32) (v805 : FVec F S128x128 .bf16), FVec F S128x256 .bf16 ← k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v19 v492 v541 v613 v765_hi
  let v847 : FVec F S128x256 .f32 ← k0_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v19 v492 v541 v579 v613 v776 v792 v793 v804 v805 v806
  let ⟨v888, v889, v890⟩ : Σ' (v888 : FVec F S512x256 .f32) (v889 : FVec F S128x256 .f32), FVec F S128x256 .f32 ← k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v19 v492 v541 v579 v613 v776 v792 v793 v847
  let ⟨v916, v918, v929, v931, v932, v933, v934, v935, v936, v937, v938⟩ : Σ' (v916 : FVec F S512x128 .fp8e5m2) (v918 : FVec F S512x128 .fp8e5m2) (v929 : FVec F S1024x128 .bf16) (v931 : FVec F S128x512 .bf16) (v932 : FVec F S128x128 .bf16) (v933 : FVec F S128x128 .bf16) (v934 : FVec F S128x128 .bf16) (v935 : FVec F S128x128 .bf16) (v936 : FVec F S128x128 .bf16) (v937 : FVec F S128x128 .bf16), FVec F S128x128 .bf16 ← k0_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v19 v492 v579 v792 v793 v888 v889 v890
  let ⟨v940, v978, v979, v980⟩ : Σ' (v940 : FVec F S128x1024 .bf16) (v978 : FVec F S1024x128 .bf16) (v979 : FVec F S128x512 .bf16), FVec F S128x512 .bf16 ← k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v931 v932 v933 v934 v935 v936 v937 v938
  let ⟨v989, v1027⟩ : Σ' (v989 : FVec F S128x1024 .bf16), FVec F S1x1024 .f32 ← k0_part26 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v940 v979 v980
  let ⟨v1056, v1061, v1062, v1065, v1068⟩ : Σ' (v1056 : FVec F S1x1024 .f32) (v1061 : FVec F S1x1024 .f32) (v1062 : FVec F S1x1024 .bf16) (v1065 : FVec F S1x1024 .bf16), FVec F S1x1024 .bf16 ← k0_part27 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1027
  let ⟨v1104, v1112, v1114⟩ : Σ' (v1104 : FVec F S128x1024 .f32) (v1112 : IVec S128x1024 1), FVec F S128x1024 .f32 ← k0_part28 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1062 v1065 v1068
  let ⟨v1130, v1146, v1147, v1148⟩ : Σ' (v1130 : FVec F S32x128 .bf16) (v1146 : FVec F S32x1024 .f32) (v1147 : FVec F S32x1024 .f32), FVec F S32x1024 .f32 ← k0_part29 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v22 v940 v989 v1027 v1061 v1104 v1112 v1114
  let ⟨v1150, v1152, v1177⟩ : Σ' (v1150 : FVec F S32x1024 .f32) (v1152 : FVec F S32x1024 .f32), FVec F S20x128 .f32 ← k0_part30 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1056 v1146 v1147 v1148
  let v1208 : FVec F S1x128x1024 .f32 ← k0_part31 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v929 v978 v1056 v1130 v1146 v1150 v1152 v1177
  let ⟨v1224, v1240, v1241, v1244⟩ : Σ' (v1224 : FVec F S512x128 .bf16) (v1240 : FVec F S512x128 .bf16) (v1241 : FVec F S128x512 .bf16), FVec F S128x256 .f32 ← k0_part32 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v989 v1208
  let v1289 : FVec F S256x256 .f32 ← k0_part33 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v19 v940 v989 v1027 v1061 v1224 v1240 v1241 v1244
  let v1329 : FVec F S128x256 .bf16 ← k0_part34 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v19 v940 v989 v1027 v1061 v1224 v1240 v1241 v1289
  let ⟨v1366, v1377⟩ : Σ' (v1366 : FVec F S1024x128 .bf16), FVec F S128x1024 .bf16 ← k0_part35 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v19 v916 v918 v940 v1027 v1061 v1224 v1240 v1241 v1329
  let ⟨v1415, v1416, v1417, v1418, v1419⟩ : Σ' (v1415 : FVec F S1024x128 .bf16) (v1416 : FVec F S128x512 .bf16) (v1417 : FVec F S128x512 .bf16) (v1418 : FVec F S128x128 .bf16), FVec F S128x128 .bf16 ← k0_part36 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1377
  let ⟨v1426, v1464, v1465⟩ : Σ' (v1426 : FVec F S128x1024 .bf16) (v1464 : FVec F S1x1024 .f32), Vec F S1x1x1024 .f32 ← k0_part37 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1377 v1416 v1417 v1418 v1419
  let ⟨v1493, v1498, v1505, v1506, v1507⟩ : Σ' (v1493 : FVec F S1x1024 .f32) (v1498 : FVec F S1x1024 .f32) (v1505 : FVec F S1x1024 .bf16) (v1506 : FVec F S1x1024 .f32), FVec F S1x1024 .f32 ← k0_part38 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1464 v1465
  let v1552 : FVec F S128x1024 .f32 ← k0_part39 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1505 v1506 v1507
  let ⟨v1567, v1583, v1587⟩ : Σ' (v1567 : FVec F S32x128 .bf16) (v1583 : FVec F S32x1024 .f32), FVec F S32x1024 .f32 ← k0_part40 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v22 v1377 v1426 v1464 v1498 v1552
  let ⟨v1589, v1614⟩ : Σ' (v1589 : FVec F S32x1024 .f32), FVec F S20x128 .f32 ← k0_part41 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1493 v1587
  k0_part42 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1366 v1415 v1493 v1567 v1583 v1587 v1589 v1614
  let ⟨v1661, v1677, v1678, v1681, v1682⟩ : Σ' (v1661 : FVec F S512x128 .bf16) (v1677 : FVec F S512x128 .bf16) (v1678 : FVec F S128x512 .bf16) (v1681 : FVec F S128x256 .f32), FVec F S128x256 .f32 ← k0_part43 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1426
  let v1726 : FVec F S256x256 .f32 ← k0_part44 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v19 v1377 v1426 v1464 v1498 v1661 v1677 v1678 v1681 v1682
  let v1767 : FVec F S512x256 .f32 ← k0_part45 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v19 v1377 v1426 v1464 v1498 v1661 v1677 v1678 v1726
  let ⟨v1801, v1803, v1804, v1805, v1806, v1807, v1808, v1809, v1810, v1811, v1812, v1813⟩ : Σ' (v1801 : FVec F S512x128 .fp8e5m2) (v1803 : FVec F S512x128 .fp8e5m2) (v1804 : FVec F S512x128 .bf16) (v1805 : FVec F S512x128 .bf16) (v1806 : FVec F S128x128 .bf16) (v1807 : FVec F S128x128 .bf16) (v1808 : FVec F S128x128 .bf16) (v1809 : FVec F S128x128 .bf16) (v1810 : FVec F S128x128 .bf16) (v1811 : FVec F S128x128 .bf16) (v1812 : FVec F S128x128 .bf16), FVec F S128x128 .bf16 ← k0_part46 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v19 v1377 v1464 v1498 v1677 v1678 v1767
  let ⟨v1814, v1825, v1848, v1854, v1855⟩ : Σ' (v1814 : FVec F S1024x128 .bf16) (v1825 : FVec F S128x1024 .bf16) (v1848 : FVec F S512x128 .bf16) (v1854 : FVec F S512x128 .bf16), FVec F S128x128 .bf16 ← k0_part47 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1804 v1805 v1806 v1807 v1808 v1809 v1810 v1811 v1812 v1813
  let ⟨v1863, v1874, v1898, v1899, v1900, v1901, v1902, v1903, v1904, v1905⟩ : Σ' (v1863 : FVec F S1024x128 .bf16) (v1874 : FVec F S128x1024 .bf16) (v1898 : FVec F S128x512 .bf16) (v1899 : FVec F S128x128 .bf16) (v1900 : FVec F S128x128 .bf16) (v1901 : FVec F S128x128 .bf16) (v1902 : FVec F S128x128 .bf16) (v1903 : FVec F S128x128 .bf16) (v1904 : FVec F S128x128 .bf16), FVec F S128x128 .bf16 ← k0_part48 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1848 v1854 v1855
  let ⟨v1912, v1928, v1941⟩ : Σ' (v1912 : FVec F S1x1024 .f32) (v1928 : FVec F S1x1024 .f32), FVec F S1x1024 .f32 ← k0_part49 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1825 v1898 v1899 v1900 v1901 v1902 v1903 v1904 v1905
  let ⟨v1946, v1956, v1959, v1989, v1991⟩ : Σ' (v1946 : FVec F S1x1024 .f32) (v1956 : FVec F S1x1024 .f32) (v1959 : IVec S128x1024 32) (v1989 : FVec F S128x1024 .f32), IVec S128x1024 1 ← k0_part50 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1928
  let ⟨v2015, v2023, v2024, v2025⟩ : Σ' (v2015 : FVec F S32x128 .bf16) (v2023 : FVec F S32x128 .bf16) (v2024 : FVec F S32x1024 .f32), FVec F S32x1024 .f32 ← k0_part51 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1874 v1956 v1959 v1989 v1991
  let ⟨v2031, v2035, v2037, v2058⟩ : Σ' (v2031 : FVec F S32x1024 .f32) (v2035 : FVec F S32x1024 .f32) (v2037 : FVec F S32x1024 .f32), FVec F S20x128 .f32 ← k0_part52 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v22 v1825 v1912 v1941 v1946 v2023 v2024 v2025
  k0_part53 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1814 v1863 v1941 v2031 v2037 v2058
  let ⟨v2109, v2114_lo, v2119_lo⟩ : Σ' (v2109 : FVec F S512x128 .bf16) (v2114_lo : FVec F S256x128 .bf16), FVec F S256x128 .bf16 ← k0_part54 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2015 v2035
  let ⟨v2125, v2126, v2162, v2165⟩ : Σ' (v2125 : FVec F S512x128 .bf16) (v2126 : FVec F S128x512 .bf16) (v2162 : FVec F S256x256 .f32), FVec F S128x256 .f32 ← k0_part55 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v19 v1825 v1874 v1912 v1946 v2109 v2114_lo v2119_lo
  let ⟨v2206, v2207, v2208, cst_970⟩ : Σ' (v2206 : FVec F S128x256 .f32) (v2207 : FVec F S128x384 .bf16) (v2208 : FVec F S384x256 .bf16), FVec F S128x256 .f32 ← k0_part56 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v19 v1825 v1874 v1912 v1946 v2109 v2125 v2126 v2162 v2165
  let ⟨v2242, v2251, v2252⟩ : Σ' (v2242 : FVec F S512x128 .bf16) (v2251 : FVec F S1024x128 .bf16), FVec F S128x512 .bf16 ← k0_part57 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v19 v1801 v1803 v1825 v1874 v1912 v1946 v2109 v2125 v2126 v2206 v2207 v2208 cst_970
  let ⟨v2262, v2285, v2291, v2292, v2293, v2294⟩ : Σ' (v2262 : FVec F S128x1024 .bf16) (v2285 : FVec F S512x128 .bf16) (v2291 : FVec F S512x128 .bf16) (v2292 : FVec F S128x128 .bf16) (v2293 : FVec F S128x128 .bf16), FVec F S128x128 .bf16 ← k0_part58 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2242 v2252
  let ⟨v2300, v2311, v2344⟩ : Σ' (v2300 : FVec F S1024x128 .bf16) (v2311 : FVec F S128x1024 .bf16), FVec F S128x1024 .bf16 ← k0_part59 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2285 v2291 v2292 v2293 v2294
  let ⟨v2349, v2365, v2378, v2382⟩ : Σ' (v2349 : FVec F S1x1024 .f32) (v2365 : FVec F S1x1024 .f32) (v2378 : FVec F S1x1024 .f32), FVec F S1x1024 .f32 ← k0_part60 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2262 v2344
  let ⟨v2383, v2393, v2396, v2426, v2428, v2429⟩ : Σ' (v2383 : FVec F S1x1024 .f32) (v2393 : FVec F S1x1024 .f32) (v2396 : IVec S128x1024 32) (v2426 : FVec F S128x1024 .f32) (v2428 : IVec S128x1024 1), IVec S128x1024 32 ← k0_part61 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2365 v2382
  pure ⟨v19, v22, v2251, v2262, v2300, v2311, v2349, v2378, v2383, v2393, v2396, v2426, v2428, v2429⟩

/-- The prologue of a batch after the initialisation, then `jp`. -/
noncomputable def proB (jp : PUnit.{1} → Prog (TpuEff nD τ sig (Elt F) Λ₀ .tc) PUnit.{1}) : Prog (TpuEff nD τ sig (Elt F) Λ₀ .tc) PUnit.{1} := do
  let arg0 : BitVec 32 := BitVec.ofNat 32 (i 0).val
  let ⟨v19, v22, v2251, v2262, v2300, v2311, v2349, v2378, v2383, v2393, v2396, v2426, v2428, v2429⟩ : Σ' (v19 : IVec S128x256 1) (v22 : IVec S32x1024 1) (v2251 : FVec F S1024x128 .bf16) (v2262 : FVec F S128x1024 .bf16) (v2300 : FVec F S1024x128 .bf16) (v2311 : FVec F S128x1024 .bf16) (v2349 : FVec F S1x1024 .f32) (v2378 : FVec F S1x1024 .f32) (v2383 : FVec F S1x1024 .f32) (v2393 : FVec F S1x1024 .f32) (v2396 : IVec S128x1024 32) (v2426 : FVec F S128x1024 .f32) (v2428 : IVec S128x1024 1), IVec S128x1024 32 ← proRest i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32
  let ⟨v3147, v3234, v3447, v3448, v3546, v3547⟩ : Σ' (v3147 : FVec F S128x1024 .bf16) (v3234 : FVec F S1x1024 .f32) (v3447 : FVec F S512x128 .bf16) (v3448 : FVec F S128x512 .bf16) (v3546 : FVec F S128x256 .f32), FVec F S384x256 .f32 ← k0_part91 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v19 v22 v2251 v2262 v2300 v2311 v2349 v2378 v2383 v2393 v2396 v2426 v2428 v2429
  let v3555 : Vec F S1x128x256 .f32 ← Prog.lift (.load arg23 (Rect.unit (s := S8x128x1024) ![7, 0, 768] S1x128x256.size inb_S8x128x1024_S1x128x256_7_0_768).toLoadRect (View.loadsAt_vmem h_S1x128x256))
  let v3560 : Vec F S1x128x256 .f32 ← Prog.lift (.load arg23 (Rect.unit (s := S8x128x1024) ![7, 0, 768] S1x128x256.size inb_S8x128x1024_S1x128x256_7_0_768).toLoadRect (View.loadsAt_vmem h_S1x128x256))
  Prog.lift (.store arg23 (Rect.unit (s := S8x128x1024) ![7, 0, 768] S1x128x256.size inb_S8x128x1024_S1x128x256_7_0_768) (k0_pay1 v3147 v3234 v3447 v3448 v3546 v3547 v3555) Finset.univ (View.stores_vmem_bits_univ h_S1x128x256 rfl) (.inl rfl))
  jp ⟨⟩

/-- The whole prologue, then `jp`. -/
noncomputable def proA (jp : PUnit.{1} → Prog (TpuEff nD τ sig (Elt F) Λ₀ .tc) PUnit.{1}) : Prog (TpuEff nD τ sig (Elt F) Λ₀ .tc) PUnit.{1} := do
  let ⟨v19, v22, v2251, v2262, v2300, v2311, v2349, v2378, v2383, v2393, v2396, v2426, v2428, v2429⟩ : Σ' (v19 : IVec S128x256 1) (v22 : IVec S32x1024 1) (v2251 : FVec F S1024x128 .bf16) (v2262 : FVec F S128x1024 .bf16) (v2300 : FVec F S1024x128 .bf16) (v2311 : FVec F S128x1024 .bf16) (v2349 : FVec F S1x1024 .f32) (v2378 : FVec F S1x1024 .f32) (v2383 : FVec F S1x1024 .f32) (v2393 : FVec F S1x1024 .f32) (v2396 : IVec S128x1024 32) (v2426 : FVec F S128x1024 .f32) (v2428 : IVec S128x1024 1), IVec S128x1024 32 ← k0_part90 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 (BitVec.ofNat 32 (i 0).val)
  let ⟨v3147, v3234, v3447, v3448, v3546, v3547⟩ : Σ' (v3147 : FVec F S128x1024 .bf16) (v3234 : FVec F S1x1024 .f32) (v3447 : FVec F S512x128 .bf16) (v3448 : FVec F S128x512 .bf16) (v3546 : FVec F S128x256 .f32), FVec F S384x256 .f32 ← k0_part91 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v19 v22 v2251 v2262 v2300 v2311 v2349 v2378 v2383 v2393 v2396 v2426 v2428 v2429
  let v3555 : Vec F S1x128x256 .f32 ← Prog.lift (.load arg23 (Rect.unit (s := S8x128x1024) ![7, 0, 768] S1x128x256.size inb_S8x128x1024_S1x128x256_7_0_768).toLoadRect (View.loadsAt_vmem h_S1x128x256))
  let v3560 : Vec F S1x128x256 .f32 ← Prog.lift (.load arg23 (Rect.unit (s := S8x128x1024) ![7, 0, 768] S1x128x256.size inb_S8x128x1024_S1x128x256_7_0_768).toLoadRect (View.loadsAt_vmem h_S1x128x256))
  Prog.lift (.store arg23 (Rect.unit (s := S8x128x1024) ![7, 0, 768] S1x128x256.size inb_S8x128x1024_S1x128x256_7_0_768) (k0_pay1 v3147 v3234 v3447 v3448 v3546 v3547 v3555) Finset.univ (View.stores_vmem_bits_univ h_S1x128x256 rfl) (.inl rfl))
  jp ⟨⟩

/-- One chunk of the context, then `jp`. -/
noncomputable def ctxB (v1 : Elt F .i32) (jp : PUnit.{1} → Prog (TpuEff nD τ sig (Elt F) Λ₀ .tc) PUnit.{1}) : Prog (TpuEff nD τ sig (Elt F) Λ₀ .tc) PUnit.{1} := do
  let arg1 : BitVec 32 := BitVec.ofNat 32 (i 1).val
  let ⟨v1450, v1461, v1533, v1535⟩ : Σ' (v1450 : FVec F S128x512 .bf16) (v1461 : FVec F S512x256 .f32) (v1533 : FVec F S512x256 .f32), FVec F S512x256 .f32 ← k0_part134 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg1 v1
  let v1537 : Vec F S1x1x256 .f32 ← Prog.lift (.load arg24 (Rect.unit (s := S8x1x1024) ![7, 0, 768] S1x1x256.size inb_S8x1x1024_S1x1x256_7_0_768).toLoadRect (View.loadsAt_vmem h_S1x1x256))
  let v1542 : Vec F S1x128x256 .f32 ← Prog.lift (.load arg23 (Rect.unit (s := S8x128x1024) ![7, 0, 768] S1x128x256.size inb_S8x128x1024_S1x128x256_7_0_768).toLoadRect (View.loadsAt_vmem h_S1x128x256))
  let v1547 : Vec F S1x128x256 .f32 ← Prog.lift (.load arg23 (Rect.unit (s := S8x128x1024) ![7, 0, 768] S1x128x256.size inb_S8x128x1024_S1x128x256_7_0_768).toLoadRect (View.loadsAt_vmem h_S1x128x256))
  Prog.lift (.store arg23 (Rect.unit (s := S8x128x1024) ![7, 0, 768] S1x128x256.size inb_S8x128x1024_S1x128x256_7_0_768) (k0_pay2 v1450 v1461 v1533 v1535 v1537 v1542) Finset.univ (View.stores_vmem_bits_univ h_S1x128x256 rfl) (.inl rfl))
  jp ⟨⟩

/-- The write-out of a batch’s query gradient, then `jp`. -/
noncomputable def epiB (jp : PUnit.{1} → Prog (TpuEff nD τ sig (Elt F) Λ₀ .tc) PUnit.{1}) : Prog (TpuEff nD τ sig (Elt F) Λ₀ .tc) PUnit.{1} := do
  let arg0 : BitVec 32 := BitVec.ofNat 32 (i 0).val
  let ⟨v27_hi, v35_hi⟩ : Σ' (v27_hi : FVec F S256x128 .bf16), FVec F S256x128 .bf16 ← k0_part139 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32
  let ⟨v69_hi, v77_hi⟩ : Σ' (v69_hi : FVec F S256x128 .bf16), FVec F S256x128 .bf16 ← k0_part140 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v27_hi v35_hi
  let ⟨v111_hi, v119_hi, c16_i32_54⟩ : Σ' (v111_hi : FVec F S256x128 .bf16) (v119_hi : FVec F S256x128 .bf16), BitVec 32 ← k0_part141 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v69_hi v77_hi
  let ⟨v153_lo, v153_hi, v161_lo, v161_hi, v170_raw⟩ : Σ' (v153_lo : FVec F S256x128 .bf16) (v153_hi : FVec F S256x128 .bf16) (v161_lo : FVec F S256x128 .bf16) (v161_hi : FVec F S256x128 .bf16), Vec F S1x256x2x128 .bf16 ← k0_part142 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v111_hi v119_hi c16_i32_54
  let ⟨v195_lo, v195_hi, v203_lo, v203_hi⟩ : Σ' (v195_lo : FVec F S256x128 .bf16) (v195_hi : FVec F S256x128 .bf16) (v203_lo : FVec F S256x128 .bf16), FVec F S256x128 .bf16 ← k0_part143 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v153_lo v153_hi v161_lo v161_hi v170_raw
  let ⟨v237_lo, v237_hi, v245_lo, v245_hi⟩ : Σ' (v237_lo : FVec F S256x128 .bf16) (v237_hi : FVec F S256x128 .bf16) (v245_lo : FVec F S256x128 .bf16), FVec F S256x128 .bf16 ← k0_part144 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v195_lo v195_hi v203_lo v203_hi
  let ⟨v279_lo, v279_hi, v285⟩ : Σ' (v279_lo : FVec F S256x128 .bf16) (v279_hi : FVec F S256x128 .bf16), FVec F S128x512 .bf16 ← k0_part145 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v237_lo v237_hi v245_lo v245_hi
  let ⟨v313, v321_lo, v321_hi, v322⟩ : Σ' (v313 : FVec F S128x1024 .f32) (v321_lo : FVec F S256x128 .bf16) (v321_hi : FVec F S256x128 .bf16), FVec F S128x128 .f32 ← k0_part146 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v279_lo v279_hi v285
  let v338_raw : Vec F S1x256x2x128 .bf16 ← Prog.lift (.load (arg16.reshape S1x4096x2x128 reshapes_S1x8192x128_S1x4096x2x128.1 reshapes_S1x8192x128_S1x4096x2x128.2 harg16.contiguous) (⟨![0, 7, 0, 0], S1x256x2x128.size, ![1, 16, 1, 1], inb_S1x4096x2x128_S1x256x2x128_0_7_0_0_s_1_16_1_1⟩ : LoadRect S1x4096x2x128) (View.loadsAt_vmem h_S1x256x2x128))
  Prog.lift (.store (arg16.reshape S1x4096x2x128 reshapes_S1x8192x128_S1x4096x2x128.1 reshapes_S1x8192x128_S1x4096x2x128.2 harg16.contiguous) ⟨(⟨![0, 7, 0, 0], S1x256x2x128.size, ![1, 16, 1, 1], inb_S1x4096x2x128_S1x256x2x128_0_7_0_0_s_1_16_1_1⟩ : LoadRect S1x4096x2x128), spos_1_16_1_1⟩ (k0_pay4 v313 v321_lo v322) Finset.univ (View.stores_vmem h_S1x256x2x128 (harg16.storeExact_pairs rfl _ rowgroups_S1x4096x2x128_S1x8192x128 packedbf16_S1x4096x2x128_S1x256x2x128_0_7_0_0_s_1_16_1_1) (fun _ => rfl)) (.inl rfl))
  let v347_raw : Vec F S1x256x2x128 .bf16 ← Prog.lift (.load (arg16.reshape S1x4096x2x128 reshapes_S1x8192x128_S1x4096x2x128.1 reshapes_S1x8192x128_S1x4096x2x128.2 harg16.contiguous) (⟨![0, 15, 0, 0], S1x256x2x128.size, ![1, 16, 1, 1], inb_S1x4096x2x128_S1x256x2x128_0_15_0_0_s_1_16_1_1⟩ : LoadRect S1x4096x2x128) (View.loadsAt_vmem h_S1x256x2x128))
  Prog.lift (.store (arg16.reshape S1x4096x2x128 reshapes_S1x8192x128_S1x4096x2x128.1 reshapes_S1x8192x128_S1x4096x2x128.2 harg16.contiguous) ⟨(⟨![0, 15, 0, 0], S1x256x2x128.size, ![1, 16, 1, 1], inb_S1x4096x2x128_S1x256x2x128_0_15_0_0_s_1_16_1_1⟩ : LoadRect S1x4096x2x128), spos_1_16_1_1⟩ (k0_pay5 v313 v321_hi v322) Finset.univ (View.stores_vmem h_S1x256x2x128 (harg16.storeExact_pairs rfl _ rowgroups_S1x4096x2x128_S1x8192x128 packedbf16_S1x4096x2x128_S1x256x2x128_0_15_0_0_s_1_16_1_1) (fun _ => rfl)) (.inl rfl))
  jp ⟨⟩

/-- The write-out of the prefix gradients, then `jp`. -/
noncomputable def preB (jp : PUnit.{1} → Prog (TpuEff nD τ sig (Elt F) Λ₀ .tc) PUnit.{1}) : Prog (TpuEff nD τ sig (Elt F) Λ₀ .tc) PUnit.{1} := do
  let v379 : Vec F S1x32x128 .f32 ← k0_part135 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32
  k0_part136 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v379
  let v438 : Vec F S1x32x128 .f32 ← k0_part137 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32
  k0_part138 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v438
  jp ⟨⟩

/-- From the write-out on. -/
noncomputable def fromEpi : Prog (TpuEff nD τ sig (Elt F) Λ₀ .tc) PUnit.{1} :=
  if k0_cond4 i = 1#1 then epiB i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 (fun _ => if k0_cond5 i = 1#1 then preB i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 (fun _ => pure ⟨⟩) else pure ⟨⟩) else pure ⟨⟩

/-- From the chunk on. -/
noncomputable def fromCtx (v1 : Elt F .i32) : Prog (TpuEff nD τ sig (Elt F) Λ₀ .tc) PUnit.{1} :=
  if cond0_2 i v1 then ctxB i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1 (fun _ => fromEpi i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) else fromEpi i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32

set_option maxHeartbeats 2000000 in
set_option maxRecDepth 65536 in
/-- The kernel body, cut where its conditionals end. -/
theorem body_eq : cc0_prefix_attention_backward (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 =
    (smemLoad arg2 (Rect.unit (s := S2) (k0_off1 i) S1.size (k0_off1_inb i)) numel1_S1 rfl >>= fun v1 =>
      if k0_cond1 i = 1#1 then proA i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 (fun _ => fromCtx i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1) else fromCtx i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1) := by
  rw [cc0_prefix_attention_backward_eq_skeleton]; rfl

/-- The initialisation hands its continuation on. -/
theorem initB_bind {α β : Type} (jp : PUnit.{1} → Prog (TpuEff nD τ sig (Elt F) Λ₀ .tc) α) (k : α → Prog (TpuEff nD τ sig (Elt F) Λ₀ .tc) β) :
    initB i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 jp >>= k = initB i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 (fun u => jp u >>= k) := by
  unfold initB; simp only [bind_assoc]

set_option maxHeartbeats 2000000 in
/-- The prologue, cut where the initialisation ends. -/
theorem proA_eq (jp : PUnit.{1} → Prog (TpuEff nD τ sig (Elt F) Λ₀ .tc) PUnit.{1}) : proA i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 jp =
    if cond0_1 i then initB i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 (fun _ => proB i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 jp) else proB i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 jp := by
  have h : k0_part2 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 (BitVec.ofNat 32 (i 0).val) = if cond0_1 i then initB i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 (fun _ => proHead i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) else proHead i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 := by
    rw [k0_part2_eq_skeleton]; rfl
  have h' : k0_part90 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 (BitVec.ofNat 32 (i 0).val) = if cond0_1 i then initB i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 (fun _ => proRest i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) else proRest i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 := by
    rw [k0_part90_eq_skeleton]; unfold k0_part90_skel
    rw [h]
    by_cases hc : cond0_1 i
    · rw [if_pos hc, if_pos hc, initB_bind]; rfl
    · rw [if_neg hc, if_neg hc]; rfl
  unfold proA
  rw [h']
  by_cases hc : cond0_1 i
  · rw [if_pos hc, if_pos hc, initB_bind]; rfl
  · rw [if_neg hc, if_neg hc]; rfl

end Cert.KernelIdeal.Gen

end
-- ==== Proof.KernelIdeal.Inv.lean ====
module

public import proofs.«01_k».proof.Proof.KernelIdeal.Blocks

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What the body holds between its blocks when nothing is named: the inputs at their blocks, every output and every scratch buffer at
    some contents, the table. -/
abbrev Inv (c : Dev nD) (arg3 : Memref sig .tc .vmem S1x8192x128 .bf16) (arg4 : Memref sig .tc .vmem S1x8192x128 .bf16) (arg5 : Memref sig .tc .vmem S1x8192x128 .fp8e5m2) (arg6 : Memref sig .tc .vmem S1x4096x128 .bf16) (arg7 : Memref sig .tc .vmem S1x4096x128 .bf16) (arg8 : Memref sig .tc .vmem S160x128 .bf16) (arg9 : Memref sig .tc .vmem S160x128 .bf16) (arg10 : Memref sig .tc .vmem S1x4096x128 .fp8e4m3) (arg11 : Memref sig .tc .vmem S1x4096x128 .fp8e4m3) (arg12 : Memref sig .tc .vmem S1x8x512 .f32) (arg13 : Memref sig .tc .vmem S1x8x512 .f32) (arg14 : Memref sig .tc .vmem S1x16x512 .f32) (arg15 : Memref sig .tc .vmem S1x16x512 .f32) (arg16 : Memref sig .tc .vmem S1x8192x128 .bf16) (arg17 : Memref sig .tc .vmem S1x20x16x512 .f32) (arg18 : Memref sig .tc .vmem S160x128 .bf16) (arg19 : Memref sig .tc .vmem S160x128 .bf16) (arg20 : Memref sig .tc .vmem S8x256x1024 .bf16) (arg21 : Memref sig .tc .vmem S8x128x1024 .fp8e5m2) (arg22 : Memref sig .tc .vmem S8x128x1024 .bf16) (arg23 : Memref sig .tc .vmem S8x128x1024 .f32) (arg24 : Memref sig .tc .vmem S8x1x1024 .f32) (arg25 : Memref sig .tc .vmem S8x1x1024 .f32) (arg26 : Memref sig .tc .vmem S128x2x128 .bf16) (arg27 : Memref sig .tc .vmem S128x2x128 .bf16) (arg28 : Memref sig .tc .vmem S8x32x128 .f32) (arg29 : Memref sig .tc .vmem S8x32x128 .f32) (arg30 : Memref sig .tc .vmem S512x128 .bf16) (arg31 : Memref sig .tc .vmem S128x512 .f32) (arg32 : Memref sig .tc .vmem S256x128 .f32) (x0 : Vec F S1x8192x128 .bf16) (x1 : Vec F S1x8192x128 .bf16) (x2 : Vec F S1x8192x128 .fp8e5m2) (x3 : Vec F S1x4096x128 .bf16) (x4 : Vec F S1x4096x128 .bf16) (x5 : Vec F S160x128 .bf16) (x6 : Vec F S160x128 .bf16) (x7 : Vec F S1x4096x128 .fp8e4m3) (x8 : Vec F S1x4096x128 .fp8e4m3) (x9 : Vec F S1x8x512 .f32) (x10 : Vec F S1x8x512 .f32) (x11 : Vec F S1x16x512 .f32) (x12 : Vec F S1x16x512 .f32) (xt0 : TbBuf0 (F := F) c tbM0_0) : sProp 𝕄 :=
  iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ tbPt0 c tbM0_0 xt0)

end Cert.KernelIdeal.Gen

end
-- ==== Proof.KernelIdeal.InvRuns1.lean ====
module

public import proofs.«01_k».proof.Proof.KernelIdeal.Inv

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- One chunk of the context keeps what the body holds. -/
theorem inv_ctxB (c : Dev nD) (i : grid0.Coords) (arg3 : Memref sig .tc .vmem S1x8192x128 .bf16) (harg3 : arg3.IsWhole) (arg4 : Memref sig .tc .vmem S1x8192x128 .bf16) (harg4 : arg4.IsWhole) (arg5 : Memref sig .tc .vmem S1x8192x128 .fp8e5m2) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S160x128 .bf16) (harg8 : arg8.IsWhole) (arg9 : Memref sig .tc .vmem S160x128 .bf16) (harg9 : arg9.IsWhole) (arg10 : Memref sig .tc .vmem S1x4096x128 .fp8e4m3) (harg10 : arg10.IsWhole) (arg11 : Memref sig .tc .vmem S1x4096x128 .fp8e4m3) (harg11 : arg11.IsWhole) (arg12 : Memref sig .tc .vmem S1x8x512 .f32) (harg12 : arg12.IsWhole) (arg13 : Memref sig .tc .vmem S1x8x512 .f32) (harg13 : arg13.IsWhole) (arg14 : Memref sig .tc .vmem S1x16x512 .f32) (harg14 : arg14.IsWhole) (arg15 : Memref sig .tc .vmem S1x16x512 .f32) (harg15 : arg15.IsWhole) (arg16 : Memref sig .tc .vmem S1x8192x128 .bf16) (harg16 : arg16.IsWhole) (arg17 : Memref sig .tc .vmem S1x20x16x512 .f32) (harg17 : arg17.IsWhole) (arg18 : Memref sig .tc .vmem S160x128 .bf16) (harg18 : arg18.IsWhole) (arg19 : Memref sig .tc .vmem S160x128 .bf16) (harg19 : arg19.IsWhole) (arg20 : Memref sig .tc .vmem S8x256x1024 .bf16) (harg20 : arg20.IsWhole) (arg21 : Memref sig .tc .vmem S8x128x1024 .fp8e5m2) (harg21 : arg21.IsWhole) (arg22 : Memref sig .tc .vmem S8x128x1024 .bf16) (harg22 : arg22.IsWhole) (arg23 : Memref sig .tc .vmem S8x128x1024 .f32) (harg23 : arg23.IsWhole) (arg24 : Memref sig .tc .vmem S8x1x1024 .f32) (harg24 : arg24.IsWhole) (arg25 : Memref sig .tc .vmem S8x1x1024 .f32) (harg25 : arg25.IsWhole) (arg26 : Memref sig .tc .vmem S128x2x128 .bf16) (harg26 : arg26.IsWhole) (arg27 : Memref sig .tc .vmem S128x2x128 .bf16) (harg27 : arg27.IsWhole) (arg28 : Memref sig .tc .vmem S8x32x128 .f32) (harg28 : arg28.IsWhole) (arg29 : Memref sig .tc .vmem S8x32x128 .f32) (harg29 : arg29.IsWhole) (arg30 : Memref sig .tc .vmem S512x128 .bf16) (harg30 : arg30.IsWhole) (arg31 : Memref sig .tc .vmem S128x512 .f32) (harg31 : arg31.IsWhole) (arg32 : Memref sig .tc .vmem S256x128 .f32) (harg32 : arg32.IsWhole) (x0 : Vec F S1x8192x128 .bf16) (x1 : Vec F S1x8192x128 .bf16) (x2 : Vec F S1x8192x128 .fp8e5m2) (x3 : Vec F S1x4096x128 .bf16) (x4 : Vec F S1x4096x128 .bf16) (x5 : Vec F S160x128 .bf16) (x6 : Vec F S160x128 .bf16) (x7 : Vec F S1x4096x128 .fp8e4m3) (x8 : Vec F S1x4096x128 .fp8e4m3) (x9 : Vec F S1x8x512 .f32) (x10 : Vec F S1x8x512 .f32) (x11 : Vec F S1x16x512 .f32) (x12 : Vec F S1x16x512 .f32) (xt0 : TbBuf0 (F := F) c tbM0_0) (E : Set ℕ) (K : PUnit.{1} → sProp 𝕄) (v1 : Elt F .i32) (jp : PUnit.{1} → Prog (TpuEff nD τ sig (Elt F) Λ₀ .tc) PUnit.{1}) :
    iprop(Inv c arg3 arg4 arg5 arg6 arg7 arg8 arg9 arg10 arg11 arg12 arg13 arg14 arg15 arg16 arg17 arg18 arg19 arg20 arg21 arg22 arg23 arg24 arg25 arg26 arg27 arg28 arg29 arg30 arg31 arg32 x0 x1 x2 x3 x4 x5 x6 x7 x8 x9 x10 x11 x12 xt0 ∗ (Inv c arg3 arg4 arg5 arg6 arg7 arg8 arg9 arg10 arg11 arg12 arg13 arg14 arg15 arg16 arg17 arg18 arg19 arg20 arg21 arg22 arg23 arg24 arg25 arg26 arg27 arg28 arg29 arg30 arg31 arg32 x0 x1 x2 x3 x4 x5 x6 x7 x8 x9 x10 x11 x12 xt0 -∗ wp frame (wpE (defs₀ (F := F)) Variants.none c none) E (jp ⟨⟩) K))
      ⊢ wp frame (wpE (defs₀ (F := F)) Variants.none c none) E (ctxB i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1 jp) K := by
  unfold ctxB Inv owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, HT0⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12
  sl_exec (disch := fail)
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; · ipureintro; exact harg13.read_unread _
    iexact H10
  isplitl [H11]
  · iexists _; isplitr; · ipureintro; exact harg14.read_unread _
    iexact H11
  isplitl [H12]
  · iexists _; isplitr; · ipureintro; exact harg15.read_unread _
    iexact H12
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _, _; isplitr; swap; · iexact H26
    ipureintro; rfl
  isplitl [H27]
  · iexists _, _; isplitr; swap; · iexact H27
    ipureintro; rfl
  isplitl [H28]
  · iexists _, _; isplitr; swap; · iexact H28
    ipureintro; rfl
  isplitl [H29]
  · iexists _, _; isplitr; swap; · iexact H29
    ipureintro; rfl
  iexact HT0

set_option maxHeartbeats 4000000 in
/-- The write-out of the query gradient keeps what the body holds. -/
theorem inv_epiB (c : Dev nD) (i : grid0.Coords) (arg3 : Memref sig .tc .vmem S1x8192x128 .bf16) (harg3 : arg3.IsWhole) (arg4 : Memref sig .tc .vmem S1x8192x128 .bf16) (harg4 : arg4.IsWhole) (arg5 : Memref sig .tc .vmem S1x8192x128 .fp8e5m2) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S160x128 .bf16) (harg8 : arg8.IsWhole) (arg9 : Memref sig .tc .vmem S160x128 .bf16) (harg9 : arg9.IsWhole) (arg10 : Memref sig .tc .vmem S1x4096x128 .fp8e4m3) (harg10 : arg10.IsWhole) (arg11 : Memref sig .tc .vmem S1x4096x128 .fp8e4m3) (harg11 : arg11.IsWhole) (arg12 : Memref sig .tc .vmem S1x8x512 .f32) (harg12 : arg12.IsWhole) (arg13 : Memref sig .tc .vmem S1x8x512 .f32) (harg13 : arg13.IsWhole) (arg14 : Memref sig .tc .vmem S1x16x512 .f32) (harg14 : arg14.IsWhole) (arg15 : Memref sig .tc .vmem S1x16x512 .f32) (harg15 : arg15.IsWhole) (arg16 : Memref sig .tc .vmem S1x8192x128 .bf16) (harg16 : arg16.IsWhole) (arg17 : Memref sig .tc .vmem S1x20x16x512 .f32) (harg17 : arg17.IsWhole) (arg18 : Memref sig .tc .vmem S160x128 .bf16) (harg18 : arg18.IsWhole) (arg19 : Memref sig .tc .vmem S160x128 .bf16) (harg19 : arg19.IsWhole) (arg20 : Memref sig .tc .vmem S8x256x1024 .bf16) (harg20 : arg20.IsWhole) (arg21 : Memref sig .tc .vmem S8x128x1024 .fp8e5m2) (harg21 : arg21.IsWhole) (arg22 : Memref sig .tc .vmem S8x128x1024 .bf16) (harg22 : arg22.IsWhole) (arg23 : Memref sig .tc .vmem S8x128x1024 .f32) (harg23 : arg23.IsWhole) (arg24 : Memref sig .tc .vmem S8x1x1024 .f32) (harg24 : arg24.IsWhole) (arg25 : Memref sig .tc .vmem S8x1x1024 .f32) (harg25 : arg25.IsWhole) (arg26 : Memref sig .tc .vmem S128x2x128 .bf16) (harg26 : arg26.IsWhole) (arg27 : Memref sig .tc .vmem S128x2x128 .bf16) (harg27 : arg27.IsWhole) (arg28 : Memref sig .tc .vmem S8x32x128 .f32) (harg28 : arg28.IsWhole) (arg29 : Memref sig .tc .vmem S8x32x128 .f32) (harg29 : arg29.IsWhole) (arg30 : Memref sig .tc .vmem S512x128 .bf16) (harg30 : arg30.IsWhole) (arg31 : Memref sig .tc .vmem S128x512 .f32) (harg31 : arg31.IsWhole) (arg32 : Memref sig .tc .vmem S256x128 .f32) (harg32 : arg32.IsWhole) (x0 : Vec F S1x8192x128 .bf16) (x1 : Vec F S1x8192x128 .bf16) (x2 : Vec F S1x8192x128 .fp8e5m2) (x3 : Vec F S1x4096x128 .bf16) (x4 : Vec F S1x4096x128 .bf16) (x5 : Vec F S160x128 .bf16) (x6 : Vec F S160x128 .bf16) (x7 : Vec F S1x4096x128 .fp8e4m3) (x8 : Vec F S1x4096x128 .fp8e4m3) (x9 : Vec F S1x8x512 .f32) (x10 : Vec F S1x8x512 .f32) (x11 : Vec F S1x16x512 .f32) (x12 : Vec F S1x16x512 .f32) (xt0 : TbBuf0 (F := F) c tbM0_0) (E : Set ℕ) (K : PUnit.{1} → sProp 𝕄) (jp : PUnit.{1} → Prog (TpuEff nD τ sig (Elt F) Λ₀ .tc) PUnit.{1}) :
    iprop(Inv c arg3 arg4 arg5 arg6 arg7 arg8 arg9 arg10 arg11 arg12 arg13 arg14 arg15 arg16 arg17 arg18 arg19 arg20 arg21 arg22 arg23 arg24 arg25 arg26 arg27 arg28 arg29 arg30 arg31 arg32 x0 x1 x2 x3 x4 x5 x6 x7 x8 x9 x10 x11 x12 xt0 ∗ (Inv c arg3 arg4 arg5 arg6 arg7 arg8 arg9 arg10 arg11 arg12 arg13 arg14 arg15 arg16 arg17 arg18 arg19 arg20 arg21 arg22 arg23 arg24 arg25 arg26 arg27 arg28 arg29 arg30 arg31 arg32 x0 x1 x2 x3 x4 x5 x6 x7 x8 x9 x10 x11 x12 xt0 -∗ wp frame (wpE (defs₀ (F := F)) Variants.none c none) E (jp ⟨⟩) K))
      ⊢ wp frame (wpE (defs₀ (F := F)) Variants.none c none) E (epiB i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 jp) K := by
  unfold epiB Inv owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, HT0⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12
  sl_exec (disch := fail)
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; · ipureintro; exact harg13.read_unread _
    iexact H10
  isplitl [H11]
  · iexists _; isplitr; · ipureintro; exact harg14.read_unread _
    iexact H11
  isplitl [H12]
  · iexists _; isplitr; · ipureintro; exact harg15.read_unread _
    iexact H12
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _, _; isplitr; swap; · iexact H26
    ipureintro; rfl
  isplitl [H27]
  · iexists _, _; isplitr; swap; · iexact H27
    ipureintro; rfl
  isplitl [H28]
  · iexists _, _; isplitr; swap; · iexact H28
    ipureintro; rfl
  isplitl [H29]
  · iexists _, _; isplitr; swap; · iexact H29
    ipureintro; rfl
  iexact HT0

set_option maxHeartbeats 4000000 in
/-- The write-out of the prefix gradients keeps what the body holds. -/
theorem inv_preB (c : Dev nD) (i : grid0.Coords) (arg3 : Memref sig .tc .vmem S1x8192x128 .bf16) (harg3 : arg3.IsWhole) (arg4 : Memref sig .tc .vmem S1x8192x128 .bf16) (harg4 : arg4.IsWhole) (arg5 : Memref sig .tc .vmem S1x8192x128 .fp8e5m2) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S160x128 .bf16) (harg8 : arg8.IsWhole) (arg9 : Memref sig .tc .vmem S160x128 .bf16) (harg9 : arg9.IsWhole) (arg10 : Memref sig .tc .vmem S1x4096x128 .fp8e4m3) (harg10 : arg10.IsWhole) (arg11 : Memref sig .tc .vmem S1x4096x128 .fp8e4m3) (harg11 : arg11.IsWhole) (arg12 : Memref sig .tc .vmem S1x8x512 .f32) (harg12 : arg12.IsWhole) (arg13 : Memref sig .tc .vmem S1x8x512 .f32) (harg13 : arg13.IsWhole) (arg14 : Memref sig .tc .vmem S1x16x512 .f32) (harg14 : arg14.IsWhole) (arg15 : Memref sig .tc .vmem S1x16x512 .f32) (harg15 : arg15.IsWhole) (arg16 : Memref sig .tc .vmem S1x8192x128 .bf16) (harg16 : arg16.IsWhole) (arg17 : Memref sig .tc .vmem S1x20x16x512 .f32) (harg17 : arg17.IsWhole) (arg18 : Memref sig .tc .vmem S160x128 .bf16) (harg18 : arg18.IsWhole) (arg19 : Memref sig .tc .vmem S160x128 .bf16) (harg19 : arg19.IsWhole) (arg20 : Memref sig .tc .vmem S8x256x1024 .bf16) (harg20 : arg20.IsWhole) (arg21 : Memref sig .tc .vmem S8x128x1024 .fp8e5m2) (harg21 : arg21.IsWhole) (arg22 : Memref sig .tc .vmem S8x128x1024 .bf16) (harg22 : arg22.IsWhole) (arg23 : Memref sig .tc .vmem S8x128x1024 .f32) (harg23 : arg23.IsWhole) (arg24 : Memref sig .tc .vmem S8x1x1024 .f32) (harg24 : arg24.IsWhole) (arg25 : Memref sig .tc .vmem S8x1x1024 .f32) (harg25 : arg25.IsWhole) (arg26 : Memref sig .tc .vmem S128x2x128 .bf16) (harg26 : arg26.IsWhole) (arg27 : Memref sig .tc .vmem S128x2x128 .bf16) (harg27 : arg27.IsWhole) (arg28 : Memref sig .tc .vmem S8x32x128 .f32) (harg28 : arg28.IsWhole) (arg29 : Memref sig .tc .vmem S8x32x128 .f32) (harg29 : arg29.IsWhole) (arg30 : Memref sig .tc .vmem S512x128 .bf16) (harg30 : arg30.IsWhole) (arg31 : Memref sig .tc .vmem S128x512 .f32) (harg31 : arg31.IsWhole) (arg32 : Memref sig .tc .vmem S256x128 .f32) (harg32 : arg32.IsWhole) (x0 : Vec F S1x8192x128 .bf16) (x1 : Vec F S1x8192x128 .bf16) (x2 : Vec F S1x8192x128 .fp8e5m2) (x3 : Vec F S1x4096x128 .bf16) (x4 : Vec F S1x4096x128 .bf16) (x5 : Vec F S160x128 .bf16) (x6 : Vec F S160x128 .bf16) (x7 : Vec F S1x4096x128 .fp8e4m3) (x8 : Vec F S1x4096x128 .fp8e4m3) (x9 : Vec F S1x8x512 .f32) (x10 : Vec F S1x8x512 .f32) (x11 : Vec F S1x16x512 .f32) (x12 : Vec F S1x16x512 .f32) (xt0 : TbBuf0 (F := F) c tbM0_0) (E : Set ℕ) (K : PUnit.{1} → sProp 𝕄) (jp : PUnit.{1} → Prog (TpuEff nD τ sig (Elt F) Λ₀ .tc) PUnit.{1}) :
    iprop(Inv c arg3 arg4 arg5 arg6 arg7 arg8 arg9 arg10 arg11 arg12 arg13 arg14 arg15 arg16 arg17 arg18 arg19 arg20 arg21 arg22 arg23 arg24 arg25 arg26 arg27 arg28 arg29 arg30 arg31 arg32 x0 x1 x2 x3 x4 x5 x6 x7 x8 x9 x10 x11 x12 xt0 ∗ (Inv c arg3 arg4 arg5 arg6 arg7 arg8 arg9 arg10 arg11 arg12 arg13 arg14 arg15 arg16 arg17 arg18 arg19 arg20 arg21 arg22 arg23 arg24 arg25 arg26 arg27 arg28 arg29 arg30 arg31 arg32 x0 x1 x2 x3 x4 x5 x6 x7 x8 x9 x10 x11 x12 xt0 -∗ wp frame (wpE (defs₀ (F := F)) Variants.none c none) E (jp ⟨⟩) K))
      ⊢ wp frame (wpE (defs₀ (F := F)) Variants.none c none) E (preB i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 jp) K := by
  unfold preB Inv owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, HT0⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12
  sl_exec (disch := fail)
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; · ipureintro; exact harg13.read_unread _
    iexact H10
  isplitl [H11]
  · iexists _; isplitr; · ipureintro; exact harg14.read_unread _
    iexact H11
  isplitl [H12]
  · iexists _; isplitr; · ipureintro; exact harg15.read_unread _
    iexact H12
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _, _; isplitr; swap; · iexact H26
    ipureintro; rfl
  isplitl [H27]
  · iexists _, _; isplitr; swap; · iexact H27
    ipureintro; rfl
  isplitl [H28]
  · iexists _, _; isplitr; swap; · iexact H28
    ipureintro; rfl
  isplitl [H29]
  · iexists _, _; isplitr; swap; · iexact H29
    ipureintro; rfl
  iexact HT0

end Cert.KernelIdeal.Gen

end
-- ==== Proof.KernelIdeal.InvRuns2.lean ====
module

public import proofs.«01_k».proof.Proof.KernelIdeal.Inv

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The initialisation keeps what the body holds. -/
theorem inv_initB (c : Dev nD) (i : grid0.Coords) (arg3 : Memref sig .tc .vmem S1x8192x128 .bf16) (harg3 : arg3.IsWhole) (arg4 : Memref sig .tc .vmem S1x8192x128 .bf16) (harg4 : arg4.IsWhole) (arg5 : Memref sig .tc .vmem S1x8192x128 .fp8e5m2) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S160x128 .bf16) (harg8 : arg8.IsWhole) (arg9 : Memref sig .tc .vmem S160x128 .bf16) (harg9 : arg9.IsWhole) (arg10 : Memref sig .tc .vmem S1x4096x128 .fp8e4m3) (harg10 : arg10.IsWhole) (arg11 : Memref sig .tc .vmem S1x4096x128 .fp8e4m3) (harg11 : arg11.IsWhole) (arg12 : Memref sig .tc .vmem S1x8x512 .f32) (harg12 : arg12.IsWhole) (arg13 : Memref sig .tc .vmem S1x8x512 .f32) (harg13 : arg13.IsWhole) (arg14 : Memref sig .tc .vmem S1x16x512 .f32) (harg14 : arg14.IsWhole) (arg15 : Memref sig .tc .vmem S1x16x512 .f32) (harg15 : arg15.IsWhole) (arg16 : Memref sig .tc .vmem S1x8192x128 .bf16) (harg16 : arg16.IsWhole) (arg17 : Memref sig .tc .vmem S1x20x16x512 .f32) (harg17 : arg17.IsWhole) (arg18 : Memref sig .tc .vmem S160x128 .bf16) (harg18 : arg18.IsWhole) (arg19 : Memref sig .tc .vmem S160x128 .bf16) (harg19 : arg19.IsWhole) (arg20 : Memref sig .tc .vmem S8x256x1024 .bf16) (harg20 : arg20.IsWhole) (arg21 : Memref sig .tc .vmem S8x128x1024 .fp8e5m2) (harg21 : arg21.IsWhole) (arg22 : Memref sig .tc .vmem S8x128x1024 .bf16) (harg22 : arg22.IsWhole) (arg23 : Memref sig .tc .vmem S8x128x1024 .f32) (harg23 : arg23.IsWhole) (arg24 : Memref sig .tc .vmem S8x1x1024 .f32) (harg24 : arg24.IsWhole) (arg25 : Memref sig .tc .vmem S8x1x1024 .f32) (harg25 : arg25.IsWhole) (arg26 : Memref sig .tc .vmem S128x2x128 .bf16) (harg26 : arg26.IsWhole) (arg27 : Memref sig .tc .vmem S128x2x128 .bf16) (harg27 : arg27.IsWhole) (arg28 : Memref sig .tc .vmem S8x32x128 .f32) (harg28 : arg28.IsWhole) (arg29 : Memref sig .tc .vmem S8x32x128 .f32) (harg29 : arg29.IsWhole) (arg30 : Memref sig .tc .vmem S512x128 .bf16) (harg30 : arg30.IsWhole) (arg31 : Memref sig .tc .vmem S128x512 .f32) (harg31 : arg31.IsWhole) (arg32 : Memref sig .tc .vmem S256x128 .f32) (harg32 : arg32.IsWhole) (x0 : Vec F S1x8192x128 .bf16) (x1 : Vec F S1x8192x128 .bf16) (x2 : Vec F S1x8192x128 .fp8e5m2) (x3 : Vec F S1x4096x128 .bf16) (x4 : Vec F S1x4096x128 .bf16) (x5 : Vec F S160x128 .bf16) (x6 : Vec F S160x128 .bf16) (x7 : Vec F S1x4096x128 .fp8e4m3) (x8 : Vec F S1x4096x128 .fp8e4m3) (x9 : Vec F S1x8x512 .f32) (x10 : Vec F S1x8x512 .f32) (x11 : Vec F S1x16x512 .f32) (x12 : Vec F S1x16x512 .f32) (xt0 : TbBuf0 (F := F) c tbM0_0) (E : Set ℕ) {α : Type} (K : α → sProp 𝕄) (jp : PUnit.{1} → Prog (TpuEff nD τ sig (Elt F) Λ₀ .tc) α) :
    iprop(Inv c arg3 arg4 arg5 arg6 arg7 arg8 arg9 arg10 arg11 arg12 arg13 arg14 arg15 arg16 arg17 arg18 arg19 arg20 arg21 arg22 arg23 arg24 arg25 arg26 arg27 arg28 arg29 arg30 arg31 arg32 x0 x1 x2 x3 x4 x5 x6 x7 x8 x9 x10 x11 x12 xt0 ∗ (Inv c arg3 arg4 arg5 arg6 arg7 arg8 arg9 arg10 arg11 arg12 arg13 arg14 arg15 arg16 arg17 arg18 arg19 arg20 arg21 arg22 arg23 arg24 arg25 arg26 arg27 arg28 arg29 arg30 arg31 arg32 x0 x1 x2 x3 x4 x5 x6 x7 x8 x9 x10 x11 x12 xt0 -∗ wp frame (wpE (defs₀ (F := F)) Variants.none c none) E (jp ⟨⟩) K))
      ⊢ wp frame (wpE (defs₀ (F := F)) Variants.none c none) E (initB i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 jp) K := by
  unfold initB Inv owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, HT0⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12
  sl_exec (disch := fail)
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; · ipureintro; exact harg13.read_unread _
    iexact H10
  isplitl [H11]
  · iexists _; isplitr; · ipureintro; exact harg14.read_unread _
    iexact H11
  isplitl [H12]
  · iexists _; isplitr; · ipureintro; exact harg15.read_unread _
    iexact H12
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _, _; isplitr; swap; · iexact H26
    ipureintro; rfl
  isplitl [H27]
  · iexists _, _; isplitr; swap; · iexact H27
    ipureintro; rfl
  isplitl [H28]
  · iexists _, _; isplitr; swap; · iexact H28
    ipureintro; rfl
  isplitl [H29]
  · iexists _, _; isplitr; swap; · iexact H29
    ipureintro; rfl
  iexact HT0

set_option maxHeartbeats 4000000 in
/-- The prologue of a batch keeps what the body holds. -/
theorem inv_proB (c : Dev nD) (i : grid0.Coords) (arg3 : Memref sig .tc .vmem S1x8192x128 .bf16) (harg3 : arg3.IsWhole) (arg4 : Memref sig .tc .vmem S1x8192x128 .bf16) (harg4 : arg4.IsWhole) (arg5 : Memref sig .tc .vmem S1x8192x128 .fp8e5m2) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S160x128 .bf16) (harg8 : arg8.IsWhole) (arg9 : Memref sig .tc .vmem S160x128 .bf16) (harg9 : arg9.IsWhole) (arg10 : Memref sig .tc .vmem S1x4096x128 .fp8e4m3) (harg10 : arg10.IsWhole) (arg11 : Memref sig .tc .vmem S1x4096x128 .fp8e4m3) (harg11 : arg11.IsWhole) (arg12 : Memref sig .tc .vmem S1x8x512 .f32) (harg12 : arg12.IsWhole) (arg13 : Memref sig .tc .vmem S1x8x512 .f32) (harg13 : arg13.IsWhole) (arg14 : Memref sig .tc .vmem S1x16x512 .f32) (harg14 : arg14.IsWhole) (arg15 : Memref sig .tc .vmem S1x16x512 .f32) (harg15 : arg15.IsWhole) (arg16 : Memref sig .tc .vmem S1x8192x128 .bf16) (harg16 : arg16.IsWhole) (arg17 : Memref sig .tc .vmem S1x20x16x512 .f32) (harg17 : arg17.IsWhole) (arg18 : Memref sig .tc .vmem S160x128 .bf16) (harg18 : arg18.IsWhole) (arg19 : Memref sig .tc .vmem S160x128 .bf16) (harg19 : arg19.IsWhole) (arg20 : Memref sig .tc .vmem S8x256x1024 .bf16) (harg20 : arg20.IsWhole) (arg21 : Memref sig .tc .vmem S8x128x1024 .fp8e5m2) (harg21 : arg21.IsWhole) (arg22 : Memref sig .tc .vmem S8x128x1024 .bf16) (harg22 : arg22.IsWhole) (arg23 : Memref sig .tc .vmem S8x128x1024 .f32) (harg23 : arg23.IsWhole) (arg24 : Memref sig .tc .vmem S8x1x1024 .f32) (harg24 : arg24.IsWhole) (arg25 : Memref sig .tc .vmem S8x1x1024 .f32) (harg25 : arg25.IsWhole) (arg26 : Memref sig .tc .vmem S128x2x128 .bf16) (harg26 : arg26.IsWhole) (arg27 : Memref sig .tc .vmem S128x2x128 .bf16) (harg27 : arg27.IsWhole) (arg28 : Memref sig .tc .vmem S8x32x128 .f32) (harg28 : arg28.IsWhole) (arg29 : Memref sig .tc .vmem S8x32x128 .f32) (harg29 : arg29.IsWhole) (arg30 : Memref sig .tc .vmem S512x128 .bf16) (harg30 : arg30.IsWhole) (arg31 : Memref sig .tc .vmem S128x512 .f32) (harg31 : arg31.IsWhole) (arg32 : Memref sig .tc .vmem S256x128 .f32) (harg32 : arg32.IsWhole) (x0 : Vec F S1x8192x128 .bf16) (x1 : Vec F S1x8192x128 .bf16) (x2 : Vec F S1x8192x128 .fp8e5m2) (x3 : Vec F S1x4096x128 .bf16) (x4 : Vec F S1x4096x128 .bf16) (x5 : Vec F S160x128 .bf16) (x6 : Vec F S160x128 .bf16) (x7 : Vec F S1x4096x128 .fp8e4m3) (x8 : Vec F S1x4096x128 .fp8e4m3) (x9 : Vec F S1x8x512 .f32) (x10 : Vec F S1x8x512 .f32) (x11 : Vec F S1x16x512 .f32) (x12 : Vec F S1x16x512 .f32) (xt0 : TbBuf0 (F := F) c tbM0_0) (E : Set ℕ) (K : PUnit.{1} → sProp 𝕄) (jp : PUnit.{1} → Prog (TpuEff nD τ sig (Elt F) Λ₀ .tc) PUnit.{1}) :
    iprop(Inv c arg3 arg4 arg5 arg6 arg7 arg8 arg9 arg10 arg11 arg12 arg13 arg14 arg15 arg16 arg17 arg18 arg19 arg20 arg21 arg22 arg23 arg24 arg25 arg26 arg27 arg28 arg29 arg30 arg31 arg32 x0 x1 x2 x3 x4 x5 x6 x7 x8 x9 x10 x11 x12 xt0 ∗ (Inv c arg3 arg4 arg5 arg6 arg7 arg8 arg9 arg10 arg11 arg12 arg13 arg14 arg15 arg16 arg17 arg18 arg19 arg20 arg21 arg22 arg23 arg24 arg25 arg26 arg27 arg28 arg29 arg30 arg31 arg32 x0 x1 x2 x3 x4 x5 x6 x7 x8 x9 x10 x11 x12 xt0 -∗ wp frame (wpE (defs₀ (F := F)) Variants.none c none) E (jp ⟨⟩) K))
      ⊢ wp frame (wpE (defs₀ (F := F)) Variants.none c none) E (proB i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 jp) K := by
  unfold proB Inv owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, HT0⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12
  sl_exec (disch := fail)
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; · ipureintro; exact harg13.read_unread _
    iexact H10
  isplitl [H11]
  · iexists _; isplitr; · ipureintro; exact harg14.read_unread _
    iexact H11
  isplitl [H12]
  · iexists _; isplitr; · ipureintro; exact harg15.read_unread _
    iexact H12
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _, _; isplitr; swap; · iexact H26
    ipureintro; rfl
  isplitl [H27]
  · iexists _, _; isplitr; swap; · iexact H27
    ipureintro; rfl
  isplitl [H28]
  · iexists _, _; isplitr; swap; · iexact H28
    ipureintro; rfl
  isplitl [H29]
  · iexists _, _; isplitr; swap; · iexact H29
    ipureintro; rfl
  iexact HT0

end Cert.KernelIdeal.Gen

end
-- ==== Proof.KernelIdeal.Frame.lean ====
module

public import proofs.«01_k».proof.Proof.KernelIdeal.InvRuns1
public import proofs.«01_k».proof.Proof.KernelIdeal.InvRuns2
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section body

/-- The read of the context length keeps the table. -/
theorem wp_table (c : Dev nD) (i : grid0.Coords) (xt0 : TbBuf0 (F := F) c tbM0_0) (E : Set ℕ) (K : PUnit.{1} → sProp 𝕄) (k : Elt F .i32 → Prog (TpuEff nD τ sig (Elt F) Λ₀ .tc) PUnit.{1}) :
    iprop(tbPt0 c tbM0_0 xt0 ∗ (∀ v, tbPt0 c tbM0_0 xt0 -∗ wp frame (wpE (defs₀ (F := F)) Variants.none c none) E (k v) K))
      ⊢ wp frame (wpE (defs₀ (F := F)) Variants.none c none) E (smemLoad tbM0_0 (Rect.unit (s := S2) (k0_off1 i) S1.size (k0_off1_inb i)) numel1_S1 rfl >>= k) K := by
  iintro ⟨HT0, Hk⟩
  sl_exec (disch := fail)
  iapply Hk
  iexact HT0

set_option maxHeartbeats 2000000 in
/-- The write-outs keep what the body holds. -/
theorem inv_fromEpi (c : Dev nD) (i : grid0.Coords) (arg3 : Memref sig .tc .vmem S1x8192x128 .bf16) (harg3 : arg3.IsWhole) (arg4 : Memref sig .tc .vmem S1x8192x128 .bf16) (harg4 : arg4.IsWhole) (arg5 : Memref sig .tc .vmem S1x8192x128 .fp8e5m2) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S160x128 .bf16) (harg8 : arg8.IsWhole) (arg9 : Memref sig .tc .vmem S160x128 .bf16) (harg9 : arg9.IsWhole) (arg10 : Memref sig .tc .vmem S1x4096x128 .fp8e4m3) (harg10 : arg10.IsWhole) (arg11 : Memref sig .tc .vmem S1x4096x128 .fp8e4m3) (harg11 : arg11.IsWhole) (arg12 : Memref sig .tc .vmem S1x8x512 .f32) (harg12 : arg12.IsWhole) (arg13 : Memref sig .tc .vmem S1x8x512 .f32) (harg13 : arg13.IsWhole) (arg14 : Memref sig .tc .vmem S1x16x512 .f32) (harg14 : arg14.IsWhole) (arg15 : Memref sig .tc .vmem S1x16x512 .f32) (harg15 : arg15.IsWhole) (arg16 : Memref sig .tc .vmem S1x8192x128 .bf16) (harg16 : arg16.IsWhole) (arg17 : Memref sig .tc .vmem S1x20x16x512 .f32) (harg17 : arg17.IsWhole) (arg18 : Memref sig .tc .vmem S160x128 .bf16) (harg18 : arg18.IsWhole) (arg19 : Memref sig .tc .vmem S160x128 .bf16) (harg19 : arg19.IsWhole) (arg20 : Memref sig .tc .vmem S8x256x1024 .bf16) (harg20 : arg20.IsWhole) (arg21 : Memref sig .tc .vmem S8x128x1024 .fp8e5m2) (harg21 : arg21.IsWhole) (arg22 : Memref sig .tc .vmem S8x128x1024 .bf16) (harg22 : arg22.IsWhole) (arg23 : Memref sig .tc .vmem S8x128x1024 .f32) (harg23 : arg23.IsWhole) (arg24 : Memref sig .tc .vmem S8x1x1024 .f32) (harg24 : arg24.IsWhole) (arg25 : Memref sig .tc .vmem S8x1x1024 .f32) (harg25 : arg25.IsWhole) (arg26 : Memref sig .tc .vmem S128x2x128 .bf16) (harg26 : arg26.IsWhole) (arg27 : Memref sig .tc .vmem S128x2x128 .bf16) (harg27 : arg27.IsWhole) (arg28 : Memref sig .tc .vmem S8x32x128 .f32) (harg28 : arg28.IsWhole) (arg29 : Memref sig .tc .vmem S8x32x128 .f32) (harg29 : arg29.IsWhole) (arg30 : Memref sig .tc .vmem S512x128 .bf16) (harg30 : arg30.IsWhole) (arg31 : Memref sig .tc .vmem S128x512 .f32) (harg31 : arg31.IsWhole) (arg32 : Memref sig .tc .vmem S256x128 .f32) (harg32 : arg32.IsWhole) (x0 : Vec F S1x8192x128 .bf16) (x1 : Vec F S1x8192x128 .bf16) (x2 : Vec F S1x8192x128 .fp8e5m2) (x3 : Vec F S1x4096x128 .bf16) (x4 : Vec F S1x4096x128 .bf16) (x5 : Vec F S160x128 .bf16) (x6 : Vec F S160x128 .bf16) (x7 : Vec F S1x4096x128 .fp8e4m3) (x8 : Vec F S1x4096x128 .fp8e4m3) (x9 : Vec F S1x8x512 .f32) (x10 : Vec F S1x8x512 .f32) (x11 : Vec F S1x16x512 .f32) (x12 : Vec F S1x16x512 .f32) (xt0 : TbBuf0 (F := F) c tbM0_0) (E : Set ℕ) (K : PUnit.{1} → sProp 𝕄) :
    iprop(Inv c arg3 arg4 arg5 arg6 arg7 arg8 arg9 arg10 arg11 arg12 arg13 arg14 arg15 arg16 arg17 arg18 arg19 arg20 arg21 arg22 arg23 arg24 arg25 arg26 arg27 arg28 arg29 arg30 arg31 arg32 x0 x1 x2 x3 x4 x5 x6 x7 x8 x9 x10 x11 x12 xt0 ∗ (Inv c arg3 arg4 arg5 arg6 arg7 arg8 arg9 arg10 arg11 arg12 arg13 arg14 arg15 arg16 arg17 arg18 arg19 arg20 arg21 arg22 arg23 arg24 arg25 arg26 arg27 arg28 arg29 arg30 arg31 arg32 x0 x1 x2 x3 x4 x5 x6 x7 x8 x9 x10 x11 x12 xt0 -∗ K ⟨⟩)) ⊢ wp frame (wpE (defs₀ (F := F)) Variants.none c none) E (fromEpi i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) K := by
  unfold fromEpi
  by_cases h : k0_cond4 i = 1#1
  · rw [if_pos h]
    iintro ⟨HI, Hk⟩
    iapply (inv_epiB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 xt0 E K  _)
    isplitl [HI]
    · iexact HI
    iintro HI
    by_cases h' : k0_cond5 i = 1#1
    · rw [if_pos h']
      iapply (inv_preB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 xt0 E K  _)
      isplitl [HI]
      · iexact HI
      iintro HI
      sl_step
      iapply Hk
      iexact HI
    · rw [if_neg h']
      sl_step
      iapply Hk
      iexact HI
  · rw [if_neg h]
    iintro ⟨HI, Hk⟩
    sl_step
    iapply Hk
    iexact HI

set_option maxHeartbeats 2000000 in
/-- The chunk and the write-outs keep what the body holds. -/
theorem inv_fromCtx (c : Dev nD) (i : grid0.Coords) (arg3 : Memref sig .tc .vmem S1x8192x128 .bf16) (harg3 : arg3.IsWhole) (arg4 : Memref sig .tc .vmem S1x8192x128 .bf16) (harg4 : arg4.IsWhole) (arg5 : Memref sig .tc .vmem S1x8192x128 .fp8e5m2) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S160x128 .bf16) (harg8 : arg8.IsWhole) (arg9 : Memref sig .tc .vmem S160x128 .bf16) (harg9 : arg9.IsWhole) (arg10 : Memref sig .tc .vmem S1x4096x128 .fp8e4m3) (harg10 : arg10.IsWhole) (arg11 : Memref sig .tc .vmem S1x4096x128 .fp8e4m3) (harg11 : arg11.IsWhole) (arg12 : Memref sig .tc .vmem S1x8x512 .f32) (harg12 : arg12.IsWhole) (arg13 : Memref sig .tc .vmem S1x8x512 .f32) (harg13 : arg13.IsWhole) (arg14 : Memref sig .tc .vmem S1x16x512 .f32) (harg14 : arg14.IsWhole) (arg15 : Memref sig .tc .vmem S1x16x512 .f32) (harg15 : arg15.IsWhole) (arg16 : Memref sig .tc .vmem S1x8192x128 .bf16) (harg16 : arg16.IsWhole) (arg17 : Memref sig .tc .vmem S1x20x16x512 .f32) (harg17 : arg17.IsWhole) (arg18 : Memref sig .tc .vmem S160x128 .bf16) (harg18 : arg18.IsWhole) (arg19 : Memref sig .tc .vmem S160x128 .bf16) (harg19 : arg19.IsWhole) (arg20 : Memref sig .tc .vmem S8x256x1024 .bf16) (harg20 : arg20.IsWhole) (arg21 : Memref sig .tc .vmem S8x128x1024 .fp8e5m2) (harg21 : arg21.IsWhole) (arg22 : Memref sig .tc .vmem S8x128x1024 .bf16) (harg22 : arg22.IsWhole) (arg23 : Memref sig .tc .vmem S8x128x1024 .f32) (harg23 : arg23.IsWhole) (arg24 : Memref sig .tc .vmem S8x1x1024 .f32) (harg24 : arg24.IsWhole) (arg25 : Memref sig .tc .vmem S8x1x1024 .f32) (harg25 : arg25.IsWhole) (arg26 : Memref sig .tc .vmem S128x2x128 .bf16) (harg26 : arg26.IsWhole) (arg27 : Memref sig .tc .vmem S128x2x128 .bf16) (harg27 : arg27.IsWhole) (arg28 : Memref sig .tc .vmem S8x32x128 .f32) (harg28 : arg28.IsWhole) (arg29 : Memref sig .tc .vmem S8x32x128 .f32) (harg29 : arg29.IsWhole) (arg30 : Memref sig .tc .vmem S512x128 .bf16) (harg30 : arg30.IsWhole) (arg31 : Memref sig .tc .vmem S128x512 .f32) (harg31 : arg31.IsWhole) (arg32 : Memref sig .tc .vmem S256x128 .f32) (harg32 : arg32.IsWhole) (x0 : Vec F S1x8192x128 .bf16) (x1 : Vec F S1x8192x128 .bf16) (x2 : Vec F S1x8192x128 .fp8e5m2) (x3 : Vec F S1x4096x128 .bf16) (x4 : Vec F S1x4096x128 .bf16) (x5 : Vec F S160x128 .bf16) (x6 : Vec F S160x128 .bf16) (x7 : Vec F S1x4096x128 .fp8e4m3) (x8 : Vec F S1x4096x128 .fp8e4m3) (x9 : Vec F S1x8x512 .f32) (x10 : Vec F S1x8x512 .f32) (x11 : Vec F S1x16x512 .f32) (x12 : Vec F S1x16x512 .f32) (xt0 : TbBuf0 (F := F) c tbM0_0) (E : Set ℕ) (K : PUnit.{1} → sProp 𝕄) (v1 : Elt F .i32) :
    iprop(Inv c arg3 arg4 arg5 arg6 arg7 arg8 arg9 arg10 arg11 arg12 arg13 arg14 arg15 arg16 arg17 arg18 arg19 arg20 arg21 arg22 arg23 arg24 arg25 arg26 arg27 arg28 arg29 arg30 arg31 arg32 x0 x1 x2 x3 x4 x5 x6 x7 x8 x9 x10 x11 x12 xt0 ∗ (Inv c arg3 arg4 arg5 arg6 arg7 arg8 arg9 arg10 arg11 arg12 arg13 arg14 arg15 arg16 arg17 arg18 arg19 arg20 arg21 arg22 arg23 arg24 arg25 arg26 arg27 arg28 arg29 arg30 arg31 arg32 x0 x1 x2 x3 x4 x5 x6 x7 x8 x9 x10 x11 x12 xt0 -∗ K ⟨⟩)) ⊢ wp frame (wpE (defs₀ (F := F)) Variants.none c none) E (fromCtx i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1) K := by
  unfold fromCtx
  by_cases h : cond0_2 i v1
  · rw [if_pos h]
    iintro ⟨HI, Hk⟩
    iapply (inv_ctxB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 xt0 E K v1 _)
    isplitl [HI]
    · iexact HI
    iintro HI
    iapply (inv_fromEpi c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 xt0 E K)
    isplitl [HI]
    · iexact HI
    iexact Hk
  · rw [if_neg h]
    exact inv_fromEpi c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 xt0 E K

set_option maxHeartbeats 2000000 in
/-- What follows the read of the context length keeps what the body holds. -/
theorem inv_rest (c : Dev nD) (i : grid0.Coords) (arg3 : Memref sig .tc .vmem S1x8192x128 .bf16) (harg3 : arg3.IsWhole) (arg4 : Memref sig .tc .vmem S1x8192x128 .bf16) (harg4 : arg4.IsWhole) (arg5 : Memref sig .tc .vmem S1x8192x128 .fp8e5m2) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S160x128 .bf16) (harg8 : arg8.IsWhole) (arg9 : Memref sig .tc .vmem S160x128 .bf16) (harg9 : arg9.IsWhole) (arg10 : Memref sig .tc .vmem S1x4096x128 .fp8e4m3) (harg10 : arg10.IsWhole) (arg11 : Memref sig .tc .vmem S1x4096x128 .fp8e4m3) (harg11 : arg11.IsWhole) (arg12 : Memref sig .tc .vmem S1x8x512 .f32) (harg12 : arg12.IsWhole) (arg13 : Memref sig .tc .vmem S1x8x512 .f32) (harg13 : arg13.IsWhole) (arg14 : Memref sig .tc .vmem S1x16x512 .f32) (harg14 : arg14.IsWhole) (arg15 : Memref sig .tc .vmem S1x16x512 .f32) (harg15 : arg15.IsWhole) (arg16 : Memref sig .tc .vmem S1x8192x128 .bf16) (harg16 : arg16.IsWhole) (arg17 : Memref sig .tc .vmem S1x20x16x512 .f32) (harg17 : arg17.IsWhole) (arg18 : Memref sig .tc .vmem S160x128 .bf16) (harg18 : arg18.IsWhole) (arg19 : Memref sig .tc .vmem S160x128 .bf16) (harg19 : arg19.IsWhole) (arg20 : Memref sig .tc .vmem S8x256x1024 .bf16) (harg20 : arg20.IsWhole) (arg21 : Memref sig .tc .vmem S8x128x1024 .fp8e5m2) (harg21 : arg21.IsWhole) (arg22 : Memref sig .tc .vmem S8x128x1024 .bf16) (harg22 : arg22.IsWhole) (arg23 : Memref sig .tc .vmem S8x128x1024 .f32) (harg23 : arg23.IsWhole) (arg24 : Memref sig .tc .vmem S8x1x1024 .f32) (harg24 : arg24.IsWhole) (arg25 : Memref sig .tc .vmem S8x1x1024 .f32) (harg25 : arg25.IsWhole) (arg26 : Memref sig .tc .vmem S128x2x128 .bf16) (harg26 : arg26.IsWhole) (arg27 : Memref sig .tc .vmem S128x2x128 .bf16) (harg27 : arg27.IsWhole) (arg28 : Memref sig .tc .vmem S8x32x128 .f32) (harg28 : arg28.IsWhole) (arg29 : Memref sig .tc .vmem S8x32x128 .f32) (harg29 : arg29.IsWhole) (arg30 : Memref sig .tc .vmem S512x128 .bf16) (harg30 : arg30.IsWhole) (arg31 : Memref sig .tc .vmem S128x512 .f32) (harg31 : arg31.IsWhole) (arg32 : Memref sig .tc .vmem S256x128 .f32) (harg32 : arg32.IsWhole) (x0 : Vec F S1x8192x128 .bf16) (x1 : Vec F S1x8192x128 .bf16) (x2 : Vec F S1x8192x128 .fp8e5m2) (x3 : Vec F S1x4096x128 .bf16) (x4 : Vec F S1x4096x128 .bf16) (x5 : Vec F S160x128 .bf16) (x6 : Vec F S160x128 .bf16) (x7 : Vec F S1x4096x128 .fp8e4m3) (x8 : Vec F S1x4096x128 .fp8e4m3) (x9 : Vec F S1x8x512 .f32) (x10 : Vec F S1x8x512 .f32) (x11 : Vec F S1x16x512 .f32) (x12 : Vec F S1x16x512 .f32) (xt0 : TbBuf0 (F := F) c tbM0_0) (E : Set ℕ) (K : PUnit.{1} → sProp 𝕄) (v1 : Elt F .i32) :
    iprop(Inv c arg3 arg4 arg5 arg6 arg7 arg8 arg9 arg10 arg11 arg12 arg13 arg14 arg15 arg16 arg17 arg18 arg19 arg20 arg21 arg22 arg23 arg24 arg25 arg26 arg27 arg28 arg29 arg30 arg31 arg32 x0 x1 x2 x3 x4 x5 x6 x7 x8 x9 x10 x11 x12 xt0 ∗ (Inv c arg3 arg4 arg5 arg6 arg7 arg8 arg9 arg10 arg11 arg12 arg13 arg14 arg15 arg16 arg17 arg18 arg19 arg20 arg21 arg22 arg23 arg24 arg25 arg26 arg27 arg28 arg29 arg30 arg31 arg32 x0 x1 x2 x3 x4 x5 x6 x7 x8 x9 x10 x11 x12 xt0 -∗ K ⟨⟩)) ⊢ wp frame (wpE (defs₀ (F := F)) Variants.none c none) E (if k0_cond1 i = 1#1 then proA i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 (fun _ => fromCtx i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1) else fromCtx i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1) K := by
  iintro ⟨HI, Hk⟩
  by_cases h : k0_cond1 i = 1#1
  · rw [if_pos h, proA_eq]
    by_cases h' : cond0_1 i
    · rw [if_pos h']
      iapply (inv_initB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 xt0 E K  _)
      isplitl [HI]
      · iexact HI
      iintro HI
      iapply (inv_proB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 xt0 E K  _)
      isplitl [HI]
      · iexact HI
      iintro HI
      iapply (inv_fromCtx c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 xt0 E K _)
      isplitl [HI]
      · iexact HI
      iexact Hk
    · rw [if_neg h']
      iapply (inv_proB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 xt0 E K  _)
      isplitl [HI]
      · iexact HI
      iintro HI
      iapply (inv_fromCtx c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 xt0 E K _)
      isplitl [HI]
      · iexact HI
      iexact Hk
  · rw [if_neg h]
    iapply (inv_fromCtx c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 xt0 E K _)
    isplitl [HI]
    · iexact HI
    iexact Hk

set_option maxHeartbeats 2000000 in
/-- The body keeps what it holds: the inputs at their blocks, the outputs and the scratch at some contents, the table. -/
theorem inv_body (c : Dev nD) (i : grid0.Coords) (arg3 : Memref sig .tc .vmem S1x8192x128 .bf16) (harg3 : arg3.IsWhole) (arg4 : Memref sig .tc .vmem S1x8192x128 .bf16) (harg4 : arg4.IsWhole) (arg5 : Memref sig .tc .vmem S1x8192x128 .fp8e5m2) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S160x128 .bf16) (harg8 : arg8.IsWhole) (arg9 : Memref sig .tc .vmem S160x128 .bf16) (harg9 : arg9.IsWhole) (arg10 : Memref sig .tc .vmem S1x4096x128 .fp8e4m3) (harg10 : arg10.IsWhole) (arg11 : Memref sig .tc .vmem S1x4096x128 .fp8e4m3) (harg11 : arg11.IsWhole) (arg12 : Memref sig .tc .vmem S1x8x512 .f32) (harg12 : arg12.IsWhole) (arg13 : Memref sig .tc .vmem S1x8x512 .f32) (harg13 : arg13.IsWhole) (arg14 : Memref sig .tc .vmem S1x16x512 .f32) (harg14 : arg14.IsWhole) (arg15 : Memref sig .tc .vmem S1x16x512 .f32) (harg15 : arg15.IsWhole) (arg16 : Memref sig .tc .vmem S1x8192x128 .bf16) (harg16 : arg16.IsWhole) (arg17 : Memref sig .tc .vmem S1x20x16x512 .f32) (harg17 : arg17.IsWhole) (arg18 : Memref sig .tc .vmem S160x128 .bf16) (harg18 : arg18.IsWhole) (arg19 : Memref sig .tc .vmem S160x128 .bf16) (harg19 : arg19.IsWhole) (arg20 : Memref sig .tc .vmem S8x256x1024 .bf16) (harg20 : arg20.IsWhole) (arg21 : Memref sig .tc .vmem S8x128x1024 .fp8e5m2) (harg21 : arg21.IsWhole) (arg22 : Memref sig .tc .vmem S8x128x1024 .bf16) (harg22 : arg22.IsWhole) (arg23 : Memref sig .tc .vmem S8x128x1024 .f32) (harg23 : arg23.IsWhole) (arg24 : Memref sig .tc .vmem S8x1x1024 .f32) (harg24 : arg24.IsWhole) (arg25 : Memref sig .tc .vmem S8x1x1024 .f32) (harg25 : arg25.IsWhole) (arg26 : Memref sig .tc .vmem S128x2x128 .bf16) (harg26 : arg26.IsWhole) (arg27 : Memref sig .tc .vmem S128x2x128 .bf16) (harg27 : arg27.IsWhole) (arg28 : Memref sig .tc .vmem S8x32x128 .f32) (harg28 : arg28.IsWhole) (arg29 : Memref sig .tc .vmem S8x32x128 .f32) (harg29 : arg29.IsWhole) (arg30 : Memref sig .tc .vmem S512x128 .bf16) (harg30 : arg30.IsWhole) (arg31 : Memref sig .tc .vmem S128x512 .f32) (harg31 : arg31.IsWhole) (arg32 : Memref sig .tc .vmem S256x128 .f32) (harg32 : arg32.IsWhole) (x0 : Vec F S1x8192x128 .bf16) (x1 : Vec F S1x8192x128 .bf16) (x2 : Vec F S1x8192x128 .fp8e5m2) (x3 : Vec F S1x4096x128 .bf16) (x4 : Vec F S1x4096x128 .bf16) (x5 : Vec F S160x128 .bf16) (x6 : Vec F S160x128 .bf16) (x7 : Vec F S1x4096x128 .fp8e4m3) (x8 : Vec F S1x4096x128 .fp8e4m3) (x9 : Vec F S1x8x512 .f32) (x10 : Vec F S1x8x512 .f32) (x11 : Vec F S1x16x512 .f32) (x12 : Vec F S1x16x512 .f32) (xt0 : TbBuf0 (F := F) c tbM0_0) (E : Set ℕ) (K : PUnit.{1} → sProp 𝕄) :
    iprop(Inv c arg3 arg4 arg5 arg6 arg7 arg8 arg9 arg10 arg11 arg12 arg13 arg14 arg15 arg16 arg17 arg18 arg19 arg20 arg21 arg22 arg23 arg24 arg25 arg26 arg27 arg28 arg29 arg30 arg31 arg32 x0 x1 x2 x3 x4 x5 x6 x7 x8 x9 x10 x11 x12 xt0 ∗ (Inv c arg3 arg4 arg5 arg6 arg7 arg8 arg9 arg10 arg11 arg12 arg13 arg14 arg15 arg16 arg17 arg18 arg19 arg20 arg21 arg22 arg23 arg24 arg25 arg26 arg27 arg28 arg29 arg30 arg31 arg32 x0 x1 x2 x3 x4 x5 x6 x7 x8 x9 x10 x11 x12 xt0 -∗ K ⟨⟩)) ⊢ wp frame (wpE (defs₀ (F := F)) Variants.none c none) E (cc0_prefix_attention_backward i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) K := by
  rw [body_eq]
  iintro ⟨⟨H0, H1, H2, H3, H4, H5, H6, H7, H8, H9, H10, H11, H12, H13, H14, H15, H16, H17, H18, H19, H20, H21, H22, H23, H24, H25, H26, H27, H28, H29, HT0⟩, Hk⟩
  iapply (wp_table c i xt0 E K _)
  isplitl [HT0]
  · iexact HT0
  iintro %v1 HT0
  iapply (inv_rest c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 xt0 E K _)
  isplitl [H0 H1 H2 H3 H4 H5 H6 H7 H8 H9 H10 H11 H12 H13 H14 H15 H16 H17 H18 H19 H20 H21 H22 H23 H24 H25 H26 H27 H28 H29 HT0]
  · unfold Inv

    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    isplitl [H21]
    · iexact H21
    isplitl [H22]
    · iexact H22
    isplitl [H23]
    · iexact H23
    isplitl [H24]
    · iexact H24
    isplitl [H25]
    · iexact H25
    isplitl [H26]
    · iexact H26
    isplitl [H27]
    · iexact H27
    isplitl [H28]
    · iexact H28
    isplitl [H29]
    · iexact H29
    iexact HT0
  iexact Hk
end body

/-- The output windows: nothing the frame says reads what the kernel leaves in them. -/
def forgets0 : Fin 17 → Bool := fun w => w.val == 13 || w.val == 14 || w.val == 15 || w.val == 16

/-- The pipeline’s proof data for the frame: the arrays as the region finds them; after each point each input’s buffer at its block, the
    outputs not named; every scratch buffer at some contents, and the table. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, h⟩ => Pipeline.Dat.unnamed (cfg := (cfgM m hO)) ⟨13, h⟩ t
    | ⟨14, h⟩ => Pipeline.Dat.unnamed (cfg := (cfgM m hO)) ⟨14, h⟩ t
    | ⟨15, h⟩ => Pipeline.Dat.unnamed (cfg := (cfgM m hO)) ⟨15, h⟩ t
    | ⟨16, h⟩ => Pipeline.Dat.unnamed (cfg := (cfgM m hO)) ⟨16, h⟩ t
    | ⟨_ + 17, h⟩ => absurd h (Nat.not_lt.2 (Nat.le_add_left _ _))
  Φ t := iprop(Pipeline.ΦA spec0 c ∗ Pipeline.ΦT pre0 (tbl m) c)
  q _ := fullShare
  owed _ := 0

/-- The proof data’s arrays are the contents at the region’s entry. -/
theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem leaves0_0 (hO : Ok m) (c : Dev nD) (t : Fin (cfgM m hO).N) : (dats m hO 0 c).leavesExact 0 t = owns (c : Thread nD τ) (ms0_0 m hO t) fullShare (iblk m hO c 0 t) := by
  rw [show (dats m hO 0 c).leavesExact 0 t = owns (c : Thread nD τ) (ms0_0 m hO t) fullShare ((dats m hO 0 c).after 0 t) from by
    unfold Dat.leavesExact; rw [liveAt0_0 m hO t]; try rfl, after0_0]
theorem after0_1 (hO : Ok m) (c : Dev nD) (t : Fin (cfgM m hO).N) : (dats m hO 0 c).after 1 t = iblk m hO c 1 t := by dsimp only [dats]; try rfl
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem leaves0_1 (hO : Ok m) (c : Dev nD) (t : Fin (cfgM m hO).N) : (dats m hO 0 c).leavesExact 1 t = owns (c : Thread nD τ) (ms0_1 m hO t) fullShare (iblk m hO c 1 t) := by
  rw [show (dats m hO 0 c).leavesExact 1 t = owns (c : Thread nD τ) (ms0_1 m hO t) fullShare ((dats m hO 0 c).after 1 t) from by
    unfold Dat.leavesExact; rw [liveAt0_1 m hO t]; try rfl, after0_1]
theorem after0_2 (hO : Ok m) (c : Dev nD) (t : Fin (cfgM m hO).N) : (dats m hO 0 c).after 2 t = iblk m hO c 2 t := by dsimp only [dats]; try rfl
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem leaves0_2 (hO : Ok m) (c : Dev nD) (t : Fin (cfgM m hO).N) : (dats m hO 0 c).leavesExact 2 t = owns (c : Thread nD τ) (ms0_2 m hO t) fullShare (iblk m hO c 2 t) := by
  rw [show (dats m hO 0 c).leavesExact 2 t = owns (c : Thread nD τ) (ms0_2 m hO t) fullShare ((dats m hO 0 c).after 2 t) from by
    unfold Dat.leavesExact; rw [liveAt0_2 m hO t]; try rfl, after0_2]
theorem after0_3 (hO : Ok m) (c : Dev nD) (t : Fin (cfgM m hO).N) : (dats m hO 0 c).after 3 t = iblk m hO c 3 t := by dsimp only [dats]; try rfl
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem leaves0_3 (hO : Ok m) (c : Dev nD) (t : Fin (cfgM m hO).N) : (dats m hO 0 c).leavesExact 3 t = owns (c : Thread nD τ) (ms0_3 m hO t) fullShare (iblk m hO c 3 t) := by
  rw [show (dats m hO 0 c).leavesExact 3 t = owns (c : Thread nD τ) (ms0_3 m hO t) fullShare ((dats m hO 0 c).after 3 t) from by
    unfold Dat.leavesExact; rw [liveAt0_3 m hO t]; try rfl, after0_3]
theorem after0_4 (hO : Ok m) (c : Dev nD) (t : Fin (cfgM m hO).N) : (dats m hO 0 c).after 4 t = iblk m hO c 4 t := by dsimp only [dats]; try rfl
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem leaves0_4 (hO : Ok m) (c : Dev nD) (t : Fin (cfgM m hO).N) : (dats m hO 0 c).leavesExact 4 t = owns (c : Thread nD τ) (ms0_4 m hO t) fullShare (iblk m hO c 4 t) := by
  rw [show (dats m hO 0 c).leavesExact 4 t = owns (c : Thread nD τ) (ms0_4 m hO t) fullShare ((dats m hO 0 c).after 4 t) from by
    unfold Dat.leavesExact; rw [liveAt0_4 m hO t]; try rfl, after0_4]
theorem after0_5 (hO : Ok m) (c : Dev nD) (t : Fin (cfgM m hO).N) : (dats m hO 0 c).after 5 t = iblk m hO c 5 t := by dsimp only [dats]; try rfl
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem leaves0_5 (hO : Ok m) (c : Dev nD) (t : Fin (cfgM m hO).N) : (dats m hO 0 c).leavesExact 5 t = owns (c : Thread nD τ) (ms0_5 m hO t) fullShare (iblk m hO c 5 t) := by
  rw [show (dats m hO 0 c).leavesExact 5 t = owns (c : Thread nD τ) (ms0_5 m hO t) fullShare ((dats m hO 0 c).after 5 t) from by
    unfold Dat.leavesExact; rw [liveAt0_5 m hO t]; try rfl, after0_5]
theorem after0_6 (hO : Ok m) (c : Dev nD) (t : Fin (cfgM m hO).N) : (dats m hO 0 c).after 6 t = iblk m hO c 6 t := by dsimp only [dats]; try rfl
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem leaves0_6 (hO : Ok m) (c : Dev nD) (t : Fin (cfgM m hO).N) : (dats m hO 0 c).leavesExact 6 t = owns (c : Thread nD τ) (ms0_6 m hO t) fullShare (iblk m hO c 6 t) := by
  rw [show (dats m hO 0 c).leavesExact 6 t = owns (c : Thread nD τ) (ms0_6 m hO t) fullShare ((dats m hO 0 c).after 6 t) from by
    unfold Dat.leavesExact; rw [liveAt0_6 m hO t]; try rfl, after0_6]
theorem after0_7 (hO : Ok m) (c : Dev nD) (t : Fin (cfgM m hO).N) : (dats m hO 0 c).after 7 t = iblk m hO c 7 t := by dsimp only [dats]; try rfl
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem leaves0_7 (hO : Ok m) (c : Dev nD) (t : Fin (cfgM m hO).N) : (dats m hO 0 c).leavesExact 7 t = owns (c : Thread nD τ) (ms0_7 m hO t) fullShare (iblk m hO c 7 t) := by
  rw [show (dats m hO 0 c).leavesExact 7 t = owns (c : Thread nD τ) (ms0_7 m hO t) fullShare ((dats m hO 0 c).after 7 t) from by
    unfold Dat.leavesExact; rw [liveAt0_7 m hO t]; try rfl, after0_7]
theorem after0_8 (hO : Ok m) (c : Dev nD) (t : Fin (cfgM m hO).N) : (dats m hO 0 c).after 8 t = iblk m hO c 8 t := by dsimp only [dats]; try rfl
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem leaves0_8 (hO : Ok m) (c : Dev nD) (t : Fin (cfgM m hO).N) : (dats m hO 0 c).leavesExact 8 t = owns (c : Thread nD τ) (ms0_8 m hO t) fullShare (iblk m hO c 8 t) := by
  rw [show (dats m hO 0 c).leavesExact 8 t = owns (c : Thread nD τ) (ms0_8 m hO t) fullShare ((dats m hO 0 c).after 8 t) from by
    unfold Dat.leavesExact; rw [liveAt0_8 m hO t]; try rfl, after0_8]
theorem after0_9 (hO : Ok m) (c : Dev nD) (t : Fin (cfgM m hO).N) : (dats m hO 0 c).after 9 t = iblk m hO c 9 t := by dsimp only [dats]; try rfl
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d
theorem leaves0_9 (hO : Ok m) (c : Dev nD) (t : Fin (cfgM m hO).N) : (dats m hO 0 c).leavesExact 9 t = owns (c : Thread nD τ) (ms0_9 m hO t) fullShare (iblk m hO c 9 t) := by
  rw [show (dats m hO 0 c).leavesExact 9 t = owns (c : Thread nD τ) (ms0_9 m hO t) fullShare ((dats m hO 0 c).after 9 t) from by
    unfold Dat.leavesExact; rw [liveAt0_9 m hO t]; try rfl, after0_9]
theorem after0_10 (hO : Ok m) (c : Dev nD) (t : Fin (cfgM m hO).N) : (dats m hO 0 c).after 10 t = iblk m hO c 10 t := by dsimp only [dats]; try rfl
theorem before0_10 (hO : Ok m) (c : Dev nD) (t : Fin (cfgM m hO).N) (d) : (dats m hO 0 c).before 10 t d = iblk m hO c 10 t :=
  before0_10_of m hO (dats m hO 0 c) (A_eq m hO c 10) (after0_10 m hO c) t d
theorem leaves0_10 (hO : Ok m) (c : Dev nD) (t : Fin (cfgM m hO).N) : (dats m hO 0 c).leavesExact 10 t = owns (c : Thread nD τ) (ms0_10 m hO t) fullShare (iblk m hO c 10 t) := by
  rw [show (dats m hO 0 c).leavesExact 10 t = owns (c : Thread nD τ) (ms0_10 m hO t) fullShare ((dats m hO 0 c).after 10 t) from by
    unfold Dat.leavesExact; rw [liveAt0_10 m hO t]; try rfl, after0_10]
theorem after0_11 (hO : Ok m) (c : Dev nD) (t : Fin (cfgM m hO).N) : (dats m hO 0 c).after 11 t = iblk m hO c 11 t := by dsimp only [dats]; try rfl
theorem before0_11 (hO : Ok m) (c : Dev nD) (t : Fin (cfgM m hO).N) (d) : (dats m hO 0 c).before 11 t d = iblk m hO c 11 t :=
  before0_11_of m hO (dats m hO 0 c) (A_eq m hO c 11) (after0_11 m hO c) t d
theorem leaves0_11 (hO : Ok m) (c : Dev nD) (t : Fin (cfgM m hO).N) : (dats m hO 0 c).leavesExact 11 t = owns (c : Thread nD τ) (ms0_11 m hO t) fullShare (iblk m hO c 11 t) := by
  rw [show (dats m hO 0 c).leavesExact 11 t = owns (c : Thread nD τ) (ms0_11 m hO t) fullShare ((dats m hO 0 c).after 11 t) from by
    unfold Dat.leavesExact; rw [liveAt0_11 m hO t]; try rfl, after0_11]
theorem after0_12 (hO : Ok m) (c : Dev nD) (t : Fin (cfgM m hO).N) : (dats m hO 0 c).after 12 t = iblk m hO c 12 t := by dsimp only [dats]; try rfl
theorem before0_12 (hO : Ok m) (c : Dev nD) (t : Fin (cfgM m hO).N) (d) : (dats m hO 0 c).before 12 t d = iblk m hO c 12 t :=
  before0_12_of m hO (dats m hO 0 c) (A_eq m hO c 12) (after0_12 m hO c) t d
theorem leaves0_12 (hO : Ok m) (c : Dev nD) (t : Fin (cfgM m hO).N) : (dats m hO 0 c).leavesExact 12 t = owns (c : Thread nD τ) (ms0_12 m hO t) fullShare (iblk m hO c 12 t) := by
  rw [show (dats m hO 0 c).leavesExact 12 t = owns (c : Thread nD τ) (ms0_12 m hO t) fullShare ((dats m hO 0 c).after 12 t) from by
    unfold Dat.leavesExact; rw [liveAt0_12 m hO t]; try rfl, after0_12]
/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_prefix_attention_backward (grid0.coords t) (Memref.whole main_arg9) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13)) (spec0_14.stage ((cfg0 a).slots t 14)) (hstage0_14 (((cfg0 a).slots t 14).cast nbuf0_14)) (spec0_15.stage ((cfg0 a).slots t 15)) (hstage0_15 (((cfg0 a).slots t 15).cast nbuf0_15)) (spec0_16.stage ((cfg0 a).slots t 16)) (hstage0_16 (((cfg0 a).slots t 16).cast nbuf0_16)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _)

/-- What the body is called with at a point, window by window, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare d)
    ∗ (∃ d, owns (c : Thread nD τ) (ms0_14 m hO t) fullShare d)
    ∗ (∃ d, owns (c : Thread nD τ) (ms0_15 m hO t) fullShare d)
    ∗ (∃ d, owns (c : Thread nD τ) (ms0_16 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t
    ∗ (dats m hO 0 c).leavesExact 8 t
    ∗ (dats m hO 0 c).leavesExact 9 t
    ∗ (dats m hO 0 c).leavesExact 10 t
    ∗ (dats m hO 0 c).leavesExact 11 t
    ∗ (dats m hO 0 c).leavesExact 12 t
    ∗ (∃ d, owns (c : Thread nD τ) (ms0_13 m hO t) fullShare d)
    ∗ (∃ d, owns (c : Thread nD τ) (ms0_14 m hO t) fullShare d)
    ∗ (∃ d, owns (c : Thread nD τ) (ms0_15 m hO t) fullShare d)
    ∗ (∃ d, owns (c : Thread nD τ) (ms0_16 m hO t) fullShare d))

set_option maxHeartbeats 4000000 in
/-- The body at any point keeps the frame’s data. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10, before0_11, before0_12]
  rw [leaves0_0, leaves0_1, leaves0_2, leaves0_3, leaves0_4, leaves0_5, leaves0_6, leaves0_7, leaves0_8, leaves0_9, leaves0_10, leaves0_11, leaves0_12]
  rw [show (dats m hO 0 c).owesAt () t.succ = (dats m hO 0 c).owesAt () t.castSucc from rfl]
  rw [show (dats m hO 0 c).Φ t.succ = iprop(Pipeline.ΦA spec0 c ∗ Pipeline.ΦT pre0 (tbl m) c) from rfl,
    show (dats m hO 0 c).Φ t.castSucc = iprop(Pipeline.ΦA spec0 c ∗ Pipeline.ΦT pre0 (tbl m) c) from rfl, PhiT0_eq, PhiA0_eq]
  iintro ⟨⟨⟨⟨HS0, HS1, HS2, HS3, HS4, HS5, HS6, HS7, HS8, HS9, HS10, HS11, HS12⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (inv_body c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (tbl m 0) Set.univ _)
  isplitl [H0 H1 H2 H3 H4 H5 H6 H7 H8 H9 H10 H11 H12 H13 H14 H15 H16 HS0 HS1 HS2 HS3 HS4 HS5 HS6 HS7 HS8 HS9 HS10 HS11 HS12 HT0]
  · unfold Inv
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexists _; iexact H13
    isplitl [H14]
    · iexists _; iexact H14
    isplitl [H15]
    · iexists _; iexact H15
    isplitl [H16]
    · iexists _; iexact H16
    isplitl [HS0]
    · iexact HS0
    isplitl [HS1]
    · iexact HS1
    isplitl [HS2]
    · iexact HS2
    isplitl [HS3]
    · iexact HS3
    isplitl [HS4]
    · iexact HS4
    isplitl [HS5]
    · iexact HS5
    isplitl [HS6]
    · iexact HS6
    isplitl [HS7]
    · iexact HS7
    isplitl [HS8]
    · iexact HS8
    isplitl [HS9]
    · iexact HS9
    isplitl [HS10]
    · iexact HS10
    isplitl [HS11]
    · iexact HS11
    isplitl [HS12]
    · iexact HS12
    iexact HT0
  unfold Inv
  iintro ⟨H0, H1, H2, H3, H4, H5, H6, H7, H8, H9, H10, H11, H12, H13, H14, H15, H16, HS0, HS1, HS2, HS3, HS4, HS5, HS6, HS7, HS8, HS9, HS10, HS11, HS12, HT0⟩
  isplitl [HS0 HS1 HS2 HS3 HS4 HS5 HS6 HS7 HS8 HS9 HS10 HS11 HS12 Hg HT0]
  · isplitl [HS0 HS1 HS2 HS3 HS4 HS5 HS6 HS7 HS8 HS9 HS10 HS11 HS12 Hg]
    · isplitl [HS0 HS1 HS2 HS3 HS4 HS5 HS6 HS7 HS8 HS9 HS10 HS11 HS12]
      · isplitl [HS0]
        · iexact HS0
        isplitl [HS1]
        · iexact HS1
        isplitl [HS2]
        · iexact HS2
        isplitl [HS3]
        · iexact HS3
        isplitl [HS4]
        · iexact HS4
        isplitl [HS5]
        · iexact HS5
        isplitl [HS6]
        · iexact HS6
        isplitl [HS7]
        · iexact HS7
        isplitl [HS8]
        · iexact HS8
        isplitl [HS9]
        · iexact HS9
        isplitl [HS10]
        · iexact HS10
        isplitl [HS11]
        · iexact HS11
        iexact HS12
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-- What the launch hands the region is the invariant before the first point, -/
theorem hin (hO : Ok m) (c : Dev nD) : iprop(Pipeline.ΦA spec0 c ∗ Pipeline.ΦT pre0 (tbl m) c) ⊢ (dats m hO 0 c).Φ 0 :=
  Idealize.SL.BI.Entails.refl _

/-- and the invariant after the last point gives the scratch back. -/
theorem hout (hO : Ok m) (c : Dev nD) : (dats m hO 0 c).Φ (Fin.last (cfgM m hO).N) ⊢ Pipeline.ΦA spec0 c := by
  rw [show (dats m hO 0 c).Φ (Fin.last (cfgM m hO).N) = iprop(Pipeline.ΦA spec0 c ∗ Pipeline.ΦT pre0 (tbl m) c) from rfl]
  iintro ⟨HA, -⟩
  iexact HA

/-! ## The run and the frame -/

-- `θ_run_frameP_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_track_forget (Q' := _) pcfgs (fun _ => adm m hO) (dats m hO) (0 : Fin 1) launch0 defs₀ Variants.none forgets0 m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hin := hin m hO) (hout := hout m hO)

/-- At the compiled mesh, for any values, from any memory with zero counters: every weakly fair execution of @main on the
    TensorCores terminates, and every final state has every INPUT array of the pipeline unchanged, nothing stated of the
    FORGOTTEN outputs (windows 13, 14, 15, 16) (Lib/Pipeline/Frame.lean `RDat.FramePost` over the proof data with those windows
    forgotten, Dat.lean `Dat.toRForget`), and every other unscoped buffer at its region-entry contents. -/
theorem run_main (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ hO (fun c => (dats m hO 0 c).toRForget forgets0) (A_eq m hO) (run_main m ρ hO)

/-- The frame: every fair execution ends, the argument arrays as they were and every semaphore counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ hO) ((θ_run defs _ _).mono (fun _ h => h.2) (run_main_quiescent m ρ hO))

end Cert.KernelIdeal.Gen

end
-- ==== Proof.KernelIdeal.Tables.lean ====
module

public import proofs.«01_k».proof.Proof.KernelIdeal.Base
public import Idealize.ShloMosaic.Lib.Affine

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- A chunk index clamped between zero and the grid's own coordinate is at most the coordinate. -/
theorem toNat_clamp_le (n : ℕ) (hn : n < 8) (x : BitVec 32) : (Scalar.minsi (BitVec.ofNat 32 n) (Scalar.maxsi x 0#32)).toNat ≤ n := by
  have h0 : 0 ≤ (Scalar.maxsi x 0#32).toInt := by
    unfold Scalar.maxsi IntOp.maxsi
    split
    · rename_i h; rw [BitVec.slt_iff_toInt_lt] at h; simpa using h.le
    · rename_i h; rw [BitVec.slt_iff_toInt_lt] at h; simpa using h
  have hn' : (BitVec.ofNat 32 n).toNat = n := by rw [BitVec.toNat_ofNat]; omega
  have hi : (BitVec.ofNat 32 n).toInt = n := by rw [BitVec.toInt_eq_toNat_of_lt (by rw [hn']; omega), hn']
  generalize Scalar.maxsi x 0#32 = y at h0 ⊢
  unfold Scalar.minsi IntOp.minsi
  split
  · rw [hn']
  · rename_i h
    rw [BitVec.slt_iff_toInt_lt, hi, BitVec.toInt_eq_toNat_cond] at h
    rw [BitVec.toInt_eq_toNat_cond] at h0
    split at h <;> omega

theorem toNat_coord0 (i : grid0.Coords) : (BitVec.ofNat 32 (i 0).val).toNat < 2 := by
  have : (i 0).val < 2 := (i 0).isLt
  rw [BitVec.toNat_ofNat]; omega

theorem coord1_lt (i : grid0.Coords) : (i 1).val < 8 := (i 1).isLt

/-- A block of packed bytes whose rows are a multiple of the packing is moved by whole words. -/
theorem words_ctx (ix : Fin 3 → ℕ) (h : ∀ a, (ix a + 1) * S1x4096x128.size a ≤ S2x32768x128.size a) :
    (Rect.block (s := S2x32768x128) S1x4096x128.size ix h).WholeWords (EltTy.packing .fp8e4m3) :=
  Affine.block_words_dvd (of_decide_eq_true rfl) (by decide)

/-- Whatever the context lengths, every block the table's windows read is inside its array. -/
theorem ok_all (m : (ℓ : Loc nD τ sig) → Buf (Elt F) ℓ) : Ok m := by
  refine ⟨fun i => ?_, fun i => ?_, fun i => ?_, fun i => ?_⟩
  · have h0 := toNat_coord0 i
    have h1 := fun x => (toNat_clamp_le (i 1).val (coord1_lt i) x).trans_lt (coord1_lt i)
    have h : ∀ a, (cc0_transform_7 k0_off1_inb numel1_S1 (tbl m) i a + 1) * S1x4096x128.size a ≤ S2x32768x128.size a := by
      intro a
      unfold cc0_transform_7

      fin_cases a
      · change (_ + 1) * 1 ≤ 2; exact Nat.mul_le_mul_right 1 h0
      · change (_ + 1) * 4096 ≤ 32768; exact Nat.mul_le_mul_right 4096 (h1 _)
      · change (_ + 1) * 128 ≤ 128; simp
    exact ⟨h, .inr (words_ctx _ h)⟩
  · have h0 := toNat_coord0 i
    have h1 := fun x => (toNat_clamp_le (i 1).val (coord1_lt i) x).trans_lt (coord1_lt i)
    have h : ∀ a, (cc0_transform_8 k0_off1_inb numel1_S1 (tbl m) i a + 1) * S1x4096x128.size a ≤ S2x32768x128.size a := by
      intro a
      unfold cc0_transform_8

      fin_cases a
      · change (_ + 1) * 1 ≤ 2; exact Nat.mul_le_mul_right 1 h0
      · change (_ + 1) * 4096 ≤ 32768; exact Nat.mul_le_mul_right 4096 (h1 _)
      · change (_ + 1) * 128 ≤ 128; simp
    exact ⟨h, .inr (words_ctx _ h)⟩
  · have h0 := toNat_coord0 i
    have h1 := fun x => (toNat_clamp_le (i 1).val (coord1_lt i) x).trans_lt (coord1_lt i)
    have h : ∀ a, (cc0_transform_9 k0_off1_inb numel1_S1 (tbl m) i a + 1) * S1x8x512.size a ≤ S2x8x4096.size a := by
      intro a
      unfold cc0_transform_9

      fin_cases a
      · change (_ + 1) * 1 ≤ 2; exact Nat.mul_le_mul_right 1 h0
      · change (_ + 1) * 8 ≤ 8; simp
      · change (_ + 1) * 512 ≤ 4096; exact Nat.mul_le_mul_right 512 (h1 _)
    exact ⟨h, .inl rfl⟩
  · have h0 := toNat_coord0 i
    have h1 := fun x => (toNat_clamp_le (i 1).val (coord1_lt i) x).trans_lt (coord1_lt i)
    have h : ∀ a, (cc0_transform_10 k0_off1_inb numel1_S1 (tbl m) i a + 1) * S1x8x512.size a ≤ S2x8x4096.size a := by
      intro a
      unfold cc0_transform_10

      fin_cases a
      · change (_ + 1) * 1 ≤ 2; exact Nat.mul_le_mul_right 1 h0
      · change (_ + 1) * 8 ≤ 8; simp
      · change (_ + 1) * 512 ≤ 4096; exact Nat.mul_le_mul_right 512 (h1 _)
    exact ⟨h, .inl rfl⟩

end Cert.KernelIdeal.Gen

end
-- ==== Proof.ReferenceIdeal.Ref.lean ====
/- What the reference's host operations compute: one definition per buffer of the list, as a function of the arrays the
   list reads, and the fold of the list at every buffer that is read later. -/
module

public import proofs.«01_k».proof.Proof.Gen.ReferenceIdeal.Frame

@[expose] public section

set_option maxRecDepth 4096

noncomputable section

open Idealize.ShloMosaic Idealize.ShloMosaic.TcCoe
open Idealize.SL Idealize.SL.RA Idealize.SL.BI
open Idealize.SL.BI.BIBase Idealize.SL.Sem

namespace Cert.ReferenceIdeal.Hand

open Cert.ReferenceIdeal Cert.ReferenceIdeal.Gen

/-- The arrays the reference's host operations read: the arguments (codes as the region wrote them back in bf16). -/
structure RIn (F : FTy → Type) where
  v0_0 : FVec F S2x512x16x128 .bf16
  v0_1 : FVec F S2x4096x8x128 .bf16
  v0_2 : FVec F S2x4096x8x128 .bf16
  arg0 : FVec F S2x512x16x128 .bf16
  arg1 : FVec F S2x512x8x128 .bf16
  arg2 : FVec F S2x512x8x128 .bf16
  arg3 : FVec F S20x8x128 .bf16
  arg4 : FVec F S20x8x128 .bf16
  arg6 : FVec F S2x4096x8 .f32
  arg8 : FVec F S2x4096x8 .f32
  arg9 : IVec S2 32
  arg11 : FVec F S2x512x16 .f32
  arg12 : FVec F S2x16x512 .f32
  arg13 : FVec F S2x512x16x128 .bf16

def val_v1 {F : FTy → Type} [FloatOps F] (x : RIn F) : (⟨S2x512x16x128, .f32⟩ : BufTy).Contents (Elt F) :=
  ((extf .f32 · bitsLt_bf16_f32) : (⟨S2x512x16x128, .bf16⟩ : BufTy).Contents (Elt F) → (⟨S2x512x16x128, .f32⟩ : BufTy).Contents (Elt F)) x.v0_0
def val_v2 {F : FTy → Type} [FloatOps F] (x : RIn F) : (⟨S2x512x16x1, .f32⟩ : BufTy).Contents (Elt F) :=
  (broadcastInDim S2x512x16x1 ![0, 1, 2] bcast_S2x512x16_S2x512x16x1_0_1_2 : (⟨S2x512x16, .f32⟩ : BufTy).Contents (Elt F) → (⟨S2x512x16x1, .f32⟩ : BufTy).Contents (Elt F)) x.arg11
def val_v3 {F : FTy → Type} [FloatOps F] (x : RIn F) : (⟨S2x512x16x128, .f32⟩ : BufTy).Contents (Elt F) :=
  (broadcastInDim S2x512x16x128 ![0, 1, 2, 3] bcast_S2x512x16x1_S2x512x16x128_0_1_2_3 : (⟨S2x512x16x1, .f32⟩ : BufTy).Contents (Elt F) → (⟨S2x512x16x128, .f32⟩ : BufTy).Contents (Elt F)) (val_v2 x)
def val_v4 {F : FTy → Type} [FloatOps F] (x : RIn F) : (⟨S2x512x16x128, .f32⟩ : BufTy).Contents (Elt F) :=
  (mulf : (⟨S2x512x16x128, .f32⟩ : BufTy).Contents (Elt F) → (⟨S2x512x16x128, .f32⟩ : BufTy).Contents (Elt F) → (⟨S2x512x16x128, .f32⟩ : BufTy).Contents (Elt F)) (val_v1 x) (val_v3 x)
def val_v5 {F : FTy → Type} [FloatOps F] (x : RIn F) : (⟨S2x512x16x128, .f32⟩ : BufTy).Contents (Elt F) :=
  ((extf .f32 · bitsLt_bf16_f32) : (⟨S2x512x16x128, .bf16⟩ : BufTy).Contents (Elt F) → (⟨S2x512x16x128, .f32⟩ : BufTy).Contents (Elt F)) x.arg13
def val_v6 {F : FTy → Type} [FloatOps F] (x : RIn F) : (⟨S2x512x16x128, .f32⟩ : BufTy).Contents (Elt F) :=
  (mulf : (⟨S2x512x16x128, .f32⟩ : BufTy).Contents (Elt F) → (⟨S2x512x16x128, .f32⟩ : BufTy).Contents (Elt F) → (⟨S2x512x16x128, .f32⟩ : BufTy).Contents (Elt F)) (val_v4 x) (val_v5 x)
def val_cst {F : FTy → Type} [FloatOps F] (x : RIn F) : FVec F S_ .f32 :=
  (constant (F := F) S_ .f32 0x00000000#32)
def val_v7 {F : FTy → Type} [FloatOps F] (x : RIn F) : (⟨S2x512x16, .f32⟩ : BufTy).Contents (Elt F) :=
  ((fun x v => Host.reduceAdd x v reducesTo_S2x512x16x128_S2x512x16_d3 h_S_) : (⟨S2x512x16x128, .f32⟩ : BufTy).Contents (Elt F) → (⟨S_, .f32⟩ : BufTy).Contents (Elt F) → (⟨S2x512x16, .f32⟩ : BufTy).Contents (Elt F)) (val_v6 x) (val_cst x)
def val_v8 {F : FTy → Type} [FloatOps F] (x : RIn F) : (⟨S2x512x8x2x128, .bf16⟩ : BufTy).Contents (Elt F) :=
  (shapeCast S2x512x8x2x128 x.arg0 shapeCasts_S2x512x16x128_S2x512x8x2x128)
def val_v9 {F : FTy → Type} [FloatOps F] (x : RIn F) : (⟨S2x512x8x2x128, .bf16⟩ : BufTy).Contents (Elt F) :=
  (shapeCast S2x512x8x2x128 x.v0_0 shapeCasts_S2x512x16x128_S2x512x8x2x128)
def val_v10 {F : FTy → Type} [FloatOps F] (x : RIn F) : (⟨S2x16x512, .f32⟩ : BufTy).Contents (Elt F) :=
  ((transpose S2x16x512 [0, 2, 1] · transposes_S2x512x16_S2x16x512_0_2_1) : (⟨S2x512x16, .f32⟩ : BufTy).Contents (Elt F) → (⟨S2x16x512, .f32⟩ : BufTy).Contents (Elt F)) x.arg11
def val_v11 {F : FTy → Type} [FloatOps F] (x : RIn F) : (⟨S2x8x2x512x1, .f32⟩ : BufTy).Contents (Elt F) :=
  (shapeCast S2x8x2x512x1 (val_v10 x) shapeCasts_S2x16x512_S2x8x2x512x1)
def val_v12 {F : FTy → Type} [FloatOps F] (x : RIn F) : (⟨S2x16x512, .f32⟩ : BufTy).Contents (Elt F) :=
  ((transpose S2x16x512 [0, 2, 1] · transposes_S2x512x16_S2x16x512_0_2_1) : (⟨S2x512x16, .f32⟩ : BufTy).Contents (Elt F) → (⟨S2x16x512, .f32⟩ : BufTy).Contents (Elt F)) (val_v7 x)
def val_v13 {F : FTy → Type} [FloatOps F] (x : RIn F) : (⟨S2x8x2x512x1, .f32⟩ : BufTy).Contents (Elt F) :=
  (shapeCast S2x8x2x512x1 (val_v12 x) shapeCasts_S2x16x512_S2x8x2x512x1)
def val_v14 {F : FTy → Type} [FloatOps F] (x : RIn F) : (⟨S2x8x2x512x1, .f32⟩ : BufTy).Contents (Elt F) :=
  (shapeCast S2x8x2x512x1 x.arg12 shapeCasts_S2x16x512_S2x8x2x512x1)
def val_v15 {F : FTy → Type} [FloatOps F] (x : RIn F) : (⟨S8x20x2x512x2, .f32⟩ : BufTy).Contents (Elt F) :=
  ((fun l r => Host.dotGeneral dot_S20x8x128_S2x512x8x2x128_S8x20x2x512x2_2_4_0_013_1_2 none l r) : (⟨S20x8x128, .bf16⟩ : BufTy).Contents (Elt F) → (⟨S2x512x8x2x128, .bf16⟩ : BufTy).Contents (Elt F) → (⟨S8x20x2x512x2, .f32⟩ : BufTy).Contents (Elt F)) x.arg3 (val_v8 x)
def val_v16 {F : FTy → Type} [FloatOps F] (x : RIn F) : (⟨S2x8x2x512x20, .f32⟩ : BufTy).Contents (Elt F) :=
  ((transpose S2x8x2x512x20 [2, 0, 4, 3, 1] · transposes_S8x20x2x512x2_S2x8x2x512x20_2_0_4_3_1) : (⟨S8x20x2x512x2, .f32⟩ : BufTy).Contents (Elt F) → (⟨S2x8x2x512x20, .f32⟩ : BufTy).Contents (Elt F)) (val_v15 x)
def val_cst_0 {F : FTy → Type} [FloatOps F] (x : RIn F) : FVec F S_ .f32 :=
  (constant (F := F) S_ .f32 0x3DB504F3#32)
def val_v17 {F : FTy → Type} [FloatOps F] (x : RIn F) : (⟨S2x8x2x512x20, .f32⟩ : BufTy).Contents (Elt F) :=
  (broadcastInDim S2x8x2x512x20 ![] bcast_S_S2x8x2x512x20 : (⟨S_, .f32⟩ : BufTy).Contents (Elt F) → (⟨S2x8x2x512x20, .f32⟩ : BufTy).Contents (Elt F)) (val_cst_0 x)
def val_v18 {F : FTy → Type} [FloatOps F] (x : RIn F) : (⟨S2x8x2x512x20, .f32⟩ : BufTy).Contents (Elt F) :=
  (mulf : (⟨S2x8x2x512x20, .f32⟩ : BufTy).Contents (Elt F) → (⟨S2x8x2x512x20, .f32⟩ : BufTy).Contents (Elt F) → (⟨S2x8x2x512x20, .f32⟩ : BufTy).Contents (Elt F)) (val_v17 x) (val_v16 x)
def val_v19 {F : FTy → Type} [FloatOps F] (x : RIn F) : (⟨S2x8x2x512x20, .f32⟩ : BufTy).Contents (Elt F) :=
  (broadcastInDim S2x8x2x512x20 ![0, 1, 2, 3, 4] bcast_S2x8x2x512x1_S2x8x2x512x20_0_1_2_3_4 : (⟨S2x8x2x512x1, .f32⟩ : BufTy).Contents (Elt F) → (⟨S2x8x2x512x20, .f32⟩ : BufTy).Contents (Elt F)) (val_v14 x)
def val_v20 {F : FTy → Type} [FloatOps F] (x : RIn F) : (⟨S2x8x2x512x20, .f32⟩ : BufTy).Contents (Elt F) :=
  (subf : (⟨S2x8x2x512x20, .f32⟩ : BufTy).Contents (Elt F) → (⟨S2x8x2x512x20, .f32⟩ : BufTy).Contents (Elt F) → (⟨S2x8x2x512x20, .f32⟩ : BufTy).Contents (Elt F)) (val_v18 x) (val_v19 x)
def val_v21 {F : FTy → Type} [FloatOps F] (x : RIn F) : (⟨S2x8x2x512x20, .f32⟩ : BufTy).Contents (Elt F) :=
  (Host.exp : (⟨S2x8x2x512x20, .f32⟩ : BufTy).Contents (Elt F) → (⟨S2x8x2x512x20, .f32⟩ : BufTy).Contents (Elt F)) (val_v20 x)
def val_v22 {F : FTy → Type} [FloatOps F] (x : RIn F) : (⟨S8x20x2x512x2, .f32⟩ : BufTy).Contents (Elt F) :=
  ((fun l r => Host.dotGeneral dot_S20x8x128_S2x512x8x2x128_S8x20x2x512x2_2_4_0_013_1_2 none l r) : (⟨S20x8x128, .bf16⟩ : BufTy).Contents (Elt F) → (⟨S2x512x8x2x128, .bf16⟩ : BufTy).Contents (Elt F) → (⟨S8x20x2x512x2, .f32⟩ : BufTy).Contents (Elt F)) x.arg4 (val_v9 x)
def val_v23 {F : FTy → Type} [FloatOps F] (x : RIn F) : (⟨S2x8x2x512x20, .f32⟩ : BufTy).Contents (Elt F) :=
  ((transpose S2x8x2x512x20 [2, 0, 4, 3, 1] · transposes_S8x20x2x512x2_S2x8x2x512x20_2_0_4_3_1) : (⟨S8x20x2x512x2, .f32⟩ : BufTy).Contents (Elt F) → (⟨S2x8x2x512x20, .f32⟩ : BufTy).Contents (Elt F)) (val_v22 x)
def val_v24 {F : FTy → Type} [FloatOps F] (x : RIn F) : (⟨S2x8x2x512x20, .f32⟩ : BufTy).Contents (Elt F) :=
  (broadcastInDim S2x8x2x512x20 ![0, 1, 2, 3, 4] bcast_S2x8x2x512x1_S2x8x2x512x20_0_1_2_3_4 : (⟨S2x8x2x512x1, .f32⟩ : BufTy).Contents (Elt F) → (⟨S2x8x2x512x20, .f32⟩ : BufTy).Contents (Elt F)) (val_v11 x)
def val_v25 {F : FTy → Type} [FloatOps F] (x : RIn F) : (⟨S2x8x2x512x20, .f32⟩ : BufTy).Contents (Elt F) :=
  (mulf : (⟨S2x8x2x512x20, .f32⟩ : BufTy).Contents (Elt F) → (⟨S2x8x2x512x20, .f32⟩ : BufTy).Contents (Elt F) → (⟨S2x8x2x512x20, .f32⟩ : BufTy).Contents (Elt F)) (val_v23 x) (val_v24 x)
def val_v26 {F : FTy → Type} [FloatOps F] (x : RIn F) : (⟨S2x8x2x512x20, .f32⟩ : BufTy).Contents (Elt F) :=
  (broadcastInDim S2x8x2x512x20 ![0, 1, 2, 3, 4] bcast_S2x8x2x512x1_S2x8x2x512x20_0_1_2_3_4 : (⟨S2x8x2x512x1, .f32⟩ : BufTy).Contents (Elt F) → (⟨S2x8x2x512x20, .f32⟩ : BufTy).Contents (Elt F)) (val_v13 x)
def val_v27 {F : FTy → Type} [FloatOps F] (x : RIn F) : (⟨S2x8x2x512x20, .f32⟩ : BufTy).Contents (Elt F) :=
  (subf : (⟨S2x8x2x512x20, .f32⟩ : BufTy).Contents (Elt F) → (⟨S2x8x2x512x20, .f32⟩ : BufTy).Contents (Elt F) → (⟨S2x8x2x512x20, .f32⟩ : BufTy).Contents (Elt F)) (val_v25 x) (val_v26 x)
def val_v28 {F : FTy → Type} [FloatOps F] (x : RIn F) : (⟨S2x8x2x512x20, .f32⟩ : BufTy).Contents (Elt F) :=
  (mulf : (⟨S2x8x2x512x20, .f32⟩ : BufTy).Contents (Elt F) → (⟨S2x8x2x512x20, .f32⟩ : BufTy).Contents (Elt F) → (⟨S2x8x2x512x20, .f32⟩ : BufTy).Contents (Elt F)) (val_v21 x) (val_v27 x)
def val_v29 {F : FTy → Type} [FloatOps F] (x : RIn F) : (⟨S2x8x2x512x20, .bf16⟩ : BufTy).Contents (Elt F) :=
  ((truncf .bf16 · bitsLt_bf16_f32) : (⟨S2x8x2x512x20, .f32⟩ : BufTy).Contents (Elt F) → (⟨S2x8x2x512x20, .bf16⟩ : BufTy).Contents (Elt F)) (val_v28 x)
def val_v30 {F : FTy → Type} [FloatOps F] (x : RIn F) : (⟨S8x128x2x2x512, .f32⟩ : BufTy).Contents (Elt F) :=
  ((fun l r => Host.dotGeneral dot_S20x8x128_S2x8x2x512x20_S8x128x2x2x512_0_4_2_023_1_1 none l r) : (⟨S20x8x128, .bf16⟩ : BufTy).Contents (Elt F) → (⟨S2x8x2x512x20, .bf16⟩ : BufTy).Contents (Elt F) → (⟨S8x128x2x2x512, .f32⟩ : BufTy).Contents (Elt F)) x.arg3 (val_v29 x)
def val_v31 {F : FTy → Type} [FloatOps F] (x : RIn F) : (⟨S2x512x8x2x128, .f32⟩ : BufTy).Contents (Elt F) :=
  ((transpose S2x512x8x2x128 [2, 4, 0, 3, 1] · transposes_S8x128x2x2x512_S2x512x8x2x128_2_4_0_3_1) : (⟨S8x128x2x2x512, .f32⟩ : BufTy).Contents (Elt F) → (⟨S2x512x8x2x128, .f32⟩ : BufTy).Contents (Elt F)) (val_v30 x)
def val_v32 {F : FTy → Type} [FloatOps F] (x : RIn F) : (⟨S2x8x512x512x2, .f32⟩ : BufTy).Contents (Elt F) :=
  ((fun l r => Host.dotGeneral dot_S2x512x8x128_S2x512x8x2x128_S2x8x512x512x2_3_4_1_13_02_02 none l r) : (⟨S2x512x8x128, .bf16⟩ : BufTy).Contents (Elt F) → (⟨S2x512x8x2x128, .bf16⟩ : BufTy).Contents (Elt F) → (⟨S2x8x512x512x2, .f32⟩ : BufTy).Contents (Elt F)) x.arg1 (val_v8 x)
def val_v33 {F : FTy → Type} [FloatOps F] (x : RIn F) : (⟨S2x8x2x512x512, .f32⟩ : BufTy).Contents (Elt F) :=
  ((transpose S2x8x2x512x512 [0, 1, 4, 3, 2] · transposes_S2x8x512x512x2_S2x8x2x512x512_0_1_4_3_2) : (⟨S2x8x512x512x2, .f32⟩ : BufTy).Contents (Elt F) → (⟨S2x8x2x512x512, .f32⟩ : BufTy).Contents (Elt F)) (val_v32 x)
def val_cst_1 {F : FTy → Type} [FloatOps F] (x : RIn F) : FVec F S_ .f32 :=
  (constant (F := F) S_ .f32 0x3DB504F3#32)
def val_v34 {F : FTy → Type} [FloatOps F] (x : RIn F) : (⟨S2x8x2x512x512, .f32⟩ : BufTy).Contents (Elt F) :=
  (broadcastInDim S2x8x2x512x512 ![] bcast_S_S2x8x2x512x512 : (⟨S_, .f32⟩ : BufTy).Contents (Elt F) → (⟨S2x8x2x512x512, .f32⟩ : BufTy).Contents (Elt F)) (val_cst_1 x)
def val_v35 {F : FTy → Type} [FloatOps F] (x : RIn F) : (⟨S2x8x2x512x512, .f32⟩ : BufTy).Contents (Elt F) :=
  (mulf : (⟨S2x8x2x512x512, .f32⟩ : BufTy).Contents (Elt F) → (⟨S2x8x2x512x512, .f32⟩ : BufTy).Contents (Elt F) → (⟨S2x8x2x512x512, .f32⟩ : BufTy).Contents (Elt F)) (val_v34 x) (val_v33 x)
def val_v36 {F : FTy → Type} [FloatOps F] (x : RIn F) : IVec S512 32 :=
  (iotaInDim S512 32 0)
def val_v37 {F : FTy → Type} [FloatOps F] (x : RIn F) : (⟨S512x1, .i32⟩ : BufTy).Contents (Elt F) :=
  (broadcastInDim S512x1 ![0] bcast_S512_S512x1_0 : (⟨S512, .i32⟩ : BufTy).Contents (Elt F) → (⟨S512x1, .i32⟩ : BufTy).Contents (Elt F)) (val_v36 x)
def val_v38 {F : FTy → Type} [FloatOps F] (x : RIn F) : IVec S512 32 :=
  (iotaInDim S512 32 0)
def val_v39 {F : FTy → Type} [FloatOps F] (x : RIn F) : (⟨S1x512, .i32⟩ : BufTy).Contents (Elt F) :=
  (broadcastInDim S1x512 ![1] bcast_S512_S1x512_1 : (⟨S512, .i32⟩ : BufTy).Contents (Elt F) → (⟨S1x512, .i32⟩ : BufTy).Contents (Elt F)) (val_v38 x)
def val_v40 {F : FTy → Type} [FloatOps F] (x : RIn F) : (⟨S512x512, .i32⟩ : BufTy).Contents (Elt F) :=
  (broadcastInDim S512x512 ![0, 1] bcast_S512x1_S512x512_0_1 : (⟨S512x1, .i32⟩ : BufTy).Contents (Elt F) → (⟨S512x512, .i32⟩ : BufTy).Contents (Elt F)) (val_v37 x)
def val_v41 {F : FTy → Type} [FloatOps F] (x : RIn F) : (⟨S512x512, .i32⟩ : BufTy).Contents (Elt F) :=
  (broadcastInDim S512x512 ![0, 1] bcast_S1x512_S512x512_0_1 : (⟨S1x512, .i32⟩ : BufTy).Contents (Elt F) → (⟨S512x512, .i32⟩ : BufTy).Contents (Elt F)) (val_v39 x)
def val_v42 {F : FTy → Type} [FloatOps F] (x : RIn F) : (⟨S512x512, .i1⟩ : BufTy).Contents (Elt F) :=
  (cmpi .sge : (⟨S512x512, .i32⟩ : BufTy).Contents (Elt F) → (⟨S512x512, .i32⟩ : BufTy).Contents (Elt F) → (⟨S512x512, .i1⟩ : BufTy).Contents (Elt F)) (val_v40 x) (val_v41 x)
def val_cst_2 {F : FTy → Type} [FloatOps F] (x : RIn F) : FVec F S_ .f32 :=
  (constant (F := F) S_ .f32 0xFF800000#32)
def val_call0_v0 {F : FTy → Type} [FloatOps F] (x : RIn F) : (⟨S_, .f32⟩ : BufTy).Contents (Elt F) :=
  (id : (⟨S_, .f32⟩ : BufTy).Contents (Elt F) → (⟨S_, .f32⟩ : BufTy).Contents (Elt F)) (val_cst_2 x)
def val_call0_v1 {F : FTy → Type} [FloatOps F] (x : RIn F) : (⟨S2x8x2x512x512, .i1⟩ : BufTy).Contents (Elt F) :=
  ((broadcastInDim S2x8x2x512x512 ![3, 4] bcast_S512x512_S2x8x2x512x512_3_4) : (⟨S512x512, .i1⟩ : BufTy).Contents (Elt F) → (⟨S2x8x2x512x512, .i1⟩ : BufTy).Contents (Elt F)) (val_v42 x)
def val_call0_v2 {F : FTy → Type} [FloatOps F] (x : RIn F) : (⟨S2x8x2x512x512, .f32⟩ : BufTy).Contents (Elt F) :=
  ((broadcastInDim S2x8x2x512x512 ![] bcast_S_S2x8x2x512x512) : (⟨S_, .f32⟩ : BufTy).Contents (Elt F) → (⟨S2x8x2x512x512, .f32⟩ : BufTy).Contents (Elt F)) (val_call0_v0 x)
def val_v43 {F : FTy → Type} [FloatOps F] (x : RIn F) : (⟨S2x8x2x512x512, .f32⟩ : BufTy).Contents (Elt F) :=
  (select : (⟨S2x8x2x512x512, .i1⟩ : BufTy).Contents (Elt F) → (⟨S2x8x2x512x512, .f32⟩ : BufTy).Contents (Elt F) → (⟨S2x8x2x512x512, .f32⟩ : BufTy).Contents (Elt F) → (⟨S2x8x2x512x512, .f32⟩ : BufTy).Contents (Elt F)) (val_call0_v1 x) (val_v35 x) (val_call0_v2 x)
def val_v44 {F : FTy → Type} [FloatOps F] (x : RIn F) : (⟨S2x8x2x512x512, .f32⟩ : BufTy).Contents (Elt F) :=
  (broadcastInDim S2x8x2x512x512 ![0, 1, 2, 3, 4] bcast_S2x8x2x512x1_S2x8x2x512x512_0_1_2_3_4 : (⟨S2x8x2x512x1, .f32⟩ : BufTy).Contents (Elt F) → (⟨S2x8x2x512x512, .f32⟩ : BufTy).Contents (Elt F)) (val_v14 x)
def val_v45 {F : FTy → Type} [FloatOps F] (x : RIn F) : (⟨S2x8x2x512x512, .f32⟩ : BufTy).Contents (Elt F) :=
  (subf : (⟨S2x8x2x512x512, .f32⟩ : BufTy).Contents (Elt F) → (⟨S2x8x2x512x512, .f32⟩ : BufTy).Contents (Elt F) → (⟨S2x8x2x512x512, .f32⟩ : BufTy).Contents (Elt F)) (val_v43 x) (val_v44 x)
def val_v46 {F : FTy → Type} [FloatOps F] (x : RIn F) : (⟨S2x8x2x512x512, .f32⟩ : BufTy).Contents (Elt F) :=
  (Host.exp : (⟨S2x8x2x512x512, .f32⟩ : BufTy).Contents (Elt F) → (⟨S2x8x2x512x512, .f32⟩ : BufTy).Contents (Elt F)) (val_v45 x)
def val_v47 {F : FTy → Type} [FloatOps F] (x : RIn F) : (⟨S2x8x512x512x2, .f32⟩ : BufTy).Contents (Elt F) :=
  ((fun l r => Host.dotGeneral dot_S2x512x8x128_S2x512x8x2x128_S2x8x512x512x2_3_4_1_13_02_02 none l r) : (⟨S2x512x8x128, .bf16⟩ : BufTy).Contents (Elt F) → (⟨S2x512x8x2x128, .bf16⟩ : BufTy).Contents (Elt F) → (⟨S2x8x512x512x2, .f32⟩ : BufTy).Contents (Elt F)) x.arg2 (val_v9 x)
def val_v48 {F : FTy → Type} [FloatOps F] (x : RIn F) : (⟨S2x8x2x512x512, .f32⟩ : BufTy).Contents (Elt F) :=
  ((transpose S2x8x2x512x512 [0, 1, 4, 3, 2] · transposes_S2x8x512x512x2_S2x8x2x512x512_0_1_4_3_2) : (⟨S2x8x512x512x2, .f32⟩ : BufTy).Contents (Elt F) → (⟨S2x8x2x512x512, .f32⟩ : BufTy).Contents (Elt F)) (val_v47 x)
def val_v49 {F : FTy → Type} [FloatOps F] (x : RIn F) : (⟨S2x8x2x512x512, .f32⟩ : BufTy).Contents (Elt F) :=
  (broadcastInDim S2x8x2x512x512 ![0, 1, 2, 3, 4] bcast_S2x8x2x512x1_S2x8x2x512x512_0_1_2_3_4 : (⟨S2x8x2x512x1, .f32⟩ : BufTy).Contents (Elt F) → (⟨S2x8x2x512x512, .f32⟩ : BufTy).Contents (Elt F)) (val_v11 x)
def val_v50 {F : FTy → Type} [FloatOps F] (x : RIn F) : (⟨S2x8x2x512x512, .f32⟩ : BufTy).Contents (Elt F) :=
  (mulf : (⟨S2x8x2x512x512, .f32⟩ : BufTy).Contents (Elt F) → (⟨S2x8x2x512x512, .f32⟩ : BufTy).Contents (Elt F) → (⟨S2x8x2x512x512, .f32⟩ : BufTy).Contents (Elt F)) (val_v48 x) (val_v49 x)
def val_v51 {F : FTy → Type} [FloatOps F] (x : RIn F) : (⟨S2x8x2x512x512, .f32⟩ : BufTy).Contents (Elt F) :=
  (broadcastInDim S2x8x2x512x512 ![0, 1, 2, 3, 4] bcast_S2x8x2x512x1_S2x8x2x512x512_0_1_2_3_4 : (⟨S2x8x2x512x1, .f32⟩ : BufTy).Contents (Elt F) → (⟨S2x8x2x512x512, .f32⟩ : BufTy).Contents (Elt F)) (val_v13 x)
def val_v52 {F : FTy → Type} [FloatOps F] (x : RIn F) : (⟨S2x8x2x512x512, .f32⟩ : BufTy).Contents (Elt F) :=
  (subf : (⟨S2x8x2x512x512, .f32⟩ : BufTy).Contents (Elt F) → (⟨S2x8x2x512x512, .f32⟩ : BufTy).Contents (Elt F) → (⟨S2x8x2x512x512, .f32⟩ : BufTy).Contents (Elt F)) (val_v50 x) (val_v51 x)
def val_v53 {F : FTy → Type} [FloatOps F] (x : RIn F) : (⟨S2x8x2x512x512, .f32⟩ : BufTy).Contents (Elt F) :=
  (mulf : (⟨S2x8x2x512x512, .f32⟩ : BufTy).Contents (Elt F) → (⟨S2x8x2x512x512, .f32⟩ : BufTy).Contents (Elt F) → (⟨S2x8x2x512x512, .f32⟩ : BufTy).Contents (Elt F)) (val_v46 x) (val_v52 x)
def val_v54 {F : FTy → Type} [FloatOps F] (x : RIn F) : (⟨S2x8x2x512x512, .bf16⟩ : BufTy).Contents (Elt F) :=
  ((truncf .bf16 · bitsLt_bf16_f32) : (⟨S2x8x2x512x512, .f32⟩ : BufTy).Contents (Elt F) → (⟨S2x8x2x512x512, .bf16⟩ : BufTy).Contents (Elt F)) (val_v53 x)
def val_v55 {F : FTy → Type} [FloatOps F] (x : RIn F) : (⟨S2x8x128x2x512, .f32⟩ : BufTy).Contents (Elt F) :=
  ((fun l r => Host.dotGeneral dot_S2x512x8x128_S2x8x2x512x512_S2x8x128x2x512_1_4_3_23_02_01 none l r) : (⟨S2x512x8x128, .bf16⟩ : BufTy).Contents (Elt F) → (⟨S2x8x2x512x512, .bf16⟩ : BufTy).Contents (Elt F) → (⟨S2x8x128x2x512, .f32⟩ : BufTy).Contents (Elt F)) x.arg1 (val_v54 x)
def val_v56 {F : FTy → Type} [FloatOps F] (x : RIn F) : (⟨S2x512x8x2x128, .f32⟩ : BufTy).Contents (Elt F) :=
  ((transpose S2x512x8x2x128 [0, 4, 1, 3, 2] · transposes_S2x8x128x2x512_S2x512x8x2x128_0_4_1_3_2) : (⟨S2x8x128x2x512, .f32⟩ : BufTy).Contents (Elt F) → (⟨S2x512x8x2x128, .f32⟩ : BufTy).Contents (Elt F)) (val_v55 x)
def val_v57 {F : FTy → Type} [FloatOps F] (x : RIn F) : (⟨S2x8x4096, .f32⟩ : BufTy).Contents (Elt F) :=
  ((transpose S2x8x4096 [0, 2, 1] · transposes_S2x4096x8_S2x8x4096_0_2_1) : (⟨S2x4096x8, .f32⟩ : BufTy).Contents (Elt F) → (⟨S2x8x4096, .f32⟩ : BufTy).Contents (Elt F)) x.arg6
def val_v58 {F : FTy → Type} [FloatOps F] (x : RIn F) : (⟨S2x8x1x1x4096, .f32⟩ : BufTy).Contents (Elt F) :=
  (shapeCast S2x8x1x1x4096 (val_v57 x) shapeCasts_S2x8x4096_S2x8x1x1x4096)
def val_v59 {F : FTy → Type} [FloatOps F] (x : RIn F) : (⟨S2x8x4096, .f32⟩ : BufTy).Contents (Elt F) :=
  ((transpose S2x8x4096 [0, 2, 1] · transposes_S2x4096x8_S2x8x4096_0_2_1) : (⟨S2x4096x8, .f32⟩ : BufTy).Contents (Elt F) → (⟨S2x8x4096, .f32⟩ : BufTy).Contents (Elt F)) x.arg8
def val_v60 {F : FTy → Type} [FloatOps F] (x : RIn F) : (⟨S2x8x1x1x4096, .f32⟩ : BufTy).Contents (Elt F) :=
  (shapeCast S2x8x1x1x4096 (val_v59 x) shapeCasts_S2x8x4096_S2x8x1x1x4096)
def val_v61 {F : FTy → Type} [FloatOps F] (x : RIn F) : IVec S4096 32 :=
  (iotaInDim S4096 32 0)
def val_v62 {F : FTy → Type} [FloatOps F] (x : RIn F) : (⟨S1x4096, .i32⟩ : BufTy).Contents (Elt F) :=
  (broadcastInDim S1x4096 ![1] bcast_S4096_S1x4096_1 : (⟨S4096, .i32⟩ : BufTy).Contents (Elt F) → (⟨S1x4096, .i32⟩ : BufTy).Contents (Elt F)) (val_v61 x)
def val_v63 {F : FTy → Type} [FloatOps F] (x : RIn F) : (⟨S2x1, .i32⟩ : BufTy).Contents (Elt F) :=
  (broadcastInDim S2x1 ![0] bcast_S2_S2x1_0 : (⟨S2, .i32⟩ : BufTy).Contents (Elt F) → (⟨S2x1, .i32⟩ : BufTy).Contents (Elt F)) x.arg9
def val_v64 {F : FTy → Type} [FloatOps F] (x : RIn F) : (⟨S2x4096, .i32⟩ : BufTy).Contents (Elt F) :=
  (broadcastInDim S2x4096 ![0, 1] bcast_S1x4096_S2x4096_0_1 : (⟨S1x4096, .i32⟩ : BufTy).Contents (Elt F) → (⟨S2x4096, .i32⟩ : BufTy).Contents (Elt F)) (val_v62 x)
def val_v65 {F : FTy → Type} [FloatOps F] (x : RIn F) : (⟨S2x4096, .i32⟩ : BufTy).Contents (Elt F) :=
  (broadcastInDim S2x4096 ![0, 1] bcast_S2x1_S2x4096_0_1 : (⟨S2x1, .i32⟩ : BufTy).Contents (Elt F) → (⟨S2x4096, .i32⟩ : BufTy).Contents (Elt F)) (val_v63 x)
def val_v66 {F : FTy → Type} [FloatOps F] (x : RIn F) : (⟨S2x4096, .i1⟩ : BufTy).Contents (Elt F) :=
  (cmpi .slt : (⟨S2x4096, .i32⟩ : BufTy).Contents (Elt F) → (⟨S2x4096, .i32⟩ : BufTy).Contents (Elt F) → (⟨S2x4096, .i1⟩ : BufTy).Contents (Elt F)) (val_v64 x) (val_v65 x)
def val_v67 {F : FTy → Type} [FloatOps F] (x : RIn F) : (⟨S2x1x1x1x4096, .i1⟩ : BufTy).Contents (Elt F) :=
  (shapeCast S2x1x1x1x4096 (val_v66 x) shapeCasts_S2x4096_S2x1x1x1x4096)
def val_v68 {F : FTy → Type} [FloatOps F] (x : RIn F) : (⟨S2x8x4096x512x2, .f32⟩ : BufTy).Contents (Elt F) :=
  ((fun l r => Host.dotGeneral dot_S2x4096x8x128_S2x512x8x2x128_S2x8x4096x512x2_3_4_1_13_02_02 none l r) : (⟨S2x4096x8x128, .bf16⟩ : BufTy).Contents (Elt F) → (⟨S2x512x8x2x128, .bf16⟩ : BufTy).Contents (Elt F) → (⟨S2x8x4096x512x2, .f32⟩ : BufTy).Contents (Elt F)) x.v0_1 (val_v8 x)
def val_v69 {F : FTy → Type} [FloatOps F] (x : RIn F) : (⟨S2x8x2x512x4096, .f32⟩ : BufTy).Contents (Elt F) :=
  ((transpose S2x8x2x512x4096 [0, 1, 4, 3, 2] · transposes_S2x8x4096x512x2_S2x8x2x512x4096_0_1_4_3_2) : (⟨S2x8x4096x512x2, .f32⟩ : BufTy).Contents (Elt F) → (⟨S2x8x2x512x4096, .f32⟩ : BufTy).Contents (Elt F)) (val_v68 x)
def val_cst_3 {F : FTy → Type} [FloatOps F] (x : RIn F) : FVec F S_ .f32 :=
  (constant (F := F) S_ .f32 0x3DB504F3#32)
def val_v70 {F : FTy → Type} [FloatOps F] (x : RIn F) : (⟨S2x8x2x512x4096, .f32⟩ : BufTy).Contents (Elt F) :=
  (broadcastInDim S2x8x2x512x4096 ![] bcast_S_S2x8x2x512x4096 : (⟨S_, .f32⟩ : BufTy).Contents (Elt F) → (⟨S2x8x2x512x4096, .f32⟩ : BufTy).Contents (Elt F)) (val_cst_3 x)
def val_v71 {F : FTy → Type} [FloatOps F] (x : RIn F) : (⟨S2x8x2x512x4096, .f32⟩ : BufTy).Contents (Elt F) :=
  (mulf : (⟨S2x8x2x512x4096, .f32⟩ : BufTy).Contents (Elt F) → (⟨S2x8x2x512x4096, .f32⟩ : BufTy).Contents (Elt F) → (⟨S2x8x2x512x4096, .f32⟩ : BufTy).Contents (Elt F)) (val_v70 x) (val_v69 x)
def val_v72 {F : FTy → Type} [FloatOps F] (x : RIn F) : (⟨S2x8x2x512x4096, .f32⟩ : BufTy).Contents (Elt F) :=
  (broadcastInDim S2x8x2x512x4096 ![0, 1, 2, 3, 4] bcast_S2x8x1x1x4096_S2x8x2x512x4096_0_1_2_3_4 : (⟨S2x8x1x1x4096, .f32⟩ : BufTy).Contents (Elt F) → (⟨S2x8x2x512x4096, .f32⟩ : BufTy).Contents (Elt F)) (val_v58 x)
def val_v73 {F : FTy → Type} [FloatOps F] (x : RIn F) : (⟨S2x8x2x512x4096, .f32⟩ : BufTy).Contents (Elt F) :=
  (mulf : (⟨S2x8x2x512x4096, .f32⟩ : BufTy).Contents (Elt F) → (⟨S2x8x2x512x4096, .f32⟩ : BufTy).Contents (Elt F) → (⟨S2x8x2x512x4096, .f32⟩ : BufTy).Contents (Elt F)) (val_v71 x) (val_v72 x)
def val_cst_4 {F : FTy → Type} [FloatOps F] (x : RIn F) : FVec F S_ .f32 :=
  (constant (F := F) S_ .f32 0xFF800000#32)
def val_call1_v0 {F : FTy → Type} [FloatOps F] (x : RIn F) : (⟨S_, .f32⟩ : BufTy).Contents (Elt F) :=
  (id : (⟨S_, .f32⟩ : BufTy).Contents (Elt F) → (⟨S_, .f32⟩ : BufTy).Contents (Elt F)) (val_cst_4 x)
def val_call1_v1 {F : FTy → Type} [FloatOps F] (x : RIn F) : (⟨S2x8x2x512x4096, .i1⟩ : BufTy).Contents (Elt F) :=
  ((broadcastInDim S2x8x2x512x4096 ![0, 1, 2, 3, 4] bcast_S2x1x1x1x4096_S2x8x2x512x4096_0_1_2_3_4) : (⟨S2x1x1x1x4096, .i1⟩ : BufTy).Contents (Elt F) → (⟨S2x8x2x512x4096, .i1⟩ : BufTy).Contents (Elt F)) (val_v67 x)
def val_call1_v2 {F : FTy → Type} [FloatOps F] (x : RIn F) : (⟨S2x8x2x512x4096, .f32⟩ : BufTy).Contents (Elt F) :=
  ((broadcastInDim S2x8x2x512x4096 ![] bcast_S_S2x8x2x512x4096) : (⟨S_, .f32⟩ : BufTy).Contents (Elt F) → (⟨S2x8x2x512x4096, .f32⟩ : BufTy).Contents (Elt F)) (val_call1_v0 x)
def val_v74 {F : FTy → Type} [FloatOps F] (x : RIn F) : (⟨S2x8x2x512x4096, .f32⟩ : BufTy).Contents (Elt F) :=
  (select : (⟨S2x8x2x512x4096, .i1⟩ : BufTy).Contents (Elt F) → (⟨S2x8x2x512x4096, .f32⟩ : BufTy).Contents (Elt F) → (⟨S2x8x2x512x4096, .f32⟩ : BufTy).Contents (Elt F) → (⟨S2x8x2x512x4096, .f32⟩ : BufTy).Contents (Elt F)) (val_call1_v1 x) (val_v73 x) (val_call1_v2 x)
def val_v75 {F : FTy → Type} [FloatOps F] (x : RIn F) : (⟨S2x8x2x512x4096, .f32⟩ : BufTy).Contents (Elt F) :=
  (broadcastInDim S2x8x2x512x4096 ![0, 1, 2, 3, 4] bcast_S2x8x2x512x1_S2x8x2x512x4096_0_1_2_3_4 : (⟨S2x8x2x512x1, .f32⟩ : BufTy).Contents (Elt F) → (⟨S2x8x2x512x4096, .f32⟩ : BufTy).Contents (Elt F)) (val_v14 x)
def val_v76 {F : FTy → Type} [FloatOps F] (x : RIn F) : (⟨S2x8x2x512x4096, .f32⟩ : BufTy).Contents (Elt F) :=
  (subf : (⟨S2x8x2x512x4096, .f32⟩ : BufTy).Contents (Elt F) → (⟨S2x8x2x512x4096, .f32⟩ : BufTy).Contents (Elt F) → (⟨S2x8x2x512x4096, .f32⟩ : BufTy).Contents (Elt F)) (val_v74 x) (val_v75 x)
def val_v77 {F : FTy → Type} [FloatOps F] (x : RIn F) : (⟨S2x8x2x512x4096, .f32⟩ : BufTy).Contents (Elt F) :=
  (Host.exp : (⟨S2x8x2x512x4096, .f32⟩ : BufTy).Contents (Elt F) → (⟨S2x8x2x512x4096, .f32⟩ : BufTy).Contents (Elt F)) (val_v76 x)
def val_v78 {F : FTy → Type} [FloatOps F] (x : RIn F) : (⟨S2x8x4096x512x2, .f32⟩ : BufTy).Contents (Elt F) :=
  ((fun l r => Host.dotGeneral dot_S2x4096x8x128_S2x512x8x2x128_S2x8x4096x512x2_3_4_1_13_02_02 none l r) : (⟨S2x4096x8x128, .bf16⟩ : BufTy).Contents (Elt F) → (⟨S2x512x8x2x128, .bf16⟩ : BufTy).Contents (Elt F) → (⟨S2x8x4096x512x2, .f32⟩ : BufTy).Contents (Elt F)) x.v0_2 (val_v9 x)
def val_v79 {F : FTy → Type} [FloatOps F] (x : RIn F) : (⟨S2x8x2x512x4096, .f32⟩ : BufTy).Contents (Elt F) :=
  ((transpose S2x8x2x512x4096 [0, 1, 4, 3, 2] · transposes_S2x8x4096x512x2_S2x8x2x512x4096_0_1_4_3_2) : (⟨S2x8x4096x512x2, .f32⟩ : BufTy).Contents (Elt F) → (⟨S2x8x2x512x4096, .f32⟩ : BufTy).Contents (Elt F)) (val_v78 x)
def val_v80 {F : FTy → Type} [FloatOps F] (x : RIn F) : (⟨S2x8x2x512x4096, .f32⟩ : BufTy).Contents (Elt F) :=
  (broadcastInDim S2x8x2x512x4096 ![0, 1, 2, 3, 4] bcast_S2x8x2x512x1_S2x8x2x512x4096_0_1_2_3_4 : (⟨S2x8x2x512x1, .f32⟩ : BufTy).Contents (Elt F) → (⟨S2x8x2x512x4096, .f32⟩ : BufTy).Contents (Elt F)) (val_v11 x)
def val_v81 {F : FTy → Type} [FloatOps F] (x : RIn F) : (⟨S2x8x2x512x4096, .f32⟩ : BufTy).Contents (Elt F) :=
  (mulf : (⟨S2x8x2x512x4096, .f32⟩ : BufTy).Contents (Elt F) → (⟨S2x8x2x512x4096, .f32⟩ : BufTy).Contents (Elt F) → (⟨S2x8x2x512x4096, .f32⟩ : BufTy).Contents (Elt F)) (val_v79 x) (val_v80 x)
def val_v82 {F : FTy → Type} [FloatOps F] (x : RIn F) : (⟨S2x8x2x512x4096, .f32⟩ : BufTy).Contents (Elt F) :=
  (broadcastInDim S2x8x2x512x4096 ![0, 1, 2, 3, 4] bcast_S2x8x1x1x4096_S2x8x2x512x4096_0_1_2_3_4 : (⟨S2x8x1x1x4096, .f32⟩ : BufTy).Contents (Elt F) → (⟨S2x8x2x512x4096, .f32⟩ : BufTy).Contents (Elt F)) (val_v60 x)
def val_v83 {F : FTy → Type} [FloatOps F] (x : RIn F) : (⟨S2x8x2x512x4096, .f32⟩ : BufTy).Contents (Elt F) :=
  (mulf : (⟨S2x8x2x512x4096, .f32⟩ : BufTy).Contents (Elt F) → (⟨S2x8x2x512x4096, .f32⟩ : BufTy).Contents (Elt F) → (⟨S2x8x2x512x4096, .f32⟩ : BufTy).Contents (Elt F)) (val_v81 x) (val_v82 x)
def val_v84 {F : FTy → Type} [FloatOps F] (x : RIn F) : (⟨S2x8x2x512x4096, .f32⟩ : BufTy).Contents (Elt F) :=
  (broadcastInDim S2x8x2x512x4096 ![0, 1, 2, 3, 4] bcast_S2x8x2x512x1_S2x8x2x512x4096_0_1_2_3_4 : (⟨S2x8x2x512x1, .f32⟩ : BufTy).Contents (Elt F) → (⟨S2x8x2x512x4096, .f32⟩ : BufTy).Contents (Elt F)) (val_v13 x)
def val_v85 {F : FTy → Type} [FloatOps F] (x : RIn F) : (⟨S2x8x2x512x4096, .f32⟩ : BufTy).Contents (Elt F) :=
  (subf : (⟨S2x8x2x512x4096, .f32⟩ : BufTy).Contents (Elt F) → (⟨S2x8x2x512x4096, .f32⟩ : BufTy).Contents (Elt F) → (⟨S2x8x2x512x4096, .f32⟩ : BufTy).Contents (Elt F)) (val_v83 x) (val_v84 x)
def val_v86 {F : FTy → Type} [FloatOps F] (x : RIn F) : (⟨S2x8x2x512x4096, .f32⟩ : BufTy).Contents (Elt F) :=
  (mulf : (⟨S2x8x2x512x4096, .f32⟩ : BufTy).Contents (Elt F) → (⟨S2x8x2x512x4096, .f32⟩ : BufTy).Contents (Elt F) → (⟨S2x8x2x512x4096, .f32⟩ : BufTy).Contents (Elt F)) (val_v77 x) (val_v85 x)
def val_v87 {F : FTy → Type} [FloatOps F] (x : RIn F) : (⟨S2x8x2x512x4096, .f32⟩ : BufTy).Contents (Elt F) :=
  (broadcastInDim S2x8x2x512x4096 ![0, 1, 2, 3, 4] bcast_S2x8x1x1x4096_S2x8x2x512x4096_0_1_2_3_4 : (⟨S2x8x1x1x4096, .f32⟩ : BufTy).Contents (Elt F) → (⟨S2x8x2x512x4096, .f32⟩ : BufTy).Contents (Elt F)) (val_v58 x)
def val_v88 {F : FTy → Type} [FloatOps F] (x : RIn F) : (⟨S2x8x2x512x4096, .f32⟩ : BufTy).Contents (Elt F) :=
  (mulf : (⟨S2x8x2x512x4096, .f32⟩ : BufTy).Contents (Elt F) → (⟨S2x8x2x512x4096, .f32⟩ : BufTy).Contents (Elt F) → (⟨S2x8x2x512x4096, .f32⟩ : BufTy).Contents (Elt F)) (val_v86 x) (val_v87 x)
def val_v89 {F : FTy → Type} [FloatOps F] (x : RIn F) : (⟨S2x8x2x512x4096, .bf16⟩ : BufTy).Contents (Elt F) :=
  ((truncf .bf16 · bitsLt_bf16_f32) : (⟨S2x8x2x512x4096, .f32⟩ : BufTy).Contents (Elt F) → (⟨S2x8x2x512x4096, .bf16⟩ : BufTy).Contents (Elt F)) (val_v88 x)
def val_v90 {F : FTy → Type} [FloatOps F] (x : RIn F) : (⟨S2x8x128x2x512, .f32⟩ : BufTy).Contents (Elt F) :=
  ((fun l r => Host.dotGeneral dot_S2x4096x8x128_S2x8x2x512x4096_S2x8x128x2x512_1_4_3_23_02_01 none l r) : (⟨S2x4096x8x128, .bf16⟩ : BufTy).Contents (Elt F) → (⟨S2x8x2x512x4096, .bf16⟩ : BufTy).Contents (Elt F) → (⟨S2x8x128x2x512, .f32⟩ : BufTy).Contents (Elt F)) x.v0_1 (val_v89 x)
def val_v91 {F : FTy → Type} [FloatOps F] (x : RIn F) : (⟨S2x512x8x2x128, .f32⟩ : BufTy).Contents (Elt F) :=
  ((transpose S2x512x8x2x128 [0, 4, 1, 3, 2] · transposes_S2x8x128x2x512_S2x512x8x2x128_0_4_1_3_2) : (⟨S2x8x128x2x512, .f32⟩ : BufTy).Contents (Elt F) → (⟨S2x512x8x2x128, .f32⟩ : BufTy).Contents (Elt F)) (val_v90 x)
def val_v92 {F : FTy → Type} [FloatOps F] (x : RIn F) : (⟨S2x512x8x2x128, .f32⟩ : BufTy).Contents (Elt F) :=
  (addf : (⟨S2x512x8x2x128, .f32⟩ : BufTy).Contents (Elt F) → (⟨S2x512x8x2x128, .f32⟩ : BufTy).Contents (Elt F) → (⟨S2x512x8x2x128, .f32⟩ : BufTy).Contents (Elt F)) (val_v31 x) (val_v91 x)
def val_v93 {F : FTy → Type} [FloatOps F] (x : RIn F) : (⟨S2x512x8x2x128, .f32⟩ : BufTy).Contents (Elt F) :=
  (addf : (⟨S2x512x8x2x128, .f32⟩ : BufTy).Contents (Elt F) → (⟨S2x512x8x2x128, .f32⟩ : BufTy).Contents (Elt F) → (⟨S2x512x8x2x128, .f32⟩ : BufTy).Contents (Elt F)) (val_v92 x) (val_v56 x)
def val_cst_5 {F : FTy → Type} [FloatOps F] (x : RIn F) : FVec F S_ .f32 :=
  (constant (F := F) S_ .f32 0x3DB504F3#32)
def val_v94 {F : FTy → Type} [FloatOps F] (x : RIn F) : (⟨S2x512x8x2x128, .f32⟩ : BufTy).Contents (Elt F) :=
  (broadcastInDim S2x512x8x2x128 ![] bcast_S_S2x512x8x2x128 : (⟨S_, .f32⟩ : BufTy).Contents (Elt F) → (⟨S2x512x8x2x128, .f32⟩ : BufTy).Contents (Elt F)) (val_cst_5 x)
def val_v95 {F : FTy → Type} [FloatOps F] (x : RIn F) : FVec F S2x512x8x2x128 .f32 :=
  mulf (val_v94 x : FVec F S2x512x8x2x128 .f32) (val_v93 x)
def val_v96 {F : FTy → Type} [FloatOps F] (x : RIn F) : FVec F S2x512x8x2x128 .bf16 :=
  truncf .bf16 (val_v95 x : FVec F S2x512x8x2x128 .f32) bitsLt_bf16_f32
def val_v97 {F : FTy → Type} [FloatOps F] (x : RIn F) : (⟨S2x8192x128, .bf16⟩ : BufTy).Contents (Elt F) :=
  (shapeCast S2x8192x128 (val_v96 x) shapeCasts_S2x512x8x2x128_S2x8192x128)
def sec0 {F : FTy → Type} [FloatOps F] : List (HloOp τ sig (Elt F)) :=
  [ StableHlo.unary main_v0_0 main_v1 ((extf .f32 · bitsLt_bf16_f32) : (⟨S2x512x16x128, .bf16⟩ : BufTy).Contents (Elt F) → (⟨S2x512x16x128, .f32⟩ : BufTy).Contents (Elt F)),
    StableHlo.unary main_arg11 main_v2 (broadcastInDim S2x512x16x1 ![0, 1, 2] bcast_S2x512x16_S2x512x16x1_0_1_2 : (⟨S2x512x16, .f32⟩ : BufTy).Contents (Elt F) → (⟨S2x512x16x1, .f32⟩ : BufTy).Contents (Elt F)),
    StableHlo.unary main_v2 main_v3 (broadcastInDim S2x512x16x128 ![0, 1, 2, 3] bcast_S2x512x16x1_S2x512x16x128_0_1_2_3 : (⟨S2x512x16x1, .f32⟩ : BufTy).Contents (Elt F) → (⟨S2x512x16x128, .f32⟩ : BufTy).Contents (Elt F)),
    StableHlo.binary main_v1 main_v3 main_v4 (mulf : (⟨S2x512x16x128, .f32⟩ : BufTy).Contents (Elt F) → (⟨S2x512x16x128, .f32⟩ : BufTy).Contents (Elt F) → (⟨S2x512x16x128, .f32⟩ : BufTy).Contents (Elt F)),
    StableHlo.unary main_arg13 main_v5 ((extf .f32 · bitsLt_bf16_f32) : (⟨S2x512x16x128, .bf16⟩ : BufTy).Contents (Elt F) → (⟨S2x512x16x128, .f32⟩ : BufTy).Contents (Elt F)),
    StableHlo.binary main_v4 main_v5 main_v6 (mulf : (⟨S2x512x16x128, .f32⟩ : BufTy).Contents (Elt F) → (⟨S2x512x16x128, .f32⟩ : BufTy).Contents (Elt F) → (⟨S2x512x16x128, .f32⟩ : BufTy).Contents (Elt F)),
    StableHlo.nullary main_cst (constant S_ .f32 0x00000000#32),
    StableHlo.binary main_v6 main_cst main_v7 ((fun x v => Host.reduceAdd x v reducesTo_S2x512x16x128_S2x512x16_d3 h_S_) : (⟨S2x512x16x128, .f32⟩ : BufTy).Contents (Elt F) → (⟨S_, .f32⟩ : BufTy).Contents (Elt F) → (⟨S2x512x16, .f32⟩ : BufTy).Contents (Elt F)),
    StableHlo.reshape main_arg0 main_v8 (rfl : (.bf16 : EltTy) = .bf16) shapeCasts_S2x512x16x128_S2x512x8x2x128,
    StableHlo.reshape main_v0_0 main_v9 (rfl : (.bf16 : EltTy) = .bf16) shapeCasts_S2x512x16x128_S2x512x8x2x128,
    StableHlo.unary main_arg11 main_v10 ((transpose S2x16x512 [0, 2, 1] · transposes_S2x512x16_S2x16x512_0_2_1) : (⟨S2x512x16, .f32⟩ : BufTy).Contents (Elt F) → (⟨S2x16x512, .f32⟩ : BufTy).Contents (Elt F)),
    StableHlo.reshape main_v10 main_v11 (rfl : (.f32 : EltTy) = .f32) shapeCasts_S2x16x512_S2x8x2x512x1 ]
def sec1 {F : FTy → Type} [FloatOps F] : List (HloOp τ sig (Elt F)) :=
  [ StableHlo.unary main_v7 main_v12 ((transpose S2x16x512 [0, 2, 1] · transposes_S2x512x16_S2x16x512_0_2_1) : (⟨S2x512x16, .f32⟩ : BufTy).Contents (Elt F) → (⟨S2x16x512, .f32⟩ : BufTy).Contents (Elt F)),
    StableHlo.reshape main_v12 main_v13 (rfl : (.f32 : EltTy) = .f32) shapeCasts_S2x16x512_S2x8x2x512x1,
    StableHlo.reshape main_arg12 main_v14 (rfl : (.f32 : EltTy) = .f32) shapeCasts_S2x16x512_S2x8x2x512x1,
    StableHlo.binary main_arg3 main_v8 main_v15 ((fun l r => Host.dotGeneral dot_S20x8x128_S2x512x8x2x128_S8x20x2x512x2_2_4_0_013_1_2 none l r) : (⟨S20x8x128, .bf16⟩ : BufTy).Contents (Elt F) → (⟨S2x512x8x2x128, .bf16⟩ : BufTy).Contents (Elt F) → (⟨S8x20x2x512x2, .f32⟩ : BufTy).Contents (Elt F)),
    StableHlo.unary main_v15 main_v16 ((transpose S2x8x2x512x20 [2, 0, 4, 3, 1] · transposes_S8x20x2x512x2_S2x8x2x512x20_2_0_4_3_1) : (⟨S8x20x2x512x2, .f32⟩ : BufTy).Contents (Elt F) → (⟨S2x8x2x512x20, .f32⟩ : BufTy).Contents (Elt F)),
    StableHlo.nullary main_cst_0 (constant S_ .f32 0x3DB504F3#32),
    StableHlo.unary main_cst_0 main_v17 (broadcastInDim S2x8x2x512x20 ![] bcast_S_S2x8x2x512x20 : (⟨S_, .f32⟩ : BufTy).Contents (Elt F) → (⟨S2x8x2x512x20, .f32⟩ : BufTy).Contents (Elt F)),
    StableHlo.binary main_v17 main_v16 main_v18 (mulf : (⟨S2x8x2x512x20, .f32⟩ : BufTy).Contents (Elt F) → (⟨S2x8x2x512x20, .f32⟩ : BufTy).Contents (Elt F) → (⟨S2x8x2x512x20, .f32⟩ : BufTy).Contents (Elt F)),
    StableHlo.unary main_v14 main_v19 (broadcastInDim S2x8x2x512x20 ![0, 1, 2, 3, 4] bcast_S2x8x2x512x1_S2x8x2x512x20_0_1_2_3_4 : (⟨S2x8x2x512x1, .f32⟩ : BufTy).Contents (Elt F) → (⟨S2x8x2x512x20, .f32⟩ : BufTy).Contents (Elt F)),
    StableHlo.binary main_v18 main_v19 main_v20 (subf : (⟨S2x8x2x512x20, .f32⟩ : BufTy).Contents (Elt F) → (⟨S2x8x2x512x20, .f32⟩ : BufTy).Contents (Elt F) → (⟨S2x8x2x512x20, .f32⟩ : BufTy).Contents (Elt F)),
    StableHlo.unary main_v20 main_v21 (Host.exp : (⟨S2x8x2x512x20, .f32⟩ : BufTy).Contents (Elt F) → (⟨S2x8x2x512x20, .f32⟩ : BufTy).Contents (Elt F)),
    StableHlo.binary main_arg4 main_v9 main_v22 ((fun l r => Host.dotGeneral dot_S20x8x128_S2x512x8x2x128_S8x20x2x512x2_2_4_0_013_1_2 none l r) : (⟨S20x8x128, .bf16⟩ : BufTy).Contents (Elt F) → (⟨S2x512x8x2x128, .bf16⟩ : BufTy).Contents (Elt F) → (⟨S8x20x2x512x2, .f32⟩ : BufTy).Contents (Elt F)) ]
def sec2 {F : FTy → Type} [FloatOps F] : List (HloOp τ sig (Elt F)) :=
  [ StableHlo.unary main_v22 main_v23 ((transpose S2x8x2x512x20 [2, 0, 4, 3, 1] · transposes_S8x20x2x512x2_S2x8x2x512x20_2_0_4_3_1) : (⟨S8x20x2x512x2, .f32⟩ : BufTy).Contents (Elt F) → (⟨S2x8x2x512x20, .f32⟩ : BufTy).Contents (Elt F)),
    StableHlo.unary main_v11 main_v24 (broadcastInDim S2x8x2x512x20 ![0, 1, 2, 3, 4] bcast_S2x8x2x512x1_S2x8x2x512x20_0_1_2_3_4 : (⟨S2x8x2x512x1, .f32⟩ : BufTy).Contents (Elt F) → (⟨S2x8x2x512x20, .f32⟩ : BufTy).Contents (Elt F)),
    StableHlo.binary main_v23 main_v24 main_v25 (mulf : (⟨S2x8x2x512x20, .f32⟩ : BufTy).Contents (Elt F) → (⟨S2x8x2x512x20, .f32⟩ : BufTy).Contents (Elt F) → (⟨S2x8x2x512x20, .f32⟩ : BufTy).Contents (Elt F)),
    StableHlo.unary main_v13 main_v26 (broadcastInDim S2x8x2x512x20 ![0, 1, 2, 3, 4] bcast_S2x8x2x512x1_S2x8x2x512x20_0_1_2_3_4 : (⟨S2x8x2x512x1, .f32⟩ : BufTy).Contents (Elt F) → (⟨S2x8x2x512x20, .f32⟩ : BufTy).Contents (Elt F)),
    StableHlo.binary main_v25 main_v26 main_v27 (subf : (⟨S2x8x2x512x20, .f32⟩ : BufTy).Contents (Elt F) → (⟨S2x8x2x512x20, .f32⟩ : BufTy).Contents (Elt F) → (⟨S2x8x2x512x20, .f32⟩ : BufTy).Contents (Elt F)),
    StableHlo.binary main_v21 main_v27 main_v28 (mulf : (⟨S2x8x2x512x20, .f32⟩ : BufTy).Contents (Elt F) → (⟨S2x8x2x512x20, .f32⟩ : BufTy).Contents (Elt F) → (⟨S2x8x2x512x20, .f32⟩ : BufTy).Contents (Elt F)),
    StableHlo.unary main_v28 main_v29 ((truncf .bf16 · bitsLt_bf16_f32) : (⟨S2x8x2x512x20, .f32⟩ : BufTy).Contents (Elt F) → (⟨S2x8x2x512x20, .bf16⟩ : BufTy).Contents (Elt F)),
    StableHlo.binary main_arg3 main_v29 main_v30 ((fun l r => Host.dotGeneral dot_S20x8x128_S2x8x2x512x20_S8x128x2x2x512_0_4_2_023_1_1 none l r) : (⟨S20x8x128, .bf16⟩ : BufTy).Contents (Elt F) → (⟨S2x8x2x512x20, .bf16⟩ : BufTy).Contents (Elt F) → (⟨S8x128x2x2x512, .f32⟩ : BufTy).Contents (Elt F)),
    StableHlo.unary main_v30 main_v31 ((transpose S2x512x8x2x128 [2, 4, 0, 3, 1] · transposes_S8x128x2x2x512_S2x512x8x2x128_2_4_0_3_1) : (⟨S8x128x2x2x512, .f32⟩ : BufTy).Contents (Elt F) → (⟨S2x512x8x2x128, .f32⟩ : BufTy).Contents (Elt F)),
    StableHlo.binary main_arg1 main_v8 main_v32 ((fun l r => Host.dotGeneral dot_S2x512x8x128_S2x512x8x2x128_S2x8x512x512x2_3_4_1_13_02_02 none l r) : (⟨S2x512x8x128, .bf16⟩ : BufTy).Contents (Elt F) → (⟨S2x512x8x2x128, .bf16⟩ : BufTy).Contents (Elt F) → (⟨S2x8x512x512x2, .f32⟩ : BufTy).Contents (Elt F)),
    StableHlo.unary main_v32 main_v33 ((transpose S2x8x2x512x512 [0, 1, 4, 3, 2] · transposes_S2x8x512x512x2_S2x8x2x512x512_0_1_4_3_2) : (⟨S2x8x512x512x2, .f32⟩ : BufTy).Contents (Elt F) → (⟨S2x8x2x512x512, .f32⟩ : BufTy).Contents (Elt F)),
    StableHlo.nullary main_cst_1 (constant S_ .f32 0x3DB504F3#32) ]
def sec3 {F : FTy → Type} [FloatOps F] : List (HloOp τ sig (Elt F)) :=
  [ StableHlo.unary main_cst_1 main_v34 (broadcastInDim S2x8x2x512x512 ![] bcast_S_S2x8x2x512x512 : (⟨S_, .f32⟩ : BufTy).Contents (Elt F) → (⟨S2x8x2x512x512, .f32⟩ : BufTy).Contents (Elt F)),
    StableHlo.binary main_v34 main_v33 main_v35 (mulf : (⟨S2x8x2x512x512, .f32⟩ : BufTy).Contents (Elt F) → (⟨S2x8x2x512x512, .f32⟩ : BufTy).Contents (Elt F) → (⟨S2x8x2x512x512, .f32⟩ : BufTy).Contents (Elt F)),
    StableHlo.nullary main_v36 (iotaInDim S512 32 0),
    StableHlo.unary main_v36 main_v37 (broadcastInDim S512x1 ![0] bcast_S512_S512x1_0 : (⟨S512, .i32⟩ : BufTy).Contents (Elt F) → (⟨S512x1, .i32⟩ : BufTy).Contents (Elt F)),
    StableHlo.nullary main_v38 (iotaInDim S512 32 0),
    StableHlo.unary main_v38 main_v39 (broadcastInDim S1x512 ![1] bcast_S512_S1x512_1 : (⟨S512, .i32⟩ : BufTy).Contents (Elt F) → (⟨S1x512, .i32⟩ : BufTy).Contents (Elt F)),
    StableHlo.unary main_v37 main_v40 (broadcastInDim S512x512 ![0, 1] bcast_S512x1_S512x512_0_1 : (⟨S512x1, .i32⟩ : BufTy).Contents (Elt F) → (⟨S512x512, .i32⟩ : BufTy).Contents (Elt F)),
    StableHlo.unary main_v39 main_v41 (broadcastInDim S512x512 ![0, 1] bcast_S1x512_S512x512_0_1 : (⟨S1x512, .i32⟩ : BufTy).Contents (Elt F) → (⟨S512x512, .i32⟩ : BufTy).Contents (Elt F)),
    StableHlo.binary main_v40 main_v41 main_v42 (cmpi .sge : (⟨S512x512, .i32⟩ : BufTy).Contents (Elt F) → (⟨S512x512, .i32⟩ : BufTy).Contents (Elt F) → (⟨S512x512, .i1⟩ : BufTy).Contents (Elt F)),
    StableHlo.nullary main_cst_2 (constant S_ .f32 0xFF800000#32),
    StableHlo.TRef.unary (.of main_cst_2 : StableHlo.TRef sig ⟨S_, .f32⟩) (.of main_call0_v0 : StableHlo.TRef sig ⟨S_, .f32⟩) id,
    StableHlo.TRef.unary (.of main_v42 : StableHlo.TRef sig ⟨S512x512, .i1⟩) (.of main_call0_v1 : StableHlo.TRef sig ⟨S2x8x2x512x512, .i1⟩) (broadcastInDim S2x8x2x512x512 ![3, 4] bcast_S512x512_S2x8x2x512x512_3_4) ]
def sec4 {F : FTy → Type} [FloatOps F] : List (HloOp τ sig (Elt F)) :=
  [ StableHlo.TRef.unary (.of main_call0_v0 : StableHlo.TRef sig ⟨S_, .f32⟩) (.of main_call0_v2 : StableHlo.TRef sig ⟨S2x8x2x512x512, .f32⟩) (broadcastInDim S2x8x2x512x512 ![] bcast_S_S2x8x2x512x512),
    StableHlo.TRef.ternary (.of main_call0_v1 : StableHlo.TRef sig ⟨S2x8x2x512x512, .i1⟩) (.of main_v35 : StableHlo.TRef sig ⟨S2x8x2x512x512, .f32⟩) (.of main_call0_v2 : StableHlo.TRef sig ⟨S2x8x2x512x512, .f32⟩) (.of main_v43 : StableHlo.TRef sig ⟨S2x8x2x512x512, .f32⟩) select,
    StableHlo.unary main_v14 main_v44 (broadcastInDim S2x8x2x512x512 ![0, 1, 2, 3, 4] bcast_S2x8x2x512x1_S2x8x2x512x512_0_1_2_3_4 : (⟨S2x8x2x512x1, .f32⟩ : BufTy).Contents (Elt F) → (⟨S2x8x2x512x512, .f32⟩ : BufTy).Contents (Elt F)),
    StableHlo.binary main_v43 main_v44 main_v45 (subf : (⟨S2x8x2x512x512, .f32⟩ : BufTy).Contents (Elt F) → (⟨S2x8x2x512x512, .f32⟩ : BufTy).Contents (Elt F) → (⟨S2x8x2x512x512, .f32⟩ : BufTy).Contents (Elt F)),
    StableHlo.unary main_v45 main_v46 (Host.exp : (⟨S2x8x2x512x512, .f32⟩ : BufTy).Contents (Elt F) → (⟨S2x8x2x512x512, .f32⟩ : BufTy).Contents (Elt F)),
    StableHlo.binary main_arg2 main_v9 main_v47 ((fun l r => Host.dotGeneral dot_S2x512x8x128_S2x512x8x2x128_S2x8x512x512x2_3_4_1_13_02_02 none l r) : (⟨S2x512x8x128, .bf16⟩ : BufTy).Contents (Elt F) → (⟨S2x512x8x2x128, .bf16⟩ : BufTy).Contents (Elt F) → (⟨S2x8x512x512x2, .f32⟩ : BufTy).Contents (Elt F)),
    StableHlo.unary main_v47 main_v48 ((transpose S2x8x2x512x512 [0, 1, 4, 3, 2] · transposes_S2x8x512x512x2_S2x8x2x512x512_0_1_4_3_2) : (⟨S2x8x512x512x2, .f32⟩ : BufTy).Contents (Elt F) → (⟨S2x8x2x512x512, .f32⟩ : BufTy).Contents (Elt F)),
    StableHlo.unary main_v11 main_v49 (broadcastInDim S2x8x2x512x512 ![0, 1, 2, 3, 4] bcast_S2x8x2x512x1_S2x8x2x512x512_0_1_2_3_4 : (⟨S2x8x2x512x1, .f32⟩ : BufTy).Contents (Elt F) → (⟨S2x8x2x512x512, .f32⟩ : BufTy).Contents (Elt F)),
    StableHlo.binary main_v48 main_v49 main_v50 (mulf : (⟨S2x8x2x512x512, .f32⟩ : BufTy).Contents (Elt F) → (⟨S2x8x2x512x512, .f32⟩ : BufTy).Contents (Elt F) → (⟨S2x8x2x512x512, .f32⟩ : BufTy).Contents (Elt F)),
    StableHlo.unary main_v13 main_v51 (broadcastInDim S2x8x2x512x512 ![0, 1, 2, 3, 4] bcast_S2x8x2x512x1_S2x8x2x512x512_0_1_2_3_4 : (⟨S2x8x2x512x1, .f32⟩ : BufTy).Contents (Elt F) → (⟨S2x8x2x512x512, .f32⟩ : BufTy).Contents (Elt F)),
    StableHlo.binary main_v50 main_v51 main_v52 (subf : (⟨S2x8x2x512x512, .f32⟩ : BufTy).Contents (Elt F) → (⟨S2x8x2x512x512, .f32⟩ : BufTy).Contents (Elt F) → (⟨S2x8x2x512x512, .f32⟩ : BufTy).Contents (Elt F)),
    StableHlo.binary main_v46 main_v52 main_v53 (mulf : (⟨S2x8x2x512x512, .f32⟩ : BufTy).Contents (Elt F) → (⟨S2x8x2x512x512, .f32⟩ : BufTy).Contents (Elt F) → (⟨S2x8x2x512x512, .f32⟩ : BufTy).Contents (Elt F)) ]
def sec5 {F : FTy → Type} [FloatOps F] : List (HloOp τ sig (Elt F)) :=
  [ StableHlo.unary main_v53 main_v54 ((truncf .bf16 · bitsLt_bf16_f32) : (⟨S2x8x2x512x512, .f32⟩ : BufTy).Contents (Elt F) → (⟨S2x8x2x512x512, .bf16⟩ : BufTy).Contents (Elt F)),
    StableHlo.binary main_arg1 main_v54 main_v55 ((fun l r => Host.dotGeneral dot_S2x512x8x128_S2x8x2x512x512_S2x8x128x2x512_1_4_3_23_02_01 none l r) : (⟨S2x512x8x128, .bf16⟩ : BufTy).Contents (Elt F) → (⟨S2x8x2x512x512, .bf16⟩ : BufTy).Contents (Elt F) → (⟨S2x8x128x2x512, .f32⟩ : BufTy).Contents (Elt F)),
    StableHlo.unary main_v55 main_v56 ((transpose S2x512x8x2x128 [0, 4, 1, 3, 2] · transposes_S2x8x128x2x512_S2x512x8x2x128_0_4_1_3_2) : (⟨S2x8x128x2x512, .f32⟩ : BufTy).Contents (Elt F) → (⟨S2x512x8x2x128, .f32⟩ : BufTy).Contents (Elt F)),
    StableHlo.unary main_arg6 main_v57 ((transpose S2x8x4096 [0, 2, 1] · transposes_S2x4096x8_S2x8x4096_0_2_1) : (⟨S2x4096x8, .f32⟩ : BufTy).Contents (Elt F) → (⟨S2x8x4096, .f32⟩ : BufTy).Contents (Elt F)),
    StableHlo.reshape main_v57 main_v58 (rfl : (.f32 : EltTy) = .f32) shapeCasts_S2x8x4096_S2x8x1x1x4096,
    StableHlo.unary main_arg8 main_v59 ((transpose S2x8x4096 [0, 2, 1] · transposes_S2x4096x8_S2x8x4096_0_2_1) : (⟨S2x4096x8, .f32⟩ : BufTy).Contents (Elt F) → (⟨S2x8x4096, .f32⟩ : BufTy).Contents (Elt F)),
    StableHlo.reshape main_v59 main_v60 (rfl : (.f32 : EltTy) = .f32) shapeCasts_S2x8x4096_S2x8x1x1x4096,
    StableHlo.nullary main_v61 (iotaInDim S4096 32 0),
    StableHlo.unary main_v61 main_v62 (broadcastInDim S1x4096 ![1] bcast_S4096_S1x4096_1 : (⟨S4096, .i32⟩ : BufTy).Contents (Elt F) → (⟨S1x4096, .i32⟩ : BufTy).Contents (Elt F)),
    StableHlo.unary main_arg9 main_v63 (broadcastInDim S2x1 ![0] bcast_S2_S2x1_0 : (⟨S2, .i32⟩ : BufTy).Contents (Elt F) → (⟨S2x1, .i32⟩ : BufTy).Contents (Elt F)),
    StableHlo.unary main_v62 main_v64 (broadcastInDim S2x4096 ![0, 1] bcast_S1x4096_S2x4096_0_1 : (⟨S1x4096, .i32⟩ : BufTy).Contents (Elt F) → (⟨S2x4096, .i32⟩ : BufTy).Contents (Elt F)),
    StableHlo.unary main_v63 main_v65 (broadcastInDim S2x4096 ![0, 1] bcast_S2x1_S2x4096_0_1 : (⟨S2x1, .i32⟩ : BufTy).Contents (Elt F) → (⟨S2x4096, .i32⟩ : BufTy).Contents (Elt F)) ]
def sec6 {F : FTy → Type} [FloatOps F] : List (HloOp τ sig (Elt F)) :=
  [ StableHlo.binary main_v64 main_v65 main_v66 (cmpi .slt : (⟨S2x4096, .i32⟩ : BufTy).Contents (Elt F) → (⟨S2x4096, .i32⟩ : BufTy).Contents (Elt F) → (⟨S2x4096, .i1⟩ : BufTy).Contents (Elt F)),
    StableHlo.reshape main_v66 main_v67 (rfl : (.i1 : EltTy) = .i1) shapeCasts_S2x4096_S2x1x1x1x4096,
    StableHlo.binary main_v0_1 main_v8 main_v68 ((fun l r => Host.dotGeneral dot_S2x4096x8x128_S2x512x8x2x128_S2x8x4096x512x2_3_4_1_13_02_02 none l r) : (⟨S2x4096x8x128, .bf16⟩ : BufTy).Contents (Elt F) → (⟨S2x512x8x2x128, .bf16⟩ : BufTy).Contents (Elt F) → (⟨S2x8x4096x512x2, .f32⟩ : BufTy).Contents (Elt F)),
    StableHlo.unary main_v68 main_v69 ((transpose S2x8x2x512x4096 [0, 1, 4, 3, 2] · transposes_S2x8x4096x512x2_S2x8x2x512x4096_0_1_4_3_2) : (⟨S2x8x4096x512x2, .f32⟩ : BufTy).Contents (Elt F) → (⟨S2x8x2x512x4096, .f32⟩ : BufTy).Contents (Elt F)),
    StableHlo.nullary main_cst_3 (constant S_ .f32 0x3DB504F3#32),
    StableHlo.unary main_cst_3 main_v70 (broadcastInDim S2x8x2x512x4096 ![] bcast_S_S2x8x2x512x4096 : (⟨S_, .f32⟩ : BufTy).Contents (Elt F) → (⟨S2x8x2x512x4096, .f32⟩ : BufTy).Contents (Elt F)),
    StableHlo.binary main_v70 main_v69 main_v71 (mulf : (⟨S2x8x2x512x4096, .f32⟩ : BufTy).Contents (Elt F) → (⟨S2x8x2x512x4096, .f32⟩ : BufTy).Contents (Elt F) → (⟨S2x8x2x512x4096, .f32⟩ : BufTy).Contents (Elt F)),
    StableHlo.unary main_v58 main_v72 (broadcastInDim S2x8x2x512x4096 ![0, 1, 2, 3, 4] bcast_S2x8x1x1x4096_S2x8x2x512x4096_0_1_2_3_4 : (⟨S2x8x1x1x4096, .f32⟩ : BufTy).Contents (Elt F) → (⟨S2x8x2x512x4096, .f32⟩ : BufTy).Contents (Elt F)),
    StableHlo.binary main_v71 main_v72 main_v73 (mulf : (⟨S2x8x2x512x4096, .f32⟩ : BufTy).Contents (Elt F) → (⟨S2x8x2x512x4096, .f32⟩ : BufTy).Contents (Elt F) → (⟨S2x8x2x512x4096, .f32⟩ : BufTy).Contents (Elt F)),
    StableHlo.nullary main_cst_4 (constant S_ .f32 0xFF800000#32),
    StableHlo.TRef.unary (.of main_cst_4 : StableHlo.TRef sig ⟨S_, .f32⟩) (.of main_call1_v0 : StableHlo.TRef sig ⟨S_, .f32⟩) id,
    StableHlo.TRef.unary (.of main_v67 : StableHlo.TRef sig ⟨S2x1x1x1x4096, .i1⟩) (.of main_call1_v1 : StableHlo.TRef sig ⟨S2x8x2x512x4096, .i1⟩) (broadcastInDim S2x8x2x512x4096 ![0, 1, 2, 3, 4] bcast_S2x1x1x1x4096_S2x8x2x512x4096_0_1_2_3_4) ]
def sec7 {F : FTy → Type} [FloatOps F] : List (HloOp τ sig (Elt F)) :=
  [ StableHlo.TRef.unary (.of main_call1_v0 : StableHlo.TRef sig ⟨S_, .f32⟩) (.of main_call1_v2 : StableHlo.TRef sig ⟨S2x8x2x512x4096, .f32⟩) (broadcastInDim S2x8x2x512x4096 ![] bcast_S_S2x8x2x512x4096),
    StableHlo.TRef.ternary (.of main_call1_v1 : StableHlo.TRef sig ⟨S2x8x2x512x4096, .i1⟩) (.of main_v73 : StableHlo.TRef sig ⟨S2x8x2x512x4096, .f32⟩) (.of main_call1_v2 : StableHlo.TRef sig ⟨S2x8x2x512x4096, .f32⟩) (.of main_v74 : StableHlo.TRef sig ⟨S2x8x2x512x4096, .f32⟩) select,
    StableHlo.unary main_v14 main_v75 (broadcastInDim S2x8x2x512x4096 ![0, 1, 2, 3, 4] bcast_S2x8x2x512x1_S2x8x2x512x4096_0_1_2_3_4 : (⟨S2x8x2x512x1, .f32⟩ : BufTy).Contents (Elt F) → (⟨S2x8x2x512x4096, .f32⟩ : BufTy).Contents (Elt F)),
    StableHlo.binary main_v74 main_v75 main_v76 (subf : (⟨S2x8x2x512x4096, .f32⟩ : BufTy).Contents (Elt F) → (⟨S2x8x2x512x4096, .f32⟩ : BufTy).Contents (Elt F) → (⟨S2x8x2x512x4096, .f32⟩ : BufTy).Contents (Elt F)),
    StableHlo.unary main_v76 main_v77 (Host.exp : (⟨S2x8x2x512x4096, .f32⟩ : BufTy).Contents (Elt F) → (⟨S2x8x2x512x4096, .f32⟩ : BufTy).Contents (Elt F)),
    StableHlo.binary main_v0_2 main_v9 main_v78 ((fun l r => Host.dotGeneral dot_S2x4096x8x128_S2x512x8x2x128_S2x8x4096x512x2_3_4_1_13_02_02 none l r) : (⟨S2x4096x8x128, .bf16⟩ : BufTy).Contents (Elt F) → (⟨S2x512x8x2x128, .bf16⟩ : BufTy).Contents (Elt F) → (⟨S2x8x4096x512x2, .f32⟩ : BufTy).Contents (Elt F)),
    StableHlo.unary main_v78 main_v79 ((transpose S2x8x2x512x4096 [0, 1, 4, 3, 2] · transposes_S2x8x4096x512x2_S2x8x2x512x4096_0_1_4_3_2) : (⟨S2x8x4096x512x2, .f32⟩ : BufTy).Contents (Elt F) → (⟨S2x8x2x512x4096, .f32⟩ : BufTy).Contents (Elt F)),
    StableHlo.unary main_v11 main_v80 (broadcastInDim S2x8x2x512x4096 ![0, 1, 2, 3, 4] bcast_S2x8x2x512x1_S2x8x2x512x4096_0_1_2_3_4 : (⟨S2x8x2x512x1, .f32⟩ : BufTy).Contents (Elt F) → (⟨S2x8x2x512x4096, .f32⟩ : BufTy).Contents (Elt F)),
    StableHlo.binary main_v79 main_v80 main_v81 (mulf : (⟨S2x8x2x512x4096, .f32⟩ : BufTy).Contents (Elt F) → (⟨S2x8x2x512x4096, .f32⟩ : BufTy).Contents (Elt F) → (⟨S2x8x2x512x4096, .f32⟩ : BufTy).Contents (Elt F)),
    StableHlo.unary main_v60 main_v82 (broadcastInDim S2x8x2x512x4096 ![0, 1, 2, 3, 4] bcast_S2x8x1x1x4096_S2x8x2x512x4096_0_1_2_3_4 : (⟨S2x8x1x1x4096, .f32⟩ : BufTy).Contents (Elt F) → (⟨S2x8x2x512x4096, .f32⟩ : BufTy).Contents (Elt F)),
    StableHlo.binary main_v81 main_v82 main_v83 (mulf : (⟨S2x8x2x512x4096, .f32⟩ : BufTy).Contents (Elt F) → (⟨S2x8x2x512x4096, .f32⟩ : BufTy).Contents (Elt F) → (⟨S2x8x2x512x4096, .f32⟩ : BufTy).Contents (Elt F)),
    StableHlo.unary main_v13 main_v84 (broadcastInDim S2x8x2x512x4096 ![0, 1, 2, 3, 4] bcast_S2x8x2x512x1_S2x8x2x512x4096_0_1_2_3_4 : (⟨S2x8x2x512x1, .f32⟩ : BufTy).Contents (Elt F) → (⟨S2x8x2x512x4096, .f32⟩ : BufTy).Contents (Elt F)) ]
def sec8 {F : FTy → Type} [FloatOps F] : List (HloOp τ sig (Elt F)) :=
  [ StableHlo.binary main_v83 main_v84 main_v85 (subf : (⟨S2x8x2x512x4096, .f32⟩ : BufTy).Contents (Elt F) → (⟨S2x8x2x512x4096, .f32⟩ : BufTy).Contents (Elt F) → (⟨S2x8x2x512x4096, .f32⟩ : BufTy).Contents (Elt F)),
    StableHlo.binary main_v77 main_v85 main_v86 (mulf : (⟨S2x8x2x512x4096, .f32⟩ : BufTy).Contents (Elt F) → (⟨S2x8x2x512x4096, .f32⟩ : BufTy).Contents (Elt F) → (⟨S2x8x2x512x4096, .f32⟩ : BufTy).Contents (Elt F)),
    StableHlo.unary main_v58 main_v87 (broadcastInDim S2x8x2x512x4096 ![0, 1, 2, 3, 4] bcast_S2x8x1x1x4096_S2x8x2x512x4096_0_1_2_3_4 : (⟨S2x8x1x1x4096, .f32⟩ : BufTy).Contents (Elt F) → (⟨S2x8x2x512x4096, .f32⟩ : BufTy).Contents (Elt F)),
    StableHlo.binary main_v86 main_v87 main_v88 (mulf : (⟨S2x8x2x512x4096, .f32⟩ : BufTy).Contents (Elt F) → (⟨S2x8x2x512x4096, .f32⟩ : BufTy).Contents (Elt F) → (⟨S2x8x2x512x4096, .f32⟩ : BufTy).Contents (Elt F)),
    StableHlo.unary main_v88 main_v89 ((truncf .bf16 · bitsLt_bf16_f32) : (⟨S2x8x2x512x4096, .f32⟩ : BufTy).Contents (Elt F) → (⟨S2x8x2x512x4096, .bf16⟩ : BufTy).Contents (Elt F)),
    StableHlo.binary main_v0_1 main_v89 main_v90 ((fun l r => Host.dotGeneral dot_S2x4096x8x128_S2x8x2x512x4096_S2x8x128x2x512_1_4_3_23_02_01 none l r) : (⟨S2x4096x8x128, .bf16⟩ : BufTy).Contents (Elt F) → (⟨S2x8x2x512x4096, .bf16⟩ : BufTy).Contents (Elt F) → (⟨S2x8x128x2x512, .f32⟩ : BufTy).Contents (Elt F)),
    StableHlo.unary main_v90 main_v91 ((transpose S2x512x8x2x128 [0, 4, 1, 3, 2] · transposes_S2x8x128x2x512_S2x512x8x2x128_0_4_1_3_2) : (⟨S2x8x128x2x512, .f32⟩ : BufTy).Contents (Elt F) → (⟨S2x512x8x2x128, .f32⟩ : BufTy).Contents (Elt F)),
    StableHlo.binary main_v31 main_v91 main_v92 (addf : (⟨S2x512x8x2x128, .f32⟩ : BufTy).Contents (Elt F) → (⟨S2x512x8x2x128, .f32⟩ : BufTy).Contents (Elt F) → (⟨S2x512x8x2x128, .f32⟩ : BufTy).Contents (Elt F)),
    StableHlo.binary main_v92 main_v56 main_v93 (addf : (⟨S2x512x8x2x128, .f32⟩ : BufTy).Contents (Elt F) → (⟨S2x512x8x2x128, .f32⟩ : BufTy).Contents (Elt F) → (⟨S2x512x8x2x128, .f32⟩ : BufTy).Contents (Elt F)),
    StableHlo.nullary main_cst_5 (constant S_ .f32 0x3DB504F3#32),
    StableHlo.unary main_cst_5 main_v94 (broadcastInDim S2x512x8x2x128 ![] bcast_S_S2x512x8x2x128 : (⟨S_, .f32⟩ : BufTy).Contents (Elt F) → (⟨S2x512x8x2x128, .f32⟩ : BufTy).Contents (Elt F)),
    StableHlo.binary main_v94 main_v93 main_v95 (mulf : (⟨S2x512x8x2x128, .f32⟩ : BufTy).Contents (Elt F) → (⟨S2x512x8x2x128, .f32⟩ : BufTy).Contents (Elt F) → (⟨S2x512x8x2x128, .f32⟩ : BufTy).Contents (Elt F)) ]
def sec9 {F : FTy → Type} [FloatOps F] : List (HloOp τ sig (Elt F)) :=
  [ StableHlo.unary main_v95 main_v96 ((truncf .bf16 · bitsLt_bf16_f32) : (⟨S2x512x8x2x128, .f32⟩ : BufTy).Contents (Elt F) → (⟨S2x512x8x2x128, .bf16⟩ : BufTy).Contents (Elt F)),
    StableHlo.reshape main_v96 main_v97 (rfl : (.bf16 : EltTy) = .bf16) shapeCasts_S2x512x8x2x128_S2x8192x128 ]
structure Live0 (x : RIn Ideal) (V : Valuation τ sig (Elt Ideal)) : Prop where
  v0_0 : V (Proc.devRef (τ := τ) .tc main_v0_0) = x.v0_0
  v0_1 : V (Proc.devRef (τ := τ) .tc main_v0_1) = x.v0_1
  v0_2 : V (Proc.devRef (τ := τ) .tc main_v0_2) = x.v0_2
  arg0 : V (Proc.devRef (τ := τ) .tc main_arg0) = x.arg0
  arg1 : V (Proc.devRef (τ := τ) .tc main_arg1) = x.arg1
  arg2 : V (Proc.devRef (τ := τ) .tc main_arg2) = x.arg2
  arg3 : V (Proc.devRef (τ := τ) .tc main_arg3) = x.arg3
  arg4 : V (Proc.devRef (τ := τ) .tc main_arg4) = x.arg4
  arg6 : V (Proc.devRef (τ := τ) .tc main_arg6) = x.arg6
  arg8 : V (Proc.devRef (τ := τ) .tc main_arg8) = x.arg8
  arg9 : V (Proc.devRef (τ := τ) .tc main_arg9) = x.arg9
  arg11 : V (Proc.devRef (τ := τ) .tc main_arg11) = x.arg11
  arg12 : V (Proc.devRef (τ := τ) .tc main_arg12) = x.arg12
  arg13 : V (Proc.devRef (τ := τ) .tc main_arg13) = x.arg13
structure Live1 (x : RIn Ideal) (V : Valuation τ sig (Elt Ideal)) : Prop where
  v0_1 : V (Proc.devRef (τ := τ) .tc main_v0_1) = x.v0_1
  v0_2 : V (Proc.devRef (τ := τ) .tc main_v0_2) = x.v0_2
  arg1 : V (Proc.devRef (τ := τ) .tc main_arg1) = x.arg1
  arg2 : V (Proc.devRef (τ := τ) .tc main_arg2) = x.arg2
  arg3 : V (Proc.devRef (τ := τ) .tc main_arg3) = x.arg3
  arg4 : V (Proc.devRef (τ := τ) .tc main_arg4) = x.arg4
  arg6 : V (Proc.devRef (τ := τ) .tc main_arg6) = x.arg6
  arg8 : V (Proc.devRef (τ := τ) .tc main_arg8) = x.arg8
  arg9 : V (Proc.devRef (τ := τ) .tc main_arg9) = x.arg9
  arg12 : V (Proc.devRef (τ := τ) .tc main_arg12) = x.arg12
  v7 : V (Proc.devRef (τ := τ) .tc main_v7) = val_v7 x
  v8 : V (Proc.devRef (τ := τ) .tc main_v8) = val_v8 x
  v9 : V (Proc.devRef (τ := τ) .tc main_v9) = val_v9 x
  v11 : V (Proc.devRef (τ := τ) .tc main_v11) = val_v11 x
structure Live2 (x : RIn Ideal) (V : Valuation τ sig (Elt Ideal)) : Prop where
  v0_1 : V (Proc.devRef (τ := τ) .tc main_v0_1) = x.v0_1
  v0_2 : V (Proc.devRef (τ := τ) .tc main_v0_2) = x.v0_2
  arg1 : V (Proc.devRef (τ := τ) .tc main_arg1) = x.arg1
  arg2 : V (Proc.devRef (τ := τ) .tc main_arg2) = x.arg2
  arg3 : V (Proc.devRef (τ := τ) .tc main_arg3) = x.arg3
  arg6 : V (Proc.devRef (τ := τ) .tc main_arg6) = x.arg6
  arg8 : V (Proc.devRef (τ := τ) .tc main_arg8) = x.arg8
  arg9 : V (Proc.devRef (τ := τ) .tc main_arg9) = x.arg9
  v8 : V (Proc.devRef (τ := τ) .tc main_v8) = val_v8 x
  v9 : V (Proc.devRef (τ := τ) .tc main_v9) = val_v9 x
  v11 : V (Proc.devRef (τ := τ) .tc main_v11) = val_v11 x
  v13 : V (Proc.devRef (τ := τ) .tc main_v13) = val_v13 x
  v14 : V (Proc.devRef (τ := τ) .tc main_v14) = val_v14 x
  v21 : V (Proc.devRef (τ := τ) .tc main_v21) = val_v21 x
  v22 : V (Proc.devRef (τ := τ) .tc main_v22) = val_v22 x
structure Live3 (x : RIn Ideal) (V : Valuation τ sig (Elt Ideal)) : Prop where
  v0_1 : V (Proc.devRef (τ := τ) .tc main_v0_1) = x.v0_1
  v0_2 : V (Proc.devRef (τ := τ) .tc main_v0_2) = x.v0_2
  arg1 : V (Proc.devRef (τ := τ) .tc main_arg1) = x.arg1
  arg2 : V (Proc.devRef (τ := τ) .tc main_arg2) = x.arg2
  arg6 : V (Proc.devRef (τ := τ) .tc main_arg6) = x.arg6
  arg8 : V (Proc.devRef (τ := τ) .tc main_arg8) = x.arg8
  arg9 : V (Proc.devRef (τ := τ) .tc main_arg9) = x.arg9
  v8 : V (Proc.devRef (τ := τ) .tc main_v8) = val_v8 x
  v9 : V (Proc.devRef (τ := τ) .tc main_v9) = val_v9 x
  v11 : V (Proc.devRef (τ := τ) .tc main_v11) = val_v11 x
  v13 : V (Proc.devRef (τ := τ) .tc main_v13) = val_v13 x
  v14 : V (Proc.devRef (τ := τ) .tc main_v14) = val_v14 x
  v31 : V (Proc.devRef (τ := τ) .tc main_v31) = val_v31 x
  v33 : V (Proc.devRef (τ := τ) .tc main_v33) = val_v33 x
  cst_1 : V (Proc.devRef (τ := τ) .tc main_cst_1) = val_cst_1 x
structure Live4 (x : RIn Ideal) (V : Valuation τ sig (Elt Ideal)) : Prop where
  v0_1 : V (Proc.devRef (τ := τ) .tc main_v0_1) = x.v0_1
  v0_2 : V (Proc.devRef (τ := τ) .tc main_v0_2) = x.v0_2
  arg1 : V (Proc.devRef (τ := τ) .tc main_arg1) = x.arg1
  arg2 : V (Proc.devRef (τ := τ) .tc main_arg2) = x.arg2
  arg6 : V (Proc.devRef (τ := τ) .tc main_arg6) = x.arg6
  arg8 : V (Proc.devRef (τ := τ) .tc main_arg8) = x.arg8
  arg9 : V (Proc.devRef (τ := τ) .tc main_arg9) = x.arg9
  v8 : V (Proc.devRef (τ := τ) .tc main_v8) = val_v8 x
  v9 : V (Proc.devRef (τ := τ) .tc main_v9) = val_v9 x
  v11 : V (Proc.devRef (τ := τ) .tc main_v11) = val_v11 x
  v13 : V (Proc.devRef (τ := τ) .tc main_v13) = val_v13 x
  v14 : V (Proc.devRef (τ := τ) .tc main_v14) = val_v14 x
  v31 : V (Proc.devRef (τ := τ) .tc main_v31) = val_v31 x
  v35 : V (Proc.devRef (τ := τ) .tc main_v35) = val_v35 x
  call0_v0 : V (Proc.devRef (τ := τ) .tc main_call0_v0) = val_call0_v0 x
  call0_v1 : V (Proc.devRef (τ := τ) .tc main_call0_v1) = val_call0_v1 x
structure Live5 (x : RIn Ideal) (V : Valuation τ sig (Elt Ideal)) : Prop where
  v0_1 : V (Proc.devRef (τ := τ) .tc main_v0_1) = x.v0_1
  v0_2 : V (Proc.devRef (τ := τ) .tc main_v0_2) = x.v0_2
  arg1 : V (Proc.devRef (τ := τ) .tc main_arg1) = x.arg1
  arg6 : V (Proc.devRef (τ := τ) .tc main_arg6) = x.arg6
  arg8 : V (Proc.devRef (τ := τ) .tc main_arg8) = x.arg8
  arg9 : V (Proc.devRef (τ := τ) .tc main_arg9) = x.arg9
  v8 : V (Proc.devRef (τ := τ) .tc main_v8) = val_v8 x
  v9 : V (Proc.devRef (τ := τ) .tc main_v9) = val_v9 x
  v11 : V (Proc.devRef (τ := τ) .tc main_v11) = val_v11 x
  v13 : V (Proc.devRef (τ := τ) .tc main_v13) = val_v13 x
  v14 : V (Proc.devRef (τ := τ) .tc main_v14) = val_v14 x
  v31 : V (Proc.devRef (τ := τ) .tc main_v31) = val_v31 x
  v53 : V (Proc.devRef (τ := τ) .tc main_v53) = val_v53 x
structure Live6 (x : RIn Ideal) (V : Valuation τ sig (Elt Ideal)) : Prop where
  v0_1 : V (Proc.devRef (τ := τ) .tc main_v0_1) = x.v0_1
  v0_2 : V (Proc.devRef (τ := τ) .tc main_v0_2) = x.v0_2
  v8 : V (Proc.devRef (τ := τ) .tc main_v8) = val_v8 x
  v9 : V (Proc.devRef (τ := τ) .tc main_v9) = val_v9 x
  v11 : V (Proc.devRef (τ := τ) .tc main_v11) = val_v11 x
  v13 : V (Proc.devRef (τ := τ) .tc main_v13) = val_v13 x
  v14 : V (Proc.devRef (τ := τ) .tc main_v14) = val_v14 x
  v31 : V (Proc.devRef (τ := τ) .tc main_v31) = val_v31 x
  v56 : V (Proc.devRef (τ := τ) .tc main_v56) = val_v56 x
  v58 : V (Proc.devRef (τ := τ) .tc main_v58) = val_v58 x
  v60 : V (Proc.devRef (τ := τ) .tc main_v60) = val_v60 x
  v64 : V (Proc.devRef (τ := τ) .tc main_v64) = val_v64 x
  v65 : V (Proc.devRef (τ := τ) .tc main_v65) = val_v65 x
structure Live7 (x : RIn Ideal) (V : Valuation τ sig (Elt Ideal)) : Prop where
  v0_1 : V (Proc.devRef (τ := τ) .tc main_v0_1) = x.v0_1
  v0_2 : V (Proc.devRef (τ := τ) .tc main_v0_2) = x.v0_2
  v9 : V (Proc.devRef (τ := τ) .tc main_v9) = val_v9 x
  v11 : V (Proc.devRef (τ := τ) .tc main_v11) = val_v11 x
  v13 : V (Proc.devRef (τ := τ) .tc main_v13) = val_v13 x
  v14 : V (Proc.devRef (τ := τ) .tc main_v14) = val_v14 x
  v31 : V (Proc.devRef (τ := τ) .tc main_v31) = val_v31 x
  v56 : V (Proc.devRef (τ := τ) .tc main_v56) = val_v56 x
  v58 : V (Proc.devRef (τ := τ) .tc main_v58) = val_v58 x
  v60 : V (Proc.devRef (τ := τ) .tc main_v60) = val_v60 x
  v73 : V (Proc.devRef (τ := τ) .tc main_v73) = val_v73 x
  call1_v0 : V (Proc.devRef (τ := τ) .tc main_call1_v0) = val_call1_v0 x
  call1_v1 : V (Proc.devRef (τ := τ) .tc main_call1_v1) = val_call1_v1 x
structure Live8 (x : RIn Ideal) (V : Valuation τ sig (Elt Ideal)) : Prop where
  v0_1 : V (Proc.devRef (τ := τ) .tc main_v0_1) = x.v0_1
  v31 : V (Proc.devRef (τ := τ) .tc main_v31) = val_v31 x
  v56 : V (Proc.devRef (τ := τ) .tc main_v56) = val_v56 x
  v58 : V (Proc.devRef (τ := τ) .tc main_v58) = val_v58 x
  v77 : V (Proc.devRef (τ := τ) .tc main_v77) = val_v77 x
  v83 : V (Proc.devRef (τ := τ) .tc main_v83) = val_v83 x
  v84 : V (Proc.devRef (τ := τ) .tc main_v84) = val_v84 x
structure Live9 (x : RIn Ideal) (V : Valuation τ sig (Elt Ideal)) : Prop where
  v95 : V (Proc.devRef (τ := τ) .tc main_v95) = val_v95 x
structure Live10 (x : RIn Ideal) (V : Valuation τ sig (Elt Ideal)) : Prop where
  v97 : V (Proc.devRef (τ := τ) .tc main_v97) = val_v97 x
theorem live0 (x : RIn Ideal) (V : Valuation τ sig (Elt Ideal)) (h : Live0 x V) : Live1 x (StableHlo.after (sec0 (F := Ideal)) V) := by
  obtain ⟨h_v0_0, h_v0_1, h_v0_2, h_arg0, h_arg1, h_arg2, h_arg3, h_arg4, h_arg6, h_arg8, h_arg9, h_arg11, h_arg12, h_arg13⟩ := h
  constructor
  · unfold sec0; after_results_simp; exact h_v0_1
  · unfold sec0; after_results_simp; exact h_v0_2
  · unfold sec0; after_results_simp; exact h_arg1
  · unfold sec0; after_results_simp; exact h_arg2
  · unfold sec0; after_results_simp; exact h_arg3
  · unfold sec0; after_results_simp; exact h_arg4
  · unfold sec0; after_results_simp; exact h_arg6
  · unfold sec0; after_results_simp; exact h_arg8
  · unfold sec0; after_results_simp; exact h_arg9
  · unfold sec0; after_results_simp; exact h_arg12
  · unfold sec0; after_results_simp; (try simp only [h_v0_0, h_v0_1, h_v0_2, h_arg0, h_arg1, h_arg2, h_arg3, h_arg4, h_arg6, h_arg8, h_arg9, h_arg11, h_arg12, h_arg13]); first | rfl | (simp only [val_v7, val_v6, val_v4, val_v1, val_v3, val_v2, val_v5, val_cst]; rfl)
  · unfold sec0; after_results_simp; (try simp only [h_v0_0, h_v0_1, h_v0_2, h_arg0, h_arg1, h_arg2, h_arg3, h_arg4, h_arg6, h_arg8, h_arg9, h_arg11, h_arg12, h_arg13]); first | rfl | (simp only [val_v8]; rfl)
  · unfold sec0; after_results_simp; (try simp only [h_v0_0, h_v0_1, h_v0_2, h_arg0, h_arg1, h_arg2, h_arg3, h_arg4, h_arg6, h_arg8, h_arg9, h_arg11, h_arg12, h_arg13]); first | rfl | (simp only [val_v9]; rfl)
  · unfold sec0; after_results_simp; (try simp only [h_v0_0, h_v0_1, h_v0_2, h_arg0, h_arg1, h_arg2, h_arg3, h_arg4, h_arg6, h_arg8, h_arg9, h_arg11, h_arg12, h_arg13]); first | rfl | (simp only [val_v11, val_v10]; rfl)
theorem live1 (x : RIn Ideal) (V : Valuation τ sig (Elt Ideal)) (h : Live1 x V) : Live2 x (StableHlo.after (sec1 (F := Ideal)) V) := by
  obtain ⟨h_v0_1, h_v0_2, h_arg1, h_arg2, h_arg3, h_arg4, h_arg6, h_arg8, h_arg9, h_arg12, h_v7, h_v8, h_v9, h_v11⟩ := h
  constructor
  · unfold sec1; after_results_simp; exact h_v0_1
  · unfold sec1; after_results_simp; exact h_v0_2
  · unfold sec1; after_results_simp; exact h_arg1
  · unfold sec1; after_results_simp; exact h_arg2
  · unfold sec1; after_results_simp; exact h_arg3
  · unfold sec1; after_results_simp; exact h_arg6
  · unfold sec1; after_results_simp; exact h_arg8
  · unfold sec1; after_results_simp; exact h_arg9
  · unfold sec1; after_results_simp; exact h_v8
  · unfold sec1; after_results_simp; exact h_v9
  · unfold sec1; after_results_simp; exact h_v11
  · unfold sec1; after_results_simp; (try simp only [h_v0_1, h_v0_2, h_arg1, h_arg2, h_arg3, h_arg4, h_arg6, h_arg8, h_arg9, h_arg12, h_v7, h_v8, h_v9, h_v11]); first | rfl | (simp only [val_v13, val_v12]; rfl)
  · unfold sec1; after_results_simp; (try simp only [h_v0_1, h_v0_2, h_arg1, h_arg2, h_arg3, h_arg4, h_arg6, h_arg8, h_arg9, h_arg12, h_v7, h_v8, h_v9, h_v11]); first | rfl | (simp only [val_v14]; rfl)
  · unfold sec1; after_results_simp; (try simp only [h_v0_1, h_v0_2, h_arg1, h_arg2, h_arg3, h_arg4, h_arg6, h_arg8, h_arg9, h_arg12, h_v7, h_v8, h_v9, h_v11]); first | rfl | (simp only [val_v21, val_v20, val_v18, val_v17, val_cst_0, val_v16, val_v15, val_v19, val_v14]; rfl)
  · unfold sec1; after_results_simp; (try simp only [h_v0_1, h_v0_2, h_arg1, h_arg2, h_arg3, h_arg4, h_arg6, h_arg8, h_arg9, h_arg12, h_v7, h_v8, h_v9, h_v11]); first | rfl | (simp only [val_v22]; rfl)
theorem live2 (x : RIn Ideal) (V : Valuation τ sig (Elt Ideal)) (h : Live2 x V) : Live3 x (StableHlo.after (sec2 (F := Ideal)) V) := by
  obtain ⟨h_v0_1, h_v0_2, h_arg1, h_arg2, h_arg3, h_arg6, h_arg8, h_arg9, h_v8, h_v9, h_v11, h_v13, h_v14, h_v21, h_v22⟩ := h
  constructor
  · unfold sec2; after_results_simp; exact h_v0_1
  · unfold sec2; after_results_simp; exact h_v0_2
  · unfold sec2; after_results_simp; exact h_arg1
  · unfold sec2; after_results_simp; exact h_arg2
  · unfold sec2; after_results_simp; exact h_arg6
  · unfold sec2; after_results_simp; exact h_arg8
  · unfold sec2; after_results_simp; exact h_arg9
  · unfold sec2; after_results_simp; exact h_v8
  · unfold sec2; after_results_simp; exact h_v9
  · unfold sec2; after_results_simp; exact h_v11
  · unfold sec2; after_results_simp; exact h_v13
  · unfold sec2; after_results_simp; exact h_v14
  · unfold sec2; after_results_simp; (try simp only [h_v0_1, h_v0_2, h_arg1, h_arg2, h_arg3, h_arg6, h_arg8, h_arg9, h_v8, h_v9, h_v11, h_v13, h_v14, h_v21, h_v22]); first | rfl | (simp only [val_v31, val_v30, val_v29, val_v28, val_v27, val_v25, val_v23, val_v24, val_v26]; rfl)
  · unfold sec2; after_results_simp; (try simp only [h_v0_1, h_v0_2, h_arg1, h_arg2, h_arg3, h_arg6, h_arg8, h_arg9, h_v8, h_v9, h_v11, h_v13, h_v14, h_v21, h_v22]); first | rfl | (simp only [val_v33, val_v32]; rfl)
  · unfold sec2; after_results_simp; (try simp only [h_v0_1, h_v0_2, h_arg1, h_arg2, h_arg3, h_arg6, h_arg8, h_arg9, h_v8, h_v9, h_v11, h_v13, h_v14, h_v21, h_v22]); first | rfl | (simp only [val_cst_1]; rfl)
theorem live3 (x : RIn Ideal) (V : Valuation τ sig (Elt Ideal)) (h : Live3 x V) : Live4 x (StableHlo.after (sec3 (F := Ideal)) V) := by
  obtain ⟨h_v0_1, h_v0_2, h_arg1, h_arg2, h_arg6, h_arg8, h_arg9, h_v8, h_v9, h_v11, h_v13, h_v14, h_v31, h_v33, h_cst_1⟩ := h
  constructor
  · unfold sec3; after_results_simp; exact h_v0_1
  · unfold sec3; after_results_simp; exact h_v0_2
  · unfold sec3; after_results_simp; exact h_arg1
  · unfold sec3; after_results_simp; exact h_arg2
  · unfold sec3; after_results_simp; exact h_arg6
  · unfold sec3; after_results_simp; exact h_arg8
  · unfold sec3; after_results_simp; exact h_arg9
  · unfold sec3; after_results_simp; exact h_v8
  · unfold sec3; after_results_simp; exact h_v9
  · unfold sec3; after_results_simp; exact h_v11
  · unfold sec3; after_results_simp; exact h_v13
  · unfold sec3; after_results_simp; exact h_v14
  · unfold sec3; after_results_simp; exact h_v31
  · unfold sec3; after_results_simp; (try simp only [h_v0_1, h_v0_2, h_arg1, h_arg2, h_arg6, h_arg8, h_arg9, h_v8, h_v9, h_v11, h_v13, h_v14, h_v31, h_v33, h_cst_1]); first | rfl | (simp only [val_v35, val_v34]; rfl)
  · unfold sec3; after_results_simp; (try simp only [h_v0_1, h_v0_2, h_arg1, h_arg2, h_arg6, h_arg8, h_arg9, h_v8, h_v9, h_v11, h_v13, h_v14, h_v31, h_v33, h_cst_1]); first | rfl | (simp only [val_call0_v0, val_cst_2]; rfl)
  · unfold sec3; after_results_simp; (try simp only [h_v0_1, h_v0_2, h_arg1, h_arg2, h_arg6, h_arg8, h_arg9, h_v8, h_v9, h_v11, h_v13, h_v14, h_v31, h_v33, h_cst_1]); first | rfl | (simp only [val_call0_v1, val_v42, val_v40, val_v37, val_v36, val_v41, val_v39, val_v38]; rfl)
theorem live4 (x : RIn Ideal) (V : Valuation τ sig (Elt Ideal)) (h : Live4 x V) : Live5 x (StableHlo.after (sec4 (F := Ideal)) V) := by
  obtain ⟨h_v0_1, h_v0_2, h_arg1, h_arg2, h_arg6, h_arg8, h_arg9, h_v8, h_v9, h_v11, h_v13, h_v14, h_v31, h_v35, h_call0_v0, h_call0_v1⟩ := h
  constructor
  · unfold sec4; after_results_simp; exact h_v0_1
  · unfold sec4; after_results_simp; exact h_v0_2
  · unfold sec4; after_results_simp; exact h_arg1
  · unfold sec4; after_results_simp; exact h_arg6
  · unfold sec4; after_results_simp; exact h_arg8
  · unfold sec4; after_results_simp; exact h_arg9
  · unfold sec4; after_results_simp; exact h_v8
  · unfold sec4; after_results_simp; exact h_v9
  · unfold sec4; after_results_simp; exact h_v11
  · unfold sec4; after_results_simp; exact h_v13
  · unfold sec4; after_results_simp; exact h_v14
  · unfold sec4; after_results_simp; exact h_v31
  · unfold sec4; after_results_simp; (try simp only [h_v0_1, h_v0_2, h_arg1, h_arg2, h_arg6, h_arg8, h_arg9, h_v8, h_v9, h_v11, h_v13, h_v14, h_v31, h_v35, h_call0_v0, h_call0_v1]); first | rfl | (simp only [val_v53, val_v46, val_v45, val_v43, val_call0_v2, val_v44, val_v52, val_v50, val_v48, val_v47, val_v49, val_v51]; rfl)
theorem live5 (x : RIn Ideal) (V : Valuation τ sig (Elt Ideal)) (h : Live5 x V) : Live6 x (StableHlo.after (sec5 (F := Ideal)) V) := by
  obtain ⟨h_v0_1, h_v0_2, h_arg1, h_arg6, h_arg8, h_arg9, h_v8, h_v9, h_v11, h_v13, h_v14, h_v31, h_v53⟩ := h
  constructor
  · unfold sec5; after_results_simp; exact h_v0_1
  · unfold sec5; after_results_simp; exact h_v0_2
  · unfold sec5; after_results_simp; exact h_v8
  · unfold sec5; after_results_simp; exact h_v9
  · unfold sec5; after_results_simp; exact h_v11
  · unfold sec5; after_results_simp; exact h_v13
  · unfold sec5; after_results_simp; exact h_v14
  · unfold sec5; after_results_simp; exact h_v31
  · unfold sec5; after_results_simp; (try simp only [h_v0_1, h_v0_2, h_arg1, h_arg6, h_arg8, h_arg9, h_v8, h_v9, h_v11, h_v13, h_v14, h_v31, h_v53]); first | rfl | (simp only [val_v56, val_v55, val_v54]; rfl)
  · unfold sec5; after_results_simp; (try simp only [h_v0_1, h_v0_2, h_arg1, h_arg6, h_arg8, h_arg9, h_v8, h_v9, h_v11, h_v13, h_v14, h_v31, h_v53]); first | rfl | (simp only [val_v58, val_v57]; rfl)
  · unfold sec5; after_results_simp; (try simp only [h_v0_1, h_v0_2, h_arg1, h_arg6, h_arg8, h_arg9, h_v8, h_v9, h_v11, h_v13, h_v14, h_v31, h_v53]); first | rfl | (simp only [val_v60, val_v59]; rfl)
  · unfold sec5; after_results_simp; (try simp only [h_v0_1, h_v0_2, h_arg1, h_arg6, h_arg8, h_arg9, h_v8, h_v9, h_v11, h_v13, h_v14, h_v31, h_v53]); first | rfl | (simp only [val_v64, val_v62, val_v61]; rfl)
  · unfold sec5; after_results_simp; (try simp only [h_v0_1, h_v0_2, h_arg1, h_arg6, h_arg8, h_arg9, h_v8, h_v9, h_v11, h_v13, h_v14, h_v31, h_v53]); first | rfl | (simp only [val_v65, val_v63]; rfl)
theorem live6 (x : RIn Ideal) (V : Valuation τ sig (Elt Ideal)) (h : Live6 x V) : Live7 x (StableHlo.after (sec6 (F := Ideal)) V) := by
  obtain ⟨h_v0_1, h_v0_2, h_v8, h_v9, h_v11, h_v13, h_v14, h_v31, h_v56, h_v58, h_v60, h_v64, h_v65⟩ := h
  constructor
  · unfold sec6; after_results_simp; exact h_v0_1
  · unfold sec6; after_results_simp; exact h_v0_2
  · unfold sec6; after_results_simp; exact h_v9
  · unfold sec6; after_results_simp; exact h_v11
  · unfold sec6; after_results_simp; exact h_v13
  · unfold sec6; after_results_simp; exact h_v14
  · unfold sec6; after_results_simp; exact h_v31
  · unfold sec6; after_results_simp; exact h_v56
  · unfold sec6; after_results_simp; exact h_v58
  · unfold sec6; after_results_simp; exact h_v60
  · unfold sec6; after_results_simp; (try simp only [h_v0_1, h_v0_2, h_v8, h_v9, h_v11, h_v13, h_v14, h_v31, h_v56, h_v58, h_v60, h_v64, h_v65]); first | rfl | (simp only [val_v73, val_v71, val_v70, val_cst_3, val_v69, val_v68, val_v72]; rfl)
  · unfold sec6; after_results_simp; (try simp only [h_v0_1, h_v0_2, h_v8, h_v9, h_v11, h_v13, h_v14, h_v31, h_v56, h_v58, h_v60, h_v64, h_v65]); first | rfl | (simp only [val_call1_v0, val_cst_4]; rfl)
  · unfold sec6; after_results_simp; (try simp only [h_v0_1, h_v0_2, h_v8, h_v9, h_v11, h_v13, h_v14, h_v31, h_v56, h_v58, h_v60, h_v64, h_v65]); first | rfl | (simp only [val_call1_v1, val_v67, val_v66]; rfl)
theorem live7 (x : RIn Ideal) (V : Valuation τ sig (Elt Ideal)) (h : Live7 x V) : Live8 x (StableHlo.after (sec7 (F := Ideal)) V) := by
  obtain ⟨h_v0_1, h_v0_2, h_v9, h_v11, h_v13, h_v14, h_v31, h_v56, h_v58, h_v60, h_v73, h_call1_v0, h_call1_v1⟩ := h
  constructor
  · unfold sec7; after_results_simp; exact h_v0_1
  · unfold sec7; after_results_simp; exact h_v31
  · unfold sec7; after_results_simp; exact h_v56
  · unfold sec7; after_results_simp; exact h_v58
  · unfold sec7; after_results_simp; (try simp only [h_v0_1, h_v0_2, h_v9, h_v11, h_v13, h_v14, h_v31, h_v56, h_v58, h_v60, h_v73, h_call1_v0, h_call1_v1]); first | rfl | (simp only [val_v77, val_v76, val_v74, val_call1_v2, val_v75]; rfl)
  · unfold sec7; after_results_simp; (try simp only [h_v0_1, h_v0_2, h_v9, h_v11, h_v13, h_v14, h_v31, h_v56, h_v58, h_v60, h_v73, h_call1_v0, h_call1_v1]); first | rfl | (simp only [val_v83, val_v81, val_v79, val_v78, val_v80, val_v82]; rfl)
  · unfold sec7; after_results_simp; (try simp only [h_v0_1, h_v0_2, h_v9, h_v11, h_v13, h_v14, h_v31, h_v56, h_v58, h_v60, h_v73, h_call1_v0, h_call1_v1]); first | rfl | (simp only [val_v84]; rfl)
theorem live8 (x : RIn Ideal) (V : Valuation τ sig (Elt Ideal)) (h : Live8 x V) : Live9 x (StableHlo.after (sec8 (F := Ideal)) V) := by
  obtain ⟨h_v0_1, h_v31, h_v56, h_v58, h_v77, h_v83, h_v84⟩ := h
  constructor
  · unfold sec8; after_results_simp; (try simp only [h_v0_1, h_v31, h_v56, h_v58, h_v77, h_v83, h_v84]); first | rfl | (simp only [val_v95, val_v94, val_cst_5, val_v93, val_v92, val_v91, val_v90, val_v89, val_v88, val_v86, val_v85, val_v87]; rfl)
theorem live9 (x : RIn Ideal) (V : Valuation τ sig (Elt Ideal)) (h : Live9 x V) : Live10 x (StableHlo.after (sec9 (F := Ideal)) V) := by
  obtain ⟨h_v95⟩ := h
  constructor
  · unfold sec9; after_results_simp; (try simp only [h_v95]); first | rfl | (simp only [val_v97, val_v96]; rfl)
theorem ops_eq : [hostOps1 (F := Ideal), hostOps1_1, hostOps1_2, hostOps1_3, hostOps1_4].flatten = sec0 ++ (sec1 ++ (sec2 ++ (sec3 ++ (sec4 ++ (sec5 ++ (sec6 ++ (sec7 ++ (sec8 ++ (sec9))))))))) := rfl
theorem live_all (x : RIn Ideal) (V : Valuation τ sig (Elt Ideal)) (h : Live0 x V) :
    Live10 x (StableHlo.after [hostOps1 (F := Ideal), hostOps1_1, hostOps1_2, hostOps1_3, hostOps1_4].flatten V) := by
  rw [ops_eq]
  simp only [StableHlo.after_append]
  exact (live9 x _ (live8 x _ (live7 x _ (live6 x _ (live5 x _ (live4 x _ (live3 x _ (live2 x _ (live1 x _ (live0 x _ h))))))))))
end Cert.ReferenceIdeal.Hand
-- ==== Proof.ReferenceIdeal.RefAt.lean ====
module

public import proofs.«01_k».proof.Proof.ReferenceIdeal.Ref
public import Idealize.ShloMosaic.Lib.Pointwise

@[expose] public section

set_option maxRecDepth 16384

noncomputable section

open Idealize.ShloMosaic Idealize.ShloMosaic.TcCoe
open Idealize.SL Idealize.SL.RA Idealize.SL.BI
open Idealize.SL.BI.BIBase Idealize.SL.Sem

namespace Cert.ReferenceIdeal.Hand

open Cert.ReferenceIdeal Cert.ReferenceIdeal.Gen

/-! The reference's result read at an index. -/

/-- Query head `e` of group `g`. -/
def hd (g : Fin 8) (e : Fin 2) : Fin 16 := ⟨2 * g.val + e.val, by omega⟩

variable (x : RIn Ideal) (b : Fin 2) (g : Fin 8) (e : Fin 2) (i : Fin 512)

theorem v11_at : val_v11 x (ix5 b g e i 0) = x.arg11 (ix3 b i (hd g e)) := by
  have f : ∀ h : Fin 16, h.val = 2 * g.val + e.val → x.arg11 (ix3 b i h) = x.arg11 (ix3 b i (hd g e)) := fun h k => by rw [show h = hd g e from Fin.ext k]
  pointwise [val_v11, val_v10]
  exact f _ (by simp only []; omega)

theorem v7_at (h : Fin 16) : val_v7 x (ix3 b i h) = (∑ d : Fin 128, x.v0_0 (ix4 b i h d) * x.arg11 (ix3 b i h) * x.arg13 (ix4 b i h d) : EReal) := by
  pointwise [val_v7, val_v6, val_v5, val_v4, val_v3, val_v2, val_v1, val_cst]

theorem v8_at (d : Fin 128) : val_v8 x (ix5 b i g e d) = x.arg0 (ix4 b i (hd g e) d) := by
  have f : ∀ h : Fin 16, h.val = 2 * g.val + e.val → x.arg0 (ix4 b i h d) = x.arg0 (ix4 b i (hd g e) d) := fun h k => by rw [show h = hd g e from Fin.ext k]
  pointwise [val_v8]
  exact f _ (by simp only []; omega)

theorem v15_at (p : Fin 20) : val_v15 x (ix5 g p b i e) = (∑ d : Fin 128, x.arg3 (ix3 p g d) * val_v8 x (ix5 b i g e d) : EReal) := by
  pointwise [val_v15]

theorem v28_at (p : Fin 20) : val_v28 x (ix5 b g e i p) = (Ideal.exp (Ideal.ofBits FTy.f32 1035273459#32 * val_v15 x (ix5 g p b i e) - val_v14 x (ix5 b g e i 0)) * (val_v22 x (ix5 g p b i e) * val_v11 x (ix5 b g e i 0) - val_v13 x (ix5 b g e i 0)) : EReal) := by
  pointwise [val_v28, val_v21, val_v20, val_v19, val_v18, val_v17, val_cst_0, val_v16, val_v27, val_v26, val_v25, val_v24, val_v23]

theorem v30_at (d : Fin 128) : val_v30 x (ix5 g d b e i) = (∑ p : Fin 20, x.arg3 (ix3 p g d) * val_v28 x (ix5 b g e i p) : EReal) := by
  pointwise [val_v30, val_v29]

theorem v53_at (j : Fin 512) : val_v53 x (ix5 b g e i j) = (Ideal.exp (Scalar.select (IntOp.cmpi CmpIPredicate.sge (BitVec.ofNat 32 i.val) (BitVec.ofNat 32 j.val)) (Ideal.ofBits FTy.f32 1035273459#32 * val_v32 x (ix5 b g j i e) : EReal) (Ideal.ofBits .f32 4286578688#32 : EReal) - val_v14 x (ix5 b g e i 0)) * (val_v47 x (ix5 b g j i e) * val_v11 x (ix5 b g e i 0) - val_v13 x (ix5 b g e i 0)) : EReal) := by
  pointwise [val_v53, val_v46, val_v45, val_v43, val_call0_v0, val_call0_v1, val_call0_v2, val_cst_2, val_v42, val_v41, val_v40, val_v39, val_v38, val_v37, val_v36, val_v35, val_v34, val_cst_1, val_v33, val_v44, val_v52, val_v51, val_v50, val_v49, val_v48]
  rfl

theorem v88_at (s : Fin 4096) : val_v88 x (ix5 b g e i s) = (Ideal.exp (Scalar.select (IntOp.cmpi CmpIPredicate.slt (BitVec.ofNat 32 s.val) (x.arg9 (ix1 b))) (Ideal.ofBits FTy.f32 1035273459#32 * val_v68 x (ix5 b g s i e) * x.arg6 (ix3 b s g) : EReal) (Ideal.ofBits .f32 4286578688#32 : EReal) - val_v14 x (ix5 b g e i 0)) * (val_v78 x (ix5 b g s i e) * val_v11 x (ix5 b g e i 0) * x.arg8 (ix3 b s g) - val_v13 x (ix5 b g e i 0)) * x.arg6 (ix3 b s g) : EReal) := by
  pointwise [val_v88, val_v87, val_v86, val_v85, val_v84, val_v83, val_v82, val_v81, val_v80, val_v79, val_v77, val_v76, val_v75, val_v74, val_call1_v0, val_call1_v1, val_call1_v2, val_cst_4, val_v73, val_v72, val_v71, val_v70, val_cst_3, val_v69, val_v58, val_v57, val_v60, val_v59, val_v67, val_v66, val_v65, val_v64, val_v63, val_v62, val_v61]
  rfl

theorem v9_at (d : Fin 128) : val_v9 x (ix5 b i g e d) = x.v0_0 (ix4 b i (hd g e) d) := by
  have f : ∀ h : Fin 16, h.val = 2 * g.val + e.val → x.v0_0 (ix4 b i h d) = x.v0_0 (ix4 b i (hd g e) d) := fun h k => by rw [show h = hd g e from Fin.ext k]
  pointwise [val_v9]
  exact f _ (by simp only []; omega)
theorem v13_at : val_v13 x (ix5 b g e i 0) = val_v7 x (ix3 b i (hd g e)) := by
  have f : ∀ h : Fin 16, h.val = 2 * g.val + e.val → val_v7 x (ix3 b i h) = val_v7 x (ix3 b i (hd g e)) := fun h k => by rw [show h = hd g e from Fin.ext k]
  pointwise [val_v13, val_v12]
  exact f _ (by simp only []; omega)
theorem v14_at : val_v14 x (ix5 b g e i 0) = x.arg12 (ix3 b (hd g e) i) := by
  have f : ∀ h : Fin 16, h.val = 2 * g.val + e.val → x.arg12 (ix3 b h i) = x.arg12 (ix3 b (hd g e) i) := fun h k => by rw [show h = hd g e from Fin.ext k]
  pointwise [val_v14]
  exact f _ (by simp only []; omega)
theorem v22_at (p : Fin 20) : val_v22 x (ix5 g p b i e) = (∑ d : Fin 128, x.arg4 (ix3 p g d) * val_v9 x (ix5 b i g e d) : EReal) := by
  pointwise [val_v22]
theorem v32_at (j : Fin 512) : val_v32 x (ix5 b g j i e) = (∑ d : Fin 128, x.arg1 (ix4 b j g d) * val_v8 x (ix5 b i g e d) : EReal) := by
  pointwise [val_v32]
theorem v47_at (j : Fin 512) : val_v47 x (ix5 b g j i e) = (∑ d : Fin 128, x.arg2 (ix4 b j g d) * val_v9 x (ix5 b i g e d) : EReal) := by
  pointwise [val_v47]
theorem v55_at (d : Fin 128) : val_v55 x (ix5 b g d e i) = (∑ j : Fin 512, x.arg1 (ix4 b j g d) * val_v53 x (ix5 b g e i j) : EReal) := by
  pointwise [val_v55, val_v54]
theorem v68_at (s : Fin 4096) : val_v68 x (ix5 b g s i e) = (∑ d : Fin 128, x.v0_1 (ix4 b s g d) * val_v8 x (ix5 b i g e d) : EReal) := by
  pointwise [val_v68]
theorem v78_at (s : Fin 4096) : val_v78 x (ix5 b g s i e) = (∑ d : Fin 128, x.v0_2 (ix4 b s g d) * val_v9 x (ix5 b i g e d) : EReal) := by
  pointwise [val_v78]
theorem v90_at (d : Fin 128) : val_v90 x (ix5 b g d e i) = (∑ s : Fin 4096, x.v0_1 (ix4 b s g d) * val_v88 x (ix5 b g e i s) : EReal) := by
  pointwise [val_v90, val_v89]

/-- The result's row of a query and a head. -/
theorem v97_at (n : Fin 8192) (d : Fin 128) (h : n.val = i.val * 16 + (2 * g.val + e.val)) : val_v97 x (ix3 b n d) = (Ideal.ofBits FTy.f32 1035273459#32 * (val_v30 x (ix5 g d b e i) + val_v90 x (ix5 b g d e i) + val_v55 x (ix5 b g d e i)) : EReal) := by
  have f : ∀ (g' : Fin 8) (e' : Fin 2) (i' : Fin 512), g'.val = g.val → e'.val = e.val → i'.val = i.val → (Ideal.ofBits FTy.f32 1035273459#32 * (val_v30 x (ix5 g' d b e' i') + val_v90 x (ix5 b g' d e' i') + val_v55 x (ix5 b g' d e' i')) : EReal) = (Ideal.ofBits FTy.f32 1035273459#32 * (val_v30 x (ix5 g d b e i) + val_v90 x (ix5 b g d e i) + val_v55 x (ix5 b g d e i)) : EReal) := fun g' e' i' h1 h2 h3 => by rw [show g' = g from Fin.ext h1, show e' = e from Fin.ext h2, show i' = i from Fin.ext h3]
  pointwise [val_v97, val_v96, val_v95, val_v94, val_v93, val_v92, val_v91, val_v56, val_v31, val_cst_5]
  exact f _ _ _ (by simp only []; omega) (by simp only []; omega) (by simp only []; omega)

end Cert.ReferenceIdeal.Hand

end
-- ==== Proof.KernelIdeal.Alg.lean ====
module

public import Idealize.ShloMosaic.Lib.IdealHost

@[expose] public section

noncomputable section

namespace Cert.Alg

open Idealize.ShloMosaic
open scoped BigOperators

/-! Extended-real arithmetic: finite factors, and the exponentials in both bases. -/

/-- The base-two logarithm of e. -/
def L : ℝ := (Real.log 2)⁻¹
/-- The score scale. -/
def SC : ℝ := 11863283 / 134217728

theorem log2_pos : 0 < Real.log 2 := Real.log_pos (by norm_num)
theorem L_pos : 0 < L := inv_pos.mpr log2_pos
theorem SC_pos : 0 < SC := by unfold SC; norm_num

theorem ofBits_scale : Ideal.ofBits FTy.f32 1035273459#32 = ((SC : ℝ) : EReal) := by
  simp [Ideal.ofBits, Ideal.ieee, SC, -EReal.coe_mul]; norm_num
theorem ofBits_neg_inf : Ideal.ofBits FTy.f32 4286578688#32 = (⊥ : EReal) := by
  simp [Ideal.ofBits, Ideal.ieee]

theorem dist (r : ℝ) (h : 0 ≤ r) (a b : EReal) : (a + b) * (r : EReal) = a * r + b * r :=
  EReal.right_distrib_of_nonneg_of_ne_top (by exact_mod_cast h) (EReal.coe_ne_top r) a b
theorem dist_sub (r : ℝ) (h : 0 ≤ r) (a b : EReal) : (a - b) * (r : EReal) = a * r - b * r := by
  rw [sub_eq_add_neg, dist r h, EReal.neg_mul, ← sub_eq_add_neg]
theorem dist_sum {ι : Type} (s : Finset ι) (r : ℝ) (h : 0 ≤ r) (f : ι → EReal) : (∑ i ∈ s, f i) * (r : EReal) = ∑ i ∈ s, f i * r := by
  classical
  induction s using Finset.induction_on with
  | empty => simp
  | insert a s ha ih => rw [Finset.sum_insert ha, Finset.sum_insert ha, dist r h, ih]

theorem coe_sub_self (r : ℝ) : ((r : EReal) - (r : EReal)) = 0 := by
  rw [← EReal.coe_sub, sub_self, EReal.coe_zero]

/-- The base-two exponential of a multiple of log2 e. -/
theorem exp2_L (y : EReal) : Ideal.exp2 (y * (L : EReal)) = Ideal.exp y := by
  induction y with
  | bot => rw [EReal.bot_mul_coe_of_pos L_pos]; rfl
  | top => rw [EReal.top_mul_coe_of_pos L_pos]; rfl
  | coe y =>
    rw [← EReal.coe_mul]
    show ((Real.rpow 2 (y * L) : ℝ) : EReal) = ((Real.exp y : ℝ) : EReal)
    have e : Real.rpow 2 (y * L) = Real.exp y := by
      show (2 : ℝ) ^ (y * L) = Real.exp y
      rw [Real.rpow_def_of_pos (by norm_num)]
      congr 1
      unfold L
      have := log2_pos.ne'
      field_simp
    rw [e]

theorem exp_log (y : EReal) (k : ℝ) (hk : 0 < k) : Ideal.exp (y + ((Real.log k : ℝ) : EReal)) = Ideal.exp y * (k : EReal) := by
  induction y with
  | bot => rw [EReal.bot_add]; show (0 : EReal) = 0 * (k : EReal); rw [zero_mul]
  | top => rw [EReal.top_add_coe]; show (⊤ : EReal) = ⊤ * (k : EReal); rw [EReal.top_mul_coe_of_pos hk]
  | coe y =>
    rw [← EReal.coe_add]
    show ((Real.exp (y + Real.log k) : ℝ) : EReal) = ((Real.exp y : ℝ) : EReal) * (k : EReal)
    rw [Real.exp_add, Real.exp_log hk, EReal.coe_mul]

/-- A score's exponential, its scale and log2 e multiplied together. -/
theorem pre_exp (X : EReal) (l : ℝ) : Ideal.exp2 (X * ((SC * L : ℝ) : EReal) + (l : EReal) * ((-L : ℝ) : EReal)) = Ideal.exp ((SC : EReal) * X - (l : EReal)) := by
  have e : X * ((SC * L : ℝ) : EReal) + (l : EReal) * ((-L : ℝ) : EReal) = ((SC : EReal) * X - (l : EReal)) * (L : EReal) := by
    rw [dist_sub L L_pos.le, EReal.coe_mul, ← mul_assoc, mul_comm X, sub_eq_add_neg, EReal.coe_neg, mul_neg]
  rw [e, exp2_L]

/-- A context score's exponential: the code scale's logarithm, and the row's offset, enter divided by the score's factor. -/
theorem ctx_exp (X : EReal) (k l : ℝ) (hk : 0 < k) :
    Ideal.exp2 ((X + ((Real.log k * L * (1 / (k * (SC * L))) + 1 / (k * (SC * L)) * (l * -L) : ℝ) : EReal)) * ((k * (SC * L) : ℝ) : EReal)) = Ideal.exp ((SC : EReal) * X * (k : EReal) - (l : EReal)) * (k : EReal) := by
  have hK : 0 < k * (SC * L) := mul_pos hk (mul_pos SC_pos L_pos)
  rw [dist _ hK.le, ← EReal.coe_mul]
  have e1 : (Real.log k * L * (1 / (k * (SC * L))) + 1 / (k * (SC * L)) * (l * -L)) * (k * (SC * L)) = (Real.log k - l) * L := by
    have h := hK.ne'
    rw [add_mul, mul_assoc (Real.log k * L), one_div_mul_cancel h, mul_one, mul_comm (1 / (k * (SC * L))) (l * -L), mul_assoc (l * -L), one_div_mul_cancel h]
    ring
  rw [e1]
  have e2 : X * ((k * (SC * L) : ℝ) : EReal) = (SC : EReal) * X * (k : EReal) * (L : EReal) := by
    rw [show k * (SC * L) = SC * k * L from by ring, EReal.coe_mul, EReal.coe_mul, ← mul_assoc, ← mul_assoc, mul_comm X]
  rw [e2, EReal.coe_mul, ← dist L L_pos.le, exp2_L]
  rw [EReal.coe_sub, ← exp_log _ k hk]
  congr 1
  rw [sub_eq_add_neg, sub_eq_add_neg, add_assoc, add_comm (-(l : EReal))]

/-- A term of the gradient, the row's scale multiplied in. -/
theorem term_mul (k E A S : EReal) (d : ℝ) (h : 0 ≤ d) : k * (E * (A - S)) * (d : EReal) = k * (E * (A * (d : EReal) - S * (d : EReal))) := by
  rw [mul_assoc, mul_assoc, dist_sub d h]
theorem term_ctx (c E A S v : EReal) (k d : ℝ) (h : 0 ≤ d) : c * (E * (k : EReal) * (A * v - S)) * (d : EReal) = c * (E * (A * (d : EReal) * v - S * (d : EReal)) * (k : EReal)) := by
  rw [mul_assoc, mul_assoc (E * (k : EReal)), dist_sub d h, mul_right_comm A v, mul_right_comm E]
theorem dsum_mul {n : ℕ} (a o : Fin n → EReal) (d : ℝ) (h : 0 ≤ d) : (∑ i, a i * (d : EReal) * o i) = (∑ i, a i * o i) * (d : EReal) := by
  rw [dist_sum _ d h]
  exact Finset.sum_congr rfl fun i _ => mul_right_comm _ _ _

/-- A sum over a product of two index ranges. -/
theorem sum_prod (m n N : ℕ) (h : m * n = N) (f : Fin N → EReal) : (∑ d, f d) = ∑ a : Fin m, ∑ r : Fin n, f ⟨r.val + n * a.val, by subst h; have := (finProdFinEquiv (a, r)).isLt; simpa [finProdFinEquiv] using this⟩ := by
  subst h
  rw [← finProdFinEquiv.sum_comp, Fintype.sum_prod_type]
  rfl

/-- The offset's columns: only the group's own sixteen count. -/
theorem aff_sum (P : ℕ → Fin 8 → EReal) (A : Fin 128 → EReal) (g : Fin 8) (w : ℕ → EReal)
    (hA : ∀ (h : Fin 8) (r : Fin 16) (k : 16 * h.val + r.val < 128), A ⟨16 * h.val + r.val, k⟩ = P r.val h * (if h = g then w r.val else 0)) :
    (∑ d, A d) = ∑ r : Fin 16, P r.val g * w r.val := by
  rw [sum_prod 8 16 128 rfl, Finset.sum_eq_single g]
  · refine Finset.sum_congr rfl fun r _ => ?_
    refine (congrArg A (Fin.ext (by show r.val + 16 * g.val = 16 * g.val + r.val; omega))).trans ((hA g r (by omega)).trans ?_)
    rw [if_pos rfl]
  · intro h _ hne
    refine Finset.sum_eq_zero fun r _ => ?_
    refine (congrArg A (Fin.ext (by show r.val + 16 * h.val = 16 * h.val + r.val; omega))).trans ((hA h r (by omega)).trans ?_)
    rw [if_neg hne, mul_zero]
  · intro h; exact absurd (Finset.mem_univ g) h

end Cert.Alg

end
-- ==== Proof.RefTerms.lean ====
module

public import proofs.«01_k».proof.Proof.ReferenceIdeal.RefAt
public import proofs.«01_k».proof.Proof.KernelIdeal.Alg

@[expose] public section

set_option maxRecDepth 16384

noncomputable section

namespace Cert.ReferenceIdeal.Hand

open Idealize.ShloMosaic Idealize.ShloMosaic.TcCoe
open Idealize.SL Idealize.SL.RA Idealize.SL.BI
open Idealize.SL.BI.BIBase Idealize.SL.Sem
open Cert.ReferenceIdeal Cert.ReferenceIdeal.Gen

/-! The reference's terms, the row's scale taken out of its offset. -/

/-- What the claim assumes: finite log-sum-exps, finite scales that are not negative, finite positive code scales, lengths in range. -/
structure Tame (x : RIn Ideal) : Prop where
  lse : ∀ (b : Fin 2) (h : Fin 16) (i : Fin 512), ∃ r : ℝ, x.arg12 (ix3 b h i) = (r : EReal)
  dsc : ∀ (b : Fin 2) (i : Fin 512) (h : Fin 16), ∃ r : ℝ, 0 ≤ r ∧ x.arg11 (ix3 b i h) = (r : EReal)
  ksc : ∀ (b : Fin 2) (s : Fin 4096) (g : Fin 8), ∃ r : ℝ, 0 < r ∧ x.arg6 (ix3 b s g) = (r : EReal)
  len : ∀ b : Fin 2, (x.arg9 (ix1 b)).toInt ≤ 2147483136

variable (x : RIn Ideal) (b : Fin 2) (g : Fin 8) (e : Fin 2) (i : Fin 512)

/-- The product of a row's gradient codes and its output. -/
def D (h : Fin 16) : EReal := ∑ d : Fin 128, x.v0_0 (ix4 b i h d) * x.arg13 (ix4 b i h d)

theorem v7_D (h : Fin 16) (r : ℝ) (hr : 0 ≤ r) (er : x.arg11 (ix3 b i h) = (r : EReal)) : val_v7 x (ix3 b i h) = (D x b i h * (r : EReal) : EReal) := by
  rw [v7_at, er]
  exact Alg.dsum_mul (fun d : Fin 128 => x.v0_0 (ix4 b i h d)) (fun d => x.arg13 (ix4 b i h d)) r hr

theorem v28_eq (p : Fin 20) (r l : ℝ) (hr : 0 ≤ r) (er : x.arg11 (ix3 b i (hd g e)) = (r : EReal)) (el : x.arg12 (ix3 b (hd g e) i) = (l : EReal)) :
    val_v28 x (ix5 b g e i p) = (Ideal.exp ((Alg.SC : EReal) * (∑ d : Fin 128, x.arg3 (ix3 p g d) * x.arg0 (ix4 b i (hd g e) d)) - (l : EReal)) * ((∑ d : Fin 128, x.arg4 (ix3 p g d) * x.v0_0 (ix4 b i (hd g e) d)) * (r : EReal) - D x b i (hd g e) * (r : EReal)) : EReal) := by
  rw [v28_at, v15_at, v14_at, v22_at, v11_at, v13_at, v7_D x b i _ r hr er, er, el, Alg.ofBits_scale]
  simp only [v8_at, v9_at]

theorem exp_masked (l : ℝ) : Ideal.exp ((⊥ : EReal) - (l : EReal)) = 0 := by
  rw [sub_eq_add_neg, EReal.bot_add]; rfl

theorem sge_iff (i j : Fin 512) : IntOp.cmpi CmpIPredicate.sge (BitVec.ofNat 32 i.val) (BitVec.ofNat 32 j.val) = 1#1 ↔ j.val ≤ i.val := by
  have hi : (BitVec.ofNat 32 i.val).toInt = i.val := by rw [BitVec.toInt_eq_toNat_of_lt] <;> rw [BitVec.toNat_ofNat] <;> omega
  have hj : (BitVec.ofNat 32 j.val).toInt = j.val := by rw [BitVec.toInt_eq_toNat_of_lt] <;> rw [BitVec.toNat_ofNat] <;> omega
  simp only [IntOp.cmpi, BitVec.sle, hi, hj]
  by_cases h : j.val ≤ i.val
  · simp [h]
  · simp [h]

theorem slt_iff (a n : BitVec 32) : IntOp.cmpi CmpIPredicate.slt a n = 1#1 ↔ a.toInt < n.toInt := by
  simp only [IntOp.cmpi, BitVec.slt]
  by_cases h : a.toInt < n.toInt
  · simp [h]
  · simp [h]

theorem v53_eq (j : Fin 512) (r l : ℝ) (hr : 0 ≤ r) (er : x.arg11 (ix3 b i (hd g e)) = (r : EReal)) (el : x.arg12 (ix3 b (hd g e) i) = (l : EReal)) :
    val_v53 x (ix5 b g e i j) = (if j.val ≤ i.val then Ideal.exp ((Alg.SC : EReal) * (∑ d : Fin 128, x.arg1 (ix4 b j g d) * x.arg0 (ix4 b i (hd g e) d)) - (l : EReal)) * ((∑ d : Fin 128, x.arg2 (ix4 b j g d) * x.v0_0 (ix4 b i (hd g e) d)) * (r : EReal) - D x b i (hd g e) * (r : EReal)) else 0 : EReal) := by
  rw [v53_at, v32_at, v14_at, v47_at, v11_at, v13_at, v7_D x b i _ r hr er, er, el, Alg.ofBits_scale, Alg.ofBits_neg_inf]
  simp only [v8_at, v9_at]
  by_cases h : j.val ≤ i.val
  · rw [if_pos h, (sge_iff i j).mpr h]; rfl
  · rw [if_neg h]
    have h' : ¬ IntOp.cmpi CmpIPredicate.sge (BitVec.ofNat 32 i.val) (BitVec.ofNat 32 j.val) = 1 := fun k => h ((sge_iff i j).mp k)
    rw [show Scalar.select (IntOp.cmpi CmpIPredicate.sge (BitVec.ofNat 32 i.val) (BitVec.ofNat 32 j.val)) ((Alg.SC : EReal) * (∑ d : Fin 128, x.arg1 (ix4 b j g d) * x.arg0 (ix4 b i (hd g e) d)) : EReal) (⊥ : EReal) = ⊥ from if_neg h', exp_masked, zero_mul]

/-- Whether a context slot counts. -/
def okC (s : Fin 4096) : BitVec 1 := IntOp.cmpi CmpIPredicate.slt (BitVec.ofNat 32 s.val) (x.arg9 (ix1 b))

theorem v88_ok (s : Fin 4096) (r l k : ℝ) (hr : 0 ≤ r) (er : x.arg11 (ix3 b i (hd g e)) = (r : EReal)) (el : x.arg12 (ix3 b (hd g e) i) = (l : EReal)) (ek : x.arg6 (ix3 b s g) = (k : EReal)) (h : okC x b s = 1#1) :
    val_v88 x (ix5 b g e i s) = (Ideal.exp ((Alg.SC : EReal) * (∑ d : Fin 128, x.v0_1 (ix4 b s g d) * x.arg0 (ix4 b i (hd g e) d)) * (k : EReal) - (l : EReal)) * ((∑ d : Fin 128, x.v0_2 (ix4 b s g d) * x.v0_0 (ix4 b i (hd g e) d)) * (r : EReal) * x.arg8 (ix3 b s g) - D x b i (hd g e) * (r : EReal)) * (k : EReal) : EReal) := by
  unfold okC at h
  rw [v88_at, v68_at, v14_at, v78_at, v11_at, v13_at, v7_D x b i _ r hr er, er, el, ek, Alg.ofBits_scale, h]
  simp only [v8_at, v9_at]
  rfl

theorem v88_masked (s : Fin 4096) (l : ℝ) (el : x.arg12 (ix3 b (hd g e) i) = (l : EReal)) (h : ¬ okC x b s = 1#1) :
    val_v88 x (ix5 b g e i s) = (0 : EReal) := by
  have h' : ∀ y : EReal, Scalar.select (IntOp.cmpi CmpIPredicate.slt (BitVec.ofNat 32 s.val) (x.arg9 (ix1 b))) y (⊥ : EReal) = ⊥ := fun y => if_neg h
  rw [v88_at, v14_at, el, Alg.ofBits_neg_inf, h', exp_masked, zero_mul, zero_mul]

end Cert.ReferenceIdeal.Hand

end
-- ==== Proof.KernelIdeal.UCtx.lean ====
module

public import proofs.«01_k».proof.Proof.KernelIdeal.Blocks
public import Idealize.ShloMosaic.PureOps.Ideal

@[expose] public section

set_option maxRecDepth 65536

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- The programs of the body, over the extended reals. -/
abbrev PR := Prog (TpuEff nD τ sig (Elt Ideal) Λ₀ .tc) PUnit.{1}

theorem inb_aff (r : Fin 128) : ∀ a, (![r.val, 0] : Fin 2 → Nat) a + S1x512.size a ≤ S128x512.size a := by
  revert r; decide
theorem sl_row8 (g : Fin 8) : S8x512.Slices ![g.val, 0] S1x512 := by revert g; decide
theorem inb_qaug (g : Fin 8) (t : Fin 4) : ∀ a, (![g.val, 0, 256 * t.val] : Fin 3 → Nat) a + S1x256x256.size a ≤ S8x256x1024.size a := by
  revert g t; decide
theorem inb_do8 (g : Fin 8) (t : Fin 4) : ∀ a, (![g.val, 0, 256 * t.val] : Fin 3 → Nat) a + S1x128x256.size a ≤ S8x128x1024.size a := by
  revert g t; decide
theorem inb_dsum (g : Fin 8) (t : Fin 4) : ∀ a, (![g.val, 0, 256 * t.val] : Fin 3 → Nat) a + S1x1x256.size a ≤ S8x1x1024.size a := by
  revert g t; decide

/-- The twelve-and-four rows of a group's table: the parts of `lk` and of `inv`. -/
def affPart (a : BitVec 32) (v1 : Elt Ideal .i32) (ks : Vec Ideal S1x8x512 .f32) : Nat → FVec Ideal S8x512 .bf16
  | 0 => k0_pay556 a v1 ks | 1 => k0_pay558 a v1 ks | 2 => k0_pay559 a v1 ks
  | 3 => k0_pay560 a v1 ks | 4 => k0_pay560 a v1 ks | 5 => k0_pay560 a v1 ks
  | 6 => k0_pay562 a v1 ks | 7 => k0_pay562 a v1 ks | 8 => k0_pay562 a v1 ks
  | 9 => k0_pay563 a v1 ks | 10 => k0_pay563 a v1 ks | 11 => k0_pay563 a v1 ks
  | _ => k0_pay564

def affRow (x : FVec Ideal S8x512 .bf16) (g : Fin 8) : FVec Ideal S1x512 .f32 :=
  shapeCast S1x512 (extf .f32 (extractStridedSlice S1x512 ![g.val, 0] x (sl_row8 g)) bitsLt_bf16_f32) shapeCasts_S1x512_S1x512

/-- One row of the table, stored. -/
def affU (arg31 : Memref sig .tc .vmem S128x512 .f32) (r : Fin 128) (w : FVec Ideal S1x512 .f32) (jp : PUnit.{1} → PR) : PR := do
  let v ← Prog.lift (.load arg31 (Rect.unit (s := S128x512) ![r.val, 0] S1x512.size (inb_aff r)).toLoadRect (View.loadsAt_vmem h_S1x512))
  Prog.lift (.store arg31 (Rect.unit (s := S128x512) ![r.val, 0] S1x512.size (inb_aff r)) w Finset.univ (View.stores_vmem_bits_univ h_S1x512 rfl) (.inl rfl))
  jp ⟨⟩

def affL (arg31 : Memref sig .tc .vmem S128x512 .f32) (a : BitVec 32) (v1 : Elt Ideal .i32) (ks : Vec Ideal S1x8x512 .f32) :
    (n : Nat) → n ≤ 128 → (PUnit.{1} → PR) → PR
  | 0, _, jp => jp ⟨⟩
  | n + 1, h, jp => affL arg31 a v1 ks n (by omega) fun _ =>
      affU arg31 ⟨n, h⟩ (affRow (affPart a v1 ks (n % 16)) ⟨n / 16, by omega⟩) jp

theorem sl_codes (g : Fin 8) : S512x8x128.Slices ![0, g.val, 0] S512x1x128 := by revert g; decide

/-- One group's codes of the chunk, a row per slot. -/
def ctxCodes (x : Vec Ideal S1x4096x128 .fp8e4m3) (g : Fin 8) : FVec Ideal S512x128 .fp8e4m3 :=
  shapeCast S512x128 (extractStridedSlice S512x1x128 ![0, g.val, 0] (k0_pay705 x) (sl_codes g)) shapeCasts_S512x1x128_S512x128

/-- One group's row of scales, spread over the columns. -/
def ctxWide (x : FVec Ideal S8x512 .f32) (g : Fin 8) : FVec Ideal S512x256 .f32 :=
  have y : FVec Ideal S512x128 .f32 := transpose S512x128 [1, 0] (broadcastTo S128x512 (shapeCast S1x512 (extractStridedSlice S1x512 ![g.val, 0] x (sl_row8 g)) shapeCasts_S1x512_S1x512) broadcasts_S1x512_S128x512) transposes_S128x512_p1_0_S512x128
  concatenate S512x256 1 [⟨S512x128, y⟩, ⟨S512x128, y⟩] concatenates_S512x128_S512x128_S512x256_d1

/-- The step of one group and one tile of 256 columns: the accumulator's tile with the chunk's contribution added. -/
def ctxPay (af : FVec Ideal S512x128 .bf16) (ks : FVec Ideal S8x512 .f32) (vs : FVec Ideal S8x512 .f32) (kc vc : Vec Ideal S1x4096x128 .fp8e4m3) (g : Fin 8)
    (q : Vec Ideal S1x256x256 .bf16) (d : Vec Ideal S1x128x256 .fp8e5m2) (s : Vec Ideal S1x1x256 .f32) (acc : Vec Ideal S1x128x256 .f32) : FVec Ideal S1x128x256 .f32 :=
  k0_pay720 (ctxCodes vc g) (k0_pay727 (ctxCodes kc g)) (ctxWide ks g) (ctxWide vs g) (k0_pay731 af (ctxCodes kc g) q) d s acc

def ctxT (arg20 : Memref sig .tc .vmem S8x256x1024 .bf16) (arg21 : Memref sig .tc .vmem S8x128x1024 .fp8e5m2) (arg23 : Memref sig .tc .vmem S8x128x1024 .f32) (arg24 : Memref sig .tc .vmem S8x1x1024 .f32)
    (pay : Vec Ideal S1x256x256 .bf16 → Vec Ideal S1x128x256 .fp8e5m2 → Vec Ideal S1x1x256 .f32 → Vec Ideal S1x128x256 .f32 → FVec Ideal S1x128x256 .f32)
    (g : Fin 8) (t : Fin 4) (jp : PUnit.{1} → PR) : PR := do
  let q ← Prog.lift (.load arg20 (Rect.unit (s := S8x256x1024) ![g.val, 0, 256 * t.val] S1x256x256.size (inb_qaug g t)).toLoadRect (View.loadsAt_vmem h_S1x256x256))
  let d ← Prog.lift (.load arg21 (Rect.unit (s := S8x128x1024) ![g.val, 0, 256 * t.val] S1x128x256.size (inb_do8 g t)).toLoadRect (View.loadsAt_vmem h_S1x128x256))
  let s ← Prog.lift (.load arg24 (Rect.unit (s := S8x1x1024) ![g.val, 0, 256 * t.val] S1x1x256.size (inb_dsum g t)).toLoadRect (View.loadsAt_vmem h_S1x1x256))
  let a ← Prog.lift (.load arg23 (Rect.unit (s := S8x128x1024) ![g.val, 0, 256 * t.val] S1x128x256.size (inb_do8 g t)).toLoadRect (View.loadsAt_vmem h_S1x128x256))
  let a' ← Prog.lift (.load arg23 (Rect.unit (s := S8x128x1024) ![g.val, 0, 256 * t.val] S1x128x256.size (inb_do8 g t)).toLoadRect (View.loadsAt_vmem h_S1x128x256))
  Prog.lift (.store arg23 (Rect.unit (s := S8x128x1024) ![g.val, 0, 256 * t.val] S1x128x256.size (inb_do8 g t)) (pay q d s a) Finset.univ (View.stores_vmem_bits_univ h_S1x128x256 rfl) (.inl rfl))
  jp ⟨⟩

/-- Four tiles of one group. -/
def ctxG (arg20 : Memref sig .tc .vmem S8x256x1024 .bf16) (arg21 : Memref sig .tc .vmem S8x128x1024 .fp8e5m2) (arg23 : Memref sig .tc .vmem S8x128x1024 .f32) (arg24 : Memref sig .tc .vmem S8x1x1024 .f32)
    (pay : Vec Ideal S1x256x256 .bf16 → Vec Ideal S1x128x256 .fp8e5m2 → Vec Ideal S1x1x256 .f32 → Vec Ideal S1x128x256 .f32 → FVec Ideal S1x128x256 .f32)
    (g : Fin 8) (jp : PUnit.{1} → PR) : PR :=
  ctxT arg20 arg21 arg23 arg24 pay g 0 fun _ => ctxT arg20 arg21 arg23 arg24 pay g 1 fun _ => ctxT arg20 arg21 arg23 arg24 pay g 2 fun _ => ctxT arg20 arg21 arg23 arg24 pay g 3 jp

/-- Four groups, their codes loaded first. -/
def ctxQ (arg10 arg11 : Memref sig .tc .vmem S1x4096x128 .fp8e4m3) (arg20 : Memref sig .tc .vmem S8x256x1024 .bf16) (arg21 : Memref sig .tc .vmem S8x128x1024 .fp8e5m2) (arg23 : Memref sig .tc .vmem S8x128x1024 .f32) (arg24 : Memref sig .tc .vmem S8x1x1024 .f32)
    (af : FVec Ideal S512x128 .bf16) (ks vs : FVec Ideal S8x512 .f32) (g0 g1 g2 g3 : Fin 8) (jp : PUnit.{1} → PR) : PR := do
  let kc ← Prog.lift (.load arg10 (Rect.unit (s := S1x4096x128) ![0, 0, 0] S1x4096x128.size inb_S1x4096x128_S1x4096x128_0_0_0).toLoadRect (View.loadsAt_vmem h_S1x4096x128))
  let vc ← Prog.lift (.load arg11 (Rect.unit (s := S1x4096x128) ![0, 0, 0] S1x4096x128.size inb_S1x4096x128_S1x4096x128_0_0_0).toLoadRect (View.loadsAt_vmem h_S1x4096x128))
  ctxG arg20 arg21 arg23 arg24 (ctxPay af ks vs kc vc g0) g0 fun _ => ctxG arg20 arg21 arg23 arg24 (ctxPay af ks vs kc vc g1) g1 fun _ =>
    ctxG arg20 arg21 arg23 arg24 (ctxPay af ks vs kc vc g2) g2 fun _ => ctxG arg20 arg21 arg23 arg24 (ctxPay af ks vs kc vc g3) g3 jp

/-- The chunk's program, group by group and tile by tile. -/
def ctxP (i : grid0.Coords) (arg10 arg11 : Memref sig .tc .vmem S1x4096x128 .fp8e4m3) (arg12 arg13 : Memref sig .tc .vmem S1x8x512 .f32) (arg20 : Memref sig .tc .vmem S8x256x1024 .bf16) (arg21 : Memref sig .tc .vmem S8x128x1024 .fp8e5m2) (arg23 : Memref sig .tc .vmem S8x128x1024 .f32) (arg24 : Memref sig .tc .vmem S8x1x1024 .f32)
    (arg30 : Memref sig .tc .vmem S512x128 .bf16) (harg30 : arg30.IsWhole) (arg31 : Memref sig .tc .vmem S128x512 .f32) (v1 : Elt Ideal .i32) (jp : PUnit.{1} → PR) : PR := do
  let ks : Vec Ideal S1x8x512 .f32 ← Prog.lift (.load arg12 (Rect.unit (s := S1x8x512) ![0, 0, 0] S1x8x512.size inb_S1x8x512_S1x8x512_0_0_0).toLoadRect (View.loadsAt_vmem h_S1x8x512))
  affL arg31 (BitVec.ofNat 32 (i 1).val) v1 ks 128 (le_refl _) fun _ => do
  let f : Vec Ideal S128x512 .f32 ← Prog.lift (.load arg31 (Rect.unit (s := S128x512) ![0, 0] S128x512.size inb_S128x512_S128x512_0_0).toLoadRect (View.loadsAt_vmem h_S128x512))
  let d ← Prog.lift (.load arg30 (Rect.unit (s := S512x128) ![0, 0] S512x128.size inb_S512x128_S512x128_0_0).toLoadRect (View.loadsAt_vmem h_S512x128))
  Prog.lift (.store arg30 (Rect.unit (s := S512x128) ![0, 0] S512x128.size inb_S512x128_S512x128_0_0) (k0_pay703 (k0_pay702 f)) Finset.univ (View.stores_vmem h_S512x128 (harg30.storeExact_slice rfl _ packedbf16_S512x128_S512x128_0_0) (fun _ => rfl)) (.inl rfl))
  let af : Vec Ideal S512x128 .bf16 ← Prog.lift (.load arg30 (Rect.unit (s := S512x128) ![0, 0] S512x128.size inb_S512x128_S512x128_0_0).toLoadRect (View.loadsAt_vmem h_S512x128))
  let vs : Vec Ideal S1x8x512 .f32 ← Prog.lift (.load arg13 (Rect.unit (s := S1x8x512) ![0, 0, 0] S1x8x512.size inb_S1x8x512_S1x8x512_0_0_0).toLoadRect (View.loadsAt_vmem h_S1x8x512))
  ctxQ arg10 arg11 arg20 arg21 arg23 arg24 af (k0_pay553 (BitVec.ofNat 32 (i 1).val) v1 ks) (k0_pay704 vs) 0 1 2 3 fun _ =>
    ctxQ arg10 arg11 arg20 arg21 arg23 arg24 af (k0_pay553 (BitVec.ofNat 32 (i 1).val) v1 ks) (k0_pay704 vs) 4 5 6 7 jp

variable (i : grid0.Coords) (arg2 : Memref sig .tc .smem S2 .i32) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x8192x128 .fp8e5m2) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S160x128 .bf16) (harg8 : arg8.IsWhole) (arg9 : Memref sig .tc .vmem S160x128 .bf16) (harg9 : arg9.IsWhole) (arg10 : Memref sig .tc .vmem S1x4096x128 .fp8e4m3) (harg10 : arg10.IsWhole) (arg11 : Memref sig .tc .vmem S1x4096x128 .fp8e4m3) (harg11 : arg11.IsWhole) (arg12 : Memref sig .tc .vmem S1x8x512 .f32) (harg12 : arg12.IsWhole) (arg13 : Memref sig .tc .vmem S1x8x512 .f32) (harg13 : arg13.IsWhole) (arg14 : Memref sig .tc .vmem S1x16x512 .f32) (harg14 : arg14.IsWhole) (arg15 : Memref sig .tc .vmem S1x16x512 .f32) (harg15 : arg15.IsWhole) (arg16 : Memref sig .tc .vmem S1x8192x128 .bf16) (harg16 : arg16.IsWhole) (arg17 : Memref sig .tc .vmem S1x20x16x512 .f32) (harg17 : arg17.IsWhole) (arg18 : Memref sig .tc .vmem S160x128 .bf16) (harg18 : arg18.IsWhole) (arg19 : Memref sig .tc .vmem S160x128 .bf16) (harg19 : arg19.IsWhole) (arg20 : Memref sig .tc .vmem S8x256x1024 .bf16) (harg20 : arg20.IsWhole) (arg21 : Memref sig .tc .vmem S8x128x1024 .fp8e5m2) (harg21 : arg21.IsWhole) (arg22 : Memref sig .tc .vmem S8x128x1024 .bf16) (harg22 : arg22.IsWhole) (arg23 : Memref sig .tc .vmem S8x128x1024 .f32) (harg23 : arg23.IsWhole) (arg24 : Memref sig .tc .vmem S8x1x1024 .f32) (harg24 : arg24.IsWhole) (arg25 : Memref sig .tc .vmem S8x1x1024 .f32) (harg25 : arg25.IsWhole) (arg26 : Memref sig .tc .vmem S128x2x128 .bf16) (harg26 : arg26.IsWhole) (arg27 : Memref sig .tc .vmem S128x2x128 .bf16) (harg27 : arg27.IsWhole) (arg28 : Memref sig .tc .vmem S8x32x128 .f32) (harg28 : arg28.IsWhole) (arg29 : Memref sig .tc .vmem S8x32x128 .f32) (harg29 : arg29.IsWhole) (arg30 : Memref sig .tc .vmem S512x128 .bf16) (harg30 : arg30.IsWhole) (arg31 : Memref sig .tc .vmem S128x512 .f32) (harg31 : arg31.IsWhole) (arg32 : Memref sig .tc .vmem S256x128 .f32) (harg32 : arg32.IsWhole)

set_option maxHeartbeats 1000000 in
theorem ctxB_eq (v1 : Elt Ideal .i32) (jp : PUnit.{1} → PR) :
    ctxB (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1 jp = ctxP i arg10 arg11 arg12 arg13 arg20 arg21 arg23 arg24 arg30 harg30 arg31 v1 jp := by
  unfold ctxB
  simp only [k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part92_skel, k0_part93_skel, k0_part94_skel, k0_part95_skel, k0_part96_skel, k0_part97_skel, k0_part98_skel, k0_part99_skel, k0_part100_skel, k0_part101_skel, k0_part102_skel, k0_part103_skel, k0_part104_skel, k0_part105_skel, k0_part106_skel, k0_part107_skel, k0_part108_skel, k0_part109_skel, k0_part110_skel, k0_part111_skel, k0_part112_skel, k0_part113_skel, k0_part114_skel, k0_part115_skel, k0_part116_skel, k0_part117_skel, k0_part118_skel, k0_part119_skel, k0_part120_skel, k0_part121_skel, k0_part122_skel, k0_part123_skel, k0_part124_skel, k0_part125_skel, k0_part126_skel, k0_part127_skel, k0_part128_skel, k0_part129_skel, k0_part130_skel, k0_part131_skel, k0_part132_skel, k0_part133_skel, k0_part134_skel, bind_assoc, pure_bind]
  simp only [ctxP, ctxQ, ctxG, ctxT, affL, affU, bind_assoc, pure_bind, Nat.reduceMod, Nat.reduceDiv]
  rfl
end Cert.KernelIdeal.Gen

end
-- ==== Proof.KernelIdeal.UPro.lean ====
module

public import proofs.«01_k».proof.Proof.KernelIdeal.UCtx

@[expose] public section

set_option maxRecDepth 65536

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-! The batch's preparation, one group at a time: the same program for every group. -/

theorem sl_rows (g : Fin 8) (r : Fin 2) : S512x16x128.Slices ![0, 2 * g.val + r.val, 0] S512x1x128 := by revert g r; decide
theorem inb_slab (g : Fin 8) : ∀ a, (![g.val, 0, 0] : Fin 3 → Nat) a + S1x128x1024.size a ≤ S8x128x1024.size a := by revert g; decide
theorem inb_slabq (g : Fin 8) (r : Fin 2) : ∀ a, (![g.val, 128 * r.val, 0] : Fin 3 → Nat) a + S1x128x1024.size a ≤ S8x256x1024.size a := by revert g r; decide
theorem inb_row (g : Fin 8) : ∀ a, (![g.val, 0, 0] : Fin 3 → Nat) a + S1x1x1024.size a ≤ S8x1x1024.size a := by revert g; decide
theorem inb_head (g : Fin 8) (r : Fin 2) : ∀ a, (![0, 2 * g.val + r.val, 0] : Fin 3 → Nat) a + S1x1x512.size a ≤ S1x16x512.size a := by revert g r; decide
theorem inb_pre (g : Fin 8) : ∀ a, (![g.val, 0, 0] : Fin 3 → Nat) a + S1x32x128.size a ≤ S8x32x128.size a := by revert g; decide
theorem inb_ds (g : Fin 8) (r : Fin 2) (i : Fin 4) : ∀ a, (![0, 0, 2 * g.val + r.val, 128 * i.val] : Fin 4 → Nat) a + S1x20x1x128.size a ≤ S1x20x16x512.size a := by revert g r i; decide
theorem inb_qrows (g : Fin 8) (r : Fin 2) : ∀ a, S1x256x2x128.size a = 0 ∨ (![0, g.val + 8 * r.val, 0, 0] : Fin 4 → Nat) a + (![1, 16, 1, 1] : Fin 4 → Nat) a * (S1x256x2x128.size a - 1) < S1x4096x2x128.size a := by revert g r; decide
theorem inb_krows (g : Fin 8) (r : Fin 2) : ∀ a, S1x256x2x128.size a = 0 ∨ (![0, g.val / 2 + 4 * r.val, 0, 0] : Fin 4 → Nat) a + (![1, 8, 1, 1] : Fin 4 → Nat) a * (S1x256x2x128.size a - 1) < S1x2048x2x128.size a := by revert g r; decide
theorem inb_prows (g : Fin 8) (r : Fin 2) : ∀ a, S16x2x128.size a = 0 ∨ (![g.val / 2 + 4 * r.val, 0, 0] : Fin 3 → Nat) a + (![8, 1, 1] : Fin 3 → Nat) a * (S16x2x128.size a - 1) < S128x2x128.size a := by revert g r; decide
theorem pk_slab (g : Fin 8) : (Rect.unit (s := S8x128x1024) ![g.val, 0, 0] S1x128x1024.size (inb_slab g)).PackedRows (EltTy.packing .bf16) := by revert g; decide
theorem pk_slab8 (g : Fin 8) : (Rect.unit (s := S8x128x1024) ![g.val, 0, 0] S1x128x1024.size (inb_slab g)).PackedRows (EltTy.packing .fp8e5m2) := by revert g; decide
theorem pk_slabq (g : Fin 8) (r : Fin 2) : (Rect.unit (s := S8x256x1024) ![g.val, 128 * r.val, 0] S1x128x1024.size (inb_slabq g r)).PackedRows (EltTy.packing .bf16) := by revert g r; decide
theorem sl_ds (r : Fin 2) (i : Fin 4) : S32x1024.Slices ![0, 128 * (2 * i.val + r.val)] S20x128 := by revert r i; decide

/-- The rows of one head of the incoming gradient's codes. -/
def dA (g : Fin 8) (r : Fin 2) (v : Vec Ideal S1x8192x128 .fp8e5m2) : FVec Ideal S512x128 .fp8e5m2 :=
  shapeCast S512x128 (extractStridedSlice S512x1x128 ![0, 2 * g.val + r.val, 0] (k0_pay13 v) (sl_rows g r)) shapeCasts_S512x1x128_S512x128

/-- The group's codes, a column per query. -/
def DC (g : Fin 8) (v : Vec Ideal S1x8192x128 .fp8e5m2) : FVec Ideal S128x1024 .bf16 := k0_pay77 (dA g 0 v) (dA g 1 v)

/-- The group's row number in the table, less its first. -/
def padI (g : Fin 8) : IVec S128x1024 32 :=
  subi (iota .tc S128x1024 32 [0] iota_S128x1024_d0_w32) (broadcast S128x1024 (BitVec.ofNat 32 (16 * g.val)))

/-- The group's rows of the table: one, and the parts of `-lse` in base two. -/
def padV (g : Fin 8) (l0 l1 : Vec Ideal S1x1x512 .f32) : FVec Ideal S128x1024 .bf16 :=
  k0_pay101 (k0_pay94 (k0_pay87 l0) l1) (k0_pay95 (k0_pay87 l0) l1) (k0_pay96 (k0_pay87 l0) l1) (padI g) (cmpi .sge (padI g) (broadcast S128x1024 0#32)) k0_pay99

/-- The rows of one parity of two strided reads, interleaved. -/
def kSel (p : Fin 2) (u v : Vec Ideal S1x256x2x128 .bf16) : FVec Ideal S512x128 .bf16 :=
  interleaveRows S512x128 (shapeCast S256x128 (rowsOfParity p S1x256x1x128 u bitcasts_S1x256x2x128_w16_S1x256x1x128_w32) shapeCasts_S1x256x1x128_S256x128)
    (shapeCast S256x128 (rowsOfParity p S1x256x1x128 v bitcasts_S1x256x2x128_w16_S1x256x1x128_w32) shapeCasts_S1x256x1x128_S256x128) bitcasts_S512x128_w16_S256x128_w32
def pSel (p : Fin 2) (u v : Vec Ideal S16x2x128 .bf16) : FVec Ideal S32x128 .bf16 :=
  interleaveRows S32x128 (shapeCast S16x128 (rowsOfParity p S16x1x128 u bitcasts_S16x2x128_w16_S16x1x128_w32) shapeCasts_S16x1x128_S16x128)
    (shapeCast S16x128 (rowsOfParity p S16x1x128 v bitcasts_S16x2x128_w16_S16x1x128_w32) shapeCasts_S16x1x128_S16x128) bitcasts_S32x128_w16_S16x128_w32

/-- The prefix's probabilities. -/
def pP (PK : FVec Ideal S32x128 .bf16) (QC : FVec Ideal S128x1024 .bf16) (nl : FVec Ideal S1x1024 .f32) : FVec Ideal S32x1024 .f32 :=
  select k0_pay12 (exp2 (addf (mulf (matmul dot_S32x128_S128x1024_S32x1024_1_0_0_1_n_n none PK QC (constant S32x1024 .f32 0x00000000#32))
    (broadcast S32x1024 (Named.named κ "scale_log2e" 0x3E0293EE#32 : Ideal .f32))) (broadcastTo S32x1024 nl broadcasts_S1x1024_S32x1024)))
    (broadcast S32x1024 (Scalar.ofBits .f32 0x00000000#32 : Ideal .f32))
def pDS (PK PV : FVec Ideal S32x128 .bf16) (DC QC : FVec Ideal S128x1024 .bf16) (ds nl : FVec Ideal S1x1024 .f32) : FVec Ideal S32x1024 .f32 :=
  mulf (pP PK QC nl) (subf (matmul dot_S32x128_S128x1024_S32x1024_1_0_0_1_n_n none PV DC (constant S32x1024 .f32 0x00000000#32)) (broadcastTo S32x1024 ds broadcasts_S1x1024_S32x1024))
def pD (PK PV : FVec Ideal S32x128 .bf16) (DC QC : FVec Ideal S128x1024 .bf16) (ds dscr nl : FVec Ideal S1x1024 .f32) : FVec Ideal S32x1024 .f32 :=
  mulf (pDS PK PV DC QC ds nl) (broadcastTo S32x1024 dscr broadcasts_S1x1024_S32x1024)
/-- One head's 128 columns of the prefix's score gradient. -/
def dsPay (D : FVec Ideal S32x1024 .f32) (r : Fin 2) (i : Fin 4) : FVec Ideal S1x20x1x128 .f32 :=
  shapeCast S1x20x1x128 (extractStridedSlice S20x128 ![0, 128 * (2 * i.val + r.val)] D (sl_ds r i)) shapeCasts_S20x128_S1x20x1x128

/-- The first tile of the own part: 128 keys. -/
def self0 (DC QC : FVec Ideal S128x1024 .bf16) (ds nl : FVec Ideal S1x1024 .f32) (KA VA : FVec Ideal S512x128 .bf16) (acc : Vec Ideal S1x128x256 .f32) : FVec Ideal S1x128x256 .f32 :=
  k0_pay126 ds (transpose S128x512 [1, 0] KA transposes_S512x128_p1_0_S128x512)
    (select k0_pay11 (exp2 (addf (mulf (matmul dot_S128x128_S128x256_S128x256_1_0_0_1_n_n none (extractStridedSlice S128x128 ![0, 0] KA slices_S512x128_o0_0_S128x128) (extractStridedSlice S128x256 ![0, 0] QC slices_S128x1024_o0_0_S128x256) (constant S128x256 .f32 0x00000000#32))
      (broadcast S128x256 (Named.named κ "scale_log2e" 0x3E0293EE#32 : Ideal .f32))) (broadcastTo S128x256 (extractStridedSlice S1x256 ![0, 0] nl slices_S1x1024_o0_0_S1x256) broadcasts_S1x256_S128x256)))
      (broadcast S128x256 (Scalar.ofBits .f32 0x00000000#32 : Ideal .f32)))
    (extractStridedSlice S128x128 ![0, 0] VA slices_S512x128_o0_0_S128x128) (k0_pay125 DC) acc

/-- The own part of the accumulator, tile by tile. -/
def selfPay (DC QC : FVec Ideal S128x1024 .bf16) (ds nl : FVec Ideal S1x1024 .f32) (KA VA : FVec Ideal S512x128 .bf16) (t : Fin 4) (acc : Vec Ideal S1x128x256 .f32) : FVec Ideal S1x128x256 .f32 :=
  match t with
  | 0 => self0 DC QC ds nl KA VA acc
  | 1 => k0_pay128 (k0_pay127 k0_pay11 DC QC ds nl KA VA (transpose S128x512 [1, 0] KA transposes_S512x128_p1_0_S128x512) acc)
  | 2 => k0_pay129 k0_pay11 DC QC ds nl KA VA (transpose S128x512 [1, 0] KA transposes_S512x128_p1_0_S128x512) acc
  | 3 => k0_pay133 k0_pay11 DC ds VA (transpose S128x512 [1, 0] KA transposes_S512x128_p1_0_S128x512) (k0_pay130 QC nl KA) (k0_pay131 QC nl KA) (k0_pay132 (F := Ideal)) acc

def par (g : Fin 8) : Fin 2 := ⟨g.val % 2, Nat.mod_lt _ (by decide)⟩

/-- A group's codes, offsets, scales and query columns, each stored in its slab. -/
def grp1 (arg3 : Memref sig .tc .vmem S1x8192x128 .bf16) (harg3 : arg3.IsWhole) (arg4 : Memref sig .tc .vmem S1x8192x128 .bf16) (harg4 : arg4.IsWhole)
    (arg14 arg15 : Memref sig .tc .vmem S1x16x512 .f32) (arg20 : Memref sig .tc .vmem S8x256x1024 .bf16) (harg20 : arg20.IsWhole)
    (arg21 : Memref sig .tc .vmem S8x128x1024 .fp8e5m2) (harg21 : arg21.IsWhole) (arg22 : Memref sig .tc .vmem S8x128x1024 .bf16) (harg22 : arg22.IsWhole)
    (arg24 arg25 : Memref sig .tc .vmem S8x1x1024 .f32)
    (p22 : FVec Ideal S1x128x1024 .bf16) (p21 : FVec Ideal S1x128x1024 .fp8e5m2) (p24 : Vec Ideal S1x256x2x128 .bf16 → Vec Ideal S1x256x2x128 .bf16 → FVec Ideal S1x1x1024 .f32)
    (p25 : Vec Ideal S1x1x512 .f32 → Vec Ideal S1x1x512 .f32 → FVec Ideal S1x1x1024 .f32)
    (p20 : Vec Ideal S1x256x2x128 .bf16 → Vec Ideal S1x256x2x128 .bf16 → FVec Ideal S1x128x1024 .bf16)
    (p20' : Vec Ideal S1x1x512 .f32 → Vec Ideal S1x1x512 .f32 → FVec Ideal S1x128x1024 .bf16) (g : Fin 8)
    (jp : Vec Ideal S1x256x2x128 .bf16 → Vec Ideal S1x256x2x128 .bf16 → Vec Ideal S1x256x2x128 .bf16 → Vec Ideal S1x256x2x128 .bf16 →
      Vec Ideal S1x1x512 .f32 → Vec Ideal S1x1x512 .f32 → Vec Ideal S1x1x512 .f32 → Vec Ideal S1x1x512 .f32 → PR) : PR := do
  let _ ← Prog.lift (.load arg22 (Rect.unit (s := S8x128x1024) ![g.val, 0, 0] S1x128x1024.size (inb_slab g)).toLoadRect (View.loadsAt_vmem h_S1x128x1024))
  Prog.lift (.store arg22 (Rect.unit (s := S8x128x1024) ![g.val, 0, 0] S1x128x1024.size (inb_slab g)) p22 Finset.univ (View.stores_vmem h_S1x128x1024 (harg22.storeExact_slice rfl _ (pk_slab g)) (fun _ => rfl)) (.inl rfl))
  let _ ← Prog.lift (.load arg21 (Rect.unit (s := S8x128x1024) ![g.val, 0, 0] S1x128x1024.size (inb_slab g)).toLoadRect (View.loadsAt_vmem h_S1x128x1024))
  Prog.lift (.store arg21 (Rect.unit (s := S8x128x1024) ![g.val, 0, 0] S1x128x1024.size (inb_slab g)) p21 Finset.univ (View.stores_vmem h_S1x128x1024 (harg21.storeExact_slice rfl _ (pk_slab8 g)) (fun _ => rfl)) (.inl rfl))
  let q0 : Vec Ideal S1x256x2x128 .bf16 ← Prog.lift (.load (arg3.reshape S1x4096x2x128 reshapes_S1x8192x128_S1x4096x2x128.1 reshapes_S1x8192x128_S1x4096x2x128.2 harg3.contiguous) (⟨![0, g.val + 8 * (0 : Fin 2).val, 0, 0], S1x256x2x128.size, ![1, 16, 1, 1], inb_qrows g 0⟩ : LoadRect S1x4096x2x128) (View.loadsAt_vmem h_S1x256x2x128))
  let q1 : Vec Ideal S1x256x2x128 .bf16 ← Prog.lift (.load (arg3.reshape S1x4096x2x128 reshapes_S1x8192x128_S1x4096x2x128.1 reshapes_S1x8192x128_S1x4096x2x128.2 harg3.contiguous) (⟨![0, g.val + 8 * (1 : Fin 2).val, 0, 0], S1x256x2x128.size, ![1, 16, 1, 1], inb_qrows g 1⟩ : LoadRect S1x4096x2x128) (View.loadsAt_vmem h_S1x256x2x128))
  let o0 : Vec Ideal S1x256x2x128 .bf16 ← Prog.lift (.load (arg4.reshape S1x4096x2x128 reshapes_S1x8192x128_S1x4096x2x128.1 reshapes_S1x8192x128_S1x4096x2x128.2 harg4.contiguous) (⟨![0, g.val + 8 * (0 : Fin 2).val, 0, 0], S1x256x2x128.size, ![1, 16, 1, 1], inb_qrows g 0⟩ : LoadRect S1x4096x2x128) (View.loadsAt_vmem h_S1x256x2x128))
  let o1 : Vec Ideal S1x256x2x128 .bf16 ← Prog.lift (.load (arg4.reshape S1x4096x2x128 reshapes_S1x8192x128_S1x4096x2x128.1 reshapes_S1x8192x128_S1x4096x2x128.2 harg4.contiguous) (⟨![0, g.val + 8 * (1 : Fin 2).val, 0, 0], S1x256x2x128.size, ![1, 16, 1, 1], inb_qrows g 1⟩ : LoadRect S1x4096x2x128) (View.loadsAt_vmem h_S1x256x2x128))
  let _ ← Prog.lift (.load arg24 (Rect.unit (s := S8x1x1024) ![g.val, 0, 0] S1x1x1024.size (inb_row g)).toLoadRect (View.loadsAt_vmem h_S1x1x1024))
  Prog.lift (.store arg24 (Rect.unit (s := S8x1x1024) ![g.val, 0, 0] S1x1x1024.size (inb_row g)) (p24 o0 o1) Finset.univ (View.stores_vmem_bits_univ h_S1x1x1024 rfl) (.inl rfl))
  let l0 : Vec Ideal S1x1x512 .f32 ← Prog.lift (.load arg15 (Rect.unit (s := S1x16x512) ![0, 2 * g.val + (0 : Fin 2).val, 0] S1x1x512.size (inb_head g 0)).toLoadRect (View.loadsAt_vmem h_S1x1x512))
  let l1 : Vec Ideal S1x1x512 .f32 ← Prog.lift (.load arg15 (Rect.unit (s := S1x16x512) ![0, 2 * g.val + (1 : Fin 2).val, 0] S1x1x512.size (inb_head g 1)).toLoadRect (View.loadsAt_vmem h_S1x1x512))
  let d0 : Vec Ideal S1x1x512 .f32 ← Prog.lift (.load arg14 (Rect.unit (s := S1x16x512) ![0, 2 * g.val + (0 : Fin 2).val, 0] S1x1x512.size (inb_head g 0)).toLoadRect (View.loadsAt_vmem h_S1x1x512))
  let d1 : Vec Ideal S1x1x512 .f32 ← Prog.lift (.load arg14 (Rect.unit (s := S1x16x512) ![0, 2 * g.val + (1 : Fin 2).val, 0] S1x1x512.size (inb_head g 1)).toLoadRect (View.loadsAt_vmem h_S1x1x512))
  let _ ← Prog.lift (.load arg25 (Rect.unit (s := S8x1x1024) ![g.val, 0, 0] S1x1x1024.size (inb_row g)).toLoadRect (View.loadsAt_vmem h_S1x1x1024))
  Prog.lift (.store arg25 (Rect.unit (s := S8x1x1024) ![g.val, 0, 0] S1x1x1024.size (inb_row g)) (p25 d0 d1) Finset.univ (View.stores_vmem_bits_univ h_S1x1x1024 rfl) (.inl rfl))
  let _ ← Prog.lift (.load arg20 (Rect.unit (s := S8x256x1024) ![g.val, 128 * (0 : Fin 2).val, 0] S1x128x1024.size (inb_slabq g 0)).toLoadRect (View.loadsAt_vmem h_S1x128x1024))
  Prog.lift (.store arg20 (Rect.unit (s := S8x256x1024) ![g.val, 128 * (0 : Fin 2).val, 0] S1x128x1024.size (inb_slabq g 0)) (p20 q0 q1) Finset.univ (View.stores_vmem h_S1x128x1024 (harg20.storeExact_slice rfl _ (pk_slabq g 0)) (fun _ => rfl)) (.inl rfl))
  let _ ← Prog.lift (.load arg20 (Rect.unit (s := S8x256x1024) ![g.val, 128 * (1 : Fin 2).val, 0] S1x128x1024.size (inb_slabq g 1)).toLoadRect (View.loadsAt_vmem h_S1x128x1024))
  Prog.lift (.store arg20 (Rect.unit (s := S8x256x1024) ![g.val, 128 * (1 : Fin 2).val, 0] S1x128x1024.size (inb_slabq g 1)) (p20' l0 l1) Finset.univ (View.stores_vmem h_S1x128x1024 (harg20.storeExact_slice rfl _ (pk_slabq g 1)) (fun _ => rfl)) (.inl rfl))
  jp q0 q1 o0 o1 l0 l1 d0 d1

/-- One head's 128 columns of the prefix's score gradient, stored. -/
def dsU (arg17 : Memref sig .tc .vmem S1x20x16x512 .f32) (g : Fin 8) (r : Fin 2) (i : Fin 4) (w : FVec Ideal S1x20x1x128 .f32) (jp : PUnit.{1} → PR) : PR := do
  let _ ← Prog.lift (.load arg17 (Rect.unit (s := S1x20x16x512) ![0, 0, 2 * g.val + r.val, 128 * i.val] S1x20x1x128.size (inb_ds g r i)).toLoadRect (View.loadsAt_vmem h_S1x20x1x128))
  Prog.lift (.store arg17 (Rect.unit (s := S1x20x16x512) ![0, 0, 2 * g.val + r.val, 128 * i.val] S1x20x1x128.size (inb_ds g r i)) w Finset.univ (View.stores_vmem_bits_univ h_S1x20x1x128 rfl) (.inl rfl))
  jp ⟨⟩

/-- A group's prefix part: the score gradient stored, the two prefix sums added to. -/
def grp2 (arg17 : Memref sig .tc .vmem S1x20x16x512 .f32) (arg26 arg27 : Memref sig .tc .vmem S128x2x128 .bf16) (arg28 arg29 : Memref sig .tc .vmem S8x32x128 .f32)
    (pd : Vec Ideal S16x2x128 .bf16 → Vec Ideal S16x2x128 .bf16 → Vec Ideal S16x2x128 .bf16 → Vec Ideal S16x2x128 .bf16 → Fin 2 → Fin 4 → FVec Ideal S1x20x1x128 .f32)
    (p28 : Vec Ideal S16x2x128 .bf16 → Vec Ideal S16x2x128 .bf16 → Vec Ideal S16x2x128 .bf16 → Vec Ideal S16x2x128 .bf16 → Vec Ideal S1x32x128 .f32 → FVec Ideal S1x32x128 .f32)
    (p29 : Vec Ideal S16x2x128 .bf16 → Vec Ideal S16x2x128 .bf16 → Vec Ideal S1x32x128 .f32 → FVec Ideal S1x32x128 .f32) (g : Fin 8)
    (jp : Vec Ideal S16x2x128 .bf16 → Vec Ideal S16x2x128 .bf16 → Vec Ideal S16x2x128 .bf16 → Vec Ideal S16x2x128 .bf16 → PR) : PR := do
  let k0 : Vec Ideal S16x2x128 .bf16 ← Prog.lift (.load arg26 (⟨![g.val / 2 + 4 * (0 : Fin 2).val, 0, 0], S16x2x128.size, ![8, 1, 1], inb_prows g 0⟩ : LoadRect S128x2x128) (View.loadsAt_vmem h_S16x2x128))
  let k1 : Vec Ideal S16x2x128 .bf16 ← Prog.lift (.load arg26 (⟨![g.val / 2 + 4 * (1 : Fin 2).val, 0, 0], S16x2x128.size, ![8, 1, 1], inb_prows g 1⟩ : LoadRect S128x2x128) (View.loadsAt_vmem h_S16x2x128))
  let v0 : Vec Ideal S16x2x128 .bf16 ← Prog.lift (.load arg27 (⟨![g.val / 2 + 4 * (0 : Fin 2).val, 0, 0], S16x2x128.size, ![8, 1, 1], inb_prows g 0⟩ : LoadRect S128x2x128) (View.loadsAt_vmem h_S16x2x128))
  let v1 : Vec Ideal S16x2x128 .bf16 ← Prog.lift (.load arg27 (⟨![g.val / 2 + 4 * (1 : Fin 2).val, 0, 0], S16x2x128.size, ![8, 1, 1], inb_prows g 1⟩ : LoadRect S128x2x128) (View.loadsAt_vmem h_S16x2x128))
  dsU arg17 g 0 0 (pd k0 k1 v0 v1 0 0) fun _ => dsU arg17 g 0 1 (pd k0 k1 v0 v1 0 1) fun _ => dsU arg17 g 0 2 (pd k0 k1 v0 v1 0 2) fun _ => dsU arg17 g 0 3 (pd k0 k1 v0 v1 0 3) fun _ =>
    dsU arg17 g 1 0 (pd k0 k1 v0 v1 1 0) fun _ => dsU arg17 g 1 1 (pd k0 k1 v0 v1 1 1) fun _ => dsU arg17 g 1 2 (pd k0 k1 v0 v1 1 2) fun _ => dsU arg17 g 1 3 (pd k0 k1 v0 v1 1 3) fun _ => do
  let a : Vec Ideal S1x32x128 .f32 ← Prog.lift (.load arg28 (Rect.unit (s := S8x32x128) ![g.val, 0, 0] S1x32x128.size (inb_pre g)).toLoadRect (View.loadsAt_vmem h_S1x32x128))
  let _ ← Prog.lift (.load arg28 (Rect.unit (s := S8x32x128) ![g.val, 0, 0] S1x32x128.size (inb_pre g)).toLoadRect (View.loadsAt_vmem h_S1x32x128))
  Prog.lift (.store arg28 (Rect.unit (s := S8x32x128) ![g.val, 0, 0] S1x32x128.size (inb_pre g)) (p28 k0 k1 v0 v1 a) Finset.univ (View.stores_vmem_bits_univ h_S1x32x128 rfl) (.inl rfl))
  let b : Vec Ideal S1x32x128 .f32 ← Prog.lift (.load arg29 (Rect.unit (s := S8x32x128) ![g.val, 0, 0] S1x32x128.size (inb_pre g)).toLoadRect (View.loadsAt_vmem h_S1x32x128))
  let _ ← Prog.lift (.load arg29 (Rect.unit (s := S8x32x128) ![g.val, 0, 0] S1x32x128.size (inb_pre g)).toLoadRect (View.loadsAt_vmem h_S1x32x128))
  Prog.lift (.store arg29 (Rect.unit (s := S8x32x128) ![g.val, 0, 0] S1x32x128.size (inb_pre g)) (p29 k0 k1 b) Finset.univ (View.stores_vmem_bits_univ h_S1x32x128 rfl) (.inl rfl))
  jp k0 k1 v0 v1

/-- One tile of a group's own part added to the accumulator. -/
def selfU (arg23 : Memref sig .tc .vmem S8x128x1024 .f32) (g : Fin 8) (t : Fin 4) (p : Vec Ideal S1x128x256 .f32 → FVec Ideal S1x128x256 .f32) (jp : PUnit.{1} → PR) : PR := do
  let a : Vec Ideal S1x128x256 .f32 ← Prog.lift (.load arg23 (Rect.unit (s := S8x128x1024) ![g.val, 0, 256 * t.val] S1x128x256.size (inb_do8 g t)).toLoadRect (View.loadsAt_vmem h_S1x128x256))
  let _ ← Prog.lift (.load arg23 (Rect.unit (s := S8x128x1024) ![g.val, 0, 256 * t.val] S1x128x256.size (inb_do8 g t)).toLoadRect (View.loadsAt_vmem h_S1x128x256))
  Prog.lift (.store arg23 (Rect.unit (s := S8x128x1024) ![g.val, 0, 256 * t.val] S1x128x256.size (inb_do8 g t)) (p a) Finset.univ (View.stores_vmem_bits_univ h_S1x128x256 rfl) (.inl rfl))
  jp ⟨⟩

/-- A group's accumulator: the prefix part stored, the own part added tile by tile. -/
def grp3 (arg6 : Memref sig .tc .vmem S1x4096x128 .bf16) (harg6 : arg6.IsWhole) (arg7 : Memref sig .tc .vmem S1x4096x128 .bf16) (harg7 : arg7.IsWhole) (arg23 : Memref sig .tc .vmem S8x128x1024 .f32)
    (w : FVec Ideal S1x128x1024 .f32) (p : Vec Ideal S1x256x2x128 .bf16 → Vec Ideal S1x256x2x128 .bf16 → Vec Ideal S1x256x2x128 .bf16 → Vec Ideal S1x256x2x128 .bf16 → Fin 4 → Vec Ideal S1x128x256 .f32 → FVec Ideal S1x128x256 .f32)
    (g : Fin 8) (jp : PUnit.{1} → PR) : PR := do
  let _ ← Prog.lift (.load arg23 (Rect.unit (s := S8x128x1024) ![g.val, 0, 0] S1x128x1024.size (inb_slab g)).toLoadRect (View.loadsAt_vmem h_S1x128x1024))
  Prog.lift (.store arg23 (Rect.unit (s := S8x128x1024) ![g.val, 0, 0] S1x128x1024.size (inb_slab g)) w Finset.univ (View.stores_vmem_bits_univ h_S1x128x1024 rfl) (.inl rfl))
  let k0 : Vec Ideal S1x256x2x128 .bf16 ← Prog.lift (.load (arg6.reshape S1x2048x2x128 reshapes_S1x4096x128_S1x2048x2x128.1 reshapes_S1x4096x128_S1x2048x2x128.2 harg6.contiguous) (⟨![0, g.val / 2 + 4 * (0 : Fin 2).val, 0, 0], S1x256x2x128.size, ![1, 8, 1, 1], inb_krows g 0⟩ : LoadRect S1x2048x2x128) (View.loadsAt_vmem h_S1x256x2x128))
  let k1 : Vec Ideal S1x256x2x128 .bf16 ← Prog.lift (.load (arg6.reshape S1x2048x2x128 reshapes_S1x4096x128_S1x2048x2x128.1 reshapes_S1x4096x128_S1x2048x2x128.2 harg6.contiguous) (⟨![0, g.val / 2 + 4 * (1 : Fin 2).val, 0, 0], S1x256x2x128.size, ![1, 8, 1, 1], inb_krows g 1⟩ : LoadRect S1x2048x2x128) (View.loadsAt_vmem h_S1x256x2x128))
  let v0 : Vec Ideal S1x256x2x128 .bf16 ← Prog.lift (.load (arg7.reshape S1x2048x2x128 reshapes_S1x4096x128_S1x2048x2x128.1 reshapes_S1x4096x128_S1x2048x2x128.2 harg7.contiguous) (⟨![0, g.val / 2 + 4 * (0 : Fin 2).val, 0, 0], S1x256x2x128.size, ![1, 8, 1, 1], inb_krows g 0⟩ : LoadRect S1x2048x2x128) (View.loadsAt_vmem h_S1x256x2x128))
  let v1 : Vec Ideal S1x256x2x128 .bf16 ← Prog.lift (.load (arg7.reshape S1x2048x2x128 reshapes_S1x4096x128_S1x2048x2x128.1 reshapes_S1x4096x128_S1x2048x2x128.2 harg7.contiguous) (⟨![0, g.val / 2 + 4 * (1 : Fin 2).val, 0, 0], S1x256x2x128.size, ![1, 8, 1, 1], inb_krows g 1⟩ : LoadRect S1x2048x2x128) (View.loadsAt_vmem h_S1x256x2x128))
  selfU arg23 g 0 (p k0 k1 v0 v1 0) fun _ => selfU arg23 g 1 (p k0 k1 v0 v1 1) fun _ => selfU arg23 g 2 (p k0 k1 v0 v1 2) fun _ => selfU arg23 g 3 (p k0 k1 v0 v1 3) jp

section
variable (arg3 : Memref sig .tc .vmem S1x8192x128 .bf16) (harg3 : arg3.IsWhole) (arg4 : Memref sig .tc .vmem S1x8192x128 .bf16) (harg4 : arg4.IsWhole) (arg5 : Memref sig .tc .vmem S1x8192x128 .fp8e5m2)
    (arg6 : Memref sig .tc .vmem S1x4096x128 .bf16) (harg6 : arg6.IsWhole) (arg7 : Memref sig .tc .vmem S1x4096x128 .bf16) (harg7 : arg7.IsWhole)
    (arg14 arg15 : Memref sig .tc .vmem S1x16x512 .f32) (arg17 : Memref sig .tc .vmem S1x20x16x512 .f32) (arg20 : Memref sig .tc .vmem S8x256x1024 .bf16) (harg20 : arg20.IsWhole)
    (arg21 : Memref sig .tc .vmem S8x128x1024 .fp8e5m2) (harg21 : arg21.IsWhole) (arg22 : Memref sig .tc .vmem S8x128x1024 .bf16) (harg22 : arg22.IsWhole) (arg23 : Memref sig .tc .vmem S8x128x1024 .f32)
    (arg24 arg25 : Memref sig .tc .vmem S8x1x1024 .f32) (arg26 arg27 : Memref sig .tc .vmem S128x2x128 .bf16) (arg28 arg29 : Memref sig .tc .vmem S8x32x128 .f32)

/-- One group's part of the preparation. -/
def grp (v : Vec Ideal S1x8192x128 .fp8e5m2) (g : Fin 8) (jp : PUnit.{1} → PR) : PR :=
  grp1 arg3 harg3 arg4 harg4 arg14 arg15 arg20 harg20 arg21 harg21 arg22 harg22 arg24 arg25
    (k0_pay78 (dA g 0 v) (dA g 1 v)) (k0_pay80 (k0_pay79 (dA g 0 v) (dA g 1 v))) (k0_pay86 (DC g v)) k0_pay89 (fun a b => k0_pay100 (k0_pay84 a b)) (fun a b => k0_pay102 (padV g a b)) g
    fun q0 q1 o0 o1 l0 l1 d0 d1 =>
  grp2 arg17 arg26 arg27 arg28 arg29
    (fun k0 k1 v0 v1 => dsPay (pD (pSel (par g) k0 k1) (pSel (par g) v0 v1) (DC g v) (k0_pay84 q0 q1) (k0_pay85 (DC g v) o0 o1) (k0_pay88 d0 d1) (k0_pay90 (k0_pay87 l0) l1)))
    (fun k0 k1 v0 v1 => k0_pay116 (k0_pay83 q0 q1) (pD (pSel (par g) k0 k1) (pSel (par g) v0 v1) (DC g v) (k0_pay84 q0 q1) (k0_pay85 (DC g v) o0 o1) (k0_pay88 d0 d1) (k0_pay90 (k0_pay87 l0) l1)))
    (fun k0 k1 => k0_pay117 (k0_pay76 (dA g 0 v) (dA g 1 v)) (k0_pay88 d0 d1) (pP (pSel (par g) k0 k1) (k0_pay84 q0 q1) (k0_pay90 (k0_pay87 l0) l1))) g
    fun pk0 pk1 pv0 pv1 =>
  grp3 arg6 harg6 arg7 harg7 arg23 (k0_pay118 (pSel (par g) pk0 pk1) (pDS (pSel (par g) pk0 pk1) (pSel (par g) pv0 pv1) (DC g v) (k0_pay84 q0 q1) (k0_pay85 (DC g v) o0 o1) (k0_pay90 (k0_pay87 l0) l1)))
    (fun k0 k1 v0 v1 => selfPay (DC g v) (k0_pay84 q0 q1) (k0_pay85 (DC g v) o0 o1) (k0_pay90 (k0_pay87 l0) l1) (kSel (par g) k0 k1) (kSel (par g) v0 v1)) g jp

/-- Two groups, the codes read first. -/
def grpPair (g0 g1 : Fin 8) (jp : PUnit.{1} → PR) : PR := do
  let v : Vec Ideal S1x8192x128 .fp8e5m2 ← Prog.lift (.load arg5 (Rect.unit (s := S1x8192x128) ![0, 0, 0] S1x8192x128.size inb_S1x8192x128_S1x8192x128_0_0_0).toLoadRect (View.loadsAt_vmem h_S1x8192x128))
  grp arg3 harg3 arg4 harg4 arg6 harg6 arg7 harg7 arg14 arg15 arg17 arg20 harg20 arg21 harg21 arg22 harg22 arg23 arg24 arg25 arg26 arg27 arg28 arg29 v g0 fun _ =>
    grp arg3 harg3 arg4 harg4 arg6 harg6 arg7 harg7 arg14 arg15 arg17 arg20 harg20 arg21 harg21 arg22 harg22 arg23 arg24 arg25 arg26 arg27 arg28 arg29 v g1 jp

/-- The preparation, group by group. -/
def proP (jp : PUnit.{1} → PR) : PR :=
  grpPair arg3 harg3 arg4 harg4 arg5 arg6 harg6 arg7 harg7 arg14 arg15 arg17 arg20 harg20 arg21 harg21 arg22 harg22 arg23 arg24 arg25 arg26 arg27 arg28 arg29 0 1 fun _ =>
  grpPair arg3 harg3 arg4 harg4 arg5 arg6 harg6 arg7 harg7 arg14 arg15 arg17 arg20 harg20 arg21 harg21 arg22 harg22 arg23 arg24 arg25 arg26 arg27 arg28 arg29 2 3 fun _ =>
  grpPair arg3 harg3 arg4 harg4 arg5 arg6 harg6 arg7 harg7 arg14 arg15 arg17 arg20 harg20 arg21 harg21 arg22 harg22 arg23 arg24 arg25 arg26 arg27 arg28 arg29 4 5 fun _ =>
  grpPair arg3 harg3 arg4 harg4 arg5 arg6 harg6 arg7 harg7 arg14 arg15 arg17 arg20 harg20 arg21 harg21 arg22 harg22 arg23 arg24 arg25 arg26 arg27 arg28 arg29 6 7 jp
end

end Cert.KernelIdeal.Gen

end
-- ==== Proof.KernelIdeal.Put.lean ====
module

public import proofs.«01_k».proof.Proof.KernelIdeal.UPro
public import Idealize.ShloMosaic.Lib.Pointwise

@[expose] public section

set_option maxRecDepth 65536

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-! What an array reads after a block of it is stored, and what a strided read of a tile reads. -/

/-- An array with the block at `off` of the given size replaced. -/
def putU {α : Type} {s : Shape} (off size : Fin s.rank → Nat) (w : (⟨s.rank, size⟩ : Shape).Idx → α) (x : s.Idx → α) : s.Idx → α :=
  fun y => if h : ∀ a, off a ≤ (y a).val ∧ (y a).val < off a + size a then w (fun a => ⟨(y a).val - off a, by have := h a; show (y a).val - off a < size a; omega⟩) else x y

theorem putU_miss {α : Type} {s : Shape} (off size : Fin s.rank → Nat) (w : (⟨s.rank, size⟩ : Shape).Idx → α) (x : s.Idx → α) (y : s.Idx) (a : Fin s.rank)
    (h : (y a).val < off a ∨ off a + size a ≤ (y a).val) : putU off size w x y = x y := by
  unfold putU
  rw [dif_neg]
  intro hh
  have := hh a
  omega

theorem putU_hit {α : Type} {s : Shape} (off size : Fin s.rank → Nat) (w : (⟨s.rank, size⟩ : Shape).Idx → α) (x : s.Idx → α) (y : s.Idx) (j : (⟨s.rank, size⟩ : Shape).Idx)
    (h : ∀ a, (y a).val = off a + (j a).val) : putU off size w x y = w j := by
  unfold putU
  rw [dif_pos]
  · congr 1
    funext a
    apply Fin.ext
    show (y a).val - off a = (j a).val
    have := h a
    omega
  · intro a
    have h1 := h a
    have h2 : (j a).val < size a := (j a).isLt
    omega

/-- Reading after one store of a block. -/
theorem read_put {sig' : RefSig} {κ' : Kind} {sp' : Space} {s : Shape} {e : EltTy} {Val : EltTy → Type} (v : View sig' κ' sp' s e) (f : v.ty.Contents Val)
    (off size : Fin s.rank → Nat) (inb : ∀ a, off a + size a ≤ s.size a) (w : (⟨s.rank, size⟩ : Shape).Idx → Val e) (L : List (View.Piece Val s e)) :
    v.read Val (v.writes Val f (⟨Rect.unit off size inb, w⟩ :: L)) = putU off size w (v.read Val (v.writes Val f L)) := by
  funext y
  by_cases h : ∀ a, off a ≤ (y a).val ∧ (y a).val < off a + size a
  · have hj : ∀ a, (y a).val - off a < size a := fun a => by have := h a; omega
    rw [View.read_writes_cons_hit_of_coords v f (Rect.unit off size inb) w L (fun a => ⟨(y a).val - off a, hj a⟩) y]
    · unfold putU
      rw [dif_pos h]
    · intro a
      have := h a
      show (y a).val = off a + 1 * ((y a).val - off a)
      omega
  · rw [View.read_writes_cons_miss]
    · unfold putU
      rw [dif_neg h]
    · intro hm
      exact h ((Rect.mem_set_unit (inb := inb)).1 hm)

/-- The rows a strided read of a head pair's rows takes. -/
def strQ (x : Vec Ideal S1x8192x128 .bf16) (g : Fin 8) (r : Fin 2) : Vec Ideal S1x256x2x128 .bf16 :=
  fun y => x (ix3 0 ⟨32 * (y 1).val + 16 * r.val + 2 * g.val + (y 2).val, by have := (y 1).isLt; have := (y 2).isLt; have := g.isLt; have := r.isLt; change (y 1).val < 256 at *; change (y 2).val < 2 at *; omega⟩ (y 3))
def strK (x : Vec Ideal S1x4096x128 .bf16) (g : Fin 8) (r : Fin 2) : Vec Ideal S1x256x2x128 .bf16 :=
  fun y => x (ix3 0 ⟨16 * (y 1).val + 8 * r.val + 2 * (g.val / 2) + (y 2).val, by have := (y 1).isLt; have := (y 2).isLt; have := g.isLt; have := r.isLt; change (y 1).val < 256 at *; change (y 2).val < 2 at *; omega⟩ (y 3))
def strP (x : Vec Ideal S128x2x128 .bf16) (g : Fin 8) (r : Fin 2) : Vec Ideal S16x2x128 .bf16 :=
  fun y => x (ix3 ⟨8 * (y 0).val + 4 * r.val + g.val / 2, by have := (y 0).isLt; have := g.isLt; have := r.isLt; change (y 0).val < 16 at *; omega⟩ (y 1) (y 2))

theorem readAt_strQ (m : Memref sig .tc .vmem S1x8192x128 .bf16) (h : m.IsWhole) (x : Vec Ideal S1x8192x128 .bf16) (g : Fin 8) (r : Fin 2) :
    View.readAt (Elt Ideal) (m.reshape S1x4096x2x128 reshapes_S1x8192x128_S1x4096x2x128.1 reshapes_S1x8192x128_S1x4096x2x128.2 h.contiguous).view (⟨![0, g.val + 8 * r.val, 0, 0], S1x256x2x128.size, ![1, 16, 1, 1], inb_qrows g r⟩ : LoadRect S1x4096x2x128) (h.unread x) = strQ x g r := by
  funext y
  show m.view.read (Elt Ideal) (h.unread x) (Shape.reshapeEquiv _ _) = _
  rw [h.read_unread]
  unfold strQ
  apply congrArg
  refine Shape.reshapeEquiv_eq_of_vals _ _ _ _ _ (rowMajor_val3 _ (8192 * 0 + 8192 * 128) 128 rfl rfl) (rowMajor_val4 _ (4096 * 256) 256 128 rfl rfl rfl) ?_
  have h0 : (y 0).val = 0 := by have := (y 0).isLt; change (y 0).val < 1 at this; omega
  show 0 * _ + (32 * (y 1).val + 16 * r.val + 2 * g.val + (y 2).val) * 128 + (y 3).val = (0 + 1 * (y 0).val) * _ + ((g.val + 8 * r.val) + 16 * (y 1).val) * 256 + (0 + 1 * (y 2).val) * 128 + (0 + 1 * (y 3).val)
  omega

theorem readAt_strK (m : Memref sig .tc .vmem S1x4096x128 .bf16) (h : m.IsWhole) (x : Vec Ideal S1x4096x128 .bf16) (g : Fin 8) (r : Fin 2) :
    View.readAt (Elt Ideal) (m.reshape S1x2048x2x128 reshapes_S1x4096x128_S1x2048x2x128.1 reshapes_S1x4096x128_S1x2048x2x128.2 h.contiguous).view (⟨![0, g.val / 2 + 4 * r.val, 0, 0], S1x256x2x128.size, ![1, 8, 1, 1], inb_krows g r⟩ : LoadRect S1x2048x2x128) (h.unread x) = strK x g r := by
  funext y
  show m.view.read (Elt Ideal) (h.unread x) (Shape.reshapeEquiv _ _) = _
  rw [h.read_unread]
  unfold strK
  apply congrArg
  refine Shape.reshapeEquiv_eq_of_vals _ _ _ _ _ (rowMajor_val3 _ (4096 * 128) 128 rfl rfl) (rowMajor_val4 _ (2048 * 256) 256 128 rfl rfl rfl) ?_
  have h0 : (y 0).val = 0 := by have := (y 0).isLt; change (y 0).val < 1 at this; omega
  show 0 * _ + (16 * (y 1).val + 8 * r.val + 2 * (g.val / 2) + (y 2).val) * 128 + (y 3).val = (0 + 1 * (y 0).val) * _ + ((g.val / 2 + 4 * r.val) + 8 * (y 1).val) * 256 + (0 + 1 * (y 2).val) * 128 + (0 + 1 * (y 3).val)
  omega

theorem readAt_strP (m : Memref sig .tc .vmem S128x2x128 .bf16) (h : m.IsWhole) (x : Vec Ideal S128x2x128 .bf16) (g : Fin 8) (r : Fin 2) :
    View.readAt (Elt Ideal) m.view (⟨![g.val / 2 + 4 * r.val, 0, 0], S16x2x128.size, ![8, 1, 1], inb_prows g r⟩ : LoadRect S128x2x128) (h.unread x) = strP x g r := by
  funext y
  show m.view.read (Elt Ideal) (h.unread x) _ = _
  rw [h.read_unread]
  unfold strP
  apply congrArg
  funext a
  apply Fin.ext
  match a with
  | 0 => show (g.val / 2 + 4 * r.val) + 8 * (y 0).val = 8 * (y 0).val + 4 * r.val + g.val / 2; omega
  | 1 => show 0 + 1 * (y 1).val = (y 1).val; omega
  | 2 => show 0 + 1 * (y 2).val = (y 2).val; omega

end Cert.KernelIdeal.Gen

end
-- ==== Proof.KernelIdeal.RCtx.lean ====
module

public import proofs.«01_k».proof.Proof.KernelIdeal.Put
public import Idealize.ShloMosaic.Lib.Tactic

@[expose] public section

set_option maxRecDepth 65536

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-! Each unit run once: what it leaves in the arrays it stores into. -/

set_option maxHeartbeats 1000000 in
theorem ctxT_run (c : Dev nD) (E : Set ℕ) (K : PUnit.{1} → sProp 𝕄) (arg20 : Memref sig .tc .vmem S8x256x1024 .bf16) (h20 : arg20.IsWhole) (arg21 : Memref sig .tc .vmem S8x128x1024 .fp8e5m2) (h21 : arg21.IsWhole) (arg23 : Memref sig .tc .vmem S8x128x1024 .f32) (h23 : arg23.IsWhole) (arg24 : Memref sig .tc .vmem S8x1x1024 .f32) (h24 : arg24.IsWhole)
    (pay : Vec Ideal S1x256x256 .bf16 → Vec Ideal S1x128x256 .fp8e5m2 → Vec Ideal S1x1x256 .f32 → Vec Ideal S1x128x256 .f32 → FVec Ideal S1x128x256 .f32)
    (g : Fin 8) (t : Fin 4) (jp : PUnit.{1} → PR) (xq : Vec Ideal S8x256x1024 .bf16) (xd : Vec Ideal S8x128x1024 .fp8e5m2) (xs : Vec Ideal S8x1x1024 .f32) (xa : Vec Ideal S8x128x1024 .f32) :
    iprop((owns (c : Thread nD τ) arg20 fullShare xq ∗ owns (c : Thread nD τ) arg21 fullShare xd ∗ owns (c : Thread nD τ) arg24 fullShare xs ∗ owns (c : Thread nD τ) arg23 fullShare xa) ∗
      ((owns (c : Thread nD τ) arg20 fullShare xq ∗ owns (c : Thread nD τ) arg21 fullShare xd ∗ owns (c : Thread nD τ) arg24 fullShare xs ∗ owns (c : Thread nD τ) arg23 fullShare (putU ![g.val, 0, 256 * t.val] S1x128x256.size
        (pay (View.ld xq (Rect.unit (s := S8x256x1024) ![g.val, 0, 256 * t.val] S1x256x256.size (inb_qaug g t))) (View.ld xd (Rect.unit (s := S8x128x1024) ![g.val, 0, 256 * t.val] S1x128x256.size (inb_do8 g t)))
          (View.ld xs (Rect.unit (s := S8x1x1024) ![g.val, 0, 256 * t.val] S1x1x256.size (inb_dsum g t))) (View.ld xa (Rect.unit (s := S8x128x1024) ![g.val, 0, 256 * t.val] S1x128x256.size (inb_do8 g t)))) xa)) -∗ wp frame (wpE (defs₀ (F := Ideal)) Variants.none c none) E (jp ⟨⟩) K))
      ⊢ (wp frame (wpE (defs₀ (F := Ideal)) Variants.none c none) E (ctxT arg20 arg21 arg23 arg24 pay g t jp) K : sProp 𝕄) := by
  unfold ctxT
  simp only [owns]
  iintro ⟨⟨⟨%f0, %hf0, H0⟩, ⟨%f1, %hf1, H1⟩, ⟨%f2, %hf2, H2⟩, ⟨%f3, %hf3, H3⟩⟩, Hk⟩
  obtain rfl := h20.eq_unread hf0; obtain rfl := h21.eq_unread hf1; obtain rfl := h24.eq_unread hf2; obtain rfl := h23.eq_unread hf3
  sl_exec (disch := fail)
  iapply Hk
  isplitl [H0]
  · iexists _; isplitr; · ipureintro; exact h20.read_unread _
    iexact H0
  isplitl [H1]
  · iexists _; isplitr; · ipureintro; exact h21.read_unread _
    iexact H1
  isplitl [H2]
  · iexists _; isplitr; · ipureintro; exact h24.read_unread _
    iexact H2
  · iexists _; isplitr
    swap; · iexact H3
    ipureintro
    rw [read_put]
    delta ctxT_run.sl.q ctxT_run.sl.d ctxT_run.sl.s ctxT_run.sl.a
    simp only [View.readAt_eq_ld, View.writes_nil, h20.read_unread, h21.read_unread, h24.read_unread, h23.read_unread]

end Cert.KernelIdeal.Gen

end
-- ==== Proof.KernelIdeal.RPro.lean ====
module

public import proofs.«01_k».proof.Proof.KernelIdeal.RCtx
public import Idealize.ShloMosaic.Lib.Tactic

@[expose] public section

set_option maxRecDepth 65536

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-! Each unit of the preparation run once: what it leaves in the arrays it stores into. -/

/-- A head's row of a table with a row for each head. -/
def rowH (x : Vec Ideal S1x16x512 .f32) (g : Fin 8) (r : Fin 2) : Vec Ideal S1x1x512 .f32 :=
  fun y => x (ix3 0 ⟨2 * g.val + r.val, by have := g.isLt; have := r.isLt; omega⟩ (y 2))

theorem readAt_rowH (m : Memref sig .tc .vmem S1x16x512 .f32) (h : m.IsWhole) (x : Vec Ideal S1x16x512 .f32) (g : Fin 8) (r : Fin 2) :
    View.readAt (Elt Ideal) m.view (Rect.unit (s := S1x16x512) ![0, 2 * g.val + r.val, 0] S1x1x512.size (inb_head g r)).toLoadRect (h.unread x) = rowH x g r := by
  funext y
  show m.view.read (Elt Ideal) (h.unread x) _ = _
  rw [h.read_unread]
  unfold rowH
  apply congrArg
  funext a
  apply Fin.ext
  have h0 : (y 0).val = 0 := by have := (y 0).isLt; change (y 0).val < 1 at this; omega
  have h1 : (y 1).val = 0 := by have := (y 1).isLt; change (y 1).val < 1 at this; omega
  match a with
  | 0 => show 0 + 1 * (y 0).val = 0; omega
  | 1 => show 2 * g.val + r.val + 1 * (y 1).val = 2 * g.val + r.val; omega
  | 2 => show 0 + 1 * (y 2).val = (y 2).val; omega

theorem readAt_codes (m : Memref sig .tc .vmem S1x8192x128 .fp8e5m2) (h : m.IsWhole) (x : Vec Ideal S1x8192x128 .fp8e5m2) :
    View.readAt (Elt Ideal) m.view (Rect.unit (s := S1x8192x128) ![0, 0, 0] S1x8192x128.size inb_S1x8192x128_S1x8192x128_0_0_0).toLoadRect (h.unread x) = x := by
  funext y
  show m.view.read (Elt Ideal) (h.unread x) _ = _
  rw [h.read_unread]
  apply congrArg
  funext a
  apply Fin.ext
  match a with
  | 0 => show 0 + 1 * (y 0).val = (y 0).val; omega
  | 1 => show 0 + 1 * (y 1).val = (y 1).val; omega
  | 2 => show 0 + 1 * (y 2).val = (y 2).val; omega

set_option maxHeartbeats 2000000 in
/-- A group's codes, offsets, scales and query columns stored. -/
theorem grp1_run (c : Dev nD) (E : Set ℕ) (K : PUnit.{1} → sProp 𝕄) (arg3 : Memref sig .tc .vmem S1x8192x128 .bf16) (h3 : arg3.IsWhole) (arg4 : Memref sig .tc .vmem S1x8192x128 .bf16) (h4 : arg4.IsWhole) (arg14 : Memref sig .tc .vmem S1x16x512 .f32) (h14 : arg14.IsWhole) (arg15 : Memref sig .tc .vmem S1x16x512 .f32) (h15 : arg15.IsWhole) (arg20 : Memref sig .tc .vmem S8x256x1024 .bf16) (h20 : arg20.IsWhole) (arg21 : Memref sig .tc .vmem S8x128x1024 .fp8e5m2) (h21 : arg21.IsWhole) (arg22 : Memref sig .tc .vmem S8x128x1024 .bf16) (h22 : arg22.IsWhole) (arg24 : Memref sig .tc .vmem S8x1x1024 .f32) (h24 : arg24.IsWhole) (arg25 : Memref sig .tc .vmem S8x1x1024 .f32) (h25 : arg25.IsWhole)
    (p22 : FVec Ideal S1x128x1024 .bf16) (p21 : FVec Ideal S1x128x1024 .fp8e5m2) (p24 : Vec Ideal S1x256x2x128 .bf16 → Vec Ideal S1x256x2x128 .bf16 → FVec Ideal S1x1x1024 .f32)
    (p25 : Vec Ideal S1x1x512 .f32 → Vec Ideal S1x1x512 .f32 → FVec Ideal S1x1x1024 .f32) (p20 : Vec Ideal S1x256x2x128 .bf16 → Vec Ideal S1x256x2x128 .bf16 → FVec Ideal S1x128x1024 .bf16) (p20' : Vec Ideal S1x1x512 .f32 → Vec Ideal S1x1x512 .f32 → FVec Ideal S1x128x1024 .bf16) (g : Fin 8)
    (jp : Vec Ideal S1x256x2x128 .bf16 → Vec Ideal S1x256x2x128 .bf16 → Vec Ideal S1x256x2x128 .bf16 → Vec Ideal S1x256x2x128 .bf16 → Vec Ideal S1x1x512 .f32 → Vec Ideal S1x1x512 .f32 → Vec Ideal S1x1x512 .f32 → Vec Ideal S1x1x512 .f32 → PR) (x3 : Vec Ideal S1x8192x128 .bf16) (x4 : Vec Ideal S1x8192x128 .bf16) (x14 : Vec Ideal S1x16x512 .f32) (x15 : Vec Ideal S1x16x512 .f32) (x20 : Vec Ideal S8x256x1024 .bf16) (x21 : Vec Ideal S8x128x1024 .fp8e5m2) (x22 : Vec Ideal S8x128x1024 .bf16) (x24 : Vec Ideal S8x1x1024 .f32) (x25 : Vec Ideal S8x1x1024 .f32) :
    iprop((owns (c : Thread nD τ) arg3 fullShare x3 ∗ owns (c : Thread nD τ) arg4 fullShare x4 ∗ owns (c : Thread nD τ) arg14 fullShare x14 ∗ owns (c : Thread nD τ) arg15 fullShare x15 ∗ owns (c : Thread nD τ) arg20 fullShare x20 ∗ owns (c : Thread nD τ) arg21 fullShare x21 ∗ owns (c : Thread nD τ) arg22 fullShare x22 ∗ owns (c : Thread nD τ) arg24 fullShare x24 ∗ owns (c : Thread nD τ) arg25 fullShare x25) ∗
      ((owns (c : Thread nD τ) arg3 fullShare x3 ∗ owns (c : Thread nD τ) arg4 fullShare x4 ∗ owns (c : Thread nD τ) arg14 fullShare x14 ∗ owns (c : Thread nD τ) arg15 fullShare x15 ∗ owns (c : Thread nD τ) arg20 fullShare (putU ![g.val, 128 * (1 : Fin 2).val, 0] S1x128x1024.size (p20' (rowH x15 g 0) (rowH x15 g 1)) (putU ![g.val, 128 * (0 : Fin 2).val, 0] S1x128x1024.size (p20 (strQ x3 g 0) (strQ x3 g 1)) x20)) ∗ owns (c : Thread nD τ) arg21 fullShare (putU ![g.val, 0, 0] S1x128x1024.size p21 x21) ∗ owns (c : Thread nD τ) arg22 fullShare (putU ![g.val, 0, 0] S1x128x1024.size p22 x22) ∗ owns (c : Thread nD τ) arg24 fullShare (putU ![g.val, 0, 0] S1x1x1024.size (p24 (strQ x4 g 0) (strQ x4 g 1)) x24) ∗ owns (c : Thread nD τ) arg25 fullShare (putU ![g.val, 0, 0] S1x1x1024.size (p25 (rowH x14 g 0) (rowH x14 g 1)) x25)) -∗ wp frame (wpE (defs₀ (F := Ideal)) Variants.none c none) E (jp (strQ x3 g 0) (strQ x3 g 1) (strQ x4 g 0) (strQ x4 g 1) (rowH x15 g 0) (rowH x15 g 1) (rowH x14 g 0) (rowH x14 g 1)) K))
      ⊢ (wp frame (wpE (defs₀ (F := Ideal)) Variants.none c none) E (grp1 arg3 h3 arg4 h4 arg14 arg15 arg20 h20 arg21 h21 arg22 h22 arg24 arg25 p22 p21 p24 p25 p20 p20' g jp) K : sProp 𝕄) := by
  unfold grp1
  simp only [owns]
  iintro ⟨⟨⟨%f3, %hf3, H3⟩, ⟨%f4, %hf4, H4⟩, ⟨%f14, %hf14, H14⟩, ⟨%f15, %hf15, H15⟩, ⟨%f20, %hf20, H20⟩, ⟨%f21, %hf21, H21⟩, ⟨%f22, %hf22, H22⟩, ⟨%f24, %hf24, H24⟩, ⟨%f25, %hf25, H25⟩⟩, Hk⟩
  obtain rfl := h3.eq_unread hf3; obtain rfl := h4.eq_unread hf4; obtain rfl := h14.eq_unread hf14; obtain rfl := h15.eq_unread hf15; obtain rfl := h20.eq_unread hf20; obtain rfl := h21.eq_unread hf21; obtain rfl := h22.eq_unread hf22; obtain rfl := h24.eq_unread hf24; obtain rfl := h25.eq_unread hf25
  sl_exec (disch := fail)
  have eq0 : grp1_run.sl.q0 arg3 h3 g x3 = strQ x3 g 0 := readAt_strQ arg3 h3 x3 g 0
  have eq1 : grp1_run.sl.q1 arg3 h3 g x3 = strQ x3 g 1 := readAt_strQ arg3 h3 x3 g 1
  have eo0 : grp1_run.sl.o0 arg4 h4 g x4 = strQ x4 g 0 := readAt_strQ arg4 h4 x4 g 0
  have eo1 : grp1_run.sl.o1 arg4 h4 g x4 = strQ x4 g 1 := readAt_strQ arg4 h4 x4 g 1
  have el0 : grp1_run.sl.l0 arg15 h15 g x15 = rowH x15 g 0 := readAt_rowH arg15 h15 x15 g 0
  have el1 : grp1_run.sl.l1 arg15 h15 g x15 = rowH x15 g 1 := readAt_rowH arg15 h15 x15 g 1
  have ed0 : grp1_run.sl.d0 arg14 h14 g x14 = rowH x14 g 0 := readAt_rowH arg14 h14 x14 g 0
  have ed1 : grp1_run.sl.d1 arg14 h14 g x14 = rowH x14 g 1 := readAt_rowH arg14 h14 x14 g 1
  rw [eq0, eq1, eo0, eo1, el0, el1, ed0, ed1]
  iapply Hk
  isplitl [H3]
  · iexists _; isplitr; · ipureintro; exact h3.read_unread _
    iexact H3
  isplitl [H4]
  · iexists _; isplitr; · ipureintro; exact h4.read_unread _
    iexact H4
  isplitl [H14]
  · iexists _; isplitr; · ipureintro; exact h14.read_unread _
    iexact H14
  isplitl [H15]
  · iexists _; isplitr; · ipureintro; exact h15.read_unread _
    iexact H15
  isplitl [H20]
  · iexists _; isplitr
    swap; · iexact H20
    ipureintro
    rw [read_put, read_put]
    simp only [View.writes_nil, h3.read_unread, h4.read_unread, h14.read_unread, h15.read_unread, h20.read_unread, h21.read_unread, h22.read_unread, h24.read_unread, h25.read_unread]
  isplitl [H21]
  · iexists _; isplitr
    swap; · iexact H21
    ipureintro
    rw [read_put]
    simp only [View.writes_nil, h3.read_unread, h4.read_unread, h14.read_unread, h15.read_unread, h20.read_unread, h21.read_unread, h22.read_unread, h24.read_unread, h25.read_unread]
  isplitl [H22]
  · iexists _; isplitr
    swap; · iexact H22
    ipureintro
    rw [read_put]
    simp only [View.writes_nil, h3.read_unread, h4.read_unread, h14.read_unread, h15.read_unread, h20.read_unread, h21.read_unread, h22.read_unread, h24.read_unread, h25.read_unread]
  isplitl [H24]
  · iexists _; isplitr
    swap; · iexact H24
    ipureintro
    rw [read_put]
    simp only [View.writes_nil, h3.read_unread, h4.read_unread, h14.read_unread, h15.read_unread, h20.read_unread, h21.read_unread, h22.read_unread, h24.read_unread, h25.read_unread]
  · iexists _; isplitr
    swap; · iexact H25
    ipureintro
    rw [read_put]
    simp only [View.writes_nil, h3.read_unread, h4.read_unread, h14.read_unread, h15.read_unread, h20.read_unread, h21.read_unread, h22.read_unread, h24.read_unread, h25.read_unread]

theorem dsU_run (c : Dev nD) (E : Set ℕ) (K : PUnit.{1} → sProp 𝕄) (arg17 : Memref sig .tc .vmem S1x20x16x512 .f32) (h17 : arg17.IsWhole) (g : Fin 8) (r : Fin 2) (i : Fin 4) (w : FVec Ideal S1x20x1x128 .f32) (jp : PUnit.{1} → PR) (x17 : Vec Ideal S1x20x16x512 .f32) :
    iprop(owns (c : Thread nD τ) arg17 fullShare x17 ∗ (owns (c : Thread nD τ) arg17 fullShare (putU ![0, 0, 2 * g.val + r.val, 128 * i.val] S1x20x1x128.size w x17) -∗ wp frame (wpE (defs₀ (F := Ideal)) Variants.none c none) E (jp ⟨⟩) K))
      ⊢ (wp frame (wpE (defs₀ (F := Ideal)) Variants.none c none) E (dsU arg17 g r i w jp) K : sProp 𝕄) := by
  unfold dsU
  simp only [owns]
  iintro ⟨⟨%f17, %hf17, H17⟩, Hk⟩
  obtain rfl := h17.eq_unread hf17
  sl_exec (disch := fail)
  iapply Hk
  · iexists _; isplitr
    swap; · iexact H17
    ipureintro
    rw [read_put]
    simp only [View.writes_nil, h17.read_unread]

theorem selfU_run (c : Dev nD) (E : Set ℕ) (K : PUnit.{1} → sProp 𝕄) (arg23 : Memref sig .tc .vmem S8x128x1024 .f32) (h23 : arg23.IsWhole) (g : Fin 8) (t : Fin 4) (p : Vec Ideal S1x128x256 .f32 → FVec Ideal S1x128x256 .f32) (jp : PUnit.{1} → PR) (x23 : Vec Ideal S8x128x1024 .f32) :
    iprop(owns (c : Thread nD τ) arg23 fullShare x23 ∗ (owns (c : Thread nD τ) arg23 fullShare (putU ![g.val, 0, 256 * t.val] S1x128x256.size (p (View.ld x23 (Rect.unit (s := S8x128x1024) ![g.val, 0, 256 * t.val] S1x128x256.size (inb_do8 g t)))) x23) -∗ wp frame (wpE (defs₀ (F := Ideal)) Variants.none c none) E (jp ⟨⟩) K))
      ⊢ (wp frame (wpE (defs₀ (F := Ideal)) Variants.none c none) E (selfU arg23 g t p jp) K : sProp 𝕄) := by
  unfold selfU
  simp only [owns]
  iintro ⟨⟨%f23, %hf23, H23⟩, Hk⟩
  obtain rfl := h23.eq_unread hf23
  sl_exec (disch := fail)
  iapply Hk
  · iexists _; isplitr
    swap; · iexact H23
    ipureintro
    rw [read_put]
    delta selfU_run.sl.a
    simp only [View.readAt_eq_ld, View.writes_nil, h23.read_unread]

end Cert.KernelIdeal.Gen

end
-- ==== Proof.KernelIdeal.RPro2.lean ====
module

public import proofs.«01_k».proof.Proof.KernelIdeal.RPro
public import Idealize.ShloMosaic.Lib.Tactic

@[expose] public section

set_option maxRecDepth 65536

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-! The prefix and own parts of a group run once. -/

/-- A strided read of a tile. -/
theorem ldP_run (c : Dev nD) (E : Set ℕ) (K : PUnit.{1} → sProp 𝕄) (arg26 : Memref sig .tc .vmem S128x2x128 .bf16) (h26 : arg26.IsWhole) (g : Fin 8) (r : Fin 2) (k : Vec Ideal S16x2x128 .bf16 → PR) (x26 : Vec Ideal S128x2x128 .bf16) :
    iprop(owns (c : Thread nD τ) arg26 fullShare x26 ∗ (owns (c : Thread nD τ) arg26 fullShare x26 -∗ wp frame (wpE (defs₀ (F := Ideal)) Variants.none c none) E (k (strP x26 g r)) K))
      ⊢ (wp frame (wpE (defs₀ (F := Ideal)) Variants.none c none) E (Prog.lift (.load arg26 (⟨![g.val / 2 + 4 * r.val, 0, 0], S16x2x128.size, ![8, 1, 1], inb_prows g r⟩ : LoadRect S128x2x128) (View.loadsAt_vmem h_S16x2x128)) >>= fun v => k v) K : sProp 𝕄) := by
  simp only [owns]
  iintro ⟨⟨%f26, %hf26, H26⟩, Hk⟩
  obtain rfl := h26.eq_unread hf26
  sl_exec (disch := fail)
  have e : ldP_run.sl.v arg26 h26 g r x26 = strP x26 g r := readAt_strP arg26 h26 x26 g r
  rw [e]
  iapply Hk
  · iexists _; isplitr; · ipureintro; exact h26.read_unread _
    iexact H26

/-- A strided read of a tile. -/
theorem ldK_run (c : Dev nD) (E : Set ℕ) (K : PUnit.{1} → sProp 𝕄) (arg6 : Memref sig .tc .vmem S1x4096x128 .bf16) (h6 : arg6.IsWhole) (g : Fin 8) (r : Fin 2) (k : Vec Ideal S1x256x2x128 .bf16 → PR) (x6 : Vec Ideal S1x4096x128 .bf16) :
    iprop(owns (c : Thread nD τ) arg6 fullShare x6 ∗ (owns (c : Thread nD τ) arg6 fullShare x6 -∗ wp frame (wpE (defs₀ (F := Ideal)) Variants.none c none) E (k (strK x6 g r)) K))
      ⊢ (wp frame (wpE (defs₀ (F := Ideal)) Variants.none c none) E (Prog.lift (.load (arg6.reshape S1x2048x2x128 reshapes_S1x4096x128_S1x2048x2x128.1 reshapes_S1x4096x128_S1x2048x2x128.2 h6.contiguous) (⟨![0, g.val / 2 + 4 * r.val, 0, 0], S1x256x2x128.size, ![1, 8, 1, 1], inb_krows g r⟩ : LoadRect S1x2048x2x128) (View.loadsAt_vmem h_S1x256x2x128)) >>= fun v => k v) K : sProp 𝕄) := by
  simp only [owns]
  iintro ⟨⟨%f6, %hf6, H6⟩, Hk⟩
  obtain rfl := h6.eq_unread hf6
  sl_exec (disch := fail)
  have e : ldK_run.sl.v arg6 h6 g r x6 = strK x6 g r := readAt_strK arg6 h6 x6 g r
  rw [e]
  iapply Hk
  · iexists _; isplitr; · ipureintro; exact h6.read_unread _
    iexact H6

/-- A slab read, then stored. -/
theorem addU_run (c : Dev nD) (E : Set ℕ) (K : PUnit.{1} → sProp 𝕄) (arg28 : Memref sig .tc .vmem S8x32x128 .f32) (h28 : arg28.IsWhole) (g : Fin 8) (p : Vec Ideal S1x32x128 .f32 → FVec Ideal S1x32x128 .f32) (jp : PR) (x28 : Vec Ideal S8x32x128 .f32) :
    iprop(owns (c : Thread nD τ) arg28 fullShare x28 ∗ (owns (c : Thread nD τ) arg28 fullShare (putU ![g.val, 0, 0] S1x32x128.size (p (View.ld x28 (Rect.unit (s := S8x32x128) ![g.val, 0, 0] S1x32x128.size (inb_pre g)))) x28) -∗ wp frame (wpE (defs₀ (F := Ideal)) Variants.none c none) E jp K))
      ⊢ (wp frame (wpE (defs₀ (F := Ideal)) Variants.none c none) E (do
      let a : Vec Ideal S1x32x128 .f32 ← Prog.lift (.load arg28 (Rect.unit (s := S8x32x128) ![g.val, 0, 0] S1x32x128.size (inb_pre g)).toLoadRect (View.loadsAt_vmem h_S1x32x128))
      let _ ← Prog.lift (.load arg28 (Rect.unit (s := S8x32x128) ![g.val, 0, 0] S1x32x128.size (inb_pre g)).toLoadRect (View.loadsAt_vmem h_S1x32x128))
      Prog.lift (.store arg28 (Rect.unit (s := S8x32x128) ![g.val, 0, 0] S1x32x128.size (inb_pre g)) (p a) Finset.univ (View.stores_vmem_bits_univ h_S1x32x128 rfl) (.inl rfl))
      jp) K : sProp 𝕄) := by
  simp only [owns]
  iintro ⟨⟨%f28, %hf28, H28⟩, Hk⟩
  obtain rfl := h28.eq_unread hf28
  sl_exec (disch := fail)
  iapply Hk
  · iexists _; isplitr
    swap; · iexact H28
    ipureintro
    rw [read_put]
    simp only [View.readAt_eq_ld, View.writes_nil, h28.read_unread]

/-- A whole slab stored. -/
theorem slabU_run (c : Dev nD) (E : Set ℕ) (K : PUnit.{1} → sProp 𝕄) (arg23 : Memref sig .tc .vmem S8x128x1024 .f32) (h23 : arg23.IsWhole) (g : Fin 8) (w : FVec Ideal S1x128x1024 .f32) (jp : PR) (x23 : Vec Ideal S8x128x1024 .f32) :
    iprop(owns (c : Thread nD τ) arg23 fullShare x23 ∗ (owns (c : Thread nD τ) arg23 fullShare (putU ![g.val, 0, 0] S1x128x1024.size w x23) -∗ wp frame (wpE (defs₀ (F := Ideal)) Variants.none c none) E jp K))
      ⊢ (wp frame (wpE (defs₀ (F := Ideal)) Variants.none c none) E (do
      let _ ← Prog.lift (.load arg23 (Rect.unit (s := S8x128x1024) ![g.val, 0, 0] S1x128x1024.size (inb_slab g)).toLoadRect (View.loadsAt_vmem h_S1x128x1024))
      Prog.lift (.store arg23 (Rect.unit (s := S8x128x1024) ![g.val, 0, 0] S1x128x1024.size (inb_slab g)) w Finset.univ (View.stores_vmem_bits_univ h_S1x128x1024 rfl) (.inl rfl))
      jp) K : sProp 𝕄) := by
  simp only [owns]
  iintro ⟨⟨%f23, %hf23, H23⟩, Hk⟩
  obtain rfl := h23.eq_unread hf23
  sl_exec (disch := fail)
  iapply Hk
  · iexists _; isplitr
    swap; · iexact H23
    ipureintro
    rw [read_put]
    simp only [View.writes_nil, h23.read_unread]

/-- The eight blocks of a group's score gradient put in. -/
def ds8 (g : Fin 8) (w : Fin 2 → Fin 4 → FVec Ideal S1x20x1x128 .f32) (x : Vec Ideal S1x20x16x512 .f32) : Vec Ideal S1x20x16x512 .f32 :=
  let P (r : Fin 2) (i : Fin 4) (y : Vec Ideal S1x20x16x512 .f32) : Vec Ideal S1x20x16x512 .f32 := putU ![0, 0, 2 * g.val + r.val, 128 * i.val] S1x20x1x128.size (w r i) y
  P 1 3 (P 1 2 (P 1 1 (P 1 0 (P 0 3 (P 0 2 (P 0 1 (P 0 0 x)))))))

/-- The four tiles of a group's own part added. -/
def self4 (g : Fin 8) (p : Fin 4 → Vec Ideal S1x128x256 .f32 → FVec Ideal S1x128x256 .f32) (x : Vec Ideal S8x128x1024 .f32) : Vec Ideal S8x128x1024 .f32 :=
  let P (t : Fin 4) (y : Vec Ideal S8x128x1024 .f32) : Vec Ideal S8x128x1024 .f32 := putU ![g.val, 0, 256 * t.val] S1x128x256.size (p t (View.ld y (Rect.unit (s := S8x128x1024) ![g.val, 0, 256 * t.val] S1x128x256.size (inb_do8 g t)))) y
  P 3 (P 2 (P 1 (P 0 x)))

set_option maxHeartbeats 1000000 in
/-- A group's prefix part. -/
theorem grp2_run (c : Dev nD) (E : Set ℕ) (K : PUnit.{1} → sProp 𝕄) (arg17 : Memref sig .tc .vmem S1x20x16x512 .f32) (h17 : arg17.IsWhole) (arg26 : Memref sig .tc .vmem S128x2x128 .bf16) (h26 : arg26.IsWhole) (arg27 : Memref sig .tc .vmem S128x2x128 .bf16) (h27 : arg27.IsWhole) (arg28 : Memref sig .tc .vmem S8x32x128 .f32) (h28 : arg28.IsWhole) (arg29 : Memref sig .tc .vmem S8x32x128 .f32) (h29 : arg29.IsWhole)
    (pd : Vec Ideal S16x2x128 .bf16 → Vec Ideal S16x2x128 .bf16 → Vec Ideal S16x2x128 .bf16 → Vec Ideal S16x2x128 .bf16 → Fin 2 → Fin 4 → FVec Ideal S1x20x1x128 .f32)
    (p28 : Vec Ideal S16x2x128 .bf16 → Vec Ideal S16x2x128 .bf16 → Vec Ideal S16x2x128 .bf16 → Vec Ideal S16x2x128 .bf16 → Vec Ideal S1x32x128 .f32 → FVec Ideal S1x32x128 .f32)
    (p29 : Vec Ideal S16x2x128 .bf16 → Vec Ideal S16x2x128 .bf16 → Vec Ideal S1x32x128 .f32 → FVec Ideal S1x32x128 .f32) (g : Fin 8) (jp : Vec Ideal S16x2x128 .bf16 → Vec Ideal S16x2x128 .bf16 → Vec Ideal S16x2x128 .bf16 → Vec Ideal S16x2x128 .bf16 → PR) (x17 : Vec Ideal S1x20x16x512 .f32) (x26 : Vec Ideal S128x2x128 .bf16) (x27 : Vec Ideal S128x2x128 .bf16) (x28 : Vec Ideal S8x32x128 .f32) (x29 : Vec Ideal S8x32x128 .f32) :
    iprop((owns (c : Thread nD τ) arg17 fullShare x17 ∗ owns (c : Thread nD τ) arg26 fullShare x26 ∗ owns (c : Thread nD τ) arg27 fullShare x27 ∗ owns (c : Thread nD τ) arg28 fullShare x28 ∗ owns (c : Thread nD τ) arg29 fullShare x29) ∗
      ((owns (c : Thread nD τ) arg17 fullShare (ds8 g (pd (strP x26 g 0) (strP x26 g 1) (strP x27 g 0) (strP x27 g 1)) x17) ∗ owns (c : Thread nD τ) arg26 fullShare x26 ∗ owns (c : Thread nD τ) arg27 fullShare x27 ∗ owns (c : Thread nD τ) arg28 fullShare (putU ![g.val, 0, 0] S1x32x128.size (p28 (strP x26 g 0) (strP x26 g 1) (strP x27 g 0) (strP x27 g 1) (View.ld x28 (Rect.unit (s := S8x32x128) ![g.val, 0, 0] S1x32x128.size (inb_pre g)))) x28) ∗ owns (c : Thread nD τ) arg29 fullShare (putU ![g.val, 0, 0] S1x32x128.size (p29 (strP x26 g 0) (strP x26 g 1) (View.ld x29 (Rect.unit (s := S8x32x128) ![g.val, 0, 0] S1x32x128.size (inb_pre g)))) x29)) -∗ wp frame (wpE (defs₀ (F := Ideal)) Variants.none c none) E (jp (strP x26 g 0) (strP x26 g 1) (strP x27 g 0) (strP x27 g 1)) K))
      ⊢ (wp frame (wpE (defs₀ (F := Ideal)) Variants.none c none) E (grp2 arg17 arg26 arg27 arg28 arg29 pd p28 p29 g jp) K : sProp 𝕄) := by
  unfold grp2
  iintro ⟨⟨H17, H26, H27, H28, H29⟩, Hk⟩
  iapply ldP_run c E K arg26 h26 g 0 _ x26
  isplitl [H26]; · iexact H26
  iintro H26
  iapply ldP_run c E K arg26 h26 g 1 _ x26
  isplitl [H26]; · iexact H26
  iintro H26
  iapply ldP_run c E K arg27 h27 g 0 _ x27
  isplitl [H27]; · iexact H27
  iintro H27
  iapply ldP_run c E K arg27 h27 g 1 _ x27
  isplitl [H27]; · iexact H27
  iintro H27
  iapply dsU_run c E K arg17 h17 g 0 0 _ _ _
  isplitl [H17]; · iexact H17
  iintro H17
  iapply dsU_run c E K arg17 h17 g 0 1 _ _ _
  isplitl [H17]; · iexact H17
  iintro H17
  iapply dsU_run c E K arg17 h17 g 0 2 _ _ _
  isplitl [H17]; · iexact H17
  iintro H17
  iapply dsU_run c E K arg17 h17 g 0 3 _ _ _
  isplitl [H17]; · iexact H17
  iintro H17
  iapply dsU_run c E K arg17 h17 g 1 0 _ _ _
  isplitl [H17]; · iexact H17
  iintro H17
  iapply dsU_run c E K arg17 h17 g 1 1 _ _ _
  isplitl [H17]; · iexact H17
  iintro H17
  iapply dsU_run c E K arg17 h17 g 1 2 _ _ _
  isplitl [H17]; · iexact H17
  iintro H17
  iapply dsU_run c E K arg17 h17 g 1 3 _ _ _
  isplitl [H17]; · iexact H17
  iintro H17
  iapply addU_run c E K arg28 h28 g (fun a => p28 (strP x26 g 0) (strP x26 g 1) (strP x27 g 0) (strP x27 g 1) a) _ x28
  isplitl [H28]; · iexact H28
  iintro H28
  iapply addU_run c E K arg29 h29 g (fun a => p29 (strP x26 g 0) (strP x26 g 1) a) _ x29
  isplitl [H29]; · iexact H29
  iintro H29
  iapply Hk
  isplitl [H17]; · iexact H17
  isplitl [H26]; · iexact H26
  isplitl [H27]; · iexact H27
  isplitl [H28]; · iexact H28
  iexact H29

set_option maxHeartbeats 1000000 in
/-- A group's accumulator. -/
theorem grp3_run (c : Dev nD) (E : Set ℕ) (K : PUnit.{1} → sProp 𝕄) (arg6 : Memref sig .tc .vmem S1x4096x128 .bf16) (h6 : arg6.IsWhole) (arg7 : Memref sig .tc .vmem S1x4096x128 .bf16) (h7 : arg7.IsWhole) (arg23 : Memref sig .tc .vmem S8x128x1024 .f32) (h23 : arg23.IsWhole) (w : FVec Ideal S1x128x1024 .f32)
    (p : Vec Ideal S1x256x2x128 .bf16 → Vec Ideal S1x256x2x128 .bf16 → Vec Ideal S1x256x2x128 .bf16 → Vec Ideal S1x256x2x128 .bf16 → Fin 4 → Vec Ideal S1x128x256 .f32 → FVec Ideal S1x128x256 .f32) (g : Fin 8) (jp : PUnit.{1} → PR) (x6 : Vec Ideal S1x4096x128 .bf16) (x7 : Vec Ideal S1x4096x128 .bf16) (x23 : Vec Ideal S8x128x1024 .f32) :
    iprop((owns (c : Thread nD τ) arg6 fullShare x6 ∗ owns (c : Thread nD τ) arg7 fullShare x7 ∗ owns (c : Thread nD τ) arg23 fullShare x23) ∗
      ((owns (c : Thread nD τ) arg6 fullShare x6 ∗ owns (c : Thread nD τ) arg7 fullShare x7 ∗ owns (c : Thread nD τ) arg23 fullShare (self4 g (p (strK x6 g 0) (strK x6 g 1) (strK x7 g 0) (strK x7 g 1)) (putU ![g.val, 0, 0] S1x128x1024.size w x23))) -∗ wp frame (wpE (defs₀ (F := Ideal)) Variants.none c none) E (jp ⟨⟩) K))
      ⊢ (wp frame (wpE (defs₀ (F := Ideal)) Variants.none c none) E (grp3 arg6 h6 arg7 h7 arg23 w p g jp) K : sProp 𝕄) := by
  unfold grp3
  iintro ⟨⟨H6, H7, H23⟩, Hk⟩
  iapply slabU_run c E K arg23 h23 g w _ x23
  isplitl [H23]; · iexact H23
  iintro H23
  iapply ldK_run c E K arg6 h6 g 0 _ x6
  isplitl [H6]; · iexact H6
  iintro H6
  iapply ldK_run c E K arg6 h6 g 1 _ x6
  isplitl [H6]; · iexact H6
  iintro H6
  iapply ldK_run c E K arg7 h7 g 0 _ x7
  isplitl [H7]; · iexact H7
  iintro H7
  iapply ldK_run c E K arg7 h7 g 1 _ x7
  isplitl [H7]; · iexact H7
  iintro H7
  iapply selfU_run c E K arg23 h23 g 0 _ _ _
  isplitl [H23]; · iexact H23
  iintro H23
  iapply selfU_run c E K arg23 h23 g 1 _ _ _
  isplitl [H23]; · iexact H23
  iintro H23
  iapply selfU_run c E K arg23 h23 g 2 _ _ _
  isplitl [H23]; · iexact H23
  iintro H23
  iapply selfU_run c E K arg23 h23 g 3 _ _ _
  isplitl [H23]; · iexact H23
  iintro H23
  iapply Hk
  isplitl [H6]; · iexact H6
  isplitl [H7]; · iexact H7
  iexact H23

end Cert.KernelIdeal.Gen

end
-- ==== Proof.KernelIdeal.Pay1.lean ====
module

public import proofs.«01_k».proof.Proof.KernelIdeal.RPro2

@[expose] public section

set_option maxRecDepth 65536

noncomputable section

namespace Cert.KernelIdeal.Gen

open Idealize.ShloMosaic Idealize.ShloMosaic.TcCoe Idealize.ShloMosaic.Tactic

/-- A column's query. -/
def ci (l : Fin 1024) : Fin 512 := ⟨l.val / 256 * 128 + l.val % 128, by omega⟩
/-- A column's head. -/
def ch (g : Fin 8) (l : Fin 1024) : Fin 16 := ⟨2 * g.val + l.val / 128 % 2, by omega⟩
/-- The row of a query's head. -/
def rowI (i : Fin 512) (h : Fin 16) : Fin 8192 := ⟨16 * i.val + h.val, by omega⟩

/-! The preparation's payloads read at an index. -/

/-- The row of a query-head array a column of a group reads. -/
def rw8 (g : Fin 8) (l : Fin 1024) : Fin 8192 := rowI (ci l) (ch g l)

theorem dA_apply (g : Fin 8) (r : Fin 2) (v : Vec Ideal S1x8192x128 .fp8e5m2) (i : Fin 512) (d : Fin 128) :
    dA g r v (ix2 i d) = v (ix3 0 ⟨i.val * 16 + (2 * g.val + r.val), by omega⟩ d) := by
  pointwise [dA, k0_pay13]
theorem p74_apply (x : FVec Ideal S512x128 .fp8e5m2) (i : Fin 512) (d : Fin 128) : k0_pay74 x (ix2 i d) = x (ix2 i d) := by
  pointwise [k0_pay74]
theorem p75_apply (x : FVec Ideal S512x128 .fp8e5m2) (i : Fin 512) (d : Fin 128) : k0_pay75 x (ix2 i d) = x (ix2 i d) := by
  pointwise [k0_pay75]
theorem DC_apply (g : Fin 8) (v : Vec Ideal S1x8192x128 .fp8e5m2) (d : Fin 128) (l : Fin 1024) :
    DC g v (ix2 d l) = v (ix3 0 (rw8 g l) d) := by
  pointwise [DC, k0_pay77]
  simp only [p74_apply, p75_apply, dA_apply, rw8]
  split_ifs <;> (congr 2; apply Fin.ext; simp only [rowI, ci, ch, Fin.val_zero, Fin.val_one]; omega)

theorem p78_apply (g : Fin 8) (v : Vec Ideal S1x8192x128 .fp8e5m2) (d : Fin 128) (l : Fin 1024) :
    k0_pay78 (dA g 0 v) (dA g 1 v) (ix3 0 d l) = v (ix3 0 (rw8 g l) d) := by
  pointwise [k0_pay78]
  exact DC_apply g v d l
theorem p80_apply (g : Fin 8) (v : Vec Ideal S1x8192x128 .fp8e5m2) (d : Fin 128) (l : Fin 1024) :
    k0_pay80 (k0_pay79 (dA g 0 v) (dA g 1 v)) (ix3 0 d l) = v (ix3 0 (rw8 g l) d) := by
  pointwise [k0_pay80, k0_pay79]
  exact DC_apply g v d l

theorem p81_apply (x : Vec Ideal S1x8192x128 .bf16) (g : Fin 8) (i : Fin 512) (d : Fin 128) :
    k0_pay81 (strQ x g 0) (strQ x g 1) (ix2 i d) = x (ix3 0 ⟨16 * i.val + 2 * g.val, by omega⟩ d) := by
  pointwise [k0_pay81, strQ]
  split_ifs <;> (congr 2; apply Fin.ext; simp only []; omega)
theorem p82_apply (x : Vec Ideal S1x8192x128 .bf16) (g : Fin 8) (i : Fin 512) (d : Fin 128) :
    k0_pay82 (strQ x g 0) (strQ x g 1) (ix2 i d) = x (ix3 0 ⟨16 * i.val + 2 * g.val + 1, by omega⟩ d) := by
  pointwise [k0_pay82, strQ]
  split_ifs <;> (congr 2; apply Fin.ext; simp only []; omega)
theorem QC_apply (x : Vec Ideal S1x8192x128 .bf16) (g : Fin 8) (d : Fin 128) (l : Fin 1024) :
    k0_pay84 (strQ x g 0) (strQ x g 1) (ix2 d l) = x (ix3 0 (rw8 g l) d) := by
  pointwise [k0_pay84]
  simp only [p81_apply, p82_apply, rw8]
  split_ifs <;> (congr 2; apply Fin.ext; simp only [rowI, ci, ch, Fin.val_zero, Fin.val_one]; omega)
theorem p100_apply (x : Vec Ideal S1x8192x128 .bf16) (g : Fin 8) (d : Fin 128) (l : Fin 1024) :
    k0_pay100 (k0_pay84 (strQ x g 0) (strQ x g 1)) (ix3 0 d l) = x (ix3 0 (rw8 g l) d) := by
  pointwise [k0_pay100]
  exact QC_apply x g d l

theorem pS_apply (x : Vec Ideal S128x2x128 .bf16) (g : Fin 8) (i : Fin 32) (d : Fin 128) :
    pSel (par g) (strP x g 0) (strP x g 1) (ix2 i d) = x (ix3 ⟨4 * i.val + g.val / 2, by omega⟩ (par g) d) := by
  pointwise [pSel, strP]
  split_ifs <;> (congr 2; apply Fin.ext; simp only []; omega)
theorem kS_apply (x : Vec Ideal S1x4096x128 .bf16) (g : Fin 8) (i : Fin 512) (d : Fin 128) :
    kSel (par g) (strK x g 0) (strK x g 1) (ix2 i d) = x (ix3 0 ⟨8 * i.val + g.val, by omega⟩ d) := by
  pointwise [kSel, strK]
  split_ifs <;> (congr 2; apply Fin.ext; simp only [par]; omega)

/-- The offset of a query's head: the incoming gradient against the output. -/
def dsS (xo : Vec Ideal S1x8192x128 .bf16) (xd : Vec Ideal S1x8192x128 .fp8e5m2) (g : Fin 8) (l : Fin 1024) : EReal :=
  ∑ d : Fin 128, (xd (ix3 0 (rw8 g l) d) : EReal) * xo (ix3 0 (rw8 g l) d)
theorem p85_gen (D : FVec Ideal S128x1024 .bf16) (u w : Vec Ideal S1x256x2x128 .bf16) (l : Fin 1024) :
    k0_pay85 D u w (ix2 0 l) = ∑ d : Fin 128, (D (ix2 d l) : EReal) * k0_pay84 u w (ix2 d l) := by
  pointwise [k0_pay85, k0_pay84, k0_pay81, k0_pay82]
theorem p85_apply (xo : Vec Ideal S1x8192x128 .bf16) (v : Vec Ideal S1x8192x128 .fp8e5m2) (g : Fin 8) (l : Fin 1024) :
    k0_pay85 (DC g v) (strQ xo g 0) (strQ xo g 1) (ix2 0 l) = dsS xo v g l := by
  rw [p85_gen]
  unfold dsS
  refine Finset.sum_congr rfl fun d _ => ?_
  rw [DC_apply, QC_apply]
theorem p86_apply (xo : Vec Ideal S1x8192x128 .bf16) (v : Vec Ideal S1x8192x128 .fp8e5m2) (g : Fin 8) (l : Fin 1024) :
    k0_pay86 (DC g v) (strQ xo g 0) (strQ xo g 1) (ix3 0 0 l) = dsS xo v g l := by
  rw [← p85_apply]
  pointwise [k0_pay86]

/-- A table with a row for each head at a column. -/
def hcS (x : Vec Ideal S1x16x512 .f32) (g : Fin 8) (l : Fin 1024) : EReal := x (ix3 0 (ch g l) (ci l))
theorem p88_apply (x : Vec Ideal S1x16x512 .f32) (g : Fin 8) (l : Fin 1024) :
    k0_pay88 (rowH x g 0) (rowH x g 1) (ix2 0 l) = hcS x g l := by
  unfold hcS
  pointwise [k0_pay88, rowH]
  split_ifs <;> (congr 2 <;> apply Fin.ext <;> simp only [ci, ch, Fin.val_zero, Fin.val_one] <;> omega)
theorem p89_apply (x : Vec Ideal S1x16x512 .f32) (g : Fin 8) (l : Fin 1024) :
    k0_pay89 (rowH x g 0) (rowH x g 1) (ix3 0 0 l) = hcS x g l := by
  rw [← p88_apply]
  pointwise [k0_pay89]
/-- `-lse` in base two. -/
def nlS (x : Vec Ideal S1x16x512 .f32) (g : Fin 8) (l : Fin 1024) : EReal := hcS x g l * (Named.named κ "neg_log2e" 0xBFB8AA3B#32 : Ideal .f32)
theorem p90_apply (x : Vec Ideal S1x16x512 .f32) (g : Fin 8) (l : Fin 1024) :
    k0_pay90 (k0_pay87 (rowH x g 0)) (rowH x g 1) (ix2 0 l) = nlS x g l := by
  unfold nlS
  rw [← p88_apply]
  rfl
theorem p94_apply (x : Vec Ideal S1x16x512 .f32) (g : Fin 8) (l : Fin 1024) :
    k0_pay94 (k0_pay87 (rowH x g 0)) (rowH x g 1) (ix2 0 l) = nlS x g l := p90_apply x g l
theorem p95_apply (x : Vec Ideal S1x16x512 .f32) (g : Fin 8) (l : Fin 1024) :
    k0_pay95 (k0_pay87 (rowH x g 0)) (rowH x g 1) (ix2 0 l) = nlS x g l - nlS x g l := by
  rw [← p90_apply]
  rfl
theorem p96_apply (x : Vec Ideal S1x16x512 .f32) (g : Fin 8) (l : Fin 1024) :
    k0_pay96 (k0_pay87 (rowH x g 0)) (rowH x g 1) (ix2 0 l) = nlS x g l - nlS x g l - (nlS x g l - nlS x g l) := by
  rw [← p90_apply]
  rfl
end Cert.KernelIdeal.Gen

end
-- ==== Proof.KernelIdeal.Pay2.lean ====
module

public import proofs.«01_k».proof.Proof.KernelIdeal.Pay1

@[expose] public section

set_option maxRecDepth 65536

noncomputable section

namespace Cert.KernelIdeal.Gen

open Idealize.ShloMosaic Idealize.ShloMosaic.TcCoe Idealize.ShloMosaic.Tactic

/-! The payloads of a group's pad rows, prefix part and own part read at an index. -/

theorem toInt_small (x : ℕ) (hx : x < 2 ^ 31) : (BitVec.ofNat 32 x).toInt = x := by
  have h : (BitVec.ofNat 32 x).toNat = x := by rw [BitVec.toNat_ofNat]; exact Nat.mod_eq_of_lt (by omega)
  rw [BitVec.toInt_eq_toNat_of_lt (by rw [h]; omega), h]
theorem sel_one {α : Type} (a b : α) : Scalar.select 1#1 a b = a := rfl
theorem sel_zero {α : Type} (a b : α) : Scalar.select 0#1 a b = b := rfl
theorem cmp_slt (x n : ℕ) (hx : x < 2 ^ 31) (hn : n < 2 ^ 31) : IntOp.cmpi CmpIPredicate.slt (BitVec.ofNat 32 x) (BitVec.ofNat 32 n) = BitVec.ofBool (decide (x < n)) := by
  show BitVec.ofBool (BitVec.slt _ _) = _
  rw [BitVec.slt_eq_decide, toInt_small x hx, toInt_small n hn]
  congr 1
  simp
theorem cmp_sle (x n : ℕ) (hx : x < 2 ^ 31) (hn : n < 2 ^ 31) : IntOp.cmpi CmpIPredicate.sle (BitVec.ofNat 32 x) (BitVec.ofNat 32 n) = BitVec.ofBool (decide (x ≤ n)) := by
  show BitVec.ofBool (BitVec.sle _ _) = _
  rw [BitVec.sle_eq_decide, toInt_small x hx, toInt_small n hn]
  congr 1
  simp
theorem sel_ofBool {α : Type} (p : Prop) [Decidable p] (a b : α) : Scalar.select (BitVec.ofBool (decide p)) a b = if p then a else b := by
  by_cases h : p <;> simp [h, Scalar.select]
theorem and_127 (l : ℕ) (hl : l < 1024) : IntOp.andi (BitVec.ofNat 32 l) 127#32 = BitVec.ofNat 32 (l % 128) := by
  apply BitVec.eq_of_toNat_eq
  show ((BitVec.ofNat 32 l) &&& 127#32).toNat = _
  rw [BitVec.toNat_and, BitVec.toNat_ofNat, BitVec.toNat_ofNat, BitVec.toNat_ofNat, Nat.mod_eq_of_lt (show l < 2 ^ 32 by omega), Nat.mod_eq_of_lt (show 127 < 2 ^ 32 by omega), Nat.mod_eq_of_lt (show l % 128 < 2 ^ 32 by omega)]
  exact Nat.and_two_pow_sub_one_eq_mod l 7

theorem p11_apply (x : Fin 128) (l : Fin 256) : k0_pay11 (ix2 x l) = BitVec.ofBool (decide (x.val ≤ l.val % 128)) := by
  pointwise [k0_pay11]
  rw [and_127 l.val (by omega), cmp_sle _ _ (by omega) (by omega)]

theorem sub_eq (d : Fin 128) (g : Fin 8) (k : ℕ) (hk : k < 1000) : IntOp.cmpi CmpIPredicate.eq (IntOp.subi (BitVec.ofNat 32 d.val) (BitVec.ofNat 32 (16 * g.val))) (BitVec.ofNat 32 k) = BitVec.ofBool (decide (d.val = 16 * g.val + k)) := by
  show BitVec.ofBool (_ == _) = _
  congr 1
  rw [Bool.eq_iff_iff, beq_iff_eq, decide_eq_true_iff, ← BitVec.toNat_inj]
  show ((BitVec.ofNat 32 d.val) - (BitVec.ofNat 32 (16 * g.val))).toNat = _ ↔ _
  rw [BitVec.toNat_sub, BitVec.toNat_ofNat, BitVec.toNat_ofNat, BitVec.toNat_ofNat]
  omega
theorem ori_ofBool (p q : Bool) : IntOp.ori (BitVec.ofBool p) (BitVec.ofBool q) = BitVec.ofBool (p || q) := by
  cases p <;> cases q <;> rfl

/-- The sign and bound tests of a pad row together. -/
theorem pad_one (d : Fin 128) (g : Fin 8) :
    IntOp.andi (IntOp.cmpi CmpIPredicate.sge (IntOp.subi (BitVec.ofNat 32 d.val) (BitVec.ofNat 32 (16 * g.val))) 0#32) (IntOp.cmpi CmpIPredicate.slt (IntOp.subi (BitVec.ofNat 32 d.val) (BitVec.ofNat 32 (16 * g.val))) 3#32) =
      BitVec.ofBool (decide (16 * g.val ≤ d.val ∧ d.val < 16 * g.val + 3)) := by
  revert d g
  decide +kernel

/-- A pad row: three ones, then three times the three parts of `-lse`. -/
def padS (m1 m2 m3 : EReal) (g d : ℕ) : EReal :=
  if (d = 16 * g + 5 ∨ d = 16 * g + 8) ∨ d = 16 * g + 11 then m3
  else if (d = 16 * g + 4 ∨ d = 16 * g + 7) ∨ d = 16 * g + 10 then m2
  else if (d = 16 * g + 3 ∨ d = 16 * g + 6) ∨ d = 16 * g + 9 then m1
  else if 16 * g ≤ d ∧ d < 16 * g + 3 then 1 else 0

theorem p102_apply (g : Fin 8) (x : Vec Ideal S1x16x512 .f32) (d : Fin 128) (l : Fin 1024) :
    k0_pay102 (padV g (rowH x g 0) (rowH x g 1)) (ix3 0 d l) = padS (nlS x g l) (nlS x g l - nlS x g l) (nlS x g l - nlS x g l - (nlS x g l - nlS x g l)) g.val d.val := by
  have h99 : (k0_pay99 (ix2 d l) : BitVec 32) = 3#32 := by pointwise [k0_pay99]
  pointwise [k0_pay102, padV, k0_pay101, padI]
  rw [h99, pad_one, p94_apply, p95_apply, p96_apply]
  rw [sub_eq d g 3 (by omega), sub_eq d g 4 (by omega), sub_eq d g 5 (by omega), sub_eq d g 6 (by omega), sub_eq d g 7 (by omega), sub_eq d g 8 (by omega), sub_eq d g 9 (by omega), sub_eq d g 10 (by omega), sub_eq d g 11 (by omega)]
  simp only [ori_ofBool, ← Bool.decide_or, sel_ofBool]
  rfl

/-- The scale and the logarithm's base, in one factor. -/
def sc2 : EReal := (Named.named κ "scale_log2e" 0x3E0293EE#32 : Ideal .f32)

/-- One prefix slot's term at a column. -/
def preT (pk pv : Vec Ideal S128x2x128 .bf16) (xq xo : Vec Ideal S1x8192x128 .bf16) (xd : Vec Ideal S1x8192x128 .fp8e5m2) (xl : Vec Ideal S1x16x512 .f32) (g : Fin 8) (d : Fin 128) (l : Fin 1024) (p : Fin 32) : EReal :=
  if p.val < 20 then (pk (ix3 ⟨4 * p.val + g.val / 2, by omega⟩ (par g) d) : EReal) *
    ((FloatOps.exp2 (F := Ideal) (φ := .f32) (((∑ x : Fin 128, (pk (ix3 ⟨4 * p.val + g.val / 2, by omega⟩ (par g) x) : EReal) * xq (ix3 0 (rw8 g l) x)) * sc2 + nlS xl g l : EReal) : Ideal .f32) : EReal)
      * (∑ x : Fin 128, (pv (ix3 ⟨4 * p.val + g.val / 2, by omega⟩ (par g) x) : EReal) * xd (ix3 0 (rw8 g l) x) - dsS xo xd g l)) else 0

theorem p118_apply (pk pv : Vec Ideal S128x2x128 .bf16) (xq xo : Vec Ideal S1x8192x128 .bf16) (xd : Vec Ideal S1x8192x128 .fp8e5m2) (xl : Vec Ideal S1x16x512 .f32) (g : Fin 8) (d : Fin 128) (l : Fin 1024) :
    k0_pay118 (pSel (par g) (strP pk g 0) (strP pk g 1)) (pDS (pSel (par g) (strP pk g 0) (strP pk g 1)) (pSel (par g) (strP pv g 0) (strP pv g 1)) (DC g xd) (k0_pay84 (strQ xq g 0) (strQ xq g 1)) (k0_pay85 (DC g xd) (strQ xo g 0) (strQ xo g 1)) (k0_pay90 (k0_pay87 (rowH xl g 0)) (rowH xl g 1))) (ix3 0 d l) =
      ∑ p : Fin 32, preT pk pv xq xo xd xl g d l p := by
  have hP : ∀ (p : Fin 32) (x : Fin 128), pSel (par g) (strP pk g 0) (strP pk g 1) (ix2 p x) = pk (ix3 ⟨4 * p.val + g.val / 2, by omega⟩ (par g) x) := fun p x => pS_apply pk g p x
  have hV : ∀ (p : Fin 32) (x : Fin 128), pSel (par g) (strP pv g 0) (strP pv g 1) (ix2 p x) = pv (ix3 ⟨4 * p.val + g.val / 2, by omega⟩ (par g) x) := fun p x => pS_apply pv g p x
  have hD := DC_apply g xd
  have hQ := QC_apply xq g
  have hs := p85_apply xo xd g l
  have hn := p90_apply xl g l
  generalize pSel (par g) (strP pk g 0) (strP pk g 1) = PK at *
  generalize pSel (par g) (strP pv g 0) (strP pv g 1) = PV at *
  generalize k0_pay85 (DC g xd) (strQ xo g 0) (strQ xo g 1) = DS at *
  generalize k0_pay90 (k0_pay87 (rowH xl g 0)) (rowH xl g 1) = NL at *
  generalize DC g xd = D at *
  generalize k0_pay84 (strQ xq g 0) (strQ xq g 1) = QQ at *
  pointwise [k0_pay118, pDS, pP, k0_pay12]
  simp only [hP, hV, hD, hQ, hs, hn]
  refine Finset.sum_congr rfl fun p _ => ?_
  unfold preT
  rw [show (20#32 : BitVec 32) = BitVec.ofNat 32 20 from rfl, cmp_slt p.val 20 (by omega) (by omega), sel_ofBool]
  rfl

/-- One own slot's term at a column. -/
def selfT (xk xv : Vec Ideal S1x4096x128 .bf16) (xq xo : Vec Ideal S1x8192x128 .bf16) (xd : Vec Ideal S1x8192x128 .fp8e5m2) (xl : Vec Ideal S1x16x512 .f32) (g : Fin 8) (d : Fin 128) (l : Fin 1024) (j : Fin 512) : EReal :=
  (xk (ix3 0 ⟨8 * j.val + g.val, by omega⟩ d) : EReal) *
    ((FloatOps.exp2 (F := Ideal) (φ := .f32) (((∑ x : Fin 128, (xk (ix3 0 ⟨8 * j.val + g.val, by omega⟩ x) : EReal) * xq (ix3 0 (rw8 g l) x)) * sc2 + nlS xl g l : EReal) : Ideal .f32) : EReal)
      * (∑ x : Fin 128, (xv (ix3 0 ⟨8 * j.val + g.val, by omega⟩ x) : EReal) * xd (ix3 0 (rw8 g l) x) - dsS xo xd g l))

/-- A sum over 512 slots up to one in the tile that starts at `n`. -/
theorem sum_upto (n k m : ℕ) (hm : m < 128) (f : ℕ → EReal) :
    ∑ j : Fin (n + (128 + k)), (if j.val ≤ n + m then f j.val else 0) = ∑ x : Fin n, f x.val + ∑ x : Fin 128, if x.val ≤ m then f (n + x.val) else 0 := by
  rw [Fin.sum_univ_add, Fin.sum_univ_add]
  have h0 : ∑ i : Fin k, (if (Fin.natAdd n (Fin.natAdd 128 i)).val ≤ n + m then f (Fin.natAdd n (Fin.natAdd 128 i)).val else 0) = 0 := by
    refine Finset.sum_eq_zero fun i _ => ?_
    rw [if_neg]
    show ¬ (n + (128 + i.val) ≤ n + m)
    omega
  rw [h0, add_zero]
  congr 1
  · refine Finset.sum_congr rfl fun i _ => ?_
    rw [if_pos]
    · rfl
    · show i.val ≤ n + m
      omega
  · refine Finset.sum_congr rfl fun i _ => ?_
    show (if n + i.val ≤ n + m then f (n + i.val) else 0) = _
    simp only [Nat.add_le_add_iff_left]

theorem self_apply0 (xk xv : Vec Ideal S1x4096x128 .bf16) (xq xo : Vec Ideal S1x8192x128 .bf16) (xd : Vec Ideal S1x8192x128 .fp8e5m2) (xl : Vec Ideal S1x16x512 .f32) (g : Fin 8) (a : Vec Ideal S1x128x256 .f32) (d : Fin 128) (l : Fin 256) :
    selfPay (DC g xd) (k0_pay84 (strQ xq g 0) (strQ xq g 1)) (k0_pay85 (DC g xd) (strQ xo g 0) (strQ xo g 1)) (k0_pay90 (k0_pay87 (rowH xl g 0)) (rowH xl g 1)) (kSel (par g) (strK xk g 0) (strK xk g 1)) (kSel (par g) (strK xv g 0) (strK xv g 1)) 0 a (ix3 0 d l) =
      a (ix3 0 d l) + ∑ j : Fin 512, if j.val ≤ 0 + l.val % 128 then selfT xk xv xq xo xd xl g d ⟨0 + l.val, by omega⟩ j else 0 := by
  have hK := kS_apply xk g
  have hV := kS_apply xv g
  have hD := DC_apply g xd
  have hQ := QC_apply xq g
  have hs := p85_apply xo xd g
  have hn := p90_apply xl g
  generalize kSel (par g) (strK xk g 0) (strK xk g 1) = KA at *
  generalize kSel (par g) (strK xv g 0) (strK xv g 1) = VA at *
  generalize k0_pay85 (DC g xd) (strQ xo g 0) (strQ xo g 1) = DS at *
  generalize k0_pay90 (k0_pay87 (rowH xl g 0)) (rowH xl g 1) = NL at *
  generalize DC g xd = D at *
  generalize k0_pay84 (strQ xq g 0) (strQ xq g 1) = QQ at *
  have hsum := sum_upto 0 384 (l.val % 128) (by omega) (fun j => if h : j < 512 then selfT xk xv xq xo xd xl g d ⟨0 + l.val, by omega⟩ ⟨j, h⟩ else 0)
  have e1 : (∑ j : Fin (0 + (128 + 384)), (if j.val ≤ 0 + l.val % 128 then (if h : j.val < 512 then selfT xk xv xq xo xd xl g d ⟨0 + l.val, by omega⟩ ⟨j.val, h⟩ else 0) else 0)) = ∑ j : Fin 512, if j.val ≤ 0 + l.val % 128 then selfT xk xv xq xo xd xl g d ⟨0 + l.val, by omega⟩ j else 0 := by
    refine Finset.sum_congr rfl fun j _ => ?_
    have hj : j.val < 512 := j.isLt
    rw [dif_pos hj]
  rw [← e1, hsum]
  pointwise [selfPay, self0, k0_pay126, k0_pay125]
  simp only [p11_apply, sel_ofBool, hK, hV, hD, hQ, hs, hn]
  simp only [Finset.univ_eq_empty, Finset.sum_empty, zero_add]
  refine congrArg (fun z => (a (ix3 0 d l) : EReal) + z) (Finset.sum_congr rfl fun j _ => ?_)
  rw [dif_pos (show j.val < 512 by omega)]
  rfl
theorem self_apply1 (xk xv : Vec Ideal S1x4096x128 .bf16) (xq xo : Vec Ideal S1x8192x128 .bf16) (xd : Vec Ideal S1x8192x128 .fp8e5m2) (xl : Vec Ideal S1x16x512 .f32) (g : Fin 8) (a : Vec Ideal S1x128x256 .f32) (d : Fin 128) (l : Fin 256) :
    selfPay (DC g xd) (k0_pay84 (strQ xq g 0) (strQ xq g 1)) (k0_pay85 (DC g xd) (strQ xo g 0) (strQ xo g 1)) (k0_pay90 (k0_pay87 (rowH xl g 0)) (rowH xl g 1)) (kSel (par g) (strK xk g 0) (strK xk g 1)) (kSel (par g) (strK xv g 0) (strK xv g 1)) 1 a (ix3 0 d l) =
      a (ix3 0 d l) + ∑ j : Fin 512, if j.val ≤ 128 + l.val % 128 then selfT xk xv xq xo xd xl g d ⟨256 + l.val, by omega⟩ j else 0 := by
  have hK := kS_apply xk g
  have hV := kS_apply xv g
  have hD := DC_apply g xd
  have hQ := QC_apply xq g
  have hs := p85_apply xo xd g
  have hn := p90_apply xl g
  generalize kSel (par g) (strK xk g 0) (strK xk g 1) = KA at *
  generalize kSel (par g) (strK xv g 0) (strK xv g 1) = VA at *
  generalize k0_pay85 (DC g xd) (strQ xo g 0) (strQ xo g 1) = DS at *
  generalize k0_pay90 (k0_pay87 (rowH xl g 0)) (rowH xl g 1) = NL at *
  generalize DC g xd = D at *
  generalize k0_pay84 (strQ xq g 0) (strQ xq g 1) = QQ at *
  have hsum := sum_upto 128 256 (l.val % 128) (by omega) (fun j => if h : j < 512 then selfT xk xv xq xo xd xl g d ⟨256 + l.val, by omega⟩ ⟨j, h⟩ else 0)
  have e1 : (∑ j : Fin (128 + (128 + 256)), (if j.val ≤ 128 + l.val % 128 then (if h : j.val < 512 then selfT xk xv xq xo xd xl g d ⟨256 + l.val, by omega⟩ ⟨j.val, h⟩ else 0) else 0)) = ∑ j : Fin 512, if j.val ≤ 128 + l.val % 128 then selfT xk xv xq xo xd xl g d ⟨256 + l.val, by omega⟩ j else 0 := by
    refine Finset.sum_congr rfl fun j _ => ?_
    have hj : j.val < 512 := j.isLt
    rw [dif_pos hj]
  rw [← e1, hsum]
  pointwise [selfPay, k0_pay128, k0_pay127]
  simp only [p11_apply, sel_ofBool, hK, hV, hD, hQ, hs, hn]
  refine congrArg (fun z => (a (ix3 0 d l) : EReal) + z) (congrArg₂ (· + ·) (Finset.sum_congr rfl fun j _ => ?_) (Finset.sum_congr rfl fun j _ => ?_))
  · rw [dif_pos (show j.val < 512 by omega)]
    rfl
  · rw [dif_pos (show 128 + j.val < 512 by omega)]
    rfl
theorem self_apply2 (xk xv : Vec Ideal S1x4096x128 .bf16) (xq xo : Vec Ideal S1x8192x128 .bf16) (xd : Vec Ideal S1x8192x128 .fp8e5m2) (xl : Vec Ideal S1x16x512 .f32) (g : Fin 8) (a : Vec Ideal S1x128x256 .f32) (d : Fin 128) (l : Fin 256) :
    selfPay (DC g xd) (k0_pay84 (strQ xq g 0) (strQ xq g 1)) (k0_pay85 (DC g xd) (strQ xo g 0) (strQ xo g 1)) (k0_pay90 (k0_pay87 (rowH xl g 0)) (rowH xl g 1)) (kSel (par g) (strK xk g 0) (strK xk g 1)) (kSel (par g) (strK xv g 0) (strK xv g 1)) 2 a (ix3 0 d l) =
      a (ix3 0 d l) + ∑ j : Fin 512, if j.val ≤ 256 + l.val % 128 then selfT xk xv xq xo xd xl g d ⟨512 + l.val, by omega⟩ j else 0 := by
  have hK := kS_apply xk g
  have hV := kS_apply xv g
  have hD := DC_apply g xd
  have hQ := QC_apply xq g
  have hs := p85_apply xo xd g
  have hn := p90_apply xl g
  generalize kSel (par g) (strK xk g 0) (strK xk g 1) = KA at *
  generalize kSel (par g) (strK xv g 0) (strK xv g 1) = VA at *
  generalize k0_pay85 (DC g xd) (strQ xo g 0) (strQ xo g 1) = DS at *
  generalize k0_pay90 (k0_pay87 (rowH xl g 0)) (rowH xl g 1) = NL at *
  generalize DC g xd = D at *
  generalize k0_pay84 (strQ xq g 0) (strQ xq g 1) = QQ at *
  have hsum := sum_upto 256 128 (l.val % 128) (by omega) (fun j => if h : j < 512 then selfT xk xv xq xo xd xl g d ⟨512 + l.val, by omega⟩ ⟨j, h⟩ else 0)
  have e1 : (∑ j : Fin (256 + (128 + 128)), (if j.val ≤ 256 + l.val % 128 then (if h : j.val < 512 then selfT xk xv xq xo xd xl g d ⟨512 + l.val, by omega⟩ ⟨j.val, h⟩ else 0) else 0)) = ∑ j : Fin 512, if j.val ≤ 256 + l.val % 128 then selfT xk xv xq xo xd xl g d ⟨512 + l.val, by omega⟩ j else 0 := by
    refine Finset.sum_congr rfl fun j _ => ?_
    have hj : j.val < 512 := j.isLt
    rw [dif_pos hj]
  rw [← e1, hsum]
  pointwise [selfPay, k0_pay129]
  simp only [p11_apply, sel_ofBool, hK, hV, hD, hQ, hs, hn]
  refine congrArg (fun z => (a (ix3 0 d l) : EReal) + z) (congrArg₂ (· + ·) (Finset.sum_congr rfl fun j _ => ?_) (Finset.sum_congr rfl fun j _ => ?_))
  · rw [dif_pos (show j.val < 512 by omega)]
    rfl
  · rw [dif_pos (show 256 + j.val < 512 by omega)]
    rfl
theorem self_apply3 (xk xv : Vec Ideal S1x4096x128 .bf16) (xq xo : Vec Ideal S1x8192x128 .bf16) (xd : Vec Ideal S1x8192x128 .fp8e5m2) (xl : Vec Ideal S1x16x512 .f32) (g : Fin 8) (a : Vec Ideal S1x128x256 .f32) (d : Fin 128) (l : Fin 256) :
    selfPay (DC g xd) (k0_pay84 (strQ xq g 0) (strQ xq g 1)) (k0_pay85 (DC g xd) (strQ xo g 0) (strQ xo g 1)) (k0_pay90 (k0_pay87 (rowH xl g 0)) (rowH xl g 1)) (kSel (par g) (strK xk g 0) (strK xk g 1)) (kSel (par g) (strK xv g 0) (strK xv g 1)) 3 a (ix3 0 d l) =
      a (ix3 0 d l) + ∑ j : Fin 512, if j.val ≤ 384 + l.val % 128 then selfT xk xv xq xo xd xl g d ⟨768 + l.val, by omega⟩ j else 0 := by
  have hK := kS_apply xk g
  have hV := kS_apply xv g
  have hD := DC_apply g xd
  have hQ := QC_apply xq g
  have hs := p85_apply xo xd g
  have hn := p90_apply xl g
  generalize kSel (par g) (strK xk g 0) (strK xk g 1) = KA at *
  generalize kSel (par g) (strK xv g 0) (strK xv g 1) = VA at *
  generalize k0_pay85 (DC g xd) (strQ xo g 0) (strQ xo g 1) = DS at *
  generalize k0_pay90 (k0_pay87 (rowH xl g 0)) (rowH xl g 1) = NL at *
  generalize DC g xd = D at *
  generalize k0_pay84 (strQ xq g 0) (strQ xq g 1) = QQ at *
  have hsum := sum_upto 384 0 (l.val % 128) (by omega) (fun j => if h : j < 512 then selfT xk xv xq xo xd xl g d ⟨768 + l.val, by omega⟩ ⟨j, h⟩ else 0)
  have e1 : (∑ j : Fin (384 + (128 + 0)), (if j.val ≤ 384 + l.val % 128 then (if h : j.val < 512 then selfT xk xv xq xo xd xl g d ⟨768 + l.val, by omega⟩ ⟨j.val, h⟩ else 0) else 0)) = ∑ j : Fin 512, if j.val ≤ 384 + l.val % 128 then selfT xk xv xq xo xd xl g d ⟨768 + l.val, by omega⟩ j else 0 := by
    refine Finset.sum_congr rfl fun j _ => ?_
    have hj : j.val < 512 := j.isLt
    rw [dif_pos hj]
  rw [← e1, hsum]
  pointwise [selfPay, k0_pay133, k0_pay130, k0_pay131, k0_pay132]
  simp only [p11_apply, sel_ofBool, hK, hV, hD, hQ, hs, hn]
  refine congrArg (fun z => (a (ix3 0 d l) : EReal) + z) (congrArg₂ (· + ·) (Finset.sum_congr rfl fun j _ => ?_) (Finset.sum_congr rfl fun j _ => ?_))
  · rw [dif_pos (show j.val < 512 by omega)]
    rfl
  · rw [dif_pos (show 384 + j.val < 512 by omega)]
    rfl

end Cert.KernelIdeal.Gen

end
-- ==== Proof.KernelIdeal.Up.lean ====
module

public import proofs.«01_k».proof.Proof.KernelIdeal.Pay2
public import Idealize.ShloMosaic.Lib.Tactic

@[expose] public section

set_option maxRecDepth 65536

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-! The arrays the preparation leaves, group by group. -/

/-- The two arrays agree at the places before `n`. -/
def Upto {ι α : Type} (k : ι → ℕ) (n : ℕ) (x f : ι → α) : Prop := ∀ y, k y < n → x y = f y

def k8 (y : S8x128x1024.Idx) : ℕ := (y 0).val
def k8q (y : S8x256x1024.Idx) : ℕ := (y 0).val
def k8r (y : S8x1x1024.Idx) : ℕ := (y 0).val

/-- The query columns and their pad rows. -/
def qaugS (xq : Vec Ideal S1x8192x128 .bf16) (xl : Vec Ideal S1x16x512 .f32) : Vec Ideal S8x256x1024 .bf16 := fun y =>
  if h : (y 1).val < 128 then xq (ix3 0 (rw8 (y 0) (y 2)) ⟨(y 1).val, h⟩)
  else padS (nlS xl (y 0) (y 2)) (nlS xl (y 0) (y 2) - nlS xl (y 0) (y 2)) (nlS xl (y 0) (y 2) - nlS xl (y 0) (y 2) - (nlS xl (y 0) (y 2) - nlS xl (y 0) (y 2))) (y 0).val ((y 1).val - 128)
/-- The gradient's codes, a column per query of a group. -/
def dotS (xd : Vec Ideal S1x8192x128 .fp8e5m2) : S8x128x1024.Idx → EReal := fun y => xd (ix3 0 (rw8 (y 0) (y 2)) (y 1))
def dsumS (xo : Vec Ideal S1x8192x128 .bf16) (xd : Vec Ideal S1x8192x128 .fp8e5m2) : Vec Ideal S8x1x1024 .f32 := fun y => dsS xo xd (y 0) (y 2)
def dscS (x : Vec Ideal S1x16x512 .f32) : Vec Ideal S8x1x1024 .f32 := fun y => hcS x (y 0) (y 2)
/-- The accumulator after the prefix and own parts. -/
def acc0S (pk pv : Vec Ideal S128x2x128 .bf16) (xk xv : Vec Ideal S1x4096x128 .bf16) (xq xo : Vec Ideal S1x8192x128 .bf16) (xd : Vec Ideal S1x8192x128 .fp8e5m2) (xl : Vec Ideal S1x16x512 .f32) : Vec Ideal S8x128x1024 .f32 := fun y =>
  ((∑ p : Fin 32, preT pk pv xq xo xd xl (y 0) (y 1) (y 2) p) + ∑ j : Fin 512, if j.val ≤ (ci (y 2)).val then selfT xk xv xq xo xd xl (y 0) (y 1) (y 2) j else 0 : EReal)

theorem all_ix3 {n0 n1 n2 : ℕ} {P : (⟨3, ![n0, n1, n2]⟩ : Shape).Idx → Prop} (h : ∀ (a : Fin n0) (b : Fin n1) (e : Fin n2), P (ix3 a b e)) : ∀ y, P y := by
  intro y
  have e : y = ix3 (y 0) (y 1) (y 2) := by
    funext a
    match a with
    | 0 => rfl
    | 1 => rfl
    | 2 => rfl
  rw [e]
  exact h _ _ _

theorem put3_hit {α : Type} {n0 n1 n2 m0 m1 m2 : ℕ} (o0 o1 o2 : ℕ) (w : (⟨3, ![m0, m1, m2]⟩ : Shape).Idx → α) (x : (⟨3, ![n0, n1, n2]⟩ : Shape).Idx → α)
    (a : Fin n0) (b : Fin n1) (e : Fin n2) (a' : Fin m0) (b' : Fin m1) (e' : Fin m2) (h0 : a.val = o0 + a'.val) (h1 : b.val = o1 + b'.val) (h2 : e.val = o2 + e'.val) :
    putU (s := ⟨3, ![n0, n1, n2]⟩) ![o0, o1, o2] ![m0, m1, m2] w x (ix3 a b e) = w (ix3 a' b' e') :=
  putU_hit (s := ⟨3, ![n0, n1, n2]⟩) ![o0, o1, o2] ![m0, m1, m2] w x (ix3 a b e) (ix3 a' b' e') (by
    intro i
    match i with
    | 0 => exact h0
    | 1 => exact h1
    | 2 => exact h2)

theorem put3_miss {α : Type} {n0 n1 n2 m0 m1 m2 : ℕ} (o0 o1 o2 : ℕ) (w : (⟨3, ![m0, m1, m2]⟩ : Shape).Idx → α) (x : (⟨3, ![n0, n1, n2]⟩ : Shape).Idx → α)
    (a : Fin n0) (b : Fin n1) (e : Fin n2) (h : (a.val < o0 ∨ o0 + m0 ≤ a.val) ∨ (b.val < o1 ∨ o1 + m1 ≤ b.val) ∨ (e.val < o2 ∨ o2 + m2 ≤ e.val)) :
    putU (s := ⟨3, ![n0, n1, n2]⟩) ![o0, o1, o2] ![m0, m1, m2] w x (ix3 a b e) = x (ix3 a b e) := by
  rcases h with h | h | h
  · exact putU_miss (s := ⟨3, ![n0, n1, n2]⟩) ![o0, o1, o2] ![m0, m1, m2] w x (ix3 a b e) 0 h
  · exact putU_miss (s := ⟨3, ![n0, n1, n2]⟩) ![o0, o1, o2] ![m0, m1, m2] w x (ix3 a b e) 1 h
  · exact putU_miss (s := ⟨3, ![n0, n1, n2]⟩) ![o0, o1, o2] ![m0, m1, m2] w x (ix3 a b e) 2 h

theorem slab_up {α : Type} (g : Fin 8) (w : S1x128x1024.Idx → α) (x f : S8x128x1024.Idx → α) (hw : ∀ (d : Fin 128) (l : Fin 1024), w (ix3 0 d l) = f (ix3 g d l)) (hx : Upto k8 g.val x f) :
    Upto k8 (g.val + 1) (putU ![g.val, 0, 0] S1x128x1024.size w x) f := by
  refine all_ix3 fun a d l hy => ?_
  change a.val < g.val + 1 at hy
  by_cases h : a.val = g.val
  · obtain rfl := Fin.ext h
    exact (put3_hit (n0 := 8) a.val 0 0 w x a d l 0 d l rfl (Nat.zero_add _).symm (Nat.zero_add _).symm).trans (hw d l)
  · exact (put3_miss (n0 := 8) g.val 0 0 w x a d l (by omega)).trans (hx (ix3 a d l) (by show a.val < g.val; omega))

theorem row_up {α : Type} (g : Fin 8) (w : S1x1x1024.Idx → α) (x f : S8x1x1024.Idx → α) (hw : ∀ (l : Fin 1024), w (ix3 0 0 l) = f (ix3 g 0 l)) (hx : Upto k8r g.val x f) :
    Upto k8r (g.val + 1) (putU ![g.val, 0, 0] S1x1x1024.size w x) f := by
  refine all_ix3 fun a d l hy => ?_
  change a.val < g.val + 1 at hy
  obtain rfl : d = 0 := Subsingleton.elim _ _
  by_cases h : a.val = g.val
  · obtain rfl := Fin.ext h
    exact (put3_hit (n0 := 8) a.val 0 0 w x a 0 l 0 0 l rfl (Nat.zero_add _).symm (Nat.zero_add _).symm).trans (hw l)
  · exact (put3_miss (n0 := 8) g.val 0 0 w x a 0 l (by omega)).trans (hx (ix3 a 0 l) (by show a.val < g.val; omega))

theorem slabq_up {α : Type} (g : Fin 8) (w w' : S1x128x1024.Idx → α) (x f : S8x256x1024.Idx → α) (hw : ∀ (d : Fin 128) (l : Fin 1024), w (ix3 0 d l) = f (ix3 g ⟨d.val, by omega⟩ l))
    (hw' : ∀ (d : Fin 128) (l : Fin 1024), w' (ix3 0 d l) = f (ix3 g ⟨128 + d.val, by omega⟩ l)) (hx : Upto k8q g.val x f) :
    Upto k8q (g.val + 1) (putU ![g.val, 128 * (1 : Fin 2).val, 0] S1x128x1024.size w' (putU ![g.val, 128 * (0 : Fin 2).val, 0] S1x128x1024.size w x)) f := by
  refine all_ix3 fun a d l hy => ?_
  change a.val < g.val + 1 at hy
  have h1 : 128 * (1 : Fin 2).val = 128 := rfl
  have h0 : 128 * (0 : Fin 2).val = 0 := rfl
  by_cases h : a.val = g.val
  · obtain rfl := Fin.ext h
    by_cases hd : d.val < 128
    · refine (put3_miss (n0 := 8) a.val (128 * (1 : Fin 2).val) 0 w' _ a d l (by omega)).trans ?_
      exact (put3_hit (n0 := 8) a.val (128 * (0 : Fin 2).val) 0 w x a d l 0 ⟨d.val, hd⟩ l rfl (Nat.zero_add _).symm (Nat.zero_add _).symm).trans (hw _ l)
    · refine (put3_hit (n0 := 8) a.val (128 * (1 : Fin 2).val) 0 w' _ a d l 0 ⟨d.val - 128, by omega⟩ l rfl (by show d.val = 128 + (d.val - 128); omega) (Nat.zero_add _).symm).trans ?_
      rw [hw']
      congr 2
      apply Fin.ext
      show 128 + (d.val - 128) = d.val
      omega
  · refine (put3_miss (n0 := 8) g.val (128 * (1 : Fin 2).val) 0 w' _ a d l (by omega)).trans ?_
    exact (put3_miss (n0 := 8) g.val (128 * (0 : Fin 2).val) 0 w x a d l (by omega)).trans (hx (ix3 a d l) (by show a.val < g.val; omega))

/-- One tile of a slab with an amount added. -/
theorem tile_add (g : Fin 8) (t : Fin 4) (p : Vec Ideal S1x128x256 .f32 → FVec Ideal S1x128x256 .f32) (cst : Fin 128 → Fin 256 → EReal) (y : Vec Ideal S8x128x1024 .f32)
    (hp : ∀ d l, p (View.ld y (Rect.unit (s := S8x128x1024) ![g.val, 0, 256 * t.val] S1x128x256.size (inb_do8 g t))) (ix3 0 d l) = (View.ld y (Rect.unit (s := S8x128x1024) ![g.val, 0, 256 * t.val] S1x128x256.size (inb_do8 g t)) (ix3 0 d l) + cst d l : EReal)) (a : Fin 8) (d : Fin 128) (l : Fin 1024) :
    putU (s := S8x128x1024) ![g.val, 0, 256 * t.val] S1x128x256.size (p (View.ld y (Rect.unit (s := S8x128x1024) ![g.val, 0, 256 * t.val] S1x128x256.size (inb_do8 g t)))) y (ix3 a d l) =
      if a.val = g.val ∧ l.val / 256 = t.val then (y (ix3 a d l) + cst d ⟨l.val % 256, Nat.mod_lt _ (by decide)⟩ : EReal) else y (ix3 a d l) := by
  by_cases h : a.val = g.val ∧ l.val / 256 = t.val
  · rw [if_pos h]
    refine (put3_hit (n0 := 8) g.val 0 (256 * t.val) _ y a d l 0 d ⟨l.val % 256, Nat.mod_lt _ (by decide)⟩ (by show a.val = g.val + 0; omega) (Nat.zero_add _).symm (by show l.val = 256 * t.val + l.val % 256; omega)).trans ?_
    refine (hp _ _).trans ?_
    refine congrArg (fun z => (z + cst d ⟨l.val % 256, Nat.mod_lt _ (by decide)⟩ : EReal)) ?_
    show y _ = y _
    congr 1
    funext i
    apply Fin.ext
    match i with
    | 0 => show g.val + 1 * 0 = a.val; omega
    | 1 => show 0 + 1 * d.val = d.val; omega
    | 2 => show 256 * t.val + 1 * (l.val % 256) = l.val; omega
  · rw [if_neg h]
    exact put3_miss (n0 := 8) g.val 0 (256 * t.val) _ y a d l (by omega)

theorem self_up (g : Fin 8) (p : Fin 4 → Vec Ideal S1x128x256 .f32 → FVec Ideal S1x128x256 .f32) (cst : Fin 4 → Fin 128 → Fin 256 → EReal) (hp : ∀ t a d l, p t a (ix3 0 d l) = (a (ix3 0 d l) + cst t d l : EReal))
    (y : Vec Ideal S8x128x1024 .f32) (a : Fin 8) (d : Fin 128) (l : Fin 1024) :
    self4 g p y (ix3 a d l) = if a.val = g.val then (y (ix3 a d l) + cst ⟨l.val / 256, by omega⟩ d ⟨l.val % 256, Nat.mod_lt _ (by decide)⟩ : EReal) else y (ix3 a d l) := by
  unfold self4
  simp only []
  rw [tile_add g 3 (p 3) (cst 3) _ (fun d l => hp 3 _ d l), tile_add g 2 (p 2) (cst 2) _ (fun d l => hp 2 _ d l), tile_add g 1 (p 1) (cst 1) _ (fun d l => hp 1 _ d l), tile_add g 0 (p 0) (cst 0) _ (fun d l => hp 0 _ d l)]
  by_cases h : a.val = g.val
  · simp only [h, true_and, if_true]
    have h4 : l.val / 256 = 0 ∨ l.val / 256 = 1 ∨ l.val / 256 = 2 ∨ l.val / 256 = 3 := by omega
    rcases h4 with e | e | e | e <;> simp only [e] <;> rfl
  · simp only [h, false_and, if_false]

theorem self_cst {xk xv : Vec Ideal S1x4096x128 .bf16} {xq xo : Vec Ideal S1x8192x128 .bf16} {xd : Vec Ideal S1x8192x128 .fp8e5m2} {xl : Vec Ideal S1x16x512 .f32} (g : Fin 8) (t : Fin 4) (a : Vec Ideal S1x128x256 .f32) (d : Fin 128) (l : Fin 256) :
    selfPay (DC g xd) (k0_pay84 (strQ xq g 0) (strQ xq g 1)) (k0_pay85 (DC g xd) (strQ xo g 0) (strQ xo g 1)) (k0_pay90 (k0_pay87 (rowH xl g 0)) (rowH xl g 1)) (kSel (par g) (strK xk g 0) (strK xk g 1)) (kSel (par g) (strK xv g 0) (strK xv g 1)) t a (ix3 0 d l) =
      (a (ix3 0 d l) + ∑ j : Fin 512, if j.val ≤ 128 * t.val + l.val % 128 then selfT xk xv xq xo xd xl g d ⟨256 * t.val + l.val, by omega⟩ j else 0 : EReal) := by
  match t with
  | 0 => exact (self_apply0 xk xv xq xo xd xl g a d l).trans (congrArg (fun z => (a (ix3 0 d l) + z : EReal)) (Finset.sum_congr rfl fun j _ => by simp only [Fin.val_zero, Nat.mul_zero, Nat.zero_add]))
  | 1 => exact (self_apply1 xk xv xq xo xd xl g a d l).trans (congrArg (fun z => (a (ix3 0 d l) + z : EReal)) (Finset.sum_congr rfl fun j _ => rfl))
  | 2 => exact (self_apply2 xk xv xq xo xd xl g a d l).trans (congrArg (fun z => (a (ix3 0 d l) + z : EReal)) (Finset.sum_congr rfl fun j _ => rfl))
  | 3 => exact (self_apply3 xk xv xq xo xd xl g a d l).trans (congrArg (fun z => (a (ix3 0 d l) + z : EReal)) (Finset.sum_congr rfl fun j _ => rfl))

/-- The accumulator's slab. -/
theorem acc_up (pk pv : Vec Ideal S128x2x128 .bf16) (xk xv : Vec Ideal S1x4096x128 .bf16) (xq xo : Vec Ideal S1x8192x128 .bf16) (xd : Vec Ideal S1x8192x128 .fp8e5m2) (xl : Vec Ideal S1x16x512 .f32) (g : Fin 8) (x : Vec Ideal S8x128x1024 .f32)
    (hx : Upto k8 g.val x (acc0S pk pv xk xv xq xo xd xl)) :
    Upto k8 (g.val + 1) (self4 g (selfPay (DC g xd) (k0_pay84 (strQ xq g 0) (strQ xq g 1)) (k0_pay85 (DC g xd) (strQ xo g 0) (strQ xo g 1)) (k0_pay90 (k0_pay87 (rowH xl g 0)) (rowH xl g 1)) (kSel (par g) (strK xk g 0) (strK xk g 1)) (kSel (par g) (strK xv g 0) (strK xv g 1)))
      (putU ![g.val, 0, 0] S1x128x1024.size (k0_pay118 (pSel (par g) (strP pk g 0) (strP pk g 1)) (pDS (pSel (par g) (strP pk g 0) (strP pk g 1)) (pSel (par g) (strP pv g 0) (strP pv g 1)) (DC g xd) (k0_pay84 (strQ xq g 0) (strQ xq g 1)) (k0_pay85 (DC g xd) (strQ xo g 0) (strQ xo g 1)) (k0_pay90 (k0_pay87 (rowH xl g 0)) (rowH xl g 1)))) x))
      (acc0S pk pv xk xv xq xo xd xl) := by
  refine all_ix3 fun a d l hy => ?_
  change a.val < g.val + 1 at hy
  refine (self_up g _ (fun t d l => ∑ j : Fin 512, if j.val ≤ 128 * t.val + l.val % 128 then selfT xk xv xq xo xd xl g d ⟨256 * t.val + l.val, by omega⟩ j else 0) (fun t a d l => self_cst g t a d l) _ a d l).trans ?_
  by_cases h : a.val = g.val
  · rw [if_pos h]
    obtain rfl := Fin.ext h
    refine (congrArg (fun z => (z + _ : EReal)) ((put3_hit (n0 := 8) a.val 0 0 _ x a d l 0 d l rfl (Nat.zero_add _).symm (Nat.zero_add _).symm).trans (p118_apply ..))).trans ?_
    refine congrArg (fun z => ((∑ p : Fin 32, preT pk pv xq xo xd xl a d l p) + z : EReal)) (Finset.sum_congr rfl fun j _ => ?_)
    have e1 : (⟨256 * (l.val / 256) + l.val % 256, by omega⟩ : Fin 1024) = l := Fin.ext (by show 256 * (l.val / 256) + l.val % 256 = l.val; omega)
    have e2 : 128 * (l.val / 256) + l.val % 256 % 128 = (ci l).val := by show _ = l.val / 256 * 128 + l.val % 128; omega
    show (if j.val ≤ 128 * (l.val / 256) + l.val % 256 % 128 then selfT xk xv xq xo xd xl a d ⟨256 * (l.val / 256) + l.val % 256, _⟩ j else 0) = _
    rw [e1, e2]
    rfl
  · rw [if_neg h]
    exact (put3_miss (n0 := 8) g.val 0 0 _ x a d l (by omega)).trans (hx (ix3 a d l) (by show a.val < g.val; omega))

end Cert.KernelIdeal.Gen

end
-- ==== Proof.KernelIdeal.Pay3.lean ====
module

public import proofs.«01_k».proof.Proof.KernelIdeal.UCtx
public import proofs.«01_k».proof.Proof.KernelIdeal.Up
public import Idealize.ShloMosaic.Lib.Pointwise

@[expose] public section

set_option maxRecDepth 65536

noncomputable section

namespace Cert.KernelIdeal.Gen

open Idealize.ShloMosaic Idealize.ShloMosaic.TcCoe Idealize.ShloMosaic.Tactic

/-! What one chunk of the context adds to the accumulator. -/

theorem ctxCodes_apply (x : Vec Ideal S1x4096x128 .fp8e4m3) (g : Fin 8) (s : Fin 512) (d : Fin 128) :
    ctxCodes x g (ix2 s d) = x (ix3 0 ⟨s.val * 8 + g.val, by omega⟩ d) := by
  pointwise [ctxCodes, k0_pay705]
theorem ctxWide_apply (x : FVec Ideal S8x512 .f32) (g : Fin 8) (s : Fin 512) (l : Fin 256) :
    ctxWide x g (ix2 s l) = x (ix2 g s) := by
  pointwise [ctxWide]
  split <;> rfl

/-- The term of the chunk's slot `s` for a column. -/
def ctxE (af : FVec Ideal S512x128 .bf16) (ks vs : FVec Ideal S8x512 .f32) (kc vc : Vec Ideal S1x4096x128 .fp8e4m3) (q : Fin 256 → EReal) (o : Fin 128 → EReal) (m : EReal) (g : Fin 8) (e : Fin 128) (s : Fin 512) : EReal :=
  kc (ix3 0 ⟨s.val * 8 + g.val, by omega⟩ e) * (FloatOps.exp2 (F := Ideal) (φ := .f32) (((∑ d : Fin 128, kc (ix3 0 ⟨s.val * 8 + g.val, by omega⟩ d) * q ⟨d.val, by omega⟩) + ∑ d : Fin 128, af (ix2 s d) * q ⟨128 + d.val, by omega⟩) * ks (ix2 g s)) *
    ((∑ d : Fin 128, vc (ix3 0 ⟨s.val * 8 + g.val, by omega⟩ d) * o d) * vs (ix2 g s) - m))

theorem ctxPay_apply (af : FVec Ideal S512x128 .bf16) (ks : FVec Ideal S8x512 .f32) (vs : FVec Ideal S8x512 .f32) (kc vc : Vec Ideal S1x4096x128 .fp8e4m3) (g : Fin 8)
    (q : Vec Ideal S1x256x256 .bf16) (d : Vec Ideal S1x128x256 .fp8e5m2) (s : Vec Ideal S1x1x256 .f32) (acc : Vec Ideal S1x128x256 .f32) (e : Fin 128) (l : Fin 256) :
    ctxPay af ks vs kc vc g q d s acc (ix3 0 e l) = (acc (ix3 0 e l) + ∑ x : Fin 512, ctxE af ks vs kc vc (fun i => q (ix3 0 i l)) (fun i => d (ix3 0 i l)) (s (ix3 0 0 l)) g e x : EReal) := by
  pointwise [ctxPay, k0_pay720, k0_pay731, k0_pay728, k0_pay727, k0_pay726]
  simp only [ctxCodes_apply, ctxWide_apply]
  rfl

/-- What the chunk adds, a place of the accumulator at a time. -/
def ctxAdd (af : FVec Ideal S512x128 .bf16) (ks vs : FVec Ideal S8x512 .f32) (kc vc : Vec Ideal S1x4096x128 .fp8e4m3) (xq : Vec Ideal S8x256x1024 .bf16) (xd : Vec Ideal S8x128x1024 .fp8e5m2) (xs : Vec Ideal S8x1x1024 .f32) (g : Fin 8) (e : Fin 128) (l : Fin 1024) : EReal :=
  ∑ x : Fin 512, ctxE af ks vs kc vc (fun i => xq (ix3 g i l)) (fun i => xd (ix3 g i l)) (xs (ix3 g 0 l)) g e x

/-- The accumulator with the contribution in its first `n` tiles. -/
def CMix (n : ℕ) (x x0 : Vec Ideal S8x128x1024 .f32) (f : Fin 8 → Fin 128 → Fin 1024 → EReal) : Prop :=
  ∀ (g : Fin 8) (e : Fin 128) (l : Fin 1024), x (ix3 g e l) = if 4 * g.val + l.val / 256 < n then (x0 (ix3 g e l) + f g e l : EReal) else x0 (ix3 g e l)

theorem ctx_tile (af : FVec Ideal S512x128 .bf16) (ks vs : FVec Ideal S8x512 .f32) (kc vc : Vec Ideal S1x4096x128 .fp8e4m3) (xq : Vec Ideal S8x256x1024 .bf16) (xd : Vec Ideal S8x128x1024 .fp8e5m2) (xs : Vec Ideal S8x1x1024 .f32) (g : Fin 8) (t : Fin 4)
    (x x0 : Vec Ideal S8x128x1024 .f32) (h : CMix (4 * g.val + t.val) x x0 (ctxAdd af ks vs kc vc xq xd xs)) :
    CMix (4 * g.val + t.val + 1) (putU (s := S8x128x1024) ![g.val, 0, 256 * t.val] S1x128x256.size (ctxPay af ks vs kc vc g (View.ld xq (Rect.unit (s := S8x256x1024) ![g.val, 0, 256 * t.val] S1x256x256.size (inb_qaug g t))) (View.ld xd (Rect.unit (s := S8x128x1024) ![g.val, 0, 256 * t.val] S1x128x256.size (inb_do8 g t)))
      (View.ld xs (Rect.unit (s := S8x1x1024) ![g.val, 0, 256 * t.val] S1x1x256.size (inb_dsum g t))) (View.ld x (Rect.unit (s := S8x128x1024) ![g.val, 0, 256 * t.val] S1x128x256.size (inb_do8 g t)))) x) x0 (ctxAdd af ks vs kc vc xq xd xs) := by
  intro a e l
  refine (tile_add g t (fun z => ctxPay af ks vs kc vc g (View.ld xq (Rect.unit (s := S8x256x1024) ![g.val, 0, 256 * t.val] S1x256x256.size (inb_qaug g t))) (View.ld xd (Rect.unit (s := S8x128x1024) ![g.val, 0, 256 * t.val] S1x128x256.size (inb_do8 g t)))
      (View.ld xs (Rect.unit (s := S8x1x1024) ![g.val, 0, 256 * t.val] S1x1x256.size (inb_dsum g t))) z) (fun d l => ctxAdd af ks vs kc vc xq xd xs g d ⟨256 * t.val + l.val, by omega⟩) x (fun d l => ?_) a e l).trans ?_
  · refine (ctxPay_apply ..).trans ?_
    refine congrArg (fun z => (View.ld x (Rect.unit (s := S8x128x1024) ![g.val, 0, 256 * t.val] S1x128x256.size (inb_do8 g t)) (ix3 0 d l) + z : EReal)) ?_
    unfold ctxAdd
    refine Finset.sum_congr rfl fun s _ => ?_
    congr 1
    · funext i
      show xq _ = xq _
      congr 1
      funext j
      apply Fin.ext
      match j with
      | 0 => show g.val + 1 * 0 = g.val; omega
      | 1 => show 0 + 1 * i.val = i.val; omega
      | 2 => show 256 * t.val + 1 * l.val = 256 * t.val + l.val; omega
    · funext i
      show xd _ = xd _
      congr 1
      funext j
      apply Fin.ext
      match j with
      | 0 => show g.val + 1 * 0 = g.val; omega
      | 1 => show 0 + 1 * i.val = i.val; omega
      | 2 => show 256 * t.val + 1 * l.val = 256 * t.val + l.val; omega
    · show xs _ = xs _
      congr 1
      funext j
      apply Fin.ext
      match j with
      | 0 => show g.val + 1 * 0 = g.val; omega
      | 1 => rfl
      | 2 => show 256 * t.val + 1 * l.val = 256 * t.val + l.val; omega
  · by_cases hh : a.val = g.val ∧ l.val / 256 = t.val
    · rw [if_pos hh, if_pos (by omega), h a e l, if_neg (by omega)]
      obtain ⟨h1, h2⟩ := hh
      obtain rfl := Fin.ext h1
      refine congrArg (fun z => (x0 (ix3 a e l) + z : EReal)) ?_
      show ctxAdd af ks vs kc vc xq xd xs a e _ = _
      congr 1
      apply Fin.ext
      show 256 * t.val + l.val % 256 = l.val
      omega
    · rw [if_neg hh, h a e l]
      have e0 : (4 * a.val + l.val / 256 < 4 * g.val + t.val) ↔ (4 * a.val + l.val / 256 < 4 * g.val + t.val + 1) := by omega
      simp only [e0]

end Cert.KernelIdeal.Gen

end
-- ==== Proof.KernelIdeal.RAff.lean ====
module

public import proofs.«01_k».proof.Proof.KernelIdeal.RCtx
public import proofs.«01_k».proof.Proof.KernelIdeal.Pay3
public import Idealize.ShloMosaic.Lib.Tactic

@[expose] public section

set_option maxRecDepth 65536

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-! One chunk of the context run once. -/

theorem readAt_ldC (m : Memref sig .tc .vmem S1x4096x128 .fp8e4m3) (h : m.IsWhole) (x : Vec Ideal S1x4096x128 .fp8e4m3) :
    View.readAt (Elt Ideal) m.view (Rect.unit (s := S1x4096x128) ![0, 0, 0] S1x4096x128.size inb_S1x4096x128_S1x4096x128_0_0_0).toLoadRect (h.unread x) = x := by
  funext y
  show m.view.read (Elt Ideal) (h.unread x) _ = _
  rw [h.read_unread]
  apply congrArg
  funext a
  apply Fin.ext
  match a with
  | 0 => show 0 + 1 * (y 0).val = (y 0).val; omega
  | 1 => show 0 + 1 * (y 1).val = (y 1).val; omega
  | 2 => show 0 + 1 * (y 2).val = (y 2).val; omega

/-- A whole array read. -/
theorem ldC_run (c : Dev nD) (E : Set ℕ) (K : PUnit.{1} → sProp 𝕄) (m : Memref sig .tc .vmem S1x4096x128 .fp8e4m3) (h : m.IsWhole) (x : Vec Ideal S1x4096x128 .fp8e4m3) (k : Vec Ideal S1x4096x128 .fp8e4m3 → PR) :
    iprop(owns (c : Thread nD τ) m fullShare x ∗ (owns (c : Thread nD τ) m fullShare x -∗ wp frame (wpE (defs₀ (F := Ideal)) Variants.none c none) E (k x) K))
      ⊢ (wp frame (wpE (defs₀ (F := Ideal)) Variants.none c none) E (Prog.lift (.load m (Rect.unit (s := S1x4096x128) ![0, 0, 0] S1x4096x128.size inb_S1x4096x128_S1x4096x128_0_0_0).toLoadRect (View.loadsAt_vmem h_S1x4096x128)) >>= fun v => k v) K : sProp 𝕄) := by
  simp only [owns]
  iintro ⟨⟨%f, %hf, H⟩, Hk⟩
  obtain rfl := h.eq_unread hf
  sl_exec (disch := fail)
  rw [readAt_ldC]
  iapply Hk
  iexists _; isplitr; · ipureintro; exact h.read_unread _
  iexact H

theorem readAt_ldS (m : Memref sig .tc .vmem S1x8x512 .f32) (h : m.IsWhole) (x : Vec Ideal S1x8x512 .f32) :
    View.readAt (Elt Ideal) m.view (Rect.unit (s := S1x8x512) ![0, 0, 0] S1x8x512.size inb_S1x8x512_S1x8x512_0_0_0).toLoadRect (h.unread x) = x := by
  funext y
  show m.view.read (Elt Ideal) (h.unread x) _ = _
  rw [h.read_unread]
  apply congrArg
  funext a
  apply Fin.ext
  match a with
  | 0 => show 0 + 1 * (y 0).val = (y 0).val; omega
  | 1 => show 0 + 1 * (y 1).val = (y 1).val; omega
  | 2 => show 0 + 1 * (y 2).val = (y 2).val; omega

/-- A whole array read. -/
theorem ldS_run (c : Dev nD) (E : Set ℕ) (K : PUnit.{1} → sProp 𝕄) (m : Memref sig .tc .vmem S1x8x512 .f32) (h : m.IsWhole) (x : Vec Ideal S1x8x512 .f32) (k : Vec Ideal S1x8x512 .f32 → PR) :
    iprop(owns (c : Thread nD τ) m fullShare x ∗ (owns (c : Thread nD τ) m fullShare x -∗ wp frame (wpE (defs₀ (F := Ideal)) Variants.none c none) E (k x) K))
      ⊢ (wp frame (wpE (defs₀ (F := Ideal)) Variants.none c none) E (Prog.lift (.load m (Rect.unit (s := S1x8x512) ![0, 0, 0] S1x8x512.size inb_S1x8x512_S1x8x512_0_0_0).toLoadRect (View.loadsAt_vmem h_S1x8x512)) >>= fun v => k v) K : sProp 𝕄) := by
  simp only [owns]
  iintro ⟨⟨%f, %hf, H⟩, Hk⟩
  obtain rfl := h.eq_unread hf
  sl_exec (disch := fail)
  rw [readAt_ldS]
  iapply Hk
  iexists _; isplitr; · ipureintro; exact h.read_unread _
  iexact H

theorem readAt_ldT (m : Memref sig .tc .vmem S128x512 .f32) (h : m.IsWhole) (x : Vec Ideal S128x512 .f32) :
    View.readAt (Elt Ideal) m.view (Rect.unit (s := S128x512) ![0, 0] S128x512.size inb_S128x512_S128x512_0_0).toLoadRect (h.unread x) = x := by
  funext y
  show m.view.read (Elt Ideal) (h.unread x) _ = _
  rw [h.read_unread]
  apply congrArg
  funext a
  apply Fin.ext
  match a with
  | 0 => show 0 + 1 * (y 0).val = (y 0).val; omega
  | 1 => show 0 + 1 * (y 1).val = (y 1).val; omega

/-- A whole array read. -/
theorem ldT_run (c : Dev nD) (E : Set ℕ) (K : PUnit.{1} → sProp 𝕄) (m : Memref sig .tc .vmem S128x512 .f32) (h : m.IsWhole) (x : Vec Ideal S128x512 .f32) (k : Vec Ideal S128x512 .f32 → PR) :
    iprop(owns (c : Thread nD τ) m fullShare x ∗ (owns (c : Thread nD τ) m fullShare x -∗ wp frame (wpE (defs₀ (F := Ideal)) Variants.none c none) E (k x) K))
      ⊢ (wp frame (wpE (defs₀ (F := Ideal)) Variants.none c none) E (Prog.lift (.load m (Rect.unit (s := S128x512) ![0, 0] S128x512.size inb_S128x512_S128x512_0_0).toLoadRect (View.loadsAt_vmem h_S128x512)) >>= fun v => k v) K : sProp 𝕄) := by
  simp only [owns]
  iintro ⟨⟨%f, %hf, H⟩, Hk⟩
  obtain rfl := h.eq_unread hf
  sl_exec (disch := fail)
  rw [readAt_ldT]
  iapply Hk
  iexists _; isplitr; · ipureintro; exact h.read_unread _
  iexact H

theorem readAt_ldA (m : Memref sig .tc .vmem S512x128 .bf16) (h : m.IsWhole) (x : Vec Ideal S512x128 .bf16) :
    View.readAt (Elt Ideal) m.view (Rect.unit (s := S512x128) ![0, 0] S512x128.size inb_S512x128_S512x128_0_0).toLoadRect (h.unread x) = x := by
  funext y
  show m.view.read (Elt Ideal) (h.unread x) _ = _
  rw [h.read_unread]
  apply congrArg
  funext a
  apply Fin.ext
  match a with
  | 0 => show 0 + 1 * (y 0).val = (y 0).val; omega
  | 1 => show 0 + 1 * (y 1).val = (y 1).val; omega

/-- A whole array read. -/
theorem ldA_run (c : Dev nD) (E : Set ℕ) (K : PUnit.{1} → sProp 𝕄) (m : Memref sig .tc .vmem S512x128 .bf16) (h : m.IsWhole) (x : Vec Ideal S512x128 .bf16) (k : Vec Ideal S512x128 .bf16 → PR) :
    iprop(owns (c : Thread nD τ) m fullShare x ∗ (owns (c : Thread nD τ) m fullShare x -∗ wp frame (wpE (defs₀ (F := Ideal)) Variants.none c none) E (k x) K))
      ⊢ (wp frame (wpE (defs₀ (F := Ideal)) Variants.none c none) E (Prog.lift (.load m (Rect.unit (s := S512x128) ![0, 0] S512x128.size inb_S512x128_S512x128_0_0).toLoadRect (View.loadsAt_vmem h_S512x128)) >>= fun v => k v) K : sProp 𝕄) := by
  simp only [owns]
  iintro ⟨⟨%f, %hf, H⟩, Hk⟩
  obtain rfl := h.eq_unread hf
  sl_exec (disch := fail)
  rw [readAt_ldA]
  iapply Hk
  iexists _; isplitr; · ipureintro; exact h.read_unread _
  iexact H

/-- The whole table stored. -/
theorem stA_run (c : Dev nD) (E : Set ℕ) (K : PUnit.{1} → sProp 𝕄) (arg30 : Memref sig .tc .vmem S512x128 .bf16) (h30 : arg30.IsWhole) (x30 : Vec Ideal S512x128 .bf16) (w : FVec Ideal S512x128 .bf16) (jp : PR) :
    iprop(owns (c : Thread nD τ) arg30 fullShare x30 ∗ (owns (c : Thread nD τ) arg30 fullShare w -∗ wp frame (wpE (defs₀ (F := Ideal)) Variants.none c none) E jp K))
      ⊢ (wp frame (wpE (defs₀ (F := Ideal)) Variants.none c none) E (Prog.lift (.store arg30 (Rect.unit (s := S512x128) ![0, 0] S512x128.size inb_S512x128_S512x128_0_0) w Finset.univ (View.stores_vmem h_S512x128 (h30.storeExact_slice rfl _ packedbf16_S512x128_S512x128_0_0) (fun _ => rfl)) (.inl rfl)) >>= fun _ => jp) K : sProp 𝕄) := by
  simp only [owns]
  iintro ⟨⟨%f30, %hf30, H30⟩, Hk⟩
  obtain rfl := h30.eq_unread hf30
  sl_exec (disch := fail)
  iapply Hk
  iexists _; isplitr
  swap; · iexact H30
  ipureintro
  rw [read_put]
  funext y
  refine putU_hit (s := S512x128) ![0, 0] S512x128.size w _ y y ?_
  intro a
  match a with
  | 0 => exact (Nat.zero_add _).symm
  | 1 => exact (Nat.zero_add _).symm

/-- One row of the table stored. -/
theorem affU_run (c : Dev nD) (E : Set ℕ) (K : PUnit.{1} → sProp 𝕄) (arg31 : Memref sig .tc .vmem S128x512 .f32) (h31 : arg31.IsWhole) (r : Fin 128) (w : FVec Ideal S1x512 .f32) (jp : PUnit.{1} → PR) (x31 : Vec Ideal S128x512 .f32) :
    iprop(owns (c : Thread nD τ) arg31 fullShare x31 ∗ (owns (c : Thread nD τ) arg31 fullShare (putU ![r.val, 0] S1x512.size w x31) -∗ wp frame (wpE (defs₀ (F := Ideal)) Variants.none c none) E (jp ⟨⟩) K))
      ⊢ (wp frame (wpE (defs₀ (F := Ideal)) Variants.none c none) E (affU arg31 r w jp) K : sProp 𝕄) := by
  unfold affU
  simp only [owns]
  iintro ⟨⟨%f31, %hf31, H31⟩, Hk⟩
  obtain rfl := h31.eq_unread hf31
  sl_exec (disch := fail)
  iapply Hk
  iexists _; isplitr
  swap; · iexact H31
  ipureintro
  rw [read_put]
  simp only [View.writes_nil, h31.read_unread]

/-- The table of row terms. -/
def afftS (a : BitVec 32) (v1 : Elt Ideal .i32) (ks : Vec Ideal S1x8x512 .f32) : Vec Ideal S128x512 .f32 := fun y =>
  affRow (affPart a v1 ks ((y 0).val % 16)) ⟨(y 0).val / 16, by have : (y 0).val < 128 := (y 0).isLt; omega⟩ (ix2 0 (y 1))

theorem affL_run (c : Dev nD) (E : Set ℕ) (K : PUnit.{1} → sProp 𝕄) (arg31 : Memref sig .tc .vmem S128x512 .f32) (h31 : arg31.IsWhole) (a : BitVec 32) (v1 : Elt Ideal .i32) (ks : Vec Ideal S1x8x512 .f32) (n : ℕ) (hn : n ≤ 128) (jp : PUnit.{1} → PR) (x31 : Vec Ideal S128x512 .f32) :
    iprop(owns (c : Thread nD τ) arg31 fullShare x31 ∗ (∀ z : Vec Ideal S128x512 .f32, ⌜Upto (fun y : S128x512.Idx => (y 0).val) n z (afftS a v1 ks)⌝ -∗ owns (c : Thread nD τ) arg31 fullShare z -∗ wp frame (wpE (defs₀ (F := Ideal)) Variants.none c none) E (jp ⟨⟩) K))
      ⊢ (wp frame (wpE (defs₀ (F := Ideal)) Variants.none c none) E (affL arg31 a v1 ks n hn jp) K : sProp 𝕄) := by
  induction n generalizing jp with
  | zero =>
    show _ ⊢ wp frame (wpE (defs₀ (F := Ideal)) Variants.none c none) E (jp ⟨⟩) K
    iintro ⟨H, Hk⟩
    iapply Hk $$ %x31 [] H
    ipureintro
    intro y hy
    exact absurd hy (Nat.not_lt_zero _)
  | succ n ih =>
    show _ ⊢ wp frame (wpE (defs₀ (F := Ideal)) Variants.none c none) E (affL arg31 a v1 ks n (by omega) fun _ => affU arg31 ⟨n, hn⟩ (affRow (affPart a v1 ks (n % 16)) ⟨n / 16, by omega⟩) jp) K
    iintro ⟨H, Hk⟩
    iapply ih _ _
    isplitl [H]; · iexact H
    iintro %z %hz H
    iapply affU_run c E K arg31 h31 ⟨n, hn⟩ _ jp z
    isplitl [H]; · iexact H
    iintro H
    iapply Hk $$ [] H
    ipureintro
    intro y hy
    change (y 0).val < n + 1 at hy
    by_cases h : (y 0).val = n
    · refine (putU_hit (s := S128x512) ![n, 0] S1x512.size _ z y (ix2 0 (y 1)) ?_).trans ?_
      · intro a
        match a with
        | 0 => exact h
        | 1 => exact (Nat.zero_add _).symm
      · subst h
        rfl
    · refine (putU_miss (s := S128x512) ![n, 0] S1x512.size _ z y 0 ?_).trans (hz y ?_)
      · exact Or.inl (Nat.lt_of_le_of_ne (Nat.le_of_lt_succ hy) h)
      · exact Nat.lt_of_le_of_ne (Nat.le_of_lt_succ hy) h

/-- One tile of the chunk's step. -/
theorem tile_run (c : Dev nD) (E : Set ℕ) (K : PUnit.{1} → sProp 𝕄) (arg20 : Memref sig .tc .vmem S8x256x1024 .bf16) (h20 : arg20.IsWhole) (arg21 : Memref sig .tc .vmem S8x128x1024 .fp8e5m2) (h21 : arg21.IsWhole) (arg23 : Memref sig .tc .vmem S8x128x1024 .f32) (h23 : arg23.IsWhole) (arg24 : Memref sig .tc .vmem S8x1x1024 .f32) (h24 : arg24.IsWhole) (af : FVec Ideal S512x128 .bf16) (ks vs : FVec Ideal S8x512 .f32) (kc vc : Vec Ideal S1x4096x128 .fp8e4m3) (x20 : Vec Ideal S8x256x1024 .bf16) (x21 : Vec Ideal S8x128x1024 .fp8e5m2) (x24 : Vec Ideal S8x1x1024 .f32) (x0 : Vec Ideal S8x128x1024 .f32)
    (g : Fin 8) (t : Fin 4) (n n' : ℕ) (hn : n = 4 * g.val + t.val) (hn' : n' = 4 * g.val + t.val + 1) (jp : PUnit.{1} → PR) :
    iprop((owns (c : Thread nD τ) arg20 fullShare x20 ∗ owns (c : Thread nD τ) arg21 fullShare x21 ∗ owns (c : Thread nD τ) arg24 fullShare x24) ∗ (∃ z, ⌜CMix n z x0 (ctxAdd af ks vs kc vc x20 x21 x24)⌝ ∗ owns (c : Thread nD τ) arg23 fullShare z) ∗
      ((owns (c : Thread nD τ) arg20 fullShare x20 ∗ owns (c : Thread nD τ) arg21 fullShare x21 ∗ owns (c : Thread nD τ) arg24 fullShare x24) -∗ (∃ z, ⌜CMix n' z x0 (ctxAdd af ks vs kc vc x20 x21 x24)⌝ ∗ owns (c : Thread nD τ) arg23 fullShare z) -∗ wp frame (wpE (defs₀ (F := Ideal)) Variants.none c none) E (jp ⟨⟩) K))
      ⊢ (wp frame (wpE (defs₀ (F := Ideal)) Variants.none c none) E (ctxT arg20 arg21 arg23 arg24 (ctxPay af ks vs kc vc g) g t jp) K : sProp 𝕄) := by
  subst hn hn'
  iintro ⟨⟨H20, H21, H24⟩, ⟨%z, %hz, H23⟩, Hk⟩
  iapply ctxT_run c E K arg20 h20 arg21 h21 arg23 h23 arg24 h24 _ g t jp x20 x21 x24 z
  isplitl [H20 H21 H24 H23]
  · isplitl [H20]; · iexact H20
    isplitl [H21]; · iexact H21
    isplitl [H24]; · iexact H24
    iexact H23
  iintro ⟨H20, H21, H24, H23⟩
  iapply Hk $$ [H20 H21 H24] [H23]
  · isplitl [H20]; · iexact H20
    isplitl [H21]; · iexact H21
    iexact H24
  iexists _
  isplitr; swap; · iexact H23
  ipureintro
  exact ctx_tile af ks vs kc vc x20 x21 x24 g t z x0 hz

/-- One group of the chunk's step. -/
theorem ctxG_run (c : Dev nD) (E : Set ℕ) (K : PUnit.{1} → sProp 𝕄) (arg20 : Memref sig .tc .vmem S8x256x1024 .bf16) (h20 : arg20.IsWhole) (arg21 : Memref sig .tc .vmem S8x128x1024 .fp8e5m2) (h21 : arg21.IsWhole) (arg23 : Memref sig .tc .vmem S8x128x1024 .f32) (h23 : arg23.IsWhole) (arg24 : Memref sig .tc .vmem S8x1x1024 .f32) (h24 : arg24.IsWhole) (af : FVec Ideal S512x128 .bf16) (ks vs : FVec Ideal S8x512 .f32) (kc vc : Vec Ideal S1x4096x128 .fp8e4m3) (x20 : Vec Ideal S8x256x1024 .bf16) (x21 : Vec Ideal S8x128x1024 .fp8e5m2) (x24 : Vec Ideal S8x1x1024 .f32) (x0 : Vec Ideal S8x128x1024 .f32)
    (g : Fin 8) (n n' : ℕ) (hn : n = 4 * g.val) (hn' : n' = 4 * g.val + 4) (jp : PUnit.{1} → PR) :
    iprop((owns (c : Thread nD τ) arg20 fullShare x20 ∗ owns (c : Thread nD τ) arg21 fullShare x21 ∗ owns (c : Thread nD τ) arg24 fullShare x24) ∗ (∃ z, ⌜CMix n z x0 (ctxAdd af ks vs kc vc x20 x21 x24)⌝ ∗ owns (c : Thread nD τ) arg23 fullShare z) ∗
      ((owns (c : Thread nD τ) arg20 fullShare x20 ∗ owns (c : Thread nD τ) arg21 fullShare x21 ∗ owns (c : Thread nD τ) arg24 fullShare x24) -∗ (∃ z, ⌜CMix n' z x0 (ctxAdd af ks vs kc vc x20 x21 x24)⌝ ∗ owns (c : Thread nD τ) arg23 fullShare z) -∗ wp frame (wpE (defs₀ (F := Ideal)) Variants.none c none) E (jp ⟨⟩) K))
      ⊢ (wp frame (wpE (defs₀ (F := Ideal)) Variants.none c none) E (ctxG arg20 arg21 arg23 arg24 (ctxPay af ks vs kc vc g) g jp) K : sProp 𝕄) := by
  subst hn hn'
  unfold ctxG
  iintro ⟨HR, Hs, Hk⟩
  iapply tile_run c E K arg20 h20 arg21 h21 arg23 h23 arg24 h24 af ks vs kc vc x20 x21 x24 x0 g 0 (4 * g.val + 0) (4 * g.val + 1) rfl rfl _
  isplitl [HR]; · iexact HR
  isplitl [Hs]; · iexact Hs
  iintro HR Hs
  iapply tile_run c E K arg20 h20 arg21 h21 arg23 h23 arg24 h24 af ks vs kc vc x20 x21 x24 x0 g 1 (4 * g.val + 1) (4 * g.val + 2) rfl rfl _
  isplitl [HR]; · iexact HR
  isplitl [Hs]; · iexact Hs
  iintro HR Hs
  iapply tile_run c E K arg20 h20 arg21 h21 arg23 h23 arg24 h24 af ks vs kc vc x20 x21 x24 x0 g 2 (4 * g.val + 2) (4 * g.val + 3) rfl rfl _
  isplitl [HR]; · iexact HR
  isplitl [Hs]; · iexact Hs
  iintro HR Hs
  iapply tile_run c E K arg20 h20 arg21 h21 arg23 h23 arg24 h24 af ks vs kc vc x20 x21 x24 x0 g 3 (4 * g.val + 3) (4 * g.val + 4) rfl rfl _
  isplitl [HR]; · iexact HR
  isplitl [Hs]; · iexact Hs
  iintro HR Hs
  iapply Hk $$ HR Hs

/-- Four groups of the chunk's step. -/
theorem ctxQ_run (c : Dev nD) (E : Set ℕ) (K : PUnit.{1} → sProp 𝕄) (arg10 : Memref sig .tc .vmem S1x4096x128 .fp8e4m3) (h10 : arg10.IsWhole) (arg11 : Memref sig .tc .vmem S1x4096x128 .fp8e4m3) (h11 : arg11.IsWhole) (arg20 : Memref sig .tc .vmem S8x256x1024 .bf16) (h20 : arg20.IsWhole) (arg21 : Memref sig .tc .vmem S8x128x1024 .fp8e5m2) (h21 : arg21.IsWhole) (arg23 : Memref sig .tc .vmem S8x128x1024 .f32) (h23 : arg23.IsWhole) (arg24 : Memref sig .tc .vmem S8x1x1024 .f32) (h24 : arg24.IsWhole) (af : FVec Ideal S512x128 .bf16) (ks vs : FVec Ideal S8x512 .f32) (x10 : Vec Ideal S1x4096x128 .fp8e4m3) (x11 : Vec Ideal S1x4096x128 .fp8e4m3) (x20 : Vec Ideal S8x256x1024 .bf16) (x21 : Vec Ideal S8x128x1024 .fp8e5m2) (x24 : Vec Ideal S8x1x1024 .f32) (x0 : Vec Ideal S8x128x1024 .f32)
    (g0 g1 g2 g3 : Fin 8) (n n' : ℕ) (e0 : n = 4 * g0.val) (e1 : g1.val = g0.val + 1) (e2 : g2.val = g0.val + 2) (e3 : g3.val = g0.val + 3) (e4 : n' = n + 16) (jp : PUnit.{1} → PR) :
    iprop((owns (c : Thread nD τ) arg10 fullShare x10 ∗ owns (c : Thread nD τ) arg11 fullShare x11) ∗ (owns (c : Thread nD τ) arg20 fullShare x20 ∗ owns (c : Thread nD τ) arg21 fullShare x21 ∗ owns (c : Thread nD τ) arg24 fullShare x24) ∗ (∃ z, ⌜CMix n z x0 (ctxAdd af ks vs x10 x11 x20 x21 x24)⌝ ∗ owns (c : Thread nD τ) arg23 fullShare z) ∗
      ((owns (c : Thread nD τ) arg10 fullShare x10 ∗ owns (c : Thread nD τ) arg11 fullShare x11) -∗ (owns (c : Thread nD τ) arg20 fullShare x20 ∗ owns (c : Thread nD τ) arg21 fullShare x21 ∗ owns (c : Thread nD τ) arg24 fullShare x24) -∗ (∃ z, ⌜CMix n' z x0 (ctxAdd af ks vs x10 x11 x20 x21 x24)⌝ ∗ owns (c : Thread nD τ) arg23 fullShare z) -∗ wp frame (wpE (defs₀ (F := Ideal)) Variants.none c none) E (jp ⟨⟩) K))
      ⊢ (wp frame (wpE (defs₀ (F := Ideal)) Variants.none c none) E (ctxQ arg10 arg11 arg20 arg21 arg23 arg24 af ks vs g0 g1 g2 g3 jp) K : sProp 𝕄) := by
  unfold ctxQ
  iintro ⟨⟨H10, H11⟩, HR, Hs, Hk⟩
  iapply ldC_run c E K arg10 h10 x10 _
  isplitl [H10]; · iexact H10
  iintro H10
  iapply ldC_run c E K arg11 h11 x11 _
  isplitl [H11]; · iexact H11
  iintro H11
  iapply ctxG_run c E K arg20 h20 arg21 h21 arg23 h23 arg24 h24 af ks vs x10 x11 x20 x21 x24 x0 g0 n (4 * g1.val) (by omega) (by omega) _
  isplitl [HR]; · iexact HR
  isplitl [Hs]; · iexact Hs
  iintro HR Hs
  iapply ctxG_run c E K arg20 h20 arg21 h21 arg23 h23 arg24 h24 af ks vs x10 x11 x20 x21 x24 x0 g1 (4 * g1.val) (4 * g2.val) (by omega) (by omega) _
  isplitl [HR]; · iexact HR
  isplitl [Hs]; · iexact Hs
  iintro HR Hs
  iapply ctxG_run c E K arg20 h20 arg21 h21 arg23 h23 arg24 h24 af ks vs x10 x11 x20 x21 x24 x0 g2 (4 * g2.val) (4 * g3.val) (by omega) (by omega) _
  isplitl [HR]; · iexact HR
  isplitl [Hs]; · iexact Hs
  iintro HR Hs
  iapply ctxG_run c E K arg20 h20 arg21 h21 arg23 h23 arg24 h24 af ks vs x10 x11 x20 x21 x24 x0 g3 (4 * g3.val) n' (by omega) (by omega) _
  isplitl [HR]; · iexact HR
  isplitl [Hs]; · iexact Hs
  iintro HR Hs
  iapply Hk $$ [H10 H11] HR Hs
  isplitl [H10]; · iexact H10
  iexact H11

/-- The table of row terms, a row per slot. -/
def afS (a : BitVec 32) (v1 : Elt Ideal .i32) (ks : Vec Ideal S1x8x512 .f32) : FVec Ideal S512x128 .bf16 := k0_pay703 (k0_pay702 (F := Ideal) (afftS a v1 ks))

/-- The chunk's step. -/
theorem ctxP_run (c : Dev nD) (E : Set ℕ) (K : PUnit.{1} → sProp 𝕄) (i : grid0.Coords) (arg10 : Memref sig .tc .vmem S1x4096x128 .fp8e4m3) (h10 : arg10.IsWhole) (arg11 : Memref sig .tc .vmem S1x4096x128 .fp8e4m3) (h11 : arg11.IsWhole) (arg12 : Memref sig .tc .vmem S1x8x512 .f32) (h12 : arg12.IsWhole) (arg13 : Memref sig .tc .vmem S1x8x512 .f32) (h13 : arg13.IsWhole) (arg20 : Memref sig .tc .vmem S8x256x1024 .bf16) (h20 : arg20.IsWhole) (arg21 : Memref sig .tc .vmem S8x128x1024 .fp8e5m2) (h21 : arg21.IsWhole) (arg23 : Memref sig .tc .vmem S8x128x1024 .f32) (h23 : arg23.IsWhole) (arg24 : Memref sig .tc .vmem S8x1x1024 .f32) (h24 : arg24.IsWhole) (arg30 : Memref sig .tc .vmem S512x128 .bf16) (h30 : arg30.IsWhole) (arg31 : Memref sig .tc .vmem S128x512 .f32) (h31 : arg31.IsWhole) (v1 : Elt Ideal .i32) (x10 : Vec Ideal S1x4096x128 .fp8e4m3) (x11 : Vec Ideal S1x4096x128 .fp8e4m3) (x12 : Vec Ideal S1x8x512 .f32) (x13 : Vec Ideal S1x8x512 .f32) (x20 : Vec Ideal S8x256x1024 .bf16) (x21 : Vec Ideal S8x128x1024 .fp8e5m2) (x23 : Vec Ideal S8x128x1024 .f32) (x24 : Vec Ideal S8x1x1024 .f32) (x30 : Vec Ideal S512x128 .bf16) (x31 : Vec Ideal S128x512 .f32) (jp : PUnit.{1} → PR) :
    iprop((owns (c : Thread nD τ) arg10 fullShare x10 ∗ owns (c : Thread nD τ) arg11 fullShare x11 ∗ owns (c : Thread nD τ) arg12 fullShare x12 ∗ owns (c : Thread nD τ) arg13 fullShare x13) ∗ (owns (c : Thread nD τ) arg20 fullShare x20 ∗ owns (c : Thread nD τ) arg21 fullShare x21 ∗ owns (c : Thread nD τ) arg24 fullShare x24) ∗ owns (c : Thread nD τ) arg23 fullShare x23 ∗ owns (c : Thread nD τ) arg30 fullShare x30 ∗ owns (c : Thread nD τ) arg31 fullShare x31 ∗
      ((owns (c : Thread nD τ) arg10 fullShare x10 ∗ owns (c : Thread nD τ) arg11 fullShare x11 ∗ owns (c : Thread nD τ) arg12 fullShare x12 ∗ owns (c : Thread nD τ) arg13 fullShare x13) -∗ (owns (c : Thread nD τ) arg20 fullShare x20 ∗ owns (c : Thread nD τ) arg21 fullShare x21 ∗ owns (c : Thread nD τ) arg24 fullShare x24) -∗
        (∃ z, ⌜∀ (g : Fin 8) (e : Fin 128) (l : Fin 1024), z (ix3 g e l) = (x23 (ix3 g e l) + ctxAdd (afS (BitVec.ofNat 32 (i 1).val) v1 x12) (k0_pay553 (F := Ideal) (BitVec.ofNat 32 (i 1).val) v1 x12) (k0_pay704 (F := Ideal) x13) x10 x11 x20 x21 x24 g e l : EReal)⌝ ∗ owns (c : Thread nD τ) arg23 fullShare z) -∗
        (∃ z, owns (c : Thread nD τ) arg30 fullShare z) -∗ (∃ z, owns (c : Thread nD τ) arg31 fullShare z) -∗ wp frame (wpE (defs₀ (F := Ideal)) Variants.none c none) E (jp ⟨⟩) K))
      ⊢ (wp frame (wpE (defs₀ (F := Ideal)) Variants.none c none) E (ctxP i arg10 arg11 arg12 arg13 arg20 arg21 arg23 arg24 arg30 h30 arg31 v1 jp) K : sProp 𝕄) := by
  unfold ctxP
  iintro ⟨⟨H10, H11, H12, H13⟩, HR, H23, H30, H31, Hk⟩
  iapply ldS_run c E K arg12 h12 x12 _
  isplitl [H12]; · iexact H12
  iintro H12
  iapply affL_run c E K arg31 h31 _ v1 x12 128 (le_refl _) _ x31
  isplitl [H31]; · iexact H31
  iintro %z31 %hz H31
  obtain rfl : z31 = afftS (BitVec.ofNat 32 (i 1).val) v1 x12 := funext fun y => hz y (show (y 0).val < 128 from (y 0).isLt)
  iapply ldT_run c E K arg31 h31 _ _
  isplitl [H31]; · iexact H31
  iintro H31
  iapply ldA_run c E K arg30 h30 x30 _
  isplitl [H30]; · iexact H30
  iintro H30
  iapply stA_run c E K arg30 h30 x30 _ _
  isplitl [H30]; · iexact H30
  iintro H30
  iapply ldA_run c E K arg30 h30 _ _
  isplitl [H30]; · iexact H30
  iintro H30
  iapply ldS_run c E K arg13 h13 x13 _
  isplitl [H13]; · iexact H13
  iintro H13
  iapply ctxQ_run c E K arg10 h10 arg11 h11 arg20 h20 arg21 h21 arg23 h23 arg24 h24 _ _ _ x10 x11 x20 x21 x24 x23 0 1 2 3 0 16 rfl rfl rfl rfl rfl _
  isplitl [H10 H11]
  · isplitl [H10]; · iexact H10
    iexact H11
  isplitl [HR]; · iexact HR
  isplitl [H23]
  · iexists x23
    isplitr; swap; · iexact H23
    ipureintro
    intro g e l
    exact (if_neg (Nat.not_lt_zero _)).symm
  iintro HC HR Hs
  iapply ctxQ_run c E K arg10 h10 arg11 h11 arg20 h20 arg21 h21 arg23 h23 arg24 h24 _ _ _ x10 x11 x20 x21 x24 x23 4 5 6 7 16 32 rfl rfl rfl rfl rfl _
  isplitl [HC]; · iexact HC
  isplitl [HR]; · iexact HR
  isplitl [Hs]; · iexact Hs
  iintro HC HR Hs
  icases HC with ⟨H10, H11⟩
  icases Hs with ⟨%z, %hz, H23⟩
  iapply Hk $$ [H10 H11 H12 H13] HR [H23] [H30] [H31]
  · isplitl [H10]; · iexact H10
    isplitl [H11]; · iexact H11
    isplitl [H12]; · iexact H12
    iexact H13
  · iexists z
    isplitr; swap; · iexact H23
    ipureintro
    intro g e l
    refine (hz g e l).trans (if_pos ?_)
    omega
  · iexists _; iexact H30
  · iexists _; iexact H31

end Cert.KernelIdeal.Gen

end
-- ==== Proof.KernelIdeal.AffAt.lean ====
module

public import proofs.«01_k».proof.Proof.KernelIdeal.RAff
public import proofs.«01_k».proof.Proof.KernelIdeal.Alg
public import Idealize.ShloMosaic.Lib.Pointwise

@[expose] public section

set_option maxRecDepth 16384

noncomputable section

namespace Cert.KernelIdeal.Gen

open Idealize.ShloMosaic Idealize.ShloMosaic.TcCoe
open Idealize.SL Idealize.SL.RA Idealize.SL.BI
open Idealize.SL.BI.BIBase Idealize.SL.Sem

/-! The context scores' factor and offset read at an index. -/

variable (a : BitVec 32) (v1 : BitVec 32) (ks : Vec Ideal S1x8x512 .f32) (g : Fin 8) (s : Fin 512)

theorem affRow_at (x : FVec Ideal S8x512 .bf16) : affRow x g (ix2 0 s) = x (ix2 g s) := by
  have f : ∀ h : Fin 8, h.val = g.val → x (ix2 h s) = x (ix2 g s) := fun h k => by rw [show h = g from Fin.ext k]
  pointwise [affRow]

theorem afS_pay (x : Vec Ideal S128x512 .f32) (d : Fin 128) : k0_pay703 (k0_pay702 (F := Ideal) x) (ix2 s d) = x (ix2 d s) := by
  pointwise [k0_pay703, k0_pay702]

theorem p704_at (x : Vec Ideal S1x8x512 .f32) : k0_pay704 x (ix2 g s) = x (ix3 0 g s) := by
  pointwise [k0_pay704]

/-- Whether a slot of the chunk counts. -/
def okS : BitVec 1 := IntOp.cmpi .slt (IntOp.addi (Scalar.muli a 512#32) (BitVec.ofNat 32 s.val)) v1

theorem p552_at : k0_pay552 (F := Ideal) a v1 (ix2 g s) = okS a v1 s := by
  unfold okS
  pointwise [k0_pay552]

theorem p553_at : k0_pay553 (F := Ideal) a v1 ks (ix2 g s) = (Scalar.select (okS a v1 s) (ks (ix3 0 g s) * ((Alg.SC * Alg.L : ℝ) : EReal) : EReal) (1 : EReal) : EReal) := by
  rw [← p552_at a v1 g s, ← Ideal.ofBits_one_f32]
  pointwise [k0_pay553, k0_pay551]
  rfl

theorem p554_at : k0_pay554 (F := Ideal) a v1 ks (ix2 g s) = (Scalar.select (okS a v1 s) (Ideal.div 1 (k0_pay553 (F := Ideal) a v1 ks (ix2 g s)) : EReal) (0 : EReal) : EReal) := by
  rw [← p552_at a v1 g s, ← Ideal.ofBits_one_f32, ← Ideal.ofBits_zero_f32]
  pointwise [k0_pay554]

theorem p555_at : k0_pay555 (F := Ideal) a v1 ks (ix2 g s) = (Scalar.select (okS a v1 s) (Ideal.log (ks (ix3 0 g s)) * ((Alg.L : ℝ) : EReal) * k0_pay554 (F := Ideal) a v1 ks (ix2 g s) : EReal) (⊥ : EReal) : EReal) := by
  rw [← p552_at a v1 g s]
  pointwise [k0_pay555, k0_pay551]
  rfl

/-- The parts of a slot's offset: the logarithm's, then the row factor's. -/
def prt (lk inv : EReal) : ℕ → EReal
  | 0 => lk | 1 => lk - lk | 2 => lk - lk - (lk - lk)
  | 3 => inv | 4 => inv | 5 => inv
  | 6 => inv - inv | 7 => inv - inv | 8 => inv - inv
  | 9 => inv - inv - (inv - inv) | 10 => inv - inv - (inv - inv) | 11 => inv - inv - (inv - inv)
  | _ => 0

theorem p556_at (y : S8x512.Idx) : k0_pay556 (F := Ideal) a v1 ks y = k0_pay555 (F := Ideal) a v1 ks y := rfl
theorem p557_at (y : S8x512.Idx) : k0_pay557 (F := Ideal) a v1 ks y = (k0_pay555 (F := Ideal) a v1 ks y - k0_pay555 (F := Ideal) a v1 ks y : EReal) := rfl
theorem p558_at (y : S8x512.Idx) : k0_pay558 (F := Ideal) a v1 ks y = (k0_pay555 (F := Ideal) a v1 ks y - k0_pay555 (F := Ideal) a v1 ks y : EReal) := rfl
theorem p559_at (y : S8x512.Idx) : k0_pay559 (F := Ideal) a v1 ks y = (k0_pay557 (F := Ideal) a v1 ks y - k0_pay558 (F := Ideal) a v1 ks y : EReal) := rfl
theorem p560_at (y : S8x512.Idx) : k0_pay560 (F := Ideal) a v1 ks y = k0_pay554 (F := Ideal) a v1 ks y := rfl
theorem p561_at (y : S8x512.Idx) : k0_pay561 (F := Ideal) a v1 ks y = (k0_pay554 (F := Ideal) a v1 ks y - k0_pay554 (F := Ideal) a v1 ks y : EReal) := rfl
theorem p562_at (y : S8x512.Idx) : k0_pay562 (F := Ideal) a v1 ks y = (k0_pay554 (F := Ideal) a v1 ks y - k0_pay554 (F := Ideal) a v1 ks y : EReal) := rfl
theorem p563_at (y : S8x512.Idx) : k0_pay563 (F := Ideal) a v1 ks y = (k0_pay561 (F := Ideal) a v1 ks y - k0_pay562 (F := Ideal) a v1 ks y : EReal) := rfl
theorem p564_at (y : S8x512.Idx) : k0_pay564 (F := Ideal) y = (0 : EReal) := Ideal.ofBits_zero_bf16

theorem affPart_at (r : ℕ) (y : S8x512.Idx) : affPart a v1 ks r y = prt (k0_pay555 (F := Ideal) a v1 ks y) (k0_pay554 (F := Ideal) a v1 ks y) r := by
  match r with
  | 0 => rfl
  | 1 => exact p558_at a v1 ks y
  | 2 => exact (p559_at a v1 ks y).trans (by rw [p557_at, p558_at]; rfl)
  | 3 => rfl
  | 4 => rfl
  | 5 => rfl
  | 6 => exact p562_at a v1 ks y
  | 7 => exact p562_at a v1 ks y
  | 8 => exact p562_at a v1 ks y
  | 9 => exact (p563_at a v1 ks y).trans (by rw [p561_at, p562_at]; rfl)
  | 10 => exact (p563_at a v1 ks y).trans (by rw [p561_at, p562_at]; rfl)
  | 11 => exact (p563_at a v1 ks y).trans (by rw [p561_at, p562_at]; rfl)
  | n + 12 => exact p564_at y

theorem afS_at (h : Fin 8) (r : Fin 16) (k : 16 * h.val + r.val < 128) :
    afS a v1 ks (ix2 s ⟨16 * h.val + r.val, k⟩) = prt (k0_pay555 (F := Ideal) a v1 ks (ix2 h s)) (k0_pay554 (F := Ideal) a v1 ks (ix2 h s)) r.val := by
  unfold afS
  rw [afS_pay]
  have H : ∀ (n : ℕ) (q : Fin 8), n = r.val → q = h → affRow (affPart a v1 ks n) q (ix2 0 s) = prt (k0_pay555 (F := Ideal) a v1 ks (ix2 h s)) (k0_pay554 (F := Ideal) a v1 ks (ix2 h s)) r.val := by
    intro n q hn hq
    rw [hn, hq, affRow_at, affPart_at]
  exact H _ _ (by show (16 * h.val + r.val) % 16 = r.val; omega) (Fin.ext (by show (16 * h.val + r.val) / 16 = h.val; omega))

/-- The weights of the offset's parts. -/
def wgt (nl : EReal) : ℕ → EReal
  | 0 => 1 | 1 => 1 | 2 => 1 | 3 => nl | 6 => nl | 9 => nl
  | 4 => nl - nl | 7 => nl - nl | 10 => nl - nl
  | 5 => nl - nl - (nl - nl) | 8 => nl - nl - (nl - nl) | 11 => nl - nl - (nl - nl)
  | _ => 0

theorem padS_at (nl : EReal) (h : Fin 8) (r : Fin 16) :
    padS nl (nl - nl) (nl - nl - (nl - nl)) g.val (16 * h.val + r.val) = if h = g then wgt nl r.val else 0 := by
  by_cases e : h = g
  · subst e
    rw [if_pos rfl]
    unfold padS
    obtain ⟨r, hr⟩ := r
    interval_cases r <;> simp [wgt]
  · rw [if_neg e]
    have e' : h.val ≠ g.val := fun k => e (Fin.ext k)
    unfold padS
    rw [if_neg (by omega), if_neg (by omega), if_neg (by omega), if_neg (by omega)]

/-- A slot's offset at a column. -/
theorem aff_total (nl : EReal) (F : Fin 128 → EReal) (hF : ∀ d, F d = afS a v1 ks (ix2 s d) * padS nl (nl - nl) (nl - nl - (nl - nl)) g.val d.val) :
    (∑ d, F d) = ∑ r : Fin 16, prt (k0_pay555 (F := Ideal) a v1 ks (ix2 g s)) (k0_pay554 (F := Ideal) a v1 ks (ix2 g s)) r.val * wgt nl r.val := by
  refine Alg.aff_sum (fun r h => prt (k0_pay555 (F := Ideal) a v1 ks (ix2 h s)) (k0_pay554 (F := Ideal) a v1 ks (ix2 h s)) r) F g (wgt nl) fun h r k => ?_
  rw [hF, afS_at, padS_at]

theorem prt_real (lk inv nl : ℝ) : (∑ r : Fin 16, prt (lk : EReal) (inv : EReal) r.val * wgt (nl : EReal) r.val) = ((lk + inv * nl : ℝ) : EReal) := by
  simp [Fin.sum_univ_succ, prt, wgt, Alg.coe_sub_self]

theorem prt_bot (inv : EReal) (nl : EReal) : (∑ r : Fin 16, prt ⊥ inv r.val * wgt nl r.val) = (⊥ : EReal) := by
  rw [Fin.sum_univ_succ]
  simp [prt, wgt]

/-- A counted slot's exponent factor. -/
theorem ctx_ok (nl l k : ℝ) (hn : nl = l * -Alg.L) (hk : 0 < k) (h : okS a v1 s = 1#1) (hks : ks (ix3 0 g s) = ((k : ℝ) : EReal)) (X : EReal) (F : Fin 128 → EReal)
    (hF : ∀ d, F d = afS a v1 ks (ix2 s d) * padS (nl : EReal) (nl - nl) (nl - nl - (nl - nl)) g.val d.val) :
    Ideal.exp2 ((X + ∑ d, F d) * k0_pay553 (F := Ideal) a v1 ks (ix2 g s)) = Ideal.exp ((Alg.SC : EReal) * X * (k : EReal) - (l : EReal)) * (k : EReal) := by
  have hK : 0 < k * (Alg.SC * Alg.L) := mul_pos hk (mul_pos Alg.SC_pos Alg.L_pos)
  have e3 : k0_pay553 (F := Ideal) a v1 ks (ix2 g s) = ((k * (Alg.SC * Alg.L) : ℝ) : EReal) := by
    rw [p553_at, h, hks, ← EReal.coe_mul]; exact if_pos rfl
  have e4 : k0_pay554 (F := Ideal) a v1 ks (ix2 g s) = ((1 / (k * (Alg.SC * Alg.L)) : ℝ) : EReal) := by
    rw [p554_at, h, e3]
    refine (if_pos rfl).trans ?_
    unfold Ideal.div
    rw [if_neg (by exact_mod_cast hK.ne'), one_mul, one_div, EReal.coe_inv]
  have e5 : k0_pay555 (F := Ideal) a v1 ks (ix2 g s) = ((Real.log k * Alg.L * (1 / (k * (Alg.SC * Alg.L))) : ℝ) : EReal) := by
    rw [p555_at, h, e4, hks]
    refine (if_pos rfl).trans ?_
    have el : Ideal.log ((k : ℝ) : EReal) = ((Real.log k : ℝ) : EReal) := if_neg (not_le.mpr hk)
    rw [el, ← EReal.coe_mul, ← EReal.coe_mul]
  rw [aff_total a v1 ks g s _ F hF, e3, e4, e5, prt_real, hn]
  exact Alg.ctx_exp X k l hk

/-- A masked slot's exponent factor is nothing. -/
theorem ctx_masked (nl : EReal) (h : ¬ okS a v1 s = 1#1) (X : EReal) (F : Fin 128 → EReal)
    (hF : ∀ d, F d = afS a v1 ks (ix2 s d) * padS nl (nl - nl) (nl - nl - (nl - nl)) g.val d.val) :
    Ideal.exp2 ((X + ∑ d, F d) * k0_pay553 (F := Ideal) a v1 ks (ix2 g s)) = 0 := by
  have e3 : k0_pay553 (F := Ideal) a v1 ks (ix2 g s) = (1 : EReal) := by
    rw [p553_at]; exact if_neg h
  have e5 : k0_pay555 (F := Ideal) a v1 ks (ix2 g s) = (⊥ : EReal) := by
    rw [p555_at]; exact if_neg h
  rw [aff_total a v1 ks g s _ F hF, e3, e5, prt_bot, EReal.add_bot, mul_one]
  rfl

end Cert.KernelIdeal.Gen

end
-- ==== Proof.KernelIdeal.SPro.lean ====
module

public import proofs.«01_k».proof.Proof.KernelIdeal.RPro2
public import proofs.«01_k».proof.Proof.KernelIdeal.Up
public import Idealize.ShloMosaic.Lib.Tactic

@[expose] public section

set_option maxRecDepth 65536

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-! The preparation run once: what it leaves in the working arrays. -/

/-- The working arrays after the first `n` groups. -/
def St (c : Dev nD) (arg17 : Memref sig .tc .vmem S1x20x16x512 .f32) (arg20 : Memref sig .tc .vmem S8x256x1024 .bf16) (arg21 : Memref sig .tc .vmem S8x128x1024 .fp8e5m2) (arg22 : Memref sig .tc .vmem S8x128x1024 .bf16) (arg23 : Memref sig .tc .vmem S8x128x1024 .f32) (arg24 : Memref sig .tc .vmem S8x1x1024 .f32) (arg25 : Memref sig .tc .vmem S8x1x1024 .f32) (arg28 : Memref sig .tc .vmem S8x32x128 .f32) (arg29 : Memref sig .tc .vmem S8x32x128 .f32) (x3 : Vec Ideal S1x8192x128 .bf16) (x4 : Vec Ideal S1x8192x128 .bf16) (x6 : Vec Ideal S1x4096x128 .bf16) (x7 : Vec Ideal S1x4096x128 .bf16) (x14 : Vec Ideal S1x16x512 .f32) (x15 : Vec Ideal S1x16x512 .f32) (x26 : Vec Ideal S128x2x128 .bf16) (x27 : Vec Ideal S128x2x128 .bf16) (x5 : Vec Ideal S1x8192x128 .fp8e5m2) (n : ℕ) : sProp 𝕄 :=
  iprop(∃ (z17 : Vec Ideal S1x20x16x512 .f32) (z20 : Vec Ideal S8x256x1024 .bf16) (z21 : Vec Ideal S8x128x1024 .fp8e5m2) (z22 : Vec Ideal S8x128x1024 .bf16) (z23 : Vec Ideal S8x128x1024 .f32) (z24 : Vec Ideal S8x1x1024 .f32) (z25 : Vec Ideal S8x1x1024 .f32) (z28 : Vec Ideal S8x32x128 .f32) (z29 : Vec Ideal S8x32x128 .f32), ⌜Upto k8q n z20 (qaugS x3 x15) ∧ Upto k8 n z21 (dotS x5) ∧ Upto k8 n z22 (dotS x5) ∧ Upto k8 n z23 (acc0S x26 x27 x6 x7 x3 x4 x5 x15) ∧ Upto k8r n z24 (dsumS x4 x5) ∧ Upto k8r n z25 (dscS x14)⌝ ∗ owns (c : Thread nD τ) arg17 fullShare z17 ∗ owns (c : Thread nD τ) arg20 fullShare z20 ∗ owns (c : Thread nD τ) arg21 fullShare z21 ∗ owns (c : Thread nD τ) arg22 fullShare z22 ∗ owns (c : Thread nD τ) arg23 fullShare z23 ∗ owns (c : Thread nD τ) arg24 fullShare z24 ∗ owns (c : Thread nD τ) arg25 fullShare z25 ∗ owns (c : Thread nD τ) arg28 fullShare z28 ∗ owns (c : Thread nD τ) arg29 fullShare z29)

set_option maxHeartbeats 1000000 in
/-- One group. -/
theorem grp_step (c : Dev nD) (E : Set ℕ) (K : PUnit.{1} → sProp 𝕄) (arg3 : Memref sig .tc .vmem S1x8192x128 .bf16) (h3 : arg3.IsWhole) (arg4 : Memref sig .tc .vmem S1x8192x128 .bf16) (h4 : arg4.IsWhole) (arg6 : Memref sig .tc .vmem S1x4096x128 .bf16) (h6 : arg6.IsWhole) (arg7 : Memref sig .tc .vmem S1x4096x128 .bf16) (h7 : arg7.IsWhole) (arg14 : Memref sig .tc .vmem S1x16x512 .f32) (h14 : arg14.IsWhole) (arg15 : Memref sig .tc .vmem S1x16x512 .f32) (h15 : arg15.IsWhole) (arg17 : Memref sig .tc .vmem S1x20x16x512 .f32) (h17 : arg17.IsWhole) (arg20 : Memref sig .tc .vmem S8x256x1024 .bf16) (h20 : arg20.IsWhole) (arg21 : Memref sig .tc .vmem S8x128x1024 .fp8e5m2) (h21 : arg21.IsWhole) (arg22 : Memref sig .tc .vmem S8x128x1024 .bf16) (h22 : arg22.IsWhole) (arg23 : Memref sig .tc .vmem S8x128x1024 .f32) (h23 : arg23.IsWhole) (arg24 : Memref sig .tc .vmem S8x1x1024 .f32) (h24 : arg24.IsWhole) (arg25 : Memref sig .tc .vmem S8x1x1024 .f32) (h25 : arg25.IsWhole) (arg26 : Memref sig .tc .vmem S128x2x128 .bf16) (h26 : arg26.IsWhole) (arg27 : Memref sig .tc .vmem S128x2x128 .bf16) (h27 : arg27.IsWhole) (arg28 : Memref sig .tc .vmem S8x32x128 .f32) (h28 : arg28.IsWhole) (arg29 : Memref sig .tc .vmem S8x32x128 .f32) (h29 : arg29.IsWhole) (x3 : Vec Ideal S1x8192x128 .bf16) (x4 : Vec Ideal S1x8192x128 .bf16) (x6 : Vec Ideal S1x4096x128 .bf16) (x7 : Vec Ideal S1x4096x128 .bf16) (x14 : Vec Ideal S1x16x512 .f32) (x15 : Vec Ideal S1x16x512 .f32) (x26 : Vec Ideal S128x2x128 .bf16) (x27 : Vec Ideal S128x2x128 .bf16) (x5 : Vec Ideal S1x8192x128 .fp8e5m2) (g : Fin 8) (jp : PUnit.{1} → PR) :
    iprop((owns (c : Thread nD τ) arg3 fullShare x3 ∗ owns (c : Thread nD τ) arg4 fullShare x4 ∗ owns (c : Thread nD τ) arg6 fullShare x6 ∗ owns (c : Thread nD τ) arg7 fullShare x7 ∗ owns (c : Thread nD τ) arg14 fullShare x14 ∗ owns (c : Thread nD τ) arg15 fullShare x15 ∗ owns (c : Thread nD τ) arg26 fullShare x26 ∗ owns (c : Thread nD τ) arg27 fullShare x27) ∗ St c arg17 arg20 arg21 arg22 arg23 arg24 arg25 arg28 arg29 x3 x4 x6 x7 x14 x15 x26 x27 x5 g.val ∗
      ((owns (c : Thread nD τ) arg3 fullShare x3 ∗ owns (c : Thread nD τ) arg4 fullShare x4 ∗ owns (c : Thread nD τ) arg6 fullShare x6 ∗ owns (c : Thread nD τ) arg7 fullShare x7 ∗ owns (c : Thread nD τ) arg14 fullShare x14 ∗ owns (c : Thread nD τ) arg15 fullShare x15 ∗ owns (c : Thread nD τ) arg26 fullShare x26 ∗ owns (c : Thread nD τ) arg27 fullShare x27) -∗ St c arg17 arg20 arg21 arg22 arg23 arg24 arg25 arg28 arg29 x3 x4 x6 x7 x14 x15 x26 x27 x5 (g.val + 1) -∗ wp frame (wpE (defs₀ (F := Ideal)) Variants.none c none) E (jp ⟨⟩) K))
      ⊢ (wp frame (wpE (defs₀ (F := Ideal)) Variants.none c none) E (grp arg3 h3 arg4 h4 arg6 h6 arg7 h7 arg14 arg15 arg17 arg20 h20 arg21 h21 arg22 h22 arg23 arg24 arg25 arg26 arg27 arg28 arg29 x5 g jp) K : sProp 𝕄) := by
  unfold grp
  iintro ⟨⟨H3, H4, H6, H7, H14, H15, H26, H27⟩, Hs, Hk⟩
  simp only [St]
  icases Hs with ⟨%z17, %z20, %z21, %z22, %z23, %z24, %z25, %z28, %z29, %hz, H17, H20, H21, H22, H23, H24, H25, H28, H29⟩
  obtain ⟨u20, u21, u22, u23, u24, u25⟩ := hz
  iapply grp1_run c E K arg3 h3 arg4 h4 arg14 h14 arg15 h15 arg20 h20 arg21 h21 arg22 h22 arg24 h24 arg25 h25 _ _ _ _ _ _ g _ x3 x4 x14 x15 z20 z21 z22 z24 z25
  isplitl [H3 H4 H14 H15 H20 H21 H22 H24 H25]
  · isplitl [H3]; · iexact H3
    isplitl [H4]; · iexact H4
    isplitl [H14]; · iexact H14
    isplitl [H15]; · iexact H15
    isplitl [H20]; · iexact H20
    isplitl [H21]; · iexact H21
    isplitl [H22]; · iexact H22
    isplitl [H24]; · iexact H24
    iexact H25
  iintro ⟨H3, H4, H14, H15, H20, H21, H22, H24, H25⟩
  iapply grp2_run c E K arg17 h17 arg26 h26 arg27 h27 arg28 h28 arg29 h29 _ _ _ g _ z17 x26 x27 z28 z29
  isplitl [H17 H26 H27 H28 H29]
  · isplitl [H17]; · iexact H17
    isplitl [H26]; · iexact H26
    isplitl [H27]; · iexact H27
    isplitl [H28]; · iexact H28
    iexact H29
  iintro ⟨H17, H26, H27, H28, H29⟩
  iapply grp3_run c E K arg6 h6 arg7 h7 arg23 h23 _ _ g _ x6 x7 z23
  isplitl [H6 H7 H23]
  · isplitl [H6]; · iexact H6
    isplitl [H7]; · iexact H7
    iexact H23
  iintro ⟨H6, H7, H23⟩
  ispecialize Hk $$ [H3 H4 H6 H7 H14 H15 H26 H27]
  · isplitl [H3]; · iexact H3
    isplitl [H4]; · iexact H4
    isplitl [H6]; · iexact H6
    isplitl [H7]; · iexact H7
    isplitl [H14]; · iexact H14
    isplitl [H15]; · iexact H15
    isplitl [H26]; · iexact H26
    iexact H27
  iapply Hk
  iexists _, _, _, _, _, _, _, _, _
  isplitr
  swap
  · isplitl [H17]; · iexact H17
    isplitl [H20]; · iexact H20
    isplitl [H21]; · iexact H21
    isplitl [H22]; · iexact H22
    isplitl [H23]; · iexact H23
    isplitl [H24]; · iexact H24
    isplitl [H25]; · iexact H25
    isplitl [H28]; · iexact H28
    iexact H29
  ipureintro
  refine ⟨slabq_up g _ _ _ _ (fun d l => ?_) (fun d l => ?_) u20, slab_up g _ _ _ (fun d l => ?_) u21, slab_up g _ _ _ (fun d l => ?_) u22, acc_up x26 x27 x6 x7 x3 x4 x5 x15 g _ u23, row_up g _ _ _ (fun l => ?_) u24, row_up g _ _ _ (fun l => ?_) u25⟩
  · refine (p100_apply x3 g d l).trans ?_
    refine Eq.symm (dif_pos (c := d.val < 128) d.isLt)
  · refine (p102_apply g x15 d l).trans ?_
    refine Eq.trans ?_ (dif_neg (show ¬ (128 + d.val < 128) by omega)).symm
    show _ = padS _ _ _ _ (128 + d.val - 128)
    rw [Nat.add_sub_cancel_left]
    rfl
  · exact p80_apply g x5 d l
  · exact p78_apply g x5 d l
  · exact p86_apply x4 x5 g l
  · exact p89_apply x14 g l

/-- The whole array of codes read. -/
theorem codes_run (c : Dev nD) (E : Set ℕ) (K : PUnit.{1} → sProp 𝕄) (arg5 : Memref sig .tc .vmem S1x8192x128 .fp8e5m2) (h5 : arg5.IsWhole) (x5 : Vec Ideal S1x8192x128 .fp8e5m2) (k : Vec Ideal S1x8192x128 .fp8e5m2 → PR) :
    iprop(owns (c : Thread nD τ) arg5 fullShare x5 ∗ (owns (c : Thread nD τ) arg5 fullShare x5 -∗ wp frame (wpE (defs₀ (F := Ideal)) Variants.none c none) E (k x5) K))
      ⊢ (wp frame (wpE (defs₀ (F := Ideal)) Variants.none c none) E (Prog.lift (.load arg5 (Rect.unit (s := S1x8192x128) ![0, 0, 0] S1x8192x128.size inb_S1x8192x128_S1x8192x128_0_0_0).toLoadRect (View.loadsAt_vmem h_S1x8192x128)) >>= fun v => k v) K : sProp 𝕄) := by
  simp only [owns]
  iintro ⟨⟨%f5, %hf5, H5⟩, Hk⟩
  obtain rfl := h5.eq_unread hf5
  sl_exec (disch := fail)
  rw [readAt_codes]
  iapply Hk
  · iexists _; isplitr; · ipureintro; exact h5.read_unread _
    iexact H5

/-- Two groups. -/
theorem pair_step (c : Dev nD) (E : Set ℕ) (K : PUnit.{1} → sProp 𝕄) (arg3 : Memref sig .tc .vmem S1x8192x128 .bf16) (h3 : arg3.IsWhole) (arg4 : Memref sig .tc .vmem S1x8192x128 .bf16) (h4 : arg4.IsWhole) (arg5 : Memref sig .tc .vmem S1x8192x128 .fp8e5m2) (h5 : arg5.IsWhole) (arg6 : Memref sig .tc .vmem S1x4096x128 .bf16) (h6 : arg6.IsWhole) (arg7 : Memref sig .tc .vmem S1x4096x128 .bf16) (h7 : arg7.IsWhole) (arg14 : Memref sig .tc .vmem S1x16x512 .f32) (h14 : arg14.IsWhole) (arg15 : Memref sig .tc .vmem S1x16x512 .f32) (h15 : arg15.IsWhole) (arg17 : Memref sig .tc .vmem S1x20x16x512 .f32) (h17 : arg17.IsWhole) (arg20 : Memref sig .tc .vmem S8x256x1024 .bf16) (h20 : arg20.IsWhole) (arg21 : Memref sig .tc .vmem S8x128x1024 .fp8e5m2) (h21 : arg21.IsWhole) (arg22 : Memref sig .tc .vmem S8x128x1024 .bf16) (h22 : arg22.IsWhole) (arg23 : Memref sig .tc .vmem S8x128x1024 .f32) (h23 : arg23.IsWhole) (arg24 : Memref sig .tc .vmem S8x1x1024 .f32) (h24 : arg24.IsWhole) (arg25 : Memref sig .tc .vmem S8x1x1024 .f32) (h25 : arg25.IsWhole) (arg26 : Memref sig .tc .vmem S128x2x128 .bf16) (h26 : arg26.IsWhole) (arg27 : Memref sig .tc .vmem S128x2x128 .bf16) (h27 : arg27.IsWhole) (arg28 : Memref sig .tc .vmem S8x32x128 .f32) (h28 : arg28.IsWhole) (arg29 : Memref sig .tc .vmem S8x32x128 .f32) (h29 : arg29.IsWhole) (x3 : Vec Ideal S1x8192x128 .bf16) (x4 : Vec Ideal S1x8192x128 .bf16) (x6 : Vec Ideal S1x4096x128 .bf16) (x7 : Vec Ideal S1x4096x128 .bf16) (x14 : Vec Ideal S1x16x512 .f32) (x15 : Vec Ideal S1x16x512 .f32) (x26 : Vec Ideal S128x2x128 .bf16) (x27 : Vec Ideal S128x2x128 .bf16) (x5 : Vec Ideal S1x8192x128 .fp8e5m2) (g0 g1 : Fin 8) (n n' : ℕ) (e0 : g0.val = n) (e1 : g0.val + 1 = g1.val) (e2 : g1.val + 1 = n') (jp : PUnit.{1} → PR) :
    iprop((owns (c : Thread nD τ) arg3 fullShare x3 ∗ owns (c : Thread nD τ) arg4 fullShare x4 ∗ owns (c : Thread nD τ) arg6 fullShare x6 ∗ owns (c : Thread nD τ) arg7 fullShare x7 ∗ owns (c : Thread nD τ) arg14 fullShare x14 ∗ owns (c : Thread nD τ) arg15 fullShare x15 ∗ owns (c : Thread nD τ) arg26 fullShare x26 ∗ owns (c : Thread nD τ) arg27 fullShare x27) ∗ owns (c : Thread nD τ) arg5 fullShare x5 ∗ St c arg17 arg20 arg21 arg22 arg23 arg24 arg25 arg28 arg29 x3 x4 x6 x7 x14 x15 x26 x27 x5 n ∗
      ((owns (c : Thread nD τ) arg3 fullShare x3 ∗ owns (c : Thread nD τ) arg4 fullShare x4 ∗ owns (c : Thread nD τ) arg6 fullShare x6 ∗ owns (c : Thread nD τ) arg7 fullShare x7 ∗ owns (c : Thread nD τ) arg14 fullShare x14 ∗ owns (c : Thread nD τ) arg15 fullShare x15 ∗ owns (c : Thread nD τ) arg26 fullShare x26 ∗ owns (c : Thread nD τ) arg27 fullShare x27) -∗ owns (c : Thread nD τ) arg5 fullShare x5 -∗ St c arg17 arg20 arg21 arg22 arg23 arg24 arg25 arg28 arg29 x3 x4 x6 x7 x14 x15 x26 x27 x5 n' -∗ wp frame (wpE (defs₀ (F := Ideal)) Variants.none c none) E (jp ⟨⟩) K))
      ⊢ (wp frame (wpE (defs₀ (F := Ideal)) Variants.none c none) E (grpPair arg3 h3 arg4 h4 arg5 arg6 h6 arg7 h7 arg14 arg15 arg17 arg20 h20 arg21 h21 arg22 h22 arg23 arg24 arg25 arg26 arg27 arg28 arg29 g0 g1 jp) K : sProp 𝕄) := by
  unfold grpPair
  subst e0 e2
  iintro ⟨HR, H5, Hs, Hk⟩
  iapply codes_run c E K arg5 h5 x5 _
  isplitl [H5]; · iexact H5
  iintro H5
  iapply grp_step c E K arg3 h3 arg4 h4 arg6 h6 arg7 h7 arg14 h14 arg15 h15 arg17 h17 arg20 h20 arg21 h21 arg22 h22 arg23 h23 arg24 h24 arg25 h25 arg26 h26 arg27 h27 arg28 h28 arg29 h29 x3 x4 x6 x7 x14 x15 x26 x27 x5 g0 _
  isplitl [HR]; · iexact HR
  isplitl [Hs]; · iexact Hs
  iintro HR Hs
  rw [e1]
  iapply grp_step c E K arg3 h3 arg4 h4 arg6 h6 arg7 h7 arg14 h14 arg15 h15 arg17 h17 arg20 h20 arg21 h21 arg22 h22 arg23 h23 arg24 h24 arg25 h25 arg26 h26 arg27 h27 arg28 h28 arg29 h29 x3 x4 x6 x7 x14 x15 x26 x27 x5 g1 _
  isplitl [HR]; · iexact HR
  isplitl [Hs]; · iexact Hs
  iintro HR Hs
  iapply Hk $$ HR H5 Hs

/-- The whole preparation. -/
theorem proP_run (c : Dev nD) (E : Set ℕ) (K : PUnit.{1} → sProp 𝕄) (arg3 : Memref sig .tc .vmem S1x8192x128 .bf16) (h3 : arg3.IsWhole) (arg4 : Memref sig .tc .vmem S1x8192x128 .bf16) (h4 : arg4.IsWhole) (arg5 : Memref sig .tc .vmem S1x8192x128 .fp8e5m2) (h5 : arg5.IsWhole) (arg6 : Memref sig .tc .vmem S1x4096x128 .bf16) (h6 : arg6.IsWhole) (arg7 : Memref sig .tc .vmem S1x4096x128 .bf16) (h7 : arg7.IsWhole) (arg14 : Memref sig .tc .vmem S1x16x512 .f32) (h14 : arg14.IsWhole) (arg15 : Memref sig .tc .vmem S1x16x512 .f32) (h15 : arg15.IsWhole) (arg17 : Memref sig .tc .vmem S1x20x16x512 .f32) (h17 : arg17.IsWhole) (arg20 : Memref sig .tc .vmem S8x256x1024 .bf16) (h20 : arg20.IsWhole) (arg21 : Memref sig .tc .vmem S8x128x1024 .fp8e5m2) (h21 : arg21.IsWhole) (arg22 : Memref sig .tc .vmem S8x128x1024 .bf16) (h22 : arg22.IsWhole) (arg23 : Memref sig .tc .vmem S8x128x1024 .f32) (h23 : arg23.IsWhole) (arg24 : Memref sig .tc .vmem S8x1x1024 .f32) (h24 : arg24.IsWhole) (arg25 : Memref sig .tc .vmem S8x1x1024 .f32) (h25 : arg25.IsWhole) (arg26 : Memref sig .tc .vmem S128x2x128 .bf16) (h26 : arg26.IsWhole) (arg27 : Memref sig .tc .vmem S128x2x128 .bf16) (h27 : arg27.IsWhole) (arg28 : Memref sig .tc .vmem S8x32x128 .f32) (h28 : arg28.IsWhole) (arg29 : Memref sig .tc .vmem S8x32x128 .f32) (h29 : arg29.IsWhole) (x3 : Vec Ideal S1x8192x128 .bf16) (x4 : Vec Ideal S1x8192x128 .bf16) (x6 : Vec Ideal S1x4096x128 .bf16) (x7 : Vec Ideal S1x4096x128 .bf16) (x14 : Vec Ideal S1x16x512 .f32) (x15 : Vec Ideal S1x16x512 .f32) (x26 : Vec Ideal S128x2x128 .bf16) (x27 : Vec Ideal S128x2x128 .bf16) (x5 : Vec Ideal S1x8192x128 .fp8e5m2) (jp : PUnit.{1} → PR) :
    iprop((owns (c : Thread nD τ) arg3 fullShare x3 ∗ owns (c : Thread nD τ) arg4 fullShare x4 ∗ owns (c : Thread nD τ) arg6 fullShare x6 ∗ owns (c : Thread nD τ) arg7 fullShare x7 ∗ owns (c : Thread nD τ) arg14 fullShare x14 ∗ owns (c : Thread nD τ) arg15 fullShare x15 ∗ owns (c : Thread nD τ) arg26 fullShare x26 ∗ owns (c : Thread nD τ) arg27 fullShare x27) ∗ owns (c : Thread nD τ) arg5 fullShare x5 ∗ St c arg17 arg20 arg21 arg22 arg23 arg24 arg25 arg28 arg29 x3 x4 x6 x7 x14 x15 x26 x27 x5 0 ∗
      ((owns (c : Thread nD τ) arg3 fullShare x3 ∗ owns (c : Thread nD τ) arg4 fullShare x4 ∗ owns (c : Thread nD τ) arg6 fullShare x6 ∗ owns (c : Thread nD τ) arg7 fullShare x7 ∗ owns (c : Thread nD τ) arg14 fullShare x14 ∗ owns (c : Thread nD τ) arg15 fullShare x15 ∗ owns (c : Thread nD τ) arg26 fullShare x26 ∗ owns (c : Thread nD τ) arg27 fullShare x27) -∗ owns (c : Thread nD τ) arg5 fullShare x5 -∗ St c arg17 arg20 arg21 arg22 arg23 arg24 arg25 arg28 arg29 x3 x4 x6 x7 x14 x15 x26 x27 x5 8 -∗ wp frame (wpE (defs₀ (F := Ideal)) Variants.none c none) E (jp ⟨⟩) K))
      ⊢ (wp frame (wpE (defs₀ (F := Ideal)) Variants.none c none) E (proP arg3 h3 arg4 h4 arg5 arg6 h6 arg7 h7 arg14 arg15 arg17 arg20 h20 arg21 h21 arg22 h22 arg23 arg24 arg25 arg26 arg27 arg28 arg29 jp) K : sProp 𝕄) := by
  unfold proP
  iintro ⟨HR, H5, Hs, Hk⟩
  iapply pair_step c E K arg3 h3 arg4 h4 arg5 h5 arg6 h6 arg7 h7 arg14 h14 arg15 h15 arg17 h17 arg20 h20 arg21 h21 arg22 h22 arg23 h23 arg24 h24 arg25 h25 arg26 h26 arg27 h27 arg28 h28 arg29 h29 x3 x4 x6 x7 x14 x15 x26 x27 x5 0 1 0 2 rfl rfl rfl
  isplitl [HR]; · iexact HR
  isplitl [H5]; · iexact H5
  isplitl [Hs]; · iexact Hs
  iintro HR H5 Hs
  iapply pair_step c E K arg3 h3 arg4 h4 arg5 h5 arg6 h6 arg7 h7 arg14 h14 arg15 h15 arg17 h17 arg20 h20 arg21 h21 arg22 h22 arg23 h23 arg24 h24 arg25 h25 arg26 h26 arg27 h27 arg28 h28 arg29 h29 x3 x4 x6 x7 x14 x15 x26 x27 x5 2 3 2 4 rfl rfl rfl
  isplitl [HR]; · iexact HR
  isplitl [H5]; · iexact H5
  isplitl [Hs]; · iexact Hs
  iintro HR H5 Hs
  iapply pair_step c E K arg3 h3 arg4 h4 arg5 h5 arg6 h6 arg7 h7 arg14 h14 arg15 h15 arg17 h17 arg20 h20 arg21 h21 arg22 h22 arg23 h23 arg24 h24 arg25 h25 arg26 h26 arg27 h27 arg28 h28 arg29 h29 x3 x4 x6 x7 x14 x15 x26 x27 x5 4 5 4 6 rfl rfl rfl
  isplitl [HR]; · iexact HR
  isplitl [H5]; · iexact H5
  isplitl [Hs]; · iexact Hs
  iintro HR H5 Hs
  iapply pair_step c E K arg3 h3 arg4 h4 arg5 h5 arg6 h6 arg7 h7 arg14 h14 arg15 h15 arg17 h17 arg20 h20 arg21 h21 arg22 h22 arg23 h23 arg24 h24 arg25 h25 arg26 h26 arg27 h27 arg28 h28 arg29 h29 x3 x4 x6 x7 x14 x15 x26 x27 x5 6 7 6 8 rfl rfl rfl
  isplitl [HR]; · iexact HR
  isplitl [H5]; · iexact H5
  isplitl [Hs]; · iexact Hs
  iintro HR H5 Hs
  iapply Hk $$ HR H5 Hs

end Cert.KernelIdeal.Gen

end
-- ==== Proof.KernelIdeal.UEpi.lean ====
module

public import proofs.«01_k».proof.Proof.KernelIdeal.RAff
public import proofs.«01_k».proof.Proof.KernelIdeal.SPro
public import Idealize.ShloMosaic.Lib.Pointwise
public import Idealize.ShloMosaic.Lib.Tactic

@[expose] public section

set_option maxRecDepth 65536

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-! The write-out of the result, group by group. -/

theorem pk_qrows (g : Fin 8) (r : Fin 2) : Rect.PackedRows (s := S1x4096x2x128) (EltTy.packing .bf16) ⟨(⟨![0, g.val + 8 * r.val, 0, 0], S1x256x2x128.size, ![1, 16, 1, 1], inb_qrows g r⟩ : LoadRect S1x4096x2x128), spos_1_16_1_1⟩ := by
  revert g r; decide

/-- One group written out. -/
def epiU (arg16 : Memref sig .tc .vmem S1x8192x128 .bf16) (h16 : arg16.IsWhole) (arg23 : Memref sig .tc .vmem S8x128x1024 .f32) (arg25 : Memref sig .tc .vmem S8x1x1024 .f32) (g : Fin 8) (jp : PUnit.{1} → PR) : PR := do
  let a : Vec Ideal S1x128x1024 .f32 ← Prog.lift (.load arg23 (Rect.unit (s := S8x128x1024) ![g.val, 0, 0] S1x128x1024.size (inb_slab g)).toLoadRect (View.loadsAt_vmem h_S1x128x1024))
  let b : Vec Ideal S1x1x1024 .f32 ← Prog.lift (.load arg25 (Rect.unit (s := S8x1x1024) ![g.val, 0, 0] S1x1x1024.size (inb_row g)).toLoadRect (View.loadsAt_vmem h_S1x1x1024))
  let _ ← Prog.lift (.load (arg16.reshape S1x4096x2x128 reshapes_S1x8192x128_S1x4096x2x128.1 reshapes_S1x8192x128_S1x4096x2x128.2 h16.contiguous) (⟨![0, g.val + 8 * (0 : Fin 2).val, 0, 0], S1x256x2x128.size, ![1, 16, 1, 1], inb_qrows g 0⟩ : LoadRect S1x4096x2x128) (View.loadsAt_vmem h_S1x256x2x128))
  Prog.lift (.store (arg16.reshape S1x4096x2x128 reshapes_S1x8192x128_S1x4096x2x128.1 reshapes_S1x8192x128_S1x4096x2x128.2 h16.contiguous) ⟨(⟨![0, g.val + 8 * (0 : Fin 2).val, 0, 0], S1x256x2x128.size, ![1, 16, 1, 1], inb_qrows g 0⟩ : LoadRect S1x4096x2x128), spos_1_16_1_1⟩ (k0_pay854 a b) Finset.univ (View.stores_vmem h_S1x256x2x128 (h16.storeExact_pairs rfl _ rowgroups_S1x4096x2x128_S1x8192x128 (pk_qrows g 0)) (fun _ => rfl)) (.inl rfl))
  let _ ← Prog.lift (.load (arg16.reshape S1x4096x2x128 reshapes_S1x8192x128_S1x4096x2x128.1 reshapes_S1x8192x128_S1x4096x2x128.2 h16.contiguous) (⟨![0, g.val + 8 * (1 : Fin 2).val, 0, 0], S1x256x2x128.size, ![1, 16, 1, 1], inb_qrows g 1⟩ : LoadRect S1x4096x2x128) (View.loadsAt_vmem h_S1x256x2x128))
  Prog.lift (.store (arg16.reshape S1x4096x2x128 reshapes_S1x8192x128_S1x4096x2x128.1 reshapes_S1x8192x128_S1x4096x2x128.2 h16.contiguous) ⟨(⟨![0, g.val + 8 * (1 : Fin 2).val, 0, 0], S1x256x2x128.size, ![1, 16, 1, 1], inb_qrows g 1⟩ : LoadRect S1x4096x2x128), spos_1_16_1_1⟩ (k0_pay855 (k0_pay851 a b) (k0_pay853 a b)) Finset.univ (View.stores_vmem h_S1x256x2x128 (h16.storeExact_pairs rfl _ rowgroups_S1x4096x2x128_S1x8192x128 (pk_qrows g 1)) (fun _ => rfl)) (.inl rfl))
  jp ⟨⟩

/-- The whole write-out. -/
def epiP (arg16 : Memref sig .tc .vmem S1x8192x128 .bf16) (h16 : arg16.IsWhole) (arg23 : Memref sig .tc .vmem S8x128x1024 .f32) (arg25 : Memref sig .tc .vmem S8x1x1024 .f32) (jp : PUnit.{1} → PR) : PR :=
  epiU arg16 h16 arg23 arg25 0 fun _ => epiU arg16 h16 arg23 arg25 1 fun _ => epiU arg16 h16 arg23 arg25 2 fun _ => epiU arg16 h16 arg23 arg25 3 fun _ => epiU arg16 h16 arg23 arg25 4 fun _ => epiU arg16 h16 arg23 arg25 5 fun _ => epiU arg16 h16 arg23 arg25 6 fun _ => epiU arg16 h16 arg23 arg25 7 jp

section
variable (i : grid0.Coords) (arg2 : Memref sig .tc .smem S2 .i32) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x8192x128 .fp8e5m2) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S160x128 .bf16) (harg8 : arg8.IsWhole) (arg9 : Memref sig .tc .vmem S160x128 .bf16) (harg9 : arg9.IsWhole) (arg10 : Memref sig .tc .vmem S1x4096x128 .fp8e4m3) (harg10 : arg10.IsWhole) (arg11 : Memref sig .tc .vmem S1x4096x128 .fp8e4m3) (harg11 : arg11.IsWhole) (arg12 : Memref sig .tc .vmem S1x8x512 .f32) (harg12 : arg12.IsWhole) (arg13 : Memref sig .tc .vmem S1x8x512 .f32) (harg13 : arg13.IsWhole) (arg14 : Memref sig .tc .vmem S1x16x512 .f32) (harg14 : arg14.IsWhole) (arg15 : Memref sig .tc .vmem S1x16x512 .f32) (harg15 : arg15.IsWhole) (arg16 : Memref sig .tc .vmem S1x8192x128 .bf16) (harg16 : arg16.IsWhole) (arg17 : Memref sig .tc .vmem S1x20x16x512 .f32) (harg17 : arg17.IsWhole) (arg18 : Memref sig .tc .vmem S160x128 .bf16) (harg18 : arg18.IsWhole) (arg19 : Memref sig .tc .vmem S160x128 .bf16) (harg19 : arg19.IsWhole) (arg20 : Memref sig .tc .vmem S8x256x1024 .bf16) (harg20 : arg20.IsWhole) (arg21 : Memref sig .tc .vmem S8x128x1024 .fp8e5m2) (harg21 : arg21.IsWhole) (arg22 : Memref sig .tc .vmem S8x128x1024 .bf16) (harg22 : arg22.IsWhole) (arg23 : Memref sig .tc .vmem S8x128x1024 .f32) (harg23 : arg23.IsWhole) (arg24 : Memref sig .tc .vmem S8x1x1024 .f32) (harg24 : arg24.IsWhole) (arg25 : Memref sig .tc .vmem S8x1x1024 .f32) (harg25 : arg25.IsWhole) (arg26 : Memref sig .tc .vmem S128x2x128 .bf16) (harg26 : arg26.IsWhole) (arg27 : Memref sig .tc .vmem S128x2x128 .bf16) (harg27 : arg27.IsWhole) (arg28 : Memref sig .tc .vmem S8x32x128 .f32) (harg28 : arg28.IsWhole) (arg29 : Memref sig .tc .vmem S8x32x128 .f32) (harg29 : arg29.IsWhole) (arg30 : Memref sig .tc .vmem S512x128 .bf16) (harg30 : arg30.IsWhole) (arg31 : Memref sig .tc .vmem S128x512 .f32) (harg31 : arg31.IsWhole) (arg32 : Memref sig .tc .vmem S256x128 .f32) (harg32 : arg32.IsWhole)

set_option maxHeartbeats 4000000 in
/-- The write-out is the group-by-group program. -/
theorem epiB_eq (jp : PUnit.{1} → PR) :
    epiB (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 jp = epiP arg16 harg16 arg23 arg25 jp := by
  unfold epiB
  simp (maxSteps := 20000000) only [k0_part139_eq_skeleton, k0_part139_skel, k0_part140_eq_skeleton, k0_part140_skel, k0_part141_eq_skeleton, k0_part141_skel, k0_part142_eq_skeleton, k0_part142_skel, k0_part143_eq_skeleton, k0_part143_skel, k0_part144_eq_skeleton, k0_part144_skel, k0_part145_eq_skeleton, k0_part145_skel, k0_part146_eq_skeleton, k0_part146_skel, bind_assoc, pure_bind]
  simp (maxSteps := 20000000) only [epiP, epiU, bind_assoc, pure_bind]
  rfl
end

/-- An array with a group's rows of one parity put in. -/
def putE (g : Fin 8) (r : Fin 2) (w : Vec Ideal S1x256x2x128 .bf16) (x : Vec Ideal S1x8192x128 .bf16) : Vec Ideal S1x8192x128 .bf16 := fun y =>
  if (y 1).val % 32 / 2 = g.val + 8 * r.val then w (ix4 0 ⟨(y 1).val / 32, by have : (y 1).val < 8192 := (y 1).isLt; omega⟩ ⟨(y 1).val % 2, by omega⟩ (y 2)) else x y

theorem read_rows {sig' : RefSig} {κ' : Kind} {sp' : Space} {e : EltTy} {Val : EltTy → Type} (v : View sig' κ' sp' S1x4096x2x128 e) (f : v.ty.Contents Val) (g : Fin 8) (r : Fin 2) (w : S1x256x2x128.Idx → Val e) (i : Fin 4096) (t : Fin 2) (d : Fin 128) :
    v.read Val (v.writes Val f [(⟨(⟨(⟨![0, g.val + 8 * r.val, 0, 0], S1x256x2x128.size, ![1, 16, 1, 1], inb_qrows g r⟩ : LoadRect S1x4096x2x128), spos_1_16_1_1⟩ : Rect S1x4096x2x128), w⟩ : View.Piece Val S1x4096x2x128 e)]) (ix4 0 i t d) = if i.val % 16 = g.val + 8 * r.val then w (ix4 0 ⟨i.val / 16, by omega⟩ t d) else v.read Val f (ix4 0 i t d) := by
  by_cases hh : i.val % 16 = g.val + 8 * r.val
  · rw [if_pos hh]
    refine View.read_writes_cons_hit_of_coords v f (⟨(⟨![0, g.val + 8 * r.val, 0, 0], S1x256x2x128.size, ![1, 16, 1, 1], inb_qrows g r⟩ : LoadRect S1x4096x2x128), spos_1_16_1_1⟩ : Rect S1x4096x2x128) w [] (ix4 0 ⟨i.val / 16, by omega⟩ t d) _ ?_
    intro a
    match a with
    | 0 => rfl
    | 1 => show i.val = (g.val + 8 * r.val) + 16 * (i.val / 16); omega
    | 2 => show t.val = 0 + 1 * t.val; omega
    | 3 => show d.val = 0 + 1 * d.val; omega
  · rw [if_neg hh, View.read_writes_cons_miss]
    · rw [View.writes_nil]
    · intro hm
      obtain ⟨j, hj, e⟩ := ((LoadRect.mem_set _).1 hm) 1
      change i.val = (g.val + 8 * r.val) + 16 * j at e
      omega

theorem read_putE (m : Memref sig .tc .vmem S1x8192x128 .bf16) (h : m.IsWhole) (f : m.view.ty.Contents (Elt Ideal)) (g : Fin 8) (r : Fin 2) (w : Vec Ideal S1x256x2x128 .bf16) :
    m.view.read (Elt Ideal) ((m.reshape S1x4096x2x128 reshapes_S1x8192x128_S1x4096x2x128.1 reshapes_S1x8192x128_S1x4096x2x128.2 h.contiguous).view.writes (Elt Ideal) f [⟨⟨(⟨![0, g.val + 8 * r.val, 0, 0], S1x256x2x128.size, ![1, 16, 1, 1], inb_qrows g r⟩ : LoadRect S1x4096x2x128), spos_1_16_1_1⟩, w⟩]) = putE g r w (m.view.read (Elt Ideal) f) := by
  refine funext (all_ix3 fun a b d => ?_)
  obtain rfl : a = 0 := Subsingleton.elim _ _
  have hb : b.val < 8192 := b.isLt
  have key : ∀ f' : m.view.ty.Contents (Elt Ideal), m.view.read (Elt Ideal) f' (ix3 0 b d) = (m.reshape S1x4096x2x128 reshapes_S1x8192x128_S1x4096x2x128.1 reshapes_S1x8192x128_S1x4096x2x128.2 h.contiguous).view.read (Elt Ideal) f' (ix4 0 ⟨b.val / 2, by omega⟩ ⟨b.val % 2, by omega⟩ d) := by
    intro f'
    show _ = m.view.read (Elt Ideal) f' (Shape.reshapeEquiv _ _)
    apply congrArg
    symm
    refine Shape.reshapeEquiv_eq_of_vals _ _ _ _ _ (rowMajor_val3 _ (8192 * 0 + 8192 * 128) 128 rfl rfl) (rowMajor_val4 _ (4096 * 256) 256 128 rfl rfl rfl) ?_
    show 0 * _ + b.val * 128 + d.val = 0 * _ + (b.val / 2) * 256 + (b.val % 2) * 128 + d.val
    omega
  have e1 : b.val / 2 % 16 = b.val % 32 / 2 := by omega
  have k1 := read_rows (m.reshape S1x4096x2x128 reshapes_S1x8192x128_S1x4096x2x128.1 reshapes_S1x8192x128_S1x4096x2x128.2 h.contiguous).view f g r w ⟨b.val / 2, by omega⟩ ⟨b.val % 2, by omega⟩ d
  rw [← key f] at k1
  refine (key _).trans (k1.trans ?_)
  show (if b.val / 2 % 16 = g.val + 8 * r.val then w (ix4 0 ⟨b.val / 2 / 16, _⟩ ⟨b.val % 2, _⟩ d) else _) = if b.val % 32 / 2 = g.val + 8 * r.val then w (ix4 0 ⟨b.val / 32, _⟩ ⟨b.val % 2, _⟩ d) else _
  rw [e1]
  split_ifs
  · congr 2
    exact Fin.ext (by show b.val / 2 / 16 = b.val / 32; omega)
  · rfl

theorem epi0_apply (a : Vec Ideal S1x128x1024 .f32) (b : Vec Ideal S1x1x1024 .f32) (i : Fin 256) (t : Fin 2) (d : Fin 128) (l : Fin 1024) (hl : l.val = 256 * ((2 * i.val + 0) / 128) + 128 * t.val + (2 * i.val + 0) % 128) :
    k0_pay854 a b (ix4 0 i t d) = (a (ix3 0 d l) * (b (ix3 0 0 l) * (Named.named κ "scale" 0x3DB504F3#32 : Ideal .f32)) : EReal) := by
  have e : ∀ l' : Fin 1024, l'.val = l.val → (a (ix3 0 d l') * (b (ix3 0 0 l') * (Named.named κ "scale" 0x3DB504F3#32 : Ideal .f32)) : EReal) = (a (ix3 0 d l) * (b (ix3 0 0 l) * (Named.named κ "scale" 0x3DB504F3#32 : Ideal .f32)) : EReal) := by
    intro l' h
    obtain rfl := Fin.ext h
    rfl
  pointwise [k0_pay854, k0_pay855, k0_pay853, k0_pay851, k0_pay852, k0_pay850, k0_pay849]
  split_ifs <;> exact e _ (by simp only []; omega)

theorem epi1_apply (a : Vec Ideal S1x128x1024 .f32) (b : Vec Ideal S1x1x1024 .f32) (i : Fin 256) (t : Fin 2) (d : Fin 128) (l : Fin 1024) (hl : l.val = 256 * ((2 * i.val + 1) / 128) + 128 * t.val + (2 * i.val + 1) % 128) :
    k0_pay855 (k0_pay851 a b) (k0_pay853 a b) (ix4 0 i t d) = (a (ix3 0 d l) * (b (ix3 0 0 l) * (Named.named κ "scale" 0x3DB504F3#32 : Ideal .f32)) : EReal) := by
  have e : ∀ l' : Fin 1024, l'.val = l.val → (a (ix3 0 d l') * (b (ix3 0 0 l') * (Named.named κ "scale" 0x3DB504F3#32 : Ideal .f32)) : EReal) = (a (ix3 0 d l) * (b (ix3 0 0 l) * (Named.named κ "scale" 0x3DB504F3#32 : Ideal .f32)) : EReal) := by
    intro l' h
    obtain rfl := Fin.ext h
    rfl
  pointwise [k0_pay854, k0_pay855, k0_pay853, k0_pay851, k0_pay852, k0_pay850, k0_pay849]
  split_ifs <;> exact e _ (by simp only []; omega)

end Cert.KernelIdeal.Gen

end
-- ==== Proof.KernelIdeal.REpi.lean ====
module

public import proofs.«01_k».proof.Proof.KernelIdeal.UEpi
public import Idealize.ShloMosaic.Lib.Tactic
public import Idealize.ShloMosaic.Lib.Pointwise

@[expose] public section

set_option maxRecDepth 65536

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-! The write-out and the initialisation run once. -/

/-- A group's rows of one parity stored. -/
theorem stE_run (c : Dev nD) (E : Set ℕ) (K : PUnit.{1} → sProp 𝕄) (arg16 : Memref sig .tc .vmem S1x8192x128 .bf16) (h16 : arg16.IsWhole) (x16 : Vec Ideal S1x8192x128 .bf16) (g : Fin 8) (r : Fin 2) (w : Vec Ideal S1x256x2x128 .bf16) (jp : PR) :
    iprop(owns (c : Thread nD τ) arg16 fullShare x16 ∗ (owns (c : Thread nD τ) arg16 fullShare (putE g r w x16) -∗ wp frame (wpE (defs₀ (F := Ideal)) Variants.none c none) E jp K))
      ⊢ (wp frame (wpE (defs₀ (F := Ideal)) Variants.none c none) E (do
      let _ ← Prog.lift (.load (arg16.reshape S1x4096x2x128 reshapes_S1x8192x128_S1x4096x2x128.1 reshapes_S1x8192x128_S1x4096x2x128.2 h16.contiguous) (⟨![0, g.val + 8 * r.val, 0, 0], S1x256x2x128.size, ![1, 16, 1, 1], inb_qrows g r⟩ : LoadRect S1x4096x2x128) (View.loadsAt_vmem h_S1x256x2x128))
      Prog.lift (.store (arg16.reshape S1x4096x2x128 reshapes_S1x8192x128_S1x4096x2x128.1 reshapes_S1x8192x128_S1x4096x2x128.2 h16.contiguous) ⟨(⟨![0, g.val + 8 * r.val, 0, 0], S1x256x2x128.size, ![1, 16, 1, 1], inb_qrows g r⟩ : LoadRect S1x4096x2x128), spos_1_16_1_1⟩ w Finset.univ (View.stores_vmem h_S1x256x2x128 (h16.storeExact_pairs rfl _ rowgroups_S1x4096x2x128_S1x8192x128 (pk_qrows g r)) (fun _ => rfl)) (.inl rfl))
      jp) K : sProp 𝕄) := by
  simp only [owns]
  iintro ⟨⟨%f16, %hf16, H16⟩, Hk⟩
  obtain rfl := h16.eq_unread hf16
  sl_exec (disch := fail)
  iapply Hk
  iexists _; isplitr
  swap; · iexact H16
  ipureintro
  refine (read_putE arg16 h16 (h16.unread x16) g r w).trans ?_
  rw [h16.read_unread]

theorem ldSl_run (c : Dev nD) (E : Set ℕ) (K : PUnit.{1} → sProp 𝕄) (arg23 : Memref sig .tc .vmem S8x128x1024 .f32) (h23 : arg23.IsWhole) (x23 : Vec Ideal S8x128x1024 .f32) (g : Fin 8) (k : Vec Ideal S1x128x1024 .f32 → PR) :
    iprop(owns (c : Thread nD τ) arg23 fullShare x23 ∗ (owns (c : Thread nD τ) arg23 fullShare x23 -∗ wp frame (wpE (defs₀ (F := Ideal)) Variants.none c none) E (k (View.ld x23 (Rect.unit (s := S8x128x1024) ![g.val, 0, 0] S1x128x1024.size (inb_slab g)))) K))
      ⊢ (wp frame (wpE (defs₀ (F := Ideal)) Variants.none c none) E (Prog.lift (.load arg23 (Rect.unit (s := S8x128x1024) ![g.val, 0, 0] S1x128x1024.size (inb_slab g)).toLoadRect (View.loadsAt_vmem h_S1x128x1024)) >>= fun v => k v) K : sProp 𝕄) := by
  simp only [owns]
  iintro ⟨⟨%f23, %hf23, H23⟩, Hk⟩
  obtain rfl := h23.eq_unread hf23
  sl_exec (disch := fail)
  simp only [View.readAt_eq_ld, h23.read_unread]
  iapply Hk
  iexists _; isplitr; · ipureintro; exact h23.read_unread _
  iexact H23

theorem ldRw_run (c : Dev nD) (E : Set ℕ) (K : PUnit.{1} → sProp 𝕄) (arg25 : Memref sig .tc .vmem S8x1x1024 .f32) (h25 : arg25.IsWhole) (x25 : Vec Ideal S8x1x1024 .f32) (g : Fin 8) (k : Vec Ideal S1x1x1024 .f32 → PR) :
    iprop(owns (c : Thread nD τ) arg25 fullShare x25 ∗ (owns (c : Thread nD τ) arg25 fullShare x25 -∗ wp frame (wpE (defs₀ (F := Ideal)) Variants.none c none) E (k (View.ld x25 (Rect.unit (s := S8x1x1024) ![g.val, 0, 0] S1x1x1024.size (inb_row g)))) K))
      ⊢ (wp frame (wpE (defs₀ (F := Ideal)) Variants.none c none) E (Prog.lift (.load arg25 (Rect.unit (s := S8x1x1024) ![g.val, 0, 0] S1x1x1024.size (inb_row g)).toLoadRect (View.loadsAt_vmem h_S1x1x1024)) >>= fun v => k v) K : sProp 𝕄) := by
  simp only [owns]
  iintro ⟨⟨%f25, %hf25, H25⟩, Hk⟩
  obtain rfl := h25.eq_unread hf25
  sl_exec (disch := fail)
  simp only [View.readAt_eq_ld, h25.read_unread]
  iapply Hk
  iexists _; isplitr; · ipureintro; exact h25.read_unread _
  iexact H25

/-- The column of a query and a head within its group. -/
def colI (b : Fin 8192) : Fin 1024 := ⟨256 * (b.val / 16 / 128) + 128 * (b.val % 2) + b.val / 16 % 128, (by omega : ∀ h1 : b.val / 16 / 128 < 4, 256 * (b.val / 16 / 128) + 128 * (b.val % 2) + b.val / 16 % 128 < 1024) (by omega)⟩
def grpI (b : Fin 8192) : Fin 8 := ⟨b.val % 16 / 2, by omega⟩

/-- The result tile: the accumulator scaled, a row per query and head. -/
def dqS (acc : Vec Ideal S8x128x1024 .f32) (sc : Vec Ideal S8x1x1024 .f32) : Vec Ideal S1x8192x128 .bf16 := fun y =>
  (acc (ix3 (grpI (y 1)) (y 2) (colI (y 1))) * (sc (ix3 (grpI (y 1)) 0 (colI (y 1))) * (Named.named κ "scale" 0x3DB504F3#32 : Ideal .f32)) : EReal)

theorem putE_at (g : Fin 8) (r : Fin 2) (w : Vec Ideal S1x256x2x128 .bf16) (x : Vec Ideal S1x8192x128 .bf16) (b : Fin 8192) (d : Fin 128) :
    putE g r w x (ix3 0 b d) = if b.val % 32 / 2 = g.val + 8 * r.val then w (ix4 0 (⟨b.val / 32, by omega⟩ : Fin 256) (⟨b.val % 2, by omega⟩ : Fin 2) d) else x (ix3 0 b d) := rfl
theorem dqS_at (acc : Vec Ideal S8x128x1024 .f32) (sc : Vec Ideal S8x1x1024 .f32) (b : Fin 8192) (d : Fin 128) :
    dqS acc sc (ix3 0 b d) = (acc (ix3 (grpI b) d (colI b)) * (sc (ix3 (grpI b) 0 (colI b)) * (Named.named κ "scale" 0x3DB504F3#32 : Ideal .f32)) : EReal) := rfl

theorem epi_up (acc : Vec Ideal S8x128x1024 .f32) (sc : Vec Ideal S8x1x1024 .f32) (g : Fin 8) (x : Vec Ideal S1x8192x128 .bf16) (hx : Upto (fun y : S1x8192x128.Idx => (y 1).val % 16 / 2) g.val x (dqS acc sc)) :
    Upto (fun y : S1x8192x128.Idx => (y 1).val % 16 / 2) (g.val + 1) (putE g 1 (k0_pay855 (k0_pay851 (View.ld acc (Rect.unit (s := S8x128x1024) ![g.val, 0, 0] S1x128x1024.size (inb_slab g))) (View.ld sc (Rect.unit (s := S8x1x1024) ![g.val, 0, 0] S1x1x1024.size (inb_row g)))) (k0_pay853 (View.ld acc (Rect.unit (s := S8x128x1024) ![g.val, 0, 0] S1x128x1024.size (inb_slab g))) (View.ld sc (Rect.unit (s := S8x1x1024) ![g.val, 0, 0] S1x1x1024.size (inb_row g)))))
      (putE g 0 (k0_pay854 (View.ld acc (Rect.unit (s := S8x128x1024) ![g.val, 0, 0] S1x128x1024.size (inb_slab g))) (View.ld sc (Rect.unit (s := S8x1x1024) ![g.val, 0, 0] S1x1x1024.size (inb_row g)))) x)) (dqS acc sc) := by
  have ha : ∀ d l, View.ld acc (Rect.unit (s := S8x128x1024) ![g.val, 0, 0] S1x128x1024.size (inb_slab g)) (ix3 0 d l) = acc (ix3 g d l) := by
    intro d l
    show acc _ = acc _
    congr 1
    funext j
    apply Fin.ext
    match j with
    | 0 => show g.val + 1 * 0 = g.val; omega
    | 1 => show 0 + 1 * d.val = d.val; omega
    | 2 => show 0 + 1 * l.val = l.val; omega
  have hs : ∀ l, View.ld sc (Rect.unit (s := S8x1x1024) ![g.val, 0, 0] S1x1x1024.size (inb_row g)) (ix3 0 0 l) = sc (ix3 g 0 l) := by
    intro l
    show sc _ = sc _
    congr 1
    funext j
    apply Fin.ext
    match j with
    | 0 => show g.val + 1 * 0 = g.val; omega
    | 1 => rfl
    | 2 => show 0 + 1 * l.val = l.val; omega
  refine all_ix3 fun a b d hy => ?_
  obtain rfl : a = 0 := Subsingleton.elim _ _
  change b.val % 16 / 2 < g.val + 1 at hy
  rw [putE_at, putE_at, dqS_at]
  have r1 : (1 : Fin 2).val = 1 := rfl
  have r0 : (0 : Fin 2).val = 0 := rfl
  split_ifs with h1 h0
  · refine (epi1_apply _ _ _ _ _ (colI b) ?_).trans ?_
    · show 256 * (b.val / 16 / 128) + 128 * (b.val % 2) + b.val / 16 % 128 = 256 * ((2 * (b.val / 32) + 1) / 128) + 128 * (b.val % 2) + (2 * (b.val / 32) + 1) % 128
      omega
    · rw [ha, hs]
      have e : grpI b = g := Fin.ext (by show b.val % 16 / 2 = g.val; omega)
      rw [e]
  · refine (epi0_apply _ _ _ _ _ (colI b) ?_).trans ?_
    · show 256 * (b.val / 16 / 128) + 128 * (b.val % 2) + b.val / 16 % 128 = 256 * ((2 * (b.val / 32) + 0) / 128) + 128 * (b.val % 2) + (2 * (b.val / 32) + 0) % 128
      omega
    · rw [ha, hs]
      have e : grpI b = g := Fin.ext (by show b.val % 16 / 2 = g.val; omega)
      rw [e]
  · exact hx (ix3 0 b d) (by show b.val % 16 / 2 < g.val; omega)

theorem epiU_run (c : Dev nD) (E : Set ℕ) (K : PUnit.{1} → sProp 𝕄) (arg16 : Memref sig .tc .vmem S1x8192x128 .bf16) (h16 : arg16.IsWhole) (arg23 : Memref sig .tc .vmem S8x128x1024 .f32) (h23 : arg23.IsWhole) (arg25 : Memref sig .tc .vmem S8x1x1024 .f32) (h25 : arg25.IsWhole) (x23 : Vec Ideal S8x128x1024 .f32) (x25 : Vec Ideal S8x1x1024 .f32) (g : Fin 8) (n n' : ℕ) (hn : n = g.val) (hn' : n' = g.val + 1) (jp : PUnit.{1} → PR) :
    iprop((owns (c : Thread nD τ) arg23 fullShare x23 ∗ owns (c : Thread nD τ) arg25 fullShare x25) ∗ (∃ z, ⌜Upto (fun y : S1x8192x128.Idx => (y 1).val % 16 / 2) n z (dqS x23 x25)⌝ ∗ owns (c : Thread nD τ) arg16 fullShare z) ∗
      ((owns (c : Thread nD τ) arg23 fullShare x23 ∗ owns (c : Thread nD τ) arg25 fullShare x25) -∗ (∃ z, ⌜Upto (fun y : S1x8192x128.Idx => (y 1).val % 16 / 2) n' z (dqS x23 x25)⌝ ∗ owns (c : Thread nD τ) arg16 fullShare z) -∗ wp frame (wpE (defs₀ (F := Ideal)) Variants.none c none) E (jp ⟨⟩) K))
      ⊢ (wp frame (wpE (defs₀ (F := Ideal)) Variants.none c none) E (epiU arg16 h16 arg23 arg25 g jp) K : sProp 𝕄) := by
  subst hn hn'
  unfold epiU
  iintro ⟨⟨H23, H25⟩, ⟨%z, %hz, H16⟩, Hk⟩
  iapply ldSl_run c E K arg23 h23 x23 g _
  isplitl [H23]; · iexact H23
  iintro H23
  iapply ldRw_run c E K arg25 h25 x25 g _
  isplitl [H25]; · iexact H25
  iintro H25
  iapply stE_run c E K arg16 h16 z g 0 _ _
  isplitl [H16]; · iexact H16
  iintro H16
  iapply stE_run c E K arg16 h16 _ g 1 _ _
  isplitl [H16]; · iexact H16
  iintro H16
  iapply Hk $$ [H23 H25] [H16]
  · isplitl [H23]; · iexact H23
    iexact H25
  iexists _
  isplitr; swap; · iexact H16
  ipureintro
  exact epi_up x23 x25 g z hz

/-- The whole write-out. -/
theorem epiP_run (c : Dev nD) (E : Set ℕ) (K : PUnit.{1} → sProp 𝕄) (arg16 : Memref sig .tc .vmem S1x8192x128 .bf16) (h16 : arg16.IsWhole) (arg23 : Memref sig .tc .vmem S8x128x1024 .f32) (h23 : arg23.IsWhole) (arg25 : Memref sig .tc .vmem S8x1x1024 .f32) (h25 : arg25.IsWhole) (x16 : Vec Ideal S1x8192x128 .bf16) (x23 : Vec Ideal S8x128x1024 .f32) (x25 : Vec Ideal S8x1x1024 .f32) (jp : PUnit.{1} → PR) :
    iprop((owns (c : Thread nD τ) arg23 fullShare x23 ∗ owns (c : Thread nD τ) arg25 fullShare x25) ∗ owns (c : Thread nD τ) arg16 fullShare x16 ∗ ((owns (c : Thread nD τ) arg23 fullShare x23 ∗ owns (c : Thread nD τ) arg25 fullShare x25) -∗ owns (c : Thread nD τ) arg16 fullShare (dqS x23 x25) -∗ wp frame (wpE (defs₀ (F := Ideal)) Variants.none c none) E (jp ⟨⟩) K))
      ⊢ (wp frame (wpE (defs₀ (F := Ideal)) Variants.none c none) E (epiP arg16 h16 arg23 arg25 jp) K : sProp 𝕄) := by
  unfold epiP
  iintro ⟨HR, H16, Hk⟩
  iapply epiU_run c E K arg16 h16 arg23 h23 arg25 h25 x23 x25 0 0 1 rfl rfl _
  isplitl [HR]; · iexact HR
  isplitl [H16]
  · iexists x16
    isplitr; swap; · iexact H16
    ipureintro
    intro y hy
    exact absurd hy (Nat.not_lt_zero _)
  iintro HR Hs
  iapply epiU_run c E K arg16 h16 arg23 h23 arg25 h25 x23 x25 1 1 2 rfl rfl _
  isplitl [HR]; · iexact HR
  isplitl [Hs]; · iexact Hs
  iintro HR Hs
  iapply epiU_run c E K arg16 h16 arg23 h23 arg25 h25 x23 x25 2 2 3 rfl rfl _
  isplitl [HR]; · iexact HR
  isplitl [Hs]; · iexact Hs
  iintro HR Hs
  iapply epiU_run c E K arg16 h16 arg23 h23 arg25 h25 x23 x25 3 3 4 rfl rfl _
  isplitl [HR]; · iexact HR
  isplitl [Hs]; · iexact Hs
  iintro HR Hs
  iapply epiU_run c E K arg16 h16 arg23 h23 arg25 h25 x23 x25 4 4 5 rfl rfl _
  isplitl [HR]; · iexact HR
  isplitl [Hs]; · iexact Hs
  iintro HR Hs
  iapply epiU_run c E K arg16 h16 arg23 h23 arg25 h25 x23 x25 5 5 6 rfl rfl _
  isplitl [HR]; · iexact HR
  isplitl [Hs]; · iexact Hs
  iintro HR Hs
  iapply epiU_run c E K arg16 h16 arg23 h23 arg25 h25 x23 x25 6 6 7 rfl rfl _
  isplitl [HR]; · iexact HR
  isplitl [Hs]; · iexact Hs
  iintro HR Hs
  iapply epiU_run c E K arg16 h16 arg23 h23 arg25 h25 x23 x25 7 7 8 rfl rfl _
  isplitl [HR]; · iexact HR
  isplitl [Hs]; · iexact Hs
  iintro HR Hs
  icases Hs with ⟨%z, %hz, H16⟩
  obtain rfl : z = dqS x23 x25 := funext fun y => hz y (by show (y 1).val % 16 / 2 < 8; omega)
  iapply Hk $$ HR H16

theorem p6_apply (x : Vec Ideal S160x128 .bf16) (i : Fin 80) (t : Fin 2) (d : Fin 128) (n : Fin 160) (hn : n.val = 2 * i.val + t.val) : k0_pay6 x (ix3 i t d) = x (ix2 n d) := by
  have e : ∀ n' : Fin 160, n'.val = n.val → x (ix2 n' d) = x (ix2 n d) := by
    intro l' h
    obtain rfl := Fin.ext h
    rfl
  pointwise [k0_pay6]
  split_ifs <;> exact e _ (by simp only []; omega)
theorem p7_apply (x : Vec Ideal S160x128 .bf16) (i : Fin 80) (t : Fin 2) (d : Fin 128) (n : Fin 160) (hn : n.val = 2 * i.val + t.val) : k0_pay7 x (ix3 i t d) = x (ix2 n d) := p6_apply x i t d n hn

/-- A prefix table padded with zero rows, two rows to a block. -/
def padP (x : Vec Ideal S160x128 .bf16) : Vec Ideal S128x2x128 .bf16 := fun y =>
  if h : (y 0).val < 80 then x (ix2 ⟨2 * (y 0).val + (y 1).val, by have : (y 1).val < 2 := (y 1).isLt; omega⟩ (y 2)) else (0 : EReal)

theorem padP_hit (x : Vec Ideal S160x128 .bf16) (a : Fin 128) (b : Fin 2) (d : Fin 128) (h : a.val < 80) :
    padP x (ix3 a b d) = x (ix2 (⟨2 * a.val + b.val, by omega⟩ : Fin 160) d) := by
  unfold padP
  refine dif_pos (c := a.val < 80) h
theorem padP_miss (x : Vec Ideal S160x128 .bf16) (a : Fin 128) (b : Fin 2) (d : Fin 128) (h : ¬ a.val < 80) :
    padP x (ix3 a b d) = (0 : EReal) := by
  unfold padP
  refine dif_neg (c := a.val < 80) h

theorem padP_put (w : Vec Ideal S80x2x128 .bf16) (x : Vec Ideal S160x128 .bf16) (w0 x0 : Vec Ideal S128x2x128 .bf16) (hw : ∀ i t d, ∀ n : Fin 160, n.val = 2 * i.val + t.val → w (ix3 i t d) = x (ix2 n d)) (h0 : ∀ y, w0 y = (0 : EReal)) :
    putU (s := S128x2x128) ![0, 0, 0] S80x2x128.size w (putU (s := S128x2x128) ![0, 0, 0] S128x2x128.size w0 x0) = padP x := by
  refine funext (all_ix3 fun a b d => ?_)
  by_cases h : a.val < 80
  · refine (put3_hit (n0 := 128) (n1 := 2) 0 0 0 w _ a b d ⟨a.val, h⟩ b d (Nat.zero_add _).symm (Nat.zero_add _).symm (Nat.zero_add _).symm).trans ?_
    refine (hw _ _ _ ⟨2 * a.val + b.val, by omega⟩ rfl).trans ?_
    refine Eq.trans ?_ (padP_hit x a b d h).symm
    rfl
  · refine (put3_miss (n0 := 128) (n1 := 2) 0 0 0 w _ a b d (by omega)).trans ?_
    refine (put3_hit (n0 := 128) (n1 := 2) 0 0 0 w0 _ a b d a b d (Nat.zero_add _).symm (Nat.zero_add _).symm (Nat.zero_add _).symm).trans ?_
    refine (h0 _).trans ?_
    exact (padP_miss x a b d h).symm

/-- A padded table made: zeroed, then its first rows stored. -/
theorem padU_run (c : Dev nD) (E : Set ℕ) (K : PUnit.{1} → sProp 𝕄) (arg26 : Memref sig .tc .vmem S128x2x128 .bf16) (h26 : arg26.IsWhole) (w0 : Vec Ideal S128x2x128 .bf16) (x26 : Vec Ideal S128x2x128 .bf16) (jp : PR) :
    iprop(owns (c : Thread nD τ) arg26 fullShare x26 ∗ (owns (c : Thread nD τ) arg26 fullShare (putU (s := S128x2x128) ![0, 0, 0] S128x2x128.size w0 x26) -∗ wp frame (wpE (defs₀ (F := Ideal)) Variants.none c none) E jp K))
      ⊢ (wp frame (wpE (defs₀ (F := Ideal)) Variants.none c none) E (do
  let _ ← Prog.lift (.load arg26 (Rect.unit (s := S128x2x128) ![0, 0, 0] S128x2x128.size inb_S128x2x128_S128x2x128_0_0_0).toLoadRect (View.loadsAt_vmem h_S128x2x128))
  Prog.lift (.store arg26 (Rect.unit (s := S128x2x128) ![0, 0, 0] S128x2x128.size inb_S128x2x128_S128x2x128_0_0_0) w0 Finset.univ (View.stores_vmem h_S128x2x128 ((h26.pairWhole rank2_S128x2x128).storeExact_slice rfl _ (Rect.wholeRows_unit rank2_S128x2x128 rfl rfl) pairs_S128x2x128_bf16) (fun _ => rfl)) (.inl rfl))
  jp) K : sProp 𝕄) := by
  simp only [owns]
  iintro ⟨⟨%f26, %hf26, H26⟩, Hk⟩
  obtain rfl := h26.eq_unread hf26
  sl_exec (disch := fail)
  iapply Hk
  iexists _; isplitr
  swap; · iexact H26
  ipureintro
  rw [read_put]
  simp only [View.writes_nil, h26.read_unread]

theorem padV_run (c : Dev nD) (E : Set ℕ) (K : PUnit.{1} → sProp 𝕄) (arg8 : Memref sig .tc .vmem S160x128 .bf16) (h8 : arg8.IsWhole) (arg26 : Memref sig .tc .vmem S128x2x128 .bf16) (h26 : arg26.IsWhole) (p : Vec Ideal S160x128 .bf16 → Vec Ideal S80x2x128 .bf16) (x8 : Vec Ideal S160x128 .bf16) (x26 : Vec Ideal S128x2x128 .bf16) (jp : PR) :
    iprop((owns (c : Thread nD τ) arg8 fullShare x8 ∗ owns (c : Thread nD τ) arg26 fullShare x26) ∗ (owns (c : Thread nD τ) arg8 fullShare x8 -∗ owns (c : Thread nD τ) arg26 fullShare (putU (s := S128x2x128) ![0, 0, 0] S80x2x128.size (p x8) x26) -∗ wp frame (wpE (defs₀ (F := Ideal)) Variants.none c none) E jp K))
      ⊢ (wp frame (wpE (defs₀ (F := Ideal)) Variants.none c none) E (do
  let v : Vec Ideal S160x128 .bf16 ← Prog.lift (.load arg8 (Rect.unit (s := S160x128) ![0, 0] S160x128.size inb_S160x128_S160x128_0_0).toLoadRect (View.loadsAt_vmem h_S160x128))
  let _ ← Prog.lift (.load arg26 (Rect.unit (s := S128x2x128) ![0, 0, 0] S80x2x128.size inb_S128x2x128_S80x2x128_0_0_0).toLoadRect (View.loadsAt_vmem h_S80x2x128))
  Prog.lift (.store arg26 (Rect.unit (s := S128x2x128) ![0, 0, 0] S80x2x128.size inb_S128x2x128_S80x2x128_0_0_0) (p v) Finset.univ (View.stores_vmem h_S80x2x128 ((h26.pairWhole rank2_S128x2x128).storeExact_slice rfl _ (Rect.wholeRows_unit rank2_S128x2x128 rfl rfl) pairs_S128x2x128_bf16) (fun _ => rfl)) (.inl rfl))
  jp) K : sProp 𝕄) := by
  simp only [owns]
  iintro ⟨⟨⟨%f8, %hf8, H8⟩, ⟨%f26, %hf26, H26⟩⟩, Hk⟩
  obtain rfl := h8.eq_unread hf8
  obtain rfl := h26.eq_unread hf26
  sl_exec (disch := fail)
  have e8 : View.readAt (Elt Ideal) arg8.view (Rect.unit (s := S160x128) ![0, 0] S160x128.size inb_S160x128_S160x128_0_0).toLoadRect (h8.unread x8) = x8 := by
    funext y
    show arg8.view.read (Elt Ideal) (h8.unread x8) _ = _
    rw [h8.read_unread]
    apply congrArg
    funext a
    apply Fin.ext
    match a with
    | 0 => show 0 + 1 * (y 0).val = (y 0).val; omega
    | 1 => show 0 + 1 * (y 1).val = (y 1).val; omega
  iapply Hk $$ [H8]
  · iexists _; isplitr; · ipureintro; exact h8.read_unread _
    iexact H8
  iexists _; isplitr
  swap; · iexact H26
  ipureintro
  rw [read_put]
  simp only [View.writes_nil, h26.read_unread, e8]

theorem zerU_run (c : Dev nD) (E : Set ℕ) (K : PUnit.{1} → sProp 𝕄) (arg28 : Memref sig .tc .vmem S8x32x128 .f32) (h28 : arg28.IsWhole) (w : Vec Ideal S8x32x128 .f32) (x28 : Vec Ideal S8x32x128 .f32) (jp : PR) :
    iprop(owns (c : Thread nD τ) arg28 fullShare x28 ∗ ((∃ z, owns (c : Thread nD τ) arg28 fullShare z) -∗ wp frame (wpE (defs₀ (F := Ideal)) Variants.none c none) E jp K))
      ⊢ (wp frame (wpE (defs₀ (F := Ideal)) Variants.none c none) E (do
  let _ ← Prog.lift (.load arg28 (Rect.unit (s := S8x32x128) ![0, 0, 0] S8x32x128.size inb_S8x32x128_S8x32x128_0_0_0).toLoadRect (View.loadsAt_vmem h_S8x32x128))
  Prog.lift (.store arg28 (Rect.unit (s := S8x32x128) ![0, 0, 0] S8x32x128.size inb_S8x32x128_S8x32x128_0_0_0) w Finset.univ (View.stores_vmem_bits_univ h_S8x32x128 rfl) (.inl rfl))
  jp) K : sProp 𝕄) := by
  simp only [owns]
  iintro ⟨⟨%f28, %hf28, H28⟩, Hk⟩
  obtain rfl := h28.eq_unread hf28
  sl_exec (disch := fail)
  iapply Hk
  iexists _
  iexists _; isplitr
  swap; · iexact H28
  ipureintro
  rfl

section
variable (i : grid0.Coords) (arg2 : Memref sig .tc .smem S2 .i32) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x8192x128 .fp8e5m2) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S160x128 .bf16) (harg8 : arg8.IsWhole) (arg9 : Memref sig .tc .vmem S160x128 .bf16) (harg9 : arg9.IsWhole) (arg10 : Memref sig .tc .vmem S1x4096x128 .fp8e4m3) (harg10 : arg10.IsWhole) (arg11 : Memref sig .tc .vmem S1x4096x128 .fp8e4m3) (harg11 : arg11.IsWhole) (arg12 : Memref sig .tc .vmem S1x8x512 .f32) (harg12 : arg12.IsWhole) (arg13 : Memref sig .tc .vmem S1x8x512 .f32) (harg13 : arg13.IsWhole) (arg14 : Memref sig .tc .vmem S1x16x512 .f32) (harg14 : arg14.IsWhole) (arg15 : Memref sig .tc .vmem S1x16x512 .f32) (harg15 : arg15.IsWhole) (arg16 : Memref sig .tc .vmem S1x8192x128 .bf16) (harg16 : arg16.IsWhole) (arg17 : Memref sig .tc .vmem S1x20x16x512 .f32) (harg17 : arg17.IsWhole) (arg18 : Memref sig .tc .vmem S160x128 .bf16) (harg18 : arg18.IsWhole) (arg19 : Memref sig .tc .vmem S160x128 .bf16) (harg19 : arg19.IsWhole) (arg20 : Memref sig .tc .vmem S8x256x1024 .bf16) (harg20 : arg20.IsWhole) (arg21 : Memref sig .tc .vmem S8x128x1024 .fp8e5m2) (harg21 : arg21.IsWhole) (arg22 : Memref sig .tc .vmem S8x128x1024 .bf16) (harg22 : arg22.IsWhole) (arg23 : Memref sig .tc .vmem S8x128x1024 .f32) (harg23 : arg23.IsWhole) (arg24 : Memref sig .tc .vmem S8x1x1024 .f32) (harg24 : arg24.IsWhole) (arg25 : Memref sig .tc .vmem S8x1x1024 .f32) (harg25 : arg25.IsWhole) (arg26 : Memref sig .tc .vmem S128x2x128 .bf16) (harg26 : arg26.IsWhole) (arg27 : Memref sig .tc .vmem S128x2x128 .bf16) (harg27 : arg27.IsWhole) (arg28 : Memref sig .tc .vmem S8x32x128 .f32) (harg28 : arg28.IsWhole) (arg29 : Memref sig .tc .vmem S8x32x128 .f32) (harg29 : arg29.IsWhole) (arg30 : Memref sig .tc .vmem S512x128 .bf16) (harg30 : arg30.IsWhole) (arg31 : Memref sig .tc .vmem S128x512 .f32) (harg31 : arg31.IsWhole) (arg32 : Memref sig .tc .vmem S256x128 .f32) (harg32 : arg32.IsWhole)

/-- The initialisation: both padded tables made, both sums' arrays zeroed. -/
def initP (jp : PUnit.{1} → PR) : PR := do
  let _ ← Prog.lift (.load arg26 (Rect.unit (s := S128x2x128) ![0, 0, 0] S128x2x128.size inb_S128x2x128_S128x2x128_0_0_0).toLoadRect (View.loadsAt_vmem h_S128x2x128))
  Prog.lift (.store arg26 (Rect.unit (s := S128x2x128) ![0, 0, 0] S128x2x128.size inb_S128x2x128_S128x2x128_0_0_0) (constant (F := Ideal) S128x2x128 .bf16 0x0000#16) Finset.univ (View.stores_vmem h_S128x2x128 ((harg26.pairWhole rank2_S128x2x128).storeExact_slice rfl _ (Rect.wholeRows_unit rank2_S128x2x128 rfl rfl) pairs_S128x2x128_bf16) (fun _ => rfl)) (.inl rfl))
  let _ ← Prog.lift (.load arg27 (Rect.unit (s := S128x2x128) ![0, 0, 0] S128x2x128.size inb_S128x2x128_S128x2x128_0_0_0).toLoadRect (View.loadsAt_vmem h_S128x2x128))
  Prog.lift (.store arg27 (Rect.unit (s := S128x2x128) ![0, 0, 0] S128x2x128.size inb_S128x2x128_S128x2x128_0_0_0) (constant (F := Ideal) S128x2x128 .bf16 0x0000#16) Finset.univ (View.stores_vmem h_S128x2x128 ((harg27.pairWhole rank2_S128x2x128).storeExact_slice rfl _ (Rect.wholeRows_unit rank2_S128x2x128 rfl rfl) pairs_S128x2x128_bf16) (fun _ => rfl)) (.inl rfl))
  let v : Vec Ideal S160x128 .bf16 ← Prog.lift (.load arg8 (Rect.unit (s := S160x128) ![0, 0] S160x128.size inb_S160x128_S160x128_0_0).toLoadRect (View.loadsAt_vmem h_S160x128))
  let _ ← Prog.lift (.load arg26 (Rect.unit (s := S128x2x128) ![0, 0, 0] S80x2x128.size inb_S128x2x128_S80x2x128_0_0_0).toLoadRect (View.loadsAt_vmem h_S80x2x128))
  Prog.lift (.store arg26 (Rect.unit (s := S128x2x128) ![0, 0, 0] S80x2x128.size inb_S128x2x128_S80x2x128_0_0_0) (k0_pay6 v) Finset.univ (View.stores_vmem h_S80x2x128 ((harg26.pairWhole rank2_S128x2x128).storeExact_slice rfl _ (Rect.wholeRows_unit rank2_S128x2x128 rfl rfl) pairs_S128x2x128_bf16) (fun _ => rfl)) (.inl rfl))
  let v : Vec Ideal S160x128 .bf16 ← Prog.lift (.load arg9 (Rect.unit (s := S160x128) ![0, 0] S160x128.size inb_S160x128_S160x128_0_0).toLoadRect (View.loadsAt_vmem h_S160x128))
  let _ ← Prog.lift (.load arg27 (Rect.unit (s := S128x2x128) ![0, 0, 0] S80x2x128.size inb_S128x2x128_S80x2x128_0_0_0).toLoadRect (View.loadsAt_vmem h_S80x2x128))
  Prog.lift (.store arg27 (Rect.unit (s := S128x2x128) ![0, 0, 0] S80x2x128.size inb_S128x2x128_S80x2x128_0_0_0) (k0_pay7 v) Finset.univ (View.stores_vmem h_S80x2x128 ((harg27.pairWhole rank2_S128x2x128).storeExact_slice rfl _ (Rect.wholeRows_unit rank2_S128x2x128 rfl rfl) pairs_S128x2x128_bf16) (fun _ => rfl)) (.inl rfl))
  let _ ← Prog.lift (.load arg28 (Rect.unit (s := S8x32x128) ![0, 0, 0] S8x32x128.size inb_S8x32x128_S8x32x128_0_0_0).toLoadRect (View.loadsAt_vmem h_S8x32x128))
  Prog.lift (.store arg28 (Rect.unit (s := S8x32x128) ![0, 0, 0] S8x32x128.size inb_S8x32x128_S8x32x128_0_0_0) (k0_pay9 (k0_pay8 (F := Ideal))) Finset.univ (View.stores_vmem_bits_univ h_S8x32x128 rfl) (.inl rfl))
  let _ ← Prog.lift (.load arg29 (Rect.unit (s := S8x32x128) ![0, 0, 0] S8x32x128.size inb_S8x32x128_S8x32x128_0_0_0).toLoadRect (View.loadsAt_vmem h_S8x32x128))
  Prog.lift (.store arg29 (Rect.unit (s := S8x32x128) ![0, 0, 0] S8x32x128.size inb_S8x32x128_S8x32x128_0_0_0) (k0_pay10 (F := Ideal)) Finset.univ (View.stores_vmem_bits_univ h_S8x32x128 rfl) (.inl rfl))
  jp ⟨⟩

theorem initB_eq (jp : PUnit.{1} → PR) :
    initB (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 jp = initP arg8 arg9 arg26 harg26 arg27 harg27 arg28 arg29 jp := by
  unfold initB
  simp only [k0_part1_eq_skeleton, k0_part1_skel, bind_assoc, pure_bind]
  rfl
end

/-- The initialisation run once. -/
theorem initP_run (c : Dev nD) (E : Set ℕ) (K : PUnit.{1} → sProp 𝕄) (arg8 : Memref sig .tc .vmem S160x128 .bf16) (h8 : arg8.IsWhole) (arg9 : Memref sig .tc .vmem S160x128 .bf16) (h9 : arg9.IsWhole) (arg26 : Memref sig .tc .vmem S128x2x128 .bf16) (h26 : arg26.IsWhole) (arg27 : Memref sig .tc .vmem S128x2x128 .bf16) (h27 : arg27.IsWhole) (arg28 : Memref sig .tc .vmem S8x32x128 .f32) (h28 : arg28.IsWhole) (arg29 : Memref sig .tc .vmem S8x32x128 .f32) (h29 : arg29.IsWhole) (x8 : Vec Ideal S160x128 .bf16) (x9 : Vec Ideal S160x128 .bf16) (x26 : Vec Ideal S128x2x128 .bf16) (x27 : Vec Ideal S128x2x128 .bf16) (x28 : Vec Ideal S8x32x128 .f32) (x29 : Vec Ideal S8x32x128 .f32) (jp : PUnit.{1} → PR) :
    iprop((owns (c : Thread nD τ) arg8 fullShare x8 ∗ owns (c : Thread nD τ) arg9 fullShare x9) ∗ owns (c : Thread nD τ) arg26 fullShare x26 ∗ owns (c : Thread nD τ) arg27 fullShare x27 ∗ owns (c : Thread nD τ) arg28 fullShare x28 ∗ owns (c : Thread nD τ) arg29 fullShare x29 ∗
      ((owns (c : Thread nD τ) arg8 fullShare x8 ∗ owns (c : Thread nD τ) arg9 fullShare x9) -∗ owns (c : Thread nD τ) arg26 fullShare (padP x8) -∗ owns (c : Thread nD τ) arg27 fullShare (padP x9) -∗ (∃ z, owns (c : Thread nD τ) arg28 fullShare z) -∗ (∃ z, owns (c : Thread nD τ) arg29 fullShare z) -∗ wp frame (wpE (defs₀ (F := Ideal)) Variants.none c none) E (jp ⟨⟩) K))
      ⊢ (wp frame (wpE (defs₀ (F := Ideal)) Variants.none c none) E (initP arg8 arg9 arg26 h26 arg27 h27 arg28 arg29 jp) K : sProp 𝕄) := by
  unfold initP
  have z0 : ∀ y, constant (F := Ideal) S128x2x128 .bf16 0x0000#16 y = (0 : EReal) := fun y => by
    show (Scalar.ofBits .bf16 0x0000#16 : Ideal .bf16) = _
    exact Ideal.ofBits_zero_bf16
  iintro ⟨⟨H8, H9⟩, H26, H27, H28, H29, Hk⟩
  iapply padU_run c E K arg26 h26 _ x26 _
  isplitl [H26]; · iexact H26
  iintro H26
  iapply padU_run c E K arg27 h27 _ x27 _
  isplitl [H27]; · iexact H27
  iintro H27
  iapply padV_run c E K arg8 h8 arg26 h26 k0_pay6 x8 _ _
  isplitl [H8 H26]
  · isplitl [H8]; · iexact H8
    iexact H26
  iintro H8 H26
  iapply padV_run c E K arg9 h9 arg27 h27 k0_pay7 x9 _ _
  isplitl [H9 H27]
  · isplitl [H9]; · iexact H9
    iexact H27
  iintro H9 H27
  iapply zerU_run c E K arg28 h28 _ x28 _
  isplitl [H28]; · iexact H28
  iintro H28
  iapply zerU_run c E K arg29 h29 _ x29 _
  isplitl [H29]; · iexact H29
  iintro H29
  rw [padP_put _ x8 _ x26 (fun i t d n hn => p6_apply x8 i t d n hn) z0, padP_put _ x9 _ x27 (fun i t d n hn => p7_apply x9 i t d n hn) z0]
  iapply Hk $$ [H8 H9] H26 H27 H28 H29
  isplitl [H8]; · iexact H8
  iexact H9

end Cert.KernelIdeal.Gen

end
-- ==== Proof.KernelIdeal.UProEq.lean ====
module

public import proofs.«01_k».proof.Proof.KernelIdeal.UPro

@[expose] public section

set_option maxRecDepth 65536

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable (i : grid0.Coords) (arg2 : Memref sig .tc .smem S2 .i32) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x8192x128 .fp8e5m2) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S160x128 .bf16) (harg8 : arg8.IsWhole) (arg9 : Memref sig .tc .vmem S160x128 .bf16) (harg9 : arg9.IsWhole) (arg10 : Memref sig .tc .vmem S1x4096x128 .fp8e4m3) (harg10 : arg10.IsWhole) (arg11 : Memref sig .tc .vmem S1x4096x128 .fp8e4m3) (harg11 : arg11.IsWhole) (arg12 : Memref sig .tc .vmem S1x8x512 .f32) (harg12 : arg12.IsWhole) (arg13 : Memref sig .tc .vmem S1x8x512 .f32) (harg13 : arg13.IsWhole) (arg14 : Memref sig .tc .vmem S1x16x512 .f32) (harg14 : arg14.IsWhole) (arg15 : Memref sig .tc .vmem S1x16x512 .f32) (harg15 : arg15.IsWhole) (arg16 : Memref sig .tc .vmem S1x8192x128 .bf16) (harg16 : arg16.IsWhole) (arg17 : Memref sig .tc .vmem S1x20x16x512 .f32) (harg17 : arg17.IsWhole) (arg18 : Memref sig .tc .vmem S160x128 .bf16) (harg18 : arg18.IsWhole) (arg19 : Memref sig .tc .vmem S160x128 .bf16) (harg19 : arg19.IsWhole) (arg20 : Memref sig .tc .vmem S8x256x1024 .bf16) (harg20 : arg20.IsWhole) (arg21 : Memref sig .tc .vmem S8x128x1024 .fp8e5m2) (harg21 : arg21.IsWhole) (arg22 : Memref sig .tc .vmem S8x128x1024 .bf16) (harg22 : arg22.IsWhole) (arg23 : Memref sig .tc .vmem S8x128x1024 .f32) (harg23 : arg23.IsWhole) (arg24 : Memref sig .tc .vmem S8x1x1024 .f32) (harg24 : arg24.IsWhole) (arg25 : Memref sig .tc .vmem S8x1x1024 .f32) (harg25 : arg25.IsWhole) (arg26 : Memref sig .tc .vmem S128x2x128 .bf16) (harg26 : arg26.IsWhole) (arg27 : Memref sig .tc .vmem S128x2x128 .bf16) (harg27 : arg27.IsWhole) (arg28 : Memref sig .tc .vmem S8x32x128 .f32) (harg28 : arg28.IsWhole) (arg29 : Memref sig .tc .vmem S8x32x128 .f32) (harg29 : arg29.IsWhole) (arg30 : Memref sig .tc .vmem S512x128 .bf16) (harg30 : arg30.IsWhole) (arg31 : Memref sig .tc .vmem S128x512 .f32) (harg31 : arg31.IsWhole) (arg32 : Memref sig .tc .vmem S256x128 .f32) (harg32 : arg32.IsWhole)

set_option maxHeartbeats 8000000 in
/-- The preparation is the group-by-group program. -/
theorem proB_eq (jp : PUnit.{1} → PR) :
    proB (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 jp = proP arg3 harg3 arg4 harg4 arg5 arg6 harg6 arg7 harg7 arg14 arg15 arg17 arg20 harg20 arg21 harg21 arg22 harg22 arg23 arg24 arg25 arg26 arg27 arg28 arg29 jp := by
  unfold proB proRest proHead
  simp (maxSteps := 20000000) only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part91_eq_skeleton, k0_part3_skel, k0_part4_skel, k0_part5_skel, k0_part6_skel, k0_part7_skel, k0_part8_skel, k0_part9_skel, k0_part10_skel, k0_part11_skel, k0_part12_skel, k0_part13_skel, k0_part14_skel, k0_part15_skel, k0_part16_skel, k0_part17_skel, k0_part18_skel, k0_part19_skel, k0_part20_skel, k0_part21_skel, k0_part22_skel, k0_part23_skel, k0_part24_skel, k0_part25_skel, k0_part26_skel, k0_part27_skel, k0_part28_skel, k0_part29_skel, k0_part30_skel, k0_part31_skel, k0_part32_skel, k0_part33_skel, k0_part34_skel, k0_part35_skel, k0_part36_skel, k0_part37_skel, k0_part38_skel, k0_part39_skel, k0_part40_skel, k0_part41_skel, k0_part42_skel, k0_part43_skel, k0_part44_skel, k0_part45_skel, k0_part46_skel, k0_part47_skel, k0_part48_skel, k0_part49_skel, k0_part50_skel, k0_part51_skel, k0_part52_skel, k0_part53_skel, k0_part54_skel, k0_part55_skel, k0_part56_skel, k0_part57_skel, k0_part58_skel, k0_part59_skel, k0_part60_skel, k0_part61_skel, k0_part91_skel, bind_assoc, pure_bind]
  simp (maxSteps := 20000000) only [proP, grpPair, grp, grp1, grp2, grp3, dsU, selfU, bind_assoc, pure_bind]
  rfl

end Cert.KernelIdeal.Gen

end
-- ==== Proof.KernelIdeal.VBody.lean ====
module

public import proofs.«01_k».proof.Proof.KernelIdeal.REpi
public import proofs.«01_k».proof.Proof.KernelIdeal.SPro
public import proofs.«01_k».proof.Proof.KernelIdeal.RAff
public import proofs.«01_k».proof.Proof.KernelIdeal.UProEq
public import Idealize.ShloMosaic.Lib.Tactic

@[expose] public section

set_option maxRecDepth 65536

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-! One run of the body, its values named: what it leaves in the scratch arrays and in the first result's block. -/

/-- The inputs at their blocks. -/
abbrev InsV (c : Dev nD) (arg3 : Memref sig .tc .vmem S1x8192x128 .bf16) (arg4 : Memref sig .tc .vmem S1x8192x128 .bf16) (arg5 : Memref sig .tc .vmem S1x8192x128 .fp8e5m2) (arg6 : Memref sig .tc .vmem S1x4096x128 .bf16) (arg7 : Memref sig .tc .vmem S1x4096x128 .bf16) (arg8 : Memref sig .tc .vmem S160x128 .bf16) (arg9 : Memref sig .tc .vmem S160x128 .bf16) (arg10 : Memref sig .tc .vmem S1x4096x128 .fp8e4m3) (arg11 : Memref sig .tc .vmem S1x4096x128 .fp8e4m3) (arg12 : Memref sig .tc .vmem S1x8x512 .f32) (arg13 : Memref sig .tc .vmem S1x8x512 .f32) (arg14 : Memref sig .tc .vmem S1x16x512 .f32) (arg15 : Memref sig .tc .vmem S1x16x512 .f32) (x0 : Vec Ideal S1x8192x128 .bf16) (x1 : Vec Ideal S1x8192x128 .bf16) (x2 : Vec Ideal S1x8192x128 .fp8e5m2) (x3 : Vec Ideal S1x4096x128 .bf16) (x4 : Vec Ideal S1x4096x128 .bf16) (x5 : Vec Ideal S160x128 .bf16) (x6 : Vec Ideal S160x128 .bf16) (x7 : Vec Ideal S1x4096x128 .fp8e4m3) (x8 : Vec Ideal S1x4096x128 .fp8e4m3) (x9 : Vec Ideal S1x8x512 .f32) (x10 : Vec Ideal S1x8x512 .f32) (x11 : Vec Ideal S1x16x512 .f32) (x12 : Vec Ideal S1x16x512 .f32) : sProp 𝕄 :=
  iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12)

/-- The scratch arrays between two chunks, the accumulator at `A`. -/
abbrev SV (c : Dev nD) (arg20 : Memref sig .tc .vmem S8x256x1024 .bf16) (arg21 : Memref sig .tc .vmem S8x128x1024 .fp8e5m2) (arg22 : Memref sig .tc .vmem S8x128x1024 .bf16) (arg23 : Memref sig .tc .vmem S8x128x1024 .f32) (arg24 : Memref sig .tc .vmem S8x1x1024 .f32) (arg25 : Memref sig .tc .vmem S8x1x1024 .f32) (arg26 : Memref sig .tc .vmem S128x2x128 .bf16) (arg27 : Memref sig .tc .vmem S128x2x128 .bf16) (x0 : Vec Ideal S1x8192x128 .bf16) (x1 : Vec Ideal S1x8192x128 .bf16) (x2 : Vec Ideal S1x8192x128 .fp8e5m2) (x5 : Vec Ideal S160x128 .bf16) (x6 : Vec Ideal S160x128 .bf16) (x11 : Vec Ideal S1x16x512 .f32) (x12 : Vec Ideal S1x16x512 .f32) (A : Vec Ideal S8x128x1024 .f32) : sProp 𝕄 :=
  iprop(owns (c : Thread nD τ) arg20 fullShare (qaugS x0 x12) ∗ owns (c : Thread nD τ) arg21 fullShare (dotS x2) ∗ owns (c : Thread nD τ) arg22 fullShare (dotS x2) ∗ owns (c : Thread nD τ) arg23 fullShare A ∗ owns (c : Thread nD τ) arg24 fullShare (dsumS x1 x2) ∗ owns (c : Thread nD τ) arg25 fullShare (dscS x11) ∗ owns (c : Thread nD τ) arg26 fullShare (padP x5) ∗ owns (c : Thread nD τ) arg27 fullShare (padP x6))

/-- What is not named: the other results' blocks and the rest of the scratch. -/
abbrev ExV (c : Dev nD) (arg17 : Memref sig .tc .vmem S1x20x16x512 .f32) (arg18 : Memref sig .tc .vmem S160x128 .bf16) (arg19 : Memref sig .tc .vmem S160x128 .bf16) (arg28 : Memref sig .tc .vmem S8x32x128 .f32) (arg29 : Memref sig .tc .vmem S8x32x128 .f32) (arg30 : Memref sig .tc .vmem S512x128 .bf16) (arg31 : Memref sig .tc .vmem S128x512 .f32) (arg32 : Memref sig .tc .vmem S256x128 .f32) : sProp 𝕄 :=
  iprop((∃ z, owns (c : Thread nD τ) arg17 fullShare z) ∗ (∃ z, owns (c : Thread nD τ) arg18 fullShare z) ∗ (∃ z, owns (c : Thread nD τ) arg19 fullShare z) ∗ (∃ z, owns (c : Thread nD τ) arg28 fullShare z) ∗ (∃ z, owns (c : Thread nD τ) arg29 fullShare z) ∗ (∃ z, owns (c : Thread nD τ) arg30 fullShare z) ∗ (∃ z, owns (c : Thread nD τ) arg31 fullShare z) ∗ (∃ z, owns (c : Thread nD τ) arg32 fullShare z))

/-- The first result's block: at the last chunk of a batch, the scaled accumulator. -/
abbrev DqV (c : Dev nD) (i : grid0.Coords) (arg16 : Memref sig .tc .vmem S1x8192x128 .bf16) (x11 : Vec Ideal S1x16x512 .f32) (A : Vec Ideal S8x128x1024 .f32) : sProp 𝕄 :=
  iprop(∃ z, ⌜k0_cond4 i = 1#1 → z = dqS A (dscS x11)⌝ ∗ owns (c : Thread nD τ) arg16 fullShare z)

/-- A chunk's share added to the accumulator, if the chunk has a slot in use. -/
def ctxN (i : grid0.Coords) (v1 : Elt Ideal .i32) (x7 : Vec Ideal S1x4096x128 .fp8e4m3) (x8 : Vec Ideal S1x4096x128 .fp8e4m3) (x9 : Vec Ideal S1x8x512 .f32) (x10 : Vec Ideal S1x8x512 .f32) (x0 : Vec Ideal S1x8192x128 .bf16) (x1 : Vec Ideal S1x8192x128 .bf16) (x2 : Vec Ideal S1x8192x128 .fp8e5m2) (x12 : Vec Ideal S1x16x512 .f32) (A : Vec Ideal S8x128x1024 .f32) : Vec Ideal S8x128x1024 .f32 :=
  if cond0_2 i v1 then fun y => (A y + ctxAdd (afS (BitVec.ofNat 32 (i 1).val) v1 x9) (k0_pay553 (F := Ideal) (BitVec.ofNat 32 (i 1).val) v1 x9) (k0_pay704 (F := Ideal) x10) x7 x8 (qaugS x0 x12) (dotS x2) (dsumS x1 x2) (y 0) (y 1) (y 2) : EReal) else A

set_option maxHeartbeats 1000000 in
/-- The prefix write-out run: what it stores into stays at some contents. -/
theorem preV_run (c : Dev nD) (E : Set ℕ) (K : PUnit.{1} → sProp 𝕄) (i : grid0.Coords) (arg3 : Memref sig .tc .vmem S1x8192x128 .bf16) (harg3 : arg3.IsWhole) (arg4 : Memref sig .tc .vmem S1x8192x128 .bf16) (harg4 : arg4.IsWhole) (arg5 : Memref sig .tc .vmem S1x8192x128 .fp8e5m2) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S160x128 .bf16) (harg8 : arg8.IsWhole) (arg9 : Memref sig .tc .vmem S160x128 .bf16) (harg9 : arg9.IsWhole) (arg10 : Memref sig .tc .vmem S1x4096x128 .fp8e4m3) (harg10 : arg10.IsWhole) (arg11 : Memref sig .tc .vmem S1x4096x128 .fp8e4m3) (harg11 : arg11.IsWhole) (arg12 : Memref sig .tc .vmem S1x8x512 .f32) (harg12 : arg12.IsWhole) (arg13 : Memref sig .tc .vmem S1x8x512 .f32) (harg13 : arg13.IsWhole) (arg14 : Memref sig .tc .vmem S1x16x512 .f32) (harg14 : arg14.IsWhole) (arg15 : Memref sig .tc .vmem S1x16x512 .f32) (harg15 : arg15.IsWhole) (arg16 : Memref sig .tc .vmem S1x8192x128 .bf16) (harg16 : arg16.IsWhole) (arg17 : Memref sig .tc .vmem S1x20x16x512 .f32) (harg17 : arg17.IsWhole) (arg18 : Memref sig .tc .vmem S160x128 .bf16) (harg18 : arg18.IsWhole) (arg19 : Memref sig .tc .vmem S160x128 .bf16) (harg19 : arg19.IsWhole) (arg20 : Memref sig .tc .vmem S8x256x1024 .bf16) (harg20 : arg20.IsWhole) (arg21 : Memref sig .tc .vmem S8x128x1024 .fp8e5m2) (harg21 : arg21.IsWhole) (arg22 : Memref sig .tc .vmem S8x128x1024 .bf16) (harg22 : arg22.IsWhole) (arg23 : Memref sig .tc .vmem S8x128x1024 .f32) (harg23 : arg23.IsWhole) (arg24 : Memref sig .tc .vmem S8x1x1024 .f32) (harg24 : arg24.IsWhole) (arg25 : Memref sig .tc .vmem S8x1x1024 .f32) (harg25 : arg25.IsWhole) (arg26 : Memref sig .tc .vmem S128x2x128 .bf16) (harg26 : arg26.IsWhole) (arg27 : Memref sig .tc .vmem S128x2x128 .bf16) (harg27 : arg27.IsWhole) (arg28 : Memref sig .tc .vmem S8x32x128 .f32) (harg28 : arg28.IsWhole) (arg29 : Memref sig .tc .vmem S8x32x128 .f32) (harg29 : arg29.IsWhole) (arg30 : Memref sig .tc .vmem S512x128 .bf16) (harg30 : arg30.IsWhole) (arg31 : Memref sig .tc .vmem S128x512 .f32) (harg31 : arg31.IsWhole) (arg32 : Memref sig .tc .vmem S256x128 .f32) (harg32 : arg32.IsWhole) (jp : PUnit.{1} → PR) :
    iprop(((∃ z, owns (c : Thread nD τ) arg18 fullShare z) ∗ (∃ z, owns (c : Thread nD τ) arg19 fullShare z) ∗ (∃ z, owns (c : Thread nD τ) arg28 fullShare z) ∗ (∃ z, owns (c : Thread nD τ) arg29 fullShare z) ∗ (∃ z, owns (c : Thread nD τ) arg32 fullShare z)) ∗ (((∃ z, owns (c : Thread nD τ) arg18 fullShare z) ∗ (∃ z, owns (c : Thread nD τ) arg19 fullShare z) ∗ (∃ z, owns (c : Thread nD τ) arg28 fullShare z) ∗ (∃ z, owns (c : Thread nD τ) arg29 fullShare z) ∗ (∃ z, owns (c : Thread nD τ) arg32 fullShare z)) -∗ wp frame (wpE (defs₀ (F := Ideal)) Variants.none c none) E (jp ⟨⟩) K))
      ⊢ (wp frame (wpE (defs₀ (F := Ideal)) Variants.none c none) E (preB (F := Ideal) i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 jp) K : sProp 𝕄) := by
  unfold preB owns
  iintro ⟨⟨⟨%d18, %f18, -, H18⟩, ⟨%d19, %f19, -, H19⟩, ⟨%d28, %f28, -, H28⟩, ⟨%d29, %f29, -, H29⟩, ⟨%d32, %f32, -, H32⟩⟩, Hk⟩
  sl_exec (disch := fail)
  iapply Hk
  isplitl [H18]
  · iexists _; iexists _; isplitr
    swap; · iexact H18
    ipureintro; rfl
  isplitl [H19]
  · iexists _; iexists _; isplitr
    swap; · iexact H19
    ipureintro; rfl
  isplitl [H28]
  · iexists _; iexists _; isplitr
    swap; · iexact H28
    ipureintro; rfl
  isplitl [H29]
  · iexists _; iexists _; isplitr
    swap; · iexact H29
    ipureintro; rfl
  · iexists _; iexists _; isplitr
    swap; · iexact H32
    ipureintro; rfl

set_option maxHeartbeats 1000000 in
/-- The write-outs. -/
theorem val_fromEpi (c : Dev nD) (E : Set ℕ) (K : PUnit.{1} → sProp 𝕄) (i : grid0.Coords) (arg3 : Memref sig .tc .vmem S1x8192x128 .bf16) (harg3 : arg3.IsWhole) (arg4 : Memref sig .tc .vmem S1x8192x128 .bf16) (harg4 : arg4.IsWhole) (arg5 : Memref sig .tc .vmem S1x8192x128 .fp8e5m2) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S160x128 .bf16) (harg8 : arg8.IsWhole) (arg9 : Memref sig .tc .vmem S160x128 .bf16) (harg9 : arg9.IsWhole) (arg10 : Memref sig .tc .vmem S1x4096x128 .fp8e4m3) (harg10 : arg10.IsWhole) (arg11 : Memref sig .tc .vmem S1x4096x128 .fp8e4m3) (harg11 : arg11.IsWhole) (arg12 : Memref sig .tc .vmem S1x8x512 .f32) (harg12 : arg12.IsWhole) (arg13 : Memref sig .tc .vmem S1x8x512 .f32) (harg13 : arg13.IsWhole) (arg14 : Memref sig .tc .vmem S1x16x512 .f32) (harg14 : arg14.IsWhole) (arg15 : Memref sig .tc .vmem S1x16x512 .f32) (harg15 : arg15.IsWhole) (arg16 : Memref sig .tc .vmem S1x8192x128 .bf16) (harg16 : arg16.IsWhole) (arg17 : Memref sig .tc .vmem S1x20x16x512 .f32) (harg17 : arg17.IsWhole) (arg18 : Memref sig .tc .vmem S160x128 .bf16) (harg18 : arg18.IsWhole) (arg19 : Memref sig .tc .vmem S160x128 .bf16) (harg19 : arg19.IsWhole) (arg20 : Memref sig .tc .vmem S8x256x1024 .bf16) (harg20 : arg20.IsWhole) (arg21 : Memref sig .tc .vmem S8x128x1024 .fp8e5m2) (harg21 : arg21.IsWhole) (arg22 : Memref sig .tc .vmem S8x128x1024 .bf16) (harg22 : arg22.IsWhole) (arg23 : Memref sig .tc .vmem S8x128x1024 .f32) (harg23 : arg23.IsWhole) (arg24 : Memref sig .tc .vmem S8x1x1024 .f32) (harg24 : arg24.IsWhole) (arg25 : Memref sig .tc .vmem S8x1x1024 .f32) (harg25 : arg25.IsWhole) (arg26 : Memref sig .tc .vmem S128x2x128 .bf16) (harg26 : arg26.IsWhole) (arg27 : Memref sig .tc .vmem S128x2x128 .bf16) (harg27 : arg27.IsWhole) (arg28 : Memref sig .tc .vmem S8x32x128 .f32) (harg28 : arg28.IsWhole) (arg29 : Memref sig .tc .vmem S8x32x128 .f32) (harg29 : arg29.IsWhole) (arg30 : Memref sig .tc .vmem S512x128 .bf16) (harg30 : arg30.IsWhole) (arg31 : Memref sig .tc .vmem S128x512 .f32) (harg31 : arg31.IsWhole) (arg32 : Memref sig .tc .vmem S256x128 .f32) (harg32 : arg32.IsWhole) (x0 : Vec Ideal S1x8192x128 .bf16) (x1 : Vec Ideal S1x8192x128 .bf16) (x2 : Vec Ideal S1x8192x128 .fp8e5m2) (x3 : Vec Ideal S1x4096x128 .bf16) (x4 : Vec Ideal S1x4096x128 .bf16) (x5 : Vec Ideal S160x128 .bf16) (x6 : Vec Ideal S160x128 .bf16) (x7 : Vec Ideal S1x4096x128 .fp8e4m3) (x8 : Vec Ideal S1x4096x128 .fp8e4m3) (x9 : Vec Ideal S1x8x512 .f32) (x10 : Vec Ideal S1x8x512 .f32) (x11 : Vec Ideal S1x16x512 .f32) (x12 : Vec Ideal S1x16x512 .f32) (A : Vec Ideal S8x128x1024 .f32) :
    iprop(SV c arg20 arg21 arg22 arg23 arg24 arg25 arg26 arg27 x0 x1 x2 x5 x6 x11 x12 A ∗ (∃ z, owns (c : Thread nD τ) arg16 fullShare z) ∗ ExV c arg17 arg18 arg19 arg28 arg29 arg30 arg31 arg32 ∗ (SV c arg20 arg21 arg22 arg23 arg24 arg25 arg26 arg27 x0 x1 x2 x5 x6 x11 x12 A -∗ DqV c i arg16 x11 A -∗ ExV c arg17 arg18 arg19 arg28 arg29 arg30 arg31 arg32 -∗ K ⟨⟩))
      ⊢ (wp frame (wpE (defs₀ (F := Ideal)) Variants.none c none) E (fromEpi (F := Ideal) i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) K : sProp 𝕄) := by
  unfold fromEpi
  by_cases h : k0_cond4 i = 1#1
  · rw [if_pos h, epiB_eq]
    iintro ⟨⟨H20, H21, H22, H23, H24, H25, H26, H27⟩, ⟨%x16, H16⟩, HE, Hk⟩
    iapply epiP_run c E K arg16 harg16 arg23 harg23 arg25 harg25 x16 A (dscS x11) _
    isplitl [H23 H25]
    · isplitl [H23]; · iexact H23
      iexact H25
    isplitl [H16]; · iexact H16
    iintro ⟨H23, H25⟩ H16
    ihave HD : DqV c i arg16 x11 A $$ [H16]
    · iexists _; isplitr; · ipureintro; exact fun _ => rfl
      iexact H16
    by_cases h' : k0_cond5 i = 1#1
    · rw [if_pos h']
      icases HE with ⟨H17, H18, H19, H28, H29, H30, H31, H32⟩
      iapply preV_run c E K i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 _
      isplitl [H18 H19 H28 H29 H32]
      · isplitl [H18]; · iexact H18
        isplitl [H19]; · iexact H19
        isplitl [H28]; · iexact H28
        isplitl [H29]; · iexact H29
        iexact H32
      iintro ⟨H18, H19, H28, H29, H32⟩
      sl_step
      iapply Hk $$ [H20 H21 H22 H23 H24 H25 H26 H27] HD
      isplitl [H20]
      · iexact H20
      isplitl [H21]
      · iexact H21
      isplitl [H22]
      · iexact H22
      isplitl [H23]
      · iexact H23
      isplitl [H24]
      · iexact H24
      isplitl [H25]
      · iexact H25
      isplitl [H26]
      · iexact H26
      · iexact H27
      isplitl [H17]
      · iexact H17
      isplitl [H18]
      · iexact H18
      isplitl [H19]
      · iexact H19
      isplitl [H28]
      · iexact H28
      isplitl [H29]
      · iexact H29
      isplitl [H30]
      · iexact H30
      isplitl [H31]
      · iexact H31
      · iexact H32
    · rw [if_neg h']
      sl_step
      iapply Hk $$ [H20 H21 H22 H23 H24 H25 H26 H27] HD HE
      isplitl [H20]
      · iexact H20
      isplitl [H21]
      · iexact H21
      isplitl [H22]
      · iexact H22
      isplitl [H23]
      · iexact H23
      isplitl [H24]
      · iexact H24
      isplitl [H25]
      · iexact H25
      isplitl [H26]
      · iexact H26
      · iexact H27
  · rw [if_neg h]
    iintro ⟨HS, ⟨%x16, H16⟩, HE, Hk⟩
    sl_step
    iapply Hk $$ HS [H16] HE
    iexists x16; isplitr; · ipureintro; exact fun h' => absurd h' h
    iexact H16

set_option maxHeartbeats 1000000 in
/-- The chunk, then the write-outs. -/
theorem val_fromCtx (c : Dev nD) (E : Set ℕ) (K : PUnit.{1} → sProp 𝕄) (i : grid0.Coords) (arg3 : Memref sig .tc .vmem S1x8192x128 .bf16) (harg3 : arg3.IsWhole) (arg4 : Memref sig .tc .vmem S1x8192x128 .bf16) (harg4 : arg4.IsWhole) (arg5 : Memref sig .tc .vmem S1x8192x128 .fp8e5m2) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S160x128 .bf16) (harg8 : arg8.IsWhole) (arg9 : Memref sig .tc .vmem S160x128 .bf16) (harg9 : arg9.IsWhole) (arg10 : Memref sig .tc .vmem S1x4096x128 .fp8e4m3) (harg10 : arg10.IsWhole) (arg11 : Memref sig .tc .vmem S1x4096x128 .fp8e4m3) (harg11 : arg11.IsWhole) (arg12 : Memref sig .tc .vmem S1x8x512 .f32) (harg12 : arg12.IsWhole) (arg13 : Memref sig .tc .vmem S1x8x512 .f32) (harg13 : arg13.IsWhole) (arg14 : Memref sig .tc .vmem S1x16x512 .f32) (harg14 : arg14.IsWhole) (arg15 : Memref sig .tc .vmem S1x16x512 .f32) (harg15 : arg15.IsWhole) (arg16 : Memref sig .tc .vmem S1x8192x128 .bf16) (harg16 : arg16.IsWhole) (arg17 : Memref sig .tc .vmem S1x20x16x512 .f32) (harg17 : arg17.IsWhole) (arg18 : Memref sig .tc .vmem S160x128 .bf16) (harg18 : arg18.IsWhole) (arg19 : Memref sig .tc .vmem S160x128 .bf16) (harg19 : arg19.IsWhole) (arg20 : Memref sig .tc .vmem S8x256x1024 .bf16) (harg20 : arg20.IsWhole) (arg21 : Memref sig .tc .vmem S8x128x1024 .fp8e5m2) (harg21 : arg21.IsWhole) (arg22 : Memref sig .tc .vmem S8x128x1024 .bf16) (harg22 : arg22.IsWhole) (arg23 : Memref sig .tc .vmem S8x128x1024 .f32) (harg23 : arg23.IsWhole) (arg24 : Memref sig .tc .vmem S8x1x1024 .f32) (harg24 : arg24.IsWhole) (arg25 : Memref sig .tc .vmem S8x1x1024 .f32) (harg25 : arg25.IsWhole) (arg26 : Memref sig .tc .vmem S128x2x128 .bf16) (harg26 : arg26.IsWhole) (arg27 : Memref sig .tc .vmem S128x2x128 .bf16) (harg27 : arg27.IsWhole) (arg28 : Memref sig .tc .vmem S8x32x128 .f32) (harg28 : arg28.IsWhole) (arg29 : Memref sig .tc .vmem S8x32x128 .f32) (harg29 : arg29.IsWhole) (arg30 : Memref sig .tc .vmem S512x128 .bf16) (harg30 : arg30.IsWhole) (arg31 : Memref sig .tc .vmem S128x512 .f32) (harg31 : arg31.IsWhole) (arg32 : Memref sig .tc .vmem S256x128 .f32) (harg32 : arg32.IsWhole) (x0 : Vec Ideal S1x8192x128 .bf16) (x1 : Vec Ideal S1x8192x128 .bf16) (x2 : Vec Ideal S1x8192x128 .fp8e5m2) (x3 : Vec Ideal S1x4096x128 .bf16) (x4 : Vec Ideal S1x4096x128 .bf16) (x5 : Vec Ideal S160x128 .bf16) (x6 : Vec Ideal S160x128 .bf16) (x7 : Vec Ideal S1x4096x128 .fp8e4m3) (x8 : Vec Ideal S1x4096x128 .fp8e4m3) (x9 : Vec Ideal S1x8x512 .f32) (x10 : Vec Ideal S1x8x512 .f32) (x11 : Vec Ideal S1x16x512 .f32) (x12 : Vec Ideal S1x16x512 .f32) (A : Vec Ideal S8x128x1024 .f32) (v1 : Elt Ideal .i32) :
    iprop(InsV c arg3 arg4 arg5 arg6 arg7 arg8 arg9 arg10 arg11 arg12 arg13 arg14 arg15 x0 x1 x2 x3 x4 x5 x6 x7 x8 x9 x10 x11 x12 ∗ SV c arg20 arg21 arg22 arg23 arg24 arg25 arg26 arg27 x0 x1 x2 x5 x6 x11 x12 A ∗ (∃ z, owns (c : Thread nD τ) arg16 fullShare z) ∗ ExV c arg17 arg18 arg19 arg28 arg29 arg30 arg31 arg32 ∗ (InsV c arg3 arg4 arg5 arg6 arg7 arg8 arg9 arg10 arg11 arg12 arg13 arg14 arg15 x0 x1 x2 x3 x4 x5 x6 x7 x8 x9 x10 x11 x12 -∗ SV c arg20 arg21 arg22 arg23 arg24 arg25 arg26 arg27 x0 x1 x2 x5 x6 x11 x12 (ctxN i v1 x7 x8 x9 x10 x0 x1 x2 x12 A) -∗ DqV c i arg16 x11 (ctxN i v1 x7 x8 x9 x10 x0 x1 x2 x12 A) -∗ ExV c arg17 arg18 arg19 arg28 arg29 arg30 arg31 arg32 -∗ K ⟨⟩))
      ⊢ (wp frame (wpE (defs₀ (F := Ideal)) Variants.none c none) E (fromCtx (F := Ideal) i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1) K : sProp 𝕄) := by
  unfold fromCtx
  by_cases h : cond0_2 i v1
  · rw [if_pos h, ctxB_eq]
    iintro ⟨⟨H3, H4, H5, H6, H7, H8, H9, H10, H11, H12, H13, H14, H15⟩, ⟨H20, H21, H22, H23, H24, H25, H26, H27⟩, HG, ⟨H17, H18, H19, H28, H29, ⟨%x30, H30⟩, ⟨%x31, H31⟩, H32⟩, Hk⟩
    iapply ctxP_run c E K i arg10 harg10 arg11 harg11 arg12 harg12 arg13 harg13 arg20 harg20 arg21 harg21 arg23 harg23 arg24 harg24 arg30 harg30 arg31 harg31 v1 x7 x8 x9 x10 (qaugS x0 x12) (dotS x2) A (dsumS x1 x2) x30 x31 _
    isplitl [H10 H11 H12 H13]
    · isplitl [H10]; · iexact H10
      isplitl [H11]; · iexact H11
      isplitl [H12]; · iexact H12
      iexact H13
    isplitl [H20 H21 H24]
    · isplitl [H20]; · iexact H20
      isplitl [H21]; · iexact H21
      iexact H24
    isplitl [H23]; · iexact H23
    isplitl [H30]; · iexact H30
    isplitl [H31]; · iexact H31
    iintro ⟨H10, H11, H12, H13⟩ ⟨H20, H21, H24⟩ ⟨%z, %hz, H23⟩ H30 H31
    obtain rfl : z = (ctxN i v1 x7 x8 x9 x10 x0 x1 x2 x12 A) := by
      unfold ctxN
      rw [if_pos h]
      exact funext (all_ix3 fun a b d => hz a b d)
    iapply val_fromEpi c E K i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 _
    isplitl [H20 H21 H22 H23 H24 H25 H26 H27]
    · isplitl [H20]; · iexact H20
      isplitl [H21]; · iexact H21
      isplitl [H22]; · iexact H22
      isplitl [H23]; · iexact H23
      isplitl [H24]; · iexact H24
      isplitl [H25]; · iexact H25
      isplitl [H26]; · iexact H26
      iexact H27
    isplitl [HG]; · iexact HG
    isplitl [H17 H18 H19 H28 H29 H30 H31 H32]
    · isplitl [H17]; · iexact H17
      isplitl [H18]; · iexact H18
      isplitl [H19]; · iexact H19
      isplitl [H28]; · iexact H28
      isplitl [H29]; · iexact H29
      isplitl [H30]; · iexact H30
      isplitl [H31]; · iexact H31
      iexact H32
    iintro HS HD HE
    iapply Hk $$ [H3 H4 H5 H6 H7 H8 H9 H10 H11 H12 H13 H14 H15] HS HD HE
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · rw [if_neg h]
    have e : (ctxN i v1 x7 x8 x9 x10 x0 x1 x2 x12 A) = A := by unfold ctxN; rw [if_neg h]
    rw [e]
    iintro ⟨HI, HS, HG, HE, Hk⟩
    iapply val_fromEpi c E K i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 A
    isplitl [HS]; · iexact HS
    isplitl [HG]; · iexact HG
    isplitl [HE]; · iexact HE
    iapply Hk $$ HI

set_option maxHeartbeats 1000000 in
/-- The preparation, from any scratch whose tables are padded. -/
theorem val_pro (c : Dev nD) (E : Set ℕ) (K : PUnit.{1} → sProp 𝕄) (i : grid0.Coords) (arg3 : Memref sig .tc .vmem S1x8192x128 .bf16) (harg3 : arg3.IsWhole) (arg4 : Memref sig .tc .vmem S1x8192x128 .bf16) (harg4 : arg4.IsWhole) (arg5 : Memref sig .tc .vmem S1x8192x128 .fp8e5m2) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S160x128 .bf16) (harg8 : arg8.IsWhole) (arg9 : Memref sig .tc .vmem S160x128 .bf16) (harg9 : arg9.IsWhole) (arg10 : Memref sig .tc .vmem S1x4096x128 .fp8e4m3) (harg10 : arg10.IsWhole) (arg11 : Memref sig .tc .vmem S1x4096x128 .fp8e4m3) (harg11 : arg11.IsWhole) (arg12 : Memref sig .tc .vmem S1x8x512 .f32) (harg12 : arg12.IsWhole) (arg13 : Memref sig .tc .vmem S1x8x512 .f32) (harg13 : arg13.IsWhole) (arg14 : Memref sig .tc .vmem S1x16x512 .f32) (harg14 : arg14.IsWhole) (arg15 : Memref sig .tc .vmem S1x16x512 .f32) (harg15 : arg15.IsWhole) (arg16 : Memref sig .tc .vmem S1x8192x128 .bf16) (harg16 : arg16.IsWhole) (arg17 : Memref sig .tc .vmem S1x20x16x512 .f32) (harg17 : arg17.IsWhole) (arg18 : Memref sig .tc .vmem S160x128 .bf16) (harg18 : arg18.IsWhole) (arg19 : Memref sig .tc .vmem S160x128 .bf16) (harg19 : arg19.IsWhole) (arg20 : Memref sig .tc .vmem S8x256x1024 .bf16) (harg20 : arg20.IsWhole) (arg21 : Memref sig .tc .vmem S8x128x1024 .fp8e5m2) (harg21 : arg21.IsWhole) (arg22 : Memref sig .tc .vmem S8x128x1024 .bf16) (harg22 : arg22.IsWhole) (arg23 : Memref sig .tc .vmem S8x128x1024 .f32) (harg23 : arg23.IsWhole) (arg24 : Memref sig .tc .vmem S8x1x1024 .f32) (harg24 : arg24.IsWhole) (arg25 : Memref sig .tc .vmem S8x1x1024 .f32) (harg25 : arg25.IsWhole) (arg26 : Memref sig .tc .vmem S128x2x128 .bf16) (harg26 : arg26.IsWhole) (arg27 : Memref sig .tc .vmem S128x2x128 .bf16) (harg27 : arg27.IsWhole) (arg28 : Memref sig .tc .vmem S8x32x128 .f32) (harg28 : arg28.IsWhole) (arg29 : Memref sig .tc .vmem S8x32x128 .f32) (harg29 : arg29.IsWhole) (arg30 : Memref sig .tc .vmem S512x128 .bf16) (harg30 : arg30.IsWhole) (arg31 : Memref sig .tc .vmem S128x512 .f32) (harg31 : arg31.IsWhole) (arg32 : Memref sig .tc .vmem S256x128 .f32) (harg32 : arg32.IsWhole) (x0 : Vec Ideal S1x8192x128 .bf16) (x1 : Vec Ideal S1x8192x128 .bf16) (x2 : Vec Ideal S1x8192x128 .fp8e5m2) (x3 : Vec Ideal S1x4096x128 .bf16) (x4 : Vec Ideal S1x4096x128 .bf16) (x5 : Vec Ideal S160x128 .bf16) (x6 : Vec Ideal S160x128 .bf16) (x7 : Vec Ideal S1x4096x128 .fp8e4m3) (x8 : Vec Ideal S1x4096x128 .fp8e4m3) (x9 : Vec Ideal S1x8x512 .f32) (x10 : Vec Ideal S1x8x512 .f32) (x11 : Vec Ideal S1x16x512 .f32) (x12 : Vec Ideal S1x16x512 .f32) (jp : PUnit.{1} → PR) :
    iprop(InsV c arg3 arg4 arg5 arg6 arg7 arg8 arg9 arg10 arg11 arg12 arg13 arg14 arg15 x0 x1 x2 x3 x4 x5 x6 x7 x8 x9 x10 x11 x12 ∗ ((∃ z, owns (c : Thread nD τ) arg20 fullShare z) ∗ (∃ z, owns (c : Thread nD τ) arg21 fullShare z) ∗ (∃ z, owns (c : Thread nD τ) arg22 fullShare z) ∗ (∃ z, owns (c : Thread nD τ) arg23 fullShare z) ∗ (∃ z, owns (c : Thread nD τ) arg24 fullShare z) ∗ (∃ z, owns (c : Thread nD τ) arg25 fullShare z)) ∗ (owns (c : Thread nD τ) arg26 fullShare (padP x5) ∗ owns (c : Thread nD τ) arg27 fullShare (padP x6)) ∗ ExV c arg17 arg18 arg19 arg28 arg29 arg30 arg31 arg32 ∗ (InsV c arg3 arg4 arg5 arg6 arg7 arg8 arg9 arg10 arg11 arg12 arg13 arg14 arg15 x0 x1 x2 x3 x4 x5 x6 x7 x8 x9 x10 x11 x12 -∗ SV c arg20 arg21 arg22 arg23 arg24 arg25 arg26 arg27 x0 x1 x2 x5 x6 x11 x12 (acc0S (padP x5) (padP x6) x3 x4 x0 x1 x2 x12) -∗ ExV c arg17 arg18 arg19 arg28 arg29 arg30 arg31 arg32 -∗ wp frame (wpE (defs₀ (F := Ideal)) Variants.none c none) E (jp ⟨⟩) K))
      ⊢ (wp frame (wpE (defs₀ (F := Ideal)) Variants.none c none) E (proB (F := Ideal) i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 jp) K : sProp 𝕄) := by
  rw [proB_eq]
  iintro ⟨⟨H3, H4, H5, H6, H7, H8, H9, H10, H11, H12, H13, H14, H15⟩, ⟨⟨%z20, H20⟩, ⟨%z21, H21⟩, ⟨%z22, H22⟩, ⟨%z23, H23⟩, ⟨%z24, H24⟩, ⟨%z25, H25⟩⟩, ⟨H26, H27⟩, ⟨⟨%z17, H17⟩, H18, H19, ⟨%z28, H28⟩, ⟨%z29, H29⟩, H30, H31, H32⟩, Hk⟩
  iapply proP_run c E K arg3 harg3 arg4 harg4 arg5 harg5 arg6 harg6 arg7 harg7 arg14 harg14 arg15 harg15 arg17 harg17 arg20 harg20 arg21 harg21 arg22 harg22 arg23 harg23 arg24 harg24 arg25 harg25 arg26 harg26 arg27 harg27 arg28 harg28 arg29 harg29 x0 x1 x3 x4 x11 x12 (padP x5) (padP x6) x2 _
  isplitl [H3 H4 H6 H7 H14 H15 H26 H27]
  · isplitl [H3]; · iexact H3
    isplitl [H4]; · iexact H4
    isplitl [H6]; · iexact H6
    isplitl [H7]; · iexact H7
    isplitl [H14]; · iexact H14
    isplitl [H15]; · iexact H15
    isplitl [H26]; · iexact H26
    iexact H27
  isplitl [H5]; · iexact H5
  isplitl [H17 H20 H21 H22 H23 H24 H25 H28 H29]
  · unfold St
    iexists z17; iexists z20; iexists z21; iexists z22; iexists z23; iexists z24; iexists z25; iexists z28; iexists z29
    isplitr
    · ipureintro
      exact ⟨fun _ h => absurd h (Nat.not_lt_zero _), fun _ h => absurd h (Nat.not_lt_zero _), fun _ h => absurd h (Nat.not_lt_zero _), fun _ h => absurd h (Nat.not_lt_zero _), fun _ h => absurd h (Nat.not_lt_zero _), fun _ h => absurd h (Nat.not_lt_zero _)⟩
    isplitl [H17]; · iexact H17
    isplitl [H20]; · iexact H20
    isplitl [H21]; · iexact H21
    isplitl [H22]; · iexact H22
    isplitl [H23]; · iexact H23
    isplitl [H24]; · iexact H24
    isplitl [H25]; · iexact H25
    isplitl [H28]; · iexact H28
    iexact H29
  iintro ⟨H3, H4, H6, H7, H14, H15, H26, H27⟩ H5 Hs
  unfold St
  icases Hs with ⟨%w17, %w20, %w21, %w22, %w23, %w24, %w25, %w28, %w29, %hw, H17, H20, H21, H22, H23, H24, H25, H28, H29⟩
  obtain ⟨e20, e21, e22, e23, e24, e25⟩ := hw
  obtain rfl := funext fun y => e20 y (y 0).isLt
  obtain rfl := funext fun y => e21 y (y 0).isLt
  obtain rfl := funext fun y => e22 y (y 0).isLt
  obtain rfl := funext fun y => e23 y (y 0).isLt
  obtain rfl := funext fun y => e24 y (y 0).isLt
  obtain rfl := funext fun y => e25 y (y 0).isLt
  iapply Hk $$ [H3 H4 H5 H6 H7 H8 H9 H10 H11 H12 H13 H14 H15] [H20 H21 H22 H23 H24 H25 H26 H27]
  · isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · isplitl [H20]; · iexact H20
    isplitl [H21]; · iexact H21
    isplitl [H22]; · iexact H22
    isplitl [H23]; · iexact H23
    isplitl [H24]; · iexact H24
    isplitl [H25]; · iexact H25
    isplitl [H26]; · iexact H26
    iexact H27
  isplitl [H17]; · iexists _; iexact H17
  isplitl [H18]; · iexact H18
  isplitl [H19]; · iexact H19
  isplitl [H28]; · iexists _; iexact H28
  isplitl [H29]; · iexists _; iexact H29
  isplitl [H30]; · iexact H30
  isplitl [H31]; · iexact H31
  iexact H32

/-- The body once the context length is read. -/
def bodyR (i : grid0.Coords) (arg3 : Memref sig .tc .vmem S1x8192x128 .bf16) (harg3 : arg3.IsWhole) (arg4 : Memref sig .tc .vmem S1x8192x128 .bf16) (harg4 : arg4.IsWhole) (arg5 : Memref sig .tc .vmem S1x8192x128 .fp8e5m2) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S160x128 .bf16) (harg8 : arg8.IsWhole) (arg9 : Memref sig .tc .vmem S160x128 .bf16) (harg9 : arg9.IsWhole) (arg10 : Memref sig .tc .vmem S1x4096x128 .fp8e4m3) (harg10 : arg10.IsWhole) (arg11 : Memref sig .tc .vmem S1x4096x128 .fp8e4m3) (harg11 : arg11.IsWhole) (arg12 : Memref sig .tc .vmem S1x8x512 .f32) (harg12 : arg12.IsWhole) (arg13 : Memref sig .tc .vmem S1x8x512 .f32) (harg13 : arg13.IsWhole) (arg14 : Memref sig .tc .vmem S1x16x512 .f32) (harg14 : arg14.IsWhole) (arg15 : Memref sig .tc .vmem S1x16x512 .f32) (harg15 : arg15.IsWhole) (arg16 : Memref sig .tc .vmem S1x8192x128 .bf16) (harg16 : arg16.IsWhole) (arg17 : Memref sig .tc .vmem S1x20x16x512 .f32) (harg17 : arg17.IsWhole) (arg18 : Memref sig .tc .vmem S160x128 .bf16) (harg18 : arg18.IsWhole) (arg19 : Memref sig .tc .vmem S160x128 .bf16) (harg19 : arg19.IsWhole) (arg20 : Memref sig .tc .vmem S8x256x1024 .bf16) (harg20 : arg20.IsWhole) (arg21 : Memref sig .tc .vmem S8x128x1024 .fp8e5m2) (harg21 : arg21.IsWhole) (arg22 : Memref sig .tc .vmem S8x128x1024 .bf16) (harg22 : arg22.IsWhole) (arg23 : Memref sig .tc .vmem S8x128x1024 .f32) (harg23 : arg23.IsWhole) (arg24 : Memref sig .tc .vmem S8x1x1024 .f32) (harg24 : arg24.IsWhole) (arg25 : Memref sig .tc .vmem S8x1x1024 .f32) (harg25 : arg25.IsWhole) (arg26 : Memref sig .tc .vmem S128x2x128 .bf16) (harg26 : arg26.IsWhole) (arg27 : Memref sig .tc .vmem S128x2x128 .bf16) (harg27 : arg27.IsWhole) (arg28 : Memref sig .tc .vmem S8x32x128 .f32) (harg28 : arg28.IsWhole) (arg29 : Memref sig .tc .vmem S8x32x128 .f32) (harg29 : arg29.IsWhole) (arg30 : Memref sig .tc .vmem S512x128 .bf16) (harg30 : arg30.IsWhole) (arg31 : Memref sig .tc .vmem S128x512 .f32) (harg31 : arg31.IsWhole) (arg32 : Memref sig .tc .vmem S256x128 .f32) (harg32 : arg32.IsWhole) (v1 : Elt Ideal .i32) : PR :=
  if k0_cond1 i = 1#1 then proA (F := Ideal) i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 (fun _ => fromCtx i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1) else fromCtx i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1

set_option maxHeartbeats 1000000 in
/-- At the first point: the tables are padded first. -/
theorem val_first (c : Dev nD) (E : Set ℕ) (K : PUnit.{1} → sProp 𝕄) (i : grid0.Coords) (arg3 : Memref sig .tc .vmem S1x8192x128 .bf16) (harg3 : arg3.IsWhole) (arg4 : Memref sig .tc .vmem S1x8192x128 .bf16) (harg4 : arg4.IsWhole) (arg5 : Memref sig .tc .vmem S1x8192x128 .fp8e5m2) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S160x128 .bf16) (harg8 : arg8.IsWhole) (arg9 : Memref sig .tc .vmem S160x128 .bf16) (harg9 : arg9.IsWhole) (arg10 : Memref sig .tc .vmem S1x4096x128 .fp8e4m3) (harg10 : arg10.IsWhole) (arg11 : Memref sig .tc .vmem S1x4096x128 .fp8e4m3) (harg11 : arg11.IsWhole) (arg12 : Memref sig .tc .vmem S1x8x512 .f32) (harg12 : arg12.IsWhole) (arg13 : Memref sig .tc .vmem S1x8x512 .f32) (harg13 : arg13.IsWhole) (arg14 : Memref sig .tc .vmem S1x16x512 .f32) (harg14 : arg14.IsWhole) (arg15 : Memref sig .tc .vmem S1x16x512 .f32) (harg15 : arg15.IsWhole) (arg16 : Memref sig .tc .vmem S1x8192x128 .bf16) (harg16 : arg16.IsWhole) (arg17 : Memref sig .tc .vmem S1x20x16x512 .f32) (harg17 : arg17.IsWhole) (arg18 : Memref sig .tc .vmem S160x128 .bf16) (harg18 : arg18.IsWhole) (arg19 : Memref sig .tc .vmem S160x128 .bf16) (harg19 : arg19.IsWhole) (arg20 : Memref sig .tc .vmem S8x256x1024 .bf16) (harg20 : arg20.IsWhole) (arg21 : Memref sig .tc .vmem S8x128x1024 .fp8e5m2) (harg21 : arg21.IsWhole) (arg22 : Memref sig .tc .vmem S8x128x1024 .bf16) (harg22 : arg22.IsWhole) (arg23 : Memref sig .tc .vmem S8x128x1024 .f32) (harg23 : arg23.IsWhole) (arg24 : Memref sig .tc .vmem S8x1x1024 .f32) (harg24 : arg24.IsWhole) (arg25 : Memref sig .tc .vmem S8x1x1024 .f32) (harg25 : arg25.IsWhole) (arg26 : Memref sig .tc .vmem S128x2x128 .bf16) (harg26 : arg26.IsWhole) (arg27 : Memref sig .tc .vmem S128x2x128 .bf16) (harg27 : arg27.IsWhole) (arg28 : Memref sig .tc .vmem S8x32x128 .f32) (harg28 : arg28.IsWhole) (arg29 : Memref sig .tc .vmem S8x32x128 .f32) (harg29 : arg29.IsWhole) (arg30 : Memref sig .tc .vmem S512x128 .bf16) (harg30 : arg30.IsWhole) (arg31 : Memref sig .tc .vmem S128x512 .f32) (harg31 : arg31.IsWhole) (arg32 : Memref sig .tc .vmem S256x128 .f32) (harg32 : arg32.IsWhole) (x0 : Vec Ideal S1x8192x128 .bf16) (x1 : Vec Ideal S1x8192x128 .bf16) (x2 : Vec Ideal S1x8192x128 .fp8e5m2) (x3 : Vec Ideal S1x4096x128 .bf16) (x4 : Vec Ideal S1x4096x128 .bf16) (x5 : Vec Ideal S160x128 .bf16) (x6 : Vec Ideal S160x128 .bf16) (x7 : Vec Ideal S1x4096x128 .fp8e4m3) (x8 : Vec Ideal S1x4096x128 .fp8e4m3) (x9 : Vec Ideal S1x8x512 .f32) (x10 : Vec Ideal S1x8x512 .f32) (x11 : Vec Ideal S1x16x512 .f32) (x12 : Vec Ideal S1x16x512 .f32) (v1 : Elt Ideal .i32) (h0 : k0_cond1 i = 1#1) (h1 : cond0_1 i) :
    iprop(InsV c arg3 arg4 arg5 arg6 arg7 arg8 arg9 arg10 arg11 arg12 arg13 arg14 arg15 x0 x1 x2 x3 x4 x5 x6 x7 x8 x9 x10 x11 x12 ∗ ((∃ z, owns (c : Thread nD τ) arg20 fullShare z) ∗ (∃ z, owns (c : Thread nD τ) arg21 fullShare z) ∗ (∃ z, owns (c : Thread nD τ) arg22 fullShare z) ∗ (∃ z, owns (c : Thread nD τ) arg23 fullShare z) ∗ (∃ z, owns (c : Thread nD τ) arg24 fullShare z) ∗ (∃ z, owns (c : Thread nD τ) arg25 fullShare z) ∗ (∃ z, owns (c : Thread nD τ) arg26 fullShare z) ∗ (∃ z, owns (c : Thread nD τ) arg27 fullShare z)) ∗ (∃ z, owns (c : Thread nD τ) arg16 fullShare z) ∗ ExV c arg17 arg18 arg19 arg28 arg29 arg30 arg31 arg32 ∗ (InsV c arg3 arg4 arg5 arg6 arg7 arg8 arg9 arg10 arg11 arg12 arg13 arg14 arg15 x0 x1 x2 x3 x4 x5 x6 x7 x8 x9 x10 x11 x12 -∗ SV c arg20 arg21 arg22 arg23 arg24 arg25 arg26 arg27 x0 x1 x2 x5 x6 x11 x12 (ctxN i v1 x7 x8 x9 x10 x0 x1 x2 x12 (acc0S (padP x5) (padP x6) x3 x4 x0 x1 x2 x12)) -∗ DqV c i arg16 x11 (ctxN i v1 x7 x8 x9 x10 x0 x1 x2 x12 (acc0S (padP x5) (padP x6) x3 x4 x0 x1 x2 x12)) -∗ ExV c arg17 arg18 arg19 arg28 arg29 arg30 arg31 arg32 -∗ K ⟨⟩))
      ⊢ (wp frame (wpE (defs₀ (F := Ideal)) Variants.none c none) E (bodyR i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1) K : sProp 𝕄) := by
  unfold bodyR
  rw [if_pos h0, proA_eq, if_pos h1, initB_eq]
  iintro ⟨⟨H3, H4, H5, H6, H7, H8, H9, H10, H11, H12, H13, H14, H15⟩, ⟨H20, H21, H22, H23, H24, H25, ⟨%z26, H26⟩, ⟨%z27, H27⟩⟩, HG, ⟨H17, H18, H19, ⟨%z28, H28⟩, ⟨%z29, H29⟩, H30, H31, H32⟩, Hk⟩
  iapply initP_run c E K arg8 harg8 arg9 harg9 arg26 harg26 arg27 harg27 arg28 harg28 arg29 harg29 x5 x6 z26 z27 z28 z29 _
  isplitl [H8 H9]
  · isplitl [H8]; · iexact H8
    iexact H9
  isplitl [H26]; · iexact H26
  isplitl [H27]; · iexact H27
  isplitl [H28]; · iexact H28
  isplitl [H29]; · iexact H29
  iintro ⟨H8, H9⟩ H26 H27 H28 H29
  iapply val_pro c E K i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 _
  isplitl [H3 H4 H5 H6 H7 H8 H9 H10 H11 H12 H13 H14 H15]
  · isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  isplitl [H20 H21 H22 H23 H24 H25]
  · isplitl [H20]; · iexact H20
    isplitl [H21]; · iexact H21
    isplitl [H22]; · iexact H22
    isplitl [H23]; · iexact H23
    isplitl [H24]; · iexact H24
    iexact H25
  isplitl [H26 H27]
  · isplitl [H26]; · iexact H26
    iexact H27
  isplitl [H17 H18 H19 H28 H29 H30 H31 H32]
  · isplitl [H17]; · iexact H17
    isplitl [H18]; · iexact H18
    isplitl [H19]; · iexact H19
    isplitl [H28]; · iexact H28
    isplitl [H29]; · iexact H29
    isplitl [H30]; · iexact H30
    isplitl [H31]; · iexact H31
    iexact H32
  iintro HI HS HE
  iapply val_fromCtx c E K i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 _ v1
  isplitl [HI]; · iexact HI
  isplitl [HS]; · iexact HS
  isplitl [HG]; · iexact HG
  isplitl [HE]; · iexact HE
  iexact Hk

set_option maxHeartbeats 1000000 in
/-- At a later batch's first point. -/
theorem val_start (c : Dev nD) (E : Set ℕ) (K : PUnit.{1} → sProp 𝕄) (i : grid0.Coords) (arg3 : Memref sig .tc .vmem S1x8192x128 .bf16) (harg3 : arg3.IsWhole) (arg4 : Memref sig .tc .vmem S1x8192x128 .bf16) (harg4 : arg4.IsWhole) (arg5 : Memref sig .tc .vmem S1x8192x128 .fp8e5m2) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S160x128 .bf16) (harg8 : arg8.IsWhole) (arg9 : Memref sig .tc .vmem S160x128 .bf16) (harg9 : arg9.IsWhole) (arg10 : Memref sig .tc .vmem S1x4096x128 .fp8e4m3) (harg10 : arg10.IsWhole) (arg11 : Memref sig .tc .vmem S1x4096x128 .fp8e4m3) (harg11 : arg11.IsWhole) (arg12 : Memref sig .tc .vmem S1x8x512 .f32) (harg12 : arg12.IsWhole) (arg13 : Memref sig .tc .vmem S1x8x512 .f32) (harg13 : arg13.IsWhole) (arg14 : Memref sig .tc .vmem S1x16x512 .f32) (harg14 : arg14.IsWhole) (arg15 : Memref sig .tc .vmem S1x16x512 .f32) (harg15 : arg15.IsWhole) (arg16 : Memref sig .tc .vmem S1x8192x128 .bf16) (harg16 : arg16.IsWhole) (arg17 : Memref sig .tc .vmem S1x20x16x512 .f32) (harg17 : arg17.IsWhole) (arg18 : Memref sig .tc .vmem S160x128 .bf16) (harg18 : arg18.IsWhole) (arg19 : Memref sig .tc .vmem S160x128 .bf16) (harg19 : arg19.IsWhole) (arg20 : Memref sig .tc .vmem S8x256x1024 .bf16) (harg20 : arg20.IsWhole) (arg21 : Memref sig .tc .vmem S8x128x1024 .fp8e5m2) (harg21 : arg21.IsWhole) (arg22 : Memref sig .tc .vmem S8x128x1024 .bf16) (harg22 : arg22.IsWhole) (arg23 : Memref sig .tc .vmem S8x128x1024 .f32) (harg23 : arg23.IsWhole) (arg24 : Memref sig .tc .vmem S8x1x1024 .f32) (harg24 : arg24.IsWhole) (arg25 : Memref sig .tc .vmem S8x1x1024 .f32) (harg25 : arg25.IsWhole) (arg26 : Memref sig .tc .vmem S128x2x128 .bf16) (harg26 : arg26.IsWhole) (arg27 : Memref sig .tc .vmem S128x2x128 .bf16) (harg27 : arg27.IsWhole) (arg28 : Memref sig .tc .vmem S8x32x128 .f32) (harg28 : arg28.IsWhole) (arg29 : Memref sig .tc .vmem S8x32x128 .f32) (harg29 : arg29.IsWhole) (arg30 : Memref sig .tc .vmem S512x128 .bf16) (harg30 : arg30.IsWhole) (arg31 : Memref sig .tc .vmem S128x512 .f32) (harg31 : arg31.IsWhole) (arg32 : Memref sig .tc .vmem S256x128 .f32) (harg32 : arg32.IsWhole) (x0 : Vec Ideal S1x8192x128 .bf16) (x1 : Vec Ideal S1x8192x128 .bf16) (x2 : Vec Ideal S1x8192x128 .fp8e5m2) (x3 : Vec Ideal S1x4096x128 .bf16) (x4 : Vec Ideal S1x4096x128 .bf16) (x5 : Vec Ideal S160x128 .bf16) (x6 : Vec Ideal S160x128 .bf16) (x7 : Vec Ideal S1x4096x128 .fp8e4m3) (x8 : Vec Ideal S1x4096x128 .fp8e4m3) (x9 : Vec Ideal S1x8x512 .f32) (x10 : Vec Ideal S1x8x512 .f32) (x11 : Vec Ideal S1x16x512 .f32) (x12 : Vec Ideal S1x16x512 .f32) (v1 : Elt Ideal .i32) (h0 : k0_cond1 i = 1#1) (h1 : ¬ cond0_1 i) :
    iprop(InsV c arg3 arg4 arg5 arg6 arg7 arg8 arg9 arg10 arg11 arg12 arg13 arg14 arg15 x0 x1 x2 x3 x4 x5 x6 x7 x8 x9 x10 x11 x12 ∗ (((∃ z, owns (c : Thread nD τ) arg20 fullShare z) ∗ (∃ z, owns (c : Thread nD τ) arg21 fullShare z) ∗ (∃ z, owns (c : Thread nD τ) arg22 fullShare z) ∗ (∃ z, owns (c : Thread nD τ) arg23 fullShare z) ∗ (∃ z, owns (c : Thread nD τ) arg24 fullShare z) ∗ (∃ z, owns (c : Thread nD τ) arg25 fullShare z)) ∗ (owns (c : Thread nD τ) arg26 fullShare (padP x5) ∗ owns (c : Thread nD τ) arg27 fullShare (padP x6))) ∗ (∃ z, owns (c : Thread nD τ) arg16 fullShare z) ∗ ExV c arg17 arg18 arg19 arg28 arg29 arg30 arg31 arg32 ∗ (InsV c arg3 arg4 arg5 arg6 arg7 arg8 arg9 arg10 arg11 arg12 arg13 arg14 arg15 x0 x1 x2 x3 x4 x5 x6 x7 x8 x9 x10 x11 x12 -∗ SV c arg20 arg21 arg22 arg23 arg24 arg25 arg26 arg27 x0 x1 x2 x5 x6 x11 x12 (ctxN i v1 x7 x8 x9 x10 x0 x1 x2 x12 (acc0S (padP x5) (padP x6) x3 x4 x0 x1 x2 x12)) -∗ DqV c i arg16 x11 (ctxN i v1 x7 x8 x9 x10 x0 x1 x2 x12 (acc0S (padP x5) (padP x6) x3 x4 x0 x1 x2 x12)) -∗ ExV c arg17 arg18 arg19 arg28 arg29 arg30 arg31 arg32 -∗ K ⟨⟩))
      ⊢ (wp frame (wpE (defs₀ (F := Ideal)) Variants.none c none) E (bodyR i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1) K : sProp 𝕄) := by
  unfold bodyR
  rw [if_pos h0, proA_eq, if_neg h1]
  iintro ⟨HI, ⟨HX, HP⟩, HG, HE, Hk⟩
  iapply val_pro c E K i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 _
  isplitl [HI]; · iexact HI
  isplitl [HX]; · iexact HX
  isplitl [HP]; · iexact HP
  isplitl [HE]; · iexact HE
  iintro HI HS HE
  iapply val_fromCtx c E K i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 _ v1
  isplitl [HI]; · iexact HI
  isplitl [HS]; · iexact HS
  isplitl [HG]; · iexact HG
  isplitl [HE]; · iexact HE
  iexact Hk

/-- At any other point. -/
theorem val_next (c : Dev nD) (E : Set ℕ) (K : PUnit.{1} → sProp 𝕄) (i : grid0.Coords) (arg3 : Memref sig .tc .vmem S1x8192x128 .bf16) (harg3 : arg3.IsWhole) (arg4 : Memref sig .tc .vmem S1x8192x128 .bf16) (harg4 : arg4.IsWhole) (arg5 : Memref sig .tc .vmem S1x8192x128 .fp8e5m2) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S160x128 .bf16) (harg8 : arg8.IsWhole) (arg9 : Memref sig .tc .vmem S160x128 .bf16) (harg9 : arg9.IsWhole) (arg10 : Memref sig .tc .vmem S1x4096x128 .fp8e4m3) (harg10 : arg10.IsWhole) (arg11 : Memref sig .tc .vmem S1x4096x128 .fp8e4m3) (harg11 : arg11.IsWhole) (arg12 : Memref sig .tc .vmem S1x8x512 .f32) (harg12 : arg12.IsWhole) (arg13 : Memref sig .tc .vmem S1x8x512 .f32) (harg13 : arg13.IsWhole) (arg14 : Memref sig .tc .vmem S1x16x512 .f32) (harg14 : arg14.IsWhole) (arg15 : Memref sig .tc .vmem S1x16x512 .f32) (harg15 : arg15.IsWhole) (arg16 : Memref sig .tc .vmem S1x8192x128 .bf16) (harg16 : arg16.IsWhole) (arg17 : Memref sig .tc .vmem S1x20x16x512 .f32) (harg17 : arg17.IsWhole) (arg18 : Memref sig .tc .vmem S160x128 .bf16) (harg18 : arg18.IsWhole) (arg19 : Memref sig .tc .vmem S160x128 .bf16) (harg19 : arg19.IsWhole) (arg20 : Memref sig .tc .vmem S8x256x1024 .bf16) (harg20 : arg20.IsWhole) (arg21 : Memref sig .tc .vmem S8x128x1024 .fp8e5m2) (harg21 : arg21.IsWhole) (arg22 : Memref sig .tc .vmem S8x128x1024 .bf16) (harg22 : arg22.IsWhole) (arg23 : Memref sig .tc .vmem S8x128x1024 .f32) (harg23 : arg23.IsWhole) (arg24 : Memref sig .tc .vmem S8x1x1024 .f32) (harg24 : arg24.IsWhole) (arg25 : Memref sig .tc .vmem S8x1x1024 .f32) (harg25 : arg25.IsWhole) (arg26 : Memref sig .tc .vmem S128x2x128 .bf16) (harg26 : arg26.IsWhole) (arg27 : Memref sig .tc .vmem S128x2x128 .bf16) (harg27 : arg27.IsWhole) (arg28 : Memref sig .tc .vmem S8x32x128 .f32) (harg28 : arg28.IsWhole) (arg29 : Memref sig .tc .vmem S8x32x128 .f32) (harg29 : arg29.IsWhole) (arg30 : Memref sig .tc .vmem S512x128 .bf16) (harg30 : arg30.IsWhole) (arg31 : Memref sig .tc .vmem S128x512 .f32) (harg31 : arg31.IsWhole) (arg32 : Memref sig .tc .vmem S256x128 .f32) (harg32 : arg32.IsWhole) (x0 : Vec Ideal S1x8192x128 .bf16) (x1 : Vec Ideal S1x8192x128 .bf16) (x2 : Vec Ideal S1x8192x128 .fp8e5m2) (x3 : Vec Ideal S1x4096x128 .bf16) (x4 : Vec Ideal S1x4096x128 .bf16) (x5 : Vec Ideal S160x128 .bf16) (x6 : Vec Ideal S160x128 .bf16) (x7 : Vec Ideal S1x4096x128 .fp8e4m3) (x8 : Vec Ideal S1x4096x128 .fp8e4m3) (x9 : Vec Ideal S1x8x512 .f32) (x10 : Vec Ideal S1x8x512 .f32) (x11 : Vec Ideal S1x16x512 .f32) (x12 : Vec Ideal S1x16x512 .f32) (A : Vec Ideal S8x128x1024 .f32) (v1 : Elt Ideal .i32) (h0 : ¬ k0_cond1 i = 1#1) :
    iprop(InsV c arg3 arg4 arg5 arg6 arg7 arg8 arg9 arg10 arg11 arg12 arg13 arg14 arg15 x0 x1 x2 x3 x4 x5 x6 x7 x8 x9 x10 x11 x12 ∗ SV c arg20 arg21 arg22 arg23 arg24 arg25 arg26 arg27 x0 x1 x2 x5 x6 x11 x12 A ∗ (∃ z, owns (c : Thread nD τ) arg16 fullShare z) ∗ ExV c arg17 arg18 arg19 arg28 arg29 arg30 arg31 arg32 ∗ (InsV c arg3 arg4 arg5 arg6 arg7 arg8 arg9 arg10 arg11 arg12 arg13 arg14 arg15 x0 x1 x2 x3 x4 x5 x6 x7 x8 x9 x10 x11 x12 -∗ SV c arg20 arg21 arg22 arg23 arg24 arg25 arg26 arg27 x0 x1 x2 x5 x6 x11 x12 (ctxN i v1 x7 x8 x9 x10 x0 x1 x2 x12 A) -∗ DqV c i arg16 x11 (ctxN i v1 x7 x8 x9 x10 x0 x1 x2 x12 A) -∗ ExV c arg17 arg18 arg19 arg28 arg29 arg30 arg31 arg32 -∗ K ⟨⟩))
      ⊢ (wp frame (wpE (defs₀ (F := Ideal)) Variants.none c none) E (bodyR i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1) K : sProp 𝕄) := by
  unfold bodyR
  rw [if_neg h0]
  exact val_fromCtx c E K i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 A v1

/-- The word the body reads from its table. -/
def TbV (c : Dev nD) (i : grid0.Coords) (xt : TbBuf0 (F := Ideal) c tbM0_0) : Elt Ideal .i32 :=
  View.readAt (Elt Ideal) tbM0_0.view (Rect.unit (s := S2) (k0_off1 i) S1.size (k0_off1_inb i)).toLoadRect xt (Shape.Idx.first (numel1_S1.symm ▸ Nat.one_pos))

theorem wp_tableV (c : Dev nD) (i : grid0.Coords) (xt0 : TbBuf0 (F := Ideal) c tbM0_0) (E : Set ℕ) (K : PUnit.{1} → sProp 𝕄) (k : Elt Ideal .i32 → PR) :
    iprop(tbPt0 c tbM0_0 xt0 ∗ (tbPt0 c tbM0_0 xt0 -∗ wp frame (wpE (defs₀ (F := Ideal)) Variants.none c none) E (k (TbV c i xt0)) K))
      ⊢ (wp frame (wpE (defs₀ (F := Ideal)) Variants.none c none) E (smemLoad tbM0_0 (Rect.unit (s := S2) (k0_off1 i) S1.size (k0_off1_inb i)) numel1_S1 rfl >>= k) K : sProp 𝕄) := by
  iintro ⟨HT0, Hk⟩
  sl_exec (disch := fail)
  unfold wp_tableV.sl.r
  iapply Hk
  iexact HT0

end Cert.KernelIdeal.Gen

end
-- ==== Proof.KernelIdeal.VBlk.lean ====
/- Where each block a grid point reads lies in the argument it comes from. -/
module

public import proofs.«01_k».proof.Proof.KernelIdeal.Tables
public import Idealize.ShloMosaic.Lib.Tactic
public import Idealize.ShloMosaic.Lib.Pointwise

@[expose] public section

set_option maxRecDepth 16384

noncomputable section

namespace Cert.KernelIdeal.Gen

open Idealize.ShloMosaic Idealize.ShloMosaic.TcCoe Idealize.ShloMosaic.Tactic
open Idealize.ShloMosaic.Pipeline (Dat Cfg Window BodyObligation cellOf)

variable (m : (ℓ : Loc nD τ sig) → Buf (Elt Ideal) ℓ)

/-- A tensor read at two indices of equal coordinates. -/
theorem vread {S : Shape} {e : EltTy} (x : Vec Ideal S e) (i j : S.Idx) (h : ∀ k : Fin S.rank, (i k).val = (j k).val) : x i = x j :=
  congrArg x (funext fun k => Fin.ext (h k))
theorem crd0 (t : Fin grid0.N) : (grid0.coords t 0).val = t.val / 8 % 2 := Pipeline.Grid.coords_val t 0 (by decide) rfl
theorem crd1 (t : Fin grid0.N) : (grid0.coords t 1).val = t.val / 1 % 8 := Pipeline.Grid.coords_val t 1 (by decide) rfl
/-- Two coordinates as one number and back. -/
theorem toNat_crd (n : ℕ) (h : n < 16) : (BitVec.ofNat 32 n).toNat = n := by rw [BitVec.toNat_ofNat]; omega

theorem toInt_eq (y : BitVec 32) (h : y.toNat < 2147483648) : y.toInt = y.toNat := BitVec.toInt_eq_toNat_of_lt (by omega)

/-- The chunk a live grid point reads is its own. -/
theorem chunk_live (c : ℕ) (hc : c < 8) (n : BitVec 32) (h1 : (512 * c : Int) < n.toInt) (h2 : n.toInt ≤ 2147483136) :
    (let v3 : BitVec 32 := Scalar.subi (Scalar.addi n 512#32) 1#32
     let v4 : BitVec 32 := Scalar.divsi v3 512#32
     let v9 : BitVec 32 := Scalar.subi (Scalar.extui (Scalar.cmpi .sgt v3 0#32)) (Scalar.extui (Scalar.cmpi .slt v3 0#32))
     let v14 : BitVec 32 := Scalar.subi (Scalar.extui (Scalar.cmpi .sgt 512#32 0#32)) (Scalar.extui (Scalar.cmpi .slt 512#32 0#32))
     let v18 : BitVec 1 := Scalar.andi (Scalar.cmpi .ne v9 v14) (Scalar.cmpi .ne (Scalar.remsi v3 512#32) 0#32)
     let v20 : BitVec 32 := Scalar.select v18 (Scalar.subi v4 1#32) v4
     (Scalar.minsi (BitVec.ofNat 32 c) (Scalar.maxsi (Scalar.subi v20 1#32) 0#32)).toNat) = c := by
  have hn : n.toNat < 2147483648 := by
    rw [BitVec.toInt_eq_toNat_cond] at h1
    split at h1 <;> omega
  rw [toInt_eq n hn] at h1 h2
  have hy : (Scalar.subi (Scalar.addi n 512#32) 1#32).toNat = n.toNat + 511 := by
    show (n + 512#32 - 1#32).toNat = _
    rw [BitVec.toNat_sub, BitVec.toNat_add]
    simp only [BitVec.toNat_ofNat]
    omega
  generalize (Scalar.subi (Scalar.addi n 512#32) 1#32) = y at hy
  have hyi : y.toInt = n.toNat + 511 := by rw [toInt_eq y (by omega), hy]; rfl
  have hs : Scalar.cmpi .sgt y 0#32 = 1#1 := by
    show BitVec.ofBool ((0#32).slt y) = 1#1
    have : (0#32).slt y = true := by rw [BitVec.slt_iff_toInt_lt, hyi]; show (0 : Int) < _; omega
    rw [this]; rfl
  have hl : Scalar.cmpi .slt y 0#32 = 0#1 := by
    show BitVec.ofBool (y.slt 0#32) = 0#1
    have : y.slt 0#32 = false := by rw [← Bool.not_eq_true, BitVec.slt_iff_toInt_lt, hyi]; show ¬ (_ < (0 : Int)); omega
    rw [this]; rfl
  have hd : (Scalar.divsi y 512#32).toNat = (n.toNat + 511) / 512 := by
    have hne : ¬ IntOp.SDivCorner y 512#32 := by
      rintro (h | ⟨_, h⟩)
      · exact absurd h (by decide)
      · exact absurd h (by decide)
    show (if IntOp.SDivCorner y 512#32 then _ else y.sdiv 512#32 : BitVec 32).toNat = _
    rw [if_neg hne]
    have hm : y.msb = false := by rw [BitVec.msb_eq_false_iff_two_mul_lt]; omega
    rw [BitVec.sdiv_eq, hm]
    show (y / 512#32).toNat = _
    rw [BitVec.toNat_udiv, hy]
    rfl
  have hz : ∀ z : BitVec 1, Scalar.select (Scalar.andi (Scalar.cmpi .ne (Scalar.subi (Scalar.extui (1#1 : BitVec 1)) (Scalar.extui (0#1 : BitVec 1))) (Scalar.subi (Scalar.extui (Scalar.cmpi .sgt 512#32 0#32)) (Scalar.extui (Scalar.cmpi .slt 512#32 0#32)) : BitVec 32)) z) (Scalar.subi (Scalar.divsi y 512#32) 1#32) (Scalar.divsi y 512#32) = Scalar.divsi y 512#32 := by
    intro z
    have : Scalar.andi (Scalar.cmpi .ne (Scalar.subi (Scalar.extui (1#1 : BitVec 1)) (Scalar.extui (0#1 : BitVec 1))) (Scalar.subi (Scalar.extui (Scalar.cmpi .sgt 512#32 0#32)) (Scalar.extui (Scalar.cmpi .slt 512#32 0#32)) : BitVec 32)) z = 0#1 := by
      revert z; decide
    rw [this]; rfl
  dsimp only
  rw [hs, hl, hz]
  generalize Scalar.divsi y 512#32 = w at hd
  have hw : (Scalar.subi w 1#32).toNat = (n.toNat + 511) / 512 - 1 := by
    show (w - 1#32).toNat = _
    rw [BitVec.toNat_sub, hd]
    simp only [BitVec.toNat_ofNat]
    omega
  generalize Scalar.subi w 1#32 = u at hw
  have hm : Scalar.maxsi u 0#32 = u := by
    unfold Scalar.maxsi IntOp.maxsi
    split
    · rfl
    · rename_i h
      rw [BitVec.slt_iff_toInt_lt, toInt_eq u (by omega)] at h
      apply BitVec.eq_of_toNat_eq
      have : ¬ (0 : Int) < u.toNat := h
      show 0 = u.toNat
      omega
  rw [hm]
  unfold Scalar.minsi IntOp.minsi
  split
  · exact toNat_crd c (by omega)
  · rename_i h
    rw [BitVec.slt_iff_toInt_lt, toInt_eq u (by omega), toInt_eq _ (by rw [toNat_crd c (by omega)]; omega), toNat_crd c (by omega)] at h
    omega

/-- A point is live when its chunk starts below the context's length. -/
theorem live_iff (i : grid0.Coords) (n : BitVec 32) : cond0_2 i n ↔ (512 * (i 1).val : Int) < n.toInt := by
  have hc : (i 1).val < 8 := (i 1).isLt
  unfold cond0_2
  have hm : (Scalar.muli (BitVec.ofNat 32 (i 1).val) 512#32).toNat = 512 * (i 1).val := by
    show (BitVec.ofNat 32 (i 1).val * 512#32).toNat = _
    rw [BitVec.toNat_mul, toNat_crd _ (by omega)]
    simp only [BitVec.toNat_ofNat]
    omega
  have hi : (Scalar.muli (BitVec.ofNat 32 (i 1).val) 512#32).toInt = 512 * (i 1).val := by rw [toInt_eq _ (by omega), hm]; push_cast; rfl
  rw [← hi, ← BitVec.slt_iff_toInt_lt]
  generalize Scalar.muli (BitVec.ofNat 32 (i 1).val) 512#32 = y
  have e : Scalar.cmpi .slt y n = BitVec.ofBool (y.slt n) := rfl
  rw [e]
  cases y.slt n <;> decide

theorem iblk0_eq (hO : Ok m) (c : Dev nD) (t : Fin (cfgM m hO).N) (b : Fin 2) (hb : b.val = t.val / 8) :
    (iblk m hO c 0 t : Vec Ideal S1x8192x128 .bf16) = fun (y : S1x8192x128.Idx) => (V m c main_v0 : Vec Ideal S2x8192x128 .bf16) (ix3 b (y 1) (y 2)) := by
  have ht : t.val < 16 := Nat.lt_of_lt_of_eq t.isLt N_0
  have e0 : (grid0.coords t 0).val = t.val / 8 % 2 := crd0 t
  funext (y : S1x8192x128.Idx)
  have hy : (y 0).val < 1 := (y 0).isLt
  unfold iblk
  refine vread (V m c main_v0 : Vec Ideal S2x8192x128 .bf16) _ _ (fun (k : Fin 3) => ?_)
  match k with
  | 0 =>
    show (BitVec.ofNat 32 (grid0.coords t 0).val).toNat * 1 + 1 * (y 0).val = b.val
    rw [toNat_crd _ (by omega)]
    omega
  | 1 => show 0 * 8192 + 1 * (y 1).val = (y 1).val; omega
  | 2 => show 0 * 128 + 1 * (y 2).val = (y 2).val; omega

theorem iblk1_eq (hO : Ok m) (c : Dev nD) (t : Fin (cfgM m hO).N) (b : Fin 2) (hb : b.val = t.val / 8) :
    (iblk m hO c 1 t : Vec Ideal S1x8192x128 .bf16) = fun (y : S1x8192x128.Idx) => (V m c main_v1 : Vec Ideal S2x8192x128 .bf16) (ix3 b (y 1) (y 2)) := by
  have ht : t.val < 16 := Nat.lt_of_lt_of_eq t.isLt N_0
  have e0 : (grid0.coords t 0).val = t.val / 8 % 2 := crd0 t
  funext (y : S1x8192x128.Idx)
  have hy : (y 0).val < 1 := (y 0).isLt
  unfold iblk
  refine vread (V m c main_v1 : Vec Ideal S2x8192x128 .bf16) _ _ (fun (k : Fin 3) => ?_)
  match k with
  | 0 =>
    show (BitVec.ofNat 32 (grid0.coords t 0).val).toNat * 1 + 1 * (y 0).val = b.val
    rw [toNat_crd _ (by omega)]
    omega
  | 1 => show 0 * 8192 + 1 * (y 1).val = (y 1).val; omega
  | 2 => show 0 * 128 + 1 * (y 2).val = (y 2).val; omega

theorem iblk2_eq (hO : Ok m) (c : Dev nD) (t : Fin (cfgM m hO).N) (b : Fin 2) (hb : b.val = t.val / 8) :
    (iblk m hO c 2 t : Vec Ideal S1x8192x128 .fp8e5m2) = fun (y : S1x8192x128.Idx) => (V m c main_v2 : Vec Ideal S2x8192x128 .fp8e5m2) (ix3 b (y 1) (y 2)) := by
  have ht : t.val < 16 := Nat.lt_of_lt_of_eq t.isLt N_0
  have e0 : (grid0.coords t 0).val = t.val / 8 % 2 := crd0 t
  funext (y : S1x8192x128.Idx)
  have hy : (y 0).val < 1 := (y 0).isLt
  unfold iblk
  refine vread (V m c main_v2 : Vec Ideal S2x8192x128 .fp8e5m2) _ _ (fun (k : Fin 3) => ?_)
  match k with
  | 0 =>
    show (BitVec.ofNat 32 (grid0.coords t 0).val).toNat * 1 + 1 * (y 0).val = b.val
    rw [toNat_crd _ (by omega)]
    omega
  | 1 => show 0 * 8192 + 1 * (y 1).val = (y 1).val; omega
  | 2 => show 0 * 128 + 1 * (y 2).val = (y 2).val; omega

theorem iblk3_eq (hO : Ok m) (c : Dev nD) (t : Fin (cfgM m hO).N) (b : Fin 2) (hb : b.val = t.val / 8) :
    (iblk m hO c 3 t : Vec Ideal S1x4096x128 .bf16) = fun (y : S1x4096x128.Idx) => (V m c main_v3 : Vec Ideal S2x4096x128 .bf16) (ix3 b (y 1) (y 2)) := by
  have ht : t.val < 16 := Nat.lt_of_lt_of_eq t.isLt N_0
  have e0 : (grid0.coords t 0).val = t.val / 8 % 2 := crd0 t
  funext (y : S1x4096x128.Idx)
  have hy : (y 0).val < 1 := (y 0).isLt
  unfold iblk
  refine vread (V m c main_v3 : Vec Ideal S2x4096x128 .bf16) _ _ (fun (k : Fin 3) => ?_)
  match k with
  | 0 =>
    show (BitVec.ofNat 32 (grid0.coords t 0).val).toNat * 1 + 1 * (y 0).val = b.val
    rw [toNat_crd _ (by omega)]
    omega
  | 1 => show 0 * 4096 + 1 * (y 1).val = (y 1).val; omega
  | 2 => show 0 * 128 + 1 * (y 2).val = (y 2).val; omega

theorem iblk4_eq (hO : Ok m) (c : Dev nD) (t : Fin (cfgM m hO).N) (b : Fin 2) (hb : b.val = t.val / 8) :
    (iblk m hO c 4 t : Vec Ideal S1x4096x128 .bf16) = fun (y : S1x4096x128.Idx) => (V m c main_v4 : Vec Ideal S2x4096x128 .bf16) (ix3 b (y 1) (y 2)) := by
  have ht : t.val < 16 := Nat.lt_of_lt_of_eq t.isLt N_0
  have e0 : (grid0.coords t 0).val = t.val / 8 % 2 := crd0 t
  funext (y : S1x4096x128.Idx)
  have hy : (y 0).val < 1 := (y 0).isLt
  unfold iblk
  refine vread (V m c main_v4 : Vec Ideal S2x4096x128 .bf16) _ _ (fun (k : Fin 3) => ?_)
  match k with
  | 0 =>
    show (BitVec.ofNat 32 (grid0.coords t 0).val).toNat * 1 + 1 * (y 0).val = b.val
    rw [toNat_crd _ (by omega)]
    omega
  | 1 => show 0 * 4096 + 1 * (y 1).val = (y 1).val; omega
  | 2 => show 0 * 128 + 1 * (y 2).val = (y 2).val; omega

theorem iblk11_eq (hO : Ok m) (c : Dev nD) (t : Fin (cfgM m hO).N) (b : Fin 2) (hb : b.val = t.val / 8) :
    (iblk m hO c 11 t : Vec Ideal S1x16x512 .f32) = fun (y : S1x16x512.Idx) => (V m c main_v11 : Vec Ideal S2x16x512 .f32) (ix3 b (y 1) (y 2)) := by
  have ht : t.val < 16 := Nat.lt_of_lt_of_eq t.isLt N_0
  have e0 : (grid0.coords t 0).val = t.val / 8 % 2 := crd0 t
  funext (y : S1x16x512.Idx)
  have hy : (y 0).val < 1 := (y 0).isLt
  unfold iblk
  refine vread (V m c main_v11 : Vec Ideal S2x16x512 .f32) _ _ (fun (k : Fin 3) => ?_)
  match k with
  | 0 =>
    show (BitVec.ofNat 32 (grid0.coords t 0).val).toNat * 1 + 1 * (y 0).val = b.val
    rw [toNat_crd _ (by omega)]
    omega
  | 1 => show 0 * 16 + 1 * (y 1).val = (y 1).val; omega
  | 2 => show 0 * 512 + 1 * (y 2).val = (y 2).val; omega

theorem iblk12_eq (hO : Ok m) (c : Dev nD) (t : Fin (cfgM m hO).N) (b : Fin 2) (hb : b.val = t.val / 8) :
    (iblk m hO c 12 t : Vec Ideal S1x16x512 .f32) = fun (y : S1x16x512.Idx) => (V m c main_arg12 : Vec Ideal S2x16x512 .f32) (ix3 b (y 1) (y 2)) := by
  have ht : t.val < 16 := Nat.lt_of_lt_of_eq t.isLt N_0
  have e0 : (grid0.coords t 0).val = t.val / 8 % 2 := crd0 t
  funext (y : S1x16x512.Idx)
  have hy : (y 0).val < 1 := (y 0).isLt
  unfold iblk
  refine vread (V m c main_arg12 : Vec Ideal S2x16x512 .f32) _ _ (fun (k : Fin 3) => ?_)
  match k with
  | 0 =>
    show (BitVec.ofNat 32 (grid0.coords t 0).val).toNat * 1 + 1 * (y 0).val = b.val
    rw [toNat_crd _ (by omega)]
    omega
  | 1 => show 0 * 16 + 1 * (y 1).val = (y 1).val; omega
  | 2 => show 0 * 512 + 1 * (y 2).val = (y 2).val; omega

theorem iblk5_eq (hO : Ok m) (c : Dev nD) (t : Fin (cfgM m hO).N) :
    (iblk m hO c 5 t : Vec Ideal S160x128 .bf16) = (V m c main_v5 : Vec Ideal S160x128 .bf16) := by
  funext (y : S160x128.Idx)
  unfold iblk
  refine vread (V m c main_v5 : Vec Ideal S160x128 .bf16) _ _ (fun (k : Fin 2) => ?_)
  match k with
  | 0 => show 0 * 160 + 1 * (y 0).val = (y 0).val; omega
  | 1 => show 0 * 128 + 1 * (y 1).val = (y 1).val; omega

theorem iblk6_eq (hO : Ok m) (c : Dev nD) (t : Fin (cfgM m hO).N) :
    (iblk m hO c 6 t : Vec Ideal S160x128 .bf16) = (V m c main_v6 : Vec Ideal S160x128 .bf16) := by
  funext (y : S160x128.Idx)
  unfold iblk
  refine vread (V m c main_v6 : Vec Ideal S160x128 .bf16) _ _ (fun (k : Fin 2) => ?_)
  match k with
  | 0 => show 0 * 160 + 1 * (y 0).val = (y 0).val; omega
  | 1 => show 0 * 128 + 1 * (y 1).val = (y 1).val; omega

/-- The table's word at a point is its batch's length. -/
theorem pfat_eq (c : Dev nD) (t : Fin grid0.N) (b : Fin 2) (hb : b.val = t.val / 8) :
    (tbl m).at 0 (Rect.unit (s := S2) ![(BitVec.ofNat 32 (grid0.coords t 0).val).toNat] S1.size (k0_off1_inb (grid0.coords t))) numel1_S1 = (V m c main_arg9 : IVec S2 32) (ix1 b) := by
  have ht : t.val < 16 := Nat.lt_of_lt_of_eq t.isLt N_0
  have e0 : (grid0.coords t 0).val = t.val / 8 % 2 := crd0 t
  obtain rfl : c = 0 := Subsingleton.elim _ _
  refine congrArg (V m 0 main_arg9 : IVec S2 32) (funext fun (k : Fin 1) => Fin.ext ?_)
  match k with
  | 0 =>
    show (BitVec.ofNat 32 (grid0.coords t 0).val).toNat + 1 * 0 = b.val
    rw [toNat_crd _ (by omega)]
    omega

/-- The chunk a live point's windows read. -/
theorem chunk_at (c : Dev nD) (t : Fin grid0.N) (b : Fin 2) (hb : b.val = t.val / 8)
    (h1 : (512 * (t.val % 8 : ℕ) : Int) < ((V m c main_arg9 : IVec S2 32) (ix1 b)).toInt) (h2 : ((V m c main_arg9 : IVec S2 32) (ix1 b)).toInt ≤ 2147483136) :
    cc0_transform_7 k0_off1_inb numel1_S1 (tbl m) (grid0.coords t) 1 = t.val % 8 := by
  have e1 : (grid0.coords t 1).val = t.val / 1 % 8 := crd1 t
  have h := chunk_live (t.val % 8) (by omega) _ h1 h2
  have e : (grid0.coords t 1).val = t.val % 8 := by rw [e1, Nat.div_one]
  rw [← pfat_eq m c t b hb, ← e] at h
  rw [← e]
  exact h

theorem iblk7_eq (hO : Ok m) (c : Dev nD) (t : Fin (cfgM m hO).N) (b : Fin 2) (hb : b.val = t.val / 8)
    (h1 : (512 * (t.val % 8 : ℕ) : Int) < ((V m c main_arg9 : IVec S2 32) (ix1 b)).toInt) (h2 : ((V m c main_arg9 : IVec S2 32) (ix1 b)).toInt ≤ 2147483136) :
    (iblk m hO c 7 t : Vec Ideal S1x4096x128 .fp8e4m3) = fun (y : S1x4096x128.Idx) => (V m c main_v7 : Vec Ideal S2x32768x128 .fp8e4m3) (ix3 b ⟨(t.val % 8) * 4096 + (y 1).val, by have : (y 1).val < 4096 := (y 1).isLt; omega⟩ (y 2)) := by
  have ht : t.val < 16 := Nat.lt_of_lt_of_eq t.isLt N_0
  have e0 : (grid0.coords t 0).val = t.val / 8 % 2 := crd0 t
  have e1 : (grid0.coords t 1).val = t.val / 1 % 8 := crd1 t
  funext (y : S1x4096x128.Idx)
  have hy : (y 0).val < 1 := (y 0).isLt
  have hch : cc0_transform_7 k0_off1_inb numel1_S1 (tbl m) (grid0.coords t) 1 = t.val % 8 := chunk_at m c t b hb h1 h2
  unfold iblk
  refine vread (V m c main_v7 : Vec Ideal S2x32768x128 .fp8e4m3) _ _ (fun (k : Fin 3) => ?_)
  match k with
  | 0 =>
    show (BitVec.ofNat 32 (grid0.coords t 0).val).toNat * 1 + 1 * (y 0).val = b.val
    rw [toNat_crd _ (by omega)]
    omega
  | 1 =>
    show cc0_transform_7 k0_off1_inb numel1_S1 (tbl m) (grid0.coords t) 1 * 4096 + 1 * (y 1).val = (t.val % 8) * 4096 + (y 1).val
    rw [hch, Nat.one_mul]
  | 2 => show 0 * 128 + 1 * (y 2).val = (y 2).val; omega

theorem iblk8_eq (hO : Ok m) (c : Dev nD) (t : Fin (cfgM m hO).N) (b : Fin 2) (hb : b.val = t.val / 8)
    (h1 : (512 * (t.val % 8 : ℕ) : Int) < ((V m c main_arg9 : IVec S2 32) (ix1 b)).toInt) (h2 : ((V m c main_arg9 : IVec S2 32) (ix1 b)).toInt ≤ 2147483136) :
    (iblk m hO c 8 t : Vec Ideal S1x4096x128 .fp8e4m3) = fun (y : S1x4096x128.Idx) => (V m c main_v8 : Vec Ideal S2x32768x128 .fp8e4m3) (ix3 b ⟨(t.val % 8) * 4096 + (y 1).val, by have : (y 1).val < 4096 := (y 1).isLt; omega⟩ (y 2)) := by
  have ht : t.val < 16 := Nat.lt_of_lt_of_eq t.isLt N_0
  have e0 : (grid0.coords t 0).val = t.val / 8 % 2 := crd0 t
  have e1 : (grid0.coords t 1).val = t.val / 1 % 8 := crd1 t
  funext (y : S1x4096x128.Idx)
  have hy : (y 0).val < 1 := (y 0).isLt
  have hch : cc0_transform_8 k0_off1_inb numel1_S1 (tbl m) (grid0.coords t) 1 = t.val % 8 := chunk_at m c t b hb h1 h2
  unfold iblk
  refine vread (V m c main_v8 : Vec Ideal S2x32768x128 .fp8e4m3) _ _ (fun (k : Fin 3) => ?_)
  match k with
  | 0 =>
    show (BitVec.ofNat 32 (grid0.coords t 0).val).toNat * 1 + 1 * (y 0).val = b.val
    rw [toNat_crd _ (by omega)]
    omega
  | 1 =>
    show cc0_transform_8 k0_off1_inb numel1_S1 (tbl m) (grid0.coords t) 1 * 4096 + 1 * (y 1).val = (t.val % 8) * 4096 + (y 1).val
    rw [hch, Nat.one_mul]
  | 2 => show 0 * 128 + 1 * (y 2).val = (y 2).val; omega

theorem iblk9_eq (hO : Ok m) (c : Dev nD) (t : Fin (cfgM m hO).N) (b : Fin 2) (hb : b.val = t.val / 8)
    (h1 : (512 * (t.val % 8 : ℕ) : Int) < ((V m c main_arg9 : IVec S2 32) (ix1 b)).toInt) (h2 : ((V m c main_arg9 : IVec S2 32) (ix1 b)).toInt ≤ 2147483136) :
    (iblk m hO c 9 t : Vec Ideal S1x8x512 .f32) = fun (y : S1x8x512.Idx) => (V m c main_v9 : Vec Ideal S2x8x4096 .f32) (ix3 b (y 1) ⟨(t.val % 8) * 512 + (y 2).val, by have : (y 2).val < 512 := (y 2).isLt; omega⟩) := by
  have ht : t.val < 16 := Nat.lt_of_lt_of_eq t.isLt N_0
  have e0 : (grid0.coords t 0).val = t.val / 8 % 2 := crd0 t
  have e1 : (grid0.coords t 1).val = t.val / 1 % 8 := crd1 t
  funext (y : S1x8x512.Idx)
  have hy : (y 0).val < 1 := (y 0).isLt
  have hch : cc0_transform_9 k0_off1_inb numel1_S1 (tbl m) (grid0.coords t) 2 = t.val % 8 := chunk_at m c t b hb h1 h2
  unfold iblk
  refine vread (V m c main_v9 : Vec Ideal S2x8x4096 .f32) _ _ (fun (k : Fin 3) => ?_)
  match k with
  | 0 =>
    show (BitVec.ofNat 32 (grid0.coords t 0).val).toNat * 1 + 1 * (y 0).val = b.val
    rw [toNat_crd _ (by omega)]
    omega
  | 1 => show 0 * 8 + 1 * (y 1).val = (y 1).val; omega
  | 2 =>
    show cc0_transform_9 k0_off1_inb numel1_S1 (tbl m) (grid0.coords t) 2 * 512 + 1 * (y 2).val = (t.val % 8) * 512 + (y 2).val
    rw [hch, Nat.one_mul]

theorem iblk10_eq (hO : Ok m) (c : Dev nD) (t : Fin (cfgM m hO).N) (b : Fin 2) (hb : b.val = t.val / 8)
    (h1 : (512 * (t.val % 8 : ℕ) : Int) < ((V m c main_arg9 : IVec S2 32) (ix1 b)).toInt) (h2 : ((V m c main_arg9 : IVec S2 32) (ix1 b)).toInt ≤ 2147483136) :
    (iblk m hO c 10 t : Vec Ideal S1x8x512 .f32) = fun (y : S1x8x512.Idx) => (V m c main_v10 : Vec Ideal S2x8x4096 .f32) (ix3 b (y 1) ⟨(t.val % 8) * 512 + (y 2).val, by have : (y 2).val < 512 := (y 2).isLt; omega⟩) := by
  have ht : t.val < 16 := Nat.lt_of_lt_of_eq t.isLt N_0
  have e0 : (grid0.coords t 0).val = t.val / 8 % 2 := crd0 t
  have e1 : (grid0.coords t 1).val = t.val / 1 % 8 := crd1 t
  funext (y : S1x8x512.Idx)
  have hy : (y 0).val < 1 := (y 0).isLt
  have hch : cc0_transform_10 k0_off1_inb numel1_S1 (tbl m) (grid0.coords t) 2 = t.val % 8 := chunk_at m c t b hb h1 h2
  unfold iblk
  refine vread (V m c main_v10 : Vec Ideal S2x8x4096 .f32) _ _ (fun (k : Fin 3) => ?_)
  match k with
  | 0 =>
    show (BitVec.ofNat 32 (grid0.coords t 0).val).toNat * 1 + 1 * (y 0).val = b.val
    rw [toNat_crd _ (by omega)]
    omega
  | 1 => show 0 * 8 + 1 * (y 1).val = (y 1).val; omega
  | 2 =>
    show cc0_transform_10 k0_off1_inb numel1_S1 (tbl m) (grid0.coords t) 2 * 512 + 1 * (y 2).val = (t.val % 8) * 512 + (y 2).val
    rw [hch, Nat.one_mul]

theorem Ve_main_v0 (c : Dev nD) : V m c main_v0 = shapeCast S2x8192x128 (m ((c : Thread nD τ).loc main_arg0) : Vec Ideal S2x512x16x128 .bf16) shapeCasts_S2x512x16x128_S2x8192x128 := by
  show StableHlo.after hostOps0 (fun b => m (c, b)) (Proc.devRef .tc main_v0) = _
  unfold hostOps0
  after_results_simp
  rfl

theorem cast_S2x8192x128_bf16 (x : Vec Ideal S2x512x16x128 .bf16) (b : Fin 2) (n : Fin 8192) (d : Fin 128) (i : Fin 512) (h : Fin 16) (hn : n.val = i.val * 16 + h.val) :
    shapeCast S2x8192x128 x shapeCasts_S2x512x16x128_S2x8192x128 (ix3 b n d) = x (ix4 b i h d) := by
  have e : ∀ (i' : Fin 512) (h' : Fin 16), i'.val = i.val → h'.val = h.val → x (ix4 b i' h' d) = x (ix4 b i h d) := by
    intro i' h' e1 e2
    obtain rfl := Fin.ext e1
    obtain rfl := Fin.ext e2
    rfl
  pointwise []
  exact e _ _ (by simp only []; omega) (by simp only []; omega)

theorem V_main_v0 (c : Dev nD) (b : Fin 2) (n : Fin 8192) (d : Fin 128) (i : Fin 512) (h : Fin 16) (hn : n.val = i.val * 16 + h.val) :
    (V m c main_v0 : Vec Ideal S2x8192x128 .bf16) (ix3 b n d) = (m ((c : Thread nD τ).loc main_arg0) : Vec Ideal S2x512x16x128 .bf16) (ix4 b i h d) := by
  rw [Ve_main_v0]
  exact cast_S2x8192x128_bf16 _ b n d i h hn

theorem Ve_main_v1 (c : Dev nD) : V m c main_v1 = shapeCast S2x8192x128 (m ((c : Thread nD τ).loc main_arg13) : Vec Ideal S2x512x16x128 .bf16) shapeCasts_S2x512x16x128_S2x8192x128 := by
  show StableHlo.after hostOps0 (fun b => m (c, b)) (Proc.devRef .tc main_v1) = _
  unfold hostOps0
  after_results_simp
  rfl

theorem V_main_v1 (c : Dev nD) (b : Fin 2) (n : Fin 8192) (d : Fin 128) (i : Fin 512) (h : Fin 16) (hn : n.val = i.val * 16 + h.val) :
    (V m c main_v1 : Vec Ideal S2x8192x128 .bf16) (ix3 b n d) = (m ((c : Thread nD τ).loc main_arg13) : Vec Ideal S2x512x16x128 .bf16) (ix4 b i h d) := by
  rw [Ve_main_v1]
  exact cast_S2x8192x128_bf16 _ b n d i h hn

theorem Ve_main_v2 (c : Dev nD) : V m c main_v2 = shapeCast S2x8192x128 (m ((c : Thread nD τ).loc main_arg10) : Vec Ideal S2x512x16x128 .fp8e5m2) shapeCasts_S2x512x16x128_S2x8192x128 := by
  show StableHlo.after hostOps0 (fun b => m (c, b)) (Proc.devRef .tc main_v2) = _
  unfold hostOps0
  after_results_simp
  rfl

theorem cast_S2x8192x128_e5 (x : Vec Ideal S2x512x16x128 .fp8e5m2) (b : Fin 2) (n : Fin 8192) (d : Fin 128) (i : Fin 512) (h : Fin 16) (hn : n.val = i.val * 16 + h.val) :
    shapeCast S2x8192x128 x shapeCasts_S2x512x16x128_S2x8192x128 (ix3 b n d) = x (ix4 b i h d) := by
  have e : ∀ (i' : Fin 512) (h' : Fin 16), i'.val = i.val → h'.val = h.val → x (ix4 b i' h' d) = x (ix4 b i h d) := by
    intro i' h' e1 e2
    obtain rfl := Fin.ext e1
    obtain rfl := Fin.ext e2
    rfl
  pointwise []
  exact e _ _ (by simp only []; omega) (by simp only []; omega)

theorem V_main_v2 (c : Dev nD) (b : Fin 2) (n : Fin 8192) (d : Fin 128) (i : Fin 512) (h : Fin 16) (hn : n.val = i.val * 16 + h.val) :
    (V m c main_v2 : Vec Ideal S2x8192x128 .fp8e5m2) (ix3 b n d) = (m ((c : Thread nD τ).loc main_arg10) : Vec Ideal S2x512x16x128 .fp8e5m2) (ix4 b i h d) := by
  rw [Ve_main_v2]
  exact cast_S2x8192x128_e5 _ b n d i h hn

theorem Ve_main_v3 (c : Dev nD) : V m c main_v3 = shapeCast S2x4096x128 (m ((c : Thread nD τ).loc main_arg1) : Vec Ideal S2x512x8x128 .bf16) shapeCasts_S2x512x8x128_S2x4096x128 := by
  show StableHlo.after hostOps0 (fun b => m (c, b)) (Proc.devRef .tc main_v3) = _
  unfold hostOps0
  after_results_simp
  rfl

theorem cast_S2x4096x128_bf16 (x : Vec Ideal S2x512x8x128 .bf16) (b : Fin 2) (n : Fin 4096) (d : Fin 128) (i : Fin 512) (h : Fin 8) (hn : n.val = i.val * 8 + h.val) :
    shapeCast S2x4096x128 x shapeCasts_S2x512x8x128_S2x4096x128 (ix3 b n d) = x (ix4 b i h d) := by
  have e : ∀ (i' : Fin 512) (h' : Fin 8), i'.val = i.val → h'.val = h.val → x (ix4 b i' h' d) = x (ix4 b i h d) := by
    intro i' h' e1 e2
    obtain rfl := Fin.ext e1
    obtain rfl := Fin.ext e2
    rfl
  pointwise []
  exact e _ _ (by simp only []; omega) (by simp only []; omega)

theorem V_main_v3 (c : Dev nD) (b : Fin 2) (n : Fin 4096) (d : Fin 128) (i : Fin 512) (h : Fin 8) (hn : n.val = i.val * 8 + h.val) :
    (V m c main_v3 : Vec Ideal S2x4096x128 .bf16) (ix3 b n d) = (m ((c : Thread nD τ).loc main_arg1) : Vec Ideal S2x512x8x128 .bf16) (ix4 b i h d) := by
  rw [Ve_main_v3]
  exact cast_S2x4096x128_bf16 _ b n d i h hn

theorem Ve_main_v4 (c : Dev nD) : V m c main_v4 = shapeCast S2x4096x128 (m ((c : Thread nD τ).loc main_arg2) : Vec Ideal S2x512x8x128 .bf16) shapeCasts_S2x512x8x128_S2x4096x128 := by
  show StableHlo.after hostOps0 (fun b => m (c, b)) (Proc.devRef .tc main_v4) = _
  unfold hostOps0
  after_results_simp
  rfl

theorem V_main_v4 (c : Dev nD) (b : Fin 2) (n : Fin 4096) (d : Fin 128) (i : Fin 512) (h : Fin 8) (hn : n.val = i.val * 8 + h.val) :
    (V m c main_v4 : Vec Ideal S2x4096x128 .bf16) (ix3 b n d) = (m ((c : Thread nD τ).loc main_arg2) : Vec Ideal S2x512x8x128 .bf16) (ix4 b i h d) := by
  rw [Ve_main_v4]
  exact cast_S2x4096x128_bf16 _ b n d i h hn

theorem Ve_main_v7 (c : Dev nD) : V m c main_v7 = shapeCast S2x32768x128 (m ((c : Thread nD τ).loc main_arg5) : Vec Ideal S2x4096x8x128 .fp8e4m3) shapeCasts_S2x4096x8x128_S2x32768x128 := by
  show StableHlo.after hostOps0 (fun b => m (c, b)) (Proc.devRef .tc main_v7) = _
  unfold hostOps0
  after_results_simp
  rfl

theorem cast_S2x32768x128_e4 (x : Vec Ideal S2x4096x8x128 .fp8e4m3) (b : Fin 2) (n : Fin 32768) (d : Fin 128) (i : Fin 4096) (h : Fin 8) (hn : n.val = i.val * 8 + h.val) :
    shapeCast S2x32768x128 x shapeCasts_S2x4096x8x128_S2x32768x128 (ix3 b n d) = x (ix4 b i h d) := by
  have e : ∀ (i' : Fin 4096) (h' : Fin 8), i'.val = i.val → h'.val = h.val → x (ix4 b i' h' d) = x (ix4 b i h d) := by
    intro i' h' e1 e2
    obtain rfl := Fin.ext e1
    obtain rfl := Fin.ext e2
    rfl
  pointwise []
  exact e _ _ (by simp only []; omega) (by simp only []; omega)

theorem V_main_v7 (c : Dev nD) (b : Fin 2) (n : Fin 32768) (d : Fin 128) (i : Fin 4096) (h : Fin 8) (hn : n.val = i.val * 8 + h.val) :
    (V m c main_v7 : Vec Ideal S2x32768x128 .fp8e4m3) (ix3 b n d) = (m ((c : Thread nD τ).loc main_arg5) : Vec Ideal S2x4096x8x128 .fp8e4m3) (ix4 b i h d) := by
  rw [Ve_main_v7]
  exact cast_S2x32768x128_e4 _ b n d i h hn

theorem Ve_main_v8 (c : Dev nD) : V m c main_v8 = shapeCast S2x32768x128 (m ((c : Thread nD τ).loc main_arg7) : Vec Ideal S2x4096x8x128 .fp8e4m3) shapeCasts_S2x4096x8x128_S2x32768x128 := by
  show StableHlo.after hostOps0 (fun b => m (c, b)) (Proc.devRef .tc main_v8) = _
  unfold hostOps0
  after_results_simp
  rfl

theorem V_main_v8 (c : Dev nD) (b : Fin 2) (n : Fin 32768) (d : Fin 128) (i : Fin 4096) (h : Fin 8) (hn : n.val = i.val * 8 + h.val) :
    (V m c main_v8 : Vec Ideal S2x32768x128 .fp8e4m3) (ix3 b n d) = (m ((c : Thread nD τ).loc main_arg7) : Vec Ideal S2x4096x8x128 .fp8e4m3) (ix4 b i h d) := by
  rw [Ve_main_v8]
  exact cast_S2x32768x128_e4 _ b n d i h hn

theorem cast_S160x128 (x : Vec Ideal S20x8x128 .bf16) (n : Fin 160) (d : Fin 128) (p : Fin 20) (g : Fin 8) (hn : n.val = p.val * 8 + g.val) :
    shapeCast S160x128 x shapeCasts_S20x8x128_S160x128 (ix2 n d) = x (ix3 p g d) := by
  have e : ∀ (i' : Fin 20) (h' : Fin 8), i'.val = p.val → h'.val = g.val → x (ix3 i' h' d) = x (ix3 p g d) := by
    intro i' h' e1 e2
    obtain rfl := Fin.ext e1
    obtain rfl := Fin.ext e2
    rfl
  pointwise []
  exact e _ _ (by simp only []; omega) (by simp only []; omega)

theorem Ve_main_v5 (c : Dev nD) : V m c main_v5 = shapeCast S160x128 (m ((c : Thread nD τ).loc main_arg3) : Vec Ideal S20x8x128 .bf16) shapeCasts_S20x8x128_S160x128 := by
  show StableHlo.after hostOps0 (fun b => m (c, b)) (Proc.devRef .tc main_v5) = _
  unfold hostOps0
  after_results_simp
  rfl

theorem V_main_v5 (c : Dev nD) (n : Fin 160) (d : Fin 128) (p : Fin 20) (g : Fin 8) (hn : n.val = p.val * 8 + g.val) :
    (V m c main_v5 : Vec Ideal S160x128 .bf16) (ix2 n d) = (m ((c : Thread nD τ).loc main_arg3) : Vec Ideal S20x8x128 .bf16) (ix3 p g d) := by
  rw [Ve_main_v5]
  exact cast_S160x128 _ n d p g hn

theorem Ve_main_v6 (c : Dev nD) : V m c main_v6 = shapeCast S160x128 (m ((c : Thread nD τ).loc main_arg4) : Vec Ideal S20x8x128 .bf16) shapeCasts_S20x8x128_S160x128 := by
  show StableHlo.after hostOps0 (fun b => m (c, b)) (Proc.devRef .tc main_v6) = _
  unfold hostOps0
  after_results_simp
  rfl

theorem V_main_v6 (c : Dev nD) (n : Fin 160) (d : Fin 128) (p : Fin 20) (g : Fin 8) (hn : n.val = p.val * 8 + g.val) :
    (V m c main_v6 : Vec Ideal S160x128 .bf16) (ix2 n d) = (m ((c : Thread nD τ).loc main_arg4) : Vec Ideal S20x8x128 .bf16) (ix3 p g d) := by
  rw [Ve_main_v6]
  exact cast_S160x128 _ n d p g hn

theorem V_main_v9 (c : Dev nD) (b : Fin 2) (g : Fin 8) (s : Fin 4096) :
    (V m c main_v9 : Vec Ideal S2x8x4096 .f32) (ix3 b g s) = (m ((c : Thread nD τ).loc main_arg6) : Vec Ideal S2x4096x8 .f32) (ix3 b s g) := by
  have e : V m c main_v9 = transpose S2x8x4096 [0, 2, 1] (m ((c : Thread nD τ).loc main_arg6) : Vec Ideal S2x4096x8 .f32) transposes_S2x4096x8_S2x8x4096_0_2_1 := by
    show StableHlo.after hostOps0 (fun b => m (c, b)) (Proc.devRef .tc main_v9) = _
    unfold hostOps0
    after_results_simp
  rw [e]
  generalize (m ((c : Thread nD τ).loc main_arg6) : Vec Ideal S2x4096x8 .f32) = x
  pointwise []

theorem V_main_v10 (c : Dev nD) (b : Fin 2) (g : Fin 8) (s : Fin 4096) :
    (V m c main_v10 : Vec Ideal S2x8x4096 .f32) (ix3 b g s) = (m ((c : Thread nD τ).loc main_arg8) : Vec Ideal S2x4096x8 .f32) (ix3 b s g) := by
  have e : V m c main_v10 = transpose S2x8x4096 [0, 2, 1] (m ((c : Thread nD τ).loc main_arg8) : Vec Ideal S2x4096x8 .f32) transposes_S2x4096x8_S2x8x4096_0_2_1 := by
    show StableHlo.after hostOps0 (fun b => m (c, b)) (Proc.devRef .tc main_v10) = _
    unfold hostOps0
    after_results_simp
  rw [e]
  generalize (m ((c : Thread nD τ).loc main_arg8) : Vec Ideal S2x4096x8 .f32) = x
  pointwise []

theorem V_main_v11 (c : Dev nD) (b : Fin 2) (g : Fin 16) (s : Fin 512) :
    (V m c main_v11 : Vec Ideal S2x16x512 .f32) (ix3 b g s) = (m ((c : Thread nD τ).loc main_arg11) : Vec Ideal S2x512x16 .f32) (ix3 b s g) := by
  have e : V m c main_v11 = transpose S2x16x512 [0, 2, 1] (m ((c : Thread nD τ).loc main_arg11) : Vec Ideal S2x512x16 .f32) transposes_S2x512x16_S2x16x512_0_2_1 := by
    show StableHlo.after hostOps0 (fun b => m (c, b)) (Proc.devRef .tc main_v11) = _
    unfold hostOps0
    after_results_simp
  rw [e]
  generalize (m ((c : Thread nD τ).loc main_arg11) : Vec Ideal S2x512x16 .f32) = x
  pointwise []

end Cert.KernelIdeal.Gen

end
-- ==== Proof.KernelIdeal.VRun.lean ====
module

public import proofs.«01_k».proof.Proof.KernelIdeal.VBody
public import proofs.«01_k».proof.Proof.KernelIdeal.VBlk
public import proofs.«01_k».proof.Proof.KernelIdeal.Frame
public import Idealize.ShloMosaic.Lib.Pipeline.TableIdle
public import Idealize.ShloMosaic.Lib.Pipeline.ArrRel

@[expose] public section

set_option maxRecDepth 65536

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation)

local notation "𝕄" => MT nD τ sig Unit (Elt Ideal) ℕ (UR sig nD τ) ℕ

/-! What the kernel's call leaves in its first result: the body's runs point after point. -/

section

variable (m : (ℓ : Loc nD τ sig) → Buf (Elt Ideal) ℓ) (hO : Ok m) (c : Dev nD) (b : Fin 2)

/-- The queries of batch `b`. -/
def bq : Vec Ideal S1x8192x128 .bf16 := fun (y : S1x8192x128.Idx) => (V m c main_v0 : Vec Ideal S2x8192x128 .bf16) (ix3 b (y 1) (y 2))
/-- The forward outputs of batch `b`. -/
def bo : Vec Ideal S1x8192x128 .bf16 := fun (y : S1x8192x128.Idx) => (V m c main_v1 : Vec Ideal S2x8192x128 .bf16) (ix3 b (y 1) (y 2))
/-- The output gradient codes of batch `b`. -/
def bdo : Vec Ideal S1x8192x128 .fp8e5m2 := fun (y : S1x8192x128.Idx) => (V m c main_v2 : Vec Ideal S2x8192x128 .fp8e5m2) (ix3 b (y 1) (y 2))
/-- The keys of batch `b`. -/
def bk : Vec Ideal S1x4096x128 .bf16 := fun (y : S1x4096x128.Idx) => (V m c main_v3 : Vec Ideal S2x4096x128 .bf16) (ix3 b (y 1) (y 2))
/-- The values of batch `b`. -/
def bv : Vec Ideal S1x4096x128 .bf16 := fun (y : S1x4096x128.Idx) => (V m c main_v4 : Vec Ideal S2x4096x128 .bf16) (ix3 b (y 1) (y 2))
/-- The output gradient scales of batch `b`. -/
def bdsc : Vec Ideal S1x16x512 .f32 := fun (y : S1x16x512.Idx) => (V m c main_v11 : Vec Ideal S2x16x512 .f32) (ix3 b (y 1) (y 2))
/-- The log-sum-exps of batch `b`. -/
def blse : Vec Ideal S1x16x512 .f32 := fun (y : S1x16x512.Idx) => (V m c main_arg12 : Vec Ideal S2x16x512 .f32) (ix3 b (y 1) (y 2))
/-- The prefix keys. -/
def bpk : Vec Ideal S160x128 .bf16 := V m c main_v5
/-- The prefix values. -/
def bpv : Vec Ideal S160x128 .bf16 := V m c main_v6

/-- The accumulator after the prefix and self parts of batch `b`. -/
def accB : Vec Ideal S8x128x1024 .f32 := acc0S (padP (bpk m c)) (padP (bpv m c)) (bk m c b) (bv m c b) (bq m c b) (bo m c b) (bdo m c b) (blse m c b)

/-- The batch of a point. -/
def bOf (t : Fin grid0.N) : Fin 2 := ⟨t.val / 8, by have := Nat.lt_of_lt_of_eq t.isLt N_0; omega⟩

/-- The accumulator after the chunk of point `t`, from `A`. -/
def chk (t : Fin grid0.N) (A : Vec Ideal S8x128x1024 .f32) : Vec Ideal S8x128x1024 .f32 :=
  ctxN (grid0.coords t) (TbV c (grid0.coords t) (tbl m 0)) (iblk m hO c 7 t) (iblk m hO c 8 t) (iblk m hO c 9 t) (iblk m hO c 10 t) (bq m c (bOf t)) (bo m c (bOf t)) (bdo m c (bOf t)) (blse m c (bOf t)) A

/-- Point number `n`. -/
def pt (n : ℕ) : Fin grid0.N := ⟨n % 16, by rw [N_0]; exact Nat.mod_lt _ (by decide)⟩

theorem pt_val (t : Fin grid0.N) : pt t.val = t := Fin.ext (Nat.mod_eq_of_lt (Nat.lt_of_lt_of_eq t.isLt N_0))

/-- The accumulator after point `n`. -/
def accV : ℕ → Vec Ideal S8x128x1024 .f32
  | 0 => chk m hO c (pt 0) (accB m c (bOf (pt 0)))
  | n + 1 => chk m hO c (pt (n + 1)) (if (n + 1) % 8 = 0 then accB m c (bOf (pt (n + 1))) else accV n)

theorem accV_first (t : Fin grid0.N) (h : t.val % 8 = 0) : accV m hO c t.val = chk m hO c t (accB m c (bOf t)) := by
  have hp := pt_val t
  obtain ⟨n, hn⟩ := t
  cases n with
  | zero => show chk m hO c (pt 0) _ = _; rw [hp]
  | succ n => show chk m hO c (pt (n + 1)) (if (n + 1) % 8 = 0 then _ else _) = _; rw [if_pos h, hp]

theorem accV_next (t : Fin grid0.N) (h : ¬ t.val % 8 = 0) : accV m hO c t.val = chk m hO c t (accV m hO c (t.val - 1)) := by
  have hp := pt_val t
  obtain ⟨n, hn⟩ := t
  cases n with
  | zero => exact absurd rfl h
  | succ n => show chk m hO c (pt (n + 1)) (if (n + 1) % 8 = 0 then _ else _) = _; rw [if_neg h, hp]; rfl

/-- What no point names: the scratch of the write-outs, the generator's register, and the table. -/
def restV : sProp 𝕄 :=
  iprop(((∃ z, owns (c : Thread nD τ) scM0_8 fullShare z) ∗ (∃ z, owns (c : Thread nD τ) scM0_9 fullShare z) ∗ (∃ z, owns (c : Thread nD τ) scM0_10 fullShare z) ∗ (∃ z, owns (c : Thread nD τ) scM0_11 fullShare z) ∗ (∃ z, owns (c : Thread nD τ) scM0_12 fullShare z)) ∗ (∃ r, prngReg c r) ∗ tbPt0 c tbM0_0 (tbl m 0))

/-- The named scratch before position `n` of the grid. -/
def scrV (n : ℕ) : sProp 𝕄 :=
  if n = 0 then iprop((∃ z, owns (c : Thread nD τ) scM0_0 fullShare z) ∗ (∃ z, owns (c : Thread nD τ) scM0_1 fullShare z) ∗ (∃ z, owns (c : Thread nD τ) scM0_2 fullShare z) ∗ (∃ z, owns (c : Thread nD τ) scM0_3 fullShare z) ∗ (∃ z, owns (c : Thread nD τ) scM0_4 fullShare z) ∗ (∃ z, owns (c : Thread nD τ) scM0_5 fullShare z) ∗ (∃ z, owns (c : Thread nD τ) scM0_6 fullShare z) ∗ (∃ z, owns (c : Thread nD τ) scM0_7 fullShare z))
  else if n % 8 = 0 then iprop(((∃ z, owns (c : Thread nD τ) scM0_0 fullShare z) ∗ (∃ z, owns (c : Thread nD τ) scM0_1 fullShare z) ∗ (∃ z, owns (c : Thread nD τ) scM0_2 fullShare z) ∗ (∃ z, owns (c : Thread nD τ) scM0_3 fullShare z) ∗ (∃ z, owns (c : Thread nD τ) scM0_4 fullShare z) ∗ (∃ z, owns (c : Thread nD τ) scM0_5 fullShare z)) ∗ (owns (c : Thread nD τ) scM0_6 fullShare (padP (bpk m c)) ∗ owns (c : Thread nD τ) scM0_7 fullShare (padP (bpv m c))))
  else SV c scM0_0 scM0_1 scM0_2 scM0_3 scM0_4 scM0_5 scM0_6 scM0_7 (bq m c (bOf (pt (n - 1)))) (bo m c (bOf (pt (n - 1)))) (bdo m c (bOf (pt (n - 1)))) (bpk m c) (bpv m c) (bdsc m c (bOf (pt (n - 1)))) (blse m c (bOf (pt (n - 1)))) (accV m hO c (n - 1))

/-- The invariant before position `n` of the grid. -/
def PhiV (n : ℕ) : sProp 𝕄 := iprop(scrV m hO c n ∗ restV m c)

/-- The proof data whose invariant names the scratch. -/
def datv : Dat τ (Elt Ideal) Unit ℕ (UR sig nD τ) ℕ (cfgM m hO) c :=
  { dats m hO 0 c with Φ := fun t => PhiV m hO c t.val }

/-- What is stated of the results: the first result's block at the last chunk of a batch. -/
def ovr (w : Fin (cfgM m hO).W) : Option (Fin (cfgM m hO).N → (Y X : ((cfgM m hO).win w).block.Idx → Elt Ideal ((cfgM m hO).win w).elt) → Prop) :=
  match w with
    | ⟨13, _⟩ => some fun t _ X => t.val % 8 = 7 → (X : Vec Ideal S1x8192x128 .bf16) = dqS (accV m hO c t.val) (dscS (bdsc m c (bOf t)))
    | ⟨14, _⟩ => some fun _ _ _ => True
    | ⟨15, _⟩ => some fun _ _ _ => True
    | ⟨16, _⟩ => some fun _ _ _ => True
    | _ => none

/-- The relational proof data. -/
def rdv : RDat τ (Elt Ideal) Unit ℕ (UR sig nD τ) ℕ (cfgM m hO) c := (datv m hO c).toR.override (ovr m hO c)

theorem scrV_first (t : Fin grid0.N) (h : t.val = 0) : scrV m hO c t.val = iprop((∃ z, owns (c : Thread nD τ) scM0_0 fullShare z) ∗ (∃ z, owns (c : Thread nD τ) scM0_1 fullShare z) ∗ (∃ z, owns (c : Thread nD τ) scM0_2 fullShare z) ∗ (∃ z, owns (c : Thread nD τ) scM0_3 fullShare z) ∗ (∃ z, owns (c : Thread nD τ) scM0_4 fullShare z) ∗ (∃ z, owns (c : Thread nD τ) scM0_5 fullShare z) ∗ (∃ z, owns (c : Thread nD τ) scM0_6 fullShare z) ∗ (∃ z, owns (c : Thread nD τ) scM0_7 fullShare z)) := by
  unfold scrV; rw [if_pos h]

theorem scrV_start (t : Fin grid0.N) (h : t.val % 8 = 0) (h' : ¬ t.val = 0) : scrV m hO c t.val = iprop(((∃ z, owns (c : Thread nD τ) scM0_0 fullShare z) ∗ (∃ z, owns (c : Thread nD τ) scM0_1 fullShare z) ∗ (∃ z, owns (c : Thread nD τ) scM0_2 fullShare z) ∗ (∃ z, owns (c : Thread nD τ) scM0_3 fullShare z) ∗ (∃ z, owns (c : Thread nD τ) scM0_4 fullShare z) ∗ (∃ z, owns (c : Thread nD τ) scM0_5 fullShare z)) ∗ (owns (c : Thread nD τ) scM0_6 fullShare (padP (bpk m c)) ∗ owns (c : Thread nD τ) scM0_7 fullShare (padP (bpv m c)))) := by
  unfold scrV; rw [if_neg h', if_pos h]

theorem scrV_next (t : Fin grid0.N) (h : ¬ t.val % 8 = 0) : scrV m hO c t.val = SV c scM0_0 scM0_1 scM0_2 scM0_3 scM0_4 scM0_5 scM0_6 scM0_7 (bq m c (bOf t)) (bo m c (bOf t)) (bdo m c (bOf t)) (bpk m c) (bpv m c) (bdsc m c (bOf t)) (blse m c (bOf t)) (accV m hO c (t.val - 1)) := by
  have hb : bOf (pt (t.val - 1)) = bOf t := by
    have := Nat.lt_of_lt_of_eq t.isLt N_0
    exact Fin.ext (by show (t.val - 1) % 16 / 8 = t.val / 8; omega)
  unfold scrV; rw [if_neg (fun e => h (by rw [e])), if_neg h, hb]

/-- After a point the scratch is what the next position asks for. -/
theorem scrV_succ (t : Fin grid0.N) :
    SV c scM0_0 scM0_1 scM0_2 scM0_3 scM0_4 scM0_5 scM0_6 scM0_7 (bq m c (bOf t)) (bo m c (bOf t)) (bdo m c (bOf t)) (bpk m c) (bpv m c) (bdsc m c (bOf t)) (blse m c (bOf t)) (accV m hO c t.val) ⊢ scrV m hO c (t.val + 1) := by
  unfold scrV
  rw [if_neg (Nat.succ_ne_zero _)]
  split_ifs with h
  · iintro ⟨H20, H21, H22, H23, H24, H25, H26, H27⟩
    isplitl [H20 H21 H22 H23 H24 H25]
    · isplitl [H20]
      · iexists _; iexact H20
      isplitl [H21]
      · iexists _; iexact H21
      isplitl [H22]
      · iexists _; iexact H22
      isplitl [H23]
      · iexists _; iexact H23
      isplitl [H24]
      · iexists _; iexact H24
      iexists _; iexact H25
    isplitl [H26]
    · iexact H26
    iexact H27
  · rw [show t.val + 1 - 1 = t.val from rfl, pt_val]

set_option maxHeartbeats 2000000 in
/-- One point's run of the body, once the context length is read. -/
theorem run_pt (t : Fin grid0.N) (K : PUnit.{1} → sProp 𝕄) :
    iprop(InsV c (ms0_0 m hO t) (ms0_1 m hO t) (ms0_2 m hO t) (ms0_3 m hO t) (ms0_4 m hO t) (ms0_5 m hO t) (ms0_6 m hO t) (ms0_7 m hO t) (ms0_8 m hO t) (ms0_9 m hO t) (ms0_10 m hO t) (ms0_11 m hO t) (ms0_12 m hO t) (bq m c (bOf t)) (bo m c (bOf t)) (bdo m c (bOf t)) (bk m c (bOf t)) (bv m c (bOf t)) (bpk m c) (bpv m c) (iblk m hO c 7 t) (iblk m hO c 8 t) (iblk m hO c 9 t) (iblk m hO c 10 t) (bdsc m c (bOf t)) (blse m c (bOf t)) ∗ scrV m hO c t.val ∗ (∃ z, owns (c : Thread nD τ) (ms0_13 m hO t) fullShare z) ∗ ExV c (ms0_14 m hO t) (ms0_15 m hO t) (ms0_16 m hO t) scM0_8 scM0_9 scM0_10 scM0_11 scM0_12
        ∗ (InsV c (ms0_0 m hO t) (ms0_1 m hO t) (ms0_2 m hO t) (ms0_3 m hO t) (ms0_4 m hO t) (ms0_5 m hO t) (ms0_6 m hO t) (ms0_7 m hO t) (ms0_8 m hO t) (ms0_9 m hO t) (ms0_10 m hO t) (ms0_11 m hO t) (ms0_12 m hO t) (bq m c (bOf t)) (bo m c (bOf t)) (bdo m c (bOf t)) (bk m c (bOf t)) (bv m c (bOf t)) (bpk m c) (bpv m c) (iblk m hO c 7 t) (iblk m hO c 8 t) (iblk m hO c 9 t) (iblk m hO c 10 t) (bdsc m c (bOf t)) (blse m c (bOf t)) -∗ scrV m hO c (t.val + 1) -∗ (∃ z, ⌜t.val % 8 = 7 → z = dqS (accV m hO c t.val) (dscS (bdsc m c (bOf t)))⌝ ∗ owns (c : Thread nD τ) (ms0_13 m hO t) fullShare z) -∗ ExV c (ms0_14 m hO t) (ms0_15 m hO t) (ms0_16 m hO t) scM0_8 scM0_9 scM0_10 scM0_11 scM0_12 -∗ K ⟨⟩))
      ⊢ (wp Idealize.ShloMosaic.frame (wpE (defs₀ (F := Ideal)) Variants.none c none) Set.univ (bodyR (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (TbV c (grid0.coords t) (tbl m 0))) K : sProp 𝕄) := by
  have hs := scrV_succ m hO c t
  have h3 := hcond0_3 t
  by_cases h : t.val % 8 = 0
  · have ha := accV_first m hO c t h
    by_cases h' : t.val = 0
    · rw [scrV_first m hO c t h']
      iintro ⟨HI, HS, HG, HE, Hk⟩
      iapply (val_first c Set.univ _ (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (bq m c (bOf t)) (bo m c (bOf t)) (bdo m c (bOf t)) (bk m c (bOf t)) (bv m c (bOf t)) (bpk m c) (bpv m c) (iblk m hO c 7 t) (iblk m hO c 8 t) (iblk m hO c 9 t) (iblk m hO c 10 t) (bdsc m c (bOf t)) (blse m c (bOf t)) (TbV c (grid0.coords t) (tbl m 0)) ((hcond0_0 t).2 h) ((hcond0_1 t).2 (by omega)))
      isplitl [HI]
      · iexact HI
      isplitl [HS]
      · iexact HS
      isplitl [HG]
      · iexact HG
      isplitl [HE]
      · iexact HE
      iintro HI HS HG HE
      iapply Hk $$ [HI] [HS] [HG] [HE]
      · iexact HI
      · iapply hs
        rw [ha]
        iexact HS
      · icases HG with ⟨%z, %hz, HG⟩
        iexists z
        isplitr
        · ipureintro
          intro h7
          rw [ha]
          exact hz (h3.2 h7)
        · iexact HG
      · iexact HE
    · rw [scrV_start m hO c t h h']
      iintro ⟨HI, HS, HG, HE, Hk⟩
      iapply (val_start c Set.univ _ (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (bq m c (bOf t)) (bo m c (bOf t)) (bdo m c (bOf t)) (bk m c (bOf t)) (bv m c (bOf t)) (bpk m c) (bpv m c) (iblk m hO c 7 t) (iblk m hO c 8 t) (iblk m hO c 9 t) (iblk m hO c 10 t) (bdsc m c (bOf t)) (blse m c (bOf t)) (TbV c (grid0.coords t) (tbl m 0)) ((hcond0_0 t).2 h) (fun e => by have := (hcond0_1 t).1 e; omega))
      isplitl [HI]
      · iexact HI
      isplitl [HS]
      · iexact HS
      isplitl [HG]
      · iexact HG
      isplitl [HE]
      · iexact HE
      iintro HI HS HG HE
      iapply Hk $$ [HI] [HS] [HG] [HE]
      · iexact HI
      · iapply hs
        rw [ha]
        iexact HS
      · icases HG with ⟨%z, %hz, HG⟩
        iexists z
        isplitr
        · ipureintro
          intro h7
          rw [ha]
          exact hz (h3.2 h7)
        · iexact HG
      · iexact HE
  · have ha := accV_next m hO c t h
    rw [scrV_next m hO c t h]
    iintro ⟨HI, HS, HG, HE, Hk⟩
    iapply (val_next c Set.univ _ (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (bq m c (bOf t)) (bo m c (bOf t)) (bdo m c (bOf t)) (bk m c (bOf t)) (bv m c (bOf t)) (bpk m c) (bpv m c) (iblk m hO c 7 t) (iblk m hO c 8 t) (iblk m hO c 9 t) (iblk m hO c 10 t) (bdsc m c (bOf t)) (blse m c (bOf t)) (accV m hO c (t.val - 1)) (TbV c (grid0.coords t) (tbl m 0)) (fun e => h ((hcond0_0 t).1 e)))
    isplitl [HI]
    · iexact HI
    isplitl [HS]
    · iexact HS
    isplitl [HG]
    · iexact HG
    isplitl [HE]
    · iexact HE
    iintro HI HS HG HE
    iapply Hk $$ [HI] [HS] [HG] [HE]
    · iexact HI
    · iapply hs
      rw [ha]
      iexact HS
    · icases HG with ⟨%z, %hz, HG⟩
      iexists z
      isplitr
      · ipureintro
        intro h7
        rw [ha]
        exact hz (h3.2 h7)
      · iexact HG
    · iexact HE

set_option maxHeartbeats 4000000 in
/-- The body at any point. -/
theorem sound_bodyR (t : Fin (cfgM m hO).N) (z13 : Vec Ideal S1x8192x128 .bf16) (z14 : Vec Ideal S1x20x16x512 .f32) (z15 : Vec Ideal S160x128 .bf16) (z16 : Vec Ideal S160x128 .bf16) (R : sProp 𝕄) :
    iprop(PhiV m hO c t.val ∗ R ∗ owns (c : Thread nD τ) (ms0_0 m hO t) fullShare (iblk m hO c 0 t) ∗ owns (c : Thread nD τ) (ms0_1 m hO t) fullShare (iblk m hO c 1 t) ∗ owns (c : Thread nD τ) (ms0_2 m hO t) fullShare (iblk m hO c 2 t) ∗ owns (c : Thread nD τ) (ms0_3 m hO t) fullShare (iblk m hO c 3 t) ∗ owns (c : Thread nD τ) (ms0_4 m hO t) fullShare (iblk m hO c 4 t) ∗ owns (c : Thread nD τ) (ms0_5 m hO t) fullShare (iblk m hO c 5 t) ∗ owns (c : Thread nD τ) (ms0_6 m hO t) fullShare (iblk m hO c 6 t) ∗ owns (c : Thread nD τ) (ms0_7 m hO t) fullShare (iblk m hO c 7 t) ∗ owns (c : Thread nD τ) (ms0_8 m hO t) fullShare (iblk m hO c 8 t) ∗ owns (c : Thread nD τ) (ms0_9 m hO t) fullShare (iblk m hO c 9 t) ∗ owns (c : Thread nD τ) (ms0_10 m hO t) fullShare (iblk m hO c 10 t) ∗ owns (c : Thread nD τ) (ms0_11 m hO t) fullShare (iblk m hO c 11 t) ∗ owns (c : Thread nD τ) (ms0_12 m hO t) fullShare (iblk m hO c 12 t) ∗ owns (c : Thread nD τ) (ms0_13 m hO t) fullShare z13 ∗ owns (c : Thread nD τ) (ms0_14 m hO t) fullShare z14 ∗ owns (c : Thread nD τ) (ms0_15 m hO t) fullShare z15 ∗ owns (c : Thread nD τ) (ms0_16 m hO t) fullShare z16)
      ⊢ wp Idealize.ShloMosaic.frame (wpE (defs₀ (F := Ideal)) Variants.none c none) Set.univ (smemLoad tbM0_0 (Rect.unit (s := S2) (k0_off1 (grid0.coords t)) S1.size (k0_off1_inb (grid0.coords t))) numel1_S1 rfl >>= fun v1 => bodyR (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) v1) (fun _ =>
        iprop(PhiV m hO c (t.val + 1) ∗ R ∗ owns (c : Thread nD τ) (ms0_0 m hO t) fullShare (iblk m hO c 0 t) ∗ owns (c : Thread nD τ) (ms0_1 m hO t) fullShare (iblk m hO c 1 t) ∗ owns (c : Thread nD τ) (ms0_2 m hO t) fullShare (iblk m hO c 2 t) ∗ owns (c : Thread nD τ) (ms0_3 m hO t) fullShare (iblk m hO c 3 t) ∗ owns (c : Thread nD τ) (ms0_4 m hO t) fullShare (iblk m hO c 4 t) ∗ owns (c : Thread nD τ) (ms0_5 m hO t) fullShare (iblk m hO c 5 t) ∗ owns (c : Thread nD τ) (ms0_6 m hO t) fullShare (iblk m hO c 6 t) ∗ owns (c : Thread nD τ) (ms0_7 m hO t) fullShare (iblk m hO c 7 t) ∗ owns (c : Thread nD τ) (ms0_8 m hO t) fullShare (iblk m hO c 8 t) ∗ owns (c : Thread nD τ) (ms0_9 m hO t) fullShare (iblk m hO c 9 t) ∗ owns (c : Thread nD τ) (ms0_10 m hO t) fullShare (iblk m hO c 10 t) ∗ owns (c : Thread nD τ) (ms0_11 m hO t) fullShare (iblk m hO c 11 t) ∗ owns (c : Thread nD τ) (ms0_12 m hO t) fullShare (iblk m hO c 12 t) ∗ (∃ z, ⌜t.val % 8 = 7 → z = dqS (accV m hO c t.val) (dscS (bdsc m c (bOf t)))⌝ ∗ owns (c : Thread nD τ) (ms0_13 m hO t) fullShare z) ∗ (∃ z, owns (c : Thread nD τ) (ms0_14 m hO t) fullShare z) ∗ (∃ z, owns (c : Thread nD τ) (ms0_15 m hO t) fullShare z) ∗ (∃ z, owns (c : Thread nD τ) (ms0_16 m hO t) fullShare z))) := by
  have e0 : (iblk m hO c 0 t : Vec Ideal S1x8192x128 .bf16) = bq m c (bOf t) := iblk0_eq m hO c t (bOf t) rfl
  have e1 : (iblk m hO c 1 t : Vec Ideal S1x8192x128 .bf16) = bo m c (bOf t) := iblk1_eq m hO c t (bOf t) rfl
  have e2 : (iblk m hO c 2 t : Vec Ideal S1x8192x128 .fp8e5m2) = bdo m c (bOf t) := iblk2_eq m hO c t (bOf t) rfl
  have e3 : (iblk m hO c 3 t : Vec Ideal S1x4096x128 .bf16) = bk m c (bOf t) := iblk3_eq m hO c t (bOf t) rfl
  have e4 : (iblk m hO c 4 t : Vec Ideal S1x4096x128 .bf16) = bv m c (bOf t) := iblk4_eq m hO c t (bOf t) rfl
  have e5 : (iblk m hO c 5 t : Vec Ideal S160x128 .bf16) = bpk m c := iblk5_eq m hO c t
  have e6 : (iblk m hO c 6 t : Vec Ideal S160x128 .bf16) = bpv m c := iblk6_eq m hO c t
  have e11 : (iblk m hO c 11 t : Vec Ideal S1x16x512 .f32) = bdsc m c (bOf t) := iblk11_eq m hO c t (bOf t) rfl
  have e12 : (iblk m hO c 12 t : Vec Ideal S1x16x512 .f32) = blse m c (bOf t) := iblk12_eq m hO c t (bOf t) rfl

  unfold PhiV restV
  iintro ⟨⟨HS, ⟨HR8, HR9, HR10, HR11, HR12⟩, Hg, HT⟩, Ho, H0, H1, H2, H3, H4, H5, H6, H7, H8, H9, H10, H11, H12, H13, H14, H15, H16⟩
  iapply (wp_tableV c (grid0.coords t) (tbl m 0) Set.univ _ _)
  isplitl [HT]
  · iexact HT
  iintro HT
  iapply (run_pt m hO c t _)
  isplitl [H0 H1 H2 H3 H4 H5 H6 H7 H8 H9 H10 H11 H12]
  · isplitl [H0]
    · rw [← e0]; iexact H0
    isplitl [H1]
    · rw [← e1]; iexact H1
    isplitl [H2]
    · rw [← e2]; iexact H2
    isplitl [H3]
    · rw [← e3]; iexact H3
    isplitl [H4]
    · rw [← e4]; iexact H4
    isplitl [H5]
    · rw [← e5]; iexact H5
    isplitl [H6]
    · rw [← e6]; iexact H6
    isplitl [H7]
    · iexact H7
    isplitl [H8]
    · iexact H8
    isplitl [H9]
    · iexact H9
    isplitl [H10]
    · iexact H10
    isplitl [H11]
    · rw [← e11]; iexact H11
    rw [← e12]; iexact H12
  isplitl [HS]
  · iexact HS
  isplitl [H13]
  · iexists z13; iexact H13
  isplitl [H14 H15 H16 HR8 HR9 HR10 HR11 HR12]
  · isplitl [H14]
    · iexists z14; iexact H14
    isplitl [H15]
    · iexists z15; iexact H15
    isplitl [H16]
    · iexists z16; iexact H16
    isplitl [HR8]
    · iexact HR8
    isplitl [HR9]
    · iexact HR9
    isplitl [HR10]
    · iexact HR10
    isplitl [HR11]
    · iexact HR11
    iexact HR12
  iintro ⟨H0, H1, H2, H3, H4, H5, H6, H7, H8, H9, H10, H11, H12⟩ HS H13 ⟨H14, H15, H16, HR8, HR9, HR10, HR11, HR12⟩
  isplitl [HS HR8 HR9 HR10 HR11 HR12 Hg HT]
  · isplitl [HS]
    · iexact HS
    isplitl [HR8 HR9 HR10 HR11 HR12]
    · isplitl [HR8]
      · iexact HR8
      isplitl [HR9]
      · iexact HR9
      isplitl [HR10]
      · iexact HR10
      isplitl [HR11]
      · iexact HR11
      iexact HR12
    isplitl [Hg]
    · iexact Hg
    iexact HT
  isplitl [Ho]
  · iexact Ho
  isplitl [H0]
  · rw [e0]; iexact H0
  isplitl [H1]
  · rw [e1]; iexact H1
  isplitl [H2]
  · rw [e2]; iexact H2
  isplitl [H3]
  · rw [e3]; iexact H3
  isplitl [H4]
  · rw [e4]; iexact H4
  isplitl [H5]
  · rw [e5]; iexact H5
  isplitl [H6]
  · rw [e6]; iexact H6
  isplitl [H7]
  · iexact H7
  isplitl [H8]
  · iexact H8
  isplitl [H9]
  · iexact H9
  isplitl [H10]
  · iexact H10
  isplitl [H11]
  · rw [e11]; iexact H11
  isplitl [H12]
  · rw [e12]; iexact H12
  isplitl [H13]
  · iexact H13
  isplitl [H14]
  · iexact H14
  isplitl [H15]
  · iexact H15
  iexact H16

/-- The body's row at a point is the read of the context length and the rest. -/
theorem bodyAt_eq (t : Fin (cfgM m hO).N) : bodyAt0 (F := Ideal) (adm m hO) t = (smemLoad tbM0_0 (Rect.unit (s := S2) (k0_off1 (grid0.coords t)) S1.size (k0_off1_inb (grid0.coords t))) numel1_S1 rfl >>= fun v1 => bodyR (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) v1) :=
  body_eq (F := Ideal) ..

set_option maxHeartbeats 4000000 in
/-- The body obligation: each point keeps the invariant and leaves what is stated of the results. -/
theorem body_obligationV : (rdv m hO c).BodyObligation (defs₀ (F := Ideal)) Variants.none () Set.univ := by
  intro t Y hY
  have f0 : Y 0 = iblk m hO c 0 t := by
    obtain ⟨d, hd⟩ := (datv m hO c).toR_finds 0 t _ (((datv m hO c).toR.override_finds (ovr := ovr m hO c) (w := 0) rfl t _).1 (hY 0))
    rw [hd]; exact before0_0_of m hO (datv m hO c) (A_eq m hO c 0) (after0_0 m hO c) t d
  have f1 : Y 1 = iblk m hO c 1 t := by
    obtain ⟨d, hd⟩ := (datv m hO c).toR_finds 1 t _ (((datv m hO c).toR.override_finds (ovr := ovr m hO c) (w := 1) rfl t _).1 (hY 1))
    rw [hd]; exact before0_1_of m hO (datv m hO c) (A_eq m hO c 1) (after0_1 m hO c) t d
  have f2 : Y 2 = iblk m hO c 2 t := by
    obtain ⟨d, hd⟩ := (datv m hO c).toR_finds 2 t _ (((datv m hO c).toR.override_finds (ovr := ovr m hO c) (w := 2) rfl t _).1 (hY 2))
    rw [hd]; exact before0_2_of m hO (datv m hO c) (A_eq m hO c 2) (after0_2 m hO c) t d
  have f3 : Y 3 = iblk m hO c 3 t := by
    obtain ⟨d, hd⟩ := (datv m hO c).toR_finds 3 t _ (((datv m hO c).toR.override_finds (ovr := ovr m hO c) (w := 3) rfl t _).1 (hY 3))
    rw [hd]; exact before0_3_of m hO (datv m hO c) (A_eq m hO c 3) (after0_3 m hO c) t d
  have f4 : Y 4 = iblk m hO c 4 t := by
    obtain ⟨d, hd⟩ := (datv m hO c).toR_finds 4 t _ (((datv m hO c).toR.override_finds (ovr := ovr m hO c) (w := 4) rfl t _).1 (hY 4))
    rw [hd]; exact before0_4_of m hO (datv m hO c) (A_eq m hO c 4) (after0_4 m hO c) t d
  have f5 : Y 5 = iblk m hO c 5 t := by
    obtain ⟨d, hd⟩ := (datv m hO c).toR_finds 5 t _ (((datv m hO c).toR.override_finds (ovr := ovr m hO c) (w := 5) rfl t _).1 (hY 5))
    rw [hd]; exact before0_5_of m hO (datv m hO c) (A_eq m hO c 5) (after0_5 m hO c) t d
  have f6 : Y 6 = iblk m hO c 6 t := by
    obtain ⟨d, hd⟩ := (datv m hO c).toR_finds 6 t _ (((datv m hO c).toR.override_finds (ovr := ovr m hO c) (w := 6) rfl t _).1 (hY 6))
    rw [hd]; exact before0_6_of m hO (datv m hO c) (A_eq m hO c 6) (after0_6 m hO c) t d
  have f7 : Y 7 = iblk m hO c 7 t := by
    obtain ⟨d, hd⟩ := (datv m hO c).toR_finds 7 t _ (((datv m hO c).toR.override_finds (ovr := ovr m hO c) (w := 7) rfl t _).1 (hY 7))
    rw [hd]; exact before0_7_of m hO (datv m hO c) (A_eq m hO c 7) (after0_7 m hO c) t d
  have f8 : Y 8 = iblk m hO c 8 t := by
    obtain ⟨d, hd⟩ := (datv m hO c).toR_finds 8 t _ (((datv m hO c).toR.override_finds (ovr := ovr m hO c) (w := 8) rfl t _).1 (hY 8))
    rw [hd]; exact before0_8_of m hO (datv m hO c) (A_eq m hO c 8) (after0_8 m hO c) t d
  have f9 : Y 9 = iblk m hO c 9 t := by
    obtain ⟨d, hd⟩ := (datv m hO c).toR_finds 9 t _ (((datv m hO c).toR.override_finds (ovr := ovr m hO c) (w := 9) rfl t _).1 (hY 9))
    rw [hd]; exact before0_9_of m hO (datv m hO c) (A_eq m hO c 9) (after0_9 m hO c) t d
  have f10 : Y 10 = iblk m hO c 10 t := by
    obtain ⟨d, hd⟩ := (datv m hO c).toR_finds 10 t _ (((datv m hO c).toR.override_finds (ovr := ovr m hO c) (w := 10) rfl t _).1 (hY 10))
    rw [hd]; exact before0_10_of m hO (datv m hO c) (A_eq m hO c 10) (after0_10 m hO c) t d
  have f11 : Y 11 = iblk m hO c 11 t := by
    obtain ⟨d, hd⟩ := (datv m hO c).toR_finds 11 t _ (((datv m hO c).toR.override_finds (ovr := ovr m hO c) (w := 11) rfl t _).1 (hY 11))
    rw [hd]; exact before0_11_of m hO (datv m hO c) (A_eq m hO c 11) (after0_11 m hO c) t d
  have f12 : Y 12 = iblk m hO c 12 t := by
    obtain ⟨d, hd⟩ := (datv m hO c).toR_finds 12 t _ (((datv m hO c).toR.override_finds (ovr := ovr m hO c) (w := 12) rfl t _).1 (hY 12))
    rw [hd]; exact before0_12_of m hO (datv m hO c) (A_eq m hO c 12) (after0_12 m hO c) t d
  rw [bigSep_W0, bigSep_W0, defs₀_row m hO]
  refine triple_restated (sound_bodyR m hO c t (Y 13) (Y 14) (Y 15) (Y 16) ((rdv m hO c).owesAt () t.castSucc)) (congrArg (fun e => wp Idealize.ShloMosaic.frame (wpE (defs₀ (F := Ideal)) Variants.none c none) Set.univ e) (bodyAt_eq m hO t).symm) ?_ (fun _ => ?_)
  · rw [f0, f1, f2, f3, f4, f5, f6, f7, f8, f9, f10, f11, f12]
    exact .rfl
  · rw [show (rdv m hO c).Φ t.succ = PhiV m hO c (t.val + 1) from rfl, show (rdv m hO c).owesAt () t.succ = (rdv m hO c).owesAt () t.castSucc from rfl]
    iintro ⟨HΦ, Ho, H0, H1, H2, H3, H4, H5, H6, H7, H8, H9, H10, H11, H12, ⟨%z13, %h13, H13⟩, ⟨%z14, H14⟩, ⟨%z15, H15⟩, ⟨%z16, H16⟩⟩
    isplitl [HΦ]
    · iexact HΦ
    isplitl [Ho]
    · iexact Ho
    isplitl [H0]
    · iexists (iblk m hO c 0 t)
      isplitr
      · ipureintro; show (datv m hO c).Leaves 0 t (iblk m hO c 0 t); unfold Dat.Leaves; rw [liveAt0_0 m hO t]; exact (after0_0 m hO c t).symm
      · iexact H0
    isplitl [H1]
    · iexists (iblk m hO c 1 t)
      isplitr
      · ipureintro; show (datv m hO c).Leaves 1 t (iblk m hO c 1 t); unfold Dat.Leaves; rw [liveAt0_1 m hO t]; exact (after0_1 m hO c t).symm
      · iexact H1
    isplitl [H2]
    · iexists (iblk m hO c 2 t)
      isplitr
      · ipureintro; show (datv m hO c).Leaves 2 t (iblk m hO c 2 t); unfold Dat.Leaves; rw [liveAt0_2 m hO t]; exact (after0_2 m hO c t).symm
      · iexact H2
    isplitl [H3]
    · iexists (iblk m hO c 3 t)
      isplitr
      · ipureintro; show (datv m hO c).Leaves 3 t (iblk m hO c 3 t); unfold Dat.Leaves; rw [liveAt0_3 m hO t]; exact (after0_3 m hO c t).symm
      · iexact H3
    isplitl [H4]
    · iexists (iblk m hO c 4 t)
      isplitr
      · ipureintro; show (datv m hO c).Leaves 4 t (iblk m hO c 4 t); unfold Dat.Leaves; rw [liveAt0_4 m hO t]; exact (after0_4 m hO c t).symm
      · iexact H4
    isplitl [H5]
    · iexists (iblk m hO c 5 t)
      isplitr
      · ipureintro; show (datv m hO c).Leaves 5 t (iblk m hO c 5 t); unfold Dat.Leaves; rw [liveAt0_5 m hO t]; exact (after0_5 m hO c t).symm
      · iexact H5
    isplitl [H6]
    · iexists (iblk m hO c 6 t)
      isplitr
      · ipureintro; show (datv m hO c).Leaves 6 t (iblk m hO c 6 t); unfold Dat.Leaves; rw [liveAt0_6 m hO t]; exact (after0_6 m hO c t).symm
      · iexact H6
    isplitl [H7]
    · iexists (iblk m hO c 7 t)
      isplitr
      · ipureintro; show (datv m hO c).Leaves 7 t (iblk m hO c 7 t); unfold Dat.Leaves; rw [liveAt0_7 m hO t]; exact (after0_7 m hO c t).symm
      · iexact H7
    isplitl [H8]
    · iexists (iblk m hO c 8 t)
      isplitr
      · ipureintro; show (datv m hO c).Leaves 8 t (iblk m hO c 8 t); unfold Dat.Leaves; rw [liveAt0_8 m hO t]; exact (after0_8 m hO c t).symm
      · iexact H8
    isplitl [H9]
    · iexists (iblk m hO c 9 t)
      isplitr
      · ipureintro; show (datv m hO c).Leaves 9 t (iblk m hO c 9 t); unfold Dat.Leaves; rw [liveAt0_9 m hO t]; exact (after0_9 m hO c t).symm
      · iexact H9
    isplitl [H10]
    · iexists (iblk m hO c 10 t)
      isplitr
      · ipureintro; show (datv m hO c).Leaves 10 t (iblk m hO c 10 t); unfold Dat.Leaves; rw [liveAt0_10 m hO t]; exact (after0_10 m hO c t).symm
      · iexact H10
    isplitl [H11]
    · iexists (iblk m hO c 11 t)
      isplitr
      · ipureintro; show (datv m hO c).Leaves 11 t (iblk m hO c 11 t); unfold Dat.Leaves; rw [liveAt0_11 m hO t]; exact (after0_11 m hO c t).symm
      · iexact H11
    isplitl [H12]
    · iexists (iblk m hO c 12 t)
      isplitr
      · ipureintro; show (datv m hO c).Leaves 12 t (iblk m hO c 12 t); unfold Dat.Leaves; rw [liveAt0_12 m hO t]; exact (after0_12 m hO c t).symm
      · iexact H12
    isplitl [H13]
    · iexists z13
      isplitr
      · ipureintro; exact h13
      · iexact H13
    isplitl [H14]
    · iexists z14
      isplitr
      · ipureintro; trivial
      · iexact H14
    isplitl [H15]
    · iexists z15
      isplitr
      · ipureintro; trivial
      · iexact H15
    iexists z16
    isplitr
    · ipureintro; trivial
    · iexact H16

/-- What the launch hands the region is the invariant before the first point, -/
theorem hinV : iprop(Pipeline.ΦA spec0 c ∗ Pipeline.ΦT pre0 (tbl m) c) ⊢ (rdv m hO c).Φ 0 := by
  rw [show (rdv m hO c).Φ 0 = PhiV m hO c 0 from rfl, PhiT0_eq, PhiA0_eq]
  unfold PhiV scrV restV
  rw [if_pos rfl]
  iintro ⟨⟨⟨HS0, HS1, HS2, HS3, HS4, HS5, HS6, HS7, HS8, HS9, HS10, HS11, HS12⟩, Hg⟩, HT⟩
  isplitl [HS0 HS1 HS2 HS3 HS4 HS5 HS6 HS7]
  · isplitl [HS0]
    · iexact HS0
    isplitl [HS1]
    · iexact HS1
    isplitl [HS2]
    · iexact HS2
    isplitl [HS3]
    · iexact HS3
    isplitl [HS4]
    · iexact HS4
    isplitl [HS5]
    · iexact HS5
    isplitl [HS6]
    · iexact HS6
    iexact HS7
  isplitl [HS8 HS9 HS10 HS11 HS12]
  · isplitl [HS8]
    · iexact HS8
    isplitl [HS9]
    · iexact HS9
    isplitl [HS10]
    · iexact HS10
    isplitl [HS11]
    · iexact HS11
    iexact HS12
  isplitl [Hg]
  · iexact Hg
  iexact HT

/-- and the invariant after the last point gives the scratch back. -/
theorem houtV : (rdv m hO c).Φ (Fin.last (cfgM m hO).N) ⊢ Pipeline.ΦA spec0 c := by
  rw [show (rdv m hO c).Φ (Fin.last (cfgM m hO).N) = PhiV m hO c grid0.N from rfl, PhiA0_eq]
  unfold PhiV scrV restV
  rw [N_0, if_neg (by decide), if_pos (by decide)]
  iintro ⟨⟨⟨HS0, HS1, HS2, HS3, HS4, HS5⟩, ⟨HS6, HS7⟩⟩, ⟨HS8, HS9, HS10, HS11, HS12⟩, Hg, HT⟩
  isplitl [HS0 HS1 HS2 HS3 HS4 HS5 HS6 HS7 HS8 HS9 HS10 HS11 HS12]
  · isplitl [HS0]
    · iexact HS0
    isplitl [HS1]
    · iexact HS1
    isplitl [HS2]
    · iexact HS2
    isplitl [HS3]
    · iexact HS3
    isplitl [HS4]
    · iexact HS4
    isplitl [HS5]
    · iexact HS5
    isplitl [HS6]
    · iexists _; iexact HS6
    isplitl [HS7]
    · iexists _; iexact HS7
    isplitl [HS8]
    · iexact HS8
    isplitl [HS9]
    · iexact HS9
    isplitl [HS10]
    · iexact HS10
    isplitl [HS11]
    · iexact HS11
    iexact HS12
  iexact Hg

-- the launch theorem's implicit arguments are found by unifying its conclusion with this one
set_option backward.isDefEq.respectTransparency.types false in
/-- The launch: the arrays end as the data say, the semaphores at zero. -/
theorem run_V (ρ : Dev nD → PrngReg) : θ_run defs (onTc (τ := τ) (main (F := Ideal))) (s₀ m ρ) (fun r => (Pipeline.RDat.FramePost ((Pipeline.pin pcfgs fun _ => adm m hO) 0) (fun c => rdv m hO c) (V m)) r ∧ r.2.sem = fun _ => 0) :=
  Pipeline.RDat.θ_run_frameP_track (Q' := _) pcfgs (fun _ => adm m hO) (0 : Fin 1) launch0 defs₀ Variants.none (fun c => rdv m hO c) m ρ main
    (hbody := fun c => body_obligationV m hO c) (hshare := fun c => (dats m hO 0 c).share_full fun _ => rfl)
    (howed := fun _ _ => rfl) (V := V m) (hmain := hmain m Variants.none) (hA := A_eq m hO) (hpf := V_pre m) (hin := hinV m hO) (hout := houtV m hO)

/-- The first result's block at a point is its batch's. -/
theorem index13 (t : Fin (cfgM m hO).N) : ((cfgM m hO).win 13).index t (0 : Fin 3) = t.val / 8 := by
  have ht : t.val < 16 := Nat.lt_of_lt_of_eq t.isLt N_0
  have e0 : (grid0.coords t 0).val = t.val / 8 % 2 := crd0 t
  show (BitVec.ofNat 32 (grid0.coords t 0).val).toNat = t.val / 8
  rw [toNat_crd _ (by omega)]
  omega

/-- The first result's block is written back at the last chunk of a batch. -/
theorem flush13 (t : Fin (cfgM m hO).N) : ((cfgM m hO).win 13).flush t = true ↔ t.val % 8 = 7 := by
  have ht : t.val < 16 := Nat.lt_of_lt_of_eq t.isLt N_0
  have hN : (cfgM m hO).grid.N = 16 := N_0
  have hi := index13 m hO
  rw [Window.flush_eq_flushF]
  unfold Window.flushF
  rw [show ((cfgM m hO).win 13).isOut = true from rfl, Bool.true_and, Bool.or_eq_true, decide_eq_true_iff, decide_eq_true_iff]
  constructor
  · rintro (h | ⟨h, a, ha⟩)
    · omega
    · by_contra h7
      apply ha
      match (show Fin 3 from a) with
      | 0 => rw [show ((cfgM m hO).win 13).index ⟨t.val + 1, h⟩ (0 : Fin 3) = (t.val + 1) / 8 from hi ⟨t.val + 1, h⟩, show ((cfgM m hO).win 13).index t (0 : Fin 3) = t.val / 8 from hi t]; omega
      | 1 => rfl
      | 2 => rfl
  · intro h
    by_cases h15 : t.val = 15
    · left; omega
    · right
      have hlt : t.val + 1 < (cfgM m hO).grid.N := by rw [hN]; omega
      refine ⟨hlt, (0 : Fin 3), ?_⟩
      rw [show ((cfgM m hO).win 13).index ⟨t.val + 1, hlt⟩ (0 : Fin 3) = (t.val + 1) / 8 from hi ⟨t.val + 1, hlt⟩, show ((cfgM m hO).win 13).index t (0 : Fin 3) = t.val / 8 from hi t]; omega

/-- The first result, batch by batch, row by row. -/
def dqV (i : S2x8192x128.Idx) : Elt Ideal .bf16 :=
  dqS (accV m hO c ((i 0).val * 8 + 7)) (dscS (bdsc m c (i 0))) (ix3 0 (i 1) (i 2))

set_option maxHeartbeats 1000000 in
/-- The first result's array after the run. -/
theorem arr13 (F13 : Buf (Elt Ideal) (((cfgM m hO).spec 13).arr.view.loc (c.tc : Thread nD τ))) (h : (rdv m hO c).ArrAt 13 (cfgM m hO).N F13) (i : S2x8192x128.Idx) :
    (F13 : Vec Ideal S2x8192x128 .bf16) i = dqV m hO c i := by
  obtain ⟨X, hX, hA⟩ := h.exists_exact
  have e := hA (Function.update (fun _ _ _ => Classical.arbitrary _) 13 X) fun u _ _ => by rw [Function.update_self]
  rw [e]
  refine Dat.arrAt_forall_of_cover ((rdv m hO c).withAfter (Function.update (fun _ _ _ => Classical.arbitrary _) 13 X)) 13 (fun (i : S2x8192x128.Idx) v => (v : Elt Ideal .bf16) = dqV m hO c i) ?_ ?_ i
  · intro t hf (y : S1x8192x128.Idx)
    have h7 := (flush13 m hO t).1 hf
    have ht : t.val < 16 := Nat.lt_of_lt_of_eq t.isLt N_0
    have hi := index13 m hO t
    have hy : (y 0).val < 1 := (y 0).isLt
    obtain ⟨Y, -, hR⟩ := hX t t.isLt hf
    have hR : X t = dqS (accV m hO c t.val) (dscS (bdsc m c (bOf t))) := (show t.val % 8 = 7 → (X t : Vec Ideal S1x8192x128 .bf16) = _ from hR) h7
    show (Function.update (fun _ _ _ => Classical.arbitrary _) 13 X : (w : Fin (cfgM m hO).W) → Fin (cfgM m hO).N → ((cfgM m hO).win w).block.Idx → Elt Ideal ((cfgM m hO).win w).elt) 13 t y = _
    rw [Function.update_self, hR]
    unfold dqV
    have h0 : ((((cfgM m hO).win 13).blk t).view.emb y (0 : Fin 3)).val = t.val / 8 := by
      show ((cfgM m hO).win 13).index t (0 : Fin 3) * 1 + 1 * (y 0).val = t.val / 8
      rw [hi]; omega
    have h1 : ((((cfgM m hO).win 13).blk t).view.emb y (1 : Fin 3)).val = (y 1).val := by
      show 0 * 8192 + 1 * (y 1).val = _
      omega
    have h2 : ((((cfgM m hO).win 13).blk t).view.emb y (2 : Fin 3)).val = (y 2).val := by
      show 0 * 128 + 1 * (y 2).val = _
      omega
    generalize (((cfgM m hO).win 13).blk t).view.emb y = z at h0 h1 h2
    have z0 : (show S2x8192x128.Idx from z) 0 = bOf t := Fin.ext h0
    have z1 : (show S2x8192x128.Idx from z) 1 = y 1 := Fin.ext h1
    have z2 : (show S2x8192x128.Idx from z) 2 = y 2 := Fin.ext h2
    show _ = dqS (accV m hO c (((show S2x8192x128.Idx from z) 0).val * 8 + 7)) (dscS (bdsc m c ((show S2x8192x128.Idx from z) 0))) (ix3 0 ((show S2x8192x128.Idx from z) 1) ((show S2x8192x128.Idx from z) 2))
    rw [z0, z1, z2, show (bOf t).val * 8 + 7 = t.val from by show t.val / 8 * 8 + 7 = t.val; omega]
    refine congrArg _ ?_
    funext (k : Fin 3)
    match k with
    | 0 => exact Fin.ext (by show (y 0).val = 0; omega)
    | 1 => rfl
    | 2 => rfl
  · intro (i : S2x8192x128.Idx)
    have hi0 : (i 0).val < 2 := (i 0).isLt
    have htN : (i 0).val * 8 + 7 < grid0.N := by rw [N_0]; omega
    refine ⟨(⟨(i 0).val * 8 + 7, htN⟩ : Fin grid0.N), (flush13 m hO _).2 (by show ((i 0).val * 8 + 7) % 8 = 7; omega), ?_⟩
    have hi := index13 m hO (⟨(i 0).val * 8 + 7, htN⟩ : Fin grid0.N)
    refine Finset.mem_map.mpr ⟨(ix3 0 (i 1) (i 2) : S1x8192x128.Idx), Finset.mem_univ _, ?_⟩
    funext (k : Fin 3)
    match k with
    | 0 =>
      refine Fin.ext ?_
      show ((cfgM m hO).win 13).index (⟨(i 0).val * 8 + 7, htN⟩ : Fin grid0.N) (0 : Fin 3) * 1 + 1 * 0 = (i 0).val
      rw [hi]; show ((i 0).val * 8 + 7) / 8 * 1 + 1 * 0 = _; omega
    | 1 => refine Fin.ext ?_; show 0 * 8192 + 1 * (i 1).val = (i 1).val; omega
    | 2 => refine Fin.ext ?_; show 0 * 128 + 1 * (i 2).val = (i 2).val; omega

/-- The word the body reads is its batch's context length. -/
theorem tb_eq (t : Fin grid0.N) : TbV c (grid0.coords t) (tbl m 0) = (V m c main_arg9 : Vec Ideal S2 .i32) (ix1 (bOf t)) := by
  have ht : t.val < 16 := Nat.lt_of_lt_of_eq t.isLt N_0
  have e0 : (grid0.coords t 0).val = t.val / 8 % 2 := crd0 t
  obtain rfl : c = 0 := Subsingleton.elim _ _
  unfold TbV tbl
  refine vread (V m 0 main_arg9 : Vec Ideal S2 .i32) _ _ (fun (k : Fin 1) => ?_)
  match k with
  | 0 =>
    show (BitVec.ofNat 32 (grid0.coords t 0).val).toNat + 1 * 0 = t.val / 8
    rw [toNat_crd _ (by omega)]
    omega

end

end Cert.KernelIdeal.Gen

end
-- ==== Proof.ValEq.lean ====
module

public import proofs.«01_k».proof.Proof.RefTerms
public import proofs.«01_k».proof.Proof.KernelIdeal.AffAt
public import proofs.«01_k».proof.Proof.KernelIdeal.VRun

@[expose] public section

set_option maxRecDepth 16384

noncomputable section

namespace Cert.Val

open Idealize.ShloMosaic Idealize.ShloMosaic.TcCoe
open Idealize.SL Idealize.SL.RA Idealize.SL.BI
open Idealize.SL.BI.BIBase Idealize.SL.Sem
open Cert.KernelIdeal Cert.KernelIdeal.Gen
open Cert.ReferenceIdeal.Hand (RIn hd D Tame okC val_v28 val_v30 val_v53 val_v55 val_v88 val_v90 val_v97)

/-! The kernel's result is the reference's, element by element. -/

variable (m : (ℓ : Loc nD τ sig) → Buf (Elt Ideal) ℓ) (hO : Ok m) (c : Dev nD)

/-- The kernel's arguments, as the reference's host operations read theirs. -/
def kin : RIn Ideal where
  v0_0 := (m ((c : Thread nD τ).loc main_arg10) : Vec Ideal S2x512x16x128 .fp8e5m2)
  v0_1 := (m ((c : Thread nD τ).loc main_arg5) : Vec Ideal S2x4096x8x128 .fp8e4m3)
  v0_2 := (m ((c : Thread nD τ).loc main_arg7) : Vec Ideal S2x4096x8x128 .fp8e4m3)
  arg0 := (m ((c : Thread nD τ).loc main_arg0) : Vec Ideal S2x512x16x128 .bf16)
  arg1 := (m ((c : Thread nD τ).loc main_arg1) : Vec Ideal S2x512x8x128 .bf16)
  arg2 := (m ((c : Thread nD τ).loc main_arg2) : Vec Ideal S2x512x8x128 .bf16)
  arg3 := (m ((c : Thread nD τ).loc main_arg3) : Vec Ideal S20x8x128 .bf16)
  arg4 := (m ((c : Thread nD τ).loc main_arg4) : Vec Ideal S20x8x128 .bf16)
  arg6 := (m ((c : Thread nD τ).loc main_arg6) : Vec Ideal S2x4096x8 .f32)
  arg8 := (m ((c : Thread nD τ).loc main_arg8) : Vec Ideal S2x4096x8 .f32)
  arg9 := (m ((c : Thread nD τ).loc main_arg9) : IVec S2 32)
  arg11 := (m ((c : Thread nD τ).loc main_arg11) : Vec Ideal S2x512x16 .f32)
  arg12 := (m ((c : Thread nD τ).loc main_arg12) : Vec Ideal S2x16x512 .f32)
  arg13 := (m ((c : Thread nD τ).loc main_arg13) : Vec Ideal S2x512x16x128 .bf16)

/-- Which head of its group a column is. -/
def ce (l : Fin 1024) : Fin 2 := ⟨l.val / 128 % 2, by omega⟩

variable (b : Fin 2) (g : Fin 8) (l : Fin 1024)

theorem ch_eq : ch g l = hd g (ce l) := rfl

theorem kq (d : Fin 128) : bq m c b (ix3 0 (rw8 g l) d) = (kin m c).arg0 (ix4 b (ci l) (hd g (ce l)) d) :=
  V_main_v0 m c b (rw8 g l) d (ci l) (hd g (ce l)) (by show 16 * _ + _ = _; rw [ch_eq]; omega)
theorem ko (d : Fin 128) : bo m c b (ix3 0 (rw8 g l) d) = (kin m c).arg13 (ix4 b (ci l) (hd g (ce l)) d) :=
  V_main_v1 m c b (rw8 g l) d (ci l) (hd g (ce l)) (by show 16 * _ + _ = _; rw [ch_eq]; omega)
theorem kdo (d : Fin 128) : bdo m c b (ix3 0 (rw8 g l) d) = (kin m c).v0_0 (ix4 b (ci l) (hd g (ce l)) d) :=
  V_main_v2 m c b (rw8 g l) d (ci l) (hd g (ce l)) (by show 16 * _ + _ = _; rw [ch_eq]; omega)
theorem kk (j : Fin 512) (h : 8 * j.val + g.val < 4096) (d : Fin 128) : bk m c b (ix3 0 ⟨8 * j.val + g.val, h⟩ d) = (kin m c).arg1 (ix4 b j g d) :=
  V_main_v3 m c b ⟨8 * j.val + g.val, h⟩ d j g (by show 8 * j.val + g.val = _; omega)
theorem kv (j : Fin 512) (h : 8 * j.val + g.val < 4096) (d : Fin 128) : bv m c b (ix3 0 ⟨8 * j.val + g.val, h⟩ d) = (kin m c).arg2 (ix4 b j g d) :=
  V_main_v4 m c b ⟨8 * j.val + g.val, h⟩ d j g (by show 8 * j.val + g.val = _; omega)
theorem kpk (p : Fin 32) (hp : p.val < 20) (h : 4 * p.val + g.val / 2 < 128) (d : Fin 128) : padP (bpk m c) (ix3 ⟨4 * p.val + g.val / 2, h⟩ (par g) d) = (kin m c).arg3 (ix3 ⟨p.val, hp⟩ g d) :=
  (padP_hit (bpk m c) ⟨4 * p.val + g.val / 2, h⟩ (par g) d (by show 4 * p.val + g.val / 2 < 80; omega)).trans
    (V_main_v5 m c _ d ⟨p.val, hp⟩ g (by show 2 * (4 * p.val + g.val / 2) + g.val % 2 = p.val * 8 + g.val; omega))
theorem kpv (p : Fin 32) (hp : p.val < 20) (h : 4 * p.val + g.val / 2 < 128) (d : Fin 128) : padP (bpv m c) (ix3 ⟨4 * p.val + g.val / 2, h⟩ (par g) d) = (kin m c).arg4 (ix3 ⟨p.val, hp⟩ g d) :=
  (padP_hit (bpv m c) ⟨4 * p.val + g.val / 2, h⟩ (par g) d (by show 4 * p.val + g.val / 2 < 80; omega)).trans
    (V_main_v6 m c _ d ⟨p.val, hp⟩ g (by show 2 * (4 * p.val + g.val / 2) + g.val % 2 = p.val * 8 + g.val; omega))

theorem kdsc : hcS (bdsc m c b) g l = (kin m c).arg11 (ix3 b (ci l) (hd g (ce l))) := V_main_v11 m c b (hd g (ce l)) (ci l)
theorem klse : hcS (blse m c b) g l = (kin m c).arg12 (ix3 b (hd g (ce l)) (ci l)) := by
  show (V m c main_arg12 : Vec Ideal S2x16x512 .f32) (ix3 b (hd g (ce l)) (ci l)) = _
  rw [V_main_arg12]; rfl
theorem klen : (V m c main_arg9 : IVec S2 32) (ix1 b) = (kin m c).arg9 (ix1 b) := by
  rw [V_main_arg9]; rfl
theorem kds : dsS (bo m c b) (bdo m c b) g l = D (kin m c) b (ci l) (hd g (ce l)) := by
  unfold dsS D
  simp only [ko, kdo]

theorem knl (r : ℝ) (h : (kin m c).arg12 (ix3 b (hd g (ce l)) (ci l)) = (r : EReal)) : nlS (blse m c b) g l = (r : EReal) * ((-Alg.L : ℝ) : EReal) := by
  unfold nlS
  rw [klse, h]
  rfl

theorem sc2_eq : sc2 = ((Alg.SC * Alg.L : ℝ) : EReal) := rfl

/-- A prefix slot's term. -/
theorem pre_term (T : Tame (kin m c)) (d : Fin 128) (p : Fin 32) (hp : p.val < 20) :
    preT (padP (bpk m c)) (padP (bpv m c)) (bq m c b) (bo m c b) (bdo m c b) (blse m c b) g d l p * (kin m c).arg11 (ix3 b (ci l) (hd g (ce l)))
      = ((kin m c).arg3 (ix3 ⟨p.val, hp⟩ g d) * val_v28 (kin m c) (ix5 b g (ce l) (ci l) ⟨p.val, hp⟩) : EReal) := by
  obtain ⟨r, hr, er⟩ := T.dsc b (ci l) (hd g (ce l))
  obtain ⟨lr, el⟩ := T.lse b (hd g (ce l)) (ci l)
  rw [Cert.ReferenceIdeal.Hand.v28_eq (kin m c) b g (ce l) (ci l) ⟨p.val, hp⟩ r lr hr er el, er, ← Alg.term_mul _ _ _ _ r hr, ← Alg.pre_exp]
  unfold preT
  rw [if_pos hp, knl m c b g l lr el, kds, sc2_eq]
  simp only [kpk m c g p hp, kpv m c g p hp, kq, kdo]
  rfl

/-- An own token's term. -/
theorem self_term (T : Tame (kin m c)) (d : Fin 128) (j : Fin 512) :
    (if j.val ≤ (ci l).val then selfT (bk m c b) (bv m c b) (bq m c b) (bo m c b) (bdo m c b) (blse m c b) g d l j else 0 : EReal) * (kin m c).arg11 (ix3 b (ci l) (hd g (ce l)))
      = ((kin m c).arg1 (ix4 b j g d) * val_v53 (kin m c) (ix5 b g (ce l) (ci l) j) : EReal) := by
  obtain ⟨r, hr, er⟩ := T.dsc b (ci l) (hd g (ce l))
  obtain ⟨lr, el⟩ := T.lse b (hd g (ce l)) (ci l)
  rw [Cert.ReferenceIdeal.Hand.v53_eq (kin m c) b g (ce l) (ci l) j r lr hr er el, er]
  by_cases h : j.val ≤ (ci l).val
  · rw [if_pos h, if_pos h, ← Alg.term_mul _ _ _ _ r hr, ← Alg.pre_exp]
    unfold selfT
    rw [knl m c b g l lr el, kds, sc2_eq]
    simp only [kk, kv, kq, kdo]
    rfl
  · rw [if_neg h, if_neg h, zero_mul, mul_zero]

/-- The accumulator's start. -/
theorem acc0_eq (T : Tame (kin m c)) (d : Fin 128) :
    accB m c b (ix3 g d l) * (kin m c).arg11 (ix3 b (ci l) (hd g (ce l)))
      = (val_v30 (kin m c) (ix5 g d b (ce l) (ci l)) + val_v55 (kin m c) (ix5 b g d (ce l) (ci l)) : EReal) := by
  obtain ⟨r, hr, er⟩ := T.dsc b (ci l) (hd g (ce l))
  rw [Cert.ReferenceIdeal.Hand.v30_at, Cert.ReferenceIdeal.Hand.v55_at]
  show ((∑ p : Fin 32, preT (padP (bpk m c)) (padP (bpv m c)) (bq m c b) (bo m c b) (bdo m c b) (blse m c b) g d l p) + ∑ j : Fin 512, (if j.val ≤ (ci l).val then selfT (bk m c b) (bv m c b) (bq m c b) (bo m c b) (bdo m c b) (blse m c b) g d l j else 0) : EReal) * _ = _
  have hs := self_term m c b g l T d
  have hp := pre_term m c b g l T d
  rw [er] at hs hp ⊢
  rw [Alg.dist r hr, Alg.dist_sum _ r hr, Alg.dist_sum _ r hr]
  congr 1
  · refine (Fin.sum_univ_add (a := 20) (b := 12) _).trans ?_
    refine (congrArg₂ (· + ·) (Finset.sum_congr rfl fun p _ => hp (Fin.castAdd 12 p) p.isLt) (Finset.sum_eq_zero fun p _ => ?_)).trans (add_zero _)
    have h : ¬ (Fin.natAdd 20 p : Fin 32).val < 20 := by simp
    unfold preT
    rw [if_neg h, zero_mul]
  · exact Finset.sum_congr rfl fun j _ => hs j

/-- A row of the widened queries below 128. -/
theorem qaug_lo (xq : Vec Ideal S1x8192x128 .bf16) (xl : Vec Ideal S1x16x512 .f32) (d : Fin 128) (h : d.val < 256) :
    qaugS xq xl (ix3 g ⟨d.val, h⟩ l) = xq (ix3 0 (rw8 g l) d) := dif_pos d.isLt

/-- A row of the widened queries from 128 on. -/
theorem qaug_hi (xq : Vec Ideal S1x8192x128 .bf16) (xl : Vec Ideal S1x16x512 .f32) (d : Fin 128) (h : 128 + d.val < 256) :
    qaugS xq xl (ix3 g ⟨128 + d.val, h⟩ l) = padS (nlS xl g l) (nlS xl g l - nlS xl g l) (nlS xl g l - nlS xl g l - (nlS xl g l - nlS xl g l)) g.val d.val := by
  refine (dif_neg (show ¬ 128 + d.val < 128 by omega)).trans ?_
  exact congrArg (fun z => padS (nlS xl g l) (nlS xl g l - nlS xl g l) (nlS xl g l - nlS xl g l - (nlS xl g l - nlS xl g l)) g.val z) (Nat.add_sub_cancel_left 128 d.val)

/-- A context slot's term. -/
theorem ctx_term (T : Tame (kin m c)) (a v1 : BitVec 32) (x7 x8 : Vec Ideal S1x4096x128 .fp8e4m3) (x9 x10 : Vec Ideal S1x8x512 .f32) (s : Fin 512) (s' : Fin 4096)
    (h7 : ∀ d : Fin 128, x7 (ix3 0 ⟨s.val * 8 + g.val, by omega⟩ d) = (kin m c).v0_1 (ix4 b s' g d))
    (h8 : ∀ d : Fin 128, x8 (ix3 0 ⟨s.val * 8 + g.val, by omega⟩ d) = (kin m c).v0_2 (ix4 b s' g d))
    (h9 : x9 (ix3 0 g s) = (kin m c).arg6 (ix3 b s' g)) (h10 : x10 (ix3 0 g s) = (kin m c).arg8 (ix3 b s' g))
    (hok : okS a v1 s = okC (kin m c) b s') (e : Fin 128) :
    ctxE (afS a v1 x9) (k0_pay553 (F := Ideal) a v1 x9) (k0_pay704 (F := Ideal) x10) x7 x8 (fun i => qaugS (bq m c b) (blse m c b) (ix3 g i l)) (fun i => dotS (bdo m c b) (ix3 g i l)) (dsumS (bo m c b) (bdo m c b) (ix3 g 0 l)) g e s * (kin m c).arg11 (ix3 b (ci l) (hd g (ce l)))
      = ((kin m c).v0_1 (ix4 b s' g e) * val_v88 (kin m c) (ix5 b g (ce l) (ci l) s') : EReal) := by
  obtain ⟨r, hr, er⟩ := T.dsc b (ci l) (hd g (ce l))
  obtain ⟨lr, el⟩ := T.lse b (hd g (ce l)) (ci l)
  obtain ⟨k, hk, ek⟩ := T.ksc b s' g
  have hnl : nlS (blse m c b) g l = ((lr * -Alg.L : ℝ) : EReal) := (knl m c b g l lr el).trans (EReal.coe_mul _ _).symm
  have hF : ∀ d : Fin 128, (afS a v1 x9 (ix2 s d) * qaugS (bq m c b) (blse m c b) (ix3 g ⟨128 + d.val, by omega⟩ l) : EReal)
      = afS a v1 x9 (ix2 s d) * padS ((lr * -Alg.L : ℝ) : EReal) (((lr * -Alg.L : ℝ) : EReal) - ((lr * -Alg.L : ℝ) : EReal)) (((lr * -Alg.L : ℝ) : EReal) - ((lr * -Alg.L : ℝ) : EReal) - (((lr * -Alg.L : ℝ) : EReal) - ((lr * -Alg.L : ℝ) : EReal))) g.val d.val := by
    intro d
    rw [qaug_hi, hnl]
  have hX : (∑ d : Fin 128, x7 (ix3 0 ⟨s.val * 8 + g.val, by omega⟩ d) * qaugS (bq m c b) (blse m c b) (ix3 g ⟨d.val, by omega⟩ l) : EReal)
      = ∑ d : Fin 128, (kin m c).v0_1 (ix4 b s' g d) * (kin m c).arg0 (ix4 b (ci l) (hd g (ce l)) d) :=
    Finset.sum_congr rfl fun d _ => by rw [qaug_lo, h7, kq]
  have hA : (∑ d : Fin 128, x8 (ix3 0 ⟨s.val * 8 + g.val, by omega⟩ d) * dotS (bdo m c b) (ix3 g d l) : EReal)
      = ∑ d : Fin 128, (kin m c).v0_2 (ix4 b s' g d) * (kin m c).v0_0 (ix4 b (ci l) (hd g (ce l)) d) :=
    Finset.sum_congr rfl fun d _ => by rw [h8, ← kdo m c b g l d]; rfl
  have hS : (dsumS (bo m c b) (bdo m c b) (ix3 g 0 l) : EReal) = D (kin m c) b (ci l) (hd g (ce l)) := kds m c b g l
  show ((x7 (ix3 0 ⟨s.val * 8 + g.val, by omega⟩ e) * (Ideal.exp2 (((∑ d : Fin 128, x7 (ix3 0 ⟨s.val * 8 + g.val, by omega⟩ d) * qaugS (bq m c b) (blse m c b) (ix3 g ⟨d.val, by omega⟩ l)) + ∑ d : Fin 128, afS a v1 x9 (ix2 s d) * qaugS (bq m c b) (blse m c b) (ix3 g ⟨128 + d.val, by omega⟩ l)) * k0_pay553 (F := Ideal) a v1 x9 (ix2 g s)) *
    ((∑ d : Fin 128, x8 (ix3 0 ⟨s.val * 8 + g.val, by omega⟩ d) * dotS (bdo m c b) (ix3 g d l)) * k0_pay704 (F := Ideal) x10 (ix2 g s) - dsumS (bo m c b) (bdo m c b) (ix3 g 0 l)))) * _ : EReal) = _
  rw [hX, hA, hS, p704_at, h10, h7, er]
  by_cases h : okC (kin m c) b s' = 1#1
  · rw [ctx_ok a v1 x9 g s (lr * -Alg.L) lr k rfl hk (hok.trans h) (h9.trans ek) _ _ hF, Cert.ReferenceIdeal.Hand.v88_ok (kin m c) b g (ce l) (ci l) s' r lr k hr er el ek h, Alg.term_ctx _ _ _ _ _ _ _ hr]
  · rw [ctx_masked a v1 x9 g s _ (by rw [hok]; exact h) _ _ hF, Cert.ReferenceIdeal.Hand.v88_masked (kin m c) b g (ce l) (ci l) s' lr el h, zero_mul, mul_zero, zero_mul]

/-- A slot of chunk `k` in a chunk and in the whole. -/
theorem ok_eq (k : ℕ) (hk : k < 8) (s : Fin 512) (h : s.val + 512 * k < 4096) :
    okS (BitVec.ofNat 32 k) ((kin m c).arg9 (ix1 b)) s = okC (kin m c) b ⟨s.val + 512 * k, h⟩ := by
  have e : IntOp.addi (Scalar.muli (BitVec.ofNat 32 k) 512#32) (BitVec.ofNat 32 s.val) = BitVec.ofNat 32 (s.val + 512 * k) := by
    apply BitVec.eq_of_toNat_eq
    show (BitVec.ofNat 32 k * 512#32 + BitVec.ofNat 32 s.val).toNat = _
    simp only [BitVec.toNat_add, BitVec.toNat_mul, BitVec.toNat_ofNat]
    omega
  unfold okS okC
  rw [e]

/-- What chunk `k` adds, in the reference's terms. -/
def part (d : Fin 128) (k : Fin 8) : EReal := ∑ s : Fin 512, ((kin m c).v0_1 (ix4 b ⟨s.val + 512 * k.val, by omega⟩ g d) * val_v88 (kin m c) (ix5 b g (ce l) (ci l) ⟨s.val + 512 * k.val, by omega⟩) : EReal)

/-- A grid point adds its chunk. -/
theorem chk_eq (T : Tame (kin m c)) (t : Fin grid0.N) (k : Fin 8) (hk : k.val = t.val % 8) (hb : b = bOf t) (A : Vec Ideal S8x128x1024 .f32) (d : Fin 128) :
    (chk m hO c t A (ix3 g d l) * (kin m c).arg11 (ix3 b (ci l) (hd g (ce l))) : EReal)
      = A (ix3 g d l) * (kin m c).arg11 (ix3 b (ci l) (hd g (ce l))) + part m c b g l d k := by
  have ht : t.val < 16 := Nat.lt_of_lt_of_eq t.isLt N_0
  obtain ⟨r, hr, er⟩ := T.dsc b (ci l) (hd g (ce l))
  obtain ⟨lr, el⟩ := T.lse b (hd g (ce l)) (ci l)
  have hbv : b.val = t.val / 8 := by rw [hb]; rfl
  have e1 : (grid0.coords t 1).val = k.val := by rw [crd1, hk]; omega
  have en : TbV c (grid0.coords t) (tbl m 0) = (kin m c).arg9 (ix1 b) := by rw [tb_eq, ← hb]; exact klen m c b
  have hl := live_iff (grid0.coords t) ((kin m c).arg9 (ix1 b))
  rw [e1] at hl
  unfold chk ctxN
  rw [en, ← hb]
  by_cases h : cond0_2 (grid0.coords t) ((kin m c).arg9 (ix1 b))
  · rw [if_pos h, e1]
    have h1 : (512 * (t.val % 8 : ℕ) : Int) < ((V m c main_arg9 : IVec S2 32) (ix1 b)).toInt := by rw [klen, ← hk]; exact hl.1 h
    have h2 : ((V m c main_arg9 : IVec S2 32) (ix1 b)).toInt ≤ 2147483136 := by rw [klen]; exact T.len b
    show ((A (ix3 g d l) + ∑ s : Fin 512, ctxE _ _ _ _ _ _ _ _ g d s) * _ : EReal) = _
    rw [er, Alg.dist r hr, Alg.dist_sum _ r hr, ← er]
    refine congrArg _ (Finset.sum_congr rfl fun s _ => ?_)
    refine ctx_term m c b g l T (BitVec.ofNat 32 k.val) ((kin m c).arg9 (ix1 b)) _ _ _ _ s ⟨s.val + 512 * k.val, by omega⟩ (fun d => ?_) (fun d => ?_) ?_ ?_ (ok_eq m c b k.val k.isLt s (by omega)) d
    · refine (congrFun (iblk7_eq m hO c t b hbv h1 h2) (ix3 0 ⟨s.val * 8 + g.val, by omega⟩ d)).trans ?_
      exact V_main_v7 m c b _ d ⟨s.val + 512 * k.val, by omega⟩ g (by show (t.val % 8) * 4096 + (s.val * 8 + g.val) = (s.val + 512 * k.val) * 8 + g.val; omega)
    · refine (congrFun (iblk8_eq m hO c t b hbv h1 h2) (ix3 0 ⟨s.val * 8 + g.val, by omega⟩ d)).trans ?_
      exact V_main_v8 m c b _ d ⟨s.val + 512 * k.val, by omega⟩ g (by show (t.val % 8) * 4096 + (s.val * 8 + g.val) = (s.val + 512 * k.val) * 8 + g.val; omega)
    · refine (congrFun (iblk9_eq m hO c t b hbv h1 h2) (ix3 0 g s)).trans ?_
      refine (V_main_v9 m c b g _).trans ?_
      exact congrArg (fun z => (kin m c).arg6 (ix3 b z g)) (Fin.ext (by show (t.val % 8) * 512 + s.val = s.val + 512 * k.val; omega))
    · refine (congrFun (iblk10_eq m hO c t b hbv h1 h2) (ix3 0 g s)).trans ?_
      refine (V_main_v10 m c b g _).trans ?_
      exact congrArg (fun z => (kin m c).arg8 (ix3 b z g)) (Fin.ext (by show (t.val % 8) * 512 + s.val = s.val + 512 * k.val; omega))
  · rw [if_neg h]
    have h0 : part m c b g l d k = 0 := by
      refine Finset.sum_eq_zero fun s _ => ?_
      rw [Cert.ReferenceIdeal.Hand.v88_masked (kin m c) b g (ce l) (ci l) _ lr el, mul_zero]
      unfold okC
      rw [Cert.ReferenceIdeal.Hand.slt_iff]
      intro hlt
      refine h (hl.2 (lt_of_le_of_lt ?_ hlt))
      show (512 * (k.val : Int)) ≤ (BitVec.ofNat 32 (s.val + 512 * k.val)).toInt
      have hn : (BitVec.ofNat 32 (s.val + 512 * k.val)).toNat = s.val + 512 * k.val := by rw [BitVec.toNat_ofNat]; omega
      rw [toInt_eq _ (by omega), hn]
      push_cast
      omega
    rw [h0, add_zero]

/-- The accumulator after chunk `k` of batch `b`. -/
theorem acc_eq (T : Tame (kin m c)) (d : Fin 128) : ∀ (k : ℕ) (hk : k < 8),
    (accV m hO c (b.val * 8 + k) (ix3 g d l) * (kin m c).arg11 (ix3 b (ci l) (hd g (ce l))) : EReal)
      = accB m c b (ix3 g d l) * (kin m c).arg11 (ix3 b (ci l) (hd g (ce l))) + ∑ a ∈ Finset.range (k + 1), (if h : a < 8 then part m c b g l d ⟨a, h⟩ else 0)
  | 0, hk => by
      have hb2 := b.isLt
      let t : Fin grid0.N := ⟨b.val * 8 + 0, Nat.lt_of_lt_of_eq (by omega : b.val * 8 + 0 < 16) N_0.symm⟩
      have hb : b = bOf t := Fin.ext (by show b.val = (b.val * 8 + 0) / 8; omega)
      have h := accV_first m hO c t (by show (b.val * 8 + 0) % 8 = 0; omega)
      rw [show accV m hO c (b.val * 8 + 0) = _ from h, chk_eq m hO c b g l T t ⟨0, hk⟩ (by show 0 = (b.val * 8 + 0) % 8; omega) hb, ← hb]
      rw [Finset.sum_range_one, dif_pos hk]
  | k + 1, hk => by
      have hb2 := b.isLt
      let t : Fin grid0.N := ⟨b.val * 8 + (k + 1), Nat.lt_of_lt_of_eq (by omega : b.val * 8 + (k + 1) < 16) N_0.symm⟩
      have hb : b = bOf t := Fin.ext (by show b.val = (b.val * 8 + (k + 1)) / 8; omega)
      have h := accV_next m hO c t (by show ¬ (b.val * 8 + (k + 1)) % 8 = 0; omega)
      rw [show accV m hO c (b.val * 8 + (k + 1)) = _ from h, chk_eq m hO c b g l T t ⟨k + 1, hk⟩ (by show k + 1 = (b.val * 8 + (k + 1)) % 8; omega) hb]
      rw [show t.val - 1 = b.val * 8 + k by show b.val * 8 + (k + 1) - 1 = _; omega, acc_eq T d k (by omega), Finset.sum_range_succ _ (k + 1), dif_pos hk, add_assoc]

/-- The eight chunks are the reference's sum over the context. -/
theorem parts_eq (d : Fin 128) : (∑ a ∈ Finset.range 8, (if h : a < 8 then part m c b g l d ⟨a, h⟩ else 0)) = (val_v90 (kin m c) (ix5 b g d (ce l) (ci l)) : EReal) := by
  rw [Cert.ReferenceIdeal.Hand.v90_at, Finset.sum_range]
  refine Eq.trans ?_ (Alg.sum_prod 8 512 4096 (by norm_num) _).symm
  exact Finset.sum_congr rfl fun a _ => dif_pos a.isLt

/-- What the kernel returns is what the reference returns. -/
theorem dq_eq (T : Tame (kin m c)) (n : Fin 8192) (d : Fin 128) :
    dqV m hO c (ix3 b n d) = val_v97 (kin m c) (ix3 b n d) := by
  have hh := Cert.ReferenceIdeal.Hand.v97_at (kin m c) b (grpI n) (ce (colI n)) (ci (colI n)) n d (by
    have hn := n.isLt
    have h1 : (256 * (n.val / 16 / 128) + 128 * (n.val % 2) + n.val / 16 % 128) / 256 = n.val / 16 / 128 := by omega
    have h2 : (256 * (n.val / 16 / 128) + 128 * (n.val % 2) + n.val / 16 % 128) % 128 = n.val / 16 % 128 := by omega
    have h3 : (256 * (n.val / 16 / 128) + 128 * (n.val % 2) + n.val / 16 % 128) / 128 % 2 = n.val % 2 := by omega
    show n.val = ((256 * (n.val / 16 / 128) + 128 * (n.val % 2) + n.val / 16 % 128) / 256 * 128 + (256 * (n.val / 16 / 128) + 128 * (n.val % 2) + n.val / 16 % 128) % 128) * 16 + (2 * (n.val % 16 / 2) + (256 * (n.val / 16 / 128) + 128 * (n.val % 2) + n.val / 16 % 128) / 128 % 2)
    rw [h1, h2, h3]
    omega)
  refine Eq.trans ?_ hh.symm
  have ha := acc_eq m hO c b (grpI n) (colI n) T d 7 (by norm_num)
  rw [parts_eq, acc0_eq m c b (grpI n) (colI n) T d] at ha
  show (accV m hO c (b.val * 8 + 7) (ix3 (grpI n) d (colI n)) * (hcS (bdsc m c b) (grpI n) (colI n) * ((Alg.SC : ℝ) : EReal)) : EReal) = _
  rw [kdsc, Alg.ofBits_scale, ← mul_assoc, ha, mul_comm, add_right_comm]

end Cert.Val

end
-- ==== Proof.TameOf.lean ====
module

public import proofs.«01_k».proof.Defs
public import proofs.«01_k».proof.Proof.Gen.KernelIdeal
public import proofs.«01_k».proof.Proof.ValEq

@[expose] public section

noncomputable section

namespace Cert.Val

open Idealize.ShloMosaic Idealize.ShloMosaic.TcCoe
open Cert.KernelIdeal Cert.KernelIdeal.Gen
open Cert.ReferenceIdeal.Hand (Tame)

/-! What the precondition says of the arguments. -/

/-- The side conditions the precondition's operations take. -/
theorem preFacts : Cert.Pre_tame.Facts := ⟨by decide, by decide, by decide, by decide⟩

theorem of_ogt {x y : EReal} (h : Ideal.cmp .ogt x y = 1#1) : y < x := by
  by_contra hn
  simp [Ideal.cmp, hn] at h
theorem of_oge {x y : EReal} (h : Ideal.cmp .oge x y = 1#1) : y ≤ x := by
  by_contra hn
  simp only [Ideal.cmp, hn] at h
  simp at h
theorem of_olt {x y : EReal} (h : Ideal.cmp .olt x y = 1#1) : x < y := by
  by_contra hn
  simp [Ideal.cmp, hn] at h
theorem of_sle {a n : BitVec 32} (h : IntOp.cmpi CmpIPredicate.sle a n = 1#1) : a.toInt ≤ n.toInt := by
  by_contra hn
  simp only [IntOp.cmpi, BitVec.sle, hn] at h
  simp at h

theorem bits_zero : Ideal.ofBits FTy.f32 0x00000000#32 = (0 : EReal) := by
  simp [Ideal.ofBits, Ideal.ieee]
theorem bits_top : Ideal.ofBits FTy.f32 0x7F800000#32 = (⊤ : EReal) := by
  simp [Ideal.ofBits, Ideal.ieee]

/-- Between the infinities lies a real. -/
theorem real_of {x : EReal} (h1 : ⊥ < x) (h2 : x < ⊤) : ∃ r : ℝ, x = r :=
  ⟨x.toReal, (EReal.coe_toReal h2.ne h1.ne').symm⟩

/-- The precondition bounds the arguments the proof needs bounded. -/
theorem tame_of (hF : Cert.Pre_tame.Facts) (m : (ℓ : Loc nD τ sig) → Buf (Elt Ideal) ℓ) (hP : Cert.Pre_KernelIdeal_tame (hPre_tame := hF) m) (c : Dev nD) : Tame (kin m c) := by
  obtain ⟨p1, p2, p3, p4, p5, p6, p7⟩ := hP c
  have q1 : ∀ i, Ideal.cmp .ogt ((kin m c).arg6 i) (Ideal.ofBits FTy.f32 0x00000000#32) = 1#1 := fun i => congrFun p1 i
  have q2 : ∀ i, Ideal.cmp .olt ((kin m c).arg6 i) (Ideal.ofBits FTy.f32 0x7F800000#32) = 1#1 := fun i => congrFun p2 i
  have q3 : ∀ i, Ideal.cmp .oge ((kin m c).arg11 i) (Ideal.ofBits FTy.f32 0x00000000#32) = 1#1 := fun i => congrFun p3 i
  have q4 : ∀ i, Ideal.cmp .olt ((kin m c).arg11 i) (Ideal.ofBits FTy.f32 0x7F800000#32) = 1#1 := fun i => congrFun p4 i
  have q5 : ∀ i, Ideal.cmp .ogt ((kin m c).arg12 i) (Ideal.ofBits FTy.f32 0xFF800000#32) = 1#1 := fun i => congrFun p5 i
  have q6 : ∀ i, Ideal.cmp .olt ((kin m c).arg12 i) (Ideal.ofBits FTy.f32 0x7F800000#32) = 1#1 := fun i => congrFun p6 i
  have q7 : ∀ i, IntOp.cmpi CmpIPredicate.sle ((kin m c).arg9 i) 2147483136#32 = 1#1 := fun i => congrFun p7 i
  rw [bits_zero] at q1 q3
  rw [bits_top] at q2 q4 q6
  rw [show Ideal.ofBits FTy.f32 0xFF800000#32 = (⊥ : EReal) from Alg.ofBits_neg_inf] at q5
  refine ⟨fun b h i => real_of (of_ogt (q5 _)) (of_olt (q6 _)), fun b i h => ?_, fun b s g => ?_, fun b => of_sle (q7 _)⟩
  · obtain ⟨r, hr⟩ := real_of (lt_of_lt_of_le EReal.bot_lt_zero (of_oge (q3 (ix3 b i h)))) (of_olt (q4 (ix3 b i h)))
    refine ⟨r, ?_, hr⟩
    have h0 := of_oge (q3 (ix3 b i h))
    rw [hr] at h0
    exact_mod_cast h0
  · obtain ⟨r, hr⟩ := real_of (lt_trans EReal.bot_lt_zero (of_ogt (q1 (ix3 b s g)))) (of_olt (q2 (ix3 b s g)))
    refine ⟨r, ?_, hr⟩
    have h0 := of_ogt (q1 (ix3 b s g))
    rw [hr] at h0
    exact_mod_cast h0

end Cert.Val

end
-- ==== Proof.ReferenceIdeal.RefRun.lean ====
module

public import proofs.«01_k».proof.Proof.ReferenceIdeal.RefAt
public import Idealize.ShloMosaic.Lib.Pipeline.ValueKit

@[expose] public section

set_option maxRecDepth 16384

noncomputable section

namespace Cert.ReferenceIdeal.Hand

open Idealize.ShloMosaic Idealize.ShloMosaic.TcCoe
open Idealize.SL Idealize.SL.RA Idealize.SL.BI
open Idealize.SL.BI.BIBase Idealize.SL.Sem
open Cert.ReferenceIdeal Cert.ReferenceIdeal.Gen
open Idealize.ShloMosaic.Pipeline (Dat)

/-! The reference's run: its result array ends at the value named. -/

variable (m : (ℓ : Loc nD τ sig) → Buf (Elt Ideal) ℓ) (ρ : Dev nD → PrngReg) (c : Dev nD)

/-- What the host operations read: the arguments, the codes among them as numbers. -/
def xin : RIn Ideal where
  v0_0 := (m ((c : Thread nD τ).loc main_arg10) : Vec Ideal S2x512x16x128 .fp8e5m2)
  v0_1 := (m ((c : Thread nD τ).loc main_arg5) : Vec Ideal S2x4096x8x128 .fp8e4m3)
  v0_2 := (m ((c : Thread nD τ).loc main_arg7) : Vec Ideal S2x4096x8x128 .fp8e4m3)
  arg0 := m ((c : Thread nD τ).loc main_arg0)
  arg1 := m ((c : Thread nD τ).loc main_arg1)
  arg2 := m ((c : Thread nD τ).loc main_arg2)
  arg3 := m ((c : Thread nD τ).loc main_arg3)
  arg4 := m ((c : Thread nD τ).loc main_arg4)
  arg6 := m ((c : Thread nD τ).loc main_arg6)
  arg8 := m ((c : Thread nD τ).loc main_arg8)
  arg9 := m ((c : Thread nD τ).loc main_arg9)
  arg11 := m ((c : Thread nD τ).loc main_arg11)
  arg12 := m ((c : Thread nD τ).loc main_arg12)
  arg13 := m ((c : Thread nD τ).loc main_arg13)

/-- The one point. -/
def p0 : Fin cfg0.N := ⟨0, by decide⟩

theorem out3_eq (x0 : Vec Ideal S2x512x16x128 .fp8e5m2) (x1 x2 : Vec Ideal S2x4096x8x128 .fp8e4m3) (i : S2x512x16x128.Idx) : out0_3 x0 x1 x2 i = (x0 i : EReal) := by
  unfold out0_3
  rw [View.canon_cons_unit_lit _ _ _ (by decide)]
  refine congrArg (fun j => (x0 j : EReal)) (funext fun a => Fin.ext ?_)
  match a with
  | 0 => show 0 + 1 * (i 0).val = (i 0).val; omega
  | 1 => show 0 + 1 * (i 1).val = (i 1).val; omega
  | 2 => show 0 + 1 * (i 2).val = (i 2).val; omega
  | 3 => show 0 + 1 * (i 3).val = (i 3).val; omega
theorem out4_eq (x0 : Vec Ideal S2x512x16x128 .fp8e5m2) (x1 x2 : Vec Ideal S2x4096x8x128 .fp8e4m3) (i : S2x4096x8x128.Idx) : out0_4 x0 x1 x2 i = (x1 i : EReal) := by
  unfold out0_4
  rw [View.canon_cons_unit_lit _ _ _ (by decide)]
  refine congrArg (fun j => (x1 j : EReal)) (funext fun a => Fin.ext ?_)
  match a with
  | 0 => show 0 + 1 * (i 0).val = (i 0).val; omega
  | 1 => show 0 + 1 * (i 1).val = (i 1).val; omega
  | 2 => show 0 + 1 * (i 2).val = (i 2).val; omega
  | 3 => show 0 + 1 * (i 3).val = (i 3).val; omega
theorem out5_eq (x0 : Vec Ideal S2x512x16x128 .fp8e5m2) (x1 x2 : Vec Ideal S2x4096x8x128 .fp8e4m3) (i : S2x4096x8x128.Idx) : out0_5 x0 x1 x2 i = (x2 i : EReal) := by
  unfold out0_5
  rw [View.canon_cons_unit_lit _ _ _ (by decide)]
  refine congrArg (fun j => (x2 j : EReal)) (funext fun a => Fin.ext ?_)
  match a with
  | 0 => show 0 + 1 * (i 0).val = (i 0).val; omega
  | 1 => show 0 + 1 * (i 1).val = (i 1).val; omega
  | 2 => show 0 + 1 * (i 2).val = (i 2).val; omega
  | 3 => show 0 + 1 * (i 3).val = (i 3).val; omega

theorem blk0 (t : Fin cfg0.N) (i : S2x512x16x128.Idx) : (iblk m c 0 t : Vec Ideal S2x512x16x128 .fp8e5m2) i = (m ((c : Thread nD τ).loc main_arg10) : Vec Ideal S2x512x16x128 .fp8e5m2) i := by
  unfold iblk
  refine congrArg (m ((c : Thread nD τ).loc main_arg10) : Vec Ideal S2x512x16x128 .fp8e5m2) (funext fun (a : Fin 4) => Fin.ext ?_)
  match a with
  | 0 => show 0 * 2 + 1 * (i 0).val = (i 0).val; omega
  | 1 => show 0 * 512 + 1 * (i 1).val = (i 1).val; omega
  | 2 => show 0 * 16 + 1 * (i 2).val = (i 2).val; omega
  | 3 => show 0 * 128 + 1 * (i 3).val = (i 3).val; omega
theorem blk1 (t : Fin cfg0.N) (i : S2x4096x8x128.Idx) : (iblk m c 1 t : Vec Ideal S2x4096x8x128 .fp8e4m3) i = (m ((c : Thread nD τ).loc main_arg5) : Vec Ideal S2x4096x8x128 .fp8e4m3) i := by
  unfold iblk
  refine congrArg (m ((c : Thread nD τ).loc main_arg5) : Vec Ideal S2x4096x8x128 .fp8e4m3) (funext fun (a : Fin 4) => Fin.ext ?_)
  match a with
  | 0 => show 0 * 2 + 1 * (i 0).val = (i 0).val; omega
  | 1 => show 0 * 4096 + 1 * (i 1).val = (i 1).val; omega
  | 2 => show 0 * 8 + 1 * (i 2).val = (i 2).val; omega
  | 3 => show 0 * 128 + 1 * (i 3).val = (i 3).val; omega
theorem blk2 (t : Fin cfg0.N) (i : S2x4096x8x128.Idx) : (iblk m c 2 t : Vec Ideal S2x4096x8x128 .fp8e4m3) i = (m ((c : Thread nD τ).loc main_arg7) : Vec Ideal S2x4096x8x128 .fp8e4m3) i := by
  unfold iblk
  refine congrArg (m ((c : Thread nD τ).loc main_arg7) : Vec Ideal S2x4096x8x128 .fp8e4m3) (funext fun (a : Fin 4) => Fin.ext ?_)
  match a with
  | 0 => show 0 * 2 + 1 * (i 0).val = (i 0).val; omega
  | 1 => show 0 * 4096 + 1 * (i 1).val = (i 1).val; omega
  | 2 => show 0 * 8 + 1 * (i 2).val = (i 2).val; omega
  | 3 => show 0 * 128 + 1 * (i 3).val = (i 3).val; omega

theorem whole3 : (cfg0.win 3).WholeAt p0 := by decide +kernel
theorem aft3 (j : S2x512x16x128.Idx) : ((dats m 0 c).after 3 p0 : S2x512x16x128.Idx → EReal) j = (xin m c).v0_0 j :=
  (congrFun (after0_3 m c p0) j).trans ((out3_eq (iblk m c 0 p0) (iblk m c 1 p0) (iblk m c 2 p0) j).trans (blk0 m c p0 j))
theorem arrAt3 (j : S2x512x16x128.Idx) : ((dats m 0 c).arrAt 3 cfg0.N : S2x512x16x128.Idx → EReal) j = (xin m c).v0_0 j := by
  refine Eq.trans ?_ (aft3 m c j)
  exact (dats m 0 c).arrAt_emb_eq_after_last 3 p0 whole3 j
theorem arr3 : (dats m 0 c).arrAt 3 cfg0.N = (xin m c).v0_0 := funext fun (j : S2x512x16x128.Idx) => arrAt3 m c j
theorem whole4 : (cfg0.win 4).WholeAt p0 := by decide +kernel
theorem aft4 (j : S2x4096x8x128.Idx) : ((dats m 0 c).after 4 p0 : S2x4096x8x128.Idx → EReal) j = (xin m c).v0_1 j :=
  (congrFun (after0_4 m c p0) j).trans ((out4_eq (iblk m c 0 p0) (iblk m c 1 p0) (iblk m c 2 p0) j).trans (blk1 m c p0 j))
theorem arrAt4 (j : S2x4096x8x128.Idx) : ((dats m 0 c).arrAt 4 cfg0.N : S2x4096x8x128.Idx → EReal) j = (xin m c).v0_1 j := by
  refine Eq.trans ?_ (aft4 m c j)
  exact (dats m 0 c).arrAt_emb_eq_after_last 4 p0 whole4 j
theorem arr4 : (dats m 0 c).arrAt 4 cfg0.N = (xin m c).v0_1 := funext fun (j : S2x4096x8x128.Idx) => arrAt4 m c j
theorem whole5 : (cfg0.win 5).WholeAt p0 := by decide +kernel
theorem aft5 (j : S2x4096x8x128.Idx) : ((dats m 0 c).after 5 p0 : S2x4096x8x128.Idx → EReal) j = (xin m c).v0_2 j :=
  (congrFun (after0_5 m c p0) j).trans ((out5_eq (iblk m c 0 p0) (iblk m c 1 p0) (iblk m c 2 p0) j).trans (blk2 m c p0 j))
theorem arrAt5 (j : S2x4096x8x128.Idx) : ((dats m 0 c).arrAt 5 cfg0.N : S2x4096x8x128.Idx → EReal) j = (xin m c).v0_2 j := by
  refine Eq.trans ?_ (aft5 m c j)
  exact (dats m 0 c).arrAt_emb_eq_after_last 5 p0 whole5 j
theorem arr5 : (dats m 0 c).arrAt 5 cfg0.N = (xin m c).v0_2 := funext fun (j : S2x4096x8x128.Idx) => arrAt5 m c j

/-- The contents the host operations start from. -/
def V1 : Valuation τ sig (Elt Ideal) := Pipeline.withArrays (cfgs 0).spec c (V0 m c) fun w => (dats m 0 c).arrAt w (cfgs 0).N
theorem st0 : V1 m c (Proc.devRef (τ := τ) .tc main_arg0) = (xin m c).arg0 :=
  (Pipeline.withArrays_of_ne _ c (V0 m c) _ main_arg0 (by exact (by decide : ∀ w, Pipeline.arrRef spec0 w ≠ main_arg0))).trans (V_main_arg0 m c)
theorem st1 : V1 m c (Proc.devRef (τ := τ) .tc main_arg1) = (xin m c).arg1 :=
  (Pipeline.withArrays_of_ne _ c (V0 m c) _ main_arg1 (by exact (by decide : ∀ w, Pipeline.arrRef spec0 w ≠ main_arg1))).trans (V_main_arg1 m c)
theorem st2 : V1 m c (Proc.devRef (τ := τ) .tc main_arg2) = (xin m c).arg2 :=
  (Pipeline.withArrays_of_ne _ c (V0 m c) _ main_arg2 (by exact (by decide : ∀ w, Pipeline.arrRef spec0 w ≠ main_arg2))).trans (V_main_arg2 m c)
theorem st3 : V1 m c (Proc.devRef (τ := τ) .tc main_arg3) = (xin m c).arg3 :=
  (Pipeline.withArrays_of_ne _ c (V0 m c) _ main_arg3 (by exact (by decide : ∀ w, Pipeline.arrRef spec0 w ≠ main_arg3))).trans (V_main_arg3 m c)
theorem st4 : V1 m c (Proc.devRef (τ := τ) .tc main_arg4) = (xin m c).arg4 :=
  (Pipeline.withArrays_of_ne _ c (V0 m c) _ main_arg4 (by exact (by decide : ∀ w, Pipeline.arrRef spec0 w ≠ main_arg4))).trans (V_main_arg4 m c)
theorem st6 : V1 m c (Proc.devRef (τ := τ) .tc main_arg6) = (xin m c).arg6 :=
  (Pipeline.withArrays_of_ne _ c (V0 m c) _ main_arg6 (by exact (by decide : ∀ w, Pipeline.arrRef spec0 w ≠ main_arg6))).trans (V_main_arg6 m c)
theorem st8 : V1 m c (Proc.devRef (τ := τ) .tc main_arg8) = (xin m c).arg8 :=
  (Pipeline.withArrays_of_ne _ c (V0 m c) _ main_arg8 (by exact (by decide : ∀ w, Pipeline.arrRef spec0 w ≠ main_arg8))).trans (V_main_arg8 m c)
theorem st9 : V1 m c (Proc.devRef (τ := τ) .tc main_arg9) = (xin m c).arg9 :=
  (Pipeline.withArrays_of_ne _ c (V0 m c) _ main_arg9 (by exact (by decide : ∀ w, Pipeline.arrRef spec0 w ≠ main_arg9))).trans (V_main_arg9 m c)
theorem st11 : V1 m c (Proc.devRef (τ := τ) .tc main_arg11) = (xin m c).arg11 :=
  (Pipeline.withArrays_of_ne _ c (V0 m c) _ main_arg11 (by exact (by decide : ∀ w, Pipeline.arrRef spec0 w ≠ main_arg11))).trans (V_main_arg11 m c)
theorem st12 : V1 m c (Proc.devRef (τ := τ) .tc main_arg12) = (xin m c).arg12 :=
  (Pipeline.withArrays_of_ne _ c (V0 m c) _ main_arg12 (by exact (by decide : ∀ w, Pipeline.arrRef spec0 w ≠ main_arg12))).trans (V_main_arg12 m c)
theorem st13 : V1 m c (Proc.devRef (τ := τ) .tc main_arg13) = (xin m c).arg13 :=
  (Pipeline.withArrays_of_ne _ c (V0 m c) _ main_arg13 (by exact (by decide : ∀ w, Pipeline.arrRef spec0 w ≠ main_arg13))).trans (V_main_arg13 m c)
theorem sv0 : V1 m c (Proc.devRef (τ := τ) .tc main_v0_0) = (xin m c).v0_0 :=
  (Pipeline.withArrays_arr spec0 winFacts0.arr_inj c (V0 m c) (fun w => (dats m 0 c).arrAt w (cfgs 0).N) 3).trans (arr3 m c)
theorem sv1 : V1 m c (Proc.devRef (τ := τ) .tc main_v0_1) = (xin m c).v0_1 :=
  (Pipeline.withArrays_arr spec0 winFacts0.arr_inj c (V0 m c) (fun w => (dats m 0 c).arrAt w (cfgs 0).N) 4).trans (arr4 m c)
theorem sv2 : V1 m c (Proc.devRef (τ := τ) .tc main_v0_2) = (xin m c).v0_2 :=
  (Pipeline.withArrays_arr spec0 winFacts0.arr_inj c (V0 m c) (fun w => (dats m 0 c).arrAt w (cfgs 0).N) 5).trans (arr5 m c)
theorem live_start : Live0 (xin m c) (V1 m c) :=
  ⟨sv0 m c, sv1 m c, sv2 m c, st0 m c, st1 m c, st2 m c, st3 m c, st4 m c, st6 m c, st8 m c, st9 m c, st11 m c, st12 m c, st13 m c⟩

/-- The reference ends with its result at the value named. -/
theorem run_R : θ_run defs (onTc (τ := τ) (main (F := Ideal))) ⟨m, fun _ => 0, ρ⟩ (fun r => ∀ c : Dev nD, r.2.mem ((c.tc : Thread nD τ).loc main_v97) = val_v97 (xin m c)) :=
  (θ_run defs _ _).mono (fun r h c => ((h c).2 main_v97 (Pipeline.mem_restRefs_of main_v97 (by decide) (by decide))).trans (live_all (xin m c) _ (live_start m c)).v97) (run_main m ρ)

end Cert.ReferenceIdeal.Hand

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Kernel.Frame
public import proofs.«01_k».proof.Proof.Kernel.Tables
public import proofs.«01_k».proof.Proof.KernelIdeal.Frame
public import proofs.«01_k».proof.Proof.KernelIdeal.Tables
public import proofs.«01_k».proof.Proof.TameOf
public import proofs.«01_k».proof.Proof.ReferenceIdeal.RefRun
public import Idealize.ShloMosaic.Lib.Bf16PairInverse

@[expose] public section

noncomputable section

namespace Cert.Proof

open Idealize.ShloMosaic Idealize.SL.Sem

/-- The printed kernel ends, its arguments as they were, every semaphore at zero. -/
theorem frame_kernel : Cert.quiescent_Kernel :=
  fun m g _ => Cert.Kernel.Gen.frame m g (Cert.Kernel.Gen.ok_all m)

/-- The same of the idealized kernel. -/
theorem frame_kernelIdeal : Cert.quiescent_KernelIdeal :=
  fun m g _ => Cert.KernelIdeal.Gen.frame m g (Cert.KernelIdeal.Gen.ok_all m)

/-- The same of the idealized reference. -/
theorem frame_referenceIdeal : Cert.quiescent_ReferenceIdeal :=
  fun m g _ => Cert.ReferenceIdeal.Gen.frame m g

/-- Every rewrite the idealization made is an instance of its rule. -/
theorem preserves : Cert.preserves_Kernel_KernelIdeal :=
  ⟨IdealRules.bf16_pair.bufferStatement _ _, IdealRules.bf16_pair.statement _ _, IdealRules.bf16_pair.selectZeroStatement _,
    IdealRules.bf16_pair.statement _ _, IdealRules.bf16_pair.statement _ _, IdealRules.bf16_pair.statement _ _,
    IdealRules.bf16_pair.statement _ _, IdealRules.named_const.statement Cert.KernelIdeal.κ _ _ _ _ rfl,
    IdealRules.bf16_pair.statement _ _, IdealRules.bf16_pair.statement _ _,
    IdealRules.named_const.statement Cert.KernelIdeal.κ _ _ _ _ rfl, IdealRules.named_const.statement Cert.KernelIdeal.κ _ _ _ _ rfl,
    IdealRules.named_const.statement Cert.KernelIdeal.κ _ _ _ _ rfl, IdealRules.named_const.statement Cert.KernelIdeal.κ _ _ _ _ rfl⟩

/-- Equal arguments are equal inputs. -/
theorem inputs_eq (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    Cert.ReferenceIdeal.Hand.xin m' c = Cert.Val.kin m c := by
  unfold Cert.ReferenceIdeal.Hand.xin Cert.Val.kin
  exact (iff_of_eq (Cert.ReferenceIdeal.Hand.RIn.mk.injEq ..)).2 ⟨h10, h5, h7, h0, h1, h2, h3, h4, h6, h8, h9, h11, h12, h13⟩

/-- The kernel's first result, named by the grid's accumulation. -/
theorem kernel_run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v12_0) = Cert.KernelIdeal.Gen.dqV m (Cert.KernelIdeal.Gen.ok_all m) c) :=
  (θ_run Cert.KernelIdeal.defs _ _).mono (fun r h c => funext fun i => Cert.KernelIdeal.Gen.arr13 m (Cert.KernelIdeal.Gen.ok_all m) c _ ((h.1 c).1 13) i)
    (Cert.KernelIdeal.Gen.run_V m (Cert.KernelIdeal.Gen.ok_all m) g)

/-- From equal arguments the idealized kernel and the idealized reference end with equal results. -/
theorem algebraic : Cert.algebraic_KernelIdeal_ReferenceIdeal_pre_tame (hPre_tame := Cert.Val.preFacts) := by
  intro m g m' g' hP hA
  have hx : ∀ c : Dev Cert.KernelIdeal.nD, Cert.ReferenceIdeal.Hand.val_v97 (Cert.ReferenceIdeal.Hand.xin m' c) = Cert.KernelIdeal.Gen.dqV m (Cert.KernelIdeal.Gen.ok_all m) c := by
    intro c
    obtain ⟨h0, h1, h2, h3, h4, h5, h6, h7, h8, h9, h10, h11, h12, h13⟩ := hA c
    rw [inputs_eq m m' c h0 h1 h2 h3 h4 h5 h6 h7 h8 h9 h10 h11 h12 h13]
    have T := Cert.Val.tame_of Cert.Val.preFacts m hP c
    funext i
    exact Cert.KernelIdeal.Gen.all_ix3 (P := fun i => Cert.ReferenceIdeal.Hand.val_v97 (Cert.Val.kin m c) i = Cert.KernelIdeal.Gen.dqV m (Cert.KernelIdeal.Gen.ok_all m) c i)
      (fun b n d => (Cert.Val.dq_eq m (Cert.KernelIdeal.Gen.ok_all m) c b T n d).symm) i
  refine ⟨fun c => Cert.KernelIdeal.Gen.dqV m (Cert.KernelIdeal.Gen.ok_all m) c, ?_, ?_⟩
  · exact (θ_run Cert.KernelIdeal.defs _ _).mono (fun r h c => ⟨h.1 c, h.2.1 c⟩) (θ_run_and (kernel_run m g) (Cert.KernelIdeal.Gen.frame m g (Cert.KernelIdeal.Gen.ok_all m)))
  · exact (θ_run Cert.ReferenceIdeal.defs _ _).mono (fun r h c => ⟨(h.1 c).trans (hx c), h.2 c⟩) (θ_run_and (Cert.ReferenceIdeal.Hand.run_R m' g') (Cert.ReferenceIdeal.Gen.unchanged m' g'))

theorem claim : Cert.Claim :=
  ⟨Cert.Kernel.Gen.facts, Cert.KernelIdeal.Gen.facts, Cert.ReferenceIdeal.Gen.facts, Cert.Val.preFacts, frame_kernel, frame_kernelIdeal,
    fun m g _ => Cert.KernelIdeal.Gen.frame m g (Cert.KernelIdeal.Gen.ok_all m), frame_referenceIdeal,
    fun m g _ => Cert.ReferenceIdeal.Gen.frame m g, preserves, algebraic⟩

end Cert.Proof

end
